-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxRefIdeal (m : (ℓ : Loc Cert.MixDxRefIdeal.nD Cert.MixDxRefIdeal.τ Cert.MixDxRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_Rw (m : (ℓ : Loc Cert.Rw.nD Cert.Rw.τ Cert.Rw.sig) → Buf (Elt Bits) ℓ) : Prop :=
  True

def Pre_RwIdeal (m : (ℓ : Loc Cert.RwIdeal.nD Cert.RwIdeal.τ Cert.RwIdeal.sig) → Buf (Elt Ideal) ℓ) : Prop :=
  True

def Pre_RwRefIdeal (m : (ℓ : Loc Cert.RwRefIdeal.nD Cert.RwRefIdeal.τ Cert.RwRefIdeal.sig) → Buf (Elt Ideal) ℓ) : Prop :=
  True

def Pre_RwDx (m : (ℓ : Loc Cert.RwDx.nD Cert.RwDx.τ Cert.RwDx.sig) → Buf (Elt Bits) ℓ) : Prop :=
  True

def Pre_RwDxIdeal (m : (ℓ : Loc Cert.RwDxIdeal.nD Cert.RwDxIdeal.τ Cert.RwDxIdeal.sig) → Buf (Elt Ideal) ℓ) : Prop :=
  True

def Pre_RwDxRefIdeal (m : (ℓ : Loc Cert.RwDxRefIdeal.nD Cert.RwDxRefIdeal.τ Cert.RwDxRefIdeal.sig) → Buf (Elt Ideal) ℓ) : Prop :=
  True

def Pre_RwDw (m : (ℓ : Loc Cert.RwDw.nD Cert.RwDw.τ Cert.RwDw.sig) → Buf (Elt Bits) ℓ) : Prop :=
  True

def Pre_RwDwIdeal (m : (ℓ : Loc Cert.RwDwIdeal.nD Cert.RwDwIdeal.τ Cert.RwDwIdeal.sig) → Buf (Elt Ideal) ℓ) : Prop :=
  True

def Pre_RwDwRefIdeal (m : (ℓ : Loc Cert.RwDwRefIdeal.nD Cert.RwDwRefIdeal.τ Cert.RwDwRefIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutRefIdeal (m : (ℓ : Loc Cert.AttOutRefIdeal.nD Cert.AttOutRefIdeal.τ Cert.AttOutRefIdeal.sig) → Buf (Elt Ideal) ℓ) : Prop :=
  True

def Pre_AttOutDx (m : (ℓ : Loc Cert.AttOutDx.nD Cert.AttOutDx.τ Cert.AttOutDx.sig) → Buf (Elt Bits) ℓ) : Prop :=
  True

def Pre_AttOutDxIdeal (m : (ℓ : Loc Cert.AttOutDxIdeal.nD Cert.AttOutDxIdeal.τ Cert.AttOutDxIdeal.sig) → Buf (Elt Ideal) ℓ) : Prop :=
  True

def Pre_AttOutDxRefIdeal (m : (ℓ : Loc Cert.AttOutDxRefIdeal.nD Cert.AttOutDxRefIdeal.τ Cert.AttOutDxRefIdeal.sig) → Buf (Elt Ideal) ℓ) : Prop :=
  True

def Pre_AttOutDw (m : (ℓ : Loc Cert.AttOutDw.nD Cert.AttOutDw.τ Cert.AttOutDw.sig) → Buf (Elt Bits) ℓ) : Prop :=
  True

def Pre_AttOutDwIdeal (m : (ℓ : Loc Cert.AttOutDwIdeal.nD Cert.AttOutDwIdeal.τ Cert.AttOutDwIdeal.sig) → Buf (Elt Ideal) ℓ) : Prop :=
  True

def Pre_AttOutDwRefIdeal (m : (ℓ : Loc Cert.AttOutDwRefIdeal.nD Cert.AttOutDwRefIdeal.τ Cert.AttOutDwRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRefIdeal (m : (ℓ : Loc Cert.GateDxRefIdeal.nD Cert.GateDxRefIdeal.τ Cert.GateDxRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_NormDx (m : (ℓ : Loc Cert.NormDx.nD Cert.NormDx.τ Cert.NormDx.sig) → Buf (Elt Bits) ℓ) : Prop :=
  True

def Pre_NormDxIdeal (m : (ℓ : Loc Cert.NormDxIdeal.nD Cert.NormDxIdeal.τ Cert.NormDxIdeal.sig) → Buf (Elt Ideal) ℓ) : Prop :=
  True

def Pre_NormDxRefIdeal (m : (ℓ : Loc Cert.NormDxRefIdeal.nD Cert.NormDxRefIdeal.τ Cert.NormDxRefIdeal.sig) → Buf (Elt Ideal) ℓ) : Prop :=
  True

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2RefIdeal (m : (ℓ : Loc Cert.Norm2RefIdeal.nD Cert.Norm2RefIdeal.τ Cert.Norm2RefIdeal.sig) → Buf (Elt Ideal) ℓ) : Prop :=
  True

def Pre_Norm2Dx (m : (ℓ : Loc Cert.Norm2Dx.nD Cert.Norm2Dx.τ Cert.Norm2Dx.sig) → Buf (Elt Bits) ℓ) : Prop :=
  True

def Pre_Norm2DxIdeal (m : (ℓ : Loc Cert.Norm2DxIdeal.nD Cert.Norm2DxIdeal.τ Cert.Norm2DxIdeal.sig) → Buf (Elt Ideal) ℓ) : Prop :=
  True

def Pre_Norm2DxRefIdeal (m : (ℓ : Loc Cert.Norm2DxRefIdeal.nD Cert.Norm2DxRefIdeal.τ Cert.Norm2DxRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamAtt (m : (ℓ : Loc Cert.AdamAtt.nD Cert.AdamAtt.τ Cert.AdamAtt.sig) → Buf (Elt Bits) ℓ) : Prop :=
  True

def Pre_AdamAttIdeal (m : (ℓ : Loc Cert.AdamAttIdeal.nD Cert.AdamAttIdeal.τ Cert.AdamAttIdeal.sig) → Buf (Elt Ideal) ℓ) : Prop :=
  True

def Pre_AdamAttRefIdeal (m : (ℓ : Loc Cert.AdamAttRefIdeal.nD Cert.AdamAttRefIdeal.τ Cert.AdamAttRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1))
      ∧ r.2.sem = fun _ => 0)

def quiescent_Rw [hRw : Cert.Rw.Facts] : Prop :=
  ∀ (m : (ℓ : Loc Cert.Rw.nD Cert.Rw.τ Cert.Rw.sig) → Buf (Elt Bits) ℓ) (g : Dev Cert.Rw.nD → PrngReg), Pre_Rw m →
    θ_run (Cert.Rw.defs (F := Bits)) (onTc (τ := Cert.Rw.τ) (Cert.Rw.main (F := Bits))) ⟨m, fun _ => 0, g⟩ (fun r => (∀ c : Dev Cert.Rw.nD,
      r.2.mem ((c.tc : Thread Cert.Rw.nD Cert.Rw.τ).loc Cert.Rw.main_arg0) = m ((c.tc : Thread Cert.Rw.nD Cert.Rw.τ).loc Cert.Rw.main_arg0)
      ∧ r.2.mem ((c.tc : Thread Cert.Rw.nD Cert.Rw.τ).loc Cert.Rw.main_arg1) = m ((c.tc : Thread Cert.Rw.nD Cert.Rw.τ).loc Cert.Rw.main_arg1))
      ∧ r.2.sem = fun _ => 0)

def quiescent_RwIdeal [hRwIdeal : Cert.RwIdeal.Facts] : Prop :=
  ∀ (m : (ℓ : Loc Cert.RwIdeal.nD Cert.RwIdeal.τ Cert.RwIdeal.sig) → Buf (Elt Ideal) ℓ) (g : Dev Cert.RwIdeal.nD → PrngReg), Pre_RwIdeal m →
    θ_run (Cert.RwIdeal.defs (F := Ideal)) (onTc (τ := Cert.RwIdeal.τ) (Cert.RwIdeal.main (F := Ideal))) ⟨m, fun _ => 0, g⟩ (fun r => (∀ c : Dev Cert.RwIdeal.nD,
      r.2.mem ((c.tc : Thread Cert.RwIdeal.nD Cert.RwIdeal.τ).loc Cert.RwIdeal.main_arg0) = m ((c.tc : Thread Cert.RwIdeal.nD Cert.RwIdeal.τ).loc Cert.RwIdeal.main_arg0)
      ∧ r.2.mem ((c.tc : Thread Cert.RwIdeal.nD Cert.RwIdeal.τ).loc Cert.RwIdeal.main_arg1) = m ((c.tc : Thread Cert.RwIdeal.nD Cert.RwIdeal.τ).loc Cert.RwIdeal.main_arg1))
      ∧ r.2.sem = fun _ => 0)

def quiescent_RwRefIdeal [hRwRefIdeal : Cert.RwRefIdeal.Facts] : Prop :=
  ∀ (m : (ℓ : Loc Cert.RwRefIdeal.nD Cert.RwRefIdeal.τ Cert.RwRefIdeal.sig) → Buf (Elt Ideal) ℓ) (g : Dev Cert.RwRefIdeal.nD → PrngReg), Pre_RwRefIdeal m →
    θ_run (Cert.RwRefIdeal.defs (F := Ideal)) (onTc (τ := Cert.RwRefIdeal.τ) (Cert.RwRefIdeal.main (F := Ideal))) ⟨m, fun _ => 0, g⟩ (fun r => (∀ c : Dev Cert.RwRefIdeal.nD,
      r.2.mem ((c.tc : Thread Cert.RwRefIdeal.nD Cert.RwRefIdeal.τ).loc Cert.RwRefIdeal.main_arg0) = m ((c.tc : Thread Cert.RwRefIdeal.nD Cert.RwRefIdeal.τ).loc Cert.RwRefIdeal.main_arg0)
      ∧ r.2.mem ((c.tc : Thread Cert.RwRefIdeal.nD Cert.RwRefIdeal.τ).loc Cert.RwRefIdeal.main_arg1) = m ((c.tc : Thread Cert.RwRefIdeal.nD Cert.RwRefIdeal.τ).loc Cert.RwRefIdeal.main_arg1))
      ∧ r.2.sem = fun _ => 0)

def quiescent_RwDx [hRwDx : Cert.RwDx.Facts] : Prop :=
  ∀ (m : (ℓ : Loc Cert.RwDx.nD Cert.RwDx.τ Cert.RwDx.sig) → Buf (Elt Bits) ℓ) (g : Dev Cert.RwDx.nD → PrngReg), Pre_RwDx m →
    θ_run (Cert.RwDx.defs (F := Bits)) (onTc (τ := Cert.RwDx.τ) (Cert.RwDx.main (F := Bits))) ⟨m, fun _ => 0, g⟩ (fun r => (∀ c : Dev Cert.RwDx.nD,
      r.2.mem ((c.tc : Thread Cert.RwDx.nD Cert.RwDx.τ).loc Cert.RwDx.main_arg0) = m ((c.tc : Thread Cert.RwDx.nD Cert.RwDx.τ).loc Cert.RwDx.main_arg0)
      ∧ r.2.mem ((c.tc : Thread Cert.RwDx.nD Cert.RwDx.τ).loc Cert.RwDx.main_arg1) = m ((c.tc : Thread Cert.RwDx.nD Cert.RwDx.τ).loc Cert.RwDx.main_arg1))
      ∧ r.2.sem = fun _ => 0)

def quiescent_RwDxIdeal [hRwDxIdeal : Cert.RwDxIdeal.Facts] : Prop :=
  ∀ (m : (ℓ : Loc Cert.RwDxIdeal.nD Cert.RwDxIdeal.τ Cert.RwDxIdeal.sig) → Buf (Elt Ideal) ℓ) (g : Dev Cert.RwDxIdeal.nD → PrngReg), Pre_RwDxIdeal m →
    θ_run (Cert.RwDxIdeal.defs (F := Ideal)) (onTc (τ := Cert.RwDxIdeal.τ) (Cert.RwDxIdeal.main (F := Ideal))) ⟨m, fun _ => 0, g⟩ (fun r => (∀ c : Dev Cert.RwDxIdeal.nD,
      r.2.mem ((c.tc : Thread Cert.RwDxIdeal.nD Cert.RwDxIdeal.τ).loc Cert.RwDxIdeal.main_arg0) = m ((c.tc : Thread Cert.RwDxIdeal.nD Cert.RwDxIdeal.τ).loc Cert.RwDxIdeal.main_arg0)
      ∧ r.2.mem ((c.tc : Thread Cert.RwDxIdeal.nD Cert.RwDxIdeal.τ).loc Cert.RwDxIdeal.main_arg1) = m ((c.tc : Thread Cert.RwDxIdeal.nD Cert.RwDxIdeal.τ).loc Cert.RwDxIdeal.main_arg1))
      ∧ r.2.sem = fun _ => 0)

def quiescent_RwDxRefIdeal [hRwDxRefIdeal : Cert.RwDxRefIdeal.Facts] : Prop :=
  ∀ (m : (ℓ : Loc Cert.RwDxRefIdeal.nD Cert.RwDxRefIdeal.τ Cert.RwDxRefIdeal.sig) → Buf (Elt Ideal) ℓ) (g : Dev Cert.RwDxRefIdeal.nD → PrngReg), Pre_RwDxRefIdeal m →
    θ_run (Cert.RwDxRefIdeal.defs (F := Ideal)) (onTc (τ := Cert.RwDxRefIdeal.τ) (Cert.RwDxRefIdeal.main (F := Ideal))) ⟨m, fun _ => 0, g⟩ (fun r => (∀ c : Dev Cert.RwDxRefIdeal.nD,
      r.2.mem ((c.tc : Thread Cert.RwDxRefIdeal.nD Cert.RwDxRefIdeal.τ).loc Cert.RwDxRefIdeal.main_arg0) = m ((c.tc : Thread Cert.RwDxRefIdeal.nD Cert.RwDxRefIdeal.τ).loc Cert.RwDxRefIdeal.main_arg0)
      ∧ r.2.mem ((c.tc : Thread Cert.RwDxRefIdeal.nD Cert.RwDxRefIdeal.τ).loc Cert.RwDxRefIdeal.main_arg1) = m ((c.tc : Thread Cert.RwDxRefIdeal.nD Cert.RwDxRefIdeal.τ).loc Cert.RwDxRefIdeal.main_arg1))
      ∧ r.2.sem = fun _ => 0)

def quiescent_RwDw [hRwDw : Cert.RwDw.Facts] : Prop :=
  ∀ (m : (ℓ : Loc Cert.RwDw.nD Cert.RwDw.τ Cert.RwDw.sig) → Buf (Elt Bits) ℓ) (g : Dev Cert.RwDw.nD → PrngReg), Pre_RwDw m →
    θ_run (Cert.RwDw.defs (F := Bits)) (onTc (τ := Cert.RwDw.τ) (Cert.RwDw.main (F := Bits))) ⟨m, fun _ => 0, g⟩ (fun r => (∀ c : Dev Cert.RwDw.nD,
      r.2.mem ((c.tc : Thread Cert.RwDw.nD Cert.RwDw.τ).loc Cert.RwDw.main_arg0) = m ((c.tc : Thread Cert.RwDw.nD Cert.RwDw.τ).loc Cert.RwDw.main_arg0)
      ∧ r.2.mem ((c.tc : Thread Cert.RwDw.nD Cert.RwDw.τ).loc Cert.RwDw.main_arg1) = m ((c.tc : Thread Cert.RwDw.nD Cert.RwDw.τ).loc Cert.RwDw.main_arg1))
      ∧ r.2.sem = fun _ => 0)

def quiescent_RwDwIdeal [hRwDwIdeal : Cert.RwDwIdeal.Facts] : Prop :=
  ∀ (m : (ℓ : Loc Cert.RwDwIdeal.nD Cert.RwDwIdeal.τ Cert.RwDwIdeal.sig) → Buf (Elt Ideal) ℓ) (g : Dev Cert.RwDwIdeal.nD → PrngReg), Pre_RwDwIdeal m →
    θ_run (Cert.RwDwIdeal.defs (F := Ideal)) (onTc (τ := Cert.RwDwIdeal.τ) (Cert.RwDwIdeal.main (F := Ideal))) ⟨m, fun _ => 0, g⟩ (fun r => (∀ c : Dev Cert.RwDwIdeal.nD,
      r.2.mem ((c.tc : Thread Cert.RwDwIdeal.nD Cert.RwDwIdeal.τ).loc Cert.RwDwIdeal.main_arg0) = m ((c.tc : Thread Cert.RwDwIdeal.nD Cert.RwDwIdeal.τ).loc Cert.RwDwIdeal.main_arg0)
      ∧ r.2.mem ((c.tc : Thread Cert.RwDwIdeal.nD Cert.RwDwIdeal.τ).loc Cert.RwDwIdeal.main_arg1) = m ((c.tc : Thread Cert.RwDwIdeal.nD Cert.RwDwIdeal.τ).loc Cert.RwDwIdeal.main_arg1))
      ∧ r.2.sem = fun _ => 0)

def quiescent_RwDwRefIdeal [hRwDwRefIdeal : Cert.RwDwRefIdeal.Facts] : Prop :=
  ∀ (m : (ℓ : Loc Cert.RwDwRefIdeal.nD Cert.RwDwRefIdeal.τ Cert.RwDwRefIdeal.sig) → Buf (Elt Ideal) ℓ) (g : Dev Cert.RwDwRefIdeal.nD → PrngReg), Pre_RwDwRefIdeal m →
    θ_run (Cert.RwDwRefIdeal.defs (F := Ideal)) (onTc (τ := Cert.RwDwRefIdeal.τ) (Cert.RwDwRefIdeal.main (F := Ideal))) ⟨m, fun _ => 0, g⟩ (fun r => (∀ c : Dev Cert.RwDwRefIdeal.nD,
      r.2.mem ((c.tc : Thread Cert.RwDwRefIdeal.nD Cert.RwDwRefIdeal.τ).loc Cert.RwDwRefIdeal.main_arg0) = m ((c.tc : Thread Cert.RwDwRefIdeal.nD Cert.RwDwRefIdeal.τ).loc Cert.RwDwRefIdeal.main_arg0)
      ∧ r.2.mem ((c.tc : Thread Cert.RwDwRefIdeal.nD Cert.RwDwRefIdeal.τ).loc Cert.RwDwRefIdeal.main_arg1) = m ((c.tc : Thread Cert.RwDwRefIdeal.nD Cert.RwDwRefIdeal.τ).loc Cert.RwDwRefIdeal.main_arg1))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1))
      ∧ r.2.sem = fun _ => 0)

def quiescent_AttOutRefIdeal [hAttOutRefIdeal : Cert.AttOutRefIdeal.Facts] : Prop :=
  ∀ (m : (ℓ : Loc Cert.AttOutRefIdeal.nD Cert.AttOutRefIdeal.τ Cert.AttOutRefIdeal.sig) → Buf (Elt Ideal) ℓ) (g : Dev Cert.AttOutRefIdeal.nD → PrngReg), Pre_AttOutRefIdeal m →
    θ_run (Cert.AttOutRefIdeal.defs (F := Ideal)) (onTc (τ := Cert.AttOutRefIdeal.τ) (Cert.AttOutRefIdeal.main (F := Ideal))) ⟨m, fun _ => 0, g⟩ (fun r => (∀ c : Dev Cert.AttOutRefIdeal.nD,
      r.2.mem ((c.tc : Thread Cert.AttOutRefIdeal.nD Cert.AttOutRefIdeal.τ).loc Cert.AttOutRefIdeal.main_arg0) = m ((c.tc : Thread Cert.AttOutRefIdeal.nD Cert.AttOutRefIdeal.τ).loc Cert.AttOutRefIdeal.main_arg0)
      ∧ r.2.mem ((c.tc : Thread Cert.AttOutRefIdeal.nD Cert.AttOutRefIdeal.τ).loc Cert.AttOutRefIdeal.main_arg1) = m ((c.tc : Thread Cert.AttOutRefIdeal.nD Cert.AttOutRefIdeal.τ).loc Cert.AttOutRefIdeal.main_arg1))
      ∧ r.2.sem = fun _ => 0)

def quiescent_AttOutDx [hAttOutDx : Cert.AttOutDx.Facts] : Prop :=
  ∀ (m : (ℓ : Loc Cert.AttOutDx.nD Cert.AttOutDx.τ Cert.AttOutDx.sig) → Buf (Elt Bits) ℓ) (g : Dev Cert.AttOutDx.nD → PrngReg), Pre_AttOutDx m →
    θ_run (Cert.AttOutDx.defs (F := Bits)) (onTc (τ := Cert.AttOutDx.τ) (Cert.AttOutDx.main (F := Bits))) ⟨m, fun _ => 0, g⟩ (fun r => (∀ c : Dev Cert.AttOutDx.nD,
      r.2.mem ((c.tc : Thread Cert.AttOutDx.nD Cert.AttOutDx.τ).loc Cert.AttOutDx.main_arg0) = m ((c.tc : Thread Cert.AttOutDx.nD Cert.AttOutDx.τ).loc Cert.AttOutDx.main_arg0)
      ∧ r.2.mem ((c.tc : Thread Cert.AttOutDx.nD Cert.AttOutDx.τ).loc Cert.AttOutDx.main_arg1) = m ((c.tc : Thread Cert.AttOutDx.nD Cert.AttOutDx.τ).loc Cert.AttOutDx.main_arg1))
      ∧ r.2.sem = fun _ => 0)

def quiescent_AttOutDxIdeal [hAttOutDxIdeal : Cert.AttOutDxIdeal.Facts] : Prop :=
  ∀ (m : (ℓ : Loc Cert.AttOutDxIdeal.nD Cert.AttOutDxIdeal.τ Cert.AttOutDxIdeal.sig) → Buf (Elt Ideal) ℓ) (g : Dev Cert.AttOutDxIdeal.nD → PrngReg), Pre_AttOutDxIdeal m →
    θ_run (Cert.AttOutDxIdeal.defs (F := Ideal)) (onTc (τ := Cert.AttOutDxIdeal.τ) (Cert.AttOutDxIdeal.main (F := Ideal))) ⟨m, fun _ => 0, g⟩ (fun r => (∀ c : Dev Cert.AttOutDxIdeal.nD,
      r.2.mem ((c.tc : Thread Cert.AttOutDxIdeal.nD Cert.AttOutDxIdeal.τ).loc Cert.AttOutDxIdeal.main_arg0) = m ((c.tc : Thread Cert.AttOutDxIdeal.nD Cert.AttOutDxIdeal.τ).loc Cert.AttOutDxIdeal.main_arg0)
      ∧ r.2.mem ((c.tc : Thread Cert.AttOutDxIdeal.nD Cert.AttOutDxIdeal.τ).loc Cert.AttOutDxIdeal.main_arg1) = m ((c.tc : Thread Cert.AttOutDxIdeal.nD Cert.AttOutDxIdeal.τ).loc Cert.AttOutDxIdeal.main_arg1))
      ∧ r.2.sem = fun _ => 0)

def quiescent_AttOutDxRefIdeal [hAttOutDxRefIdeal : Cert.AttOutDxRefIdeal.Facts] : Prop :=
  ∀ (m : (ℓ : Loc Cert.AttOutDxRefIdeal.nD Cert.AttOutDxRefIdeal.τ Cert.AttOutDxRefIdeal.sig) → Buf (Elt Ideal) ℓ) (g : Dev Cert.AttOutDxRefIdeal.nD → PrngReg), Pre_AttOutDxRefIdeal m →
    θ_run (Cert.AttOutDxRefIdeal.defs (F := Ideal)) (onTc (τ := Cert.AttOutDxRefIdeal.τ) (Cert.AttOutDxRefIdeal.main (F := Ideal))) ⟨m, fun _ => 0, g⟩ (fun r => (∀ c : Dev Cert.AttOutDxRefIdeal.nD,
      r.2.mem ((c.tc : Thread Cert.AttOutDxRefIdeal.nD Cert.AttOutDxRefIdeal.τ).loc Cert.AttOutDxRefIdeal.main_arg0) = m ((c.tc : Thread Cert.AttOutDxRefIdeal.nD Cert.AttOutDxRefIdeal.τ).loc Cert.AttOutDxRefIdeal.main_arg0)
      ∧ r.2.mem ((c.tc : Thread Cert.AttOutDxRefIdeal.nD Cert.AttOutDxRefIdeal.τ).loc Cert.AttOutDxRefIdeal.main_arg1) = m ((c.tc : Thread Cert.AttOutDxRefIdeal.nD Cert.AttOutDxRefIdeal.τ).loc Cert.AttOutDxRefIdeal.main_arg1))
      ∧ r.2.sem = fun _ => 0)

def quiescent_AttOutDw [hAttOutDw : Cert.AttOutDw.Facts] : Prop :=
  ∀ (m : (ℓ : Loc Cert.AttOutDw.nD Cert.AttOutDw.τ Cert.AttOutDw.sig) → Buf (Elt Bits) ℓ) (g : Dev Cert.AttOutDw.nD → PrngReg), Pre_AttOutDw m →
    θ_run (Cert.AttOutDw.defs (F := Bits)) (onTc (τ := Cert.AttOutDw.τ) (Cert.AttOutDw.main (F := Bits))) ⟨m, fun _ => 0, g⟩ (fun r => (∀ c : Dev Cert.AttOutDw.nD,
      r.2.mem ((c.tc : Thread Cert.AttOutDw.nD Cert.AttOutDw.τ).loc Cert.AttOutDw.main_arg0) = m ((c.tc : Thread Cert.AttOutDw.nD Cert.AttOutDw.τ).loc Cert.AttOutDw.main_arg0)
      ∧ r.2.mem ((c.tc : Thread Cert.AttOutDw.nD Cert.AttOutDw.τ).loc Cert.AttOutDw.main_arg1) = m ((c.tc : Thread Cert.AttOutDw.nD Cert.AttOutDw.τ).loc Cert.AttOutDw.main_arg1))
      ∧ r.2.sem = fun _ => 0)

def quiescent_AttOutDwIdeal [hAttOutDwIdeal : Cert.AttOutDwIdeal.Facts] : Prop :=
  ∀ (m : (ℓ : Loc Cert.AttOutDwIdeal.nD Cert.AttOutDwIdeal.τ Cert.AttOutDwIdeal.sig) → Buf (Elt Ideal) ℓ) (g : Dev Cert.AttOutDwIdeal.nD → PrngReg), Pre_AttOutDwIdeal m →
    θ_run (Cert.AttOutDwIdeal.defs (F := Ideal)) (onTc (τ := Cert.AttOutDwIdeal.τ) (Cert.AttOutDwIdeal.main (F := Ideal))) ⟨m, fun _ => 0, g⟩ (fun r => (∀ c : Dev Cert.AttOutDwIdeal.nD,
      r.2.mem ((c.tc : Thread Cert.AttOutDwIdeal.nD Cert.AttOutDwIdeal.τ).loc Cert.AttOutDwIdeal.main_arg0) = m ((c.tc : Thread Cert.AttOutDwIdeal.nD Cert.AttOutDwIdeal.τ).loc Cert.AttOutDwIdeal.main_arg0)
      ∧ r.2.mem ((c.tc : Thread Cert.AttOutDwIdeal.nD Cert.AttOutDwIdeal.τ).loc Cert.AttOutDwIdeal.main_arg1) = m ((c.tc : Thread Cert.AttOutDwIdeal.nD Cert.AttOutDwIdeal.τ).loc Cert.AttOutDwIdeal.main_arg1))
      ∧ r.2.sem = fun _ => 0)

def quiescent_AttOutDwRefIdeal [hAttOutDwRefIdeal : Cert.AttOutDwRefIdeal.Facts] : Prop :=
  ∀ (m : (ℓ : Loc Cert.AttOutDwRefIdeal.nD Cert.AttOutDwRefIdeal.τ Cert.AttOutDwRefIdeal.sig) → Buf (Elt Ideal) ℓ) (g : Dev Cert.AttOutDwRefIdeal.nD → PrngReg), Pre_AttOutDwRefIdeal m →
    θ_run (Cert.AttOutDwRefIdeal.defs (F := Ideal)) (onTc (τ := Cert.AttOutDwRefIdeal.τ) (Cert.AttOutDwRefIdeal.main (F := Ideal))) ⟨m, fun _ => 0, g⟩ (fun r => (∀ c : Dev Cert.AttOutDwRefIdeal.nD,
      r.2.mem ((c.tc : Thread Cert.AttOutDwRefIdeal.nD Cert.AttOutDwRefIdeal.τ).loc Cert.AttOutDwRefIdeal.main_arg0) = m ((c.tc : Thread Cert.AttOutDwRefIdeal.nD Cert.AttOutDwRefIdeal.τ).loc Cert.AttOutDwRefIdeal.main_arg0)
      ∧ r.2.mem ((c.tc : Thread Cert.AttOutDwRefIdeal.nD Cert.AttOutDwRefIdeal.τ).loc Cert.AttOutDwRefIdeal.main_arg1) = m ((c.tc : Thread Cert.AttOutDwRefIdeal.nD Cert.AttOutDwRefIdeal.τ).loc Cert.AttOutDwRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1)
      ∧ r.2.mem ((c.tc : Thread Cert.GateDx.nD Cert.GateDx.τ).loc Cert.GateDx.main_arg2) = m ((c.tc : Thread Cert.GateDx.nD Cert.GateDx.τ).loc Cert.GateDx.main_arg2)
      ∧ r.2.mem ((c.tc : Thread Cert.GateDx.nD Cert.GateDx.τ).loc Cert.GateDx.main_arg3) = m ((c.tc : Thread Cert.GateDx.nD Cert.GateDx.τ).loc Cert.GateDx.main_arg3)
      ∧ r.2.mem ((c.tc : Thread Cert.GateDx.nD Cert.GateDx.τ).loc Cert.GateDx.main_arg4) = m ((c.tc : Thread Cert.GateDx.nD Cert.GateDx.τ).loc Cert.GateDx.main_arg4)
      ∧ r.2.mem ((c.tc : Thread Cert.GateDx.nD Cert.GateDx.τ).loc Cert.GateDx.main_arg5) = m ((c.tc : Thread Cert.GateDx.nD Cert.GateDx.τ).loc Cert.GateDx.main_arg5))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
      ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2)
      ∧ r.2.mem ((c.tc : Thread Cert.GateDxIdeal.nD Cert.GateDxIdeal.τ).loc Cert.GateDxIdeal.main_arg3) = m ((c.tc : Thread Cert.GateDxIdeal.nD Cert.GateDxIdeal.τ).loc Cert.GateDxIdeal.main_arg3)
      ∧ r.2.mem ((c.tc : Thread Cert.GateDxIdeal.nD Cert.GateDxIdeal.τ).loc Cert.GateDxIdeal.main_arg4) = m ((c.tc : Thread Cert.GateDxIdeal.nD Cert.GateDxIdeal.τ).loc Cert.GateDxIdeal.main_arg4)
      ∧ r.2.mem ((c.tc : Thread Cert.GateDxIdeal.nD Cert.GateDxIdeal.τ).loc Cert.GateDxIdeal.main_arg5) = m ((c.tc : Thread Cert.GateDxIdeal.nD Cert.GateDxIdeal.τ).loc Cert.GateDxIdeal.main_arg5))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1)
      ∧ r.2.mem ((c.tc : Thread Cert.GateDxRefIdeal.nD Cert.GateDxRefIdeal.τ).loc Cert.GateDxRefIdeal.main_arg2) = m ((c.tc : Thread Cert.GateDxRefIdeal.nD Cert.GateDxRefIdeal.τ).loc Cert.GateDxRefIdeal.main_arg2)
      ∧ r.2.mem ((c.tc : Thread Cert.GateDxRefIdeal.nD Cert.GateDxRefIdeal.τ).loc Cert.GateDxRefIdeal.main_arg3) = m ((c.tc : Thread Cert.GateDxRefIdeal.nD Cert.GateDxRefIdeal.τ).loc Cert.GateDxRefIdeal.main_arg3)
      ∧ r.2.mem ((c.tc : Thread Cert.GateDxRefIdeal.nD Cert.GateDxRefIdeal.τ).loc Cert.GateDxRefIdeal.main_arg4) = m ((c.tc : Thread Cert.GateDxRefIdeal.nD Cert.GateDxRefIdeal.τ).loc Cert.GateDxRefIdeal.main_arg4)
      ∧ r.2.mem ((c.tc : Thread Cert.GateDxRefIdeal.nD Cert.GateDxRefIdeal.τ).loc Cert.GateDxRefIdeal.main_arg5) = m ((c.tc : Thread Cert.GateDxRefIdeal.nD Cert.GateDxRefIdeal.τ).loc Cert.GateDxRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1))
      ∧ r.2.sem = fun _ => 0)

def quiescent_NormDx [hNormDx : Cert.NormDx.Facts] : Prop :=
  ∀ (m : (ℓ : Loc Cert.NormDx.nD Cert.NormDx.τ Cert.NormDx.sig) → Buf (Elt Bits) ℓ) (g : Dev Cert.NormDx.nD → PrngReg), Pre_NormDx m →
    θ_run (Cert.NormDx.defs (F := Bits)) (onTc (τ := Cert.NormDx.τ) (Cert.NormDx.main (F := Bits))) ⟨m, fun _ => 0, g⟩ (fun r => (∀ c : Dev Cert.NormDx.nD,
      r.2.mem ((c.tc : Thread Cert.NormDx.nD Cert.NormDx.τ).loc Cert.NormDx.main_arg0) = m ((c.tc : Thread Cert.NormDx.nD Cert.NormDx.τ).loc Cert.NormDx.main_arg0)
      ∧ r.2.mem ((c.tc : Thread Cert.NormDx.nD Cert.NormDx.τ).loc Cert.NormDx.main_arg1) = m ((c.tc : Thread Cert.NormDx.nD Cert.NormDx.τ).loc Cert.NormDx.main_arg1)
      ∧ r.2.mem ((c.tc : Thread Cert.NormDx.nD Cert.NormDx.τ).loc Cert.NormDx.main_arg2) = m ((c.tc : Thread Cert.NormDx.nD Cert.NormDx.τ).loc Cert.NormDx.main_arg2)
      ∧ r.2.mem ((c.tc : Thread Cert.NormDx.nD Cert.NormDx.τ).loc Cert.NormDx.main_arg3) = m ((c.tc : Thread Cert.NormDx.nD Cert.NormDx.τ).loc Cert.NormDx.main_arg3)
      ∧ r.2.mem ((c.tc : Thread Cert.NormDx.nD Cert.NormDx.τ).loc Cert.NormDx.main_arg4) = m ((c.tc : Thread Cert.NormDx.nD Cert.NormDx.τ).loc Cert.NormDx.main_arg4))
      ∧ r.2.sem = fun _ => 0)

def quiescent_NormDxIdeal [hNormDxIdeal : Cert.NormDxIdeal.Facts] : Prop :=
  ∀ (m : (ℓ : Loc Cert.NormDxIdeal.nD Cert.NormDxIdeal.τ Cert.NormDxIdeal.sig) → Buf (Elt Ideal) ℓ) (g : Dev Cert.NormDxIdeal.nD → PrngReg), Pre_NormDxIdeal m →
    θ_run (Cert.NormDxIdeal.defs (F := Ideal)) (onTc (τ := Cert.NormDxIdeal.τ) (Cert.NormDxIdeal.main (F := Ideal))) ⟨m, fun _ => 0, g⟩ (fun r => (∀ c : Dev Cert.NormDxIdeal.nD,
      r.2.mem ((c.tc : Thread Cert.NormDxIdeal.nD Cert.NormDxIdeal.τ).loc Cert.NormDxIdeal.main_arg0) = m ((c.tc : Thread Cert.NormDxIdeal.nD Cert.NormDxIdeal.τ).loc Cert.NormDxIdeal.main_arg0)
      ∧ r.2.mem ((c.tc : Thread Cert.NormDxIdeal.nD Cert.NormDxIdeal.τ).loc Cert.NormDxIdeal.main_arg1) = m ((c.tc : Thread Cert.NormDxIdeal.nD Cert.NormDxIdeal.τ).loc Cert.NormDxIdeal.main_arg1)
      ∧ r.2.mem ((c.tc : Thread Cert.NormDxIdeal.nD Cert.NormDxIdeal.τ).loc Cert.NormDxIdeal.main_arg2) = m ((c.tc : Thread Cert.NormDxIdeal.nD Cert.NormDxIdeal.τ).loc Cert.NormDxIdeal.main_arg2)
      ∧ r.2.mem ((c.tc : Thread Cert.NormDxIdeal.nD Cert.NormDxIdeal.τ).loc Cert.NormDxIdeal.main_arg3) = m ((c.tc : Thread Cert.NormDxIdeal.nD Cert.NormDxIdeal.τ).loc Cert.NormDxIdeal.main_arg3)
      ∧ r.2.mem ((c.tc : Thread Cert.NormDxIdeal.nD Cert.NormDxIdeal.τ).loc Cert.NormDxIdeal.main_arg4) = m ((c.tc : Thread Cert.NormDxIdeal.nD Cert.NormDxIdeal.τ).loc Cert.NormDxIdeal.main_arg4))
      ∧ r.2.sem = fun _ => 0)

def quiescent_NormDxRefIdeal [hNormDxRefIdeal : Cert.NormDxRefIdeal.Facts] : Prop :=
  ∀ (m : (ℓ : Loc Cert.NormDxRefIdeal.nD Cert.NormDxRefIdeal.τ Cert.NormDxRefIdeal.sig) → Buf (Elt Ideal) ℓ) (g : Dev Cert.NormDxRefIdeal.nD → PrngReg), Pre_NormDxRefIdeal m →
    θ_run (Cert.NormDxRefIdeal.defs (F := Ideal)) (onTc (τ := Cert.NormDxRefIdeal.τ) (Cert.NormDxRefIdeal.main (F := Ideal))) ⟨m, fun _ => 0, g⟩ (fun r => (∀ c : Dev Cert.NormDxRefIdeal.nD,
      r.2.mem ((c.tc : Thread Cert.NormDxRefIdeal.nD Cert.NormDxRefIdeal.τ).loc Cert.NormDxRefIdeal.main_arg0) = m ((c.tc : Thread Cert.NormDxRefIdeal.nD Cert.NormDxRefIdeal.τ).loc Cert.NormDxRefIdeal.main_arg0)
      ∧ r.2.mem ((c.tc : Thread Cert.NormDxRefIdeal.nD Cert.NormDxRefIdeal.τ).loc Cert.NormDxRefIdeal.main_arg1) = m ((c.tc : Thread Cert.NormDxRefIdeal.nD Cert.NormDxRefIdeal.τ).loc Cert.NormDxRefIdeal.main_arg1)
      ∧ r.2.mem ((c.tc : Thread Cert.NormDxRefIdeal.nD Cert.NormDxRefIdeal.τ).loc Cert.NormDxRefIdeal.main_arg2) = m ((c.tc : Thread Cert.NormDxRefIdeal.nD Cert.NormDxRefIdeal.τ).loc Cert.NormDxRefIdeal.main_arg2)
      ∧ r.2.mem ((c.tc : Thread Cert.NormDxRefIdeal.nD Cert.NormDxRefIdeal.τ).loc Cert.NormDxRefIdeal.main_arg3) = m ((c.tc : Thread Cert.NormDxRefIdeal.nD Cert.NormDxRefIdeal.τ).loc Cert.NormDxRefIdeal.main_arg3)
      ∧ r.2.mem ((c.tc : Thread Cert.NormDxRefIdeal.nD Cert.NormDxRefIdeal.τ).loc Cert.NormDxRefIdeal.main_arg4) = m ((c.tc : Thread Cert.NormDxRefIdeal.nD Cert.NormDxRefIdeal.τ).loc Cert.NormDxRefIdeal.main_arg4))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3)
      ∧ r.2.mem ((c.tc : Thread Cert.Norm2.nD Cert.Norm2.τ).loc Cert.Norm2.main_arg4) = m ((c.tc : Thread Cert.Norm2.nD Cert.Norm2.τ).loc Cert.Norm2.main_arg4)
      ∧ r.2.mem ((c.tc : Thread Cert.Norm2.nD Cert.Norm2.τ).loc Cert.Norm2.main_arg5) = m ((c.tc : Thread Cert.Norm2.nD Cert.Norm2.τ).loc Cert.Norm2.main_arg5))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
      ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4)
      ∧ r.2.mem ((c.tc : Thread Cert.Norm2RefIdeal.nD Cert.Norm2RefIdeal.τ).loc Cert.Norm2RefIdeal.main_arg5) = m ((c.tc : Thread Cert.Norm2RefIdeal.nD Cert.Norm2RefIdeal.τ).loc Cert.Norm2RefIdeal.main_arg5))
      ∧ r.2.sem = fun _ => 0)

def quiescent_Norm2Dx [hNorm2Dx : Cert.Norm2Dx.Facts] : Prop :=
  ∀ (m : (ℓ : Loc Cert.Norm2Dx.nD Cert.Norm2Dx.τ Cert.Norm2Dx.sig) → Buf (Elt Bits) ℓ) (g : Dev Cert.Norm2Dx.nD → PrngReg), Pre_Norm2Dx m →
    θ_run (Cert.Norm2Dx.defs (F := Bits)) (onTc (τ := Cert.Norm2Dx.τ) (Cert.Norm2Dx.main (F := Bits))) ⟨m, fun _ => 0, g⟩ (fun r => (∀ c : Dev Cert.Norm2Dx.nD,
      r.2.mem ((c.tc : Thread Cert.Norm2Dx.nD Cert.Norm2Dx.τ).loc Cert.Norm2Dx.main_arg0) = m ((c.tc : Thread Cert.Norm2Dx.nD Cert.Norm2Dx.τ).loc Cert.Norm2Dx.main_arg0)
      ∧ r.2.mem ((c.tc : Thread Cert.Norm2Dx.nD Cert.Norm2Dx.τ).loc Cert.Norm2Dx.main_arg1) = m ((c.tc : Thread Cert.Norm2Dx.nD Cert.Norm2Dx.τ).loc Cert.Norm2Dx.main_arg1)
      ∧ r.2.mem ((c.tc : Thread Cert.Norm2Dx.nD Cert.Norm2Dx.τ).loc Cert.Norm2Dx.main_arg2) = m ((c.tc : Thread Cert.Norm2Dx.nD Cert.Norm2Dx.τ).loc Cert.Norm2Dx.main_arg2)
      ∧ r.2.mem ((c.tc : Thread Cert.Norm2Dx.nD Cert.Norm2Dx.τ).loc Cert.Norm2Dx.main_arg3) = m ((c.tc : Thread Cert.Norm2Dx.nD Cert.Norm2Dx.τ).loc Cert.Norm2Dx.main_arg3)
      ∧ r.2.mem ((c.tc : Thread Cert.Norm2Dx.nD Cert.Norm2Dx.τ).loc Cert.Norm2Dx.main_arg4) = m ((c.tc : Thread Cert.Norm2Dx.nD Cert.Norm2Dx.τ).loc Cert.Norm2Dx.main_arg4)
      ∧ r.2.mem ((c.tc : Thread Cert.Norm2Dx.nD Cert.Norm2Dx.τ).loc Cert.Norm2Dx.main_arg5) = m ((c.tc : Thread Cert.Norm2Dx.nD Cert.Norm2Dx.τ).loc Cert.Norm2Dx.main_arg5)
      ∧ r.2.mem ((c.tc : Thread Cert.Norm2Dx.nD Cert.Norm2Dx.τ).loc Cert.Norm2Dx.main_arg6) = m ((c.tc : Thread Cert.Norm2Dx.nD Cert.Norm2Dx.τ).loc Cert.Norm2Dx.main_arg6))
      ∧ r.2.sem = fun _ => 0)

def quiescent_Norm2DxIdeal [hNorm2DxIdeal : Cert.Norm2DxIdeal.Facts] : Prop :=
  ∀ (m : (ℓ : Loc Cert.Norm2DxIdeal.nD Cert.Norm2DxIdeal.τ Cert.Norm2DxIdeal.sig) → Buf (Elt Ideal) ℓ) (g : Dev Cert.Norm2DxIdeal.nD → PrngReg), Pre_Norm2DxIdeal m →
    θ_run (Cert.Norm2DxIdeal.defs (F := Ideal)) (onTc (τ := Cert.Norm2DxIdeal.τ) (Cert.Norm2DxIdeal.main (F := Ideal))) ⟨m, fun _ => 0, g⟩ (fun r => (∀ c : Dev Cert.Norm2DxIdeal.nD,
      r.2.mem ((c.tc : Thread Cert.Norm2DxIdeal.nD Cert.Norm2DxIdeal.τ).loc Cert.Norm2DxIdeal.main_arg0) = m ((c.tc : Thread Cert.Norm2DxIdeal.nD Cert.Norm2DxIdeal.τ).loc Cert.Norm2DxIdeal.main_arg0)
      ∧ r.2.mem ((c.tc : Thread Cert.Norm2DxIdeal.nD Cert.Norm2DxIdeal.τ).loc Cert.Norm2DxIdeal.main_arg1) = m ((c.tc : Thread Cert.Norm2DxIdeal.nD Cert.Norm2DxIdeal.τ).loc Cert.Norm2DxIdeal.main_arg1)
      ∧ r.2.mem ((c.tc : Thread Cert.Norm2DxIdeal.nD Cert.Norm2DxIdeal.τ).loc Cert.Norm2DxIdeal.main_arg2) = m ((c.tc : Thread Cert.Norm2DxIdeal.nD Cert.Norm2DxIdeal.τ).loc Cert.Norm2DxIdeal.main_arg2)
      ∧ r.2.mem ((c.tc : Thread Cert.Norm2DxIdeal.nD Cert.Norm2DxIdeal.τ).loc Cert.Norm2DxIdeal.main_arg3) = m ((c.tc : Thread Cert.Norm2DxIdeal.nD Cert.Norm2DxIdeal.τ).loc Cert.Norm2DxIdeal.main_arg3)
      ∧ r.2.mem ((c.tc : Thread Cert.Norm2DxIdeal.nD Cert.Norm2DxIdeal.τ).loc Cert.Norm2DxIdeal.main_arg4) = m ((c.tc : Thread Cert.Norm2DxIdeal.nD Cert.Norm2DxIdeal.τ).loc Cert.Norm2DxIdeal.main_arg4)
      ∧ r.2.mem ((c.tc : Thread Cert.Norm2DxIdeal.nD Cert.Norm2DxIdeal.τ).loc Cert.Norm2DxIdeal.main_arg5) = m ((c.tc : Thread Cert.Norm2DxIdeal.nD Cert.Norm2DxIdeal.τ).loc Cert.Norm2DxIdeal.main_arg5)
      ∧ r.2.mem ((c.tc : Thread Cert.Norm2DxIdeal.nD Cert.Norm2DxIdeal.τ).loc Cert.Norm2DxIdeal.main_arg6) = m ((c.tc : Thread Cert.Norm2DxIdeal.nD Cert.Norm2DxIdeal.τ).loc Cert.Norm2DxIdeal.main_arg6))
      ∧ r.2.sem = fun _ => 0)

def quiescent_Norm2DxRefIdeal [hNorm2DxRefIdeal : Cert.Norm2DxRefIdeal.Facts] : Prop :=
  ∀ (m : (ℓ : Loc Cert.Norm2DxRefIdeal.nD Cert.Norm2DxRefIdeal.τ Cert.Norm2DxRefIdeal.sig) → Buf (Elt Ideal) ℓ) (g : Dev Cert.Norm2DxRefIdeal.nD → PrngReg), Pre_Norm2DxRefIdeal m →
    θ_run (Cert.Norm2DxRefIdeal.defs (F := Ideal)) (onTc (τ := Cert.Norm2DxRefIdeal.τ) (Cert.Norm2DxRefIdeal.main (F := Ideal))) ⟨m, fun _ => 0, g⟩ (fun r => (∀ c : Dev Cert.Norm2DxRefIdeal.nD,
      r.2.mem ((c.tc : Thread Cert.Norm2DxRefIdeal.nD Cert.Norm2DxRefIdeal.τ).loc Cert.Norm2DxRefIdeal.main_arg0) = m ((c.tc : Thread Cert.Norm2DxRefIdeal.nD Cert.Norm2DxRefIdeal.τ).loc Cert.Norm2DxRefIdeal.main_arg0)
      ∧ r.2.mem ((c.tc : Thread Cert.Norm2DxRefIdeal.nD Cert.Norm2DxRefIdeal.τ).loc Cert.Norm2DxRefIdeal.main_arg1) = m ((c.tc : Thread Cert.Norm2DxRefIdeal.nD Cert.Norm2DxRefIdeal.τ).loc Cert.Norm2DxRefIdeal.main_arg1)
      ∧ r.2.mem ((c.tc : Thread Cert.Norm2DxRefIdeal.nD Cert.Norm2DxRefIdeal.τ).loc Cert.Norm2DxRefIdeal.main_arg2) = m ((c.tc : Thread Cert.Norm2DxRefIdeal.nD Cert.Norm2DxRefIdeal.τ).loc Cert.Norm2DxRefIdeal.main_arg2)
      ∧ r.2.mem ((c.tc : Thread Cert.Norm2DxRefIdeal.nD Cert.Norm2DxRefIdeal.τ).loc Cert.Norm2DxRefIdeal.main_arg3) = m ((c.tc : Thread Cert.Norm2DxRefIdeal.nD Cert.Norm2DxRefIdeal.τ).loc Cert.Norm2DxRefIdeal.main_arg3)
      ∧ r.2.mem ((c.tc : Thread Cert.Norm2DxRefIdeal.nD Cert.Norm2DxRefIdeal.τ).loc Cert.Norm2DxRefIdeal.main_arg4) = m ((c.tc : Thread Cert.Norm2DxRefIdeal.nD Cert.Norm2DxRefIdeal.τ).loc Cert.Norm2DxRefIdeal.main_arg4)
      ∧ r.2.mem ((c.tc : Thread Cert.Norm2DxRefIdeal.nD Cert.Norm2DxRefIdeal.τ).loc Cert.Norm2DxRefIdeal.main_arg5) = m ((c.tc : Thread Cert.Norm2DxRefIdeal.nD Cert.Norm2DxRefIdeal.τ).loc Cert.Norm2DxRefIdeal.main_arg5)
      ∧ r.2.mem ((c.tc : Thread Cert.Norm2DxRefIdeal.nD Cert.Norm2DxRefIdeal.τ).loc Cert.Norm2DxRefIdeal.main_arg6) = m ((c.tc : Thread Cert.Norm2DxRefIdeal.nD Cert.Norm2DxRefIdeal.τ).loc Cert.Norm2DxRefIdeal.main_arg6))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamAtt [hAdamAtt : Cert.AdamAtt.Facts] : Prop :=
  ∀ (m : (ℓ : Loc Cert.AdamAtt.nD Cert.AdamAtt.τ Cert.AdamAtt.sig) → Buf (Elt Bits) ℓ) (g : Dev Cert.AdamAtt.nD → PrngReg), Pre_AdamAtt m →
    θ_run (Cert.AdamAtt.defs (F := Bits)) (onTc (τ := Cert.AdamAtt.τ) (Cert.AdamAtt.main (F := Bits))) ⟨m, fun _ => 0, g⟩ (fun r => (∀ c : Dev Cert.AdamAtt.nD,
      r.2.mem ((c.tc : Thread Cert.AdamAtt.nD Cert.AdamAtt.τ).loc Cert.AdamAtt.main_arg0) = m ((c.tc : Thread Cert.AdamAtt.nD Cert.AdamAtt.τ).loc Cert.AdamAtt.main_arg0)
      ∧ r.2.mem ((c.tc : Thread Cert.AdamAtt.nD Cert.AdamAtt.τ).loc Cert.AdamAtt.main_arg1) = m ((c.tc : Thread Cert.AdamAtt.nD Cert.AdamAtt.τ).loc Cert.AdamAtt.main_arg1)
      ∧ r.2.mem ((c.tc : Thread Cert.AdamAtt.nD Cert.AdamAtt.τ).loc Cert.AdamAtt.main_arg2) = m ((c.tc : Thread Cert.AdamAtt.nD Cert.AdamAtt.τ).loc Cert.AdamAtt.main_arg2)
      ∧ r.2.mem ((c.tc : Thread Cert.AdamAtt.nD Cert.AdamAtt.τ).loc Cert.AdamAtt.main_arg3) = m ((c.tc : Thread Cert.AdamAtt.nD Cert.AdamAtt.τ).loc Cert.AdamAtt.main_arg3))
      ∧ r.2.sem = fun _ => 0)

def quiescent_AdamAttIdeal [hAdamAttIdeal : Cert.AdamAttIdeal.Facts] : Prop :=
  ∀ (m : (ℓ : Loc Cert.AdamAttIdeal.nD Cert.AdamAttIdeal.τ Cert.AdamAttIdeal.sig) → Buf (Elt Ideal) ℓ) (g : Dev Cert.AdamAttIdeal.nD → PrngReg), Pre_AdamAttIdeal m →
    θ_run (Cert.AdamAttIdeal.defs (F := Ideal)) (onTc (τ := Cert.AdamAttIdeal.τ) (Cert.AdamAttIdeal.main (F := Ideal))) ⟨m, fun _ => 0, g⟩ (fun r => (∀ c : Dev Cert.AdamAttIdeal.nD,
      r.2.mem ((c.tc : Thread Cert.AdamAttIdeal.nD Cert.AdamAttIdeal.τ).loc Cert.AdamAttIdeal.main_arg0) = m ((c.tc : Thread Cert.AdamAttIdeal.nD Cert.AdamAttIdeal.τ).loc Cert.AdamAttIdeal.main_arg0)
      ∧ r.2.mem ((c.tc : Thread Cert.AdamAttIdeal.nD Cert.AdamAttIdeal.τ).loc Cert.AdamAttIdeal.main_arg1) = m ((c.tc : Thread Cert.AdamAttIdeal.nD Cert.AdamAttIdeal.τ).loc Cert.AdamAttIdeal.main_arg1)
      ∧ r.2.mem ((c.tc : Thread Cert.AdamAttIdeal.nD Cert.AdamAttIdeal.τ).loc Cert.AdamAttIdeal.main_arg2) = m ((c.tc : Thread Cert.AdamAttIdeal.nD Cert.AdamAttIdeal.τ).loc Cert.AdamAttIdeal.main_arg2)
      ∧ r.2.mem ((c.tc : Thread Cert.AdamAttIdeal.nD Cert.AdamAttIdeal.τ).loc Cert.AdamAttIdeal.main_arg3) = m ((c.tc : Thread Cert.AdamAttIdeal.nD Cert.AdamAttIdeal.τ).loc Cert.AdamAttIdeal.main_arg3))
      ∧ r.2.sem = fun _ => 0)

def quiescent_AdamAttRefIdeal [hAdamAttRefIdeal : Cert.AdamAttRefIdeal.Facts] : Prop :=
  ∀ (m : (ℓ : Loc Cert.AdamAttRefIdeal.nD Cert.AdamAttRefIdeal.τ Cert.AdamAttRefIdeal.sig) → Buf (Elt Ideal) ℓ) (g : Dev Cert.AdamAttRefIdeal.nD → PrngReg), Pre_AdamAttRefIdeal m →
    θ_run (Cert.AdamAttRefIdeal.defs (F := Ideal)) (onTc (τ := Cert.AdamAttRefIdeal.τ) (Cert.AdamAttRefIdeal.main (F := Ideal))) ⟨m, fun _ => 0, g⟩ (fun r => (∀ c : Dev Cert.AdamAttRefIdeal.nD,
      r.2.mem ((c.tc : Thread Cert.AdamAttRefIdeal.nD Cert.AdamAttRefIdeal.τ).loc Cert.AdamAttRefIdeal.main_arg0) = m ((c.tc : Thread Cert.AdamAttRefIdeal.nD Cert.AdamAttRefIdeal.τ).loc Cert.AdamAttRefIdeal.main_arg0)
      ∧ r.2.mem ((c.tc : Thread Cert.AdamAttRefIdeal.nD Cert.AdamAttRefIdeal.τ).loc Cert.AdamAttRefIdeal.main_arg1) = m ((c.tc : Thread Cert.AdamAttRefIdeal.nD Cert.AdamAttRefIdeal.τ).loc Cert.AdamAttRefIdeal.main_arg1)
      ∧ r.2.mem ((c.tc : Thread Cert.AdamAttRefIdeal.nD Cert.AdamAttRefIdeal.τ).loc Cert.AdamAttRefIdeal.main_arg2) = m ((c.tc : Thread Cert.AdamAttRefIdeal.nD Cert.AdamAttRefIdeal.τ).loc Cert.AdamAttRefIdeal.main_arg2)
      ∧ r.2.mem ((c.tc : Thread Cert.AdamAttRefIdeal.nD Cert.AdamAttRefIdeal.τ).loc Cert.AdamAttRefIdeal.main_arg3) = m ((c.tc : Thread Cert.AdamAttRefIdeal.nD Cert.AdamAttRefIdeal.τ).loc Cert.AdamAttRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def preserves_Kernel_KernelIdeal : Prop :=
  IdealRules.named_const.Statement Cert.KernelIdeal.κ "mask" .f32 0xF149F2CA#32 ⊥

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v5) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v7) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v5) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v7) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v2) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_MixDx_MixDxIdeal : Prop :=
  True

def algebraic_MixDxIdeal_MixDxRefIdeal [hMixDxIdeal : Cert.MixDxIdeal.Facts] [hMixDxRefIdeal : Cert.MixDxRefIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)) →
    ∃ (v0 : (c : Dev Cert.MixDxIdeal.nD) → Buf (Elt Ideal) ((c.tc : Thread Cert.MixDxIdeal.nD Cert.MixDxIdeal.τ).loc Cert.MixDxIdeal.main_v0)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v0) = v0 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v4) = v0 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v0)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v6) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1))

def preserves_Rw_RwIdeal : Prop :=
  True

def algebraic_RwIdeal_RwRefIdeal [hRwIdeal : Cert.RwIdeal.Facts] [hRwRefIdeal : Cert.RwRefIdeal.Facts] : Prop :=
  ∀ (m : (ℓ : Loc Cert.RwIdeal.nD Cert.RwIdeal.τ Cert.RwIdeal.sig) → Buf (Elt Ideal) ℓ) (g : Dev Cert.RwIdeal.nD → PrngReg)
    (m' : (ℓ : Loc Cert.RwRefIdeal.nD Cert.RwRefIdeal.τ Cert.RwRefIdeal.sig) → Buf (Elt Ideal) ℓ) (g' : Dev Cert.RwRefIdeal.nD → PrngReg), Pre_RwIdeal m →
    (∀ c : Dev Cert.RwIdeal.nD,
      m' ((c.tc : Thread Cert.RwRefIdeal.nD Cert.RwRefIdeal.τ).loc Cert.RwRefIdeal.main_arg0) = m ((c.tc : Thread Cert.RwIdeal.nD Cert.RwIdeal.τ).loc Cert.RwIdeal.main_arg0)
      ∧ m' ((c.tc : Thread Cert.RwRefIdeal.nD Cert.RwRefIdeal.τ).loc Cert.RwRefIdeal.main_arg1) = m ((c.tc : Thread Cert.RwIdeal.nD Cert.RwIdeal.τ).loc Cert.RwIdeal.main_arg1)) →
    ∃ (v0 : (c : Dev Cert.RwIdeal.nD) → Buf (Elt Ideal) ((c.tc : Thread Cert.RwIdeal.nD Cert.RwIdeal.τ).loc Cert.RwIdeal.main_v0)),
      θ_run (Cert.RwIdeal.defs (F := Ideal)) (onTc (τ := Cert.RwIdeal.τ) (Cert.RwIdeal.main (F := Ideal))) ⟨m, fun _ => 0, g⟩ (fun r => ∀ c : Dev Cert.RwIdeal.nD,
          r.2.mem ((c.tc : Thread Cert.RwIdeal.nD Cert.RwIdeal.τ).loc Cert.RwIdeal.main_v0) = v0 c
          ∧ r.2.mem ((c.tc : Thread Cert.RwIdeal.nD Cert.RwIdeal.τ).loc Cert.RwIdeal.main_arg0) = m ((c.tc : Thread Cert.RwIdeal.nD Cert.RwIdeal.τ).loc Cert.RwIdeal.main_arg0)
          ∧ r.2.mem ((c.tc : Thread Cert.RwIdeal.nD Cert.RwIdeal.τ).loc Cert.RwIdeal.main_arg1) = m ((c.tc : Thread Cert.RwIdeal.nD Cert.RwIdeal.τ).loc Cert.RwIdeal.main_arg1))
      ∧ θ_run (Cert.RwRefIdeal.defs (F := Ideal)) (onTc (τ := Cert.RwRefIdeal.τ) (Cert.RwRefIdeal.main (F := Ideal))) ⟨m', fun _ => 0, g'⟩ (fun r => ∀ c : Dev Cert.RwRefIdeal.nD,
          r.2.mem ((c.tc : Thread Cert.RwRefIdeal.nD Cert.RwRefIdeal.τ).loc Cert.RwRefIdeal.main_v2) = v0 c
          ∧ r.2.mem ((c.tc : Thread Cert.RwRefIdeal.nD Cert.RwRefIdeal.τ).loc Cert.RwRefIdeal.main_arg0) = m' ((c.tc : Thread Cert.RwRefIdeal.nD Cert.RwRefIdeal.τ).loc Cert.RwRefIdeal.main_arg0)
          ∧ r.2.mem ((c.tc : Thread Cert.RwRefIdeal.nD Cert.RwRefIdeal.τ).loc Cert.RwRefIdeal.main_arg1) = m' ((c.tc : Thread Cert.RwRefIdeal.nD Cert.RwRefIdeal.τ).loc Cert.RwRefIdeal.main_arg1))

def preserves_RwDx_RwDxIdeal : Prop :=
  True

def algebraic_RwDxIdeal_RwDxRefIdeal [hRwDxIdeal : Cert.RwDxIdeal.Facts] [hRwDxRefIdeal : Cert.RwDxRefIdeal.Facts] : Prop :=
  ∀ (m : (ℓ : Loc Cert.RwDxIdeal.nD Cert.RwDxIdeal.τ Cert.RwDxIdeal.sig) → Buf (Elt Ideal) ℓ) (g : Dev Cert.RwDxIdeal.nD → PrngReg)
    (m' : (ℓ : Loc Cert.RwDxRefIdeal.nD Cert.RwDxRefIdeal.τ Cert.RwDxRefIdeal.sig) → Buf (Elt Ideal) ℓ) (g' : Dev Cert.RwDxRefIdeal.nD → PrngReg), Pre_RwDxIdeal m →
    (∀ c : Dev Cert.RwDxIdeal.nD,
      m' ((c.tc : Thread Cert.RwDxRefIdeal.nD Cert.RwDxRefIdeal.τ).loc Cert.RwDxRefIdeal.main_arg0) = m ((c.tc : Thread Cert.RwDxIdeal.nD Cert.RwDxIdeal.τ).loc Cert.RwDxIdeal.main_arg0)
      ∧ m' ((c.tc : Thread Cert.RwDxRefIdeal.nD Cert.RwDxRefIdeal.τ).loc Cert.RwDxRefIdeal.main_arg1) = m ((c.tc : Thread Cert.RwDxIdeal.nD Cert.RwDxIdeal.τ).loc Cert.RwDxIdeal.main_arg1)) →
    ∃ (v0 : (c : Dev Cert.RwDxIdeal.nD) → Buf (Elt Ideal) ((c.tc : Thread Cert.RwDxIdeal.nD Cert.RwDxIdeal.τ).loc Cert.RwDxIdeal.main_v0)),
      θ_run (Cert.RwDxIdeal.defs (F := Ideal)) (onTc (τ := Cert.RwDxIdeal.τ) (Cert.RwDxIdeal.main (F := Ideal))) ⟨m, fun _ => 0, g⟩ (fun r => ∀ c : Dev Cert.RwDxIdeal.nD,
          r.2.mem ((c.tc : Thread Cert.RwDxIdeal.nD Cert.RwDxIdeal.τ).loc Cert.RwDxIdeal.main_v0) = v0 c
          ∧ r.2.mem ((c.tc : Thread Cert.RwDxIdeal.nD Cert.RwDxIdeal.τ).loc Cert.RwDxIdeal.main_arg0) = m ((c.tc : Thread Cert.RwDxIdeal.nD Cert.RwDxIdeal.τ).loc Cert.RwDxIdeal.main_arg0)
          ∧ r.2.mem ((c.tc : Thread Cert.RwDxIdeal.nD Cert.RwDxIdeal.τ).loc Cert.RwDxIdeal.main_arg1) = m ((c.tc : Thread Cert.RwDxIdeal.nD Cert.RwDxIdeal.τ).loc Cert.RwDxIdeal.main_arg1))
      ∧ θ_run (Cert.RwDxRefIdeal.defs (F := Ideal)) (onTc (τ := Cert.RwDxRefIdeal.τ) (Cert.RwDxRefIdeal.main (F := Ideal))) ⟨m', fun _ => 0, g'⟩ (fun r => ∀ c : Dev Cert.RwDxRefIdeal.nD,
          r.2.mem ((c.tc : Thread Cert.RwDxRefIdeal.nD Cert.RwDxRefIdeal.τ).loc Cert.RwDxRefIdeal.main_v4) = v0 c
          ∧ r.2.mem ((c.tc : Thread Cert.RwDxRefIdeal.nD Cert.RwDxRefIdeal.τ).loc Cert.RwDxRefIdeal.main_arg0) = m' ((c.tc : Thread Cert.RwDxRefIdeal.nD Cert.RwDxRefIdeal.τ).loc Cert.RwDxRefIdeal.main_arg0)
          ∧ r.2.mem ((c.tc : Thread Cert.RwDxRefIdeal.nD Cert.RwDxRefIdeal.τ).loc Cert.RwDxRefIdeal.main_arg1) = m' ((c.tc : Thread Cert.RwDxRefIdeal.nD Cert.RwDxRefIdeal.τ).loc Cert.RwDxRefIdeal.main_arg1))

def preserves_RwDw_RwDwIdeal : Prop :=
  True

def algebraic_RwDwIdeal_RwDwRefIdeal [hRwDwIdeal : Cert.RwDwIdeal.Facts] [hRwDwRefIdeal : Cert.RwDwRefIdeal.Facts] : Prop :=
  ∀ (m : (ℓ : Loc Cert.RwDwIdeal.nD Cert.RwDwIdeal.τ Cert.RwDwIdeal.sig) → Buf (Elt Ideal) ℓ) (g : Dev Cert.RwDwIdeal.nD → PrngReg)
    (m' : (ℓ : Loc Cert.RwDwRefIdeal.nD Cert.RwDwRefIdeal.τ Cert.RwDwRefIdeal.sig) → Buf (Elt Ideal) ℓ) (g' : Dev Cert.RwDwRefIdeal.nD → PrngReg), Pre_RwDwIdeal m →
    (∀ c : Dev Cert.RwDwIdeal.nD,
      m' ((c.tc : Thread Cert.RwDwRefIdeal.nD Cert.RwDwRefIdeal.τ).loc Cert.RwDwRefIdeal.main_arg0) = m ((c.tc : Thread Cert.RwDwIdeal.nD Cert.RwDwIdeal.τ).loc Cert.RwDwIdeal.main_arg0)
      ∧ m' ((c.tc : Thread Cert.RwDwRefIdeal.nD Cert.RwDwRefIdeal.τ).loc Cert.RwDwRefIdeal.main_arg1) = m ((c.tc : Thread Cert.RwDwIdeal.nD Cert.RwDwIdeal.τ).loc Cert.RwDwIdeal.main_arg1)) →
    ∃ (v0 : (c : Dev Cert.RwDwIdeal.nD) → Buf (Elt Ideal) ((c.tc : Thread Cert.RwDwIdeal.nD Cert.RwDwIdeal.τ).loc Cert.RwDwIdeal.main_v0)),
      θ_run (Cert.RwDwIdeal.defs (F := Ideal)) (onTc (τ := Cert.RwDwIdeal.τ) (Cert.RwDwIdeal.main (F := Ideal))) ⟨m, fun _ => 0, g⟩ (fun r => ∀ c : Dev Cert.RwDwIdeal.nD,
          r.2.mem ((c.tc : Thread Cert.RwDwIdeal.nD Cert.RwDwIdeal.τ).loc Cert.RwDwIdeal.main_v0) = v0 c
          ∧ r.2.mem ((c.tc : Thread Cert.RwDwIdeal.nD Cert.RwDwIdeal.τ).loc Cert.RwDwIdeal.main_arg0) = m ((c.tc : Thread Cert.RwDwIdeal.nD Cert.RwDwIdeal.τ).loc Cert.RwDwIdeal.main_arg0)
          ∧ r.2.mem ((c.tc : Thread Cert.RwDwIdeal.nD Cert.RwDwIdeal.τ).loc Cert.RwDwIdeal.main_arg1) = m ((c.tc : Thread Cert.RwDwIdeal.nD Cert.RwDwIdeal.τ).loc Cert.RwDwIdeal.main_arg1))
      ∧ θ_run (Cert.RwDwRefIdeal.defs (F := Ideal)) (onTc (τ := Cert.RwDwRefIdeal.τ) (Cert.RwDwRefIdeal.main (F := Ideal))) ⟨m', fun _ => 0, g'⟩ (fun r => ∀ c : Dev Cert.RwDwRefIdeal.nD,
          r.2.mem ((c.tc : Thread Cert.RwDwRefIdeal.nD Cert.RwDwRefIdeal.τ).loc Cert.RwDwRefIdeal.main_v6) = v0 c
          ∧ r.2.mem ((c.tc : Thread Cert.RwDwRefIdeal.nD Cert.RwDwRefIdeal.τ).loc Cert.RwDwRefIdeal.main_arg0) = m' ((c.tc : Thread Cert.RwDwRefIdeal.nD Cert.RwDwRefIdeal.τ).loc Cert.RwDwRefIdeal.main_arg0)
          ∧ r.2.mem ((c.tc : Thread Cert.RwDwRefIdeal.nD Cert.RwDwRefIdeal.τ).loc Cert.RwDwRefIdeal.main_arg1) = m' ((c.tc : Thread Cert.RwDwRefIdeal.nD Cert.RwDwRefIdeal.τ).loc Cert.RwDwRefIdeal.main_arg1))

def preserves_AttOut_AttOutIdeal : Prop :=
  True

def algebraic_AttOutIdeal_AttOutRefIdeal [hAttOutIdeal : Cert.AttOutIdeal.Facts] [hAttOutRefIdeal : Cert.AttOutRefIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutRefIdeal.nD Cert.AttOutRefIdeal.τ Cert.AttOutRefIdeal.sig) → Buf (Elt Ideal) ℓ) (g' : Dev Cert.AttOutRefIdeal.nD → PrngReg), Pre_AttOutIdeal m →
    (∀ c : Dev Cert.AttOutIdeal.nD,
      m' ((c.tc : Thread Cert.AttOutRefIdeal.nD Cert.AttOutRefIdeal.τ).loc Cert.AttOutRefIdeal.main_arg0) = m ((c.tc : Thread Cert.AttOutIdeal.nD Cert.AttOutIdeal.τ).loc Cert.AttOutIdeal.main_arg0)
      ∧ m' ((c.tc : Thread Cert.AttOutRefIdeal.nD Cert.AttOutRefIdeal.τ).loc Cert.AttOutRefIdeal.main_arg1) = m ((c.tc : Thread Cert.AttOutIdeal.nD Cert.AttOutIdeal.τ).loc Cert.AttOutIdeal.main_arg1)) →
    ∃ (v0 : (c : Dev Cert.AttOutIdeal.nD) → Buf (Elt Ideal) ((c.tc : Thread Cert.AttOutIdeal.nD Cert.AttOutIdeal.τ).loc Cert.AttOutIdeal.main_v0)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v0) = v0 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1))
      ∧ θ_run (Cert.AttOutRefIdeal.defs (F := Ideal)) (onTc (τ := Cert.AttOutRefIdeal.τ) (Cert.AttOutRefIdeal.main (F := Ideal))) ⟨m', fun _ => 0, g'⟩ (fun r => ∀ c : Dev Cert.AttOutRefIdeal.nD,
          r.2.mem ((c.tc : Thread Cert.AttOutRefIdeal.nD Cert.AttOutRefIdeal.τ).loc Cert.AttOutRefIdeal.main_v2) = v0 c
          ∧ r.2.mem ((c.tc : Thread Cert.AttOutRefIdeal.nD Cert.AttOutRefIdeal.τ).loc Cert.AttOutRefIdeal.main_arg0) = m' ((c.tc : Thread Cert.AttOutRefIdeal.nD Cert.AttOutRefIdeal.τ).loc Cert.AttOutRefIdeal.main_arg0)
          ∧ r.2.mem ((c.tc : Thread Cert.AttOutRefIdeal.nD Cert.AttOutRefIdeal.τ).loc Cert.AttOutRefIdeal.main_arg1) = m' ((c.tc : Thread Cert.AttOutRefIdeal.nD Cert.AttOutRefIdeal.τ).loc Cert.AttOutRefIdeal.main_arg1))

def preserves_AttOutDx_AttOutDxIdeal : Prop :=
  True

def algebraic_AttOutDxIdeal_AttOutDxRefIdeal [hAttOutDxIdeal : Cert.AttOutDxIdeal.Facts] [hAttOutDxRefIdeal : Cert.AttOutDxRefIdeal.Facts] : Prop :=
  ∀ (m : (ℓ : Loc Cert.AttOutDxIdeal.nD Cert.AttOutDxIdeal.τ Cert.AttOutDxIdeal.sig) → Buf (Elt Ideal) ℓ) (g : Dev Cert.AttOutDxIdeal.nD → PrngReg)
    (m' : (ℓ : Loc Cert.AttOutDxRefIdeal.nD Cert.AttOutDxRefIdeal.τ Cert.AttOutDxRefIdeal.sig) → Buf (Elt Ideal) ℓ) (g' : Dev Cert.AttOutDxRefIdeal.nD → PrngReg), Pre_AttOutDxIdeal m →
    (∀ c : Dev Cert.AttOutDxIdeal.nD,
      m' ((c.tc : Thread Cert.AttOutDxRefIdeal.nD Cert.AttOutDxRefIdeal.τ).loc Cert.AttOutDxRefIdeal.main_arg0) = m ((c.tc : Thread Cert.AttOutDxIdeal.nD Cert.AttOutDxIdeal.τ).loc Cert.AttOutDxIdeal.main_arg0)
      ∧ m' ((c.tc : Thread Cert.AttOutDxRefIdeal.nD Cert.AttOutDxRefIdeal.τ).loc Cert.AttOutDxRefIdeal.main_arg1) = m ((c.tc : Thread Cert.AttOutDxIdeal.nD Cert.AttOutDxIdeal.τ).loc Cert.AttOutDxIdeal.main_arg1)) →
    ∃ (v0 : (c : Dev Cert.AttOutDxIdeal.nD) → Buf (Elt Ideal) ((c.tc : Thread Cert.AttOutDxIdeal.nD Cert.AttOutDxIdeal.τ).loc Cert.AttOutDxIdeal.main_v0)),
      θ_run (Cert.AttOutDxIdeal.defs (F := Ideal)) (onTc (τ := Cert.AttOutDxIdeal.τ) (Cert.AttOutDxIdeal.main (F := Ideal))) ⟨m, fun _ => 0, g⟩ (fun r => ∀ c : Dev Cert.AttOutDxIdeal.nD,
          r.2.mem ((c.tc : Thread Cert.AttOutDxIdeal.nD Cert.AttOutDxIdeal.τ).loc Cert.AttOutDxIdeal.main_v0) = v0 c
          ∧ r.2.mem ((c.tc : Thread Cert.AttOutDxIdeal.nD Cert.AttOutDxIdeal.τ).loc Cert.AttOutDxIdeal.main_arg0) = m ((c.tc : Thread Cert.AttOutDxIdeal.nD Cert.AttOutDxIdeal.τ).loc Cert.AttOutDxIdeal.main_arg0)
          ∧ r.2.mem ((c.tc : Thread Cert.AttOutDxIdeal.nD Cert.AttOutDxIdeal.τ).loc Cert.AttOutDxIdeal.main_arg1) = m ((c.tc : Thread Cert.AttOutDxIdeal.nD Cert.AttOutDxIdeal.τ).loc Cert.AttOutDxIdeal.main_arg1))
      ∧ θ_run (Cert.AttOutDxRefIdeal.defs (F := Ideal)) (onTc (τ := Cert.AttOutDxRefIdeal.τ) (Cert.AttOutDxRefIdeal.main (F := Ideal))) ⟨m', fun _ => 0, g'⟩ (fun r => ∀ c : Dev Cert.AttOutDxRefIdeal.nD,
          r.2.mem ((c.tc : Thread Cert.AttOutDxRefIdeal.nD Cert.AttOutDxRefIdeal.τ).loc Cert.AttOutDxRefIdeal.main_v4) = v0 c
          ∧ r.2.mem ((c.tc : Thread Cert.AttOutDxRefIdeal.nD Cert.AttOutDxRefIdeal.τ).loc Cert.AttOutDxRefIdeal.main_arg0) = m' ((c.tc : Thread Cert.AttOutDxRefIdeal.nD Cert.AttOutDxRefIdeal.τ).loc Cert.AttOutDxRefIdeal.main_arg0)
          ∧ r.2.mem ((c.tc : Thread Cert.AttOutDxRefIdeal.nD Cert.AttOutDxRefIdeal.τ).loc Cert.AttOutDxRefIdeal.main_arg1) = m' ((c.tc : Thread Cert.AttOutDxRefIdeal.nD Cert.AttOutDxRefIdeal.τ).loc Cert.AttOutDxRefIdeal.main_arg1))

def preserves_AttOutDw_AttOutDwIdeal : Prop :=
  True

def algebraic_AttOutDwIdeal_AttOutDwRefIdeal [hAttOutDwIdeal : Cert.AttOutDwIdeal.Facts] [hAttOutDwRefIdeal : Cert.AttOutDwRefIdeal.Facts] : Prop :=
  ∀ (m : (ℓ : Loc Cert.AttOutDwIdeal.nD Cert.AttOutDwIdeal.τ Cert.AttOutDwIdeal.sig) → Buf (Elt Ideal) ℓ) (g : Dev Cert.AttOutDwIdeal.nD → PrngReg)
    (m' : (ℓ : Loc Cert.AttOutDwRefIdeal.nD Cert.AttOutDwRefIdeal.τ Cert.AttOutDwRefIdeal.sig) → Buf (Elt Ideal) ℓ) (g' : Dev Cert.AttOutDwRefIdeal.nD → PrngReg), Pre_AttOutDwIdeal m →
    (∀ c : Dev Cert.AttOutDwIdeal.nD,
      m' ((c.tc : Thread Cert.AttOutDwRefIdeal.nD Cert.AttOutDwRefIdeal.τ).loc Cert.AttOutDwRefIdeal.main_arg0) = m ((c.tc : Thread Cert.AttOutDwIdeal.nD Cert.AttOutDwIdeal.τ).loc Cert.AttOutDwIdeal.main_arg0)
      ∧ m' ((c.tc : Thread Cert.AttOutDwRefIdeal.nD Cert.AttOutDwRefIdeal.τ).loc Cert.AttOutDwRefIdeal.main_arg1) = m ((c.tc : Thread Cert.AttOutDwIdeal.nD Cert.AttOutDwIdeal.τ).loc Cert.AttOutDwIdeal.main_arg1)) →
    ∃ (v0 : (c : Dev Cert.AttOutDwIdeal.nD) → Buf (Elt Ideal) ((c.tc : Thread Cert.AttOutDwIdeal.nD Cert.AttOutDwIdeal.τ).loc Cert.AttOutDwIdeal.main_v0)),
      θ_run (Cert.AttOutDwIdeal.defs (F := Ideal)) (onTc (τ := Cert.AttOutDwIdeal.τ) (Cert.AttOutDwIdeal.main (F := Ideal))) ⟨m, fun _ => 0, g⟩ (fun r => ∀ c : Dev Cert.AttOutDwIdeal.nD,
          r.2.mem ((c.tc : Thread Cert.AttOutDwIdeal.nD Cert.AttOutDwIdeal.τ).loc Cert.AttOutDwIdeal.main_v0) = v0 c
          ∧ r.2.mem ((c.tc : Thread Cert.AttOutDwIdeal.nD Cert.AttOutDwIdeal.τ).loc Cert.AttOutDwIdeal.main_arg0) = m ((c.tc : Thread Cert.AttOutDwIdeal.nD Cert.AttOutDwIdeal.τ).loc Cert.AttOutDwIdeal.main_arg0)
          ∧ r.2.mem ((c.tc : Thread Cert.AttOutDwIdeal.nD Cert.AttOutDwIdeal.τ).loc Cert.AttOutDwIdeal.main_arg1) = m ((c.tc : Thread Cert.AttOutDwIdeal.nD Cert.AttOutDwIdeal.τ).loc Cert.AttOutDwIdeal.main_arg1))
      ∧ θ_run (Cert.AttOutDwRefIdeal.defs (F := Ideal)) (onTc (τ := Cert.AttOutDwRefIdeal.τ) (Cert.AttOutDwRefIdeal.main (F := Ideal))) ⟨m', fun _ => 0, g'⟩ (fun r => ∀ c : Dev Cert.AttOutDwRefIdeal.nD,
          r.2.mem ((c.tc : Thread Cert.AttOutDwRefIdeal.nD Cert.AttOutDwRefIdeal.τ).loc Cert.AttOutDwRefIdeal.main_v6) = v0 c
          ∧ r.2.mem ((c.tc : Thread Cert.AttOutDwRefIdeal.nD Cert.AttOutDwRefIdeal.τ).loc Cert.AttOutDwRefIdeal.main_arg0) = m' ((c.tc : Thread Cert.AttOutDwRefIdeal.nD Cert.AttOutDwRefIdeal.τ).loc Cert.AttOutDwRefIdeal.main_arg0)
          ∧ r.2.mem ((c.tc : Thread Cert.AttOutDwRefIdeal.nD Cert.AttOutDwRefIdeal.τ).loc Cert.AttOutDwRefIdeal.main_arg1) = m' ((c.tc : Thread Cert.AttOutDwRefIdeal.nD Cert.AttOutDwRefIdeal.τ).loc Cert.AttOutDwRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v21) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_GateDx_GateDxIdeal : Prop :=
  True

def algebraic_GateDxIdeal_GateDxRefIdeal [hGateDxIdeal : Cert.GateDxIdeal.Facts] [hGateDxRefIdeal : Cert.GateDxRefIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)
      ∧ m' ((c.tc : Thread Cert.GateDxRefIdeal.nD Cert.GateDxRefIdeal.τ).loc Cert.GateDxRefIdeal.main_arg2) = m ((c.tc : Thread Cert.GateDxIdeal.nD Cert.GateDxIdeal.τ).loc Cert.GateDxIdeal.main_arg2)
      ∧ m' ((c.tc : Thread Cert.GateDxRefIdeal.nD Cert.GateDxRefIdeal.τ).loc Cert.GateDxRefIdeal.main_arg3) = m ((c.tc : Thread Cert.GateDxIdeal.nD Cert.GateDxIdeal.τ).loc Cert.GateDxIdeal.main_arg3)
      ∧ m' ((c.tc : Thread Cert.GateDxRefIdeal.nD Cert.GateDxRefIdeal.τ).loc Cert.GateDxRefIdeal.main_arg4) = m ((c.tc : Thread Cert.GateDxIdeal.nD Cert.GateDxIdeal.τ).loc Cert.GateDxIdeal.main_arg4)
      ∧ m' ((c.tc : Thread Cert.GateDxRefIdeal.nD Cert.GateDxRefIdeal.τ).loc Cert.GateDxRefIdeal.main_arg5) = m ((c.tc : Thread Cert.GateDxIdeal.nD Cert.GateDxIdeal.τ).loc Cert.GateDxIdeal.main_arg5)) →
    ∃ (v0 : (c : Dev Cert.GateDxIdeal.nD) → Buf (Elt Ideal) ((c.tc : Thread Cert.GateDxIdeal.nD Cert.GateDxIdeal.τ).loc Cert.GateDxIdeal.main_v0_0)) (v1 : (c : Dev Cert.GateDxIdeal.nD) → Buf (Elt Ideal) ((c.tc : Thread Cert.GateDxIdeal.nD Cert.GateDxIdeal.τ).loc Cert.GateDxIdeal.main_v0_1)) (v2 : (c : Dev Cert.GateDxIdeal.nD) → Buf (Elt Ideal) ((c.tc : Thread Cert.GateDxIdeal.nD Cert.GateDxIdeal.τ).loc Cert.GateDxIdeal.main_v0_2)) (v3 : (c : Dev Cert.GateDxIdeal.nD) → Buf (Elt Ideal) ((c.tc : Thread Cert.GateDxIdeal.nD Cert.GateDxIdeal.τ).loc Cert.GateDxIdeal.main_v0_3)) (v4 : (c : Dev Cert.GateDxIdeal.nD) → Buf (Elt Ideal) ((c.tc : Thread Cert.GateDxIdeal.nD Cert.GateDxIdeal.τ).loc Cert.GateDxIdeal.main_v0_4)) (v5 : (c : Dev Cert.GateDxIdeal.nD) → Buf (Elt Ideal) ((c.tc : Thread Cert.GateDxIdeal.nD Cert.GateDxIdeal.τ).loc Cert.GateDxIdeal.main_v0_5)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0_0) = v0 c
          ∧ r.2.mem ((c.tc : Thread Cert.GateDxIdeal.nD Cert.GateDxIdeal.τ).loc Cert.GateDxIdeal.main_v0_1) = v1 c
          ∧ r.2.mem ((c.tc : Thread Cert.GateDxIdeal.nD Cert.GateDxIdeal.τ).loc Cert.GateDxIdeal.main_v0_2) = v2 c
          ∧ r.2.mem ((c.tc : Thread Cert.GateDxIdeal.nD Cert.GateDxIdeal.τ).loc Cert.GateDxIdeal.main_v0_3) = v3 c
          ∧ r.2.mem ((c.tc : Thread Cert.GateDxIdeal.nD Cert.GateDxIdeal.τ).loc Cert.GateDxIdeal.main_v0_4) = v4 c
          ∧ r.2.mem ((c.tc : Thread Cert.GateDxIdeal.nD Cert.GateDxIdeal.τ).loc Cert.GateDxIdeal.main_v0_5) = v5 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1)
          ∧ r.2.mem ((c.tc : Thread Cert.GateDxIdeal.nD Cert.GateDxIdeal.τ).loc Cert.GateDxIdeal.main_arg2) = m ((c.tc : Thread Cert.GateDxIdeal.nD Cert.GateDxIdeal.τ).loc Cert.GateDxIdeal.main_arg2)
          ∧ r.2.mem ((c.tc : Thread Cert.GateDxIdeal.nD Cert.GateDxIdeal.τ).loc Cert.GateDxIdeal.main_arg3) = m ((c.tc : Thread Cert.GateDxIdeal.nD Cert.GateDxIdeal.τ).loc Cert.GateDxIdeal.main_arg3)
          ∧ r.2.mem ((c.tc : Thread Cert.GateDxIdeal.nD Cert.GateDxIdeal.τ).loc Cert.GateDxIdeal.main_arg4) = m ((c.tc : Thread Cert.GateDxIdeal.nD Cert.GateDxIdeal.τ).loc Cert.GateDxIdeal.main_arg4)
          ∧ r.2.mem ((c.tc : Thread Cert.GateDxIdeal.nD Cert.GateDxIdeal.τ).loc Cert.GateDxIdeal.main_arg5) = m ((c.tc : Thread Cert.GateDxIdeal.nD Cert.GateDxIdeal.τ).loc Cert.GateDxIdeal.main_arg5))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v39) = v0 c
          ∧ r.2.mem ((c.tc : Thread Cert.GateDxRefIdeal.nD Cert.GateDxRefIdeal.τ).loc Cert.GateDxRefIdeal.main_v40) = v1 c
          ∧ r.2.mem ((c.tc : Thread Cert.GateDxRefIdeal.nD Cert.GateDxRefIdeal.τ).loc Cert.GateDxRefIdeal.main_v41) = v2 c
          ∧ r.2.mem ((c.tc : Thread Cert.GateDxRefIdeal.nD Cert.GateDxRefIdeal.τ).loc Cert.GateDxRefIdeal.main_v42) = v3 c
          ∧ r.2.mem ((c.tc : Thread Cert.GateDxRefIdeal.nD Cert.GateDxRefIdeal.τ).loc Cert.GateDxRefIdeal.main_v38) = v4 c
          ∧ r.2.mem ((c.tc : Thread Cert.GateDxRefIdeal.nD Cert.GateDxRefIdeal.τ).loc Cert.GateDxRefIdeal.main_v35) = v5 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1)
          ∧ r.2.mem ((c.tc : Thread Cert.GateDxRefIdeal.nD Cert.GateDxRefIdeal.τ).loc Cert.GateDxRefIdeal.main_arg2) = m' ((c.tc : Thread Cert.GateDxRefIdeal.nD Cert.GateDxRefIdeal.τ).loc Cert.GateDxRefIdeal.main_arg2)
          ∧ r.2.mem ((c.tc : Thread Cert.GateDxRefIdeal.nD Cert.GateDxRefIdeal.τ).loc Cert.GateDxRefIdeal.main_arg3) = m' ((c.tc : Thread Cert.GateDxRefIdeal.nD Cert.GateDxRefIdeal.τ).loc Cert.GateDxRefIdeal.main_arg3)
          ∧ r.2.mem ((c.tc : Thread Cert.GateDxRefIdeal.nD Cert.GateDxRefIdeal.τ).loc Cert.GateDxRefIdeal.main_arg4) = m' ((c.tc : Thread Cert.GateDxRefIdeal.nD Cert.GateDxRefIdeal.τ).loc Cert.GateDxRefIdeal.main_arg4)
          ∧ r.2.mem ((c.tc : Thread Cert.GateDxRefIdeal.nD Cert.GateDxRefIdeal.τ).loc Cert.GateDxRefIdeal.main_arg5) = m' ((c.tc : Thread Cert.GateDxRefIdeal.nD Cert.GateDxRefIdeal.τ).loc Cert.GateDxRefIdeal.main_arg5))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v18) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v1)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v1) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v3) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v0) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1))

def preserves_NormDx_NormDxIdeal : Prop :=
  True

def algebraic_NormDxIdeal_NormDxRefIdeal [hNormDxIdeal : Cert.NormDxIdeal.Facts] [hNormDxRefIdeal : Cert.NormDxRefIdeal.Facts] : Prop :=
  ∀ (m : (ℓ : Loc Cert.NormDxIdeal.nD Cert.NormDxIdeal.τ Cert.NormDxIdeal.sig) → Buf (Elt Ideal) ℓ) (g : Dev Cert.NormDxIdeal.nD → PrngReg)
    (m' : (ℓ : Loc Cert.NormDxRefIdeal.nD Cert.NormDxRefIdeal.τ Cert.NormDxRefIdeal.sig) → Buf (Elt Ideal) ℓ) (g' : Dev Cert.NormDxRefIdeal.nD → PrngReg), Pre_NormDxIdeal m →
    (∀ c : Dev Cert.NormDxIdeal.nD,
      m' ((c.tc : Thread Cert.NormDxRefIdeal.nD Cert.NormDxRefIdeal.τ).loc Cert.NormDxRefIdeal.main_arg0) = m ((c.tc : Thread Cert.NormDxIdeal.nD Cert.NormDxIdeal.τ).loc Cert.NormDxIdeal.main_arg0)
      ∧ m' ((c.tc : Thread Cert.NormDxRefIdeal.nD Cert.NormDxRefIdeal.τ).loc Cert.NormDxRefIdeal.main_arg1) = m ((c.tc : Thread Cert.NormDxIdeal.nD Cert.NormDxIdeal.τ).loc Cert.NormDxIdeal.main_arg1)
      ∧ m' ((c.tc : Thread Cert.NormDxRefIdeal.nD Cert.NormDxRefIdeal.τ).loc Cert.NormDxRefIdeal.main_arg2) = m ((c.tc : Thread Cert.NormDxIdeal.nD Cert.NormDxIdeal.τ).loc Cert.NormDxIdeal.main_arg2)
      ∧ m' ((c.tc : Thread Cert.NormDxRefIdeal.nD Cert.NormDxRefIdeal.τ).loc Cert.NormDxRefIdeal.main_arg3) = m ((c.tc : Thread Cert.NormDxIdeal.nD Cert.NormDxIdeal.τ).loc Cert.NormDxIdeal.main_arg3)
      ∧ m' ((c.tc : Thread Cert.NormDxRefIdeal.nD Cert.NormDxRefIdeal.τ).loc Cert.NormDxRefIdeal.main_arg4) = m ((c.tc : Thread Cert.NormDxIdeal.nD Cert.NormDxIdeal.τ).loc Cert.NormDxIdeal.main_arg4)) →
    ∃ (v0 : (c : Dev Cert.NormDxIdeal.nD) → Buf (Elt Ideal) ((c.tc : Thread Cert.NormDxIdeal.nD Cert.NormDxIdeal.τ).loc Cert.NormDxIdeal.main_v8_1)) (v1 : (c : Dev Cert.NormDxIdeal.nD) → Buf (Elt Ideal) ((c.tc : Thread Cert.NormDxIdeal.nD Cert.NormDxIdeal.τ).loc Cert.NormDxIdeal.main_v8_2)) (v2 : (c : Dev Cert.NormDxIdeal.nD) → Buf (Elt Ideal) ((c.tc : Thread Cert.NormDxIdeal.nD Cert.NormDxIdeal.τ).loc Cert.NormDxIdeal.main_v8_3)),
      θ_run (Cert.NormDxIdeal.defs (F := Ideal)) (onTc (τ := Cert.NormDxIdeal.τ) (Cert.NormDxIdeal.main (F := Ideal))) ⟨m, fun _ => 0, g⟩ (fun r => ∀ c : Dev Cert.NormDxIdeal.nD,
          r.2.mem ((c.tc : Thread Cert.NormDxIdeal.nD Cert.NormDxIdeal.τ).loc Cert.NormDxIdeal.main_v8_1) = v0 c
          ∧ r.2.mem ((c.tc : Thread Cert.NormDxIdeal.nD Cert.NormDxIdeal.τ).loc Cert.NormDxIdeal.main_v8_2) = v1 c
          ∧ r.2.mem ((c.tc : Thread Cert.NormDxIdeal.nD Cert.NormDxIdeal.τ).loc Cert.NormDxIdeal.main_v8_3) = v2 c
          ∧ r.2.mem ((c.tc : Thread Cert.NormDxIdeal.nD Cert.NormDxIdeal.τ).loc Cert.NormDxIdeal.main_arg0) = m ((c.tc : Thread Cert.NormDxIdeal.nD Cert.NormDxIdeal.τ).loc Cert.NormDxIdeal.main_arg0)
          ∧ r.2.mem ((c.tc : Thread Cert.NormDxIdeal.nD Cert.NormDxIdeal.τ).loc Cert.NormDxIdeal.main_arg1) = m ((c.tc : Thread Cert.NormDxIdeal.nD Cert.NormDxIdeal.τ).loc Cert.NormDxIdeal.main_arg1)
          ∧ r.2.mem ((c.tc : Thread Cert.NormDxIdeal.nD Cert.NormDxIdeal.τ).loc Cert.NormDxIdeal.main_arg2) = m ((c.tc : Thread Cert.NormDxIdeal.nD Cert.NormDxIdeal.τ).loc Cert.NormDxIdeal.main_arg2)
          ∧ r.2.mem ((c.tc : Thread Cert.NormDxIdeal.nD Cert.NormDxIdeal.τ).loc Cert.NormDxIdeal.main_arg3) = m ((c.tc : Thread Cert.NormDxIdeal.nD Cert.NormDxIdeal.τ).loc Cert.NormDxIdeal.main_arg3)
          ∧ r.2.mem ((c.tc : Thread Cert.NormDxIdeal.nD Cert.NormDxIdeal.τ).loc Cert.NormDxIdeal.main_arg4) = m ((c.tc : Thread Cert.NormDxIdeal.nD Cert.NormDxIdeal.τ).loc Cert.NormDxIdeal.main_arg4))
      ∧ θ_run (Cert.NormDxRefIdeal.defs (F := Ideal)) (onTc (τ := Cert.NormDxRefIdeal.τ) (Cert.NormDxRefIdeal.main (F := Ideal))) ⟨m', fun _ => 0, g'⟩ (fun r => ∀ c : Dev Cert.NormDxRefIdeal.nD,
          r.2.mem ((c.tc : Thread Cert.NormDxRefIdeal.nD Cert.NormDxRefIdeal.τ).loc Cert.NormDxRefIdeal.main_v21) = v0 c
          ∧ r.2.mem ((c.tc : Thread Cert.NormDxRefIdeal.nD Cert.NormDxRefIdeal.τ).loc Cert.NormDxRefIdeal.main_v24) = v1 c
          ∧ r.2.mem ((c.tc : Thread Cert.NormDxRefIdeal.nD Cert.NormDxRefIdeal.τ).loc Cert.NormDxRefIdeal.main_v29) = v2 c
          ∧ r.2.mem ((c.tc : Thread Cert.NormDxRefIdeal.nD Cert.NormDxRefIdeal.τ).loc Cert.NormDxRefIdeal.main_arg0) = m' ((c.tc : Thread Cert.NormDxRefIdeal.nD Cert.NormDxRefIdeal.τ).loc Cert.NormDxRefIdeal.main_arg0)
          ∧ r.2.mem ((c.tc : Thread Cert.NormDxRefIdeal.nD Cert.NormDxRefIdeal.τ).loc Cert.NormDxRefIdeal.main_arg1) = m' ((c.tc : Thread Cert.NormDxRefIdeal.nD Cert.NormDxRefIdeal.τ).loc Cert.NormDxRefIdeal.main_arg1)
          ∧ r.2.mem ((c.tc : Thread Cert.NormDxRefIdeal.nD Cert.NormDxRefIdeal.τ).loc Cert.NormDxRefIdeal.main_arg2) = m' ((c.tc : Thread Cert.NormDxRefIdeal.nD Cert.NormDxRefIdeal.τ).loc Cert.NormDxRefIdeal.main_arg2)
          ∧ r.2.mem ((c.tc : Thread Cert.NormDxRefIdeal.nD Cert.NormDxRefIdeal.τ).loc Cert.NormDxRefIdeal.main_arg3) = m' ((c.tc : Thread Cert.NormDxRefIdeal.nD Cert.NormDxRefIdeal.τ).loc Cert.NormDxRefIdeal.main_arg3)
          ∧ r.2.mem ((c.tc : Thread Cert.NormDxRefIdeal.nD Cert.NormDxRefIdeal.τ).loc Cert.NormDxRefIdeal.main_arg4) = m' ((c.tc : Thread Cert.NormDxRefIdeal.nD Cert.NormDxRefIdeal.τ).loc Cert.NormDxRefIdeal.main_arg4))

def preserves_Norm2_Norm2Ideal : Prop :=
  True

def algebraic_Norm2Ideal_Norm2RefIdeal [hNorm2Ideal : Cert.Norm2Ideal.Facts] [hNorm2RefIdeal : Cert.Norm2RefIdeal.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)
      ∧ m' ((c.tc : Thread Cert.Norm2RefIdeal.nD Cert.Norm2RefIdeal.τ).loc Cert.Norm2RefIdeal.main_arg3) = m ((c.tc : Thread Cert.Norm2Ideal.nD Cert.Norm2Ideal.τ).loc Cert.Norm2Ideal.main_arg3)
      ∧ m' ((c.tc : Thread Cert.Norm2RefIdeal.nD Cert.Norm2RefIdeal.τ).loc Cert.Norm2RefIdeal.main_arg4) = m ((c.tc : Thread Cert.Norm2Ideal.nD Cert.Norm2Ideal.τ).loc Cert.Norm2Ideal.main_arg4)
      ∧ m' ((c.tc : Thread Cert.Norm2RefIdeal.nD Cert.Norm2RefIdeal.τ).loc Cert.Norm2RefIdeal.main_arg5) = m ((c.tc : Thread Cert.Norm2Ideal.nD Cert.Norm2Ideal.τ).loc Cert.Norm2Ideal.main_arg5)) →
    ∃ (v0 : (c : Dev Cert.Norm2Ideal.nD) → Buf (Elt Ideal) ((c.tc : Thread Cert.Norm2Ideal.nD Cert.Norm2Ideal.τ).loc Cert.Norm2Ideal.main_v0_0)) (v1 : (c : Dev Cert.Norm2Ideal.nD) → Buf (Elt Ideal) ((c.tc : Thread Cert.Norm2Ideal.nD Cert.Norm2Ideal.τ).loc Cert.Norm2Ideal.main_v0_1)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v0_0) = v0 c
          ∧ r.2.mem ((c.tc : Thread Cert.Norm2Ideal.nD Cert.Norm2Ideal.τ).loc Cert.Norm2Ideal.main_v0_1) = v1 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
          ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
          ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v2) = v0 c
          ∧ r.2.mem ((c.tc : Thread Cert.Norm2RefIdeal.nD Cert.Norm2RefIdeal.τ).loc Cert.Norm2RefIdeal.main_v21) = v1 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
          ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3)
          ∧ r.2.mem ((c.tc : Thread Cert.Norm2RefIdeal.nD Cert.Norm2RefIdeal.τ).loc Cert.Norm2RefIdeal.main_arg4) = m' ((c.tc : Thread Cert.Norm2RefIdeal.nD Cert.Norm2RefIdeal.τ).loc Cert.Norm2RefIdeal.main_arg4)
          ∧ r.2.mem ((c.tc : Thread Cert.Norm2RefIdeal.nD Cert.Norm2RefIdeal.τ).loc Cert.Norm2RefIdeal.main_arg5) = m' ((c.tc : Thread Cert.Norm2RefIdeal.nD Cert.Norm2RefIdeal.τ).loc Cert.Norm2RefIdeal.main_arg5))

def preserves_Norm2Dx_Norm2DxIdeal : Prop :=
  True

def algebraic_Norm2DxIdeal_Norm2DxRefIdeal [hNorm2DxIdeal : Cert.Norm2DxIdeal.Facts] [hNorm2DxRefIdeal : Cert.Norm2DxRefIdeal.Facts] : Prop :=
  ∀ (m : (ℓ : Loc Cert.Norm2DxIdeal.nD Cert.Norm2DxIdeal.τ Cert.Norm2DxIdeal.sig) → Buf (Elt Ideal) ℓ) (g : Dev Cert.Norm2DxIdeal.nD → PrngReg)
    (m' : (ℓ : Loc Cert.Norm2DxRefIdeal.nD Cert.Norm2DxRefIdeal.τ Cert.Norm2DxRefIdeal.sig) → Buf (Elt Ideal) ℓ) (g' : Dev Cert.Norm2DxRefIdeal.nD → PrngReg), Pre_Norm2DxIdeal m →
    (∀ c : Dev Cert.Norm2DxIdeal.nD,
      m' ((c.tc : Thread Cert.Norm2DxRefIdeal.nD Cert.Norm2DxRefIdeal.τ).loc Cert.Norm2DxRefIdeal.main_arg0) = m ((c.tc : Thread Cert.Norm2DxIdeal.nD Cert.Norm2DxIdeal.τ).loc Cert.Norm2DxIdeal.main_arg0)
      ∧ m' ((c.tc : Thread Cert.Norm2DxRefIdeal.nD Cert.Norm2DxRefIdeal.τ).loc Cert.Norm2DxRefIdeal.main_arg1) = m ((c.tc : Thread Cert.Norm2DxIdeal.nD Cert.Norm2DxIdeal.τ).loc Cert.Norm2DxIdeal.main_arg1)
      ∧ m' ((c.tc : Thread Cert.Norm2DxRefIdeal.nD Cert.Norm2DxRefIdeal.τ).loc Cert.Norm2DxRefIdeal.main_arg2) = m ((c.tc : Thread Cert.Norm2DxIdeal.nD Cert.Norm2DxIdeal.τ).loc Cert.Norm2DxIdeal.main_arg2)
      ∧ m' ((c.tc : Thread Cert.Norm2DxRefIdeal.nD Cert.Norm2DxRefIdeal.τ).loc Cert.Norm2DxRefIdeal.main_arg3) = m ((c.tc : Thread Cert.Norm2DxIdeal.nD Cert.Norm2DxIdeal.τ).loc Cert.Norm2DxIdeal.main_arg3)
      ∧ m' ((c.tc : Thread Cert.Norm2DxRefIdeal.nD Cert.Norm2DxRefIdeal.τ).loc Cert.Norm2DxRefIdeal.main_arg4) = m ((c.tc : Thread Cert.Norm2DxIdeal.nD Cert.Norm2DxIdeal.τ).loc Cert.Norm2DxIdeal.main_arg4)
      ∧ m' ((c.tc : Thread Cert.Norm2DxRefIdeal.nD Cert.Norm2DxRefIdeal.τ).loc Cert.Norm2DxRefIdeal.main_arg5) = m ((c.tc : Thread Cert.Norm2DxIdeal.nD Cert.Norm2DxIdeal.τ).loc Cert.Norm2DxIdeal.main_arg5)
      ∧ m' ((c.tc : Thread Cert.Norm2DxRefIdeal.nD Cert.Norm2DxRefIdeal.τ).loc Cert.Norm2DxRefIdeal.main_arg6) = m ((c.tc : Thread Cert.Norm2DxIdeal.nD Cert.Norm2DxIdeal.τ).loc Cert.Norm2DxIdeal.main_arg6)) →
    ∃ (v0 : (c : Dev Cert.Norm2DxIdeal.nD) → Buf (Elt Ideal) ((c.tc : Thread Cert.Norm2DxIdeal.nD Cert.Norm2DxIdeal.τ).loc Cert.Norm2DxIdeal.main_v8_1)) (v1 : (c : Dev Cert.Norm2DxIdeal.nD) → Buf (Elt Ideal) ((c.tc : Thread Cert.Norm2DxIdeal.nD Cert.Norm2DxIdeal.τ).loc Cert.Norm2DxIdeal.main_v8_2)) (v2 : (c : Dev Cert.Norm2DxIdeal.nD) → Buf (Elt Ideal) ((c.tc : Thread Cert.Norm2DxIdeal.nD Cert.Norm2DxIdeal.τ).loc Cert.Norm2DxIdeal.main_v8_3)),
      θ_run (Cert.Norm2DxIdeal.defs (F := Ideal)) (onTc (τ := Cert.Norm2DxIdeal.τ) (Cert.Norm2DxIdeal.main (F := Ideal))) ⟨m, fun _ => 0, g⟩ (fun r => ∀ c : Dev Cert.Norm2DxIdeal.nD,
          r.2.mem ((c.tc : Thread Cert.Norm2DxIdeal.nD Cert.Norm2DxIdeal.τ).loc Cert.Norm2DxIdeal.main_v8_1) = v0 c
          ∧ r.2.mem ((c.tc : Thread Cert.Norm2DxIdeal.nD Cert.Norm2DxIdeal.τ).loc Cert.Norm2DxIdeal.main_v8_2) = v1 c
          ∧ r.2.mem ((c.tc : Thread Cert.Norm2DxIdeal.nD Cert.Norm2DxIdeal.τ).loc Cert.Norm2DxIdeal.main_v8_3) = v2 c
          ∧ r.2.mem ((c.tc : Thread Cert.Norm2DxIdeal.nD Cert.Norm2DxIdeal.τ).loc Cert.Norm2DxIdeal.main_arg0) = m ((c.tc : Thread Cert.Norm2DxIdeal.nD Cert.Norm2DxIdeal.τ).loc Cert.Norm2DxIdeal.main_arg0)
          ∧ r.2.mem ((c.tc : Thread Cert.Norm2DxIdeal.nD Cert.Norm2DxIdeal.τ).loc Cert.Norm2DxIdeal.main_arg1) = m ((c.tc : Thread Cert.Norm2DxIdeal.nD Cert.Norm2DxIdeal.τ).loc Cert.Norm2DxIdeal.main_arg1)
          ∧ r.2.mem ((c.tc : Thread Cert.Norm2DxIdeal.nD Cert.Norm2DxIdeal.τ).loc Cert.Norm2DxIdeal.main_arg2) = m ((c.tc : Thread Cert.Norm2DxIdeal.nD Cert.Norm2DxIdeal.τ).loc Cert.Norm2DxIdeal.main_arg2)
          ∧ r.2.mem ((c.tc : Thread Cert.Norm2DxIdeal.nD Cert.Norm2DxIdeal.τ).loc Cert.Norm2DxIdeal.main_arg3) = m ((c.tc : Thread Cert.Norm2DxIdeal.nD Cert.Norm2DxIdeal.τ).loc Cert.Norm2DxIdeal.main_arg3)
          ∧ r.2.mem ((c.tc : Thread Cert.Norm2DxIdeal.nD Cert.Norm2DxIdeal.τ).loc Cert.Norm2DxIdeal.main_arg4) = m ((c.tc : Thread Cert.Norm2DxIdeal.nD Cert.Norm2DxIdeal.τ).loc Cert.Norm2DxIdeal.main_arg4)
          ∧ r.2.mem ((c.tc : Thread Cert.Norm2DxIdeal.nD Cert.Norm2DxIdeal.τ).loc Cert.Norm2DxIdeal.main_arg5) = m ((c.tc : Thread Cert.Norm2DxIdeal.nD Cert.Norm2DxIdeal.τ).loc Cert.Norm2DxIdeal.main_arg5)
          ∧ r.2.mem ((c.tc : Thread Cert.Norm2DxIdeal.nD Cert.Norm2DxIdeal.τ).loc Cert.Norm2DxIdeal.main_arg6) = m ((c.tc : Thread Cert.Norm2DxIdeal.nD Cert.Norm2DxIdeal.τ).loc Cert.Norm2DxIdeal.main_arg6))
      ∧ θ_run (Cert.Norm2DxRefIdeal.defs (F := Ideal)) (onTc (τ := Cert.Norm2DxRefIdeal.τ) (Cert.Norm2DxRefIdeal.main (F := Ideal))) ⟨m', fun _ => 0, g'⟩ (fun r => ∀ c : Dev Cert.Norm2DxRefIdeal.nD,
          r.2.mem ((c.tc : Thread Cert.Norm2DxRefIdeal.nD Cert.Norm2DxRefIdeal.τ).loc Cert.Norm2DxRefIdeal.main_v21) = v0 c
          ∧ r.2.mem ((c.tc : Thread Cert.Norm2DxRefIdeal.nD Cert.Norm2DxRefIdeal.τ).loc Cert.Norm2DxRefIdeal.main_v24) = v1 c
          ∧ r.2.mem ((c.tc : Thread Cert.Norm2DxRefIdeal.nD Cert.Norm2DxRefIdeal.τ).loc Cert.Norm2DxRefIdeal.main_v29) = v2 c
          ∧ r.2.mem ((c.tc : Thread Cert.Norm2DxRefIdeal.nD Cert.Norm2DxRefIdeal.τ).loc Cert.Norm2DxRefIdeal.main_arg0) = m' ((c.tc : Thread Cert.Norm2DxRefIdeal.nD Cert.Norm2DxRefIdeal.τ).loc Cert.Norm2DxRefIdeal.main_arg0)
          ∧ r.2.mem ((c.tc : Thread Cert.Norm2DxRefIdeal.nD Cert.Norm2DxRefIdeal.τ).loc Cert.Norm2DxRefIdeal.main_arg1) = m' ((c.tc : Thread Cert.Norm2DxRefIdeal.nD Cert.Norm2DxRefIdeal.τ).loc Cert.Norm2DxRefIdeal.main_arg1)
          ∧ r.2.mem ((c.tc : Thread Cert.Norm2DxRefIdeal.nD Cert.Norm2DxRefIdeal.τ).loc Cert.Norm2DxRefIdeal.main_arg2) = m' ((c.tc : Thread Cert.Norm2DxRefIdeal.nD Cert.Norm2DxRefIdeal.τ).loc Cert.Norm2DxRefIdeal.main_arg2)
          ∧ r.2.mem ((c.tc : Thread Cert.Norm2DxRefIdeal.nD Cert.Norm2DxRefIdeal.τ).loc Cert.Norm2DxRefIdeal.main_arg3) = m' ((c.tc : Thread Cert.Norm2DxRefIdeal.nD Cert.Norm2DxRefIdeal.τ).loc Cert.Norm2DxRefIdeal.main_arg3)
          ∧ r.2.mem ((c.tc : Thread Cert.Norm2DxRefIdeal.nD Cert.Norm2DxRefIdeal.τ).loc Cert.Norm2DxRefIdeal.main_arg4) = m' ((c.tc : Thread Cert.Norm2DxRefIdeal.nD Cert.Norm2DxRefIdeal.τ).loc Cert.Norm2DxRefIdeal.main_arg4)
          ∧ r.2.mem ((c.tc : Thread Cert.Norm2DxRefIdeal.nD Cert.Norm2DxRefIdeal.τ).loc Cert.Norm2DxRefIdeal.main_arg5) = m' ((c.tc : Thread Cert.Norm2DxRefIdeal.nD Cert.Norm2DxRefIdeal.τ).loc Cert.Norm2DxRefIdeal.main_arg5)
          ∧ r.2.mem ((c.tc : Thread Cert.Norm2DxRefIdeal.nD Cert.Norm2DxRefIdeal.τ).loc Cert.Norm2DxRefIdeal.main_arg6) = m' ((c.tc : Thread Cert.Norm2DxRefIdeal.nD Cert.Norm2DxRefIdeal.τ).loc Cert.Norm2DxRefIdeal.main_arg6))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_2)) (v2 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_2) = v1 c
          ∧ r.2.mem ((c.tc : Thread Cert.AdamUpIdeal.nD Cert.AdamUpIdeal.τ).loc Cert.AdamUpIdeal.main_v0_3) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v6) = v1 c
          ∧ r.2.mem ((c.tc : Thread Cert.AdamUpRefIdeal.nD Cert.AdamUpRefIdeal.τ).loc Cert.AdamUpRefIdeal.main_v12) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_2)) (v2 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_2) = v1 c
          ∧ r.2.mem ((c.tc : Thread Cert.AdamDownIdeal.nD Cert.AdamDownIdeal.τ).loc Cert.AdamDownIdeal.main_v0_3) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v6) = v1 c
          ∧ r.2.mem ((c.tc : Thread Cert.AdamDownRefIdeal.nD Cert.AdamDownRefIdeal.τ).loc Cert.AdamDownRefIdeal.main_v12) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamAtt_AdamAttIdeal : Prop :=
  True

def algebraic_AdamAttIdeal_AdamAttRefIdeal [hAdamAttIdeal : Cert.AdamAttIdeal.Facts] [hAdamAttRefIdeal : Cert.AdamAttRefIdeal.Facts] : Prop :=
  ∀ (m : (ℓ : Loc Cert.AdamAttIdeal.nD Cert.AdamAttIdeal.τ Cert.AdamAttIdeal.sig) → Buf (Elt Ideal) ℓ) (g : Dev Cert.AdamAttIdeal.nD → PrngReg)
    (m' : (ℓ : Loc Cert.AdamAttRefIdeal.nD Cert.AdamAttRefIdeal.τ Cert.AdamAttRefIdeal.sig) → Buf (Elt Ideal) ℓ) (g' : Dev Cert.AdamAttRefIdeal.nD → PrngReg), Pre_AdamAttIdeal m →
    (∀ c : Dev Cert.AdamAttIdeal.nD,
      m' ((c.tc : Thread Cert.AdamAttRefIdeal.nD Cert.AdamAttRefIdeal.τ).loc Cert.AdamAttRefIdeal.main_arg0) = m ((c.tc : Thread Cert.AdamAttIdeal.nD Cert.AdamAttIdeal.τ).loc Cert.AdamAttIdeal.main_arg0)
      ∧ m' ((c.tc : Thread Cert.AdamAttRefIdeal.nD Cert.AdamAttRefIdeal.τ).loc Cert.AdamAttRefIdeal.main_arg1) = m ((c.tc : Thread Cert.AdamAttIdeal.nD Cert.AdamAttIdeal.τ).loc Cert.AdamAttIdeal.main_arg1)
      ∧ m' ((c.tc : Thread Cert.AdamAttRefIdeal.nD Cert.AdamAttRefIdeal.τ).loc Cert.AdamAttRefIdeal.main_arg2) = m ((c.tc : Thread Cert.AdamAttIdeal.nD Cert.AdamAttIdeal.τ).loc Cert.AdamAttIdeal.main_arg2)
      ∧ m' ((c.tc : Thread Cert.AdamAttRefIdeal.nD Cert.AdamAttRefIdeal.τ).loc Cert.AdamAttRefIdeal.main_arg3) = m ((c.tc : Thread Cert.AdamAttIdeal.nD Cert.AdamAttIdeal.τ).loc Cert.AdamAttIdeal.main_arg3)) →
    ∃ (v0 : (c : Dev Cert.AdamAttIdeal.nD) → Buf (Elt Ideal) ((c.tc : Thread Cert.AdamAttIdeal.nD Cert.AdamAttIdeal.τ).loc Cert.AdamAttIdeal.main_v0_0)) (v1 : (c : Dev Cert.AdamAttIdeal.nD) → Buf (Elt Ideal) ((c.tc : Thread Cert.AdamAttIdeal.nD Cert.AdamAttIdeal.τ).loc Cert.AdamAttIdeal.main_v0_2)) (v2 : (c : Dev Cert.AdamAttIdeal.nD) → Buf (Elt Ideal) ((c.tc : Thread Cert.AdamAttIdeal.nD Cert.AdamAttIdeal.τ).loc Cert.AdamAttIdeal.main_v0_3)),
      θ_run (Cert.AdamAttIdeal.defs (F := Ideal)) (onTc (τ := Cert.AdamAttIdeal.τ) (Cert.AdamAttIdeal.main (F := Ideal))) ⟨m, fun _ => 0, g⟩ (fun r => ∀ c : Dev Cert.AdamAttIdeal.nD,
          r.2.mem ((c.tc : Thread Cert.AdamAttIdeal.nD Cert.AdamAttIdeal.τ).loc Cert.AdamAttIdeal.main_v0_0) = v0 c
          ∧ r.2.mem ((c.tc : Thread Cert.AdamAttIdeal.nD Cert.AdamAttIdeal.τ).loc Cert.AdamAttIdeal.main_v0_2) = v1 c
          ∧ r.2.mem ((c.tc : Thread Cert.AdamAttIdeal.nD Cert.AdamAttIdeal.τ).loc Cert.AdamAttIdeal.main_v0_3) = v2 c
          ∧ r.2.mem ((c.tc : Thread Cert.AdamAttIdeal.nD Cert.AdamAttIdeal.τ).loc Cert.AdamAttIdeal.main_arg0) = m ((c.tc : Thread Cert.AdamAttIdeal.nD Cert.AdamAttIdeal.τ).loc Cert.AdamAttIdeal.main_arg0)
          ∧ r.2.mem ((c.tc : Thread Cert.AdamAttIdeal.nD Cert.AdamAttIdeal.τ).loc Cert.AdamAttIdeal.main_arg1) = m ((c.tc : Thread Cert.AdamAttIdeal.nD Cert.AdamAttIdeal.τ).loc Cert.AdamAttIdeal.main_arg1)
          ∧ r.2.mem ((c.tc : Thread Cert.AdamAttIdeal.nD Cert.AdamAttIdeal.τ).loc Cert.AdamAttIdeal.main_arg2) = m ((c.tc : Thread Cert.AdamAttIdeal.nD Cert.AdamAttIdeal.τ).loc Cert.AdamAttIdeal.main_arg2)
          ∧ r.2.mem ((c.tc : Thread Cert.AdamAttIdeal.nD Cert.AdamAttIdeal.τ).loc Cert.AdamAttIdeal.main_arg3) = m ((c.tc : Thread Cert.AdamAttIdeal.nD Cert.AdamAttIdeal.τ).loc Cert.AdamAttIdeal.main_arg3))
      ∧ θ_run (Cert.AdamAttRefIdeal.defs (F := Ideal)) (onTc (τ := Cert.AdamAttRefIdeal.τ) (Cert.AdamAttRefIdeal.main (F := Ideal))) ⟨m', fun _ => 0, g'⟩ (fun r => ∀ c : Dev Cert.AdamAttRefIdeal.nD,
          r.2.mem ((c.tc : Thread Cert.AdamAttRefIdeal.nD Cert.AdamAttRefIdeal.τ).loc Cert.AdamAttRefIdeal.main_v1) = v0 c
          ∧ r.2.mem ((c.tc : Thread Cert.AdamAttRefIdeal.nD Cert.AdamAttRefIdeal.τ).loc Cert.AdamAttRefIdeal.main_v6) = v1 c
          ∧ r.2.mem ((c.tc : Thread Cert.AdamAttRefIdeal.nD Cert.AdamAttRefIdeal.τ).loc Cert.AdamAttRefIdeal.main_v12) = v2 c
          ∧ r.2.mem ((c.tc : Thread Cert.AdamAttRefIdeal.nD Cert.AdamAttRefIdeal.τ).loc Cert.AdamAttRefIdeal.main_arg0) = m' ((c.tc : Thread Cert.AdamAttRefIdeal.nD Cert.AdamAttRefIdeal.τ).loc Cert.AdamAttRefIdeal.main_arg0)
          ∧ r.2.mem ((c.tc : Thread Cert.AdamAttRefIdeal.nD Cert.AdamAttRefIdeal.τ).loc Cert.AdamAttRefIdeal.main_arg1) = m' ((c.tc : Thread Cert.AdamAttRefIdeal.nD Cert.AdamAttRefIdeal.τ).loc Cert.AdamAttRefIdeal.main_arg1)
          ∧ r.2.mem ((c.tc : Thread Cert.AdamAttRefIdeal.nD Cert.AdamAttRefIdeal.τ).loc Cert.AdamAttRefIdeal.main_arg2) = m' ((c.tc : Thread Cert.AdamAttRefIdeal.nD Cert.AdamAttRefIdeal.τ).loc Cert.AdamAttRefIdeal.main_arg2)
          ∧ r.2.mem ((c.tc : Thread Cert.AdamAttRefIdeal.nD Cert.AdamAttRefIdeal.τ).loc Cert.AdamAttRefIdeal.main_arg3) = m' ((c.tc : Thread Cert.AdamAttRefIdeal.nD Cert.AdamAttRefIdeal.τ).loc Cert.AdamAttRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_2)) (v2 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_2) = v1 c
          ∧ r.2.mem ((c.tc : Thread Cert.AdamInIdeal.nD Cert.AdamInIdeal.τ).loc Cert.AdamInIdeal.main_v0_3) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v6) = v1 c
          ∧ r.2.mem ((c.tc : Thread Cert.AdamInRefIdeal.nD Cert.AdamInRefIdeal.τ).loc Cert.AdamInRefIdeal.main_v12) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hUp : Cert.Up.Facts) (hUpIdeal : Cert.UpIdeal.Facts) (hUpRefIdeal : Cert.UpRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDown : Cert.Down.Facts) (hDownIdeal : Cert.DownIdeal.Facts) (hDownRefIdeal : Cert.DownRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hMix : Cert.Mix.Facts) (hMixIdeal : Cert.MixIdeal.Facts) (hMixRefIdeal : Cert.MixRefIdeal.Facts) (hMixDx : Cert.MixDx.Facts) (hMixDxIdeal : Cert.MixDxIdeal.Facts) (hMixDxRefIdeal : Cert.MixDxRefIdeal.Facts) (hMixDw : Cert.MixDw.Facts) (hMixDwIdeal : Cert.MixDwIdeal.Facts) (hMixDwRefIdeal : Cert.MixDwRefIdeal.Facts) (hRw : Cert.Rw.Facts) (hRwIdeal : Cert.RwIdeal.Facts) (hRwRefIdeal : Cert.RwRefIdeal.Facts) (hRwDx : Cert.RwDx.Facts) (hRwDxIdeal : Cert.RwDxIdeal.Facts) (hRwDxRefIdeal : Cert.RwDxRefIdeal.Facts) (hRwDw : Cert.RwDw.Facts) (hRwDwIdeal : Cert.RwDwIdeal.Facts) (hRwDwRefIdeal : Cert.RwDwRefIdeal.Facts) (hAttOut : Cert.AttOut.Facts) (hAttOutIdeal : Cert.AttOutIdeal.Facts) (hAttOutRefIdeal : Cert.AttOutRefIdeal.Facts) (hAttOutDx : Cert.AttOutDx.Facts) (hAttOutDxIdeal : Cert.AttOutDxIdeal.Facts) (hAttOutDxRefIdeal : Cert.AttOutDxRefIdeal.Facts) (hAttOutDw : Cert.AttOutDw.Facts) (hAttOutDwIdeal : Cert.AttOutDwIdeal.Facts) (hAttOutDwRefIdeal : Cert.AttOutDwRefIdeal.Facts) (hGate : Cert.Gate.Facts) (hGateIdeal : Cert.GateIdeal.Facts) (hGateRefIdeal : Cert.GateRefIdeal.Facts) (hGateDx : Cert.GateDx.Facts) (hGateDxIdeal : Cert.GateDxIdeal.Facts) (hGateDxRefIdeal : Cert.GateDxRefIdeal.Facts) (hNorm : Cert.Norm.Facts) (hNormIdeal : Cert.NormIdeal.Facts) (hNormRefIdeal : Cert.NormRefIdeal.Facts) (hAdaDw : Cert.AdaDw.Facts) (hAdaDwIdeal : Cert.AdaDwIdeal.Facts) (hAdaDwRefIdeal : Cert.AdaDwRefIdeal.Facts) (hAda : Cert.Ada.Facts) (hAdaIdeal : Cert.AdaIdeal.Facts) (hAdaRefIdeal : Cert.AdaRefIdeal.Facts) (hNormDx : Cert.NormDx.Facts) (hNormDxIdeal : Cert.NormDxIdeal.Facts) (hNormDxRefIdeal : Cert.NormDxRefIdeal.Facts) (hNorm2 : Cert.Norm2.Facts) (hNorm2Ideal : Cert.Norm2Ideal.Facts) (hNorm2RefIdeal : Cert.Norm2RefIdeal.Facts) (hNorm2Dx : Cert.Norm2Dx.Facts) (hNorm2DxIdeal : Cert.Norm2DxIdeal.Facts) (hNorm2DxRefIdeal : Cert.Norm2DxRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamAtt : Cert.AdamAtt.Facts) (hAdamAttIdeal : Cert.AdamAttIdeal.Facts) (hAdamAttRefIdeal : Cert.AdamAttRefIdeal.Facts) (hAdamIn : Cert.AdamIn.Facts) (hAdamInIdeal : Cert.AdamInIdeal.Facts) (hAdamInRefIdeal : Cert.AdamInRefIdeal.Facts),
    quiescent_Kernel (hKernel := hKernel)
    ∧ quiescent_KernelIdeal (hKernelIdeal := hKernelIdeal)
    ∧ quiescent_ReferenceIdeal (hReferenceIdeal := hReferenceIdeal)
    ∧ quiescent_Proj (hProj := hProj)
    ∧ quiescent_ProjIdeal (hProjIdeal := hProjIdeal)
    ∧ quiescent_ProjRefIdeal (hProjRefIdeal := hProjRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_Up (hUp := hUp)
    ∧ quiescent_UpIdeal (hUpIdeal := hUpIdeal)
    ∧ quiescent_UpRefIdeal (hUpRefIdeal := hUpRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Down (hDown := hDown)
    ∧ quiescent_DownIdeal (hDownIdeal := hDownIdeal)
    ∧ quiescent_DownRefIdeal (hDownRefIdeal := hDownRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Mix (hMix := hMix)
    ∧ quiescent_MixIdeal (hMixIdeal := hMixIdeal)
    ∧ quiescent_MixRefIdeal (hMixRefIdeal := hMixRefIdeal)
    ∧ quiescent_MixDx (hMixDx := hMixDx)
    ∧ quiescent_MixDxIdeal (hMixDxIdeal := hMixDxIdeal)
    ∧ quiescent_MixDxRefIdeal (hMixDxRefIdeal := hMixDxRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_Rw (hRw := hRw)
    ∧ quiescent_RwIdeal (hRwIdeal := hRwIdeal)
    ∧ quiescent_RwRefIdeal (hRwRefIdeal := hRwRefIdeal)
    ∧ quiescent_RwDx (hRwDx := hRwDx)
    ∧ quiescent_RwDxIdeal (hRwDxIdeal := hRwDxIdeal)
    ∧ quiescent_RwDxRefIdeal (hRwDxRefIdeal := hRwDxRefIdeal)
    ∧ quiescent_RwDw (hRwDw := hRwDw)
    ∧ quiescent_RwDwIdeal (hRwDwIdeal := hRwDwIdeal)
    ∧ quiescent_RwDwRefIdeal (hRwDwRefIdeal := hRwDwRefIdeal)
    ∧ quiescent_AttOut (hAttOut := hAttOut)
    ∧ quiescent_AttOutIdeal (hAttOutIdeal := hAttOutIdeal)
    ∧ quiescent_AttOutRefIdeal (hAttOutRefIdeal := hAttOutRefIdeal)
    ∧ quiescent_AttOutDx (hAttOutDx := hAttOutDx)
    ∧ quiescent_AttOutDxIdeal (hAttOutDxIdeal := hAttOutDxIdeal)
    ∧ quiescent_AttOutDxRefIdeal (hAttOutDxRefIdeal := hAttOutDxRefIdeal)
    ∧ quiescent_AttOutDw (hAttOutDw := hAttOutDw)
    ∧ quiescent_AttOutDwIdeal (hAttOutDwIdeal := hAttOutDwIdeal)
    ∧ quiescent_AttOutDwRefIdeal (hAttOutDwRefIdeal := hAttOutDwRefIdeal)
    ∧ quiescent_Gate (hGate := hGate)
    ∧ quiescent_GateIdeal (hGateIdeal := hGateIdeal)
    ∧ quiescent_GateRefIdeal (hGateRefIdeal := hGateRefIdeal)
    ∧ quiescent_GateDx (hGateDx := hGateDx)
    ∧ quiescent_GateDxIdeal (hGateDxIdeal := hGateDxIdeal)
    ∧ quiescent_GateDxRefIdeal (hGateDxRefIdeal := hGateDxRefIdeal)
    ∧ quiescent_Norm (hNorm := hNorm)
    ∧ quiescent_NormIdeal (hNormIdeal := hNormIdeal)
    ∧ quiescent_NormRefIdeal (hNormRefIdeal := hNormRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ quiescent_Ada (hAda := hAda)
    ∧ quiescent_AdaIdeal (hAdaIdeal := hAdaIdeal)
    ∧ quiescent_AdaRefIdeal (hAdaRefIdeal := hAdaRefIdeal)
    ∧ quiescent_NormDx (hNormDx := hNormDx)
    ∧ quiescent_NormDxIdeal (hNormDxIdeal := hNormDxIdeal)
    ∧ quiescent_NormDxRefIdeal (hNormDxRefIdeal := hNormDxRefIdeal)
    ∧ quiescent_Norm2 (hNorm2 := hNorm2)
    ∧ quiescent_Norm2Ideal (hNorm2Ideal := hNorm2Ideal)
    ∧ quiescent_Norm2RefIdeal (hNorm2RefIdeal := hNorm2RefIdeal)
    ∧ quiescent_Norm2Dx (hNorm2Dx := hNorm2Dx)
    ∧ quiescent_Norm2DxIdeal (hNorm2DxIdeal := hNorm2DxIdeal)
    ∧ quiescent_Norm2DxRefIdeal (hNorm2DxRefIdeal := hNorm2DxRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamAtt (hAdamAtt := hAdamAtt)
    ∧ quiescent_AdamAttIdeal (hAdamAttIdeal := hAdamAttIdeal)
    ∧ quiescent_AdamAttRefIdeal (hAdamAttRefIdeal := hAdamAttRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ preserves_Kernel_KernelIdeal
    ∧ preserves_Proj_ProjIdeal
    ∧ algebraic_ProjIdeal_ProjRefIdeal (hProjIdeal := hProjIdeal) (hProjRefIdeal := hProjRefIdeal)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_Up_UpIdeal
    ∧ algebraic_UpIdeal_UpRefIdeal (hUpIdeal := hUpIdeal) (hUpRefIdeal := hUpRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_Down_DownIdeal
    ∧ algebraic_DownIdeal_DownRefIdeal (hDownIdeal := hDownIdeal) (hDownRefIdeal := hDownRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_Mix_MixIdeal
    ∧ algebraic_MixIdeal_MixRefIdeal (hMixIdeal := hMixIdeal) (hMixRefIdeal := hMixRefIdeal)
    ∧ preserves_MixDx_MixDxIdeal
    ∧ algebraic_MixDxIdeal_MixDxRefIdeal (hMixDxIdeal := hMixDxIdeal) (hMixDxRefIdeal := hMixDxRefIdeal)
    ∧ preserves_MixDw_MixDwIdeal
    ∧ algebraic_MixDwIdeal_MixDwRefIdeal (hMixDwIdeal := hMixDwIdeal) (hMixDwRefIdeal := hMixDwRefIdeal)
    ∧ preserves_Rw_RwIdeal
    ∧ algebraic_RwIdeal_RwRefIdeal (hRwIdeal := hRwIdeal) (hRwRefIdeal := hRwRefIdeal)
    ∧ preserves_RwDx_RwDxIdeal
    ∧ algebraic_RwDxIdeal_RwDxRefIdeal (hRwDxIdeal := hRwDxIdeal) (hRwDxRefIdeal := hRwDxRefIdeal)
    ∧ preserves_RwDw_RwDwIdeal
    ∧ algebraic_RwDwIdeal_RwDwRefIdeal (hRwDwIdeal := hRwDwIdeal) (hRwDwRefIdeal := hRwDwRefIdeal)
    ∧ preserves_AttOut_AttOutIdeal
    ∧ algebraic_AttOutIdeal_AttOutRefIdeal (hAttOutIdeal := hAttOutIdeal) (hAttOutRefIdeal := hAttOutRefIdeal)
    ∧ preserves_AttOutDx_AttOutDxIdeal
    ∧ algebraic_AttOutDxIdeal_AttOutDxRefIdeal (hAttOutDxIdeal := hAttOutDxIdeal) (hAttOutDxRefIdeal := hAttOutDxRefIdeal)
    ∧ preserves_AttOutDw_AttOutDwIdeal
    ∧ algebraic_AttOutDwIdeal_AttOutDwRefIdeal (hAttOutDwIdeal := hAttOutDwIdeal) (hAttOutDwRefIdeal := hAttOutDwRefIdeal)
    ∧ preserves_Gate_GateIdeal
    ∧ algebraic_GateIdeal_GateRefIdeal (hGateIdeal := hGateIdeal) (hGateRefIdeal := hGateRefIdeal)
    ∧ preserves_GateDx_GateDxIdeal
    ∧ algebraic_GateDxIdeal_GateDxRefIdeal (hGateDxIdeal := hGateDxIdeal) (hGateDxRefIdeal := hGateDxRefIdeal)
    ∧ preserves_Norm_NormIdeal
    ∧ algebraic_NormIdeal_NormRefIdeal (hNormIdeal := hNormIdeal) (hNormRefIdeal := hNormRefIdeal)
    ∧ preserves_AdaDw_AdaDwIdeal
    ∧ algebraic_AdaDwIdeal_AdaDwRefIdeal (hAdaDwIdeal := hAdaDwIdeal) (hAdaDwRefIdeal := hAdaDwRefIdeal)
    ∧ preserves_Ada_AdaIdeal
    ∧ algebraic_AdaIdeal_AdaRefIdeal (hAdaIdeal := hAdaIdeal) (hAdaRefIdeal := hAdaRefIdeal)
    ∧ preserves_NormDx_NormDxIdeal
    ∧ algebraic_NormDxIdeal_NormDxRefIdeal (hNormDxIdeal := hNormDxIdeal) (hNormDxRefIdeal := hNormDxRefIdeal)
    ∧ preserves_Norm2_Norm2Ideal
    ∧ algebraic_Norm2Ideal_Norm2RefIdeal (hNorm2Ideal := hNorm2Ideal) (hNorm2RefIdeal := hNorm2RefIdeal)
    ∧ preserves_Norm2Dx_Norm2DxIdeal
    ∧ algebraic_Norm2DxIdeal_Norm2DxRefIdeal (hNorm2DxIdeal := hNorm2DxIdeal) (hNorm2DxRefIdeal := hNorm2DxRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamAtt_AdamAttIdeal
    ∧ algebraic_AdamAttIdeal_AdamAttRefIdeal (hAdamAttIdeal := hAdamAttIdeal) (hAdamAttRefIdeal := hAdamAttRefIdeal)
    ∧ preserves_AdamIn_AdamInIdeal
    ∧ algebraic_AdamInIdeal_AdamInRefIdeal (hAdamInIdeal := hAdamInIdeal) (hAdamInRefIdeal := hAdamInRefIdeal)
-- ==== Kernel.lean ====
abbrev S4096x10240 : Shape := ⟨2, ![4096, 10240]⟩
abbrev S4096x512 : Shape := ⟨2, ![4096, 512]⟩
abbrev S4096x1536 : Shape := ⟨2, ![4096, 1536]⟩
abbrev S1x4096x3x8x64 : Shape := ⟨5, ![1, 4096, 3, 8, 64]⟩
abbrev S1x4096x1x8x64 : Shape := ⟨5, ![1, 4096, 1, 8, 64]⟩
abbrev S1x4096x8x64 : Shape := ⟨4, ![1, 4096, 8, 64]⟩
abbrev S_ : Shape := ⟨0, ![]⟩
abbrev S1x8x128x4x8x64 : Shape := ⟨6, ![1, 8, 128, 4, 8, 64]⟩
abbrev S1x1x128x4x8x64 : Shape := ⟨6, ![1, 1, 128, 4, 8, 64]⟩
abbrev S1x7x128x4x8x64 : Shape := ⟨6, ![1, 7, 128, 4, 8, 64]⟩
abbrev S1x8x256x4x8x64 : Shape := ⟨6, ![1, 8, 256, 4, 8, 64]⟩
abbrev S1x8x4x8x128x256 : Shape := ⟨6, ![1, 8, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1 : Shape := ⟨2, ![8, 1]⟩
abbrev S8x256 : Shape := ⟨2, ![8, 256]⟩
abbrev S1x128x256 : Shape := ⟨3, ![1, 128, 256]⟩
abbrev S8x1x256 : Shape := ⟨3, ![8, 1, 256]⟩
abbrev S8x128x256 : Shape := ⟨3, ![8, 128, 256]⟩
abbrev S1x8x1x1x128x256 : Shape := ⟨6, ![1, 8, 1, 1, 128, 256]⟩
abbrev S1x8x4x8x128 : Shape := ⟨5, ![1, 8, 4, 8, 128]⟩
abbrev S1x8x4x8x128x1 : Shape := ⟨6, ![1, 8, 4, 8, 128, 1]⟩
abbrev S1x8x4x8x64x128 : Shape := ⟨6, ![1, 8, 4, 8, 64, 128]⟩
abbrev S1x8x128x4x8 : Shape := ⟨5, ![1, 8, 128, 4, 8]⟩
abbrev S1x8x128x4x8x1 : Shape := ⟨6, ![1, 8, 128, 4, 8, 1]⟩
abbrev S1x4096x8 : Shape := ⟨3, ![1, 4096, 8]⟩
abbrev S1x4096x8x1 : Shape := ⟨4, ![1, 4096, 8, 1]⟩
abbrev S4096x128 : Shape := ⟨2, ![4096, 128]⟩
abbrev S128x128 : Shape := ⟨2, ![128, 128]⟩
abbrev S128x64 : Shape := ⟨2, ![128, 64]⟩
abbrev S1x128x64 : Shape := ⟨3, ![1, 128, 64]⟩
abbrev S8x128x64 : Shape := ⟨3, ![8, 128, 64]⟩
abbrev S8x128x128 : Shape := ⟨3, ![8, 128, 128]⟩
abbrev S1x128x128 : Shape := ⟨3, ![1, 128, 128]⟩

abbrev nBuf : Space → Nat
  | .hbm => 108
  | .vmem => 23
  | .smem => 0
  | _ => 0

abbrev bufTy : (tb : Table) → Fin (tcTables nBuf tb) → BufTy
  | .hbm, ⟨0, _⟩ => ⟨S4096x10240, .f32⟩
  | .hbm, ⟨1, _⟩ => ⟨S4096x512, .f32⟩
  | .hbm, ⟨2, _⟩ => ⟨S4096x512, .f32⟩
  | .hbm, ⟨3, _⟩ => ⟨S4096x1536, .f32⟩
  | .hbm, ⟨4, _⟩ => ⟨S1x4096x3x8x64, .f32⟩
  | .hbm, ⟨5, _⟩ => ⟨S1x4096x1x8x64, .f32⟩
  | .hbm, ⟨6, _⟩ => ⟨S1x4096x8x64, .f32⟩
  | .hbm, ⟨7, _⟩ => ⟨S1x4096x1x8x64, .f32⟩
  | .hbm, ⟨8, _⟩ => ⟨S1x4096x8x64, .f32⟩
  | .hbm, ⟨9, _⟩ => ⟨S1x4096x1x8x64, .f32⟩
  | .hbm, ⟨10, _⟩ => ⟨S1x4096x8x64, .f32⟩
  | .hbm, ⟨11, _⟩ => ⟨S_, .i32⟩
  | .hbm, ⟨12, _⟩ => ⟨S_, .f32⟩
  | .hbm, ⟨13, _⟩ => ⟨S1x4096x8x64, .f32⟩
  | .hbm, ⟨14, _⟩ => ⟨S1x8x128x4x8x64, .f32⟩
  | .hbm, ⟨15, _⟩ => ⟨S_, .i32⟩
  | .hbm, ⟨16, _⟩ => ⟨S_, .f32⟩
  | .hbm, ⟨17, _⟩ => ⟨S1x4096x8x64, .f32⟩
  | .hbm, ⟨18, _⟩ => ⟨S1x8x128x4x8x64, .f32⟩
  | .hbm, ⟨19, _⟩ => ⟨S1x1x128x4x8x64, .f32⟩
  | .hbm, ⟨20, _⟩ => ⟨S_, .f32⟩
  | .hbm, ⟨21, _⟩ => ⟨S1x1x128x4x8x64, .f32⟩
  | .hbm, ⟨22, _⟩ => ⟨S1x7x128x4x8x64, .f32⟩
  | .hbm, ⟨23, _⟩ => ⟨S1x8x128x4x8x64, .f32⟩
  | .hbm, ⟨24, _⟩ => ⟨S1x8x256x4x8x64, .f32⟩
  | .hbm, ⟨25, _⟩ => ⟨S_, .i32⟩
  | .hbm, ⟨26, _⟩ => ⟨S_, .f32⟩
  | .hbm, ⟨27, _⟩ => ⟨S1x4096x8x64, .f32⟩
  | .hbm, ⟨28, _⟩ => ⟨S1x8x128x4x8x64, .f32⟩
  | .hbm, ⟨29, _⟩ => ⟨S1x1x128x4x8x64, .f32⟩
  | .hbm, ⟨30, _⟩ => ⟨S_, .f32⟩
  | .hbm, ⟨31, _⟩ => ⟨S1x1x128x4x8x64, .f32⟩
  | .hbm, ⟨32, _⟩ => ⟨S1x7x128x4x8x64, .f32⟩
  | .hbm, ⟨33, _⟩ => ⟨S1x8x128x4x8x64, .f32⟩
  | .hbm, ⟨34, _⟩ => ⟨S1x8x256x4x8x64, .f32⟩
  | .hbm, ⟨35, _⟩ => ⟨S1x8x4x8x128x256, .f32⟩
  | .hbm, ⟨36, _⟩ => ⟨S_, .f32⟩
  | .hbm, ⟨37, _⟩ => ⟨S1x8x4x8x128x256, .f32⟩
  | .hbm, ⟨38, _⟩ => ⟨S1x8x4x8x128x256, .f32⟩
  | .hbm, ⟨39, _⟩ => ⟨S128, .i32⟩
  | .hbm, ⟨40, _⟩ => ⟨S128x1, .i32⟩
  | .hbm, ⟨41, _⟩ => ⟨S256, .i32⟩
  | .hbm, ⟨42, _⟩ => ⟨S1x256, .i32⟩
  | .hbm, ⟨43, _⟩ => ⟨S_, .i32⟩
  | .hbm, ⟨44, _⟩ => ⟨S128x1, .i32⟩
  | .hbm, ⟨45, _⟩ => ⟨S128x1, .i32⟩
  | .hbm, ⟨46, _⟩ => ⟨S128x256, .i32⟩
  | .hbm, ⟨47, _⟩ => ⟨S128x256, .i32⟩
  | .hbm, ⟨48, _⟩ => ⟨S128x256, .i32⟩
  | .hbm, ⟨49, _⟩ => ⟨S8, .i32⟩
  | .hbm, ⟨50, _⟩ => ⟨S8x1, .i32⟩
  | .hbm, ⟨51, _⟩ => ⟨S_, .i32⟩
  | .hbm, ⟨52, _⟩ => ⟨S8x1, .i32⟩
  | .hbm, ⟨53, _⟩ => ⟨S8x1, .i32⟩
  | .hbm, ⟨54, _⟩ => ⟨S8x256, .i32⟩
  | .hbm, ⟨55, _⟩ => ⟨S8x256, .i32⟩
  | .hbm, ⟨56, _⟩ => ⟨S8x256, .i32⟩
  | .hbm, ⟨57, _⟩ => ⟨S_, .i32⟩
  | .hbm, ⟨58, _⟩ => ⟨S8x256, .i32⟩
  | .hbm, ⟨59, _⟩ => ⟨S8x256, .i32⟩
  | .hbm, ⟨60, _⟩ => ⟨S_, .i32⟩
  | .hbm, ⟨61, _⟩ => ⟨S128x256, .i32⟩
  | .hbm, ⟨62, _⟩ => ⟨S128x256, .i1⟩
  | .hbm, ⟨63, _⟩ => ⟨S_, .i32⟩
  | .hbm, ⟨64, _⟩ => ⟨S128x256, .i32⟩
  | .hbm, ⟨65, _⟩ => ⟨S128x256, .i1⟩
  | .hbm, ⟨66, _⟩ => ⟨S128x256, .i1⟩
  | .hbm, ⟨67, _⟩ => ⟨S1x128x256, .i1⟩
  | .hbm, ⟨68, _⟩ => ⟨S_, .i32⟩
  | .hbm, ⟨69, _⟩ => ⟨S8x256, .i32⟩
  | .hbm, ⟨70, _⟩ => ⟨S8x256, .i1⟩
  | .hbm, ⟨71, _⟩ => ⟨S8x1x256, .i1⟩
  | .hbm, ⟨72, _⟩ => ⟨S8x128x256, .i1⟩
  | .hbm, ⟨73, _⟩ => ⟨S8x128x256, .i1⟩
  | .hbm, ⟨74, _⟩ => ⟨S8x128x256, .i1⟩
  | .hbm, ⟨75, _⟩ => ⟨S1x8x1x1x128x256, .i1⟩
  | .hbm, ⟨76, _⟩ => ⟨S_, .f32⟩
  | .hbm, ⟨77, _⟩ => ⟨S_, .f32⟩
  | .hbm, ⟨78, _⟩ => ⟨S1x8x4x8x128x256, .i1⟩
  | .hbm, ⟨79, _⟩ => ⟨S1x8x4x8x128x256, .f32⟩
  | .hbm, ⟨80, _⟩ => ⟨S1x8x4x8x128x256, .f32⟩
  | .hbm, ⟨81, _⟩ => ⟨S_, .f32⟩
  | .hbm, ⟨82, _⟩ => ⟨S1x8x4x8x128, .f32⟩
  | .hbm, ⟨83, _⟩ => ⟨S1x8x4x8x128x1, .f32⟩
  | .hbm, ⟨84, _⟩ => ⟨S1x8x4x8x128x256, .f32⟩
  | .hbm, ⟨85, _⟩ => ⟨S1x8x4x8x128x256, .f32⟩
  | .hbm, ⟨86, _⟩ => ⟨S1x8x4x8x128x256, .f32⟩
  | .hbm, ⟨87, _⟩ => ⟨S_, .f32⟩
  | .hbm, ⟨88, _⟩ => ⟨S1x8x4x8x128, .f32⟩
  | .hbm, ⟨89, _⟩ => ⟨S1x8x4x8x64x128, .f32⟩
  | .hbm, ⟨90, _⟩ => ⟨S1x8x128x4x8x64, .f32⟩
  | .hbm, ⟨91, _⟩ => ⟨S1x8x128x4x8, .f32⟩
  | .hbm, ⟨92, _⟩ => ⟨S1x8x128x4x8x1, .f32⟩
  | .hbm, ⟨93, _⟩ => ⟨S1x8x128x4x8x64, .f32⟩
  | .hbm, ⟨94, _⟩ => ⟨S1x8x128x4x8x64, .f32⟩
  | .hbm, ⟨95, _⟩ => ⟨S1x4096x8x64, .f32⟩
  | .hbm, ⟨96, _⟩ => ⟨S1x8x4x8x128, .f32⟩
  | .hbm, ⟨97, _⟩ => ⟨S1x8x128x4x8, .f32⟩
  | .hbm, ⟨98, _⟩ => ⟨S1x8x128x4x8, .f32⟩
  | .hbm, ⟨99, _⟩ => ⟨S1x8x128x4x8, .f32⟩
  | .hbm, ⟨100, _⟩ => ⟨S1x4096x8, .f32⟩
  | .hbm, ⟨101, _⟩ => ⟨S1x4096x8x1, .f32⟩
  | .hbm, ⟨102, _⟩ => ⟨S1x4096x8x64, .f32⟩
  | .hbm, ⟨103, _⟩ => ⟨S4096x512, .f32⟩
  | .hbm, ⟨104, _⟩ => ⟨S4096x512, .f32⟩
  | .hbm, ⟨105, _⟩ => ⟨S4096x512, .bf16⟩
  | .hbm, ⟨106, _⟩ => ⟨S4096x512, .bf16⟩
  | .hbm, ⟨107, _⟩ => ⟨S4096x512, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S4096x128, .f32⟩
  | .local _ .vmem, ⟨21, _⟩ => ⟨S4096x128, .f32⟩
  | .local _ .vmem, ⟨22, _⟩ => ⟨S4096x128, .f32⟩
  | _, _ => ⟨S4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_call2_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_6 : Ref sig .tc := ⟨.hbm, 57, rfl⟩
abbrev main_v43 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81_0 : Ref sig .tc := ⟨.hbm, 105, rfl⟩
abbrev main_v81_1 : Ref sig .tc := ⟨.hbm, 106, rfl⟩
abbrev main_v81_2 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_off1 (k0_t1 : Fin k0_t1_loop.trips) (c0_i32_17 : BitVec 32) : Fin 2 → Nat :=
  let c0_i32 : BitVec 32 := 0#32
  let c1_i32 : BitVec 32 := 1#32
  let arg14 : BitVec 32 := Scf.iv c0_i32 c1_i32 k0_t1
  let c4_i32 : BitVec 32 := 4#32
  let v18 : BitVec 32 := Scalar.muli arg14 c4_i32
  let v19 : BitVec 32 := Scalar.addi v18 c0_i32_17
  let c8_i32_25 : BitVec 32 := 8#32
  let c0_i32_26 : BitVec 32 := 0#32
  let v37 : BitVec 1 := Scalar.cmpi .eq c8_i32_25 c0_i32_26
  let c1_i32_27 : BitVec 32 := 1#32
  let v38 : BitVec 32 := Scalar.select v37 c1_i32_27 c8_i32_25
  let v39 : BitVec 32 := Scalar.remsi v19 v38
  let c0_i32_29 : BitVec 32 := 0#32
  let v41 : BitVec 1 := Scalar.cmpi .slt v39 c0_i32_29
  let c0_i32_30 : BitVec 32 := 0#32
  let v42 : BitVec 1 := Scalar.cmpi .slt v38 c0_i32_30
  let v43 : BitVec 1 := Scalar.xori v41 v42
  let c0_i32_28 : BitVec 32 := 0#32
  let v40 : BitVec 1 := Scalar.cmpi .ne v39 c0_i32_28
  let v44 : BitVec 1 := Scalar.andi v43 v40
  let v45 : BitVec 32 := Scalar.addi v39 v38
  let v46 : BitVec 32 := Scalar.select v44 v45 v39
  let c512_i32 : BitVec 32 := 512#32
  let v47 : BitVec 32 := Scalar.muli v46 c512_i32
  let c0_i32_19 : BitVec 32 := 0#32
  let v21 : BitVec 1 := Scalar.cmpi .sgt v19 c0_i32_19
  let v22 : BitVec 32 := Scalar.extui v21
  let c0_i32_20 : BitVec 32 := 0#32
  let v23 : BitVec 1 := Scalar.cmpi .slt v19 c0_i32_20
  let v24 : BitVec 32 := Scalar.extui v23
  let v25 : BitVec 32 := Scalar.subi v22 v24
  let c8_i32_18 : BitVec 32 := 8#32
  let c0_i32_21 : BitVec 32 := 0#32
  let v26 : BitVec 1 := Scalar.cmpi .sgt c8_i32_18 c0_i32_21
  let v27 : BitVec 32 := Scalar.extui v26
  let c0_i32_22 : BitVec 32 := 0#32
  let v28 : BitVec 1 := Scalar.cmpi .slt c8_i32_18 c0_i32_22
  let v29 : BitVec 32 := Scalar.extui v28
  let v30 : BitVec 32 := Scalar.subi v27 v29
  let v31 : BitVec 1 := Scalar.cmpi .ne v25 v30
  let v32 : BitVec 32 := Scalar.remsi v19 c8_i32_18
  let c0_i32_23 : BitVec 32 := 0#32
  let v33 : BitVec 1 := Scalar.cmpi .ne v32 c0_i32_23
  let v34 : BitVec 1 := Scalar.andi v31 v33
  let v20 : BitVec 32 := Scalar.divsi v19 c8_i32_18
  let c1_i32_24 : BitVec 32 := 1#32
  let v35 : BitVec 32 := Scalar.subi v20 c1_i32_24
  let v36 : BitVec 32 := Scalar.select v34 v35 v20
  let v48 : BitVec 32 := Scalar.addi v47 v36
  let v54 : Index := Scalar.indexCast v48
  let c0_35 : Index := 0#32
  ![v54.toNat, 0]
def k0_off2 (k0_t1 : Fin k0_t1_loop.trips) (c0_i32_17 : BitVec 32) : Fin 2 → Nat :=
  let c0_i32 : BitVec 32 := 0#32
  let c1_i32 : BitVec 32 := 1#32
  let arg14 : BitVec 32 := Scf.iv c0_i32 c1_i32 k0_t1
  let c4_i32 : BitVec 32 := 4#32
  let v18 : BitVec 32 := Scalar.muli arg14 c4_i32
  let v19 : BitVec 32 := Scalar.addi v18 c0_i32_17
  let c8_i32_25 : BitVec 32 := 8#32
  let c0_i32_26 : BitVec 32 := 0#32
  let v37 : BitVec 1 := Scalar.cmpi .eq c8_i32_25 c0_i32_26
  let c1_i32_27 : BitVec 32 := 1#32
  let v38 : BitVec 32 := Scalar.select v37 c1_i32_27 c8_i32_25
  let v39 : BitVec 32 := Scalar.remsi v19 v38
  let c0_i32_29 : BitVec 32 := 0#32
  let v41 : BitVec 1 := Scalar.cmpi .slt v39 c0_i32_29
  let c0_i32_30 : BitVec 32 := 0#32
  let v42 : BitVec 1 := Scalar.cmpi .slt v38 c0_i32_30
  let v43 : BitVec 1 := Scalar.xori v41 v42
  let c0_i32_28 : BitVec 32 := 0#32
  let v40 : BitVec 1 := Scalar.cmpi .ne v39 c0_i32_28
  let v44 : BitVec 1 := Scalar.andi v43 v40
  let v45 : BitVec 32 := Scalar.addi v39 v38
  let v46 : BitVec 32 := Scalar.select v44 v45 v39
  let c1_i32_31 : BitVec 32 := 1#32
  let v49 : BitVec 32 := Scalar.subi v46 c1_i32_31
  let c0_i32_32 : BitVec 32 := 0#32
  let v50 : BitVec 32 := Scalar.maxsi v49 c0_i32_32
  let c512_i32_33 : BitVec 32 := 512#32
  let v51 : BitVec 32 := Scalar.muli v50 c512_i32_33
  let c0_i32_19 : BitVec 32 := 0#32
  let v21 : BitVec 1 := Scalar.cmpi .sgt v19 c0_i32_19
  let v22 : BitVec 32 := Scalar.extui v21
  let c0_i32_20 : BitVec 32 := 0#32
  let v23 : BitVec 1 := Scalar.cmpi .slt v19 c0_i32_20
  let v24 : BitVec 32 := Scalar.extui v23
  let v25 : BitVec 32 := Scalar.subi v22 v24
  let c8_i32_18 : BitVec 32 := 8#32
  let c0_i32_21 : BitVec 32 := 0#32
  let v26 : BitVec 1 := Scalar.cmpi .sgt c8_i32_18 c0_i32_21
  let v27 : BitVec 32 := Scalar.extui v26
  let c0_i32_22 : BitVec 32 := 0#32
  let v28 : BitVec 1 := Scalar.cmpi .slt c8_i32_18 c0_i32_22
  let v29 : BitVec 32 := Scalar.extui v28
  let v30 : BitVec 32 := Scalar.subi v27 v29
  let v31 : BitVec 1 := Scalar.cmpi .ne v25 v30
  let v32 : BitVec 32 := Scalar.remsi v19 c8_i32_18
  let c0_i32_23 : BitVec 32 := 0#32
  let v33 : BitVec 1 := Scalar.cmpi .ne v32 c0_i32_23
  let v34 : BitVec 1 := Scalar.andi v31 v33
  let v20 : BitVec 32 := Scalar.divsi v19 c8_i32_18
  let c1_i32_24 : BitVec 32 := 1#32
  let v35 : BitVec 32 := Scalar.subi v20 c1_i32_24
  let v36 : BitVec 32 := Scalar.select v34 v35 v20
  let v52 : BitVec 32 := Scalar.addi v51 v36
  let v64 : Index := Scalar.indexCast v52
  let c0_37 : Index := 0#32
  ![v64.toNat, 0]
def cc0_transform_0 (i : grid0.Coords) : Fin 2 → Nat :=
  let arg0 : BitVec 32 := BitVec.ofNat 32 (i 0).val
  let c52_i32 : BitVec 32 := 52#32
  let v0 : BitVec 32 := Scalar.addi c52_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c60_i32 : BitVec 32 := 60#32
  let v0 : BitVec 32 := Scalar.addi c60_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x10240 : Shape := ⟨2, ![4096, 10240]⟩
abbrev S4096x512 : Shape := ⟨2, ![4096, 512]⟩
abbrev S4096x1536 : Shape := ⟨2, ![4096, 1536]⟩
abbrev S1x4096x3x8x64 : Shape := ⟨5, ![1, 4096, 3, 8, 64]⟩
abbrev S1x4096x1x8x64 : Shape := ⟨5, ![1, 4096, 1, 8, 64]⟩
abbrev S1x4096x8x64 : Shape := ⟨4, ![1, 4096, 8, 64]⟩
abbrev S_ : Shape := ⟨0, ![]⟩
abbrev S1x8x128x4x8x64 : Shape := ⟨6, ![1, 8, 128, 4, 8, 64]⟩
abbrev S1x1x128x4x8x64 : Shape := ⟨6, ![1, 1, 128, 4, 8, 64]⟩
abbrev S1x7x128x4x8x64 : Shape := ⟨6, ![1, 7, 128, 4, 8, 64]⟩
abbrev S1x8x256x4x8x64 : Shape := ⟨6, ![1, 8, 256, 4, 8, 64]⟩
abbrev S1x8x4x8x128x256 : Shape := ⟨6, ![1, 8, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1 : Shape := ⟨2, ![8, 1]⟩
abbrev S8x256 : Shape := ⟨2, ![8, 256]⟩
abbrev S1x128x256 : Shape := ⟨3, ![1, 128, 256]⟩
abbrev S8x1x256 : Shape := ⟨3, ![8, 1, 256]⟩
abbrev S8x128x256 : Shape := ⟨3, ![8, 128, 256]⟩
abbrev S1x8x1x1x128x256 : Shape := ⟨6, ![1, 8, 1, 1, 128, 256]⟩
abbrev S1x8x4x8x128 : Shape := ⟨5, ![1, 8, 4, 8, 128]⟩
abbrev S1x8x4x8x128x1 : Shape := ⟨6, ![1, 8, 4, 8, 128, 1]⟩
abbrev S1x8x4x8x64x128 : Shape := ⟨6, ![1, 8, 4, 8, 64, 128]⟩
abbrev S1x8x128x4x8 : Shape := ⟨5, ![1, 8, 128, 4, 8]⟩
abbrev S1x8x128x4x8x1 : Shape := ⟨6, ![1, 8, 128, 4, 8, 1]⟩
abbrev S1x4096x8 : Shape := ⟨3, ![1, 4096, 8]⟩
abbrev S1x4096x8x1 : Shape := ⟨4, ![1, 4096, 8, 1]⟩
abbrev S4096x8 : Shape := ⟨2, ![4096, 8]⟩
abbrev S8x128x4x8 : Shape := ⟨4, ![8, 128, 4, 8]⟩
abbrev S1x8x4x8x64x256 : Shape := ⟨6, ![1, 8, 4, 8, 64, 256]⟩
abbrev S8x4x8x128 : Shape := ⟨4, ![8, 4, 8, 128]⟩
abbrev S1x8x4x8x256x64 : Shape := ⟨6, ![1, 8, 4, 8, 256, 64]⟩
abbrev S1x8x4x8x128x64 : Shape := ⟨6, ![1, 8, 4, 8, 128, 64]⟩

abbrev nBuf : Space → Nat
  | .hbm => 222
  | .vmem => 0
  | .smem => 0
  | _ => 0

abbrev hbmTy0_0 (i : Nat) : BufTy := match i % 128 with
  | 0 => ⟨S4096x10240, .f32⟩
  | 1 => ⟨S4096x512, .f32⟩
  | 2 => ⟨S4096x512, .f32⟩
  | 3 => ⟨S4096x1536, .f32⟩
  | 4 => ⟨S1x4096x3x8x64, .f32⟩
  | 5 => ⟨S1x4096x1x8x64, .f32⟩
  | 6 => ⟨S1x4096x8x64, .f32⟩
  | 7 => ⟨S1x4096x1x8x64, .f32⟩
  | 8 => ⟨S1x4096x8x64, .f32⟩
  | 9 => ⟨S1x4096x1x8x64, .f32⟩
  | 10 => ⟨S1x4096x8x64, .f32⟩
  | 11 => ⟨S_, .i32⟩
  | 12 => ⟨S_, .f32⟩
  | 13 => ⟨S1x4096x8x64, .f32⟩
  | 14 => ⟨S_, .f32⟩
  | 15 => ⟨S1x8x128x4x8x64, .f32⟩
  | 16 => ⟨S_, .i32⟩
  | 17 => ⟨S_, .f32⟩
  | 18 => ⟨S1x4096x8x64, .f32⟩
  | 19 => ⟨S_, .f32⟩
  | 20 => ⟨S1x8x128x4x8x64, .f32⟩
  | 21 => ⟨S1x1x128x4x8x64, .f32⟩
  | 22 => ⟨S_, .f32⟩
  | 23 => ⟨S1x1x128x4x8x64, .f32⟩
  | 24 => ⟨S1x7x128x4x8x64, .f32⟩
  | 25 => ⟨S1x8x128x4x8x64, .f32⟩
  | 26 => ⟨S_, .f32⟩
  | 27 => ⟨S1x1x128x4x8x64, .f32⟩
  | 28 => ⟨S1x8x256x4x8x64, .f32⟩
  | 29 => ⟨S_, .i32⟩
  | 30 => ⟨S_, .f32⟩
  | 31 => ⟨S1x4096x8x64, .f32⟩
  | 32 => ⟨S_, .f32⟩
  | 33 => ⟨S1x8x128x4x8x64, .f32⟩
  | 34 => ⟨S1x1x128x4x8x64, .f32⟩
  | 35 => ⟨S_, .f32⟩
  | 36 => ⟨S1x1x128x4x8x64, .f32⟩
  | 37 => ⟨S1x7x128x4x8x64, .f32⟩
  | 38 => ⟨S1x8x128x4x8x64, .f32⟩
  | 39 => ⟨S_, .f32⟩
  | 40 => ⟨S1x1x128x4x8x64, .f32⟩
  | 41 => ⟨S1x8x256x4x8x64, .f32⟩
  | 42 => ⟨S1x8x4x8x128x256, .f32⟩
  | 43 => ⟨S_, .f32⟩
  | 44 => ⟨S1x8x4x8x128x256, .f32⟩
  | 45 => ⟨S1x8x4x8x128x256, .f32⟩
  | 46 => ⟨S128, .i32⟩
  | 47 => ⟨S128x1, .i32⟩
  | 48 => ⟨S256, .i32⟩
  | 49 => ⟨S1x256, .i32⟩
  | 50 => ⟨S_, .i32⟩
  | 51 => ⟨S128x1, .i32⟩
  | 52 => ⟨S128x1, .i32⟩
  | 53 => ⟨S128x256, .i32⟩
  | 54 => ⟨S128x256, .i32⟩
  | 55 => ⟨S128x256, .i32⟩
  | 56 => ⟨S8, .i32⟩
  | 57 => ⟨S8x1, .i32⟩
  | 58 => ⟨S_, .i32⟩
  | 59 => ⟨S8x1, .i32⟩
  | 60 => ⟨S8x1, .i32⟩
  | 61 => ⟨S8x256, .i32⟩
  | 62 => ⟨S8x256, .i32⟩
  | 63 => ⟨S8x256, .i32⟩
  | 64 => ⟨S_, .i32⟩
  | 65 => ⟨S8x256, .i32⟩
  | 66 => ⟨S8x256, .i32⟩
  | 67 => ⟨S_, .i32⟩
  | 68 => ⟨S128x256, .i32⟩
  | 69 => ⟨S128x256, .i1⟩
  | 70 => ⟨S_, .i32⟩
  | 71 => ⟨S128x256, .i32⟩
  | 72 => ⟨S128x256, .i1⟩
  | 73 => ⟨S128x256, .i1⟩
  | 74 => ⟨S1x128x256, .i1⟩
  | 75 => ⟨S_, .i32⟩
  | 76 => ⟨S8x256, .i32⟩
  | 77 => ⟨S8x256, .i1⟩
  | 78 => ⟨S8x1x256, .i1⟩
  | 79 => ⟨S8x128x256, .i1⟩
  | 80 => ⟨S8x128x256, .i1⟩
  | 81 => ⟨S8x128x256, .i1⟩
  | 82 => ⟨S1x8x1x1x128x256, .i1⟩
  | 83 => ⟨S_, .f32⟩
  | 84 => ⟨S_, .f32⟩
  | 85 => ⟨S1x8x4x8x128x256, .i1⟩
  | 86 => ⟨S1x8x4x8x128x256, .f32⟩
  | 87 => ⟨S1x8x4x8x128x256, .f32⟩
  | 88 => ⟨S_, .f32⟩
  | 89 => ⟨S1x8x4x8x128x256, .f32⟩
  | 90 => ⟨S_, .f32⟩
  | 91 => ⟨S1x8x4x8x128, .f32⟩
  | 92 => ⟨S1x8x4x8x128x1, .f32⟩
  | 93 => ⟨S1x8x4x8x128x256, .f32⟩
  | 94 => ⟨S1x8x4x8x128x256, .i1⟩
  | 95 => ⟨S1x8x4x8x128x256, .f32⟩
  | 96 => ⟨S_, .f32⟩
  | 97 => ⟨S1x8x4x8x128, .f32⟩
  | 98 => ⟨S1x8x4x8x128x1, .f32⟩
  | 99 => ⟨S1x8x4x8x128x256, .f32⟩
  | 100 => ⟨S1x8x4x8x128x256, .f32⟩
  | 101 => ⟨S1x8x4x8x128x256, .f32⟩
  | 102 => ⟨S_, .f32⟩
  | 103 => ⟨S1x8x4x8x128, .f32⟩
  | 104 => ⟨S1x8x4x8x64x128, .f32⟩
  | 105 => ⟨S1x8x128x4x8x64, .f32⟩
  | 106 => ⟨S1x8x128x4x8, .f32⟩
  | 107 => ⟨S1x8x128x4x8x1, .f32⟩
  | 108 => ⟨S1x8x128x4x8x64, .f32⟩
  | 109 => ⟨S1x8x128x4x8x64, .f32⟩
  | 110 => ⟨S1x8x128x4x8x1, .f32⟩
  | 111 => ⟨S_, .f32⟩
  | 112 => ⟨S1x8x128x4x8x1, .f32⟩
  | 113 => ⟨S1x8x128x4x8x1, .f32⟩
  | 114 => ⟨S1x4096x8x64, .f32⟩
  | 115 => ⟨S1x8x4x8x128, .f32⟩
  | 116 => ⟨S1x8x128x4x8, .f32⟩
  | 117 => ⟨S1x8x128x4x8, .f32⟩
  | 118 => ⟨S1x8x128x4x8, .f32⟩
  | 119 => ⟨S1x4096x8, .f32⟩
  | 120 => ⟨S1x4096x8x1, .f32⟩
  | 121 => ⟨S1x4096x8x64, .f32⟩
  | 122 => ⟨S4096x512, .f32⟩
  | 123 => ⟨S4096x512, .f32⟩
  | 124 => ⟨S1x4096x8x64, .f32⟩
  | 125 => ⟨S1x4096x8x64, .f32⟩
  | 126 => ⟨S_, .f32⟩
  | 127 => ⟨S4096x8, .f32⟩
  | _ => ⟨S4096x10240, .f32⟩

abbrev hbmTy0_1 (i : Nat) : BufTy := match i % 128 with
  | 0 => ⟨S1x4096x8x1, .f32⟩
  | 1 => ⟨S_, .f32⟩
  | 2 => ⟨S4096x8, .f32⟩
  | 3 => ⟨S1x4096x8, .f32⟩
  | 4 => ⟨S1x8x128x4x8, .f32⟩
  | 5 => ⟨S1x8x128x4x8, .f32⟩
  | 6 => ⟨S1x8x4x8x128, .f32⟩
  | 7 => ⟨S1x8x4x8x128x1, .f32⟩
  | 8 => ⟨S1x8x128x4x8x64, .f32⟩
  | 9 => ⟨S1x8x128x4x8x64, .f32⟩
  | 10 => ⟨S1x8x128x4x8x64, .f32⟩
  | 11 => ⟨S1x8x128x4x8x64, .f32⟩
  | 12 => ⟨S_, .f32⟩
  | 13 => ⟨S1x8x128x4x8, .f32⟩
  | 14 => ⟨S1x8x128x4x8x1, .f32⟩
  | 15 => ⟨S1x8x128x4x8x1, .f32⟩
  | 16 => ⟨S1x8x128x4x8x64, .f32⟩
  | 17 => ⟨S1x8x128x4x8x64, .f32⟩
  | 18 => ⟨S_, .f32⟩
  | 19 => ⟨S8x128x4x8, .f32⟩
  | 20 => ⟨S1x8x128x4x8, .f32⟩
  | 21 => ⟨S1x8x128x4x8, .f32⟩
  | 22 => ⟨S1x8x4x8x128, .f32⟩
  | 23 => ⟨S1x8x4x8x64x128, .f32⟩
  | 24 => ⟨S1x8x4x8x128x256, .f32⟩
  | 25 => ⟨S1x8x4x8x64x256, .f32⟩
  | 26 => ⟨S1x8x256x4x8x64, .f32⟩
  | 27 => ⟨S1x8x4x8x128x256, .f32⟩
  | 28 => ⟨S1x8x4x8x128x256, .f32⟩
  | 29 => ⟨S1x8x4x8x128x256, .f32⟩
  | 30 => ⟨S1x8x4x8x128x256, .f32⟩
  | 31 => ⟨S_, .f32⟩
  | 32 => ⟨S1x8x4x8x128, .f32⟩
  | 33 => ⟨S1x8x4x8x128x1, .f32⟩
  | 34 => ⟨S1x8x4x8x128x1, .f32⟩
  | 35 => ⟨S_, .f32⟩
  | 36 => ⟨S8x4x8x128, .f32⟩
  | 37 => ⟨S1x8x4x8x128, .f32⟩
  | 38 => ⟨S1x8x4x8x128, .f32⟩
  | 39 => ⟨S1x8x4x8x128x256, .f32⟩
  | 40 => ⟨S1x8x4x8x128x256, .f32⟩
  | 41 => ⟨S1x8x4x8x128x256, .f32⟩
  | 42 => ⟨S_, .f32⟩
  | 43 => ⟨S1x8x4x8x128x256, .f32⟩
  | 44 => ⟨S1x8x4x8x128x256, .f32⟩
  | 45 => ⟨S_, .f32⟩
  | 46 => ⟨S1x8x4x8x128x256, .f32⟩
  | 47 => ⟨S1x8x4x8x128x256, .f32⟩
  | 48 => ⟨S1x8x4x8x256x64, .f32⟩
  | 49 => ⟨S1x8x256x4x8x64, .f32⟩
  | 50 => ⟨S1x8x4x8x128x64, .f32⟩
  | 51 => ⟨S1x8x128x4x8x64, .f32⟩
  | 52 => ⟨S1x8x128x4x8x64, .f32⟩
  | 53 => ⟨S1x8x128x4x8x64, .f32⟩
  | 54 => ⟨S1x1x128x4x8x64, .f32⟩
  | 55 => ⟨S1x7x128x4x8x64, .f32⟩
  | 56 => ⟨S_, .f32⟩
  | 57 => ⟨S1x8x128x4x8x64, .f32⟩
  | 58 => ⟨S1x8x128x4x8x64, .f32⟩
  | 59 => ⟨S1x4096x8x64, .f32⟩
  | 60 => ⟨S_, .f32⟩
  | 61 => ⟨S1x4096x8x64, .f32⟩
  | 62 => ⟨S1x4096x8x64, .f32⟩
  | 63 => ⟨S1x8x128x4x8x64, .f32⟩
  | 64 => ⟨S1x8x128x4x8x64, .f32⟩
  | 65 => ⟨S1x1x128x4x8x64, .f32⟩
  | 66 => ⟨S1x7x128x4x8x64, .f32⟩
  | 67 => ⟨S_, .f32⟩
  | 68 => ⟨S1x8x128x4x8x64, .f32⟩
  | 69 => ⟨S1x8x128x4x8x64, .f32⟩
  | 70 => ⟨S1x4096x8x64, .f32⟩
  | 71 => ⟨S_, .f32⟩
  | 72 => ⟨S1x4096x8x64, .f32⟩
  | 73 => ⟨S1x4096x8x64, .f32⟩
  | 74 => ⟨S1x4096x8x64, .f32⟩
  | 75 => ⟨S_, .f32⟩
  | 76 => ⟨S1x4096x8x64, .f32⟩
  | 77 => ⟨S1x4096x8x64, .f32⟩
  | 78 => ⟨S1x4096x1x8x64, .f32⟩
  | 79 => ⟨S_, .f32⟩
  | 80 => ⟨S1x4096x3x8x64, .f32⟩
  | 81 => ⟨S1x4096x1x8x64, .f32⟩
  | 82 => ⟨S_, .f32⟩
  | 83 => ⟨S1x4096x3x8x64, .f32⟩
  | 84 => ⟨S1x4096x3x8x64, .f32⟩
  | 85 => ⟨S1x4096x1x8x64, .f32⟩
  | 86 => ⟨S_, .f32⟩
  | 87 => ⟨S1x4096x3x8x64, .f32⟩
  | 88 => ⟨S1x4096x3x8x64, .f32⟩
  | 89 => ⟨S4096x1536, .f32⟩
  | 90 => ⟨S4096x1536, .bf16⟩
  | 91 => ⟨S4096x512, .bf16⟩
  | 92 => ⟨S4096x512, .bf16⟩
  | 93 => ⟨S4096x512, .bf16⟩
  | _ => ⟨S4096x10240, .f32⟩

abbrev hbmTy (i : Nat) : BufTy := match i / 128 with
  | 0 => hbmTy0_0 i
  | 1 => hbmTy0_1 i
  | _ => ⟨S4096x10240, .f32⟩

abbrev bufTy : (tb : Table) → Fin (tcTables nBuf tb) → BufTy
  | .hbm, ⟨i, _⟩ => hbmTy i
  | _, _ => ⟨S4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_call2_v0 : Ref sig .tc := ⟨.hbm, 30, rfl⟩
abbrev main_v18_0 : Ref sig .tc := ⟨.hbm, 31, rfl⟩
abbrev main_v18_1 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_call3_v0 : Ref sig .tc := ⟨.hbm, 84, rfl⟩
abbrev main_v60_1 : Ref sig .tc := ⟨.hbm, 85, rfl⟩
abbrev main_call3_v2 : Ref sig .tc := ⟨.hbm, 86, rfl⟩
abbrev main_v60_0 : Ref sig .tc := ⟨.hbm, 87, rfl⟩
abbrev main_call3_cst : Ref sig .tc := ⟨.hbm, 88, rfl⟩
abbrev main_v60_2 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_16 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_17 : Ref sig .tc := ⟨.hbm, 126, rfl⟩
abbrev main_v93 : Ref sig .tc := ⟨.hbm, 127, rfl⟩
abbrev main_v94 : Ref sig .tc := ⟨.hbm, 128, rfl⟩
abbrev main_cst_18 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_19 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_20 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_21 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_22 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_call4_cst : Ref sig .tc := ⟨.hbm, 170, rfl⟩
abbrev main_call4_v0 : Ref sig .tc := ⟨.hbm, 171, rfl⟩
abbrev main_v131 : Ref sig .tc := ⟨.hbm, 172, rfl⟩
abbrev main_cst_23 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_24 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_call5_cst : Ref sig .tc := ⟨.hbm, 188, rfl⟩
abbrev main_call5_v0 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_25 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_call6_cst : Ref sig .tc := ⟨.hbm, 199, rfl⟩
abbrev main_call6_v0 : Ref sig .tc := ⟨.hbm, 200, rfl⟩
abbrev main_v153 : Ref sig .tc := ⟨.hbm, 201, rfl⟩
abbrev main_v154 : Ref sig .tc := ⟨.hbm, 202, rfl⟩
abbrev main_call7_cst : Ref sig .tc := ⟨.hbm, 203, rfl⟩
abbrev main_call7_v0 : Ref sig .tc := ⟨.hbm, 204, rfl⟩
abbrev main_v155 : Ref sig .tc := ⟨.hbm, 205, rfl⟩
abbrev main_v156 : Ref sig .tc := ⟨.hbm, 206, rfl⟩
abbrev main_cst_26 : Ref sig .tc := ⟨.hbm, 207, rfl⟩
abbrev main_v157 : Ref sig .tc := ⟨.hbm, 208, rfl⟩
abbrev main_v158 : Ref sig .tc := ⟨.hbm, 209, rfl⟩
abbrev main_cst_27 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_cst_28 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩

abbrev nD : Nat := 1
abbrev τ : Topo := Topo.v7x

variable {F : FTy → Type} [FloatOps F]
-- ==== Proj.lean ====
abbrev S4096x1024 : Shape := ⟨2, ![4096, 1024]⟩
abbrev S10240x1024 : Shape := ⟨2, ![10240, 1024]⟩
abbrev S4096x10240 : Shape := ⟨2, ![4096, 10240]⟩
abbrev S1024x1024 : Shape := ⟨2, ![1024, 1024]⟩
abbrev S2048x1024 : Shape := ⟨2, ![2048, 1024]⟩
abbrev S1024x2048 : Shape := ⟨2, ![1024, 2048]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S10240x1024, .bf16⟩
  | .hbm, ⟨2, _⟩ => ⟨S4096x10240, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S10240x1024 : Shape := ⟨2, ![10240, 1024]⟩
abbrev S1024x10240 : Shape := ⟨2, ![1024, 10240]⟩
abbrev S4096x10240 : Shape := ⟨2, ![4096, 10240]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S10240x1024, .bf16⟩
  | .hbm, ⟨2, _⟩ => ⟨S4096x1024, .f32⟩
  | .hbm, ⟨3, _⟩ => ⟨S10240x1024, .f32⟩
  | .hbm, ⟨4, _⟩ => ⟨S1024x10240, .f32⟩
  | .hbm, ⟨5, _⟩ => ⟨S4096x10240, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjDx.lean ====
abbrev S4096x10240 : Shape := ⟨2, ![4096, 10240]⟩
abbrev S10240x1024 : Shape := ⟨2, ![10240, 1024]⟩
abbrev S4096x1024 : Shape := ⟨2, ![4096, 1024]⟩
abbrev S1024x2560 : Shape := ⟨2, ![1024, 2560]⟩
abbrev S2560x1024 : Shape := ⟨2, ![2560, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x10240, .bf16⟩
  | .hbm, ⟨1, _⟩ => ⟨S10240x1024, .bf16⟩
  | .hbm, ⟨2, _⟩ => ⟨S4096x1024, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S4096x10240 : Shape := ⟨2, ![4096, 10240]⟩
abbrev S10240x1024 : Shape := ⟨2, ![10240, 1024]⟩
abbrev S_ : Shape := ⟨0, ![]⟩
abbrev S4096x1024 : Shape := ⟨2, ![4096, 1024]⟩
abbrev S1024x10240 : Shape := ⟨2, ![1024, 10240]⟩

abbrev nBuf : Space → Nat
  | .hbm => 9
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S10240x1024, .bf16⟩
  | .hbm, ⟨2, _⟩ => ⟨S_, .f32⟩
  | .hbm, ⟨3, _⟩ => ⟨S4096x1024, .f32⟩
  | .hbm, ⟨4, _⟩ => ⟨S10240x1024, .f32⟩
  | .hbm, ⟨5, _⟩ => ⟨S1024x10240, .f32⟩
  | .hbm, ⟨6, _⟩ => ⟨S4096x10240, .f32⟩
  | .hbm, ⟨7, _⟩ => ⟨S4096x10240, .f32⟩
  | .hbm, ⟨8, _⟩ => ⟨S4096x1024, .f32⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjDw.lean ====
abbrev S4096x10240 : Shape := ⟨2, ![4096, 10240]⟩
abbrev S4096x1024 : Shape := ⟨2, ![4096, 1024]⟩
abbrev S10240x1024 : Shape := ⟨2, ![10240, 1024]⟩
abbrev S4096x1280 : Shape := ⟨2, ![4096, 1280]⟩
abbrev S1280x1024 : Shape := ⟨2, ![1280, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x10240, .bf16⟩
  | .hbm, ⟨1, _⟩ => ⟨S4096x1024, .bf16⟩
  | .hbm, ⟨2, _⟩ => ⟨S10240x1024, .bf16⟩
  | .local _ .vmem, ⟨0, _⟩ => ⟨S4096x1280, .bf16⟩
  | .local _ .vmem, ⟨1, _⟩ => ⟨S4096x1280, .bf16⟩
  | .local _ .vmem, ⟨2, _⟩ => ⟨S4096x1024, .bf16⟩
  | .local _ .vmem, ⟨3, _⟩ => ⟨S1280x1024, .bf16⟩
  | .local _ .vmem, ⟨4, _⟩ => ⟨S1280x1024, .bf16⟩
  | .local _ .vmem, ⟨5, _⟩ => ⟨S8x128, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S4096x10240 : Shape := ⟨2, ![4096, 10240]⟩
abbrev S4096x1024 : Shape := ⟨2, ![4096, 1024]⟩
abbrev S_ : Shape := ⟨0, ![]⟩
abbrev S1024x10240 : Shape := ⟨2, ![1024, 10240]⟩
abbrev S10240x1024 : Shape := ⟨2, ![10240, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S4096x1024, .bf16⟩
  | .hbm, ⟨2, _⟩ => ⟨S_, .f32⟩
  | .hbm, ⟨3, _⟩ => ⟨S1024x10240, .f32⟩
  | .hbm, ⟨4, _⟩ => ⟨S4096x1024, .f32⟩
  | .hbm, ⟨5, _⟩ => ⟨S4096x10240, .f32⟩
  | .hbm, ⟨6, _⟩ => ⟨S4096x10240, .f32⟩
  | .hbm, ⟨7, _⟩ => ⟨S10240x1024, .f32⟩
  | .hbm, ⟨8, _⟩ => ⟨S1024x10240, .f32⟩
  | .hbm, ⟨9, _⟩ => ⟨S10240x1024, .f32⟩
  | .hbm, ⟨10, _⟩ => ⟨S10240x1024, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Up.lean ====
abbrev S4096x1024 : Shape := ⟨2, ![4096, 1024]⟩
abbrev S5632x1024 : Shape := ⟨2, ![5632, 1024]⟩
abbrev S4096x5632 : Shape := ⟨2, ![4096, 5632]⟩
abbrev S1024x1024 : Shape := ⟨2, ![1024, 1024]⟩
abbrev S1408x1024 : Shape := ⟨2, ![1408, 1024]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S5632x1024 : Shape := ⟨2, ![5632, 1024]⟩
abbrev S1024x5632 : Shape := ⟨2, ![1024, 5632]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S1024x5632, .f32⟩
  | .hbm, ⟨5, _⟩ => ⟨S4096x5632, .f32⟩
  | .hbm, ⟨6, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpDx.lean ====
abbrev S4096x5632 : Shape := ⟨2, ![4096, 5632]⟩
abbrev S5632x1024 : Shape := ⟨2, ![5632, 1024]⟩
abbrev S4096x1024 : Shape := ⟨2, ![4096, 1024]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x5632 : Shape := ⟨2, ![4096, 5632]⟩
abbrev S5632x1024 : Shape := ⟨2, ![5632, 1024]⟩
abbrev S_ : Shape := ⟨0, ![]⟩
abbrev S4096x1024 : Shape := ⟨2, ![4096, 1024]⟩
abbrev S1024x5632 : Shape := ⟨2, ![1024, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S_, .f32⟩
  | .hbm, ⟨3, _⟩ => ⟨S4096x1024, .f32⟩
  | .hbm, ⟨4, _⟩ => ⟨S5632x1024, .f32⟩
  | .hbm, ⟨5, _⟩ => ⟨S1024x5632, .f32⟩
  | .hbm, ⟨6, _⟩ => ⟨S4096x5632, .f32⟩
  | .hbm, ⟨7, _⟩ => ⟨S4096x5632, .f32⟩
  | .hbm, ⟨8, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDw.lean ====
abbrev S4096x5632 : Shape := ⟨2, ![4096, 5632]⟩
abbrev S4096x1024 : Shape := ⟨2, ![4096, 1024]⟩
abbrev S5632x1024 : Shape := ⟨2, ![5632, 1024]⟩
abbrev S4096x1408 : Shape := ⟨2, ![4096, 1408]⟩
abbrev S1408x1024 : Shape := ⟨2, ![1408, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | .local _ .vmem, ⟨5, _⟩ => ⟨S8x128, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownDx.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S1408x1024 : Shape := ⟨2, ![1408, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | .local _ .vmem, ⟨5, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Mix.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixDx.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixDw.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | .local _ .vmem, ⟨3, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Rw.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RwRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RwDx.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RwDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RwDw.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | .local _ .vmem, ⟨3, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RwDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttOut.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttOutRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S512x1024, .f32⟩
  | .hbm, ⟨4, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttOutDx.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttOutDxRefIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttOutDw.lean ====
abbrev S4096x512 : Shape := ⟨2, ![4096, 512]⟩
abbrev S4096x1024 : Shape := ⟨2, ![4096, 1024]⟩
abbrev S512x1024 : Shape := ⟨2, ![512, 1024]⟩
abbrev S8x128 : Shape := ⟨2, ![8, 128]⟩

abbrev nBuf : Space → Nat
  | .hbm => 3
  | .vmem => 4
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S4096x512, .bf16⟩
  | .local _ .vmem, ⟨1, _⟩ => ⟨S4096x1024, .bf16⟩
  | .local _ .vmem, ⟨2, _⟩ => ⟨S512x1024, .bf16⟩
  | .local _ .vmem, ⟨3, _⟩ => ⟨S8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttOutDwRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gate.lean ====
abbrev S4096x10240 : Shape := ⟨2, ![4096, 10240]⟩
abbrev S1x1024 : Shape := ⟨2, ![1, 1024]⟩
abbrev S4096x1024 : Shape := ⟨2, ![4096, 1024]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x10240, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateRefIdeal.lean ====
abbrev S4096x10240 : Shape := ⟨2, ![4096, 10240]⟩
abbrev S1x1024 : Shape := ⟨2, ![1, 1024]⟩
abbrev S4096x1024 : Shape := ⟨2, ![4096, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x10240, .f32⟩
  | .hbm, ⟨1, _⟩ => ⟨S1x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | _, _ => ⟨S4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== GateDx.lean ====
abbrev S4096x1024 : Shape := ⟨2, ![4096, 1024]⟩
abbrev S4096x10240 : Shape := ⟨2, ![4096, 10240]⟩
abbrev S1x1024 : Shape := ⟨2, ![1, 1024]⟩
abbrev S512x1024 : Shape := ⟨2, ![512, 1024]⟩
abbrev S1024 : Shape := ⟨1, ![1024]⟩

abbrev nBuf : Space → Nat
  | .hbm => 12
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x10240, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v36 : BitVec 32 := Scalar.extui v0
  let c0_i32_23 : BitVec 32 := 0#32
  let v37 : BitVec 1 := Scalar.cmpi .ne v36 c0_i32_23
  v37

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v38 : BitVec 1 := Scalar.xori v0 v_true
  let v39 : BitVec 32 := Scalar.extui v38
  let c0_i32_24 : BitVec 32 := 0#32
  let v40 : BitVec 1 := Scalar.cmpi .ne v39 c0_i32_24
  v40

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v43 : BitVec 32 := Scalar.extui v0
  let c0_i32_26 : BitVec 32 := 0#32
  let v44 : BitVec 1 := Scalar.cmpi .ne v43 c0_i32_26
  v44

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_27 : BitVec 1 := 1#1
  let v45 : BitVec 1 := Scalar.xori v0 true_27
  let v46 : BitVec 32 := Scalar.extui v45
  let c0_i32_28 : BitVec 32 := 0#32
  let v47 : BitVec 1 := Scalar.cmpi .ne v46 c0_i32_28
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GateDxRefIdeal.lean ====
abbrev S4096x1024 : Shape := ⟨2, ![4096, 1024]⟩
abbrev S4096x10240 : Shape := ⟨2, ![4096, 10240]⟩
abbrev S1x1024 : Shape := ⟨2, ![1, 1024]⟩
abbrev S_ : Shape := ⟨0, ![]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x10240, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .bf16⟩
  | .hbm, ⟨54, _⟩ => ⟨S4096x1024, .bf16⟩
  | .hbm, ⟨55, _⟩ => ⟨S4096x1024, .bf16⟩
  | .hbm, ⟨56, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S4096x1 : Shape := ⟨2, ![4096, 1]⟩
abbrev S512x1024 : Shape := ⟨2, ![512, 1024]⟩
abbrev S512x1 : Shape := ⟨2, ![512, 1]⟩
abbrev S512 : Shape := ⟨1, ![512]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S4096x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1, .f32⟩
  | .local _ .vmem, ⟨8, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== AdaDw.lean ====
abbrev S8x1024 : Shape := ⟨2, ![8, 1024]⟩
abbrev S8x768 : Shape := ⟨2, ![8, 768]⟩
abbrev S1024x8 : Shape := ⟨2, ![1024, 8]⟩
abbrev S1024x768 : Shape := ⟨2, ![1024, 768]⟩
abbrev S1024x1 : Shape := ⟨2, ![1024, 1]⟩
abbrev S1x768 : Shape := ⟨2, ![1, 768]⟩

abbrev nBuf : Space → Nat
  | .hbm => 4
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1024x8, .f32⟩
  | .hbm, ⟨3, _⟩ => ⟨S1024x768, .f32⟩
  | .local _ .vmem, ⟨0, _⟩ => ⟨S1024x8, .f32⟩
  | .local _ .vmem, ⟨1, _⟩ => ⟨S8x768, .f32⟩
  | .local _ .vmem, ⟨2, _⟩ => ⟨S1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaDwRefIdeal.lean ====
abbrev S8x1024 : Shape := ⟨2, ![8, 1024]⟩
abbrev S8x768 : Shape := ⟨2, ![8, 768]⟩
abbrev S_ : Shape := ⟨0, ![]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S_, .f32⟩
  | .hbm, ⟨3, _⟩ => ⟨S1024x768, .f32⟩
  | .hbm, ⟨4, _⟩ => ⟨S8x768, .f32⟩
  | .hbm, ⟨5, _⟩ => ⟨S768x1024, .f32⟩
  | .hbm, ⟨6, _⟩ => ⟨S1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ada.lean ====
abbrev S8x1024 : Shape := ⟨2, ![8, 1024]⟩
abbrev S1024x768 : Shape := ⟨2, ![1024, 768]⟩
abbrev S8x768 : Shape := ⟨2, ![8, 768]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S8x768, .f32⟩
  | .local _ .vmem, ⟨0, _⟩ => ⟨S8x1024, .f32⟩
  | .local _ .vmem, ⟨1, _⟩ => ⟨S1024x768, .f32⟩
  | .local _ .vmem, ⟨2, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaRefIdeal.lean ====
abbrev S8x1024 : Shape := ⟨2, ![8, 1024]⟩
abbrev S1024x768 : Shape := ⟨2, ![1024, 768]⟩
abbrev S8x768 : Shape := ⟨2, ![8, 768]⟩

abbrev nBuf : Space → Nat
  | .hbm => 3
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x768, .f32⟩
  | .hbm, ⟨2, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== NormDx.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S512x1 : Shape := ⟨2, ![512, 1]⟩
abbrev S1024 : Shape := ⟨1, ![1024]⟩
abbrev S512 : Shape := ⟨1, ![512]⟩

abbrev nBuf : Space → Nat
  | .hbm => 20
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S1x1024, .f32⟩
  | .hbm, ⟨18, _⟩ => ⟨S1x1024, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v10 : BitVec 32 := Scalar.extui v0
  let c0_i32_7 : BitVec 32 := 0#32
  let v11 : BitVec 1 := Scalar.cmpi .ne v10 c0_i32_7
  v11

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v12 : BitVec 1 := Scalar.xori v0 v_true
  let v13 : BitVec 32 := Scalar.extui v12
  let c0_i32_8 : BitVec 32 := 0#32
  let v14 : BitVec 1 := Scalar.cmpi .ne v13 c0_i32_8
  v14

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v20 : BitVec 32 := Scalar.extui v0
  let c0_i32_10 : BitVec 32 := 0#32
  let v21 : BitVec 1 := Scalar.cmpi .ne v20 c0_i32_10
  v21

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_11 : BitVec 1 := 1#1
  let v22 : BitVec 1 := Scalar.xori v0 true_11
  let v23 : BitVec 32 := Scalar.extui v22
  let c0_i32_12 : BitVec 32 := 0#32
  let v24 : BitVec 1 := Scalar.cmpi .ne v23 c0_i32_12
  v24

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v33 : BitVec 32 := Scalar.extui v0
  let c0_i32_17 : BitVec 32 := 0#32
  let v34 : BitVec 1 := Scalar.cmpi .ne v33 c0_i32_17
  v34

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_18 : BitVec 1 := 1#1
  let v35 : BitVec 1 := Scalar.xori v0 true_18
  let v36 : BitVec 32 := Scalar.extui v35
  let c0_i32_19 : BitVec 32 := 0#32
  let v37 : BitVec 1 := Scalar.cmpi .ne v36 c0_i32_19
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormDxRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Norm2.lean ====
abbrev S4096x1024 : Shape := ⟨2, ![4096, 1024]⟩
abbrev S1x1024 : Shape := ⟨2, ![1, 1024]⟩
abbrev S4096x1 : Shape := ⟨2, ![4096, 1]⟩
abbrev S512x1024 : Shape := ⟨2, ![512, 1024]⟩
abbrev S512x1 : Shape := ⟨2, ![512, 1]⟩
abbrev S512 : Shape := ⟨1, ![512]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .hbm, ⟨8, _⟩ => ⟨S4096x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1, .f32⟩
  | .local _ .vmem, ⟨13, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Norm2RefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Norm2Dx.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S512x1 : Shape := ⟨2, ![512, 1]⟩
abbrev S1024 : Shape := ⟨1, ![1024]⟩
abbrev S512 : Shape := ⟨1, ![512]⟩

abbrev nBuf : Space → Nat
  | .hbm => 24
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S4096x1024, .bf16⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v10 : BitVec 32 := Scalar.extui v0
  let c0_i32_7 : BitVec 32 := 0#32
  let v11 : BitVec 1 := Scalar.cmpi .ne v10 c0_i32_7
  v11

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v12 : BitVec 1 := Scalar.xori v0 v_true
  let v13 : BitVec 32 := Scalar.extui v12
  let c0_i32_8 : BitVec 32 := 0#32
  let v14 : BitVec 1 := Scalar.cmpi .ne v13 c0_i32_8
  v14

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v20 : BitVec 32 := Scalar.extui v0
  let c0_i32_10 : BitVec 32 := 0#32
  let v21 : BitVec 1 := Scalar.cmpi .ne v20 c0_i32_10
  v21

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_11 : BitVec 1 := 1#1
  let v22 : BitVec 1 := Scalar.xori v0 true_11
  let v23 : BitVec 32 := Scalar.extui v22
  let c0_i32_12 : BitVec 32 := 0#32
  let v24 : BitVec 1 := Scalar.cmpi .ne v23 c0_i32_12
  v24

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v33 : BitVec 32 := Scalar.extui v0
  let c0_i32_17 : BitVec 32 := 0#32
  let v34 : BitVec 1 := Scalar.cmpi .ne v33 c0_i32_17
  v34

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_18 : BitVec 1 := 1#1
  let v35 : BitVec 1 := Scalar.xori v0 true_18
  let v36 : BitVec 32 := Scalar.extui v35
  let c0_i32_19 : BitVec 32 := 0#32
  let v37 : BitVec 1 := Scalar.cmpi .ne v36 c0_i32_19
  v37

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v62 : BitVec 32 := Scalar.extui v0
  let c0_i32_33 : BitVec 32 := 0#32
  let v63 : BitVec 1 := Scalar.cmpi .ne v62 c0_i32_33
  v63

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_34 : BitVec 1 := 1#1
  let v64 : BitVec 1 := Scalar.xori v0 true_34
  let v65 : BitVec 32 := Scalar.extui v64
  let c0_i32_35 : BitVec 32 := 0#32
  let v66 : BitVec 1 := Scalar.cmpi .ne v65 c0_i32_35
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Norm2DxRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamUp.lean ====
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamUpRefIdeal.lean ====
abbrev S8x704x1024 : Shape := ⟨3, ![8, 704, 1024]⟩
abbrev S704x1024 : Shape := ⟨2, ![704, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== AdamDown.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDownRefIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== AdamAtt.lean ====
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x512x128, .bf16⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamAttRefIdeal.lean ====
abbrev S8x512x128 : Shape := ⟨3, ![8, 512, 128]⟩
abbrev S512x128 : Shape := ⟨2, ![512, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== AdamIn.lean ====
abbrev S8x1252x1024 : Shape := ⟨3, ![8, 1252, 1024]⟩
abbrev S1252x1024 : Shape := ⟨2, ![1252, 1024]⟩
abbrev S8x1252x256 : Shape := ⟨3, ![8, 1252, 256]⟩
abbrev S1252x256 : Shape := ⟨2, ![1252, 256]⟩
abbrev S1x1252x256 : Shape := ⟨3, ![1, 1252, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1252x1024, .bf16⟩
  | .hbm, ⟨1, _⟩ => ⟨S1252x1024, .f32⟩
  | .hbm, ⟨2, _⟩ => ⟨S1252x1024, .f32⟩
  | .hbm, ⟨3, _⟩ => ⟨S1252x1024, .f32⟩
  | .hbm, ⟨4, _⟩ => ⟨S1252x1024, .f32⟩
  | .hbm, ⟨5, _⟩ => ⟨S1252x1024, .f32⟩
  | .hbm, ⟨6, _⟩ => ⟨S1252x1024, .f32⟩
  | .hbm, ⟨7, _⟩ => ⟨S1252x1024, .f32⟩
  | .local _ .vmem, ⟨0, _⟩ => ⟨S8x1252x256, .bf16⟩
  | .local _ .vmem, ⟨1, _⟩ => ⟨S8x1252x256, .bf16⟩
  | .local _ .vmem, ⟨2, _⟩ => ⟨S1252x256, .f32⟩
  | .local _ .vmem, ⟨3, _⟩ => ⟨S1252x256, .f32⟩
  | .local _ .vmem, ⟨4, _⟩ => ⟨S1252x256, .f32⟩
  | .local _ .vmem, ⟨5, _⟩ => ⟨S1252x256, .f32⟩
  | .local _ .vmem, ⟨6, _⟩ => ⟨S1252x256, .f32⟩
  | .local _ .vmem, ⟨7, _⟩ => ⟨S1252x256, .f32⟩
  | .local _ .vmem, ⟨8, _⟩ => ⟨S1252x256, .f32⟩
  | .local _ .vmem, ⟨9, _⟩ => ⟨S1252x256, .f32⟩
  | .local _ .vmem, ⟨10, _⟩ => ⟨S1252x256, .f32⟩
  | .local _ .vmem, ⟨11, _⟩ => ⟨S1252x256, .f32⟩
  | .local _ .vmem, ⟨12, _⟩ => ⟨S1252x256, .f32⟩
  | .local _ .vmem, ⟨13, _⟩ => ⟨S1252x256, .f32⟩
  | .local _ .vmem, ⟨14, _⟩ => ⟨S1252x256, .f32⟩
  | .local _ .vmem, ⟨15, _⟩ => ⟨S1252x256, .f32⟩
  | _, _ => ⟨S8x1252x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x1252x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1252x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1252x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1252x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1252x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1252x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1252x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1252x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S8x1252x1024 : Shape := ⟨3, ![8, 1252, 1024]⟩
abbrev S1252x1024 : Shape := ⟨2, ![1252, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x1252x1024, .bf16⟩
  | .hbm, ⟨1, _⟩ => ⟨S1252x1024, .f32⟩
  | .hbm, ⟨2, _⟩ => ⟨S1252x1024, .f32⟩
  | .hbm, ⟨3, _⟩ => ⟨S1252x1024, .f32⟩
  | .hbm, ⟨4, _⟩ => ⟨S8x1252x1024, .f32⟩
  | .hbm, ⟨5, _⟩ => ⟨S_, .f32⟩
  | .hbm, ⟨6, _⟩ => ⟨S1252x1024, .f32⟩
  | .hbm, ⟨7, _⟩ => ⟨S_, .f32⟩
  | .hbm, ⟨8, _⟩ => ⟨S1252x1024, .f32⟩
  | .hbm, ⟨9, _⟩ => ⟨S1252x1024, .f32⟩
  | .hbm, ⟨10, _⟩ => ⟨S_, .f32⟩
  | .hbm, ⟨11, _⟩ => ⟨S1252x1024, .f32⟩
  | .hbm, ⟨12, _⟩ => ⟨S1252x1024, .f32⟩
  | .hbm, ⟨13, _⟩ => ⟨S1252x1024, .f32⟩
  | .hbm, ⟨14, _⟩ => ⟨S_, .f32⟩
  | .hbm, ⟨15, _⟩ => ⟨S1252x1024, .f32⟩
  | .hbm, ⟨16, _⟩ => ⟨S1252x1024, .f32⟩
  | .hbm, ⟨17, _⟩ => ⟨S1252x1024, .f32⟩
  | .hbm, ⟨18, _⟩ => ⟨S_, .f32⟩
  | .hbm, ⟨19, _⟩ => ⟨S1252x1024, .f32⟩
  | .hbm, ⟨20, _⟩ => ⟨S1252x1024, .f32⟩
  | .hbm, ⟨21, _⟩ => ⟨S1252x1024, .f32⟩
  | _, _ => ⟨S8x1252x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Proof.Product.lean ====
/-
  A product of two matrices over the extended reals, read at one entry, for the three ways the step contracts: `nn`
  (rows by columns), `nt` (rows by rows) and `tn` (columns by columns).
-/
module

public import Idealize.ShloMosaic.PureOps.Ideal
public import Idealize.ShloMosaic.Lib.ValueIdxCore

@[expose] public section

noncomputable section

namespace Cert.Product

open Idealize.ShloMosaic Idealize.ShloMosaic.ValueIdx

variable {K M N : ℕ}

/-- Columns by columns: entry `(i, j)` is the sum over the shared row `k` of `A k i * B k j`. -/
theorem tn_apply (d : DotDims ⟨2, ![K, M]⟩ ⟨2, ![K, N]⟩ ⟨2, ![M, N]⟩)
    (h1 : d.lhsContracting = [0]) (h2 : d.rhsContracting = [0]) (h3 : d.lhsNonContracting = [1])
    (h4 : d.rhsNonContracting = [1]) (h5 : d.lhsBatch = []) (h6 : d.rhsBatch = [])
    (A : Shape.Idx ⟨2, ![K, M]⟩ → EReal) (B : Shape.Idx ⟨2, ![K, N]⟩ → EReal) (acc : Shape.Idx ⟨2, ![M, N]⟩ → EReal)
    (j : Shape.Idx ⟨2, ![M, N]⟩) :
    Ideal.matmul d A B acc j = acc j + ∑ k : Fin K, A (ix2 k (j 0)) * B (ix2 k (j 1)) := by
  obtain ⟨lc, rc, ln, rn, lb, rb, wf⟩ := d
  subst h1 h2 h3 h4 h5 h6
  unfold Ideal.matmul
  congr 1
  refine (Equiv.sum_comp (contrEquiv1 _ K rfl rfl).symm _).symm.trans ?_
  refine Finset.sum_congr rfl fun k _ => ?_
  congr 1
  · congr 1; funext a; apply Fin.ext
    match a with
    | ⟨0, _⟩ => simp [DotDims.lhsIdx]; rfl
    | ⟨1, _⟩ => simp [DotDims.lhsIdx]; rfl
  · congr 1; funext a; apply Fin.ext
    match a with
    | ⟨0, _⟩ => simp [DotDims.rhsIdx]; rfl
    | ⟨1, _⟩ => simp [DotDims.rhsIdx]; rfl

/-- Rows by rows: entry `(i, j)` is the sum over the shared column `k` of `A i k * B j k`. -/
theorem nt_apply (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (A : Shape.Idx ⟨2, ![M, K]⟩ → EReal) (B : Shape.Idx ⟨2, ![N, K]⟩ → EReal) (acc : Shape.Idx ⟨2, ![M, N]⟩ → EReal)
    (j : Shape.Idx ⟨2, ![M, N]⟩) :
    Ideal.matmul d A B acc j = acc j + ∑ k : Fin K, A (ix2 (j 0) k) * B (ix2 (j 1) k) := by
  obtain ⟨lc, rc, ln, rn, lb, rb, wf⟩ := d
  subst h1 h2 h3 h4 h5 h6
  unfold Ideal.matmul
  congr 1
  refine (Equiv.sum_comp (contrEquiv1 _ K rfl rfl).symm _).symm.trans ?_
  refine Finset.sum_congr rfl fun k _ => ?_
  congr 1
  · congr 1; funext a; apply Fin.ext
    match a with
    | ⟨0, _⟩ => simp [DotDims.lhsIdx]; rfl
    | ⟨1, _⟩ => simp [DotDims.lhsIdx]; rfl
  · congr 1; funext a; apply Fin.ext
    match a with
    | ⟨0, _⟩ => simp [DotDims.rhsIdx]; rfl
    | ⟨1, _⟩ => simp [DotDims.rhsIdx]; rfl

/-- Rows by columns: entry `(i, j)` is the sum over `k` of `A i k * B k j`. -/
theorem nn_apply (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (A : Shape.Idx ⟨2, ![M, K]⟩ → EReal) (B : Shape.Idx ⟨2, ![K, N]⟩ → EReal) (acc : Shape.Idx ⟨2, ![M, N]⟩ → EReal)
    (j : Shape.Idx ⟨2, ![M, N]⟩) :
    Ideal.matmul d A B acc j = acc j + ∑ k : Fin K, A (ix2 (j 0) k) * B (ix2 k (j 1)) := by
  obtain ⟨lc, rc, ln, rn, lb, rb, wf⟩ := d
  subst h1 h2 h3 h4 h5 h6
  unfold Ideal.matmul
  congr 1
  refine (Equiv.sum_comp (contrEquiv1 _ K rfl rfl).symm _).symm.trans ?_
  refine Finset.sum_congr rfl fun k _ => ?_
  congr 1
  · congr 1; funext a; apply Fin.ext
    match a with
    | ⟨0, _⟩ => simp [DotDims.lhsIdx]; rfl
    | ⟨1, _⟩ => simp [DotDims.lhsIdx]; rfl
  · congr 1; funext a; apply Fin.ext
    match a with
    | ⟨0, _⟩ => simp [DotDims.rhsIdx]; rfl
    | ⟨1, _⟩ => simp [DotDims.rhsIdx]; rfl

/-- The array of `gm * tm` by `gn * tn` entries is tiled by its `gm * gn` blocks, numbered row by row: an entry lies in
    the block of that number. -/
theorem block_of (gm gn tm tn i j : ℕ) (hm : 0 < tm) (hn : 0 < tn) (hi : i < gm * tm) (hj : j < gn * tn) :
    ∃ _ : i / tm * gn + j / tn < gm * gn,
      (i / tm * gn + j / tn) / gn * tm ≤ i ∧ i < (i / tm * gn + j / tn) / gn * tm + tm
      ∧ (i / tm * gn + j / tn) % gn * tn ≤ j ∧ j < (i / tm * gn + j / tn) % gn * tn + tn := by
  have h1 : i / tm < gm := Nat.div_lt_of_lt_mul (by rwa [Nat.mul_comm])
  have h2 : j / tn < gn := Nat.div_lt_of_lt_mul (by rwa [Nat.mul_comm])
  have h3 : (i / tm * gn + j / tn) / gn = i / tm := by
    rw [Nat.add_comm, Nat.add_mul_div_right _ _ (Nat.lt_of_le_of_lt (Nat.zero_le _) h2), Nat.div_eq_of_lt h2, Nat.zero_add]
  have h4 : (i / tm * gn + j / tn) % gn = j / tn := by
    rw [Nat.add_comm, Nat.add_mul_mod_self_right, Nat.mod_eq_of_lt h2]
  rw [h3, h4]
  refine ⟨?_, Nat.div_mul_le_self _ _, Nat.lt_div_mul_add hm, Nat.div_mul_le_self _ _, Nat.lt_div_mul_add hn⟩
  calc i / tm * gn + j / tn < i / tm * gn + gn := by omega
    _ = (i / tm + 1) * gn := by rw [Nat.add_mul, Nat.one_mul]
    _ ≤ gm * gn := Nat.mul_le_mul_right _ h1

end Cert.Product

end
-- ==== Proof.Proj.lean ====
/-
  The input projection: the kernel `proj_in` takes the product rows by rows, in 4 by 5 blocks of 1024 by 2048,
  the reference in one piece. Both hold the same sum at every entry.
-/
module

public import proofs.«01_k».proof.Defs
public import proofs.«01_k».proof.Proof.Gen.ProjIdeal.Value
public import proofs.«01_k».proof.Proof.Gen.ProjRefIdeal
public import proofs.«01_k».proof.Proof.Gen.ProjRefIdeal.Run
public import proofs.«01_k».proof.Proof.Product
public import Idealize.ShloMosaic.Lib.Pipeline.Value
public import Idealize.ShloMosaic.Lib.Tactic

@[expose] public section

noncomputable section

namespace Cert.ProjIdeal.Sum

open Cert.ProjIdeal Cert.ProjIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves: the product of its two blocks. -/
theorem out_eq (c : Dev nD) (i : grid0.Coords) (a3 h3 a4 h4 a5 h5 a6 h6)
    (x0 : Vec Ideal S1024x1024 .bf16) (x1 : Vec Ideal S2048x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S1024x1024) hz, View.ld_unit_zero (S := S2048x1024) hz]

/-- Entry `(i, j)` of the result. -/
def G (A : S4096x1024.Idx → EReal) (B : S10240x1024.Idx → EReal) : S4096x10240.Idx → EReal :=
  fun i => ∑ k : Fin 1024, A (ix2 (i 0) k) * B (ix2 (i 1) k)

theorem pay_apply (x0 : Vec Ideal S1024x1024 .bf16) (x1 : Vec Ideal S2048x1024 .bf16) (y : S1024x2048.Idx) :
    (k0_pay1 x0 x1 : S1024x2048.Idx → EReal) y = ∑ k : Fin 1024, x0 (ix2 (y 0) k) * x1 (ix2 (y 1) k) := by
  show Ideal.matmul dot_S1024x1024_S2048x1024_S1024x2048_1_1_0_0_n_n x0 x1 (constant (F := Ideal) S1024x2048 .f32 0x00000000#32) y = _
  refine (Cert.Product.nt_apply (K := 1024) (M := 1024) (N := 2048) _ rfl rfl rfl rfl rfl rfl x0 x1 _ y).trans ?_
  rw [show (constant (F := Ideal) S1024x2048 .f32 0x00000000#32 : S1024x2048.Idx → EReal) y = 0 by
    simp [constant, Ideal.ofBits, Ideal.ieee], zero_add]

/-- Where the blocks of point `t` lie in the three arrays. -/
theorem idx_facts : ∀ t : Fin cfg0.N, win0_0.index t 0 = t.val / 5 ∧ win0_0.index t 1 = 0 ∧ win0_1.index t 0 = t.val % 5
    ∧ win0_1.index t 1 = 0 ∧ win0_2.index t 0 = t.val / 5 ∧ win0_2.index t 1 = t.val % 5 :=
  (by decide +kernel : ∀ t : Fin grid0.N, win0_0.index t 0 = t.val / 5 ∧ win0_0.index t 1 = 0 ∧ win0_1.index t 0 = t.val % 5
    ∧ win0_1.index t 1 = 0 ∧ win0_2.index t 0 = t.val / 5 ∧ win0_2.index t 1 = t.val % 5)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2_A, out_eq]
  obtain ⟨h00, h01, h10, h11, h20, h21⟩ := idx_facts t
  funext y
  show (k0_pay1 (iblk m c 0 t) (iblk m c 1 t) : S1024x2048.Idx → EReal) y = G (V m c main_arg0) (V m c main_arg1) (((cfg0.win 2).blk t).view.emb y)
  rw [pay_apply]
  unfold G
  refine Finset.sum_congr rfl fun k _ => ?_
  congr 1
  · show V m c main_arg0 (((cfg0.win 0).blk t).view.emb (ix2 (y 0) k)) = _
    congr 1; funext a; apply Fin.ext
    match a with
    | ⟨0, _⟩ => show win0_0.index t 0 * 1024 + 1 * (y 0).val = win0_2.index t 0 * 1024 + 1 * (y 0).val; omega
    | ⟨1, _⟩ => show win0_0.index t 1 * 1024 + 1 * k.val = k.val; omega
  · show V m c main_arg1 (((cfg0.win 1).blk t).view.emb (ix2 (y 1) k)) = _
    congr 1; funext a; apply Fin.ext
    match a with
    | ⟨0, _⟩ => show win0_1.index t 0 * 2048 + 1 * (y 1).val = win0_2.index t 1 * 2048 + 1 * (y 1).val; omega
    | ⟨1, _⟩ => show win0_1.index t 1 * 1024 + 1 * k.val = k.val; omega

theorem mem_blk (t : Fin cfg0.N) (i : S4096x10240.Idx)
    (h : t.val / 5 * 1024 ≤ (i 0 : Nat) ∧ (i 0 : Nat) < t.val / 5 * 1024 + 1024
      ∧ t.val % 5 * 2048 ≤ (i 1 : Nat) ∧ (i 1 : Nat) < t.val % 5 * 2048 + 2048) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [h20]; exact ⟨h.1, h.2.1⟩
  | ⟨1, _⟩ => show win0_2.index t 1 * 2048 ≤ (i 1 : Nat) ∧ (i 1 : Nat) < win0_2.index t 1 * 2048 + 2048
              rw [h21]; exact h.2.2

/-- Every entry is in some block. -/
theorem cover (i : S4096x10240.Idx) : ∃ t : Fin cfg0.N, (cfg0.win 2).flush t = true ∧ i ∈ ((cfg0.win 2).blk t).view.set := by
  have hN : cfg0.N = 4 * 5 := N_0
  obtain ⟨h, hb⟩ := Cert.Product.block_of 4 5 1024 2048 (i 0) (i 1) (by decide) (by decide) (i 0).isLt (i 1).isLt
  exact ⟨⟨_, hN ▸ h⟩, flush0_2 _, mem_blk _ i hb⟩

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

end Cert.ProjIdeal.Sum

namespace Cert.ProjRefIdeal.Sum

open Cert.ProjRefIdeal Cert.ProjRefIdeal.Gen Idealize.ShloMosaic Idealize.ShloMosaic.TcCoe Idealize.SL.Sem
open Idealize.ShloMosaic.ValueIdx

/-- The reference multiplies by the transposed weight: the same sum of its arguments. -/
theorem ref_eq (A : Vec Ideal S4096x1024 .bf16) (B : Vec Ideal S10240x1024 .bf16) :
    (Host.dotGeneral (F := Ideal) (φ₁ := .f32) (φ₂ := .f32) dot_S4096x1024_S1024x10240_S4096x10240_1_0_0_1_n_n none (extf .f32 A bitsLt_bf16_f32) (transpose S1024x10240 [1, 0] (extf .f32 B bitsLt_bf16_f32) transposes_S10240x1024_S1024x10240_1_0) : FVec Ideal S4096x10240 .f32) = Cert.ProjIdeal.Sum.G A B := by
  funext i
  refine (Cert.Product.nn_apply (K := 1024) (M := 4096) (N := 10240) dot_S4096x1024_S1024x10240_S4096x10240_1_0_0_1_n_n rfl rfl rfl rfl rfl rfl A
    (transpose S1024x10240 [1, 0] (B : S10240x1024.Idx → EReal) transposes_S10240x1024_S1024x10240_1_0) (fun _ => 0) i).trans ?_
  rw [zero_add]
  refine Finset.sum_congr rfl fun k _ => ?_
  congr 1
  show B _ = B _
  congr 1; funext a; apply Fin.ext
  match a with
  | ⟨0, _⟩ => simp [Shape.Transposes.src]; rfl
  | ⟨1, _⟩ => simp [Shape.Transposes.src]; rfl

end Cert.ProjRefIdeal.Sum

namespace Cert.Proof

open Idealize.ShloMosaic Idealize.ShloMosaic.TcCoe Idealize.SL.Sem

/-- The input projection: kernel and reference end with equal results. -/
theorem algebraic_proj_in : Cert.algebraic_ProjIdeal_ProjRefIdeal := by
  intro m ρ m' ρ' _ hag
  refine ⟨fun c => Cert.ProjIdeal.Sum.G (m ((c.tc : Thread Cert.ProjIdeal.nD Cert.ProjIdeal.τ).loc Cert.ProjIdeal.main_arg0)) (m ((c.tc : Thread Cert.ProjIdeal.nD Cert.ProjIdeal.τ).loc Cert.ProjIdeal.main_arg1)),
    (θ_run Cert.ProjIdeal.defs _ _).mono (fun _ h c => ⟨(h c).1.trans (Cert.ProjIdeal.Sum.final m c), (h c).2⟩) (Cert.ProjIdeal.Value.run_blocks (F := Ideal) m ρ),
    (θ_run Cert.ProjRefIdeal.defs _ _).mono (fun _ h c => ⟨?_, (h c).2⟩) (Cert.ProjRefIdeal.Value.run (F := Ideal) m' ρ')⟩
  refine (h c).1.trans ((Cert.ProjRefIdeal.Sum.ref_eq _ _).trans ?_)
  rw [(hag c).1, (hag c).2]

/-- The reference leaves its arguments as they were. -/
theorem frame_proj_in_ref : Cert.quiescent_ProjRefIdeal := by
  intro m ρ _
  exact (θ_run Cert.ProjRefIdeal.defs _ _).mono (fun r h => ⟨fun c => (h c).2,
      Idealize.ShloMosaic.sem_eq_zero_of_no_sems (by decide) r.2⟩)
    (Cert.ProjRefIdeal.Value.run (F := Ideal) m ρ)

end Cert.Proof

end
-- ==== Proof.ProjDx.lean ====
/-
  The gradient of the input projection’s input: the kernel `proj_in_dx` takes the product rows by columns in 4 blocks of 1024 rows, each over 4 shares of
  2560 of the shared index, which it adds up in a scratch array; the reference takes it in one piece. Both hold the same sum at
  every entry.
-/
module

public import proofs.«01_k».proof.Defs
public import proofs.«01_k».proof.Proof.Gen.ProjDxIdeal.Value
public import proofs.«01_k».proof.Proof.Gen.ProjDxRefIdeal
public import proofs.«01_k».proof.Proof.Gen.ProjDxRefIdeal.Run
public import proofs.«01_k».proof.Proof.Product
public import Idealize.ShloMosaic.Lib.Pipeline.Value
public import Idealize.ShloMosaic.Lib.Tactic

@[expose] public section

noncomputable section

namespace Cert.ProjDxIdeal.Sum

open Cert.ProjDxIdeal Cert.ProjDxIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- At the first share of a block the scratch takes the product of the two blocks. -/
theorem sout0_A_0_eq (c : Dev nD) (i : grid0.Coords) (a3 h3 a4 h4 a5 h5 a6 h6 k0 k1 k2)
    (x0 : Vec Ideal S1024x2560 .bf16) (x1 : Vec Ideal S2560x1024 .bf16) :
    sout0_A_0 c i a3 h3 a4 h4 a5 h5 a6 h6 k0 k1 k2 x0 x1 = k0_pay2 x0 x1 := by
  unfold sout0_A_0
  rw [View.read_writes_eq_canon _ _ _ (scover0_A_0 c i a3 h3 a4 h4 a5 h5 a6 h6 k0 k1 k2 x0 x1)]
  unfold kernelRun0_A
  dsimp only
  rw [View.canon_unit_zero hz]
  simp only [View.readAt_eq_ld, h3.read_unread, h4.read_unread, View.ld_unit_zero (S := S1024x2560) hz, View.ld_unit_zero (S := S2560x1024) hz, View.ld_unit_zero (S := S1024x1024) hz]

/-- At the shares between the scratch gains the product. -/
theorem sout0_B_0_eq (c : Dev nD) (i : grid0.Coords) (a3 h3 a4 h4 a5 h5 a6 h6 k0 k1 k2)
    (x0 : Vec Ideal S1024x2560 .bf16) (x1 : Vec Ideal S2560x1024 .bf16) (xs : Vec Ideal S1024x1024 .f32) :
    sout0_B_0 c i a3 h3 a4 h4 a5 h5 a6 h6 k0 k1 k2 x0 x1 xs = k0_pay3 x0 x1 xs := by
  unfold sout0_B_0
  rw [View.read_writes_eq_canon _ _ _ (scover0_B_0 c i a3 h3 a4 h4 a5 h5 a6 h6 k0 k1 k2 x0 x1 xs)]
  unfold kernelRun0_B
  dsimp only
  rw [View.canon_unit_zero hz]
  simp only [View.readAt_eq_ld, h3.read_unread, h4.read_unread, h6.read_unread, View.ld_unit_zero (S := S1024x2560) hz, View.ld_unit_zero (S := S2560x1024) hz, View.ld_unit_zero (S := S1024x1024) hz]

/-- At the last share the result is the scratch and the product together. -/
theorem out0_C_2_eq (c : Dev nD) (i : grid0.Coords) (a3 h3 a4 h4 a5 h5 a6 h6 k0 k1 k2)
    (x0 : Vec Ideal S1024x2560 .bf16) (x1 : Vec Ideal S2560x1024 .bf16) (xs : Vec Ideal S1024x1024 .f32) :
    out0_C_2 c i a3 h3 a4 h4 a5 h5 a6 h6 k0 k1 k2 x0 x1 xs = k0_pay4 x0 x1 xs := by
  unfold out0_C_2
  rw [View.read_writes_eq_canon _ _ _ (cover0_C_2 c i a3 h3 a4 h4 a5 h5 a6 h6 k0 k1 k2 x0 x1 xs)]
  unfold kernelRun0_C
  dsimp only
  rw [View.canon_unit_zero hz]
  simp only [View.readAt_eq_ld, h3.read_unread, h4.read_unread, h6.read_unread, View.ld_unit_zero (S := S1024x2560) hz, View.ld_unit_zero (S := S2560x1024) hz, View.ld_unit_zero (S := S1024x1024) hz]

theorem pay_apply (x0 : Vec Ideal S1024x2560 .bf16) (x1 : Vec Ideal S2560x1024 .bf16) (y : S1024x1024.Idx) :
    (k0_pay1 x0 x1 : S1024x1024.Idx → EReal) y = ∑ k : Fin 2560, x0 (ix2 (y 0) k) * x1 (ix2 k (y 1)) := by
  show Ideal.matmul dot_S1024x2560_S2560x1024_S1024x1024_1_0_0_1_n_n x0 x1 (constant (F := Ideal) S1024x1024 .f32 0x00000000#32) y = _
  refine (Cert.Product.nn_apply (K := 2560) (M := 1024) (N := 1024) _ rfl rfl rfl rfl rfl rfl x0 x1 _ y).trans ?_
  rw [show (constant (F := Ideal) S1024x1024 .f32 0x00000000#32 : S1024x1024.Idx → EReal) y = 0 by
    simp [constant, Ideal.ofBits, Ideal.ieee], zero_add]

theorem pay2_apply (x0 : Vec Ideal S1024x2560 .bf16) (x1 : Vec Ideal S2560x1024 .bf16) (y : S1024x1024.Idx) :
    (k0_pay2 x0 x1 : S1024x1024.Idx → EReal) y = (k0_pay1 x0 x1 : S1024x1024.Idx → EReal) y := by
  unfold k0_pay2
  rw [shapeCast_self]

theorem pay3_apply (x0 : Vec Ideal S1024x2560 .bf16) (x1 : Vec Ideal S2560x1024 .bf16) (xs : Vec Ideal S1024x1024 .f32) (y : S1024x1024.Idx) :
    (k0_pay3 x0 x1 xs : S1024x1024.Idx → EReal) y = xs y + (k0_pay1 x0 x1 : S1024x1024.Idx → EReal) y := by
  unfold k0_pay3
  rw [shapeCast_self]
  rfl

theorem pay4_apply (x0 : Vec Ideal S1024x2560 .bf16) (x1 : Vec Ideal S2560x1024 .bf16) (xs : Vec Ideal S1024x1024 .f32) (y : S1024x1024.Idx) :
    (k0_pay4 x0 x1 xs : S1024x1024.Idx → EReal) y = xs y + (k0_pay1 x0 x1 : S1024x1024.Idx → EReal) y := by
  unfold k0_pay4
  rfl

/-- The term `x` of the sum at row `r` and column `j` (nothing outside the arrays). -/
def term (A : S4096x10240.Idx → EReal) (B : S10240x1024.Idx → EReal) (r : ℕ) (j : Fin 1024) (x : ℕ) : EReal :=
  if h : r < 4096 ∧ x < 10240 then A (ix2 ⟨r, h.1⟩ ⟨x, h.2⟩) * B (ix2 ⟨x, h.2⟩ j) else 0

/-- Entry `(i, j)` of the result. -/
def G (A : S4096x10240.Idx → EReal) (B : S10240x1024.Idx → EReal) : S4096x1024.Idx → EReal :=
  fun i => ∑ k : Fin 10240, A (ix2 (i 0) k) * B (ix2 k (i 1))

theorem G_eq (A : S4096x10240.Idx → EReal) (B : S10240x1024.Idx → EReal) (i : S4096x1024.Idx) :
    G A B i = ∑ x ∈ Finset.range (3 * 2560 + 2560), term A B (i 0).val (i 1) x := by
  rw [Finset.sum_range]
  refine Finset.sum_congr rfl fun k _ => ?_
  unfold term
  rw [dif_pos ⟨(i 0).isLt, k.isLt⟩]
  rfl

/-- Where the blocks of point `t` lie in the three arrays. -/
theorem idx_facts : ∀ t : Fin cfg0.N, win0_0.index t 0 = t.val / 4 ∧ win0_0.index t 1 = t.val % 4 ∧ win0_1.index t 0 = t.val % 4
    ∧ win0_1.index t 1 = 0 ∧ win0_2.index t 0 = t.val / 4 ∧ win0_2.index t 1 = 0 :=
  (by decide +kernel : ∀ t : Fin grid0.N, win0_0.index t 0 = t.val / 4 ∧ win0_0.index t 1 = t.val % 4 ∧ win0_1.index t 0 = t.val % 4
    ∧ win0_1.index t 1 = 0 ∧ win0_2.index t 0 = t.val / 4 ∧ win0_2.index t 1 = 0)

/-- The product of the blocks of point `t` is its share of the sum. -/
theorem share (c : Dev nD) (t : Fin cfg0.N) (y : S1024x1024.Idx) :
    (k0_pay1 (iblk m c 0 t) (iblk m c 1 t) : S1024x1024.Idx → EReal) y
      = ∑ x ∈ Finset.range 2560, term (V m c main_arg0) (V m c main_arg1) (t.val / 4 * 1024 + (y 0).val) (y 1) (t.val % 4 * 2560 + x) := by
  obtain ⟨h00, h01, h10, h11, h20, h21⟩ := idx_facts t
  have ht : t.val < 16 := lt_of_lt_of_eq t.isLt N_0
  have hy : (y 0).val < 1024 := (y 0).isLt
  rw [pay_apply, Finset.sum_range]
  refine Finset.sum_congr rfl fun k _ => ?_
  have hk : k.val < 2560 := k.isLt
  have hb : t.val / 4 * 1024 + (y 0).val < 4096 ∧ t.val % 4 * 2560 + k.val < 10240 := ⟨by omega, by omega⟩
  unfold term
  rw [dif_pos hb]
  congr 1
  · show V m c main_arg0 (((cfg0.win 0).blk t).view.emb (ix2 (y 0) k)) = _
    congr 1; funext a; apply Fin.ext
    match a with
    | ⟨0, _⟩ => show win0_0.index t 0 * 1024 + 1 * (y 0).val = t.val / 4 * 1024 + (y 0).val; omega
    | ⟨1, _⟩ => show win0_0.index t 1 * 2560 + 1 * k.val = t.val % 4 * 2560 + k.val; omega
  · show V m c main_arg1 (((cfg0.win 1).blk t).view.emb (ix2 k (y 1))) = _
    congr 1; funext a; apply Fin.ext
    match a with
    | ⟨0, _⟩ => show win0_1.index t 0 * 2560 + 1 * k.val = t.val % 4 * 2560 + k.val; omega
    | ⟨1, _⟩ => show win0_1.index t 1 * 1024 + 1 * (y 1).val = (y 1).val; omega

/-- What the scratch holds before the last share of a block: the shares so far. -/
theorem carried (c : Dev nD) : ∀ (n : ℕ) (h : n < cfg0.N), n % 4 ≠ 3 → ∀ y : S1024x1024.Idx,
    ((outsAt0 m c n h).2 : S1024x1024.Idx → EReal) y
      = ∑ x ∈ Finset.range ((n % 4 + 1) * 2560), term (V m c main_arg0) (V m c main_arg1) (n / 4 * 1024 + (y 0).val) (y 1) x := by
  intro n
  induction n with
  | zero =>
    intro h _ y
    rw [outsAt0_A m c ⟨0, h⟩ (Nat.zero_mod _) (by simp) (by simp)]
    dsimp only
    rw [sout0_A_0_eq, pay2_apply, share m c ⟨0, h⟩]
    simp
  | succ n ih =>
    intro h hne y
    by_cases h0 : (n + 1) % 4 = 0
    · rw [outsAt0_A m c ⟨n + 1, h⟩ h0 (by dsimp only; omega) (by dsimp only; omega)]
      dsimp only
      rw [sout0_A_0_eq, pay2_apply, share m c ⟨n + 1, h⟩]
      simp [h0]
    · have e : (n + 1) % 4 = n % 4 + 1 := by omega
      have e' : (n + 1) / 4 = n / 4 := by omega
      rw [outsAt0_B m c ⟨n + 1, h⟩ h0 (by dsimp only; omega) (by dsimp only; omega)]
      dsimp only
      rw [sout0_B_0_eq, pay3_apply, share m c ⟨n + 1, h⟩]
      dsimp only
      refine (congrArg (· + _) (ih (Nat.lt_of_succ_lt h) (by omega) y)).trans ?_
      dsimp only
      rw [e, e', Nat.add_mul (n % 4 + 1) 1 2560, Nat.one_mul,
        Finset.sum_range_add]

/-- What a point that writes back writes is its block of `G`. -/
theorem flushed_eq (c : Dev nD) (t : Fin cfg0.N) (hf : (cfg0.win 2).flush t = true) :
    (dats m 0 c).flushed 2 t = ((cfg0.win 2).blk t).view.read (Elt Ideal) (G (V m c main_arg0) (V m c main_arg1)) := by
  have h2 : t.val % 4 = 3 := (flush0_2 t).mp hf
  have h0 : ¬t.val % 4 = 0 := by omega
  have h1 : ¬(1 ≤ t.val % 4 ∧ t.val % 4 ≤ 2) := by omega
  rw [Value.flushed2_C m c t h0 h1 h2, out0_C_2_eq]
  obtain ⟨h00, h01, h10, h11, h20, h21⟩ := idx_facts t
  have ht : t.val < 16 := lt_of_lt_of_eq t.isLt N_0
  have hc := carried m c (t.val - 1) (Nat.lt_of_le_of_lt (Nat.sub_le _ _) t.isLt) (by omega)
  generalize (outsAt0 m c (t.val - 1) (Nat.lt_of_le_of_lt (Nat.sub_le _ _) t.isLt)).2 = acc at hc ⊢
  generalize hw : k0_pay4 (iblk m c 0 t) (iblk m c 1 t) acc = w
  generalize hg : G (V m c main_arg0) (V m c main_arg1) = g
  funext y
  have hy : (y 0).val < 1024 := (y 0).isLt
  show (w : S1024x1024.Idx → EReal) y = g (((cfg0.win 2).blk t).view.emb y)
  have e1 : (t.val - 1) % 4 + 1 = 3 := by omega
  have e2 : (t.val - 1) / 4 = t.val / 4 := by omega
  rw [← hw, ← hg, pay4_apply, hc y, share, G_eq, e1, e2, h2, Finset.sum_range_add]
  have i0 : (((cfg0.win 2).blk t).view.emb y 0).val = t.val / 4 * 1024 + (y 0).val := by
    show win0_2.index t 0 * 1024 + 1 * (y 0).val = _; omega
  have i1 : (((cfg0.win 2).blk t).view.emb y 1 : Fin 1024) = y 1 := by
    apply Fin.ext; show win0_2.index t 1 * 1024 + 1 * (y 1).val = _; omega
  rw [i0, i1]

theorem mem_blk (t : Fin cfg0.N) (i : S4096x1024.Idx)
    (h : t.val / 4 * 1024 ≤ (i 0 : Nat) ∧ (i 0 : Nat) < t.val / 4 * 1024 + 1024) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  have h1 : (i 1 : Nat) < 1024 := (i 1).isLt
  intro a
  match a with
  | ⟨0, _⟩ => show win0_2.index t 0 * 1024 ≤ (i 0 : Nat) ∧ (i 0 : Nat) < win0_2.index t 0 * 1024 + 1024
              rw [h20]; exact h
  | ⟨1, _⟩ => show win0_2.index t 1 * 1024 ≤ (i 1 : Nat) ∧ (i 1 : Nat) < win0_2.index t 1 * 1024 + 1024
              rw [h21, Nat.zero_mul, Nat.zero_add]; exact ⟨Nat.zero_le _, h1⟩

/-- Every entry is in a block some point writes back. -/
theorem cover (i : S4096x1024.Idx) : ∃ t : Fin cfg0.N, (cfg0.win 2).flush t = true ∧ i ∈ ((cfg0.win 2).blk t).view.set := by
  have hN : cfg0.N = 16 := N_0
  have h0 : (i 0 : Nat) < 4096 := (i 0).isLt
  have ht : (i 0 : Nat) / 1024 * 4 + 3 < cfg0.N := by rw [hN]; omega
  refine ⟨⟨(i 0 : Nat) / 1024 * 4 + 3, ht⟩, (flush0_2 _).mpr (by dsimp only; omega), mem_blk _ i ?_⟩
  dsimp only
  omega

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t hf => flushed_eq m c t hf) cover

end Cert.ProjDxIdeal.Sum

namespace Cert.ProjDxRefIdeal.Sum

open Cert.ProjDxRefIdeal Cert.ProjDxRefIdeal.Gen Idealize.ShloMosaic Idealize.ShloMosaic.TcCoe Idealize.SL.Sem
open Idealize.ShloMosaic.ValueIdx

/-- The reference multiplies rows by rows of the transposed weight: the same sum of its arguments. -/
theorem ref_eq (A : Vec Ideal S4096x10240 .bf16) (B : Vec Ideal S10240x1024 .bf16) :
    (Host.dotGeneral (F := Ideal) (φ₁ := .f32) (φ₂ := .f32) dot_S4096x10240_S1024x10240_S4096x1024_1_1_0_0_n_n none (extf .f32 A bitsLt_bf16_f32) (transpose S1024x10240 [1, 0] (extf .f32 B bitsLt_bf16_f32) transposes_S10240x1024_S1024x10240_1_0) : FVec Ideal S4096x1024 .f32) = Cert.ProjDxIdeal.Sum.G A B := by
  funext i
  refine (Cert.Product.nt_apply (K := 10240) (M := 4096) (N := 1024) dot_S4096x10240_S1024x10240_S4096x1024_1_1_0_0_n_n rfl rfl rfl rfl rfl rfl A
    (transpose S1024x10240 [1, 0] (B : S10240x1024.Idx → EReal) transposes_S10240x1024_S1024x10240_1_0) (fun _ => 0) i).trans ?_
  rw [zero_add]
  refine Finset.sum_congr rfl fun k _ => ?_
  congr 1
  show B _ = B _
  congr 1; funext a; apply Fin.ext
  match a with
  | ⟨0, _⟩ => simp [Shape.Transposes.src]; rfl
  | ⟨1, _⟩ => simp [Shape.Transposes.src]; rfl

end Cert.ProjDxRefIdeal.Sum

namespace Cert.Proof

open Idealize.ShloMosaic Idealize.ShloMosaic.TcCoe Idealize.SL.Sem

/-- The gradient of the input projection’s input: kernel and reference end with equal results. -/
theorem algebraic_proj_in_dx : Cert.algebraic_ProjDxIdeal_ProjDxRefIdeal := by
  intro m ρ m' ρ' _ hag
  refine ⟨fun c => Cert.ProjDxIdeal.Sum.G (m ((c.tc : Thread Cert.ProjDxIdeal.nD Cert.ProjDxIdeal.τ).loc Cert.ProjDxIdeal.main_arg0)) (m ((c.tc : Thread Cert.ProjDxIdeal.nD Cert.ProjDxIdeal.τ).loc Cert.ProjDxIdeal.main_arg1)),
    (θ_run Cert.ProjDxIdeal.defs _ _).mono (fun _ h c => ⟨(h c).1.trans (Cert.ProjDxIdeal.Sum.final m c), (h c).2⟩) (Cert.ProjDxIdeal.Value.run_blocks (F := Ideal) m ρ),
    (θ_run Cert.ProjDxRefIdeal.defs _ _).mono (fun _ h c => ⟨?_, (h c).2⟩) (Cert.ProjDxRefIdeal.Value.run (F := Ideal) m' ρ')⟩
  refine (h c).1.trans ((Cert.ProjDxRefIdeal.Sum.ref_eq _ _).trans ?_)
  rw [(hag c).1, (hag c).2]

/-- The reference leaves its arguments as they were. -/
theorem frame_proj_in_dx_ref : Cert.quiescent_ProjDxRefIdeal := by
  intro m ρ _
  exact (θ_run Cert.ProjDxRefIdeal.defs _ _).mono (fun r h => ⟨fun c => (h c).2,
      Idealize.ShloMosaic.sem_eq_zero_of_no_sems (by decide) r.2⟩)
    (Cert.ProjDxRefIdeal.Value.run (F := Ideal) m ρ)

end Cert.Proof

end
-- ==== Proof.ProjDw.lean ====
/-
  The gradient of the input-projection weight: the kernel `proj_in_dw` takes the product columns by columns, over the rows of the sequence, in 8 by 1 blocks of 1280 by 1024,
  the reference in one piece. Both hold the same sum at every entry.
-/
module

public import proofs.«01_k».proof.Defs
public import proofs.«01_k».proof.Proof.Gen.ProjDwIdeal.Value
public import proofs.«01_k».proof.Proof.Gen.ProjDwRefIdeal
public import proofs.«01_k».proof.Proof.Gen.ProjDwRefIdeal.Run
public import proofs.«01_k».proof.Proof.Product
public import Idealize.ShloMosaic.Lib.Pipeline.Value
public import Idealize.ShloMosaic.Lib.Tactic

@[expose] public section

noncomputable section

namespace Cert.ProjDwIdeal.Sum

open Cert.ProjDwIdeal Cert.ProjDwIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves: the product of its two blocks. -/
theorem out_eq (c : Dev nD) (i : grid0.Coords) (a3 h3 a4 h4 a5 h5 a6 h6)
    (x0 : Vec Ideal S4096x1280 .bf16) (x1 : Vec Ideal S4096x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S4096x1280) hz, View.ld_unit_zero (S := S4096x1024) hz]

/-- Entry `(i, j)` of the result. -/
def G (A : S4096x10240.Idx → EReal) (B : S4096x1024.Idx → EReal) : S10240x1024.Idx → EReal :=
  fun i => ∑ k : Fin 4096, A (ix2 k (i 0)) * B (ix2 k (i 1))

theorem pay_apply (x0 : Vec Ideal S4096x1280 .bf16) (x1 : Vec Ideal S4096x1024 .bf16) (y : S1280x1024.Idx) :
    (k0_pay1 x0 x1 : S1280x1024.Idx → EReal) y = ∑ k : Fin 4096, x0 (ix2 k (y 0)) * x1 (ix2 k (y 1)) := by
  show Ideal.matmul dot_S4096x1280_S4096x1024_S1280x1024_0_0_1_1_n_n x0 x1 (constant (F := Ideal) S1280x1024 .f32 0x00000000#32) y = _
  refine (Cert.Product.tn_apply (K := 4096) (M := 1280) (N := 1024) _ rfl rfl rfl rfl rfl rfl x0 x1 _ y).trans ?_
  rw [show (constant (F := Ideal) S1280x1024 .f32 0x00000000#32 : S1280x1024.Idx → EReal) y = 0 by
    simp [constant, Ideal.ofBits, Ideal.ieee], zero_add]

/-- Where the blocks of point `t` lie in the three arrays. -/
theorem idx_facts : ∀ t : Fin cfg0.N, win0_0.index t 0 = 0 ∧ win0_0.index t 1 = t.val / 1 ∧ win0_1.index t 0 = 0
    ∧ win0_1.index t 1 = t.val % 1 ∧ win0_2.index t 0 = t.val / 1 ∧ win0_2.index t 1 = t.val % 1 :=
  (by decide +kernel : ∀ t : Fin grid0.N, win0_0.index t 0 = 0 ∧ win0_0.index t 1 = t.val / 1 ∧ win0_1.index t 0 = 0
    ∧ win0_1.index t 1 = t.val % 1 ∧ win0_2.index t 0 = t.val / 1 ∧ win0_2.index t 1 = t.val % 1)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2_A, out_eq]
  obtain ⟨h00, h01, h10, h11, h20, h21⟩ := idx_facts t
  funext y
  show (k0_pay1 (iblk m c 0 t) (iblk m c 1 t) : S1280x1024.Idx → EReal) y = G (V m c main_arg0) (V m c main_arg1) (((cfg0.win 2).blk t).view.emb y)
  rw [pay_apply]
  unfold G
  refine Finset.sum_congr rfl fun k _ => ?_
  congr 1
  · show V m c main_arg0 (((cfg0.win 0).blk t).view.emb (ix2 k (y 0))) = _
    congr 1; funext a; apply Fin.ext
    match a with
    | ⟨0, _⟩ => show win0_0.index t 0 * 4096 + 1 * k.val = k.val; omega
    | ⟨1, _⟩ => show win0_0.index t 1 * 1280 + 1 * (y 0).val = win0_2.index t 0 * 1280 + 1 * (y 0).val; omega
  · show V m c main_arg1 (((cfg0.win 1).blk t).view.emb (ix2 k (y 1))) = _
    congr 1; funext a; apply Fin.ext
    match a with
    | ⟨0, _⟩ => show win0_1.index t 0 * 4096 + 1 * k.val = k.val; omega
    | ⟨1, _⟩ => show win0_1.index t 1 * 1024 + 1 * (y 1).val = win0_2.index t 1 * 1024 + 1 * (y 1).val; omega

theorem mem_blk (t : Fin cfg0.N) (i : S10240x1024.Idx)
    (h : t.val / 1 * 1280 ≤ (i 0 : Nat) ∧ (i 0 : Nat) < t.val / 1 * 1280 + 1280
      ∧ t.val % 1 * 1024 ≤ (i 1 : Nat) ∧ (i 1 : Nat) < t.val % 1 * 1024 + 1024) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  intro a
  match a with
  | ⟨0, _⟩ => show win0_2.index t 0 * 1280 ≤ (i 0 : Nat) ∧ (i 0 : Nat) < win0_2.index t 0 * 1280 + 1280
              rw [h20]; exact ⟨h.1, h.2.1⟩
  | ⟨1, _⟩ => show win0_2.index t 1 * 1024 ≤ (i 1 : Nat) ∧ (i 1 : Nat) < win0_2.index t 1 * 1024 + 1024
              rw [h21]; exact h.2.2

/-- Every entry is in some block. -/
theorem cover (i : S10240x1024.Idx) : ∃ t : Fin cfg0.N, (cfg0.win 2).flush t = true ∧ i ∈ ((cfg0.win 2).blk t).view.set := by
  have hN : cfg0.N = 8 * 1 := N_0
  obtain ⟨h, hb⟩ := Cert.Product.block_of 8 1 1280 1024 (i 0) (i 1) (by decide) (by decide) (i 0).isLt (i 1).isLt
  exact ⟨⟨_, hN ▸ h⟩, flush0_2 _, mem_blk _ i hb⟩

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

end Cert.ProjDwIdeal.Sum

namespace Cert.ProjDwRefIdeal.Sum

open Cert.ProjDwRefIdeal Cert.ProjDwRefIdeal.Gen Idealize.ShloMosaic Idealize.ShloMosaic.TcCoe Idealize.SL.Sem
open Idealize.ShloMosaic.ValueIdx

/-- The reference’s result is the same sum of its arguments: the two transposes undo each other. -/
theorem ref_eq (A : Vec Ideal S4096x10240 .bf16) (B : Vec Ideal S4096x1024 .bf16) :
    (truncf .bf16 (transpose S10240x1024 [1, 0] (transpose S1024x10240 [1, 0] (Host.dotGeneral (F := Ideal) (φ₁ := .f32) (φ₂ := .f32) dot_S4096x10240_S4096x1024_S10240x1024_0_0_1_1_n_n none (extf .f32 A bitsLt_bf16_f32) (extf .f32 B bitsLt_bf16_f32)) transposes_S10240x1024_S1024x10240_1_0) transposes_S1024x10240_S10240x1024_1_0) bitsLt_bf16_f32 : FVec Ideal S10240x1024 .bf16) = Cert.ProjDwIdeal.Sum.G A B := by
  funext i
  refine Eq.trans (b := Ideal.matmul dot_S4096x10240_S4096x1024_S10240x1024_0_0_1_1_n_n A B (fun _ => 0) i) ?_ ?_
  · show Ideal.matmul dot_S4096x10240_S4096x1024_S10240x1024_0_0_1_1_n_n A B (fun _ => 0) _ = _
    congr 1; funext a; apply Fin.ext
    match a with
    | ⟨0, _⟩ => simp [Shape.Transposes.src]; rfl
    | ⟨1, _⟩ => simp [Shape.Transposes.src]; rfl
  · refine (Cert.Product.tn_apply (K := 4096) (M := 10240) (N := 1024) _ rfl rfl rfl rfl rfl rfl A B _ i).trans ?_
    rw [zero_add]; rfl

end Cert.ProjDwRefIdeal.Sum

namespace Cert.Proof

open Idealize.ShloMosaic Idealize.ShloMosaic.TcCoe Idealize.SL.Sem

/-- The gradient of the input-projection weight: kernel and reference end with equal results. -/
theorem algebraic_proj_in_dw : Cert.algebraic_ProjDwIdeal_ProjDwRefIdeal := by
  intro m ρ m' ρ' _ hag
  refine ⟨fun c => Cert.ProjDwIdeal.Sum.G (m ((c.tc : Thread Cert.ProjDwIdeal.nD Cert.ProjDwIdeal.τ).loc Cert.ProjDwIdeal.main_arg0)) (m ((c.tc : Thread Cert.ProjDwIdeal.nD Cert.ProjDwIdeal.τ).loc Cert.ProjDwIdeal.main_arg1)),
    (θ_run Cert.ProjDwIdeal.defs _ _).mono (fun _ h c => ⟨(h c).1.trans (Cert.ProjDwIdeal.Sum.final m c), (h c).2⟩) (Cert.ProjDwIdeal.Value.run_blocks (F := Ideal) m ρ),
    (θ_run Cert.ProjDwRefIdeal.defs _ _).mono (fun _ h c => ⟨?_, (h c).2⟩) (Cert.ProjDwRefIdeal.Value.run (F := Ideal) m' ρ')⟩
  refine (h c).1.trans ((Cert.ProjDwRefIdeal.Sum.ref_eq _ _).trans ?_)
  rw [(hag c).1, (hag c).2]

/-- The reference leaves its arguments as they were. -/
theorem frame_proj_in_dw_ref : Cert.quiescent_ProjDwRefIdeal := by
  intro m ρ _
  exact (θ_run Cert.ProjDwRefIdeal.defs _ _).mono (fun r h => ⟨fun c => (h c).2,
      Idealize.ShloMosaic.sem_eq_zero_of_no_sems (by decide) r.2⟩)
    (Cert.ProjDwRefIdeal.Value.run (F := Ideal) m ρ)

end Cert.Proof

end
-- ==== Proof.Up.lean ====
/-
  The up-projection of the feed-forward part: the kernel `ffn_up` takes the product rows by rows, in 4 by 4 blocks of 1024 by 1408,
  the reference in one piece. Both hold the same sum at every entry.
-/
module

public import proofs.«01_k».proof.Defs
public import proofs.«01_k».proof.Proof.Gen.UpIdeal.Value
public import proofs.«01_k».proof.Proof.Gen.UpRefIdeal
public import proofs.«01_k».proof.Proof.Gen.UpRefIdeal.Run
public import proofs.«01_k».proof.Proof.Product
public import Idealize.ShloMosaic.Lib.Pipeline.Value
public import Idealize.ShloMosaic.Lib.Tactic

@[expose] public section

noncomputable section

namespace Cert.UpIdeal.Sum

open Cert.UpIdeal Cert.UpIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves: the product of its two blocks. -/
theorem out_eq (c : Dev nD) (i : grid0.Coords) (a3 h3 a4 h4 a5 h5 a6 h6)
    (x0 : Vec Ideal S1024x1024 .bf16) (x1 : Vec Ideal S1408x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S1024x1024) hz, View.ld_unit_zero (S := S1408x1024) hz]

/-- Entry `(i, j)` of the result. -/
def G (A : S4096x1024.Idx → EReal) (B : S5632x1024.Idx → EReal) : S4096x5632.Idx → EReal :=
  fun i => ∑ k : Fin 1024, A (ix2 (i 0) k) * B (ix2 (i 1) k)

theorem pay_apply (x0 : Vec Ideal S1024x1024 .bf16) (x1 : Vec Ideal S1408x1024 .bf16) (y : S1024x1408.Idx) :
    (k0_pay1 x0 x1 : S1024x1408.Idx → EReal) y = ∑ k : Fin 1024, x0 (ix2 (y 0) k) * x1 (ix2 (y 1) k) := by
  show Ideal.matmul dot_S1024x1024_S1408x1024_S1024x1408_1_1_0_0_n_n x0 x1 (constant (F := Ideal) S1024x1408 .f32 0x00000000#32) y = _
  refine (Cert.Product.nt_apply (K := 1024) (M := 1024) (N := 1408) _ rfl rfl rfl rfl rfl rfl x0 x1 _ y).trans ?_
  rw [show (constant (F := Ideal) S1024x1408 .f32 0x00000000#32 : S1024x1408.Idx → EReal) y = 0 by
    simp [constant, Ideal.ofBits, Ideal.ieee], zero_add]

/-- Where the blocks of point `t` lie in the three arrays. -/
theorem idx_facts : ∀ t : Fin cfg0.N, win0_0.index t 0 = t.val / 4 ∧ win0_0.index t 1 = 0 ∧ win0_1.index t 0 = t.val % 4
    ∧ win0_1.index t 1 = 0 ∧ win0_2.index t 0 = t.val / 4 ∧ win0_2.index t 1 = t.val % 4 :=
  (by decide +kernel : ∀ t : Fin grid0.N, win0_0.index t 0 = t.val / 4 ∧ win0_0.index t 1 = 0 ∧ win0_1.index t 0 = t.val % 4
    ∧ win0_1.index t 1 = 0 ∧ win0_2.index t 0 = t.val / 4 ∧ win0_2.index t 1 = t.val % 4)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2_A, out_eq]
  obtain ⟨h00, h01, h10, h11, h20, h21⟩ := idx_facts t
  funext y
  show (k0_pay1 (iblk m c 0 t) (iblk m c 1 t) : S1024x1408.Idx → EReal) y = G (V m c main_arg0) (V m c main_arg1) (((cfg0.win 2).blk t).view.emb y)
  rw [pay_apply]
  unfold G
  refine Finset.sum_congr rfl fun k _ => ?_
  congr 1
  · show V m c main_arg0 (((cfg0.win 0).blk t).view.emb (ix2 (y 0) k)) = _
    congr 1; funext a; apply Fin.ext
    match a with
    | ⟨0, _⟩ => show win0_0.index t 0 * 1024 + 1 * (y 0).val = win0_2.index t 0 * 1024 + 1 * (y 0).val; omega
    | ⟨1, _⟩ => show win0_0.index t 1 * 1024 + 1 * k.val = k.val; omega
  · show V m c main_arg1 (((cfg0.win 1).blk t).view.emb (ix2 (y 1) k)) = _
    congr 1; funext a; apply Fin.ext
    match a with
    | ⟨0, _⟩ => show win0_1.index t 0 * 1408 + 1 * (y 1).val = win0_2.index t 1 * 1408 + 1 * (y 1).val; omega
    | ⟨1, _⟩ => show win0_1.index t 1 * 1024 + 1 * k.val = k.val; omega

theorem mem_blk (t : Fin cfg0.N) (i : S4096x5632.Idx)
    (h : t.val / 4 * 1024 ≤ (i 0 : Nat) ∧ (i 0 : Nat) < t.val / 4 * 1024 + 1024
      ∧ t.val % 4 * 1408 ≤ (i 1 : Nat) ∧ (i 1 : Nat) < t.val % 4 * 1408 + 1408) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [h20]; exact ⟨h.1, h.2.1⟩
  | ⟨1, _⟩ => show win0_2.index t 1 * 1408 ≤ (i 1 : Nat) ∧ (i 1 : Nat) < win0_2.index t 1 * 1408 + 1408
              rw [h21]; exact h.2.2

/-- Every entry is in some block. -/
theorem cover (i : S4096x5632.Idx) : ∃ t : Fin cfg0.N, (cfg0.win 2).flush t = true ∧ i ∈ ((cfg0.win 2).blk t).view.set := by
  have hN : cfg0.N = 4 * 4 := N_0
  obtain ⟨h, hb⟩ := Cert.Product.block_of 4 4 1024 1408 (i 0) (i 1) (by decide) (by decide) (i 0).isLt (i 1).isLt
  exact ⟨⟨_, hN ▸ h⟩, flush0_2 _, mem_blk _ i hb⟩

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

end Cert.UpIdeal.Sum

namespace Cert.UpRefIdeal.Sum

open Cert.UpRefIdeal Cert.UpRefIdeal.Gen Idealize.ShloMosaic Idealize.ShloMosaic.TcCoe Idealize.SL.Sem
open Idealize.ShloMosaic.ValueIdx

/-- The reference multiplies by the transposed weight: the same sum of its arguments. -/
theorem ref_eq (A : Vec Ideal S4096x1024 .bf16) (B : Vec Ideal S5632x1024 .bf16) :
    (truncf .bf16 (Host.dotGeneral (F := Ideal) (φ₁ := .f32) (φ₂ := .f32) dot_S4096x1024_S1024x5632_S4096x5632_1_0_0_1_n_n none (extf .f32 A bitsLt_bf16_f32) (transpose S1024x5632 [1, 0] (extf .f32 B bitsLt_bf16_f32) transposes_S5632x1024_S1024x5632_1_0)) bitsLt_bf16_f32 : FVec Ideal S4096x5632 .bf16) = Cert.UpIdeal.Sum.G A B := by
  funext i
  refine (Cert.Product.nn_apply (K := 1024) (M := 4096) (N := 5632) dot_S4096x1024_S1024x5632_S4096x5632_1_0_0_1_n_n rfl rfl rfl rfl rfl rfl A
    (transpose S1024x5632 [1, 0] (B : S5632x1024.Idx → EReal) transposes_S5632x1024_S1024x5632_1_0) (fun _ => 0) i).trans ?_
  rw [zero_add]
  refine Finset.sum_congr rfl fun k _ => ?_
  congr 1
  show B _ = B _
  congr 1; funext a; apply Fin.ext
  match a with
  | ⟨0, _⟩ => simp [Shape.Transposes.src]; rfl
  | ⟨1, _⟩ => simp [Shape.Transposes.src]; rfl

end Cert.UpRefIdeal.Sum

namespace Cert.Proof

open Idealize.ShloMosaic Idealize.ShloMosaic.TcCoe Idealize.SL.Sem

/-- The up-projection of the feed-forward part: kernel and reference end with equal results. -/
theorem algebraic_ffn_up : Cert.algebraic_UpIdeal_UpRefIdeal := by
  intro m ρ m' ρ' _ hag
  refine ⟨fun c => Cert.UpIdeal.Sum.G (m ((c.tc : Thread Cert.UpIdeal.nD Cert.UpIdeal.τ).loc Cert.UpIdeal.main_arg0)) (m ((c.tc : Thread Cert.UpIdeal.nD Cert.UpIdeal.τ).loc Cert.UpIdeal.main_arg1)),
    (θ_run Cert.UpIdeal.defs _ _).mono (fun _ h c => ⟨(h c).1.trans (Cert.UpIdeal.Sum.final m c), (h c).2⟩) (Cert.UpIdeal.Value.run_blocks (F := Ideal) m ρ),
    (θ_run Cert.UpRefIdeal.defs _ _).mono (fun _ h c => ⟨?_, (h c).2⟩) (Cert.UpRefIdeal.Value.run (F := Ideal) m' ρ')⟩
  refine (h c).1.trans ((Cert.UpRefIdeal.Sum.ref_eq _ _).trans ?_)
  rw [(hag c).1, (hag c).2]

/-- The reference leaves its arguments as they were. -/
theorem frame_ffn_up_ref : Cert.quiescent_UpRefIdeal := by
  intro m ρ _
  exact (θ_run Cert.UpRefIdeal.defs _ _).mono (fun r h => ⟨fun c => (h c).2,
      Idealize.ShloMosaic.sem_eq_zero_of_no_sems (by decide) r.2⟩)
    (Cert.UpRefIdeal.Value.run (F := Ideal) m ρ)

end Cert.Proof

end
-- ==== Proof.UpDx.lean ====
/-
  The gradient of the up-projection’s input: the kernel `ffn_up_dx` takes the product rows by columns in 4 blocks of 1024 rows, each over 2 shares of
  2816 of the shared index, which it adds up in a scratch array; the reference takes it in one piece. Both hold the same sum at
  every entry.
-/
module

public import proofs.«01_k».proof.Defs
public import proofs.«01_k».proof.Proof.Gen.UpDxIdeal.Value
public import proofs.«01_k».proof.Proof.Gen.UpDxRefIdeal
public import proofs.«01_k».proof.Proof.Gen.UpDxRefIdeal.Run
public import proofs.«01_k».proof.Proof.Product
public import Idealize.ShloMosaic.Lib.Pipeline.Value
public import Idealize.ShloMosaic.Lib.Tactic

@[expose] public section

noncomputable section

namespace Cert.UpDxIdeal.Sum

open Cert.UpDxIdeal Cert.UpDxIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- At the first share of a block the scratch takes the product of the two blocks. -/
theorem sout0_A_0_eq (c : Dev nD) (i : grid0.Coords) (a3 h3 a4 h4 a5 h5 a6 h6 k0 k1 k2)
    (x0 : Vec Ideal S1024x2816 .bf16) (x1 : Vec Ideal S2816x1024 .bf16) :
    sout0_A_0 c i a3 h3 a4 h4 a5 h5 a6 h6 k0 k1 k2 x0 x1 = k0_pay2 x0 x1 := by
  unfold sout0_A_0
  rw [View.read_writes_eq_canon _ _ _ (scover0_A_0 c i a3 h3 a4 h4 a5 h5 a6 h6 k0 k1 k2 x0 x1)]
  unfold kernelRun0_A
  dsimp only
  rw [View.canon_unit_zero hz]
  simp only [View.readAt_eq_ld, h3.read_unread, h4.read_unread, View.ld_unit_zero (S := S1024x2816) hz, View.ld_unit_zero (S := S2816x1024) hz, View.ld_unit_zero (S := S1024x1024) hz]

/-- At the last share the result is the scratch and the product together. -/
theorem out0_B_2_eq (c : Dev nD) (i : grid0.Coords) (a3 h3 a4 h4 a5 h5 a6 h6 k0 k1 k2)
    (x0 : Vec Ideal S1024x2816 .bf16) (x1 : Vec Ideal S2816x1024 .bf16) (xs : Vec Ideal S1024x1024 .f32) :
    out0_B_2 c i a3 h3 a4 h4 a5 h5 a6 h6 k0 k1 k2 x0 x1 xs = k0_pay4 x0 x1 xs := by
  unfold out0_B_2
  rw [View.read_writes_eq_canon _ _ _ (cover0_B_2 c i a3 h3 a4 h4 a5 h5 a6 h6 k0 k1 k2 x0 x1 xs)]
  unfold kernelRun0_B
  dsimp only
  rw [View.canon_unit_zero hz]
  simp only [View.readAt_eq_ld, h3.read_unread, h4.read_unread, h6.read_unread, View.ld_unit_zero (S := S1024x2816) hz, View.ld_unit_zero (S := S2816x1024) hz, View.ld_unit_zero (S := S1024x1024) hz]

theorem pay_apply (x0 : Vec Ideal S1024x2816 .bf16) (x1 : Vec Ideal S2816x1024 .bf16) (y : S1024x1024.Idx) :
    (k0_pay1 x0 x1 : S1024x1024.Idx → EReal) y = ∑ k : Fin 2816, x0 (ix2 (y 0) k) * x1 (ix2 k (y 1)) := by
  show Ideal.matmul dot_S1024x2816_S2816x1024_S1024x1024_1_0_0_1_n_n x0 x1 (constant (F := Ideal) S1024x1024 .f32 0x00000000#32) y = _
  refine (Cert.Product.nn_apply (K := 2816) (M := 1024) (N := 1024) _ rfl rfl rfl rfl rfl rfl x0 x1 _ y).trans ?_
  rw [show (constant (F := Ideal) S1024x1024 .f32 0x00000000#32 : S1024x1024.Idx → EReal) y = 0 by
    simp [constant, Ideal.ofBits, Ideal.ieee], zero_add]

theorem pay2_apply (x0 : Vec Ideal S1024x2816 .bf16) (x1 : Vec Ideal S2816x1024 .bf16) (y : S1024x1024.Idx) :
    (k0_pay2 x0 x1 : S1024x1024.Idx → EReal) y = (k0_pay1 x0 x1 : S1024x1024.Idx → EReal) y := by
  unfold k0_pay2
  rw [shapeCast_self]

theorem pay3_apply (x0 : Vec Ideal S1024x2816 .bf16) (x1 : Vec Ideal S2816x1024 .bf16) (xs : Vec Ideal S1024x1024 .f32) (y : S1024x1024.Idx) :
    (k0_pay3 x0 x1 xs : S1024x1024.Idx → EReal) y = xs y + (k0_pay1 x0 x1 : S1024x1024.Idx → EReal) y := by
  unfold k0_pay3
  rw [shapeCast_self]
  rfl

theorem pay4_apply (x0 : Vec Ideal S1024x2816 .bf16) (x1 : Vec Ideal S2816x1024 .bf16) (xs : Vec Ideal S1024x1024 .f32) (y : S1024x1024.Idx) :
    (k0_pay4 x0 x1 xs : S1024x1024.Idx → EReal) y = xs y + (k0_pay1 x0 x1 : S1024x1024.Idx → EReal) y := by
  unfold k0_pay4
  rfl

/-- The term `x` of the sum at row `r` and column `j` (nothing outside the arrays). -/
def term (A : S4096x5632.Idx → EReal) (B : S5632x1024.Idx → EReal) (r : ℕ) (j : Fin 1024) (x : ℕ) : EReal :=
  if h : r < 4096 ∧ x < 5632 then A (ix2 ⟨r, h.1⟩ ⟨x, h.2⟩) * B (ix2 ⟨x, h.2⟩ j) else 0

/-- Entry `(i, j)` of the result. -/
def G (A : S4096x5632.Idx → EReal) (B : S5632x1024.Idx → EReal) : S4096x1024.Idx → EReal :=
  fun i => ∑ k : Fin 5632, A (ix2 (i 0) k) * B (ix2 k (i 1))

theorem G_eq (A : S4096x5632.Idx → EReal) (B : S5632x1024.Idx → EReal) (i : S4096x1024.Idx) :
    G A B i = ∑ x ∈ Finset.range (1 * 2816 + 2816), term A B (i 0).val (i 1) x := by
  rw [Finset.sum_range]
  refine Finset.sum_congr rfl fun k _ => ?_
  unfold term
  rw [dif_pos ⟨(i 0).isLt, k.isLt⟩]
  rfl

/-- Where the blocks of point `t` lie in the three arrays. -/
theorem idx_facts : ∀ t : Fin cfg0.N, win0_0.index t 0 = t.val / 2 ∧ win0_0.index t 1 = t.val % 2 ∧ win0_1.index t 0 = t.val % 2
    ∧ win0_1.index t 1 = 0 ∧ win0_2.index t 0 = t.val / 2 ∧ win0_2.index t 1 = 0 :=
  (by decide +kernel : ∀ t : Fin grid0.N, win0_0.index t 0 = t.val / 2 ∧ win0_0.index t 1 = t.val % 2 ∧ win0_1.index t 0 = t.val % 2
    ∧ win0_1.index t 1 = 0 ∧ win0_2.index t 0 = t.val / 2 ∧ win0_2.index t 1 = 0)

/-- The product of the blocks of point `t` is its share of the sum. -/
theorem share (c : Dev nD) (t : Fin cfg0.N) (y : S1024x1024.Idx) :
    (k0_pay1 (iblk m c 0 t) (iblk m c 1 t) : S1024x1024.Idx → EReal) y
      = ∑ x ∈ Finset.range 2816, term (V m c main_arg0) (V m c main_arg1) (t.val / 2 * 1024 + (y 0).val) (y 1) (t.val % 2 * 2816 + x) := by
  obtain ⟨h00, h01, h10, h11, h20, h21⟩ := idx_facts t
  have ht : t.val < 8 := lt_of_lt_of_eq t.isLt N_0
  have hy : (y 0).val < 1024 := (y 0).isLt
  rw [pay_apply, Finset.sum_range]
  refine Finset.sum_congr rfl fun k _ => ?_
  have hk : k.val < 2816 := k.isLt
  have hb : t.val / 2 * 1024 + (y 0).val < 4096 ∧ t.val % 2 * 2816 + k.val < 5632 := ⟨by omega, by omega⟩
  unfold term
  rw [dif_pos hb]
  congr 1
  · show V m c main_arg0 (((cfg0.win 0).blk t).view.emb (ix2 (y 0) k)) = _
    congr 1; funext a; apply Fin.ext
    match a with
    | ⟨0, _⟩ => show win0_0.index t 0 * 1024 + 1 * (y 0).val = t.val / 2 * 1024 + (y 0).val; omega
    | ⟨1, _⟩ => show win0_0.index t 1 * 2816 + 1 * k.val = t.val % 2 * 2816 + k.val; omega
  · show V m c main_arg1 (((cfg0.win 1).blk t).view.emb (ix2 k (y 1))) = _
    congr 1; funext a; apply Fin.ext
    match a with
    | ⟨0, _⟩ => show win0_1.index t 0 * 2816 + 1 * k.val = t.val % 2 * 2816 + k.val; omega
    | ⟨1, _⟩ => show win0_1.index t 1 * 1024 + 1 * (y 1).val = (y 1).val; omega

/-- What the scratch holds before the last share of a block: the shares so far. -/
theorem carried (c : Dev nD) : ∀ (n : ℕ) (h : n < cfg0.N), n % 2 ≠ 1 → ∀ y : S1024x1024.Idx,
    ((outsAt0 m c n h).2 : S1024x1024.Idx → EReal) y
      = ∑ x ∈ Finset.range ((n % 2 + 1) * 2816), term (V m c main_arg0) (V m c main_arg1) (n / 2 * 1024 + (y 0).val) (y 1) x := by
  intro n
  induction n with
  | zero =>
    intro h _ y
    rw [outsAt0_A m c ⟨0, h⟩ (Nat.zero_mod _) (by simp)]
    dsimp only
    rw [sout0_A_0_eq, pay2_apply, share m c ⟨0, h⟩]
    simp
  | succ n ih =>
    intro h hne y
    by_cases h0 : (n + 1) % 2 = 0
    · rw [outsAt0_A m c ⟨n + 1, h⟩ h0 (by dsimp only; omega)]
      dsimp only
      rw [sout0_A_0_eq, pay2_apply, share m c ⟨n + 1, h⟩]
      simp [h0]
    · exact absurd (by omega : (n + 1) % 2 = 1) hne

/-- What a point that writes back writes is its block of `G`. -/
theorem flushed_eq (c : Dev nD) (t : Fin cfg0.N) (hf : (cfg0.win 2).flush t = true) :
    (dats m 0 c).flushed 2 t = ((cfg0.win 2).blk t).view.read (Elt Ideal) (G (V m c main_arg0) (V m c main_arg1)) := by
  have h2 : t.val % 2 = 1 := (flush0_2 t).mp hf
  have h0 : ¬t.val % 2 = 0 := by omega
  rw [Value.flushed2_B m c t h0 h2, out0_B_2_eq]
  obtain ⟨h00, h01, h10, h11, h20, h21⟩ := idx_facts t
  have ht : t.val < 8 := lt_of_lt_of_eq t.isLt N_0
  have hc := carried m c (t.val - 1) (Nat.lt_of_le_of_lt (Nat.sub_le _ _) t.isLt) (by omega)
  generalize (outsAt0 m c (t.val - 1) (Nat.lt_of_le_of_lt (Nat.sub_le _ _) t.isLt)).2 = acc at hc ⊢
  generalize hw : k0_pay4 (iblk m c 0 t) (iblk m c 1 t) acc = w
  generalize hg : G (V m c main_arg0) (V m c main_arg1) = g
  funext y
  have hy : (y 0).val < 1024 := (y 0).isLt
  show (w : S1024x1024.Idx → EReal) y = g (((cfg0.win 2).blk t).view.emb y)
  have e1 : (t.val - 1) % 2 + 1 = 1 := by omega
  have e2 : (t.val - 1) / 2 = t.val / 2 := by omega
  rw [← hw, ← hg, pay4_apply, hc y, share, G_eq, e1, e2, h2, Finset.sum_range_add]
  have i0 : (((cfg0.win 2).blk t).view.emb y 0).val = t.val / 2 * 1024 + (y 0).val := by
    show win0_2.index t 0 * 1024 + 1 * (y 0).val = _; omega
  have i1 : (((cfg0.win 2).blk t).view.emb y 1 : Fin 1024) = y 1 := by
    apply Fin.ext; show win0_2.index t 1 * 1024 + 1 * (y 1).val = _; omega
  rw [i0, i1]

theorem mem_blk (t : Fin cfg0.N) (i : S4096x1024.Idx)
    (h : t.val / 2 * 1024 ≤ (i 0 : Nat) ∧ (i 0 : Nat) < t.val / 2 * 1024 + 1024) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  have h1 : (i 1 : Nat) < 1024 := (i 1).isLt
  intro a
  match a with
  | ⟨0, _⟩ => show win0_2.index t 0 * 1024 ≤ (i 0 : Nat) ∧ (i 0 : Nat) < win0_2.index t 0 * 1024 + 1024
              rw [h20]; exact h
  | ⟨1, _⟩ => show win0_2.index t 1 * 1024 ≤ (i 1 : Nat) ∧ (i 1 : Nat) < win0_2.index t 1 * 1024 + 1024
              rw [h21, Nat.zero_mul, Nat.zero_add]; exact ⟨Nat.zero_le _, h1⟩

/-- Every entry is in a block some point writes back. -/
theorem cover (i : S4096x1024.Idx) : ∃ t : Fin cfg0.N, (cfg0.win 2).flush t = true ∧ i ∈ ((cfg0.win 2).blk t).view.set := by
  have hN : cfg0.N = 8 := N_0
  have h0 : (i 0 : Nat) < 4096 := (i 0).isLt
  have ht : (i 0 : Nat) / 1024 * 2 + 1 < cfg0.N := by rw [hN]; omega
  refine ⟨⟨(i 0 : Nat) / 1024 * 2 + 1, ht⟩, (flush0_2 _).mpr (by dsimp only; omega), mem_blk _ i ?_⟩
  dsimp only
  omega

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t hf => flushed_eq m c t hf) cover

end Cert.UpDxIdeal.Sum

namespace Cert.UpDxRefIdeal.Sum

open Cert.UpDxRefIdeal Cert.UpDxRefIdeal.Gen Idealize.ShloMosaic Idealize.ShloMosaic.TcCoe Idealize.SL.Sem
open Idealize.ShloMosaic.ValueIdx

/-- The reference multiplies rows by rows of the transposed weight: the same sum of its arguments. -/
theorem ref_eq (A : Vec Ideal S4096x5632 .bf16) (B : Vec Ideal S5632x1024 .bf16) :
    (Host.dotGeneral (F := Ideal) (φ₁ := .f32) (φ₂ := .f32) dot_S4096x5632_S1024x5632_S4096x1024_1_1_0_0_n_n none (extf .f32 A bitsLt_bf16_f32) (transpose S1024x5632 [1, 0] (extf .f32 B bitsLt_bf16_f32) transposes_S5632x1024_S1024x5632_1_0) : FVec Ideal S4096x1024 .f32) = Cert.UpDxIdeal.Sum.G A B := by
  funext i
  refine (Cert.Product.nt_apply (K := 5632) (M := 4096) (N := 1024) dot_S4096x5632_S1024x5632_S4096x1024_1_1_0_0_n_n rfl rfl rfl rfl rfl rfl A
    (transpose S1024x5632 [1, 0] (B : S5632x1024.Idx → EReal) transposes_S5632x1024_S1024x5632_1_0) (fun _ => 0) i).trans ?_
  rw [zero_add]
  refine Finset.sum_congr rfl fun k _ => ?_
  congr 1
  show B _ = B _
  congr 1; funext a; apply Fin.ext
  match a with
  | ⟨0, _⟩ => simp [Shape.Transposes.src]; rfl
  | ⟨1, _⟩ => simp [Shape.Transposes.src]; rfl

end Cert.UpDxRefIdeal.Sum

namespace Cert.Proof

open Idealize.ShloMosaic Idealize.ShloMosaic.TcCoe Idealize.SL.Sem

/-- The gradient of the up-projection’s input: kernel and reference end with equal results. -/
theorem algebraic_ffn_up_dx : Cert.algebraic_UpDxIdeal_UpDxRefIdeal := by
  intro m ρ m' ρ' _ hag
  refine ⟨fun c => Cert.UpDxIdeal.Sum.G (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)),
    (θ_run Cert.UpDxIdeal.defs _ _).mono (fun _ h c => ⟨(h c).1.trans (Cert.UpDxIdeal.Sum.final m c), (h c).2⟩) (Cert.UpDxIdeal.Value.run_blocks (F := Ideal) m ρ),
    (θ_run Cert.UpDxRefIdeal.defs _ _).mono (fun _ h c => ⟨?_, (h c).2⟩) (Cert.UpDxRefIdeal.Value.run (F := Ideal) m' ρ')⟩
  refine (h c).1.trans ((Cert.UpDxRefIdeal.Sum.ref_eq _ _).trans ?_)
  rw [(hag c).1, (hag c).2]

/-- The reference leaves its arguments as they were. -/
theorem frame_ffn_up_dx_ref : Cert.quiescent_UpDxRefIdeal := by
  intro m ρ _
  exact (θ_run Cert.UpDxRefIdeal.defs _ _).mono (fun r h => ⟨fun c => (h c).2,
      Idealize.ShloMosaic.sem_eq_zero_of_no_sems (by decide) r.2⟩)
    (Cert.UpDxRefIdeal.Value.run (F := Ideal) m ρ)

end Cert.Proof

end
-- ==== Proof.UpDw.lean ====
/-
  The gradient of the up-projection weight: the kernel `ffn_up_dw` takes the product columns by columns, over the rows of the sequence, in 4 by 1 blocks of 1408 by 1024,
  the reference in one piece. Both hold the same sum at every entry.
-/
module

public import proofs.«01_k».proof.Defs
public import proofs.«01_k».proof.Proof.Gen.UpDwIdeal.Value
public import proofs.«01_k».proof.Proof.Gen.UpDwRefIdeal
public import proofs.«01_k».proof.Proof.Gen.UpDwRefIdeal.Run
public import proofs.«01_k».proof.Proof.Product
public import Idealize.ShloMosaic.Lib.Pipeline.Value
public import Idealize.ShloMosaic.Lib.Tactic

@[expose] public section

noncomputable section

namespace Cert.UpDwIdeal.Sum

open Cert.UpDwIdeal Cert.UpDwIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves: the product of its two blocks. -/
theorem out_eq (c : Dev nD) (i : grid0.Coords) (a3 h3 a4 h4 a5 h5 a6 h6)
    (x0 : Vec Ideal S4096x1408 .bf16) (x1 : Vec Ideal S4096x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S4096x1408) hz, View.ld_unit_zero (S := S4096x1024) hz]

/-- Entry `(i, j)` of the result. -/
def G (A : S4096x5632.Idx → EReal) (B : S4096x1024.Idx → EReal) : S5632x1024.Idx → EReal :=
  fun i => ∑ k : Fin 4096, A (ix2 k (i 0)) * B (ix2 k (i 1))

theorem pay_apply (x0 : Vec Ideal S4096x1408 .bf16) (x1 : Vec Ideal S4096x1024 .bf16) (y : S1408x1024.Idx) :
    (k0_pay1 x0 x1 : S1408x1024.Idx → EReal) y = ∑ k : Fin 4096, x0 (ix2 k (y 0)) * x1 (ix2 k (y 1)) := by
  show Ideal.matmul dot_S4096x1408_S4096x1024_S1408x1024_0_0_1_1_n_n x0 x1 (constant (F := Ideal) S1408x1024 .f32 0x00000000#32) y = _
  refine (Cert.Product.tn_apply (K := 4096) (M := 1408) (N := 1024) _ rfl rfl rfl rfl rfl rfl x0 x1 _ y).trans ?_
  rw [show (constant (F := Ideal) S1408x1024 .f32 0x00000000#32 : S1408x1024.Idx → EReal) y = 0 by
    simp [constant, Ideal.ofBits, Ideal.ieee], zero_add]

/-- Where the blocks of point `t` lie in the three arrays. -/
theorem idx_facts : ∀ t : Fin cfg0.N, win0_0.index t 0 = 0 ∧ win0_0.index t 1 = t.val / 1 ∧ win0_1.index t 0 = 0
    ∧ win0_1.index t 1 = t.val % 1 ∧ win0_2.index t 0 = t.val / 1 ∧ win0_2.index t 1 = t.val % 1 :=
  (by decide +kernel : ∀ t : Fin grid0.N, win0_0.index t 0 = 0 ∧ win0_0.index t 1 = t.val / 1 ∧ win0_1.index t 0 = 0
    ∧ win0_1.index t 1 = t.val % 1 ∧ win0_2.index t 0 = t.val / 1 ∧ win0_2.index t 1 = t.val % 1)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2_A, out_eq]
  obtain ⟨h00, h01, h10, h11, h20, h21⟩ := idx_facts t
  funext y
  show (k0_pay1 (iblk m c 0 t) (iblk m c 1 t) : S1408x1024.Idx → EReal) y = G (V m c main_arg0) (V m c main_arg1) (((cfg0.win 2).blk t).view.emb y)
  rw [pay_apply]
  unfold G
  refine Finset.sum_congr rfl fun k _ => ?_
  congr 1
  · show V m c main_arg0 (((cfg0.win 0).blk t).view.emb (ix2 k (y 0))) = _
    congr 1; funext a; apply Fin.ext
    match a with
    | ⟨0, _⟩ => show win0_0.index t 0 * 4096 + 1 * k.val = k.val; omega
    | ⟨1, _⟩ => show win0_0.index t 1 * 1408 + 1 * (y 0).val = win0_2.index t 0 * 1408 + 1 * (y 0).val; omega
  · show V m c main_arg1 (((cfg0.win 1).blk t).view.emb (ix2 k (y 1))) = _
    congr 1; funext a; apply Fin.ext
    match a with
    | ⟨0, _⟩ => show win0_1.index t 0 * 4096 + 1 * k.val = k.val; omega
    | ⟨1, _⟩ => show win0_1.index t 1 * 1024 + 1 * (y 1).val = win0_2.index t 1 * 1024 + 1 * (y 1).val; omega

theorem mem_blk (t : Fin cfg0.N) (i : S5632x1024.Idx)
    (h : t.val / 1 * 1408 ≤ (i 0 : Nat) ∧ (i 0 : Nat) < t.val / 1 * 1408 + 1408
      ∧ t.val % 1 * 1024 ≤ (i 1 : Nat) ∧ (i 1 : Nat) < t.val % 1 * 1024 + 1024) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  intro a
  match a with
  | ⟨0, _⟩ => show win0_2.index t 0 * 1408 ≤ (i 0 : Nat) ∧ (i 0 : Nat) < win0_2.index t 0 * 1408 + 1408
              rw [h20]; exact ⟨h.1, h.2.1⟩
  | ⟨1, _⟩ => show win0_2.index t 1 * 1024 ≤ (i 1 : Nat) ∧ (i 1 : Nat) < win0_2.index t 1 * 1024 + 1024
              rw [h21]; exact h.2.2

/-- Every entry is in some block. -/
theorem cover (i : S5632x1024.Idx) : ∃ t : Fin cfg0.N, (cfg0.win 2).flush t = true ∧ i ∈ ((cfg0.win 2).blk t).view.set := by
  have hN : cfg0.N = 4 * 1 := N_0
  obtain ⟨h, hb⟩ := Cert.Product.block_of 4 1 1408 1024 (i 0) (i 1) (by decide) (by decide) (i 0).isLt (i 1).isLt
  exact ⟨⟨_, hN ▸ h⟩, flush0_2 _, mem_blk _ i hb⟩

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

end Cert.UpDwIdeal.Sum

namespace Cert.UpDwRefIdeal.Sum

open Cert.UpDwRefIdeal Cert.UpDwRefIdeal.Gen Idealize.ShloMosaic Idealize.ShloMosaic.TcCoe Idealize.SL.Sem
open Idealize.ShloMosaic.ValueIdx

/-- The reference’s result is the same sum of its arguments: the two transposes undo each other. -/
theorem ref_eq (A : Vec Ideal S4096x5632 .bf16) (B : Vec Ideal S4096x1024 .bf16) :
    (truncf .bf16 (transpose S5632x1024 [1, 0] (transpose S1024x5632 [1, 0] (Host.dotGeneral (F := Ideal) (φ₁ := .f32) (φ₂ := .f32) dot_S4096x5632_S4096x1024_S5632x1024_0_0_1_1_n_n none (extf .f32 A bitsLt_bf16_f32) (extf .f32 B bitsLt_bf16_f32)) transposes_S5632x1024_S1024x5632_1_0) transposes_S1024x5632_S5632x1024_1_0) bitsLt_bf16_f32 : FVec Ideal S5632x1024 .bf16) = Cert.UpDwIdeal.Sum.G A B := by
  funext i
  refine Eq.trans (b := Ideal.matmul dot_S4096x5632_S4096x1024_S5632x1024_0_0_1_1_n_n A B (fun _ => 0) i) ?_ ?_
  · show Ideal.matmul dot_S4096x5632_S4096x1024_S5632x1024_0_0_1_1_n_n A B (fun _ => 0) _ = _
    congr 1; funext a; apply Fin.ext
    match a with
    | ⟨0, _⟩ => simp [Shape.Transposes.src]; rfl
    | ⟨1, _⟩ => simp [Shape.Transposes.src]; rfl
  · refine (Cert.Product.tn_apply (K := 4096) (M := 5632) (N := 1024) _ rfl rfl rfl rfl rfl rfl A B _ i).trans ?_
    rw [zero_add]; rfl

end Cert.UpDwRefIdeal.Sum

namespace Cert.Proof

open Idealize.ShloMosaic Idealize.ShloMosaic.TcCoe Idealize.SL.Sem

/-- The gradient of the up-projection weight: kernel and reference end with equal results. -/
theorem algebraic_ffn_up_dw : Cert.algebraic_UpDwIdeal_UpDwRefIdeal := by
  intro m ρ m' ρ' _ hag
  refine ⟨fun c => Cert.UpDwIdeal.Sum.G (m ((c.tc : Thread Cert.UpDwIdeal.nD Cert.UpDwIdeal.τ).loc Cert.UpDwIdeal.main_arg0)) (m ((c.tc : Thread Cert.UpDwIdeal.nD Cert.UpDwIdeal.τ).loc Cert.UpDwIdeal.main_arg1)),
    (θ_run Cert.UpDwIdeal.defs _ _).mono (fun _ h c => ⟨(h c).1.trans (Cert.UpDwIdeal.Sum.final m c), (h c).2⟩) (Cert.UpDwIdeal.Value.run_blocks (F := Ideal) m ρ),
    (θ_run Cert.UpDwRefIdeal.defs _ _).mono (fun _ h c => ⟨?_, (h c).2⟩) (Cert.UpDwRefIdeal.Value.run (F := Ideal) m' ρ')⟩
  refine (h c).1.trans ((Cert.UpDwRefIdeal.Sum.ref_eq _ _).trans ?_)
  rw [(hag c).1, (hag c).2]

/-- The reference leaves its arguments as they were. -/
theorem frame_ffn_up_dw_ref : Cert.quiescent_UpDwRefIdeal := by
  intro m ρ _
  exact (θ_run Cert.UpDwRefIdeal.defs _ _).mono (fun r h => ⟨fun c => (h c).2,
      Idealize.ShloMosaic.sem_eq_zero_of_no_sems (by decide) r.2⟩)
    (Cert.UpDwRefIdeal.Value.run (F := Ideal) m ρ)

end Cert.Proof

end
-- ==== Proof.Down.lean ====
/-
  The down-projection of the feed-forward part: the kernel `ffn_down` takes the product rows by columns, in 4 by 1 blocks of 1024 by 1024,
  the reference in one piece. Both hold the same sum at every entry.
-/
module

public import proofs.«01_k».proof.Defs
public import proofs.«01_k».proof.Proof.Gen.DownIdeal.Value
public import proofs.«01_k».proof.Proof.Gen.DownRefIdeal
public import proofs.«01_k».proof.Proof.Gen.DownRefIdeal.Run
public import proofs.«01_k».proof.Proof.Product
public import Idealize.ShloMosaic.Lib.Pipeline.Value
public import Idealize.ShloMosaic.Lib.Tactic

@[expose] public section

noncomputable section

namespace Cert.DownIdeal.Sum

open Cert.DownIdeal Cert.DownIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves: the product of its two blocks. -/
theorem out_eq (c : Dev nD) (i : grid0.Coords) (a3 h3 a4 h4 a5 h5 a6 h6)
    (x0 : Vec Ideal S1024x2816 .bf16) (x1 : Vec Ideal S2816x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S1024x2816) hz, View.ld_unit_zero (S := S2816x1024) hz]

/-- Entry `(i, j)` of the result. -/
def G (A : S4096x2816.Idx → EReal) (B : S2816x1024.Idx → EReal) : S4096x1024.Idx → EReal :=
  fun i => ∑ k : Fin 2816, A (ix2 (i 0) k) * B (ix2 k (i 1))

theorem pay_apply (x0 : Vec Ideal S1024x2816 .bf16) (x1 : Vec Ideal S2816x1024 .bf16) (y : S1024x1024.Idx) :
    (k0_pay1 x0 x1 : S1024x1024.Idx → EReal) y = ∑ k : Fin 2816, x0 (ix2 (y 0) k) * x1 (ix2 k (y 1)) := by
  show Ideal.matmul dot_S1024x2816_S2816x1024_S1024x1024_1_0_0_1_n_n x0 x1 (constant (F := Ideal) S1024x1024 .f32 0x00000000#32) y = _
  refine (Cert.Product.nn_apply (K := 2816) (M := 1024) (N := 1024) _ rfl rfl rfl rfl rfl rfl x0 x1 _ y).trans ?_
  rw [show (constant (F := Ideal) S1024x1024 .f32 0x00000000#32 : S1024x1024.Idx → EReal) y = 0 by
    simp [constant, Ideal.ofBits, Ideal.ieee], zero_add]

/-- Where the blocks of point `t` lie in the three arrays. -/
theorem idx_facts : ∀ t : Fin cfg0.N, win0_0.index t 0 = t.val / 1 ∧ win0_0.index t 1 = 0 ∧ win0_1.index t 0 = 0
    ∧ win0_1.index t 1 = t.val % 1 ∧ win0_2.index t 0 = t.val / 1 ∧ win0_2.index t 1 = t.val % 1 :=
  (by decide +kernel : ∀ t : Fin grid0.N, win0_0.index t 0 = t.val / 1 ∧ win0_0.index t 1 = 0 ∧ win0_1.index t 0 = 0
    ∧ win0_1.index t 1 = t.val % 1 ∧ win0_2.index t 0 = t.val / 1 ∧ win0_2.index t 1 = t.val % 1)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2_A, out_eq]
  obtain ⟨h00, h01, h10, h11, h20, h21⟩ := idx_facts t
  funext y
  show (k0_pay1 (iblk m c 0 t) (iblk m c 1 t) : S1024x1024.Idx → EReal) y = G (V m c main_arg0) (V m c main_arg1) (((cfg0.win 2).blk t).view.emb y)
  rw [pay_apply]
  unfold G
  refine Finset.sum_congr rfl fun k _ => ?_
  congr 1
  · show V m c main_arg0 (((cfg0.win 0).blk t).view.emb (ix2 (y 0) k)) = _
    congr 1; funext a; apply Fin.ext
    match a with
    | ⟨0, _⟩ => show win0_0.index t 0 * 1024 + 1 * (y 0).val = win0_2.index t 0 * 1024 + 1 * (y 0).val; omega
    | ⟨1, _⟩ => show win0_0.index t 1 * 2816 + 1 * k.val = k.val; omega
  · show V m c main_arg1 (((cfg0.win 1).blk t).view.emb (ix2 k (y 1))) = _
    congr 1; funext a; apply Fin.ext
    match a with
    | ⟨0, _⟩ => show win0_1.index t 0 * 2816 + 1 * k.val = k.val; omega
    | ⟨1, _⟩ => show win0_1.index t 1 * 1024 + 1 * (y 1).val = win0_2.index t 1 * 1024 + 1 * (y 1).val; omega

theorem mem_blk (t : Fin cfg0.N) (i : S4096x1024.Idx)
    (h : t.val / 1 * 1024 ≤ (i 0 : Nat) ∧ (i 0 : Nat) < t.val / 1 * 1024 + 1024
      ∧ t.val % 1 * 1024 ≤ (i 1 : Nat) ∧ (i 1 : Nat) < t.val % 1 * 1024 + 1024) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [h20]; exact ⟨h.1, h.2.1⟩
  | ⟨1, _⟩ => show win0_2.index t 1 * 1024 ≤ (i 1 : Nat) ∧ (i 1 : Nat) < win0_2.index t 1 * 1024 + 1024
              rw [h21]; exact h.2.2

/-- Every entry is in some block. -/
theorem cover (i : S4096x1024.Idx) : ∃ t : Fin cfg0.N, (cfg0.win 2).flush t = true ∧ i ∈ ((cfg0.win 2).blk t).view.set := by
  have hN : cfg0.N = 4 * 1 := N_0
  obtain ⟨h, hb⟩ := Cert.Product.block_of 4 1 1024 1024 (i 0) (i 1) (by decide) (by decide) (i 0).isLt (i 1).isLt
  exact ⟨⟨_, hN ▸ h⟩, flush0_2 _, mem_blk _ i hb⟩

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

end Cert.DownIdeal.Sum

namespace Cert.DownRefIdeal.Sum

open Cert.DownRefIdeal Cert.DownRefIdeal.Gen Idealize.ShloMosaic Idealize.ShloMosaic.TcCoe Idealize.SL.Sem
open Idealize.ShloMosaic.ValueIdx

/-- The reference’s result is the same sum of its arguments. -/
theorem ref_eq (A : Vec Ideal S4096x2816 .bf16) (B : Vec Ideal S2816x1024 .bf16) :
    (Host.dotGeneral (F := Ideal) (φ₁ := .f32) (φ₂ := .f32) dot_S4096x2816_S2816x1024_S4096x1024_1_0_0_1_n_n none (extf .f32 A bitsLt_bf16_f32) (extf .f32 B bitsLt_bf16_f32) : FVec Ideal S4096x1024 .f32) = Cert.DownIdeal.Sum.G A B := by
  funext i
  refine Eq.trans (b := Ideal.matmul dot_S4096x2816_S2816x1024_S4096x1024_1_0_0_1_n_n A B (fun _ => 0) i) ?_ ?_
  · rfl
  · refine (Cert.Product.nn_apply (K := 2816) (M := 4096) (N := 1024) _ rfl rfl rfl rfl rfl rfl A B _ i).trans ?_
    rw [zero_add]; rfl

end Cert.DownRefIdeal.Sum

namespace Cert.Proof

open Idealize.ShloMosaic Idealize.ShloMosaic.TcCoe Idealize.SL.Sem

/-- The down-projection of the feed-forward part: kernel and reference end with equal results. -/
theorem algebraic_ffn_down : Cert.algebraic_DownIdeal_DownRefIdeal := by
  intro m ρ m' ρ' _ hag
  refine ⟨fun c => Cert.DownIdeal.Sum.G (m ((c.tc : Thread Cert.DownIdeal.nD Cert.DownIdeal.τ).loc Cert.DownIdeal.main_arg0)) (m ((c.tc : Thread Cert.DownIdeal.nD Cert.DownIdeal.τ).loc Cert.DownIdeal.main_arg1)),
    (θ_run Cert.DownIdeal.defs _ _).mono (fun _ h c => ⟨(h c).1.trans (Cert.DownIdeal.Sum.final m c), (h c).2⟩) (Cert.DownIdeal.Value.run_blocks (F := Ideal) m ρ),
    (θ_run Cert.DownRefIdeal.defs _ _).mono (fun _ h c => ⟨?_, (h c).2⟩) (Cert.DownRefIdeal.Value.run (F := Ideal) m' ρ')⟩
  refine (h c).1.trans ((Cert.DownRefIdeal.Sum.ref_eq _ _).trans ?_)
  rw [(hag c).1, (hag c).2]

/-- The reference leaves its arguments as they were. -/
theorem frame_ffn_down_ref : Cert.quiescent_DownRefIdeal := by
  intro m ρ _
  exact (θ_run Cert.DownRefIdeal.defs _ _).mono (fun r h => ⟨fun c => (h c).2,
      Idealize.ShloMosaic.sem_eq_zero_of_no_sems (by decide) r.2⟩)
    (Cert.DownRefIdeal.Value.run (F := Ideal) m ρ)

end Cert.Proof

end
-- ==== Proof.DownDx.lean ====
/-
  The gradient of the down-projection’s input: the kernel `ffn_down_dx` takes the product rows by rows, in 4 by 2 blocks of 1024 by 1408,
  the reference in one piece. Both hold the same sum at every entry.
-/
module

public import proofs.«01_k».proof.Defs
public import proofs.«01_k».proof.Proof.Gen.DownDxIdeal.Value
public import proofs.«01_k».proof.Proof.Gen.DownDxRefIdeal
public import proofs.«01_k».proof.Proof.Gen.DownDxRefIdeal.Run
public import proofs.«01_k».proof.Proof.Product
public import Idealize.ShloMosaic.Lib.Pipeline.Value
public import Idealize.ShloMosaic.Lib.Tactic

@[expose] public section

noncomputable section

namespace Cert.DownDxIdeal.Sum

open Cert.DownDxIdeal Cert.DownDxIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves: the product of its two blocks. -/
theorem out_eq (c : Dev nD) (i : grid0.Coords) (a3 h3 a4 h4 a5 h5 a6 h6)
    (x0 : Vec Ideal S1024x1024 .bf16) (x1 : Vec Ideal S1408x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S1024x1024) hz, View.ld_unit_zero (S := S1408x1024) hz]

/-- Entry `(i, j)` of the result. -/
def G (A : S4096x1024.Idx → EReal) (B : S2816x1024.Idx → EReal) : S4096x2816.Idx → EReal :=
  fun i => ∑ k : Fin 1024, A (ix2 (i 0) k) * B (ix2 (i 1) k)

theorem pay_apply (x0 : Vec Ideal S1024x1024 .bf16) (x1 : Vec Ideal S1408x1024 .bf16) (y : S1024x1408.Idx) :
    (k0_pay1 x0 x1 : S1024x1408.Idx → EReal) y = ∑ k : Fin 1024, x0 (ix2 (y 0) k) * x1 (ix2 (y 1) k) := by
  show Ideal.matmul dot_S1024x1024_S1408x1024_S1024x1408_1_1_0_0_n_n x0 x1 (constant (F := Ideal) S1024x1408 .f32 0x00000000#32) y = _
  refine (Cert.Product.nt_apply (K := 1024) (M := 1024) (N := 1408) _ rfl rfl rfl rfl rfl rfl x0 x1 _ y).trans ?_
  rw [show (constant (F := Ideal) S1024x1408 .f32 0x00000000#32 : S1024x1408.Idx → EReal) y = 0 by
    simp [constant, Ideal.ofBits, Ideal.ieee], zero_add]

/-- Where the blocks of point `t` lie in the three arrays. -/
theorem idx_facts : ∀ t : Fin cfg0.N, win0_0.index t 0 = t.val / 2 ∧ win0_0.index t 1 = 0 ∧ win0_1.index t 0 = t.val % 2
    ∧ win0_1.index t 1 = 0 ∧ win0_2.index t 0 = t.val / 2 ∧ win0_2.index t 1 = t.val % 2 :=
  (by decide +kernel : ∀ t : Fin grid0.N, win0_0.index t 0 = t.val / 2 ∧ win0_0.index t 1 = 0 ∧ win0_1.index t 0 = t.val % 2
    ∧ win0_1.index t 1 = 0 ∧ win0_2.index t 0 = t.val / 2 ∧ win0_2.index t 1 = t.val % 2)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2_A, out_eq]
  obtain ⟨h00, h01, h10, h11, h20, h21⟩ := idx_facts t
  funext y
  show (k0_pay1 (iblk m c 0 t) (iblk m c 1 t) : S1024x1408.Idx → EReal) y = G (V m c main_arg0) (V m c main_arg1) (((cfg0.win 2).blk t).view.emb y)
  rw [pay_apply]
  unfold G
  refine Finset.sum_congr rfl fun k _ => ?_
  congr 1
  · show V m c main_arg0 (((cfg0.win 0).blk t).view.emb (ix2 (y 0) k)) = _
    congr 1; funext a; apply Fin.ext
    match a with
    | ⟨0, _⟩ => show win0_0.index t 0 * 1024 + 1 * (y 0).val = win0_2.index t 0 * 1024 + 1 * (y 0).val; omega
    | ⟨1, _⟩ => show win0_0.index t 1 * 1024 + 1 * k.val = k.val; omega
  · show V m c main_arg1 (((cfg0.win 1).blk t).view.emb (ix2 (y 1) k)) = _
    congr 1; funext a; apply Fin.ext
    match a with
    | ⟨0, _⟩ => show win0_1.index t 0 * 1408 + 1 * (y 1).val = win0_2.index t 1 * 1408 + 1 * (y 1).val; omega
    | ⟨1, _⟩ => show win0_1.index t 1 * 1024 + 1 * k.val = k.val; omega

theorem mem_blk (t : Fin cfg0.N) (i : S4096x2816.Idx)
    (h : t.val / 2 * 1024 ≤ (i 0 : Nat) ∧ (i 0 : Nat) < t.val / 2 * 1024 + 1024
      ∧ t.val % 2 * 1408 ≤ (i 1 : Nat) ∧ (i 1 : Nat) < t.val % 2 * 1408 + 1408) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [h20]; exact ⟨h.1, h.2.1⟩
  | ⟨1, _⟩ => show win0_2.index t 1 * 1408 ≤ (i 1 : Nat) ∧ (i 1 : Nat) < win0_2.index t 1 * 1408 + 1408
              rw [h21]; exact h.2.2

/-- Every entry is in some block. -/
theorem cover (i : S4096x2816.Idx) : ∃ t : Fin cfg0.N, (cfg0.win 2).flush t = true ∧ i ∈ ((cfg0.win 2).blk t).view.set := by
  have hN : cfg0.N = 4 * 2 := N_0
  obtain ⟨h, hb⟩ := Cert.Product.block_of 4 2 1024 1408 (i 0) (i 1) (by decide) (by decide) (i 0).isLt (i 1).isLt
  exact ⟨⟨_, hN ▸ h⟩, flush0_2 _, mem_blk _ i hb⟩

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

end Cert.DownDxIdeal.Sum

namespace Cert.DownDxRefIdeal.Sum

open Cert.DownDxRefIdeal Cert.DownDxRefIdeal.Gen Idealize.ShloMosaic Idealize.ShloMosaic.TcCoe Idealize.SL.Sem
open Idealize.ShloMosaic.ValueIdx

/-- The reference’s result is the same sum of its arguments. -/
theorem ref_eq (A : Vec Ideal S4096x1024 .bf16) (B : Vec Ideal S2816x1024 .bf16) :
    (truncf .bf16 (Host.dotGeneral (F := Ideal) (φ₁ := .f32) (φ₂ := .f32) dot_S4096x1024_S2816x1024_S4096x2816_1_1_0_0_n_n none (extf .f32 A bitsLt_bf16_f32) (extf .f32 B bitsLt_bf16_f32)) bitsLt_bf16_f32 : FVec Ideal S4096x2816 .bf16) = Cert.DownDxIdeal.Sum.G A B := by
  funext i
  refine Eq.trans (b := Ideal.matmul dot_S4096x1024_S2816x1024_S4096x2816_1_1_0_0_n_n A B (fun _ => 0) i) ?_ ?_
  · rfl
  · refine (Cert.Product.nt_apply (K := 1024) (M := 4096) (N := 2816) _ rfl rfl rfl rfl rfl rfl A B _ i).trans ?_
    rw [zero_add]; rfl

end Cert.DownDxRefIdeal.Sum

namespace Cert.Proof

open Idealize.ShloMosaic Idealize.ShloMosaic.TcCoe Idealize.SL.Sem

/-- The gradient of the down-projection’s input: kernel and reference end with equal results. -/
theorem algebraic_ffn_down_dx : Cert.algebraic_DownDxIdeal_DownDxRefIdeal := by
  intro m ρ m' ρ' _ hag
  refine ⟨fun c => Cert.DownDxIdeal.Sum.G (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)),
    (θ_run Cert.DownDxIdeal.defs _ _).mono (fun _ h c => ⟨(h c).1.trans (Cert.DownDxIdeal.Sum.final m c), (h c).2⟩) (Cert.DownDxIdeal.Value.run_blocks (F := Ideal) m ρ),
    (θ_run Cert.DownDxRefIdeal.defs _ _).mono (fun _ h c => ⟨?_, (h c).2⟩) (Cert.DownDxRefIdeal.Value.run (F := Ideal) m' ρ')⟩
  refine (h c).1.trans ((Cert.DownDxRefIdeal.Sum.ref_eq _ _).trans ?_)
  rw [(hag c).1, (hag c).2]

/-- The reference leaves its arguments as they were. -/
theorem frame_ffn_down_dx_ref : Cert.quiescent_DownDxRefIdeal := by
  intro m ρ _
  exact (θ_run Cert.DownDxRefIdeal.defs _ _).mono (fun r h => ⟨fun c => (h c).2,
      Idealize.ShloMosaic.sem_eq_zero_of_no_sems (by decide) r.2⟩)
    (Cert.DownDxRefIdeal.Value.run (F := Ideal) m ρ)

end Cert.Proof

end
-- ==== Proof.DownDw.lean ====
/-
  The gradient of the down-projection weight: the kernel `ffn_down_dw` takes the product columns by columns, over the rows of the sequence, in 2 by 1 blocks of 1408 by 1024,
  the reference in one piece. Both hold the same sum at every entry.
-/
module

public import proofs.«01_k».proof.Defs
public import proofs.«01_k».proof.Proof.Gen.DownDwIdeal.Value
public import proofs.«01_k».proof.Proof.Gen.DownDwRefIdeal
public import proofs.«01_k».proof.Proof.Gen.DownDwRefIdeal.Run
public import proofs.«01_k».proof.Proof.Product
public import Idealize.ShloMosaic.Lib.Pipeline.Value
public import Idealize.ShloMosaic.Lib.Tactic

@[expose] public section

noncomputable section

namespace Cert.DownDwIdeal.Sum

open Cert.DownDwIdeal Cert.DownDwIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves: the product of its two blocks. -/
theorem out_eq (c : Dev nD) (i : grid0.Coords) (a3 h3 a4 h4 a5 h5 a6 h6)
    (x0 : Vec Ideal S4096x1408 .bf16) (x1 : Vec Ideal S4096x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S4096x1408) hz, View.ld_unit_zero (S := S4096x1024) hz]

/-- Entry `(i, j)` of the result. -/
def G (A : S4096x2816.Idx → EReal) (B : S4096x1024.Idx → EReal) : S2816x1024.Idx → EReal :=
  fun i => ∑ k : Fin 4096, A (ix2 k (i 0)) * B (ix2 k (i 1))

theorem pay_apply (x0 : Vec Ideal S4096x1408 .bf16) (x1 : Vec Ideal S4096x1024 .bf16) (y : S1408x1024.Idx) :
    (k0_pay1 x0 x1 : S1408x1024.Idx → EReal) y = ∑ k : Fin 4096, x0 (ix2 k (y 0)) * x1 (ix2 k (y 1)) := by
  show Ideal.matmul dot_S4096x1408_S4096x1024_S1408x1024_0_0_1_1_n_n x0 x1 (constant (F := Ideal) S1408x1024 .f32 0x00000000#32) y = _
  refine (Cert.Product.tn_apply (K := 4096) (M := 1408) (N := 1024) _ rfl rfl rfl rfl rfl rfl x0 x1 _ y).trans ?_
  rw [show (constant (F := Ideal) S1408x1024 .f32 0x00000000#32 : S1408x1024.Idx → EReal) y = 0 by
    simp [constant, Ideal.ofBits, Ideal.ieee], zero_add]

/-- Where the blocks of point `t` lie in the three arrays. -/
theorem idx_facts : ∀ t : Fin cfg0.N, win0_0.index t 0 = 0 ∧ win0_0.index t 1 = t.val / 1 ∧ win0_1.index t 0 = 0
    ∧ win0_1.index t 1 = t.val % 1 ∧ win0_2.index t 0 = t.val / 1 ∧ win0_2.index t 1 = t.val % 1 :=
  (by decide +kernel : ∀ t : Fin grid0.N, win0_0.index t 0 = 0 ∧ win0_0.index t 1 = t.val / 1 ∧ win0_1.index t 0 = 0
    ∧ win0_1.index t 1 = t.val % 1 ∧ win0_2.index t 0 = t.val / 1 ∧ win0_2.index t 1 = t.val % 1)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2_A, out_eq]
  obtain ⟨h00, h01, h10, h11, h20, h21⟩ := idx_facts t
  funext y
  show (k0_pay1 (iblk m c 0 t) (iblk m c 1 t) : S1408x1024.Idx → EReal) y = G (V m c main_arg0) (V m c main_arg1) (((cfg0.win 2).blk t).view.emb y)
  rw [pay_apply]
  unfold G
  refine Finset.sum_congr rfl fun k _ => ?_
  congr 1
  · show V m c main_arg0 (((cfg0.win 0).blk t).view.emb (ix2 k (y 0))) = _
    congr 1; funext a; apply Fin.ext
    match a with
    | ⟨0, _⟩ => show win0_0.index t 0 * 4096 + 1 * k.val = k.val; omega
    | ⟨1, _⟩ => show win0_0.index t 1 * 1408 + 1 * (y 0).val = win0_2.index t 0 * 1408 + 1 * (y 0).val; omega
  · show V m c main_arg1 (((cfg0.win 1).blk t).view.emb (ix2 k (y 1))) = _
    congr 1; funext a; apply Fin.ext
    match a with
    | ⟨0, _⟩ => show win0_1.index t 0 * 4096 + 1 * k.val = k.val; omega
    | ⟨1, _⟩ => show win0_1.index t 1 * 1024 + 1 * (y 1).val = win0_2.index t 1 * 1024 + 1 * (y 1).val; omega

theorem mem_blk (t : Fin cfg0.N) (i : S2816x1024.Idx)
    (h : t.val / 1 * 1408 ≤ (i 0 : Nat) ∧ (i 0 : Nat) < t.val / 1 * 1408 + 1408
      ∧ t.val % 1 * 1024 ≤ (i 1 : Nat) ∧ (i 1 : Nat) < t.val % 1 * 1024 + 1024) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  intro a
  match a with
  | ⟨0, _⟩ => show win0_2.index t 0 * 1408 ≤ (i 0 : Nat) ∧ (i 0 : Nat) < win0_2.index t 0 * 1408 + 1408
              rw [h20]; exact ⟨h.1, h.2.1⟩
  | ⟨1, _⟩ => show win0_2.index t 1 * 1024 ≤ (i 1 : Nat) ∧ (i 1 : Nat) < win0_2.index t 1 * 1024 + 1024
              rw [h21]; exact h.2.2

/-- Every entry is in some block. -/
theorem cover (i : S2816x1024.Idx) : ∃ t : Fin cfg0.N, (cfg0.win 2).flush t = true ∧ i ∈ ((cfg0.win 2).blk t).view.set := by
  have hN : cfg0.N = 2 * 1 := N_0
  obtain ⟨h, hb⟩ := Cert.Product.block_of 2 1 1408 1024 (i 0) (i 1) (by decide) (by decide) (i 0).isLt (i 1).isLt
  exact ⟨⟨_, hN ▸ h⟩, flush0_2 _, mem_blk _ i hb⟩

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

end Cert.DownDwIdeal.Sum

namespace Cert.DownDwRefIdeal.Sum

open Cert.DownDwRefIdeal Cert.DownDwRefIdeal.Gen Idealize.ShloMosaic Idealize.ShloMosaic.TcCoe Idealize.SL.Sem
open Idealize.ShloMosaic.ValueIdx

/-- The reference contracts the factors the other way round and transposes: the same sum of its arguments. -/
theorem ref_eq (A : Vec Ideal S4096x2816 .bf16) (B : Vec Ideal S4096x1024 .bf16) :
    (truncf .bf16 (transpose S2816x1024 [1, 0] (Host.dotGeneral (F := Ideal) (φ₁ := .f32) (φ₂ := .f32) dot_S4096x1024_S4096x2816_S1024x2816_0_0_1_1_n_n none (extf .f32 B bitsLt_bf16_f32) (extf .f32 A bitsLt_bf16_f32)) transposes_S1024x2816_S2816x1024_1_0) bitsLt_bf16_f32 : FVec Ideal S2816x1024 .bf16) = Cert.DownDwIdeal.Sum.G A B := by
  funext i
  refine Eq.trans (b := Ideal.matmul dot_S4096x1024_S4096x2816_S1024x2816_0_0_1_1_n_n B A (fun _ => 0) (ix2 (i 1) (i 0))) ?_ ?_
  · show Ideal.matmul dot_S4096x1024_S4096x2816_S1024x2816_0_0_1_1_n_n B A (fun _ => 0) _ = _
    congr 1; funext a; apply Fin.ext
    match a with
    | ⟨0, _⟩ => simp [Shape.Transposes.src]; rfl
    | ⟨1, _⟩ => simp [Shape.Transposes.src]; rfl
  · refine (Cert.Product.tn_apply (K := 4096) (M := 1024) (N := 2816) _ rfl rfl rfl rfl rfl rfl B A _ (ix2 (i 1) (i 0))).trans ?_
    rw [zero_add]
    exact Finset.sum_congr rfl fun k _ => mul_comm _ _

end Cert.DownDwRefIdeal.Sum

namespace Cert.Proof

open Idealize.ShloMosaic Idealize.ShloMosaic.TcCoe Idealize.SL.Sem

/-- The gradient of the down-projection weight: kernel and reference end with equal results. -/
theorem algebraic_ffn_down_dw : Cert.algebraic_DownDwIdeal_DownDwRefIdeal := by
  intro m ρ m' ρ' _ hag
  refine ⟨fun c => Cert.DownDwIdeal.Sum.G (m ((c.tc : Thread Cert.DownDwIdeal.nD Cert.DownDwIdeal.τ).loc Cert.DownDwIdeal.main_arg0)) (m ((c.tc : Thread Cert.DownDwIdeal.nD Cert.DownDwIdeal.τ).loc Cert.DownDwIdeal.main_arg1)),
    (θ_run Cert.DownDwIdeal.defs _ _).mono (fun _ h c => ⟨(h c).1.trans (Cert.DownDwIdeal.Sum.final m c), (h c).2⟩) (Cert.DownDwIdeal.Value.run_blocks (F := Ideal) m ρ),
    (θ_run Cert.DownDwRefIdeal.defs _ _).mono (fun _ h c => ⟨?_, (h c).2⟩) (Cert.DownDwRefIdeal.Value.run (F := Ideal) m' ρ')⟩
  refine (h c).1.trans ((Cert.DownDwRefIdeal.Sum.ref_eq _ _).trans ?_)
  rw [(hag c).1, (hag c).2]

/-- The reference leaves its arguments as they were. -/
theorem frame_ffn_down_dw_ref : Cert.quiescent_DownDwRefIdeal := by
  intro m ρ _
  exact (θ_run Cert.DownDwRefIdeal.defs _ _).mono (fun r h => ⟨fun c => (h c).2,
      Idealize.ShloMosaic.sem_eq_zero_of_no_sems (by decide) r.2⟩)
    (Cert.DownDwRefIdeal.Value.run (F := Ideal) m ρ)

end Cert.Proof

end
-- ==== Proof.Mix.lean ====
/-
  The output projection of the gated mix: the kernel `mix_out` takes the product rows by columns, in 4 by 1 blocks of 1024 by 1024,
  the reference in one piece. Both hold the same sum at every entry.
-/
module

public import proofs.«01_k».proof.Defs
public import proofs.«01_k».proof.Proof.Gen.MixIdeal.Value
public import proofs.«01_k».proof.Proof.Gen.MixRefIdeal
public import proofs.«01_k».proof.Proof.Gen.MixRefIdeal.Run
public import proofs.«01_k».proof.Proof.Product
public import Idealize.ShloMosaic.Lib.Pipeline.Value
public import Idealize.ShloMosaic.Lib.Tactic

@[expose] public section

noncomputable section

namespace Cert.MixIdeal.Sum

open Cert.MixIdeal Cert.MixIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves: the product of its two blocks. -/
theorem out_eq (c : Dev nD) (i : grid0.Coords) (a3 h3 a4 h4 a5 h5 a6 h6)
    (x0 : Vec Ideal S1024x1024 .bf16) (x1 : Vec Ideal S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S1024x1024) hz]

/-- Entry `(i, j)` of the result. -/
def G (A : S4096x1024.Idx → EReal) (B : S1024x1024.Idx → EReal) : S4096x1024.Idx → EReal :=
  fun i => ∑ k : Fin 1024, A (ix2 (i 0) k) * B (ix2 k (i 1))

theorem pay_apply (x0 : Vec Ideal S1024x1024 .bf16) (x1 : Vec Ideal S1024x1024 .bf16) (y : S1024x1024.Idx) :
    (k0_pay1 x0 x1 : S1024x1024.Idx → EReal) y = ∑ k : Fin 1024, x0 (ix2 (y 0) k) * x1 (ix2 k (y 1)) := by
  show Ideal.matmul dot_S1024x1024_S1024x1024_S1024x1024_1_0_0_1_n_n x0 x1 (constant (F := Ideal) S1024x1024 .f32 0x00000000#32) y = _
  refine (Cert.Product.nn_apply (K := 1024) (M := 1024) (N := 1024) _ rfl rfl rfl rfl rfl rfl x0 x1 _ y).trans ?_
  rw [show (constant (F := Ideal) S1024x1024 .f32 0x00000000#32 : S1024x1024.Idx → EReal) y = 0 by
    simp [constant, Ideal.ofBits, Ideal.ieee], zero_add]

/-- Where the blocks of point `t` lie in the three arrays. -/
theorem idx_facts : ∀ t : Fin cfg0.N, win0_0.index t 0 = t.val / 1 ∧ win0_0.index t 1 = 0 ∧ win0_1.index t 0 = 0
    ∧ win0_1.index t 1 = t.val % 1 ∧ win0_2.index t 0 = t.val / 1 ∧ win0_2.index t 1 = t.val % 1 :=
  (by decide +kernel : ∀ t : Fin grid0.N, win0_0.index t 0 = t.val / 1 ∧ win0_0.index t 1 = 0 ∧ win0_1.index t 0 = 0
    ∧ win0_1.index t 1 = t.val % 1 ∧ win0_2.index t 0 = t.val / 1 ∧ win0_2.index t 1 = t.val % 1)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2_A, out_eq]
  obtain ⟨h00, h01, h10, h11, h20, h21⟩ := idx_facts t
  funext y
  show (k0_pay1 (iblk m c 0 t) (iblk m c 1 t) : S1024x1024.Idx → EReal) y = G (V m c main_arg0) (V m c main_arg1) (((cfg0.win 2).blk t).view.emb y)
  rw [pay_apply]
  unfold G
  refine Finset.sum_congr rfl fun k _ => ?_
  congr 1
  · show V m c main_arg0 (((cfg0.win 0).blk t).view.emb (ix2 (y 0) k)) = _
    congr 1; funext a; apply Fin.ext
    match a with
    | ⟨0, _⟩ => show win0_0.index t 0 * 1024 + 1 * (y 0).val = win0_2.index t 0 * 1024 + 1 * (y 0).val; omega
    | ⟨1, _⟩ => show win0_0.index t 1 * 1024 + 1 * k.val = k.val; omega
  · show V m c main_arg1 (((cfg0.win 1).blk t).view.emb (ix2 k (y 1))) = _
    congr 1; funext a; apply Fin.ext
    match a with
    | ⟨0, _⟩ => show win0_1.index t 0 * 1024 + 1 * k.val = k.val; omega
    | ⟨1, _⟩ => show win0_1.index t 1 * 1024 + 1 * (y 1).val = win0_2.index t 1 * 1024 + 1 * (y 1).val; omega

theorem mem_blk (t : Fin cfg0.N) (i : S4096x1024.Idx)
    (h : t.val / 1 * 1024 ≤ (i 0 : Nat) ∧ (i 0 : Nat) < t.val / 1 * 1024 + 1024
      ∧ t.val % 1 * 1024 ≤ (i 1 : Nat) ∧ (i 1 : Nat) < t.val % 1 * 1024 + 1024) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [h20]; exact ⟨h.1, h.2.1⟩
  | ⟨1, _⟩ => show win0_2.index t 1 * 1024 ≤ (i 1 : Nat) ∧ (i 1 : Nat) < win0_2.index t 1 * 1024 + 1024
              rw [h21]; exact h.2.2

/-- Every entry is in some block. -/
theorem cover (i : S4096x1024.Idx) : ∃ t : Fin cfg0.N, (cfg0.win 2).flush t = true ∧ i ∈ ((cfg0.win 2).blk t).view.set := by
  have hN : cfg0.N = 4 * 1 := N_0
  obtain ⟨h, hb⟩ := Cert.Product.block_of 4 1 1024 1024 (i 0) (i 1) (by decide) (by decide) (i 0).isLt (i 1).isLt
  exact ⟨⟨_, hN ▸ h⟩, flush0_2 _, mem_blk _ i hb⟩

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

end Cert.MixIdeal.Sum

namespace Cert.MixRefIdeal.Sum

open Cert.MixRefIdeal Cert.MixRefIdeal.Gen Idealize.ShloMosaic Idealize.ShloMosaic.TcCoe Idealize.SL.Sem
open Idealize.ShloMosaic.ValueIdx

/-- The reference’s result is the same sum of its arguments. -/
theorem ref_eq (A : Vec Ideal S4096x1024 .bf16) (B : Vec Ideal S1024x1024 .bf16) :
    (Host.dotGeneral (F := Ideal) (φ₁ := .f32) (φ₂ := .f32) dot_S4096x1024_S1024x1024_S4096x1024_1_0_0_1_n_n none (extf .f32 A bitsLt_bf16_f32) (extf .f32 B bitsLt_bf16_f32) : FVec Ideal S4096x1024 .f32) = Cert.MixIdeal.Sum.G A B := by
  funext i
  refine Eq.trans (b := Ideal.matmul dot_S4096x1024_S1024x1024_S4096x1024_1_0_0_1_n_n A B (fun _ => 0) i) ?_ ?_
  · rfl
  · refine (Cert.Product.nn_apply (K := 1024) (M := 4096) (N := 1024) _ rfl rfl rfl rfl rfl rfl A B _ i).trans ?_
    rw [zero_add]; rfl

end Cert.MixRefIdeal.Sum

namespace Cert.Proof

open Idealize.ShloMosaic Idealize.ShloMosaic.TcCoe Idealize.SL.Sem

/-- The output projection of the gated mix: kernel and reference end with equal results. -/
theorem algebraic_mix_out : Cert.algebraic_MixIdeal_MixRefIdeal := by
  intro m ρ m' ρ' _ hag
  refine ⟨fun c => Cert.MixIdeal.Sum.G (m ((c.tc : Thread Cert.MixIdeal.nD Cert.MixIdeal.τ).loc Cert.MixIdeal.main_arg0)) (m ((c.tc : Thread Cert.MixIdeal.nD Cert.MixIdeal.τ).loc Cert.MixIdeal.main_arg1)),
    (θ_run Cert.MixIdeal.defs _ _).mono (fun _ h c => ⟨(h c).1.trans (Cert.MixIdeal.Sum.final m c), (h c).2⟩) (Cert.MixIdeal.Value.run_blocks (F := Ideal) m ρ),
    (θ_run Cert.MixRefIdeal.defs _ _).mono (fun _ h c => ⟨?_, (h c).2⟩) (Cert.MixRefIdeal.Value.run (F := Ideal) m' ρ')⟩
  refine (h c).1.trans ((Cert.MixRefIdeal.Sum.ref_eq _ _).trans ?_)
  rw [(hag c).1, (hag c).2]

/-- The reference leaves its arguments as they were. -/
theorem frame_mix_out_ref : Cert.quiescent_MixRefIdeal := by
  intro m ρ _
  exact (θ_run Cert.MixRefIdeal.defs _ _).mono (fun r h => ⟨fun c => (h c).2,
      Idealize.ShloMosaic.sem_eq_zero_of_no_sems (by decide) r.2⟩)
    (Cert.MixRefIdeal.Value.run (F := Ideal) m ρ)

end Cert.Proof

end
-- ==== Proof.MixDx.lean ====
/-
  The gradient of the gated mix: the kernel `mix_out_dx` takes the product rows by rows, in 4 by 1 blocks of 1024 by 1024,
  the reference in one piece. Both hold the same sum at every entry.
-/
module

public import proofs.«01_k».proof.Defs
public import proofs.«01_k».proof.Proof.Gen.MixDxIdeal.Value
public import proofs.«01_k».proof.Proof.Gen.MixDxRefIdeal
public import proofs.«01_k».proof.Proof.Gen.MixDxRefIdeal.Run
public import proofs.«01_k».proof.Proof.Product
public import Idealize.ShloMosaic.Lib.Pipeline.Value
public import Idealize.ShloMosaic.Lib.Tactic

@[expose] public section

noncomputable section

namespace Cert.MixDxIdeal.Sum

open Cert.MixDxIdeal Cert.MixDxIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves: the product of its two blocks. -/
theorem out_eq (c : Dev nD) (i : grid0.Coords) (a3 h3 a4 h4 a5 h5 a6 h6)
    (x0 : Vec Ideal S1024x1024 .bf16) (x1 : Vec Ideal S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S1024x1024) hz]

/-- Entry `(i, j)` of the result. -/
def G (A : S4096x1024.Idx → EReal) (B : S1024x1024.Idx → EReal) : S4096x1024.Idx → EReal :=
  fun i => ∑ k : Fin 1024, A (ix2 (i 0) k) * B (ix2 (i 1) k)

theorem pay_apply (x0 : Vec Ideal S1024x1024 .bf16) (x1 : Vec Ideal S1024x1024 .bf16) (y : S1024x1024.Idx) :
    (k0_pay1 x0 x1 : S1024x1024.Idx → EReal) y = ∑ k : Fin 1024, x0 (ix2 (y 0) k) * x1 (ix2 (y 1) k) := by
  show Ideal.matmul dot_S1024x1024_S1024x1024_S1024x1024_1_1_0_0_n_n x0 x1 (constant (F := Ideal) S1024x1024 .f32 0x00000000#32) y = _
  refine (Cert.Product.nt_apply (K := 1024) (M := 1024) (N := 1024) _ rfl rfl rfl rfl rfl rfl x0 x1 _ y).trans ?_
  rw [show (constant (F := Ideal) S1024x1024 .f32 0x00000000#32 : S1024x1024.Idx → EReal) y = 0 by
    simp [constant, Ideal.ofBits, Ideal.ieee], zero_add]

/-- Where the blocks of point `t` lie in the three arrays. -/
theorem idx_facts : ∀ t : Fin cfg0.N, win0_0.index t 0 = t.val / 1 ∧ win0_0.index t 1 = 0 ∧ win0_1.index t 0 = t.val % 1
    ∧ win0_1.index t 1 = 0 ∧ win0_2.index t 0 = t.val / 1 ∧ win0_2.index t 1 = t.val % 1 :=
  (by decide +kernel : ∀ t : Fin grid0.N, win0_0.index t 0 = t.val / 1 ∧ win0_0.index t 1 = 0 ∧ win0_1.index t 0 = t.val % 1
    ∧ win0_1.index t 1 = 0 ∧ win0_2.index t 0 = t.val / 1 ∧ win0_2.index t 1 = t.val % 1)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2_A, out_eq]
  obtain ⟨h00, h01, h10, h11, h20, h21⟩ := idx_facts t
  funext y
  show (k0_pay1 (iblk m c 0 t) (iblk m c 1 t) : S1024x1024.Idx → EReal) y = G (V m c main_arg0) (V m c main_arg1) (((cfg0.win 2).blk t).view.emb y)
  rw [pay_apply]
  unfold G
  refine Finset.sum_congr rfl fun k _ => ?_
  congr 1
  · show V m c main_arg0 (((cfg0.win 0).blk t).view.emb (ix2 (y 0) k)) = _
    congr 1; funext a; apply Fin.ext
    match a with
    | ⟨0, _⟩ => show win0_0.index t 0 * 1024 + 1 * (y 0).val = win0_2.index t 0 * 1024 + 1 * (y 0).val; omega
    | ⟨1, _⟩ => show win0_0.index t 1 * 1024 + 1 * k.val = k.val; omega
  · show V m c main_arg1 (((cfg0.win 1).blk t).view.emb (ix2 (y 1) k)) = _
    congr 1; funext a; apply Fin.ext
    match a with
    | ⟨0, _⟩ => show win0_1.index t 0 * 1024 + 1 * (y 1).val = win0_2.index t 1 * 1024 + 1 * (y 1).val; omega
    | ⟨1, _⟩ => show win0_1.index t 1 * 1024 + 1 * k.val = k.val; omega

theorem mem_blk (t : Fin cfg0.N) (i : S4096x1024.Idx)
    (h : t.val / 1 * 1024 ≤ (i 0 : Nat) ∧ (i 0 : Nat) < t.val / 1 * 1024 + 1024
      ∧ t.val % 1 * 1024 ≤ (i 1 : Nat) ∧ (i 1 : Nat) < t.val % 1 * 1024 + 1024) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [h20]; exact ⟨h.1, h.2.1⟩
  | ⟨1, _⟩ => show win0_2.index t 1 * 1024 ≤ (i 1 : Nat) ∧ (i 1 : Nat) < win0_2.index t 1 * 1024 + 1024
              rw [h21]; exact h.2.2

/-- Every entry is in some block. -/
theorem cover (i : S4096x1024.Idx) : ∃ t : Fin cfg0.N, (cfg0.win 2).flush t = true ∧ i ∈ ((cfg0.win 2).blk t).view.set := by
  have hN : cfg0.N = 4 * 1 := N_0
  obtain ⟨h, hb⟩ := Cert.Product.block_of 4 1 1024 1024 (i 0) (i 1) (by decide) (by decide) (i 0).isLt (i 1).isLt
  exact ⟨⟨_, hN ▸ h⟩, flush0_2 _, mem_blk _ i hb⟩

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

end Cert.MixDxIdeal.Sum

namespace Cert.MixDxRefIdeal.Sum

open Cert.MixDxRefIdeal Cert.MixDxRefIdeal.Gen Idealize.ShloMosaic Idealize.ShloMosaic.TcCoe Idealize.SL.Sem
open Idealize.ShloMosaic.ValueIdx

/-- The reference’s result is the same sum of its arguments. -/
theorem ref_eq (A : Vec Ideal S4096x1024 .bf16) (B : Vec Ideal S1024x1024 .bf16) :
    (Host.dotGeneral (F := Ideal) (φ₁ := .f32) (φ₂ := .f32) dot_S4096x1024_S1024x1024_S4096x1024_1_1_0_0_n_n none (extf .f32 A bitsLt_bf16_f32) (extf .f32 B bitsLt_bf16_f32) : FVec Ideal S4096x1024 .f32) = Cert.MixDxIdeal.Sum.G A B := by
  funext i
  refine Eq.trans (b := Ideal.matmul dot_S4096x1024_S1024x1024_S4096x1024_1_1_0_0_n_n A B (fun _ => 0) i) ?_ ?_
  · rfl
  · refine (Cert.Product.nt_apply (K := 1024) (M := 4096) (N := 1024) _ rfl rfl rfl rfl rfl rfl A B _ i).trans ?_
    rw [zero_add]; rfl

end Cert.MixDxRefIdeal.Sum

namespace Cert.Proof

open Idealize.ShloMosaic Idealize.ShloMosaic.TcCoe Idealize.SL.Sem

/-- The gradient of the gated mix: kernel and reference end with equal results. -/
theorem algebraic_mix_out_dx : Cert.algebraic_MixDxIdeal_MixDxRefIdeal := by
  intro m ρ m' ρ' _ hag
  refine ⟨fun c => Cert.MixDxIdeal.Sum.G (m ((c.tc : Thread Cert.MixDxIdeal.nD Cert.MixDxIdeal.τ).loc Cert.MixDxIdeal.main_arg0)) (m ((c.tc : Thread Cert.MixDxIdeal.nD Cert.MixDxIdeal.τ).loc Cert.MixDxIdeal.main_arg1)),
    (θ_run Cert.MixDxIdeal.defs _ _).mono (fun _ h c => ⟨(h c).1.trans (Cert.MixDxIdeal.Sum.final m c), (h c).2⟩) (Cert.MixDxIdeal.Value.run_blocks (F := Ideal) m ρ),
    (θ_run Cert.MixDxRefIdeal.defs _ _).mono (fun _ h c => ⟨?_, (h c).2⟩) (Cert.MixDxRefIdeal.Value.run (F := Ideal) m' ρ')⟩
  refine (h c).1.trans ((Cert.MixDxRefIdeal.Sum.ref_eq _ _).trans ?_)
  rw [(hag c).1, (hag c).2]

/-- The reference leaves its arguments as they were. -/
theorem frame_mix_out_dx_ref : Cert.quiescent_MixDxRefIdeal := by
  intro m ρ _
  exact (θ_run Cert.MixDxRefIdeal.defs _ _).mono (fun r h => ⟨fun c => (h c).2,
      Idealize.ShloMosaic.sem_eq_zero_of_no_sems (by decide) r.2⟩)
    (Cert.MixDxRefIdeal.Value.run (F := Ideal) m ρ)

end Cert.Proof

end
-- ==== Proof.MixDw.lean ====
/-
  The gradient of the mix’s output weight: the kernel `mix_out_dw` takes the product columns by columns, over the rows of the sequence, in 1 by 1 blocks of 1024 by 1024,
  the reference in one piece. Both hold the same sum at every entry.
-/
module

public import proofs.«01_k».proof.Defs
public import proofs.«01_k».proof.Proof.Gen.MixDwIdeal.Value
public import proofs.«01_k».proof.Proof.Gen.MixDwRefIdeal
public import proofs.«01_k».proof.Proof.Gen.MixDwRefIdeal.Run
public import proofs.«01_k».proof.Proof.Product
public import Idealize.ShloMosaic.Lib.Pipeline.Value
public import Idealize.ShloMosaic.Lib.Tactic

@[expose] public section

noncomputable section

namespace Cert.MixDwIdeal.Sum

open Cert.MixDwIdeal Cert.MixDwIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves: the product of its two blocks. -/
theorem out_eq (c : Dev nD) (i : grid0.Coords) (a3 h3 a4 h4 a5 h5 a6 h6)
    (x0 : Vec Ideal S4096x1024 .bf16) (x1 : Vec Ideal S4096x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S4096x1024) hz]

/-- Entry `(i, j)` of the result. -/
def G (A : S4096x1024.Idx → EReal) (B : S4096x1024.Idx → EReal) : S1024x1024.Idx → EReal :=
  fun i => ∑ k : Fin 4096, A (ix2 k (i 0)) * B (ix2 k (i 1))

theorem pay_apply (x0 : Vec Ideal S4096x1024 .bf16) (x1 : Vec Ideal S4096x1024 .bf16) (y : S1024x1024.Idx) :
    (k0_pay1 x0 x1 : S1024x1024.Idx → EReal) y = ∑ k : Fin 4096, x0 (ix2 k (y 0)) * x1 (ix2 k (y 1)) := by
  show Ideal.matmul dot_S4096x1024_S4096x1024_S1024x1024_0_0_1_1_n_n x0 x1 (constant (F := Ideal) S1024x1024 .f32 0x00000000#32) y = _
  refine (Cert.Product.tn_apply (K := 4096) (M := 1024) (N := 1024) _ rfl rfl rfl rfl rfl rfl x0 x1 _ y).trans ?_
  rw [show (constant (F := Ideal) S1024x1024 .f32 0x00000000#32 : S1024x1024.Idx → EReal) y = 0 by
    simp [constant, Ideal.ofBits, Ideal.ieee], zero_add]

/-- Where the blocks of point `t` lie in the three arrays. -/
theorem idx_facts : ∀ t : Fin cfg0.N, win0_0.index t 0 = 0 ∧ win0_0.index t 1 = t.val / 1 ∧ win0_1.index t 0 = 0
    ∧ win0_1.index t 1 = t.val % 1 ∧ win0_2.index t 0 = t.val / 1 ∧ win0_2.index t 1 = t.val % 1 :=
  (by decide +kernel : ∀ t : Fin grid0.N, win0_0.index t 0 = 0 ∧ win0_0.index t 1 = t.val / 1 ∧ win0_1.index t 0 = 0
    ∧ win0_1.index t 1 = t.val % 1 ∧ win0_2.index t 0 = t.val / 1 ∧ win0_2.index t 1 = t.val % 1)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2_A, out_eq]
  obtain ⟨h00, h01, h10, h11, h20, h21⟩ := idx_facts t
  funext y
  show (k0_pay1 (iblk m c 0 t) (iblk m c 1 t) : S1024x1024.Idx → EReal) y = G (V m c main_arg0) (V m c main_arg1) (((cfg0.win 2).blk t).view.emb y)
  rw [pay_apply]
  unfold G
  refine Finset.sum_congr rfl fun k _ => ?_
  congr 1
  · show V m c main_arg0 (((cfg0.win 0).blk t).view.emb (ix2 k (y 0))) = _
    congr 1; funext a; apply Fin.ext
    match a with
    | ⟨0, _⟩ => show win0_0.index t 0 * 4096 + 1 * k.val = k.val; omega
    | ⟨1, _⟩ => show win0_0.index t 1 * 1024 + 1 * (y 0).val = win0_2.index t 0 * 1024 + 1 * (y 0).val; omega
  · show V m c main_arg1 (((cfg0.win 1).blk t).view.emb (ix2 k (y 1))) = _
    congr 1; funext a; apply Fin.ext
    match a with
    | ⟨0, _⟩ => show win0_1.index t 0 * 4096 + 1 * k.val = k.val; omega
    | ⟨1, _⟩ => show win0_1.index t 1 * 1024 + 1 * (y 1).val = win0_2.index t 1 * 1024 + 1 * (y 1).val; omega

theorem mem_blk (t : Fin cfg0.N) (i : S1024x1024.Idx)
    (h : t.val / 1 * 1024 ≤ (i 0 : Nat) ∧ (i 0 : Nat) < t.val / 1 * 1024 + 1024
      ∧ t.val % 1 * 1024 ≤ (i 1 : Nat) ∧ (i 1 : Nat) < t.val % 1 * 1024 + 1024) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [h20]; exact ⟨h.1, h.2.1⟩
  | ⟨1, _⟩ => show win0_2.index t 1 * 1024 ≤ (i 1 : Nat) ∧ (i 1 : Nat) < win0_2.index t 1 * 1024 + 1024
              rw [h21]; exact h.2.2

/-- Every entry is in some block. -/
theorem cover (i : S1024x1024.Idx) : ∃ t : Fin cfg0.N, (cfg0.win 2).flush t = true ∧ i ∈ ((cfg0.win 2).blk t).view.set := by
  have hN : cfg0.N = 1 * 1 := N_0
  obtain ⟨h, hb⟩ := Cert.Product.block_of 1 1 1024 1024 (i 0) (i 1) (by decide) (by decide) (i 0).isLt (i 1).isLt
  exact ⟨⟨_, hN ▸ h⟩, flush0_2 _, mem_blk _ i hb⟩

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

end Cert.MixDwIdeal.Sum

namespace Cert.MixDwRefIdeal.Sum

open Cert.MixDwRefIdeal Cert.MixDwRefIdeal.Gen Idealize.ShloMosaic Idealize.ShloMosaic.TcCoe Idealize.SL.Sem
open Idealize.ShloMosaic.ValueIdx

/-- The reference contracts the factors the other way round and transposes: the same sum of its arguments. -/
theorem ref_eq (A : Vec Ideal S4096x1024 .bf16) (B : Vec Ideal S4096x1024 .bf16) :
    (truncf .bf16 (transpose S1024x1024 [1, 0] (Host.dotGeneral (F := Ideal) (φ₁ := .f32) (φ₂ := .f32) dot_S4096x1024_S4096x1024_S1024x1024_0_0_1_1_n_n none (extf .f32 B bitsLt_bf16_f32) (extf .f32 A bitsLt_bf16_f32)) transposes_S1024x1024_S1024x1024_1_0) bitsLt_bf16_f32 : FVec Ideal S1024x1024 .bf16) = Cert.MixDwIdeal.Sum.G A B := by
  funext i
  refine Eq.trans (b := Ideal.matmul dot_S4096x1024_S4096x1024_S1024x1024_0_0_1_1_n_n B A (fun _ => 0) (ix2 (i 1) (i 0))) ?_ ?_
  · show Ideal.matmul dot_S4096x1024_S4096x1024_S1024x1024_0_0_1_1_n_n B A (fun _ => 0) _ = _
    congr 1; funext a; apply Fin.ext
    match a with
    | ⟨0, _⟩ => simp [Shape.Transposes.src]; rfl
    | ⟨1, _⟩ => simp [Shape.Transposes.src]; rfl
  · refine (Cert.Product.tn_apply (K := 4096) (M := 1024) (N := 1024) _ rfl rfl rfl rfl rfl rfl B A _ (ix2 (i 1) (i 0))).trans ?_
    rw [zero_add]
    exact Finset.sum_congr rfl fun k _ => mul_comm _ _

end Cert.MixDwRefIdeal.Sum

namespace Cert.Proof

open Idealize.ShloMosaic Idealize.ShloMosaic.TcCoe Idealize.SL.Sem

/-- The gradient of the mix’s output weight: kernel and reference end with equal results. -/
theorem algebraic_mix_out_dw : Cert.algebraic_MixDwIdeal_MixDwRefIdeal := by
  intro m ρ m' ρ' _ hag
  refine ⟨fun c => Cert.MixDwIdeal.Sum.G (m ((c.tc : Thread Cert.MixDwIdeal.nD Cert.MixDwIdeal.τ).loc Cert.MixDwIdeal.main_arg0)) (m ((c.tc : Thread Cert.MixDwIdeal.nD Cert.MixDwIdeal.τ).loc Cert.MixDwIdeal.main_arg1)),
    (θ_run Cert.MixDwIdeal.defs _ _).mono (fun _ h c => ⟨(h c).1.trans (Cert.MixDwIdeal.Sum.final m c), (h c).2⟩) (Cert.MixDwIdeal.Value.run_blocks (F := Ideal) m ρ),
    (θ_run Cert.MixDwRefIdeal.defs _ _).mono (fun _ h c => ⟨?_, (h c).2⟩) (Cert.MixDwRefIdeal.Value.run (F := Ideal) m' ρ')⟩
  refine (h c).1.trans ((Cert.MixDwRefIdeal.Sum.ref_eq _ _).trans ?_)
  rw [(hag c).1, (hag c).2]

/-- The reference leaves its arguments as they were. -/
theorem frame_mix_out_dw_ref : Cert.quiescent_MixDwRefIdeal := by
  intro m ρ _
  exact (θ_run Cert.MixDwRefIdeal.defs _ _).mono (fun r h => ⟨fun c => (h c).2,
      Idealize.ShloMosaic.sem_eq_zero_of_no_sems (by decide) r.2⟩)
    (Cert.MixDwRefIdeal.Value.run (F := Ideal) m ρ)

end Cert.Proof

end
-- ==== Proof.Rw.lean ====
/-
  The output projection of the recurrent mixer: the kernel `rwkv_out` takes the product rows by columns, in 4 by 1 blocks of 1024 by 1024,
  the reference in one piece. Both hold the same sum at every entry.
-/
module

public import proofs.«01_k».proof.Defs
public import proofs.«01_k».proof.Proof.Gen.RwIdeal.Value
public import proofs.«01_k».proof.Proof.Gen.RwRefIdeal
public import proofs.«01_k».proof.Proof.Gen.RwRefIdeal.Run
public import proofs.«01_k».proof.Proof.Product
public import Idealize.ShloMosaic.Lib.Pipeline.Value
public import Idealize.ShloMosaic.Lib.Tactic

@[expose] public section

noncomputable section

namespace Cert.RwIdeal.Sum

open Cert.RwIdeal Cert.RwIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves: the product of its two blocks. -/
theorem out_eq (c : Dev nD) (i : grid0.Coords) (a3 h3 a4 h4 a5 h5 a6 h6)
    (x0 : Vec Ideal S1024x1024 .bf16) (x1 : Vec Ideal S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S1024x1024) hz]

/-- Entry `(i, j)` of the result. -/
def G (A : S4096x1024.Idx → EReal) (B : S1024x1024.Idx → EReal) : S4096x1024.Idx → EReal :=
  fun i => ∑ k : Fin 1024, A (ix2 (i 0) k) * B (ix2 k (i 1))

theorem pay_apply (x0 : Vec Ideal S1024x1024 .bf16) (x1 : Vec Ideal S1024x1024 .bf16) (y : S1024x1024.Idx) :
    (k0_pay1 x0 x1 : S1024x1024.Idx → EReal) y = ∑ k : Fin 1024, x0 (ix2 (y 0) k) * x1 (ix2 k (y 1)) := by
  show Ideal.matmul dot_S1024x1024_S1024x1024_S1024x1024_1_0_0_1_n_n x0 x1 (constant (F := Ideal) S1024x1024 .f32 0x00000000#32) y = _
  refine (Cert.Product.nn_apply (K := 1024) (M := 1024) (N := 1024) _ rfl rfl rfl rfl rfl rfl x0 x1 _ y).trans ?_
  rw [show (constant (F := Ideal) S1024x1024 .f32 0x00000000#32 : S1024x1024.Idx → EReal) y = 0 by
    simp [constant, Ideal.ofBits, Ideal.ieee], zero_add]

/-- Where the blocks of point `t` lie in the three arrays. -/
theorem idx_facts : ∀ t : Fin cfg0.N, win0_0.index t 0 = t.val / 1 ∧ win0_0.index t 1 = 0 ∧ win0_1.index t 0 = 0
    ∧ win0_1.index t 1 = t.val % 1 ∧ win0_2.index t 0 = t.val / 1 ∧ win0_2.index t 1 = t.val % 1 :=
  (by decide +kernel : ∀ t : Fin grid0.N, win0_0.index t 0 = t.val / 1 ∧ win0_0.index t 1 = 0 ∧ win0_1.index t 0 = 0
    ∧ win0_1.index t 1 = t.val % 1 ∧ win0_2.index t 0 = t.val / 1 ∧ win0_2.index t 1 = t.val % 1)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2_A, out_eq]
  obtain ⟨h00, h01, h10, h11, h20, h21⟩ := idx_facts t
  funext y
  show (k0_pay1 (iblk m c 0 t) (iblk m c 1 t) : S1024x1024.Idx → EReal) y = G (V m c main_arg0) (V m c main_arg1) (((cfg0.win 2).blk t).view.emb y)
  rw [pay_apply]
  unfold G
  refine Finset.sum_congr rfl fun k _ => ?_
  congr 1
  · show V m c main_arg0 (((cfg0.win 0).blk t).view.emb (ix2 (y 0) k)) = _
    congr 1; funext a; apply Fin.ext
    match a with
    | ⟨0, _⟩ => show win0_0.index t 0 * 1024 + 1 * (y 0).val = win0_2.index t 0 * 1024 + 1 * (y 0).val; omega
    | ⟨1, _⟩ => show win0_0.index t 1 * 1024 + 1 * k.val = k.val; omega
  · show V m c main_arg1 (((cfg0.win 1).blk t).view.emb (ix2 k (y 1))) = _
    congr 1; funext a; apply Fin.ext
    match a with
    | ⟨0, _⟩ => show win0_1.index t 0 * 1024 + 1 * k.val = k.val; omega
    | ⟨1, _⟩ => show win0_1.index t 1 * 1024 + 1 * (y 1).val = win0_2.index t 1 * 1024 + 1 * (y 1).val; omega

theorem mem_blk (t : Fin cfg0.N) (i : S4096x1024.Idx)
    (h : t.val / 1 * 1024 ≤ (i 0 : Nat) ∧ (i 0 : Nat) < t.val / 1 * 1024 + 1024
      ∧ t.val % 1 * 1024 ≤ (i 1 : Nat) ∧ (i 1 : Nat) < t.val % 1 * 1024 + 1024) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [h20]; exact ⟨h.1, h.2.1⟩
  | ⟨1, _⟩ => show win0_2.index t 1 * 1024 ≤ (i 1 : Nat) ∧ (i 1 : Nat) < win0_2.index t 1 * 1024 + 1024
              rw [h21]; exact h.2.2

/-- Every entry is in some block. -/
theorem cover (i : S4096x1024.Idx) : ∃ t : Fin cfg0.N, (cfg0.win 2).flush t = true ∧ i ∈ ((cfg0.win 2).blk t).view.set := by
  have hN : cfg0.N = 4 * 1 := N_0
  obtain ⟨h, hb⟩ := Cert.Product.block_of 4 1 1024 1024 (i 0) (i 1) (by decide) (by decide) (i 0).isLt (i 1).isLt
  exact ⟨⟨_, hN ▸ h⟩, flush0_2 _, mem_blk _ i hb⟩

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

end Cert.RwIdeal.Sum

namespace Cert.RwRefIdeal.Sum

open Cert.RwRefIdeal Cert.RwRefIdeal.Gen Idealize.ShloMosaic Idealize.ShloMosaic.TcCoe Idealize.SL.Sem
open Idealize.ShloMosaic.ValueIdx

/-- The reference’s result is the same sum of its arguments. -/
theorem ref_eq (A : Vec Ideal S4096x1024 .bf16) (B : Vec Ideal S1024x1024 .bf16) :
    (Host.dotGeneral (F := Ideal) (φ₁ := .f32) (φ₂ := .f32) dot_S4096x1024_S1024x1024_S4096x1024_1_0_0_1_n_n none (extf .f32 A bitsLt_bf16_f32) (extf .f32 B bitsLt_bf16_f32) : FVec Ideal S4096x1024 .f32) = Cert.RwIdeal.Sum.G A B := by
  funext i
  refine Eq.trans (b := Ideal.matmul dot_S4096x1024_S1024x1024_S4096x1024_1_0_0_1_n_n A B (fun _ => 0) i) ?_ ?_
  · rfl
  · refine (Cert.Product.nn_apply (K := 1024) (M := 4096) (N := 1024) _ rfl rfl rfl rfl rfl rfl A B _ i).trans ?_
    rw [zero_add]; rfl

end Cert.RwRefIdeal.Sum

namespace Cert.Proof

open Idealize.ShloMosaic Idealize.ShloMosaic.TcCoe Idealize.SL.Sem

/-- The output projection of the recurrent mixer: kernel and reference end with equal results. -/
theorem algebraic_rwkv_out : Cert.algebraic_RwIdeal_RwRefIdeal := by
  intro m ρ m' ρ' _ hag
  refine ⟨fun c => Cert.RwIdeal.Sum.G (m ((c.tc : Thread Cert.RwIdeal.nD Cert.RwIdeal.τ).loc Cert.RwIdeal.main_arg0)) (m ((c.tc : Thread Cert.RwIdeal.nD Cert.RwIdeal.τ).loc Cert.RwIdeal.main_arg1)),
    (θ_run Cert.RwIdeal.defs _ _).mono (fun _ h c => ⟨(h c).1.trans (Cert.RwIdeal.Sum.final m c), (h c).2⟩) (Cert.RwIdeal.Value.run_blocks (F := Ideal) m ρ),
    (θ_run Cert.RwRefIdeal.defs _ _).mono (fun _ h c => ⟨?_, (h c).2⟩) (Cert.RwRefIdeal.Value.run (F := Ideal) m' ρ')⟩
  refine (h c).1.trans ((Cert.RwRefIdeal.Sum.ref_eq _ _).trans ?_)
  rw [(hag c).1, (hag c).2]

/-- The reference leaves its arguments as they were. -/
theorem frame_rwkv_out_ref : Cert.quiescent_RwRefIdeal := by
  intro m ρ _
  exact (θ_run Cert.RwRefIdeal.defs _ _).mono (fun r h => ⟨fun c => (h c).2,
      Idealize.ShloMosaic.sem_eq_zero_of_no_sems (by decide) r.2⟩)
    (Cert.RwRefIdeal.Value.run (F := Ideal) m ρ)

end Cert.Proof

end
-- ==== Proof.RwDx.lean ====
/-
  The gradient of the recurrent mixer’s output: the kernel `rwkv_out_dx` takes the product rows by rows, in 4 by 1 blocks of 1024 by 1024,
  the reference in one piece. Both hold the same sum at every entry.
-/
module

public import proofs.«01_k».proof.Defs
public import proofs.«01_k».proof.Proof.Gen.RwDxIdeal.Value
public import proofs.«01_k».proof.Proof.Gen.RwDxRefIdeal
public import proofs.«01_k».proof.Proof.Gen.RwDxRefIdeal.Run
public import proofs.«01_k».proof.Proof.Product
public import Idealize.ShloMosaic.Lib.Pipeline.Value
public import Idealize.ShloMosaic.Lib.Tactic

@[expose] public section

noncomputable section

namespace Cert.RwDxIdeal.Sum

open Cert.RwDxIdeal Cert.RwDxIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves: the product of its two blocks. -/
theorem out_eq (c : Dev nD) (i : grid0.Coords) (a3 h3 a4 h4 a5 h5 a6 h6)
    (x0 : Vec Ideal S1024x1024 .bf16) (x1 : Vec Ideal S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S1024x1024) hz]

/-- Entry `(i, j)` of the result. -/
def G (A : S4096x1024.Idx → EReal) (B : S1024x1024.Idx → EReal) : S4096x1024.Idx → EReal :=
  fun i => ∑ k : Fin 1024, A (ix2 (i 0) k) * B (ix2 (i 1) k)

theorem pay_apply (x0 : Vec Ideal S1024x1024 .bf16) (x1 : Vec Ideal S1024x1024 .bf16) (y : S1024x1024.Idx) :
    (k0_pay1 x0 x1 : S1024x1024.Idx → EReal) y = ∑ k : Fin 1024, x0 (ix2 (y 0) k) * x1 (ix2 (y 1) k) := by
  show Ideal.matmul dot_S1024x1024_S1024x1024_S1024x1024_1_1_0_0_n_n x0 x1 (constant (F := Ideal) S1024x1024 .f32 0x00000000#32) y = _
  refine (Cert.Product.nt_apply (K := 1024) (M := 1024) (N := 1024) _ rfl rfl rfl rfl rfl rfl x0 x1 _ y).trans ?_
  rw [show (constant (F := Ideal) S1024x1024 .f32 0x00000000#32 : S1024x1024.Idx → EReal) y = 0 by
    simp [constant, Ideal.ofBits, Ideal.ieee], zero_add]

/-- Where the blocks of point `t` lie in the three arrays. -/
theorem idx_facts : ∀ t : Fin cfg0.N, win0_0.index t 0 = t.val / 1 ∧ win0_0.index t 1 = 0 ∧ win0_1.index t 0 = t.val % 1
    ∧ win0_1.index t 1 = 0 ∧ win0_2.index t 0 = t.val / 1 ∧ win0_2.index t 1 = t.val % 1 :=
  (by decide +kernel : ∀ t : Fin grid0.N, win0_0.index t 0 = t.val / 1 ∧ win0_0.index t 1 = 0 ∧ win0_1.index t 0 = t.val % 1
    ∧ win0_1.index t 1 = 0 ∧ win0_2.index t 0 = t.val / 1 ∧ win0_2.index t 1 = t.val % 1)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2_A, out_eq]
  obtain ⟨h00, h01, h10, h11, h20, h21⟩ := idx_facts t
  funext y
  show (k0_pay1 (iblk m c 0 t) (iblk m c 1 t) : S1024x1024.Idx → EReal) y = G (V m c main_arg0) (V m c main_arg1) (((cfg0.win 2).blk t).view.emb y)
  rw [pay_apply]
  unfold G
  refine Finset.sum_congr rfl fun k _ => ?_
  congr 1
  · show V m c main_arg0 (((cfg0.win 0).blk t).view.emb (ix2 (y 0) k)) = _
    congr 1; funext a; apply Fin.ext
    match a with
    | ⟨0, _⟩ => show win0_0.index t 0 * 1024 + 1 * (y 0).val = win0_2.index t 0 * 1024 + 1 * (y 0).val; omega
    | ⟨1, _⟩ => show win0_0.index t 1 * 1024 + 1 * k.val = k.val; omega
  · show V m c main_arg1 (((cfg0.win 1).blk t).view.emb (ix2 (y 1) k)) = _
    congr 1; funext a; apply Fin.ext
    match a with
    | ⟨0, _⟩ => show win0_1.index t 0 * 1024 + 1 * (y 1).val = win0_2.index t 1 * 1024 + 1 * (y 1).val; omega
    | ⟨1, _⟩ => show win0_1.index t 1 * 1024 + 1 * k.val = k.val; omega

theorem mem_blk (t : Fin cfg0.N) (i : S4096x1024.Idx)
    (h : t.val / 1 * 1024 ≤ (i 0 : Nat) ∧ (i 0 : Nat) < t.val / 1 * 1024 + 1024
      ∧ t.val % 1 * 1024 ≤ (i 1 : Nat) ∧ (i 1 : Nat) < t.val % 1 * 1024 + 1024) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [h20]; exact ⟨h.1, h.2.1⟩
  | ⟨1, _⟩ => show win0_2.index t 1 * 1024 ≤ (i 1 : Nat) ∧ (i 1 : Nat) < win0_2.index t 1 * 1024 + 1024
              rw [h21]; exact h.2.2

/-- Every entry is in some block. -/
theorem cover (i : S4096x1024.Idx) : ∃ t : Fin cfg0.N, (cfg0.win 2).flush t = true ∧ i ∈ ((cfg0.win 2).blk t).view.set := by
  have hN : cfg0.N = 4 * 1 := N_0
  obtain ⟨h, hb⟩ := Cert.Product.block_of 4 1 1024 1024 (i 0) (i 1) (by decide) (by decide) (i 0).isLt (i 1).isLt
  exact ⟨⟨_, hN ▸ h⟩, flush0_2 _, mem_blk _ i hb⟩

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

end Cert.RwDxIdeal.Sum

namespace Cert.RwDxRefIdeal.Sum

open Cert.RwDxRefIdeal Cert.RwDxRefIdeal.Gen Idealize.ShloMosaic Idealize.ShloMosaic.TcCoe Idealize.SL.Sem
open Idealize.ShloMosaic.ValueIdx

/-- The reference’s result is the same sum of its arguments. -/
theorem ref_eq (A : Vec Ideal S4096x1024 .bf16) (B : Vec Ideal S1024x1024 .bf16) :
    (Host.dotGeneral (F := Ideal) (φ₁ := .f32) (φ₂ := .f32) dot_S4096x1024_S1024x1024_S4096x1024_1_1_0_0_n_n none (extf .f32 A bitsLt_bf16_f32) (extf .f32 B bitsLt_bf16_f32) : FVec Ideal S4096x1024 .f32) = Cert.RwDxIdeal.Sum.G A B := by
  funext i
  refine Eq.trans (b := Ideal.matmul dot_S4096x1024_S1024x1024_S4096x1024_1_1_0_0_n_n A B (fun _ => 0) i) ?_ ?_
  · rfl
  · refine (Cert.Product.nt_apply (K := 1024) (M := 4096) (N := 1024) _ rfl rfl rfl rfl rfl rfl A B _ i).trans ?_
    rw [zero_add]; rfl

end Cert.RwDxRefIdeal.Sum

namespace Cert.Proof

open Idealize.ShloMosaic Idealize.ShloMosaic.TcCoe Idealize.SL.Sem

/-- The gradient of the recurrent mixer’s output: kernel and reference end with equal results. -/
theorem algebraic_rwkv_out_dx : Cert.algebraic_RwDxIdeal_RwDxRefIdeal := by
  intro m ρ m' ρ' _ hag
  refine ⟨fun c => Cert.RwDxIdeal.Sum.G (m ((c.tc : Thread Cert.RwDxIdeal.nD Cert.RwDxIdeal.τ).loc Cert.RwDxIdeal.main_arg0)) (m ((c.tc : Thread Cert.RwDxIdeal.nD Cert.RwDxIdeal.τ).loc Cert.RwDxIdeal.main_arg1)),
    (θ_run Cert.RwDxIdeal.defs _ _).mono (fun _ h c => ⟨(h c).1.trans (Cert.RwDxIdeal.Sum.final m c), (h c).2⟩) (Cert.RwDxIdeal.Value.run_blocks (F := Ideal) m ρ),
    (θ_run Cert.RwDxRefIdeal.defs _ _).mono (fun _ h c => ⟨?_, (h c).2⟩) (Cert.RwDxRefIdeal.Value.run (F := Ideal) m' ρ')⟩
  refine (h c).1.trans ((Cert.RwDxRefIdeal.Sum.ref_eq _ _).trans ?_)
  rw [(hag c).1, (hag c).2]

/-- The reference leaves its arguments as they were. -/
theorem frame_rwkv_out_dx_ref : Cert.quiescent_RwDxRefIdeal := by
  intro m ρ _
  exact (θ_run Cert.RwDxRefIdeal.defs _ _).mono (fun r h => ⟨fun c => (h c).2,
      Idealize.ShloMosaic.sem_eq_zero_of_no_sems (by decide) r.2⟩)
    (Cert.RwDxRefIdeal.Value.run (F := Ideal) m ρ)

end Cert.Proof

end
-- ==== Proof.RwDw.lean ====
/-
  The gradient of the recurrent mixer’s output weight: the kernel `rwkv_out_dw` takes the product columns by columns, over the rows of the sequence, in 1 by 1 blocks of 1024 by 1024,
  the reference in one piece. Both hold the same sum at every entry.
-/
module

public import proofs.«01_k».proof.Defs
public import proofs.«01_k».proof.Proof.Gen.RwDwIdeal.Value
public import proofs.«01_k».proof.Proof.Gen.RwDwRefIdeal
public import proofs.«01_k».proof.Proof.Gen.RwDwRefIdeal.Run
public import proofs.«01_k».proof.Proof.Product
public import Idealize.ShloMosaic.Lib.Pipeline.Value
public import Idealize.ShloMosaic.Lib.Tactic

@[expose] public section

noncomputable section

namespace Cert.RwDwIdeal.Sum

open Cert.RwDwIdeal Cert.RwDwIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves: the product of its two blocks. -/
theorem out_eq (c : Dev nD) (i : grid0.Coords) (a3 h3 a4 h4 a5 h5 a6 h6)
    (x0 : Vec Ideal S4096x1024 .bf16) (x1 : Vec Ideal S4096x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S4096x1024) hz]

/-- Entry `(i, j)` of the result. -/
def G (A : S4096x1024.Idx → EReal) (B : S4096x1024.Idx → EReal) : S1024x1024.Idx → EReal :=
  fun i => ∑ k : Fin 4096, A (ix2 k (i 0)) * B (ix2 k (i 1))

theorem pay_apply (x0 : Vec Ideal S4096x1024 .bf16) (x1 : Vec Ideal S4096x1024 .bf16) (y : S1024x1024.Idx) :
    (k0_pay1 x0 x1 : S1024x1024.Idx → EReal) y = ∑ k : Fin 4096, x0 (ix2 k (y 0)) * x1 (ix2 k (y 1)) := by
  show Ideal.matmul dot_S4096x1024_S4096x1024_S1024x1024_0_0_1_1_n_n x0 x1 (constant (F := Ideal) S1024x1024 .f32 0x00000000#32) y = _
  refine (Cert.Product.tn_apply (K := 4096) (M := 1024) (N := 1024) _ rfl rfl rfl rfl rfl rfl x0 x1 _ y).trans ?_
  rw [show (constant (F := Ideal) S1024x1024 .f32 0x00000000#32 : S1024x1024.Idx → EReal) y = 0 by
    simp [constant, Ideal.ofBits, Ideal.ieee], zero_add]

/-- Where the blocks of point `t` lie in the three arrays. -/
theorem idx_facts : ∀ t : Fin cfg0.N, win0_0.index t 0 = 0 ∧ win0_0.index t 1 = t.val / 1 ∧ win0_1.index t 0 = 0
    ∧ win0_1.index t 1 = t.val % 1 ∧ win0_2.index t 0 = t.val / 1 ∧ win0_2.index t 1 = t.val % 1 :=
  (by decide +kernel : ∀ t : Fin grid0.N, win0_0.index t 0 = 0 ∧ win0_0.index t 1 = t.val / 1 ∧ win0_1.index t 0 = 0
    ∧ win0_1.index t 1 = t.val % 1 ∧ win0_2.index t 0 = t.val / 1 ∧ win0_2.index t 1 = t.val % 1)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2_A, out_eq]
  obtain ⟨h00, h01, h10, h11, h20, h21⟩ := idx_facts t
  funext y
  show (k0_pay1 (iblk m c 0 t) (iblk m c 1 t) : S1024x1024.Idx → EReal) y = G (V m c main_arg0) (V m c main_arg1) (((cfg0.win 2).blk t).view.emb y)
  rw [pay_apply]
  unfold G
  refine Finset.sum_congr rfl fun k _ => ?_
  congr 1
  · show V m c main_arg0 (((cfg0.win 0).blk t).view.emb (ix2 k (y 0))) = _
    congr 1; funext a; apply Fin.ext
    match a with
    | ⟨0, _⟩ => show win0_0.index t 0 * 4096 + 1 * k.val = k.val; omega
    | ⟨1, _⟩ => show win0_0.index t 1 * 1024 + 1 * (y 0).val = win0_2.index t 0 * 1024 + 1 * (y 0).val; omega
  · show V m c main_arg1 (((cfg0.win 1).blk t).view.emb (ix2 k (y 1))) = _
    congr 1; funext a; apply Fin.ext
    match a with
    | ⟨0, _⟩ => show win0_1.index t 0 * 4096 + 1 * k.val = k.val; omega
    | ⟨1, _⟩ => show win0_1.index t 1 * 1024 + 1 * (y 1).val = win0_2.index t 1 * 1024 + 1 * (y 1).val; omega

theorem mem_blk (t : Fin cfg0.N) (i : S1024x1024.Idx)
    (h : t.val / 1 * 1024 ≤ (i 0 : Nat) ∧ (i 0 : Nat) < t.val / 1 * 1024 + 1024
      ∧ t.val % 1 * 1024 ≤ (i 1 : Nat) ∧ (i 1 : Nat) < t.val % 1 * 1024 + 1024) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [h20]; exact ⟨h.1, h.2.1⟩
  | ⟨1, _⟩ => show win0_2.index t 1 * 1024 ≤ (i 1 : Nat) ∧ (i 1 : Nat) < win0_2.index t 1 * 1024 + 1024
              rw [h21]; exact h.2.2

/-- Every entry is in some block. -/
theorem cover (i : S1024x1024.Idx) : ∃ t : Fin cfg0.N, (cfg0.win 2).flush t = true ∧ i ∈ ((cfg0.win 2).blk t).view.set := by
  have hN : cfg0.N = 1 * 1 := N_0
  obtain ⟨h, hb⟩ := Cert.Product.block_of 1 1 1024 1024 (i 0) (i 1) (by decide) (by decide) (i 0).isLt (i 1).isLt
  exact ⟨⟨_, hN ▸ h⟩, flush0_2 _, mem_blk _ i hb⟩

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

end Cert.RwDwIdeal.Sum

namespace Cert.RwDwRefIdeal.Sum

open Cert.RwDwRefIdeal Cert.RwDwRefIdeal.Gen Idealize.ShloMosaic Idealize.ShloMosaic.TcCoe Idealize.SL.Sem
open Idealize.ShloMosaic.ValueIdx

/-- The reference contracts the factors the other way round and transposes: the same sum of its arguments. -/
theorem ref_eq (A : Vec Ideal S4096x1024 .bf16) (B : Vec Ideal S4096x1024 .bf16) :
    (truncf .bf16 (transpose S1024x1024 [1, 0] (Host.dotGeneral (F := Ideal) (φ₁ := .f32) (φ₂ := .f32) dot_S4096x1024_S4096x1024_S1024x1024_0_0_1_1_n_n none (extf .f32 B bitsLt_bf16_f32) (extf .f32 A bitsLt_bf16_f32)) transposes_S1024x1024_S1024x1024_1_0) bitsLt_bf16_f32 : FVec Ideal S1024x1024 .bf16) = Cert.RwDwIdeal.Sum.G A B := by
  funext i
  refine Eq.trans (b := Ideal.matmul dot_S4096x1024_S4096x1024_S1024x1024_0_0_1_1_n_n B A (fun _ => 0) (ix2 (i 1) (i 0))) ?_ ?_
  · show Ideal.matmul dot_S4096x1024_S4096x1024_S1024x1024_0_0_1_1_n_n B A (fun _ => 0) _ = _
    congr 1; funext a; apply Fin.ext
    match a with
    | ⟨0, _⟩ => simp [Shape.Transposes.src]; rfl
    | ⟨1, _⟩ => simp [Shape.Transposes.src]; rfl
  · refine (Cert.Product.tn_apply (K := 4096) (M := 1024) (N := 1024) _ rfl rfl rfl rfl rfl rfl B A _ (ix2 (i 1) (i 0))).trans ?_
    rw [zero_add]
    exact Finset.sum_congr rfl fun k _ => mul_comm _ _

end Cert.RwDwRefIdeal.Sum

namespace Cert.Proof

open Idealize.ShloMosaic Idealize.ShloMosaic.TcCoe Idealize.SL.Sem

/-- The gradient of the recurrent mixer’s output weight: kernel and reference end with equal results. -/
theorem algebraic_rwkv_out_dw : Cert.algebraic_RwDwIdeal_RwDwRefIdeal := by
  intro m ρ m' ρ' _ hag
  refine ⟨fun c => Cert.RwDwIdeal.Sum.G (m ((c.tc : Thread Cert.RwDwIdeal.nD Cert.RwDwIdeal.τ).loc Cert.RwDwIdeal.main_arg0)) (m ((c.tc : Thread Cert.RwDwIdeal.nD Cert.RwDwIdeal.τ).loc Cert.RwDwIdeal.main_arg1)),
    (θ_run Cert.RwDwIdeal.defs _ _).mono (fun _ h c => ⟨(h c).1.trans (Cert.RwDwIdeal.Sum.final m c), (h c).2⟩) (Cert.RwDwIdeal.Value.run_blocks (F := Ideal) m ρ),
    (θ_run Cert.RwDwRefIdeal.defs _ _).mono (fun _ h c => ⟨?_, (h c).2⟩) (Cert.RwDwRefIdeal.Value.run (F := Ideal) m' ρ')⟩
  refine (h c).1.trans ((Cert.RwDwRefIdeal.Sum.ref_eq _ _).trans ?_)
  rw [(hag c).1, (hag c).2]

/-- The reference leaves its arguments as they were. -/
theorem frame_rwkv_out_dw_ref : Cert.quiescent_RwDwRefIdeal := by
  intro m ρ _
  exact (θ_run Cert.RwDwRefIdeal.defs _ _).mono (fun r h => ⟨fun c => (h c).2,
      Idealize.ShloMosaic.sem_eq_zero_of_no_sems (by decide) r.2⟩)
    (Cert.RwDwRefIdeal.Value.run (F := Ideal) m ρ)

end Cert.Proof

end
-- ==== Proof.AttOut.lean ====
/-
  The output projection of the attention: the kernel `att_out` takes the product rows by columns, in 4 by 1 blocks of 1024 by 1024,
  the reference in one piece. Both hold the same sum at every entry.
-/
module

public import proofs.«01_k».proof.Defs
public import proofs.«01_k».proof.Proof.Gen.AttOutIdeal.Value
public import proofs.«01_k».proof.Proof.Gen.AttOutRefIdeal
public import proofs.«01_k».proof.Proof.Gen.AttOutRefIdeal.Run
public import proofs.«01_k».proof.Proof.Product
public import Idealize.ShloMosaic.Lib.Pipeline.Value
public import Idealize.ShloMosaic.Lib.Tactic

@[expose] public section

noncomputable section

namespace Cert.AttOutIdeal.Sum

open Cert.AttOutIdeal Cert.AttOutIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves: the product of its two blocks. -/
theorem out_eq (c : Dev nD) (i : grid0.Coords) (a3 h3 a4 h4 a5 h5 a6 h6)
    (x0 : Vec Ideal S1024x512 .bf16) (x1 : Vec Ideal S512x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S1024x512) hz, View.ld_unit_zero (S := S512x1024) hz]

/-- Entry `(i, j)` of the result. -/
def G (A : S4096x512.Idx → EReal) (B : S512x1024.Idx → EReal) : S4096x1024.Idx → EReal :=
  fun i => ∑ k : Fin 512, A (ix2 (i 0) k) * B (ix2 k (i 1))

theorem pay_apply (x0 : Vec Ideal S1024x512 .bf16) (x1 : Vec Ideal S512x1024 .bf16) (y : S1024x1024.Idx) :
    (k0_pay1 x0 x1 : S1024x1024.Idx → EReal) y = ∑ k : Fin 512, x0 (ix2 (y 0) k) * x1 (ix2 k (y 1)) := by
  show Ideal.matmul dot_S1024x512_S512x1024_S1024x1024_1_0_0_1_n_n x0 x1 (constant (F := Ideal) S1024x1024 .f32 0x00000000#32) y = _
  refine (Cert.Product.nn_apply (K := 512) (M := 1024) (N := 1024) _ rfl rfl rfl rfl rfl rfl x0 x1 _ y).trans ?_
  rw [show (constant (F := Ideal) S1024x1024 .f32 0x00000000#32 : S1024x1024.Idx → EReal) y = 0 by
    simp [constant, Ideal.ofBits, Ideal.ieee], zero_add]

/-- Where the blocks of point `t` lie in the three arrays. -/
theorem idx_facts : ∀ t : Fin cfg0.N, win0_0.index t 0 = t.val / 1 ∧ win0_0.index t 1 = 0 ∧ win0_1.index t 0 = 0
    ∧ win0_1.index t 1 = t.val % 1 ∧ win0_2.index t 0 = t.val / 1 ∧ win0_2.index t 1 = t.val % 1 :=
  (by decide +kernel : ∀ t : Fin grid0.N, win0_0.index t 0 = t.val / 1 ∧ win0_0.index t 1 = 0 ∧ win0_1.index t 0 = 0
    ∧ win0_1.index t 1 = t.val % 1 ∧ win0_2.index t 0 = t.val / 1 ∧ win0_2.index t 1 = t.val % 1)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2_A, out_eq]
  obtain ⟨h00, h01, h10, h11, h20, h21⟩ := idx_facts t
  funext y
  show (k0_pay1 (iblk m c 0 t) (iblk m c 1 t) : S1024x1024.Idx → EReal) y = G (V m c main_arg0) (V m c main_arg1) (((cfg0.win 2).blk t).view.emb y)
  rw [pay_apply]
  unfold G
  refine Finset.sum_congr rfl fun k _ => ?_
  congr 1
  · show V m c main_arg0 (((cfg0.win 0).blk t).view.emb (ix2 (y 0) k)) = _
    congr 1; funext a; apply Fin.ext
    match a with
    | ⟨0, _⟩ => show win0_0.index t 0 * 1024 + 1 * (y 0).val = win0_2.index t 0 * 1024 + 1 * (y 0).val; omega
    | ⟨1, _⟩ => show win0_0.index t 1 * 512 + 1 * k.val = k.val; omega
  · show V m c main_arg1 (((cfg0.win 1).blk t).view.emb (ix2 k (y 1))) = _
    congr 1; funext a; apply Fin.ext
    match a with
    | ⟨0, _⟩ => show win0_1.index t 0 * 512 + 1 * k.val = k.val; omega
    | ⟨1, _⟩ => show win0_1.index t 1 * 1024 + 1 * (y 1).val = win0_2.index t 1 * 1024 + 1 * (y 1).val; omega

theorem mem_blk (t : Fin cfg0.N) (i : S4096x1024.Idx)
    (h : t.val / 1 * 1024 ≤ (i 0 : Nat) ∧ (i 0 : Nat) < t.val / 1 * 1024 + 1024
      ∧ t.val % 1 * 1024 ≤ (i 1 : Nat) ∧ (i 1 : Nat) < t.val % 1 * 1024 + 1024) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [h20]; exact ⟨h.1, h.2.1⟩
  | ⟨1, _⟩ => show win0_2.index t 1 * 1024 ≤ (i 1 : Nat) ∧ (i 1 : Nat) < win0_2.index t 1 * 1024 + 1024
              rw [h21]; exact h.2.2

/-- Every entry is in some block. -/
theorem cover (i : S4096x1024.Idx) : ∃ t : Fin cfg0.N, (cfg0.win 2).flush t = true ∧ i ∈ ((cfg0.win 2).blk t).view.set := by
  have hN : cfg0.N = 4 * 1 := N_0
  obtain ⟨h, hb⟩ := Cert.Product.block_of 4 1 1024 1024 (i 0) (i 1) (by decide) (by decide) (i 0).isLt (i 1).isLt
  exact ⟨⟨_, hN ▸ h⟩, flush0_2 _, mem_blk _ i hb⟩

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

end Cert.AttOutIdeal.Sum

namespace Cert.AttOutRefIdeal.Sum

open Cert.AttOutRefIdeal Cert.AttOutRefIdeal.Gen Idealize.ShloMosaic Idealize.ShloMosaic.TcCoe Idealize.SL.Sem
open Idealize.ShloMosaic.ValueIdx

/-- The reference’s result is the same sum of its arguments. -/
theorem ref_eq (A : Vec Ideal S4096x512 .bf16) (B : Vec Ideal S512x1024 .bf16) :
    (Host.dotGeneral (F := Ideal) (φ₁ := .f32) (φ₂ := .f32) dot_S4096x512_S512x1024_S4096x1024_1_0_0_1_n_n none (extf .f32 A bitsLt_bf16_f32) (extf .f32 B bitsLt_bf16_f32) : FVec Ideal S4096x1024 .f32) = Cert.AttOutIdeal.Sum.G A B := by
  funext i
  refine Eq.trans (b := Ideal.matmul dot_S4096x512_S512x1024_S4096x1024_1_0_0_1_n_n A B (fun _ => 0) i) ?_ ?_
  · rfl
  · refine (Cert.Product.nn_apply (K := 512) (M := 4096) (N := 1024) _ rfl rfl rfl rfl rfl rfl A B _ i).trans ?_
    rw [zero_add]; rfl

end Cert.AttOutRefIdeal.Sum

namespace Cert.Proof

open Idealize.ShloMosaic Idealize.ShloMosaic.TcCoe Idealize.SL.Sem

/-- The output projection of the attention: kernel and reference end with equal results. -/
theorem algebraic_att_out : Cert.algebraic_AttOutIdeal_AttOutRefIdeal := by
  intro m ρ m' ρ' _ hag
  refine ⟨fun c => Cert.AttOutIdeal.Sum.G (m ((c.tc : Thread Cert.AttOutIdeal.nD Cert.AttOutIdeal.τ).loc Cert.AttOutIdeal.main_arg0)) (m ((c.tc : Thread Cert.AttOutIdeal.nD Cert.AttOutIdeal.τ).loc Cert.AttOutIdeal.main_arg1)),
    (θ_run Cert.AttOutIdeal.defs _ _).mono (fun _ h c => ⟨(h c).1.trans (Cert.AttOutIdeal.Sum.final m c), (h c).2⟩) (Cert.AttOutIdeal.Value.run_blocks (F := Ideal) m ρ),
    (θ_run Cert.AttOutRefIdeal.defs _ _).mono (fun _ h c => ⟨?_, (h c).2⟩) (Cert.AttOutRefIdeal.Value.run (F := Ideal) m' ρ')⟩
  refine (h c).1.trans ((Cert.AttOutRefIdeal.Sum.ref_eq _ _).trans ?_)
  rw [(hag c).1, (hag c).2]

/-- The reference leaves its arguments as they were. -/
theorem frame_att_out_ref : Cert.quiescent_AttOutRefIdeal := by
  intro m ρ _
  exact (θ_run Cert.AttOutRefIdeal.defs _ _).mono (fun r h => ⟨fun c => (h c).2,
      Idealize.ShloMosaic.sem_eq_zero_of_no_sems (by decide) r.2⟩)
    (Cert.AttOutRefIdeal.Value.run (F := Ideal) m ρ)

end Cert.Proof

end
-- ==== Proof.AttOutDx.lean ====
/-
  The gradient of the attention’s output: the kernel `att_out_dx` takes the product rows by rows, in 4 by 1 blocks of 1024 by 512,
  the reference in one piece. Both hold the same sum at every entry.
-/
module

public import proofs.«01_k».proof.Defs
public import proofs.«01_k».proof.Proof.Gen.AttOutDxIdeal.Value
public import proofs.«01_k».proof.Proof.Gen.AttOutDxRefIdeal
public import proofs.«01_k».proof.Proof.Gen.AttOutDxRefIdeal.Run
public import proofs.«01_k».proof.Proof.Product
public import Idealize.ShloMosaic.Lib.Pipeline.Value
public import Idealize.ShloMosaic.Lib.Tactic

@[expose] public section

noncomputable section

namespace Cert.AttOutDxIdeal.Sum

open Cert.AttOutDxIdeal Cert.AttOutDxIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves: the product of its two blocks. -/
theorem out_eq (c : Dev nD) (i : grid0.Coords) (a3 h3 a4 h4 a5 h5 a6 h6)
    (x0 : Vec Ideal S1024x1024 .bf16) (x1 : Vec Ideal S512x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S1024x1024) hz, View.ld_unit_zero (S := S512x1024) hz]

/-- Entry `(i, j)` of the result. -/
def G (A : S4096x1024.Idx → EReal) (B : S512x1024.Idx → EReal) : S4096x512.Idx → EReal :=
  fun i => ∑ k : Fin 1024, A (ix2 (i 0) k) * B (ix2 (i 1) k)

theorem pay_apply (x0 : Vec Ideal S1024x1024 .bf16) (x1 : Vec Ideal S512x1024 .bf16) (y : S1024x512.Idx) :
    (k0_pay1 x0 x1 : S1024x512.Idx → EReal) y = ∑ k : Fin 1024, x0 (ix2 (y 0) k) * x1 (ix2 (y 1) k) := by
  show Ideal.matmul dot_S1024x1024_S512x1024_S1024x512_1_1_0_0_n_n x0 x1 (constant (F := Ideal) S1024x512 .f32 0x00000000#32) y = _
  refine (Cert.Product.nt_apply (K := 1024) (M := 1024) (N := 512) _ rfl rfl rfl rfl rfl rfl x0 x1 _ y).trans ?_
  rw [show (constant (F := Ideal) S1024x512 .f32 0x00000000#32 : S1024x512.Idx → EReal) y = 0 by
    simp [constant, Ideal.ofBits, Ideal.ieee], zero_add]

/-- Where the blocks of point `t` lie in the three arrays. -/
theorem idx_facts : ∀ t : Fin cfg0.N, win0_0.index t 0 = t.val / 1 ∧ win0_0.index t 1 = 0 ∧ win0_1.index t 0 = t.val % 1
    ∧ win0_1.index t 1 = 0 ∧ win0_2.index t 0 = t.val / 1 ∧ win0_2.index t 1 = t.val % 1 :=
  (by decide +kernel : ∀ t : Fin grid0.N, win0_0.index t 0 = t.val / 1 ∧ win0_0.index t 1 = 0 ∧ win0_1.index t 0 = t.val % 1
    ∧ win0_1.index t 1 = 0 ∧ win0_2.index t 0 = t.val / 1 ∧ win0_2.index t 1 = t.val % 1)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2_A, out_eq]
  obtain ⟨h00, h01, h10, h11, h20, h21⟩ := idx_facts t
  funext y
  show (k0_pay1 (iblk m c 0 t) (iblk m c 1 t) : S1024x512.Idx → EReal) y = G (V m c main_arg0) (V m c main_arg1) (((cfg0.win 2).blk t).view.emb y)
  rw [pay_apply]
  unfold G
  refine Finset.sum_congr rfl fun k _ => ?_
  congr 1
  · show V m c main_arg0 (((cfg0.win 0).blk t).view.emb (ix2 (y 0) k)) = _
    congr 1; funext a; apply Fin.ext
    match a with
    | ⟨0, _⟩ => show win0_0.index t 0 * 1024 + 1 * (y 0).val = win0_2.index t 0 * 1024 + 1 * (y 0).val; omega
    | ⟨1, _⟩ => show win0_0.index t 1 * 1024 + 1 * k.val = k.val; omega
  · show V m c main_arg1 (((cfg0.win 1).blk t).view.emb (ix2 (y 1) k)) = _
    congr 1; funext a; apply Fin.ext
    match a with
    | ⟨0, _⟩ => show win0_1.index t 0 * 512 + 1 * (y 1).val = win0_2.index t 1 * 512 + 1 * (y 1).val; omega
    | ⟨1, _⟩ => show win0_1.index t 1 * 1024 + 1 * k.val = k.val; omega

theorem mem_blk (t : Fin cfg0.N) (i : S4096x512.Idx)
    (h : t.val / 1 * 1024 ≤ (i 0 : Nat) ∧ (i 0 : Nat) < t.val / 1 * 1024 + 1024
      ∧ t.val % 1 * 512 ≤ (i 1 : Nat) ∧ (i 1 : Nat) < t.val % 1 * 512 + 512) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [h20]; exact ⟨h.1, h.2.1⟩
  | ⟨1, _⟩ => show win0_2.index t 1 * 512 ≤ (i 1 : Nat) ∧ (i 1 : Nat) < win0_2.index t 1 * 512 + 512
              rw [h21]; exact h.2.2

/-- Every entry is in some block. -/
theorem cover (i : S4096x512.Idx) : ∃ t : Fin cfg0.N, (cfg0.win 2).flush t = true ∧ i ∈ ((cfg0.win 2).blk t).view.set := by
  have hN : cfg0.N = 4 * 1 := N_0
  obtain ⟨h, hb⟩ := Cert.Product.block_of 4 1 1024 512 (i 0) (i 1) (by decide) (by decide) (i 0).isLt (i 1).isLt
  exact ⟨⟨_, hN ▸ h⟩, flush0_2 _, mem_blk _ i hb⟩

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

end Cert.AttOutDxIdeal.Sum

namespace Cert.AttOutDxRefIdeal.Sum

open Cert.AttOutDxRefIdeal Cert.AttOutDxRefIdeal.Gen Idealize.ShloMosaic Idealize.ShloMosaic.TcCoe Idealize.SL.Sem
open Idealize.ShloMosaic.ValueIdx

/-- The reference’s result is the same sum of its arguments. -/
theorem ref_eq (A : Vec Ideal S4096x1024 .bf16) (B : Vec Ideal S512x1024 .bf16) :
    (Host.dotGeneral (F := Ideal) (φ₁ := .f32) (φ₂ := .f32) dot_S4096x1024_S512x1024_S4096x512_1_1_0_0_n_n none (extf .f32 A bitsLt_bf16_f32) (extf .f32 B bitsLt_bf16_f32) : FVec Ideal S4096x512 .f32) = Cert.AttOutDxIdeal.Sum.G A B := by
  funext i
  refine Eq.trans (b := Ideal.matmul dot_S4096x1024_S512x1024_S4096x512_1_1_0_0_n_n A B (fun _ => 0) i) ?_ ?_
  · rfl
  · refine (Cert.Product.nt_apply (K := 1024) (M := 4096) (N := 512) _ rfl rfl rfl rfl rfl rfl A B _ i).trans ?_
    rw [zero_add]; rfl

end Cert.AttOutDxRefIdeal.Sum

namespace Cert.Proof

open Idealize.ShloMosaic Idealize.ShloMosaic.TcCoe Idealize.SL.Sem

/-- The gradient of the attention’s output: kernel and reference end with equal results. -/
theorem algebraic_att_out_dx : Cert.algebraic_AttOutDxIdeal_AttOutDxRefIdeal := by
  intro m ρ m' ρ' _ hag
  refine ⟨fun c => Cert.AttOutDxIdeal.Sum.G (m ((c.tc : Thread Cert.AttOutDxIdeal.nD Cert.AttOutDxIdeal.τ).loc Cert.AttOutDxIdeal.main_arg0)) (m ((c.tc : Thread Cert.AttOutDxIdeal.nD Cert.AttOutDxIdeal.τ).loc Cert.AttOutDxIdeal.main_arg1)),
    (θ_run Cert.AttOutDxIdeal.defs _ _).mono (fun _ h c => ⟨(h c).1.trans (Cert.AttOutDxIdeal.Sum.final m c), (h c).2⟩) (Cert.AttOutDxIdeal.Value.run_blocks (F := Ideal) m ρ),
    (θ_run Cert.AttOutDxRefIdeal.defs _ _).mono (fun _ h c => ⟨?_, (h c).2⟩) (Cert.AttOutDxRefIdeal.Value.run (F := Ideal) m' ρ')⟩
  refine (h c).1.trans ((Cert.AttOutDxRefIdeal.Sum.ref_eq _ _).trans ?_)
  rw [(hag c).1, (hag c).2]

/-- The reference leaves its arguments as they were. -/
theorem frame_att_out_dx_ref : Cert.quiescent_AttOutDxRefIdeal := by
  intro m ρ _
  exact (θ_run Cert.AttOutDxRefIdeal.defs _ _).mono (fun r h => ⟨fun c => (h c).2,
      Idealize.ShloMosaic.sem_eq_zero_of_no_sems (by decide) r.2⟩)
    (Cert.AttOutDxRefIdeal.Value.run (F := Ideal) m ρ)

end Cert.Proof

end
-- ==== Proof.AttOutDw.lean ====
/-
  The gradient of the attention’s output weight: the kernel `att_out_dw` takes the product columns by columns, over the rows of the sequence, in 1 by 1 blocks of 512 by 1024,
  the reference in one piece. Both hold the same sum at every entry.
-/
module

public import proofs.«01_k».proof.Defs
public import proofs.«01_k».proof.Proof.Gen.AttOutDwIdeal.Value
public import proofs.«01_k».proof.Proof.Gen.AttOutDwRefIdeal
public import proofs.«01_k».proof.Proof.Gen.AttOutDwRefIdeal.Run
public import proofs.«01_k».proof.Proof.Product
public import Idealize.ShloMosaic.Lib.Pipeline.Value
public import Idealize.ShloMosaic.Lib.Tactic

@[expose] public section

noncomputable section

namespace Cert.AttOutDwIdeal.Sum

open Cert.AttOutDwIdeal Cert.AttOutDwIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- What the body leaves: the product of its two blocks. -/
theorem out_eq (c : Dev nD) (i : grid0.Coords) (a3 h3 a4 h4 a5 h5 a6 h6)
    (x0 : Vec Ideal S4096x512 .bf16) (x1 : Vec Ideal S4096x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero hz]
  simp only [View.readAt_eq_ld, h3.read_unread, h4.read_unread, View.ld_unit_zero (S := S4096x512) hz, View.ld_unit_zero (S := S4096x1024) hz]

/-- Entry `(i, j)` of the result. -/
def G (A : S4096x512.Idx → EReal) (B : S4096x1024.Idx → EReal) : S512x1024.Idx → EReal :=
  fun i => ∑ k : Fin 4096, A (ix2 k (i 0)) * B (ix2 k (i 1))

theorem pay_apply (x0 : Vec Ideal S4096x512 .bf16) (x1 : Vec Ideal S4096x1024 .bf16) (y : S512x1024.Idx) :
    (k0_pay1 x0 x1 : S512x1024.Idx → EReal) y = ∑ k : Fin 4096, x0 (ix2 k (y 0)) * x1 (ix2 k (y 1)) := by
  show Ideal.matmul dot_S4096x512_S4096x1024_S512x1024_0_0_1_1_n_n x0 x1 (constant (F := Ideal) S512x1024 .f32 0x00000000#32) y = _
  refine (Cert.Product.tn_apply (K := 4096) (M := 512) (N := 1024) _ rfl rfl rfl rfl rfl rfl x0 x1 _ y).trans ?_
  rw [show (constant (F := Ideal) S512x1024 .f32 0x00000000#32 : S512x1024.Idx → EReal) y = 0 by
    simp [constant, Ideal.ofBits, Ideal.ieee], zero_add]

/-- Where the blocks of point `t` lie in the three arrays. -/
theorem idx_facts : ∀ t : Fin cfg0.N, win0_0.index t 0 = 0 ∧ win0_0.index t 1 = t.val / 1 ∧ win0_1.index t 0 = 0
    ∧ win0_1.index t 1 = t.val % 1 ∧ win0_2.index t 0 = t.val / 1 ∧ win0_2.index t 1 = t.val % 1 :=
  (by decide +kernel : ∀ t : Fin grid0.N, win0_0.index t 0 = 0 ∧ win0_0.index t 1 = t.val / 1 ∧ win0_1.index t 0 = 0
    ∧ win0_1.index t 1 = t.val % 1 ∧ win0_2.index t 0 = t.val / 1 ∧ win0_2.index t 1 = t.val % 1)

/-- What a point writes back is its block of `G`. -/
theorem flushed_eq (c : Dev nD) (t : Fin cfg0.N) :
    (dats m 0 c).flushed 2 t = ((cfg0.win 2).blk t).view.read (Elt Ideal) (G (V m c main_arg0) (V m c main_arg1)) := by
  rw [Value.flushed2_A, out_eq]
  obtain ⟨h00, h01, h10, h11, h20, h21⟩ := idx_facts t
  funext y
  show (k0_pay1 (iblk m c 0 t) (iblk m c 1 t) : S512x1024.Idx → EReal) y = G (V m c main_arg0) (V m c main_arg1) (((cfg0.win 2).blk t).view.emb y)
  rw [pay_apply]
  unfold G
  refine Finset.sum_congr rfl fun k _ => ?_
  congr 1
  · show V m c main_arg0 (((cfg0.win 0).blk t).view.emb (ix2 k (y 0))) = _
    congr 1; funext a; apply Fin.ext
    match a with
    | ⟨0, _⟩ => show win0_0.index t 0 * 4096 + 1 * k.val = k.val; omega
    | ⟨1, _⟩ => show win0_0.index t 1 * 512 + 1 * (y 0).val = win0_2.index t 0 * 512 + 1 * (y 0).val; omega
  · show V m c main_arg1 (((cfg0.win 1).blk t).view.emb (ix2 k (y 1))) = _
    congr 1; funext a; apply Fin.ext
    match a with
    | ⟨0, _⟩ => show win0_1.index t 0 * 4096 + 1 * k.val = k.val; omega
    | ⟨1, _⟩ => show win0_1.index t 1 * 1024 + 1 * (y 1).val = win0_2.index t 1 * 1024 + 1 * (y 1).val; omega

theorem mem_blk (t : Fin cfg0.N) (i : S512x1024.Idx)
    (h : t.val / 1 * 512 ≤ (i 0 : Nat) ∧ (i 0 : Nat) < t.val / 1 * 512 + 512
      ∧ t.val % 1 * 1024 ≤ (i 1 : Nat) ∧ (i 1 : Nat) < t.val % 1 * 1024 + 1024) :
    i ∈ ((cfg0.win 2).blk t).view.set := by
  obtain ⟨h00, h01, h10, h11, h20, h21⟩ := idx_facts t
  show i ∈ ((View.whole main_v0).slice (win0_2.rect t)).set
  rw [View.set_slice_whole, Rect.mem_set_unit]
  intro a
  match a with
  | ⟨0, _⟩ => show win0_2.index t 0 * 512 ≤ (i 0 : Nat) ∧ (i 0 : Nat) < win0_2.index t 0 * 512 + 512
              rw [h20]; exact ⟨h.1, h.2.1⟩
  | ⟨1, _⟩ => show win0_2.index t 1 * 1024 ≤ (i 1 : Nat) ∧ (i 1 : Nat) < win0_2.index t 1 * 1024 + 1024
              rw [h21]; exact h.2.2

/-- Every entry is in some block. -/
theorem cover (i : S512x1024.Idx) : ∃ t : Fin cfg0.N, (cfg0.win 2).flush t = true ∧ i ∈ ((cfg0.win 2).blk t).view.set := by
  have hN : cfg0.N = 1 * 1 := N_0
  obtain ⟨h, hb⟩ := Cert.Product.block_of 1 1 512 1024 (i 0) (i 1) (by decide) (by decide) (i 0).isLt (i 1).isLt
  exact ⟨⟨_, hN ▸ h⟩, flush0_2 _, mem_blk _ i hb⟩

/-- The result array is `G` of the arguments. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

end Cert.AttOutDwIdeal.Sum

namespace Cert.AttOutDwRefIdeal.Sum

open Cert.AttOutDwRefIdeal Cert.AttOutDwRefIdeal.Gen Idealize.ShloMosaic Idealize.ShloMosaic.TcCoe Idealize.SL.Sem
open Idealize.ShloMosaic.ValueIdx

/-- The reference contracts the factors the other way round and transposes: the same sum of its arguments. -/
theorem ref_eq (A : Vec Ideal S4096x512 .bf16) (B : Vec Ideal S4096x1024 .bf16) :
    (truncf .bf16 (transpose S512x1024 [1, 0] (Host.dotGeneral (F := Ideal) (φ₁ := .f32) (φ₂ := .f32) dot_S4096x1024_S4096x512_S1024x512_0_0_1_1_n_n none (extf .f32 B bitsLt_bf16_f32) (extf .f32 A bitsLt_bf16_f32)) transposes_S1024x512_S512x1024_1_0) bitsLt_bf16_f32 : FVec Ideal S512x1024 .bf16) = Cert.AttOutDwIdeal.Sum.G A B := by
  funext i
  refine Eq.trans (b := Ideal.matmul dot_S4096x1024_S4096x512_S1024x512_0_0_1_1_n_n B A (fun _ => 0) (ix2 (i 1) (i 0))) ?_ ?_
  · show Ideal.matmul dot_S4096x1024_S4096x512_S1024x512_0_0_1_1_n_n B A (fun _ => 0) _ = _
    congr 1; funext a; apply Fin.ext
    match a with
    | ⟨0, _⟩ => simp [Shape.Transposes.src]; rfl
    | ⟨1, _⟩ => simp [Shape.Transposes.src]; rfl
  · refine (Cert.Product.tn_apply (K := 4096) (M := 1024) (N := 512) _ rfl rfl rfl rfl rfl rfl B A _ (ix2 (i 1) (i 0))).trans ?_
    rw [zero_add]
    exact Finset.sum_congr rfl fun k _ => mul_comm _ _

end Cert.AttOutDwRefIdeal.Sum

namespace Cert.Proof

open Idealize.ShloMosaic Idealize.ShloMosaic.TcCoe Idealize.SL.Sem

/-- The gradient of the attention’s output weight: kernel and reference end with equal results. -/
theorem algebraic_att_out_dw : Cert.algebraic_AttOutDwIdeal_AttOutDwRefIdeal := by
  intro m ρ m' ρ' _ hag
  refine ⟨fun c => Cert.AttOutDwIdeal.Sum.G (m ((c.tc : Thread Cert.AttOutDwIdeal.nD Cert.AttOutDwIdeal.τ).loc Cert.AttOutDwIdeal.main_arg0)) (m ((c.tc : Thread Cert.AttOutDwIdeal.nD Cert.AttOutDwIdeal.τ).loc Cert.AttOutDwIdeal.main_arg1)),
    (θ_run Cert.AttOutDwIdeal.defs _ _).mono (fun _ h c => ⟨(h c).1.trans (Cert.AttOutDwIdeal.Sum.final m c), (h c).2⟩) (Cert.AttOutDwIdeal.Value.run_blocks (F := Ideal) m ρ),
    (θ_run Cert.AttOutDwRefIdeal.defs _ _).mono (fun _ h c => ⟨?_, (h c).2⟩) (Cert.AttOutDwRefIdeal.Value.run (F := Ideal) m' ρ')⟩
  refine (h c).1.trans ((Cert.AttOutDwRefIdeal.Sum.ref_eq _ _).trans ?_)
  rw [(hag c).1, (hag c).2]

/-- The reference leaves its arguments as they were. -/
theorem frame_att_out_dw_ref : Cert.quiescent_AttOutDwRefIdeal := by
  intro m ρ _
  exact (θ_run Cert.AttOutDwRefIdeal.defs _ _).mono (fun r h => ⟨fun c => (h c).2,
      Idealize.ShloMosaic.sem_eq_zero_of_no_sems (by decide) r.2⟩)
    (Cert.AttOutDwRefIdeal.Value.run (F := Ideal) m ρ)

end Cert.Proof

end
-- ==== Proof.Gate.lean ====
/-
  The gates of the two branches: the kernel `gate_fwd` takes the rows in 8 blocks of 512, the reference in one piece. Both
  hold the same entry everywhere: each branch times the logistic function of its shifted gate column.
-/
module

public import proofs.«01_k».proof.Defs
public import proofs.«01_k».proof.Proof.Gen.GateIdeal.Value
public import proofs.«01_k».proof.Proof.Gen.GateRefIdeal
public import proofs.«01_k».proof.Proof.Gen.GateRefIdeal.Run
public import Idealize.ShloMosaic.Lib.Pipeline.Value
public import Idealize.ShloMosaic.Lib.Pointwise
public import Idealize.ShloMosaic.Lib.Tactic

@[expose] public section

noncomputable section

namespace Cert.GateIdeal.Entry

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ)

/-- The zero corner. -/
theorem hz : (![0, 0] : Fin 2 → Nat) = fun _ => 0 := funext fun a => by fin_cases a <;> rfl

/-- Column `3072 + j` of the projection: the attention branch's gate. -/
def colA (j : Fin 1024) : Fin 10240 := ⟨3072 + j.val, by omega⟩
/-- Column `4096 + j` of the projection: the recurrent branch's gate. -/
def colR (j : Fin 1024) : Fin 10240 := ⟨4096 + j.val, by omega⟩

/-- The gated sum of the two branches, entry by entry. -/
def G (P : S4096x10240.Idx → EReal) (ba br : S1x1024.Idx → EReal) (ya yr : S4096x1024.Idx → EReal) : S4096x1024.Idx → EReal :=
  fun i => Ideal.logistic (P (ix2 (i 0) (colA (i 1))) + ba (ix2 0 (i 1))) * ya i
    + Ideal.logistic (P (ix2 (i 0) (colR (i 1))) + br (ix2 0 (i 1))) * yr i

/-- What the body computes, at one entry. -/
theorem pay_apply (x0 : Vec Ideal S512x1024 .f32) (x1 : Vec Ideal S1x1024 .f32) (x2 : Vec Ideal S512x1024 .f32)
    (x3 : Vec Ideal S1x1024 .f32) (x4 x5 : Vec Ideal S512x1024 .f32) (y : S512x1024.Idx) :
    (k0_pay1 x0 x1 x2 x3 x4 x5 : S512x1024.Idx → EReal) y
      = Ideal.logistic (x0 y + x1 (ix2 0 (y 1))) * x4 y + Ideal.logistic (x2 y + x3 (ix2 0 (y 1))) * x5 y := by
  unfold k0_pay1
  pointwise

/-- One block of the result is what the body computes of the blocks. -/
theorem out_eq (x0 x1 : Vec Ideal S512x1024 .f32) (x2 x3 : Vec Ideal S1x1024 .f32) (x4 x5 : Vec Ideal S512x1024 .f32) :
    out0_6 x0 x1 x2 x3 x4 x5 = k0_pay1 x0 x2 x1 x3 x4 x5 := by
  unfold out0_6
  rw [View.canon_unit_zero hz]
  simp only [View.ld_unit_zero (S := S512x1024) hz, View.ld_unit_zero (S := S1x1024) hz]

/-- Where the blocks of point `t` lie in the arrays. -/
theorem idx_facts : ∀ t : Fin cfg0.N, win0_0.index t 0 = t.val ∧ win0_0.index t 1 = 3 ∧ win0_1.index t 0 = t.val ∧ win0_1.index t 1 = 4
    ∧ win0_2.index t 0 = 0 ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0
    ∧ win0_6.index t 0 = t.val ∧ win0_6.index t 1 = 0 :=
  (by decide +kernel : ∀ t : Fin grid0.N, win0_0.index t 0 = t.val ∧ win0_0.index t 1 = 3 ∧ win0_1.index t 0 = t.val ∧ win0_1.index t 1 = 4
    ∧ win0_2.index t 0 = 0 ∧ win0_2.index t 1 = 0 ∧ win0_3.index t 0 = 0 ∧ win0_3.index t 1 = 0
    ∧ win0_4.index t 0 = t.val ∧ win0_4.index t 1 = 0 ∧ win0_5.index t 0 = t.val ∧ win0_5.index t 1 = 0
    ∧ win0_6.index t 0 = t.val ∧ win0_6.index t 1 = 0)

/-- What a point writes back is its block of `G`. -/
theorem flushed_eq (c : Dev nD) (t : Fin cfg0.N) :
    (dats m 0 c).flushed 6 t = ((cfg0.win 6).blk t).view.read (Elt Ideal)
      (G (V m c main_arg0) (V m c main_arg1) (V m c main_arg2) (V m c main_arg3) (V m c main_arg4)) := by
  rw [Value.flushed6, out_eq]
  obtain ⟨h00, h01, h10, h11, h20, h21, h30, h31, h40, h41, h50, h51, h60, h61⟩ := idx_facts t
  funext y
  show (k0_pay1 (iblk m c 0 t) (iblk m c 2 t) (iblk m c 1 t) (iblk m c 3 t) (iblk m c 4 t) (iblk m c 5 t) : S512x1024.Idx → EReal) y
    = G (V m c main_arg0) (V m c main_arg1) (V m c main_arg2) (V m c main_arg3) (V m c main_arg4) (((cfg0.win 6).blk t).view.emb y)
  rw [pay_apply]
  unfold G
  have e0 : iblk m c 0 t y = V m c main_arg0 (ix2 (((cfg0.win 6).blk t).view.emb y 0) (colA (((cfg0.win 6).blk t).view.emb y 1))) := by
    show V m c main_arg0 (((cfg0.win 0).blk t).view.emb y) = _
    congr 1; funext a; apply Fin.ext
    match a with
    | ⟨0, _⟩ => show win0_0.index t 0 * 512 + 1 * (y 0).val = win0_6.index t 0 * 512 + 1 * (y 0).val; omega
    | ⟨1, _⟩ => show win0_0.index t 1 * 1024 + 1 * (y 1).val = 3072 + (win0_6.index t 1 * 1024 + 1 * (y 1).val); omega
  have e1 : iblk m c 1 t y = V m c main_arg0 (ix2 (((cfg0.win 6).blk t).view.emb y 0) (colR (((cfg0.win 6).blk t).view.emb y 1))) := by
    show V m c main_arg0 (((cfg0.win 1).blk t).view.emb y) = _
    congr 1; funext a; apply Fin.ext
    match a with
    | ⟨0, _⟩ => show win0_1.index t 0 * 512 + 1 * (y 0).val = win0_6.index t 0 * 512 + 1 * (y 0).val; omega
    | ⟨1, _⟩ => show win0_1.index t 1 * 1024 + 1 * (y 1).val = 4096 + (win0_6.index t 1 * 1024 + 1 * (y 1).val); omega
  have e2 : iblk m c 2 t (ix2 0 (y 1)) = V m c main_arg1 (ix2 0 (((cfg0.win 6).blk t).view.emb y 1)) := by
    show V m c main_arg1 (((cfg0.win 2).blk t).view.emb (ix2 0 (y 1))) = _
    congr 1; funext a; apply Fin.ext
    match a with
    | ⟨0, _⟩ => show win0_2.index t 0 * 1 + 1 * 0 = 0; omega
    | ⟨1, _⟩ => show win0_2.index t 1 * 1024 + 1 * (y 1).val = win0_6.index t 1 * 1024 + 1 * (y 1).val; omega
  have e3 : iblk m c 3 t (ix2 0 (y 1)) = V m c main_arg2 (ix2 0 (((cfg0.win 6).blk t).view.emb y 1)) := by
    show V m c main_arg2 (((cfg0.win 3).blk t).view.emb (ix2 0 (y 1))) = _
    congr 1; funext a; apply Fin.ext
    match a with
    | ⟨0, _⟩ => show win0_3.index t 0 * 1 + 1 * 0 = 0; omega
    | ⟨1, _⟩ => show win0_3.index t 1 * 1024 + 1 * (y 1).val = win0_6.index t 1 * 1024 + 1 * (y 1).val; omega
  have e4 : iblk m c 4 t y = V m c main_arg3 (((cfg0.win 6).blk t).view.emb y) := by
    show V m c main_arg3 (((cfg0.win 4).blk t).view.emb y) = _
    congr 1
  have e5 : iblk m c 5 t y = V m c main_arg4 (((cfg0.win 6).blk t).view.emb y) := by
    show V m c main_arg4 (((cfg0.win 5).blk t).view.emb y) = _
    congr 1
  rw [e0, e1, e2, e3, e4, e5]

/-- An entry whose row lies in the block is in the block. -/
theorem mem_blk (t : Fin cfg0.N) (i : S4096x1024.Idx)
    (h : t.val * 512 ≤ (i 0 : Nat) ∧ (i 0 : Nat) < t.val * 512 + 512) :
    i ∈ ((cfg0.win 6).blk t).view.set := by
  have h6 := (idx_facts t).2.2.2.2.2.2.2.2.2.2.2.2
  show i ∈ ((View.whole main_v0).slice (win0_6.rect t)).set
  rw [View.set_slice_whole, Rect.mem_set_unit]
  intro a
  match a with
  | ⟨0, _⟩ => show win0_6.index t 0 * 512 ≤ (i 0 : Nat) ∧ (i 0 : Nat) < win0_6.index t 0 * 512 + 512
              rw [h6.1]; exact h
  | ⟨1, _⟩ => show win0_6.index t 1 * 1024 ≤ (i 1 : Nat) ∧ (i 1 : Nat) < win0_6.index t 1 * 1024 + 1024
              rw [h6.2, Nat.zero_mul, Nat.zero_add]; exact ⟨Nat.zero_le _, (i 1).isLt⟩

/-- The block of a row is one of the grid. -/
theorem row_lt (i : S4096x1024.Idx) : (i 0).val / 512 < cfg0.N :=
  lt_of_lt_of_eq (Nat.div_lt_of_lt_mul (i 0).isLt) N_0.symm

/-- A row lies in its block. -/
theorem row_in (n : ℕ) : n / 512 * 512 ≤ n ∧ n < n / 512 * 512 + 512 := by omega

/-- Every entry is in some block. -/
theorem cover (i : S4096x1024.Idx) : ∃ t : Fin cfg0.N, (cfg0.win 6).flush t = true ∧ i ∈ ((cfg0.win 6).blk t).view.set :=
  ⟨⟨_, row_lt i⟩, flush0_6 _, mem_blk _ i (row_in _)⟩

/-- The result array is `G` of the arguments. -/
theorem final (c : Dev nD) : (dats m 0 c).arrAt 6 cfg0.N
    = G (V m c main_arg0) (V m c main_arg1) (V m c main_arg2) (V m c main_arg3) (V m c main_arg4) :=
  (dats m 0 c).arrAt_eq_of_cover 6 _ (fun t _ => flushed_eq m c t) cover

end Cert.GateIdeal.Entry

namespace Cert.GateRefIdeal.Entry

open Cert.GateRefIdeal Cert.GateRefIdeal.Gen Idealize.ShloMosaic Idealize.ShloMosaic.TcCoe Idealize.SL.Sem

/-- The reference's result is the same function of its arguments. -/
theorem ref_eq (P : Vec Ideal S4096x10240 .f32) (ba br : Vec Ideal S1x1024 .f32) (ya yr : Vec Ideal S4096x1024 .f32) :
    (truncf .bf16 (addf (mulf (Host.divf (broadcastInDim S4096x1024 ![] bcast_S_S4096x1024 (constant (F := Ideal) S_ .f32 0x3F800000#32)) (addf (broadcastInDim S4096x1024 ![] bcast_S_S4096x1024 (constant S_ .f32 0x3F800000#32)) (Host.exp (Host.negf (addf (extractStridedSlice S4096x1024 ![0, 3072] P slices_S4096x10240_S4096x1024_0_3072) (broadcastInDim S4096x1024 ![0, 1] bcast_S1x1024_S4096x1024_0_1 ba)))))) ya) (mulf (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (extractStridedSlice S4096x1024 ![0, 4096] P slices_S4096x10240_S4096x1024_0_4096) (broadcastInDim S4096x1024 ![0, 1] bcast_S1x1024_S4096x1024_0_1 br)))))) yr)) bitsLt_bf16_f32 : FVec Ideal S4096x1024 .bf16)
      = Cert.GateIdeal.Entry.G P ba br ya yr := by
  funext i
  unfold Cert.GateIdeal.Entry.G
  pointwise
  rfl

end Cert.GateRefIdeal.Entry

namespace Cert.Proof

open Idealize.ShloMosaic Idealize.ShloMosaic.TcCoe Idealize.SL.Sem

/-- The gates: kernel and reference end with equal results. -/
theorem algebraic_gate : Cert.algebraic_GateIdeal_GateRefIdeal := by
  intro m ρ m' ρ' _ hag
  refine ⟨fun c => Cert.GateIdeal.Entry.G (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)),
    (θ_run Cert.GateIdeal.defs _ _).mono (fun _ h c => ⟨(h c).1.trans (Cert.GateIdeal.Entry.final m c), (h c).2⟩) (Cert.GateIdeal.Value.run_blocks (F := Ideal) m ρ),
    (θ_run Cert.GateRefIdeal.defs _ _).mono (fun _ h c => ⟨?_, (h c).2⟩) (Cert.GateRefIdeal.Value.run (F := Ideal) m' ρ')⟩
  refine (h c).1.trans ((Cert.GateRefIdeal.Entry.ref_eq _ _ _ _ _).trans ?_)
  rw [(hag c).1, (hag c).2.1, (hag c).2.2.1, (hag c).2.2.2.1, (hag c).2.2.2.2]

/-- The reference leaves its arguments as they were. -/
theorem frame_gate_ref : Cert.quiescent_GateRefIdeal := by
  intro m ρ _
  exact (θ_run Cert.GateRefIdeal.defs _ _).mono (fun r h => ⟨fun c => (h c).2,
      Idealize.ShloMosaic.sem_eq_zero_of_no_sems (by decide) r.2⟩)
    (Cert.GateRefIdeal.Value.run (F := Ideal) m ρ)

end Cert.Proof

end
-- ==== Proof.GateDx.lean ====
/-
  The gradient of the gates: the kernel `gate_bwd` takes the rows in 8 blocks of 512 and adds up the gradients of the two
  gate biases from block to block, the reference takes everything in one piece. All six results agree at every entry.
-/
module

public import proofs.«01_k».proof.Defs
public import proofs.«01_k».proof.Proof.Gen.GateDxIdeal.Value
public import proofs.«01_k».proof.Proof.Gen.GateDxRefIdeal
public import proofs.«01_k».proof.Proof.Gen.GateDxRefIdeal.Run
public import Idealize.ShloMosaic.Lib.Pipeline.Value
public import Idealize.ShloMosaic.Lib.Pointwise
public import Idealize.ShloMosaic.Lib.Tactic

@[expose] public section

noncomputable section

namespace Cert.GateDxIdeal.Entry

open Cert.GateDxIdeal Cert.GateDxIdeal.Gen Idealize.ShloMosaic Idealize.ShloMosaic.TcCoe Idealize.SL.Sem
open Idealize.ShloMosaic.Pipeline (Dat)

variable (m : (ℓ : Loc nD τ sig) → Buf (Elt Ideal) ℓ)

/-- The zero corner. -/
theorem hz : (![0, 0] : Fin 2 → Nat) = fun _ => 0 := funext fun a => by fin_cases a <;> rfl

/-! ## What one point leaves -/

/-- Result block at the first point: a plain store. -/
theorem out_A_7 (c : Dev nD) (i : grid0.Coords) a1 h1 a2 h2 a3 h3 a4 h4 a5 h5 a6 h6 a7 h7 a8 h8 a9 h9 a10 h10 a11 h11 a12 h12 a13 h13 q0 q1 q2 q3
    (x0 x1 x2 : Vec Ideal S512x1024 .f32) (x3 x4 : Vec Ideal S1x1024 .f32) (x5 x6 : Vec Ideal S512x1024 .f32) :
    out0_A_7 c i a1 h1 a2 h2 a3 h3 a4 h4 a5 h5 a6 h6 a7 h7 a8 h8 a9 h9 a10 h10 a11 h11 a12 h12 a13 h13 q0 q1 q2 q3 x0 x1 x2 x3 x4 x5 x6 = k0_pay7 x0 x1 x3 := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 q0 q1 q2 q3 x0 x1 x2 x3 x4 x5 x6)]
  unfold kernelRun0_A
  dsimp only
  rw [View.canon_unit_zero hz]
  simp only [View.readAt_eq_ld, h1.read_unread, h2.read_unread, h3.read_unread, h4.read_unread, h5.read_unread, h6.read_unread, h7.read_unread, View.ld_unit_zero (S := S512x1024) hz, View.ld_unit_zero (S := S1x1024) hz]

/-- Result block at a later point: what it held and the new part. -/
theorem out_B_7 (c : Dev nD) (i : grid0.Coords) a1 h1 a2 h2 a3 h3 a4 h4 a5 h5 a6 h6 a7 h7 a8 h8 a9 h9 a10 h10 a11 h11 a12 h12 a13 h13 q0 q1 q2 q3
    (x0 x1 x2 : Vec Ideal S512x1024 .f32) (x3 x4 : Vec Ideal S1x1024 .f32) (x5 x6 : Vec Ideal S512x1024 .f32) (o11 o12 : Vec Ideal S1x1024 .f32) :
    out0_B_7 c i a1 h1 a2 h2 a3 h3 a4 h4 a5 h5 a6 h6 a7 h7 a8 h8 a9 h9 a10 h10 a11 h11 a12 h12 a13 h13 q0 q1 q2 q3 x0 x1 x2 x3 x4 x5 x6 o11 o12 = k0_pay7 x0 x1 x3 := by
  unfold out0_B_7
  rw [View.read_writes_eq_canon _ _ _ (cover0_B_7 c i a1 h1 a2 h2 a3 h3 a4 h4 a5 h5 a6 h6 a7 h7 a8 h8 a9 h9 a10 h10 a11 h11 a12 h12 a13 h13 q0 q1 q2 q3 x0 x1 x2 x3 x4 x5 x6 o11 o12)]
  unfold kernelRun0_B
  dsimp only
  rw [View.canon_unit_zero hz]
  simp only [View.readAt_eq_ld, h1.read_unread, h2.read_unread, h3.read_unread, h4.read_unread, h5.read_unread, h6.read_unread, h7.read_unread, h12.read_unread, h13.read_unread, View.ld_unit_zero (S := S512x1024) hz, View.ld_unit_zero (S := S1x1024) hz]

/-- Result block at the first point: a plain store. -/
theorem out_A_8 (c : Dev nD) (i : grid0.Coords) a1 h1 a2 h2 a3 h3 a4 h4 a5 h5 a6 h6 a7 h7 a8 h8 a9 h9 a10 h10 a11 h11 a12 h12 a13 h13 q0 q1 q2 q3
    (x0 x1 x2 : Vec Ideal S512x1024 .f32) (x3 x4 : Vec Ideal S1x1024 .f32) (x5 x6 : Vec Ideal S512x1024 .f32) :
    out0_A_8 c i a1 h1 a2 h2 a3 h3 a4 h4 a5 h5 a6 h6 a7 h7 a8 h8 a9 h9 a10 h10 a11 h11 a12 h12 a13 h13 q0 q1 q2 q3 x0 x1 x2 x3 x4 x5 x6 = k0_pay8 x0 x2 x4 := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 q0 q1 q2 q3 x0 x1 x2 x3 x4 x5 x6)]
  unfold kernelRun0_A
  dsimp only
  rw [View.canon_unit_zero hz]
  simp only [View.readAt_eq_ld, h1.read_unread, h2.read_unread, h3.read_unread, h4.read_unread, h5.read_unread, h6.read_unread, h7.read_unread, View.ld_unit_zero (S := S512x1024) hz, View.ld_unit_zero (S := S1x1024) hz]

/-- Result block at a later point: what it held and the new part. -/
theorem out_B_8 (c : Dev nD) (i : grid0.Coords) a1 h1 a2 h2 a3 h3 a4 h4 a5 h5 a6 h6 a7 h7 a8 h8 a9 h9 a10 h10 a11 h11 a12 h12 a13 h13 q0 q1 q2 q3
    (x0 x1 x2 : Vec Ideal S512x1024 .f32) (x3 x4 : Vec Ideal S1x1024 .f32) (x5 x6 : Vec Ideal S512x1024 .f32) (o11 o12 : Vec Ideal S1x1024 .f32) :
    out0_B_8 c i a1 h1 a2 h2 a3 h3 a4 h4 a5 h5 a6 h6 a7 h7 a8 h8 a9 h9 a10 h10 a11 h11 a12 h12 a13 h13 q0 q1 q2 q3 x0 x1 x2 x3 x4 x5 x6 o11 o12 = k0_pay8 x0 x2 x4 := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 q0 q1 q2 q3 x0 x1 x2 x3 x4 x5 x6 o11 o12)]
  unfold kernelRun0_B
  dsimp only
  rw [View.canon_unit_zero hz]
  simp only [View.readAt_eq_ld, h1.read_unread, h2.read_unread, h3.read_unread, h4.read_unread, h5.read_unread, h6.read_unread, h7.read_unread, h12.read_unread, h13.read_unread, View.ld_unit_zero (S := S512x1024) hz, View.ld_unit_zero (S := S1x1024) hz]

/-- Result block at the first point: a plain store. -/
theorem out_A_9 (c : Dev nD) (i : grid0.Coords) a1 h1 a2 h2 a3 h3 a4 h4 a5 h5 a6 h6 a7 h7 a8 h8 a9 h9 a10 h10 a11 h11 a12 h12 a13 h13 q0 q1 q2 q3
    (x0 x1 x2 : Vec Ideal S512x1024 .f32) (x3 x4 : Vec Ideal S1x1024 .f32) (x5 x6 : Vec Ideal S512x1024 .f32) :
    out0_A_9 c i a1 h1 a2 h2 a3 h3 a4 h4 a5 h5 a6 h6 a7 h7 a8 h8 a9 h9 a10 h10 a11 h11 a12 h12 a13 h13 q0 q1 q2 q3 x0 x1 x2 x3 x4 x5 x6 = k0_pay11 x0 x1 x3 x5 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 q0 q1 q2 q3 x0 x1 x2 x3 x4 x5 x6)]
  unfold kernelRun0_A
  dsimp only
  rw [View.canon_unit_zero hz]
  simp only [kernelRun0_A.sl.r, kernelRun0_A.sl.r_1, kernelRun0_A.sl.r_2, View.readAt_eq_ld, h1.read_unread, h2.read_unread, h3.read_unread, h4.read_unread, h5.read_unread, h6.read_unread, h7.read_unread, View.ld_unit_zero (S := S512x1024) hz, View.ld_unit_zero (S := S1x1024) hz]

/-- Result block at a later point: what it held and the new part. -/
theorem out_B_9 (c : Dev nD) (i : grid0.Coords) a1 h1 a2 h2 a3 h3 a4 h4 a5 h5 a6 h6 a7 h7 a8 h8 a9 h9 a10 h10 a11 h11 a12 h12 a13 h13 q0 q1 q2 q3
    (x0 x1 x2 : Vec Ideal S512x1024 .f32) (x3 x4 : Vec Ideal S1x1024 .f32) (x5 x6 : Vec Ideal S512x1024 .f32) (o11 o12 : Vec Ideal S1x1024 .f32) :
    out0_B_9 c i a1 h1 a2 h2 a3 h3 a4 h4 a5 h5 a6 h6 a7 h7 a8 h8 a9 h9 a10 h10 a11 h11 a12 h12 a13 h13 q0 q1 q2 q3 x0 x1 x2 x3 x4 x5 x6 o11 o12 = k0_pay11 x0 x1 x3 x5 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 q0 q1 q2 q3 x0 x1 x2 x3 x4 x5 x6 o11 o12)]
  unfold kernelRun0_B
  dsimp only
  rw [View.canon_unit_zero hz]
  simp only [kernelRun0_B.sl.r, kernelRun0_B.sl.r_1, kernelRun0_B.sl.r_2, View.readAt_eq_ld, h1.read_unread, h2.read_unread, h3.read_unread, h4.read_unread, h5.read_unread, h6.read_unread, h7.read_unread, h12.read_unread, h13.read_unread, View.ld_unit_zero (S := S512x1024) hz, View.ld_unit_zero (S := S1x1024) hz]

/-- Result block at the first point: a plain store. -/
theorem out_A_10 (c : Dev nD) (i : grid0.Coords) a1 h1 a2 h2 a3 h3 a4 h4 a5 h5 a6 h6 a7 h7 a8 h8 a9 h9 a10 h10 a11 h11 a12 h12 a13 h13 q0 q1 q2 q3
    (x0 x1 x2 : Vec Ideal S512x1024 .f32) (x3 x4 : Vec Ideal S1x1024 .f32) (x5 x6 : Vec Ideal S512x1024 .f32) :
    out0_A_10 c i a1 h1 a2 h2 a3 h3 a4 h4 a5 h5 a6 h6 a7 h7 a8 h8 a9 h9 a10 h10 a11 h11 a12 h12 a13 h13 q0 q1 q2 q3 x0 x1 x2 x3 x4 x5 x6 = k0_pay12 x0 x2 x4 x6 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 q0 q1 q2 q3 x0 x1 x2 x3 x4 x5 x6)]
  unfold kernelRun0_A
  dsimp only
  rw [View.canon_unit_zero hz]
  simp only [kernelRun0_A.sl.r, kernelRun0_A.sl.r_1, kernelRun0_A.sl.r_2, View.readAt_eq_ld, h1.read_unread, h2.read_unread, h3.read_unread, h4.read_unread, h5.read_unread, h6.read_unread, h7.read_unread, View.ld_unit_zero (S := S512x1024) hz, View.ld_unit_zero (S := S1x1024) hz]

/-- Result block at a later point: what it held and the new part. -/
theorem out_B_10 (c : Dev nD) (i : grid0.Coords) a1 h1 a2 h2 a3 h3 a4 h4 a5 h5 a6 h6 a7 h7 a8 h8 a9 h9 a10 h10 a11 h11 a12 h12 a13 h13 q0 q1 q2 q3
    (x0 x1 x2 : Vec Ideal S512x1024 .f32) (x3 x4 : Vec Ideal S1x1024 .f32) (x5 x6 : Vec Ideal S512x1024 .f32) (o11 o12 : Vec Ideal S1x1024 .f32) :
    out0_B_10 c i a1 h1 a2 h2 a3 h3 a4 h4 a5 h5 a6 h6 a7 h7 a8 h8 a9 h9 a10 h10 a11 h11 a12 h12 a13 h13 q0 q1 q2 q3 x0 x1 x2 x3 x4 x5 x6 o11 o12 = k0_pay12 x0 x2 x4 x6 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 q0 q1 q2 q3 x0 x1 x2 x3 x4 x5 x6 o11 o12)]
  unfold kernelRun0_B
  dsimp only
  rw [View.canon_unit_zero hz]
  simp only [kernelRun0_B.sl.r, kernelRun0_B.sl.r_1, kernelRun0_B.sl.r_2, View.readAt_eq_ld, h1.read_unread, h2.read_unread, h3.read_unread, h4.read_unread, h5.read_unread, h6.read_unread, h7.read_unread, h12.read_unread, h13.read_unread, View.ld_unit_zero (S := S512x1024) hz, View.ld_unit_zero (S := S1x1024) hz]

/-- Result block at the first point: a plain store. -/
theorem out_A_11 (c : Dev nD) (i : grid0.Coords) a1 h1 a2 h2 a3 h3 a4 h4 a5 h5 a6 h6 a7 h7 a8 h8 a9 h9 a10 h10 a11 h11 a12 h12 a13 h13 q0 q1 q2 q3
    (x0 x1 x2 : Vec Ideal S512x1024 .f32) (x3 x4 : Vec Ideal S1x1024 .f32) (x5 x6 : Vec Ideal S512x1024 .f32) :
    out0_A_11 c i a1 h1 a2 h2 a3 h3 a4 h4 a5 h5 a6 h6 a7 h7 a8 h8 a9 h9 a10 h10 a11 h11 a12 h12 a13 h13 q0 q1 q2 q3 x0 x1 x2 x3 x4 x5 x6 = k0_pay1 (k0_pay9 x0 x1 x3 x5) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 q0 q1 q2 q3 x0 x1 x2 x3 x4 x5 x6)]
  unfold kernelRun0_A
  dsimp only
  rw [View.canon_unit_zero hz]
  simp only [kernelRun0_A.sl.r, kernelRun0_A.sl.r_1, kernelRun0_A.sl.r_2, View.readAt_eq_ld, h1.read_unread, h2.read_unread, h3.read_unread, h4.read_unread, h5.read_unread, h6.read_unread, h7.read_unread, View.ld_unit_zero (S := S512x1024) hz, View.ld_unit_zero (S := S1x1024) hz]

/-- Result block at a later point: what it held and the new part. -/
theorem out_B_11 (c : Dev nD) (i : grid0.Coords) a1 h1 a2 h2 a3 h3 a4 h4 a5 h5 a6 h6 a7 h7 a8 h8 a9 h9 a10 h10 a11 h11 a12 h12 a13 h13 q0 q1 q2 q3
    (x0 x1 x2 : Vec Ideal S512x1024 .f32) (x3 x4 : Vec Ideal S1x1024 .f32) (x5 x6 : Vec Ideal S512x1024 .f32) (o11 o12 : Vec Ideal S1x1024 .f32) :
    out0_B_11 c i a1 h1 a2 h2 a3 h3 a4 h4 a5 h5 a6 h6 a7 h7 a8 h8 a9 h9 a10 h10 a11 h11 a12 h12 a13 h13 q0 q1 q2 q3 x0 x1 x2 x3 x4 x5 x6 o11 o12 = k0_pay2 (k0_pay9 x0 x1 x3 x5) o11 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 q0 q1 q2 q3 x0 x1 x2 x3 x4 x5 x6 o11 o12)]
  unfold kernelRun0_B
  dsimp only
  rw [View.canon_unit_zero hz]
  simp only [kernelRun0_B.sl.r, kernelRun0_B.sl.r_1, kernelRun0_B.sl.r_2, View.readAt_eq_ld, h1.read_unread, h2.read_unread, h3.read_unread, h4.read_unread, h5.read_unread, h6.read_unread, h7.read_unread, h12.read_unread, h13.read_unread, View.ld_unit_zero (S := S512x1024) hz, View.ld_unit_zero (S := S1x1024) hz]

/-- Result block at the first point: a plain store. -/
theorem out_A_12 (c : Dev nD) (i : grid0.Coords) a1 h1 a2 h2 a3 h3 a4 h4 a5 h5 a6 h6 a7 h7 a8 h8 a9 h9 a10 h10 a11 h11 a12 h12 a13 h13 q0 q1 q2 q3
    (x0 x1 x2 : Vec Ideal S512x1024 .f32) (x3 x4 : Vec Ideal S1x1024 .f32) (x5 x6 : Vec Ideal S512x1024 .f32) :
    out0_A_12 c i a1 h1 a2 h2 a3 h3 a4 h4 a5 h5 a6 h6 a7 h7 a8 h8 a9 h9 a10 h10 a11 h11 a12 h12 a13 h13 q0 q1 q2 q3 x0 x1 x2 x3 x4 x5 x6 = k0_pay3 (k0_pay10 x0 x2 x4 x6) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 q0 q1 q2 q3 x0 x1 x2 x3 x4 x5 x6)]
  unfold kernelRun0_A
  dsimp only
  rw [View.canon_unit_zero hz]
  simp only [kernelRun0_A.sl.r, kernelRun0_A.sl.r_1, kernelRun0_A.sl.r_2, View.readAt_eq_ld, h1.read_unread, h2.read_unread, h3.read_unread, h4.read_unread, h5.read_unread, h6.read_unread, h7.read_unread, View.ld_unit_zero (S := S512x1024) hz, View.ld_unit_zero (S := S1x1024) hz]

/-- Result block at a later point: what it held and the new part. -/
theorem out_B_12 (c : Dev nD) (i : grid0.Coords) a1 h1 a2 h2 a3 h3 a4 h4 a5 h5 a6 h6 a7 h7 a8 h8 a9 h9 a10 h10 a11 h11 a12 h12 a13 h13 q0 q1 q2 q3
    (x0 x1 x2 : Vec Ideal S512x1024 .f32) (x3 x4 : Vec Ideal S1x1024 .f32) (x5 x6 : Vec Ideal S512x1024 .f32) (o11 o12 : Vec Ideal S1x1024 .f32) :
    out0_B_12 c i a1 h1 a2 h2 a3 h3 a4 h4 a5 h5 a6 h6 a7 h7 a8 h8 a9 h9 a10 h10 a11 h11 a12 h12 a13 h13 q0 q1 q2 q3 x0 x1 x2 x3 x4 x5 x6 o11 o12 = k0_pay4 (k0_pay10 x0 x2 x4 x6) o12 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 q0 q1 q2 q3 x0 x1 x2 x3 x4 x5 x6 o11 o12)]
  unfold kernelRun0_B
  dsimp only
  rw [View.canon_unit_zero hz]
  simp only [kernelRun0_B.sl.r, kernelRun0_B.sl.r_1, kernelRun0_B.sl.r_2, View.readAt_eq_ld, h1.read_unread, h2.read_unread, h3.read_unread, h4.read_unread, h5.read_unread, h6.read_unread, h7.read_unread, h12.read_unread, h13.read_unread, View.ld_unit_zero (S := S512x1024) hz, View.ld_unit_zero (S := S1x1024) hz]

/-! ## The results, entry by entry -/

/-- Column `3072 + j` of the projection: the attention branch's gate. -/
def colA (j : Fin 1024) : Fin 10240 := ⟨3072 + j.val, by omega⟩
/-- Column `4096 + j` of the projection: the recurrent branch's gate. -/
def colR (j : Fin 1024) : Fin 10240 := ⟨4096 + j.val, by omega⟩

/-- The gradient of a branch: the gradient of the sum times the gate. -/
def Y (col : Fin 1024 → Fin 10240) (dm : S4096x1024.Idx → EReal) (P : S4096x10240.Idx → EReal) (b : S1x1024.Idx → EReal) : S4096x1024.Idx → EReal :=
  fun i => dm i * Ideal.logistic (P (ix2 (i 0) (col (i 1))) + b (ix2 0 (i 1)))

/-- The gradient of a gate's column: through the logistic function. -/
def Z (col : Fin 1024 → Fin 10240) (dm : S4096x1024.Idx → EReal) (P : S4096x10240.Idx → EReal) (b : S1x1024.Idx → EReal) (y : S4096x1024.Idx → EReal) : S4096x1024.Idx → EReal :=
  fun i => dm i * y i * Ideal.logistic (P (ix2 (i 0) (col (i 1))) + b (ix2 0 (i 1)))
    * (1 - Ideal.logistic (P (ix2 (i 0) (col (i 1))) + b (ix2 0 (i 1))))

/-- The gradient of a bias: the sum over the rows. -/
def S (T : S4096x1024.Idx → EReal) : S1x1024.Idx → EReal := fun i => ∑ k : Fin 4096, T (ix2 k (i 1))

/-- What the body computes, at one entry. -/
theorem pay7_apply (x0 x1 : Vec Ideal S512x1024 .f32) (x3 : Vec Ideal S1x1024 .f32) (y : S512x1024.Idx) :
    (k0_pay7 x0 x1 x3 : S512x1024.Idx → EReal) y = x0 y * Ideal.logistic (x1 y + x3 (ix2 0 (y 1))) := by
  unfold k0_pay7 k0_pay5
  pointwise

/-- What the body computes, at one entry. -/
theorem pay8_apply (x0 x1 : Vec Ideal S512x1024 .f32) (x3 : Vec Ideal S1x1024 .f32) (y : S512x1024.Idx) :
    (k0_pay8 x0 x1 x3 : S512x1024.Idx → EReal) y = x0 y * Ideal.logistic (x1 y + x3 (ix2 0 (y 1))) := by
  unfold k0_pay8 k0_pay6
  pointwise

/-- What the body computes, at one entry. -/
theorem pay9_apply (x0 x1 : Vec Ideal S512x1024 .f32) (x3 : Vec Ideal S1x1024 .f32) (x5 : Vec Ideal S512x1024 .f32) (y : S512x1024.Idx) :
    (k0_pay9 x0 x1 x3 x5 : S512x1024.Idx → EReal) y = x0 y * x5 y * Ideal.logistic (x1 y + x3 (ix2 0 (y 1)))
      * (1 - Ideal.logistic (x1 y + x3 (ix2 0 (y 1)))) := by
  unfold k0_pay9 k0_pay5
  pointwise

/-- What the body computes, at one entry. -/
theorem pay10_apply (x0 x1 : Vec Ideal S512x1024 .f32) (x3 : Vec Ideal S1x1024 .f32) (x5 : Vec Ideal S512x1024 .f32) (y : S512x1024.Idx) :
    (k0_pay10 x0 x1 x3 x5 : S512x1024.Idx → EReal) y = x0 y * x5 y * Ideal.logistic (x1 y + x3 (ix2 0 (y 1)))
      * (1 - Ideal.logistic (x1 y + x3 (ix2 0 (y 1)))) := by
  unfold k0_pay10 k0_pay6
  pointwise

/-- What the body computes, at one entry. -/
theorem pay11_apply (x0 x1 : Vec Ideal S512x1024 .f32) (x3 : Vec Ideal S1x1024 .f32) (x5 : Vec Ideal S512x1024 .f32) (y : S512x1024.Idx) :
    (k0_pay11 x0 x1 x3 x5 : S512x1024.Idx → EReal) y = (k0_pay9 x0 x1 x3 x5 : S512x1024.Idx → EReal) y := rfl

/-- What the body computes, at one entry. -/
theorem pay12_apply (x0 x1 : Vec Ideal S512x1024 .f32) (x3 : Vec Ideal S1x1024 .f32) (x5 : Vec Ideal S512x1024 .f32) (y : S512x1024.Idx) :
    (k0_pay12 x0 x1 x3 x5 : S512x1024.Idx → EReal) y = (k0_pay10 x0 x1 x3 x5 : S512x1024.Idx → EReal) y := rfl

/-- A vector seen as one row. -/
theorem row_cast {α : Type} (v : S1024.Idx → α) (h : S1024.ShapeCasts S1x1024) (i : S1x1024.Idx) :
    shapeCast S1x1024 v h i = v (ix1 (i 1)) :=
  congrArg v (Shape.reshapeEquiv_eq_of_vals h i (ix1 (i 1)) (i 1).val ((i 0).val * 1024 + (i 1).val) (rowMajor_val1 _)
    (rowMajor_val2 _ 1024 rfl) (by have h0 : (i 0).val < 1 := (i 0).isLt; omega))

/-- What the body computes, at one entry. -/
theorem pay1_apply (v : FVec Ideal S512x1024 .f32) (y : S1x1024.Idx) :
    (k0_pay1 v : S1x1024.Idx → EReal) y = ∑ k : Fin 512, v (ix2 k (y 1)) := by
  show shapeCast S1x1024 (multiReduction (F := Ideal) .add [0] S1024 v 0x00000000#32 reduces_S512x1024_S1024 (.inl rfl) rfl) shapeCasts_S1024_S1x1024 y = _
  rw [row_cast]
  pointwise

/-- What the body computes, at one entry. -/
theorem pay2_apply (v : FVec Ideal S512x1024 .f32) (u : Vec Ideal S1x1024 .f32) (y : S1x1024.Idx) :
    (k0_pay2 v u : S1x1024.Idx → EReal) y = u y + (k0_pay1 v : S1x1024.Idx → EReal) y := by
  unfold k0_pay2
  rw [shapeCast_self]
  rfl

/-- What the body computes, at one entry. -/
theorem pay3_apply (v : FVec Ideal S512x1024 .f32) (y : S1x1024.Idx) :
    (k0_pay3 v : S1x1024.Idx → EReal) y = ∑ k : Fin 512, v (ix2 k (y 1)) := by
  show shapeCast S1x1024 (multiReduction (F := Ideal) .add [0] S1024 v 0x00000000#32 reduces_S512x1024_S1024 (.inl rfl) rfl) shapeCasts_S1024_S1x1024 y = _
  rw [row_cast]
  pointwise

/-- What the body computes, at one entry. -/
theorem pay4_apply (v : FVec Ideal S512x1024 .f32) (u : Vec Ideal S1x1024 .f32) (y : S1x1024.Idx) :
    (k0_pay4 v u : S1x1024.Idx → EReal) y = u y + (k0_pay3 v : S1x1024.Idx → EReal) y := by
  unfold k0_pay4
  rw [shapeCast_self]
  rfl

/-! ## The blocks of a point in the arrays -/

/-- Where the block of point `t` lies. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Where the block of point `t` lies. -/
theorem idx1 : ∀ t : Fin cfg0.N, win0_1.index t 0 = t.val ∧ win0_1.index t 1 = 3 :=
  (by decide +kernel : ∀ t : Fin grid0.N, win0_1.index t 0 = t.val ∧ win0_1.index t 1 = 3)

/-- Where the block of point `t` lies. -/
theorem idx2 : ∀ t : Fin cfg0.N, win0_2.index t 0 = t.val ∧ win0_2.index t 1 = 4 :=
  (by decide +kernel : ∀ t : Fin grid0.N, win0_2.index t 0 = t.val ∧ win0_2.index t 1 = 4)

/-- Where the block of point `t` lies. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Where the block of point `t` lies. -/
theorem idx4 : ∀ t : Fin cfg0.N, win0_4.index t 0 = 0 ∧ win0_4.index t 1 = 0 :=
  (by decide +kernel : ∀ t : Fin grid0.N, win0_4.index t 0 = 0 ∧ win0_4.index t 1 = 0)

/-- Where the block of point `t` lies. -/
theorem idx5 : ∀ t : Fin cfg0.N, win0_5.index t 0 = t.val ∧ win0_5.index t 1 = 0 :=
  (by decide +kernel : ∀ t : Fin grid0.N, win0_5.index t 0 = t.val ∧ win0_5.index t 1 = 0)

/-- Where the block of point `t` lies. -/
theorem idx6 : ∀ t : Fin cfg0.N, win0_6.index t 0 = t.val ∧ win0_6.index t 1 = 0 :=
  (by decide +kernel : ∀ t : Fin grid0.N, win0_6.index t 0 = t.val ∧ win0_6.index t 1 = 0)

/-- Where the block of point `t` lies. -/
theorem idx7 : ∀ t : Fin cfg0.N, win0_7.index t 0 = t.val ∧ win0_7.index t 1 = 0 :=
  (by decide +kernel : ∀ t : Fin grid0.N, win0_7.index t 0 = t.val ∧ win0_7.index t 1 = 0)

/-- Where the block of point `t` lies. -/
theorem idx8 : ∀ t : Fin cfg0.N, win0_8.index t 0 = t.val ∧ win0_8.index t 1 = 0 :=
  (by decide +kernel : ∀ t : Fin grid0.N, win0_8.index t 0 = t.val ∧ win0_8.index t 1 = 0)

/-- Where the block of point `t` lies. -/
theorem idx9 : ∀ t : Fin cfg0.N, win0_9.index t 0 = t.val ∧ win0_9.index t 1 = 0 :=
  (by decide +kernel : ∀ t : Fin grid0.N, win0_9.index t 0 = t.val ∧ win0_9.index t 1 = 0)

/-- Where the block of point `t` lies. -/
theorem idx10 : ∀ t : Fin cfg0.N, win0_10.index t 0 = t.val ∧ win0_10.index t 1 = 0 :=
  (by decide +kernel : ∀ t : Fin grid0.N, win0_10.index t 0 = t.val ∧ win0_10.index t 1 = 0)

/-- Where the block of point `t` lies. -/
theorem idx11 : ∀ t : Fin cfg0.N, win0_11.index t 0 = 0 ∧ win0_11.index t 1 = 0 :=
  (by decide +kernel : ∀ t : Fin grid0.N, win0_11.index t 0 = 0 ∧ win0_11.index t 1 = 0)

/-- Where the block of point `t` lies. -/
theorem idx12 : ∀ t : Fin cfg0.N, win0_12.index t 0 = 0 ∧ win0_12.index t 1 = 0 :=
  (by decide +kernel : ∀ t : Fin grid0.N, win0_12.index t 0 = 0 ∧ win0_12.index t 1 = 0)

/-- The row is in the array. -/
theorem row_ok (t : Fin cfg0.N) (k : Fin 512) : t.val * 512 + k.val < 4096 := by
  have ht : t.val < 8 := lt_of_lt_of_eq t.isLt N_0
  omega

/-- Row `k` of block `t`. -/
def row (t : Fin cfg0.N) (k : Fin 512) : Fin 4096 := ⟨t.val * 512 + k.val, row_ok t k⟩

/-- An entry of the block of point `t`, in the whole array. -/
theorem blk0 (c : Dev nD) (t : Fin cfg0.N) (y : S512x1024.Idx) : iblk m c 0 t y = V m c main_arg0 (ix2 (row t (y 0)) (y 1)) := by
  obtain ⟨h0, h1⟩ := idx0 t
  show V m c main_arg0 (((cfg0.win 0).blk t).view.emb y) = _
  congr 1; funext a; apply Fin.ext
  match a with
  | ⟨0, _⟩ => show win0_0.index t 0 * 512 + 1 * (y 0).val = t.val * 512 + (y 0).val; omega
  | ⟨1, _⟩ => show win0_0.index t 1 * 1024 + 1 * (y 1).val = (y 1).val; omega

/-- An entry of the block of point `t`, in the whole array. -/
theorem blk5 (c : Dev nD) (t : Fin cfg0.N) (y : S512x1024.Idx) : iblk m c 5 t y = V m c main_arg4 (ix2 (row t (y 0)) (y 1)) := by
  obtain ⟨h0, h1⟩ := idx5 t
  show V m c main_arg4 (((cfg0.win 5).blk t).view.emb y) = _
  congr 1; funext a; apply Fin.ext
  match a with
  | ⟨0, _⟩ => show win0_5.index t 0 * 512 + 1 * (y 0).val = t.val * 512 + (y 0).val; omega
  | ⟨1, _⟩ => show win0_5.index t 1 * 1024 + 1 * (y 1).val = (y 1).val; omega

/-- An entry of the block of point `t`, in the whole array. -/
theorem blk6 (c : Dev nD) (t : Fin cfg0.N) (y : S512x1024.Idx) : iblk m c 6 t y = V m c main_arg5 (ix2 (row t (y 0)) (y 1)) := by
  obtain ⟨h0, h1⟩ := idx6 t
  show V m c main_arg5 (((cfg0.win 6).blk t).view.emb y) = _
  congr 1; funext a; apply Fin.ext
  match a with
  | ⟨0, _⟩ => show win0_6.index t 0 * 512 + 1 * (y 0).val = t.val * 512 + (y 0).val; omega
  | ⟨1, _⟩ => show win0_6.index t 1 * 1024 + 1 * (y 1).val = (y 1).val; omega

/-- An entry of the block of point `t`, in the whole array. -/
theorem blk1 (c : Dev nD) (t : Fin cfg0.N) (y : S512x1024.Idx) : iblk m c 1 t y = V m c main_arg1 (ix2 (row t (y 0)) (colA (y 1))) := by
  obtain ⟨h0, h1⟩ := idx1 t
  show V m c main_arg1 (((cfg0.win 1).blk t).view.emb y) = _
  congr 1; funext a; apply Fin.ext
  match a with
  | ⟨0, _⟩ => show win0_1.index t 0 * 512 + 1 * (y 0).val = t.val * 512 + (y 0).val; omega
  | ⟨1, _⟩ => show win0_1.index t 1 * 1024 + 1 * (y 1).val = 3072 + (y 1).val; omega

/-- An entry of the block of point `t`, in the whole array. -/
theorem blk2 (c : Dev nD) (t : Fin cfg0.N) (y : S512x1024.Idx) : iblk m c 2 t y = V m c main_arg1 (ix2 (row t (y 0)) (colR (y 1))) := by
  obtain ⟨h0, h1⟩ := idx2 t
  show V m c main_arg1 (((cfg0.win 2).blk t).view.emb y) = _
  congr 1; funext a; apply Fin.ext
  match a with
  | ⟨0, _⟩ => show win0_2.index t 0 * 512 + 1 * (y 0).val = t.val * 512 + (y 0).val; omega
  | ⟨1, _⟩ => show win0_2.index t 1 * 1024 + 1 * (y 1).val = 4096 + (y 1).val; omega

/-- An entry of the block of point `t`, in the whole array. -/
theorem blk3 (c : Dev nD) (t : Fin cfg0.N) (y : S512x1024.Idx) : iblk m c 3 t (ix2 0 (y 1)) = V m c main_arg2 (ix2 0 (y 1)) := by
  obtain ⟨h0, h1⟩ := idx3 t
  show V m c main_arg2 (((cfg0.win 3).blk t).view.emb (ix2 0 (y 1))) = _
  congr 1; funext a; apply Fin.ext
  match a with
  | ⟨0, _⟩ => show win0_3.index t 0 * 1 + 1 * 0 = 0; omega
  | ⟨1, _⟩ => show win0_3.index t 1 * 1024 + 1 * (y 1).val = (y 1).val; omega

/-- An entry of the block of point `t`, in the whole array. -/
theorem blk4 (c : Dev nD) (t : Fin cfg0.N) (y : S512x1024.Idx) : iblk m c 4 t (ix2 0 (y 1)) = V m c main_arg3 (ix2 0 (y 1)) := by
  obtain ⟨h0, h1⟩ := idx4 t
  show V m c main_arg3 (((cfg0.win 4).blk t).view.emb (ix2 0 (y 1))) = _
  congr 1; funext a; apply Fin.ext
  match a with
  | ⟨0, _⟩ => show win0_4.index t 0 * 1 + 1 * 0 = 0; omega
  | ⟨1, _⟩ => show win0_4.index t 1 * 1024 + 1 * (y 1).val = (y 1).val; omega

/-- An entry of the result block, in the whole array. -/
theorem emb7 (t : Fin cfg0.N) (y : S512x1024.Idx) : ((cfg0.win 7).blk t).view.emb y = (ix2 (row t (y 0)) (y 1) : S4096x1024.Idx) := by
  obtain ⟨h0, h1⟩ := idx7 t
  funext a; apply Fin.ext
  match a with
  | ⟨0, _⟩ => show win0_7.index t 0 * 512 + 1 * (y 0).val = t.val * 512 + (y 0).val; omega
  | ⟨1, _⟩ => show win0_7.index t 1 * 1024 + 1 * (y 1).val = (y 1).val; omega

/-- An entry of the result block, in the whole array. -/
theorem emb8 (t : Fin cfg0.N) (y : S512x1024.Idx) : ((cfg0.win 8).blk t).view.emb y = (ix2 (row t (y 0)) (y 1) : S4096x1024.Idx) := by
  obtain ⟨h0, h1⟩ := idx8 t
  funext a; apply Fin.ext
  match a with
  | ⟨0, _⟩ => show win0_8.index t 0 * 512 + 1 * (y 0).val = t.val * 512 + (y 0).val; omega
  | ⟨1, _⟩ => show win0_8.index t 1 * 1024 + 1 * (y 1).val = (y 1).val; omega

/-- An entry of the result block, in the whole array. -/
theorem emb9 (t : Fin cfg0.N) (y : S512x1024.Idx) : ((cfg0.win 9).blk t).view.emb y = (ix2 (row t (y 0)) (y 1) : S4096x1024.Idx) := by
  obtain ⟨h0, h1⟩ := idx9 t
  funext a; apply Fin.ext
  match a with
  | ⟨0, _⟩ => show win0_9.index t 0 * 512 + 1 * (y 0).val = t.val * 512 + (y 0).val; omega
  | ⟨1, _⟩ => show win0_9.index t 1 * 1024 + 1 * (y 1).val = (y 1).val; omega

/-- An entry of the result block, in the whole array. -/
theorem emb10 (t : Fin cfg0.N) (y : S512x1024.Idx) : ((cfg0.win 10).blk t).view.emb y = (ix2 (row t (y 0)) (y 1) : S4096x1024.Idx) := by
  obtain ⟨h0, h1⟩ := idx10 t
  funext a; apply Fin.ext
  match a with
  | ⟨0, _⟩ => show win0_10.index t 0 * 512 + 1 * (y 0).val = t.val * 512 + (y 0).val; omega
  | ⟨1, _⟩ => show win0_10.index t 1 * 1024 + 1 * (y 1).val = (y 1).val; omega

/-- An entry of the result block, in the whole array. -/
theorem emb11 (t : Fin cfg0.N) (y : S1x1024.Idx) : ((cfg0.win 11).blk t).view.emb y = y := by
  obtain ⟨h0, h1⟩ := idx11 t
  funext a; apply Fin.ext
  match a with
  | ⟨0, _⟩ => show win0_11.index t 0 * 1 + 1 * (y 0).val = (y 0).val; omega
  | ⟨1, _⟩ => show win0_11.index t 1 * 1024 + 1 * (y 1).val = (y 1).val; omega

/-- An entry of the result block, in the whole array. -/
theorem emb12 (t : Fin cfg0.N) (y : S1x1024.Idx) : ((cfg0.win 12).blk t).view.emb y = y := by
  obtain ⟨h0, h1⟩ := idx12 t
  funext a; apply Fin.ext
  match a with
  | ⟨0, _⟩ => show win0_12.index t 0 * 1 + 1 * (y 0).val = (y 0).val; omega
  | ⟨1, _⟩ => show win0_12.index t 1 * 1024 + 1 * (y 1).val = (y 1).val; omega

/-! ## The four results written block by block -/

/-- What the body computes of the blocks of point `t`, as entries of the whole function. -/
theorem val7 (c : Dev nD) (t : Fin cfg0.N) (y : S512x1024.Idx) :
    (k0_pay7 (iblk m c 0 t) (iblk m c 1 t) (iblk m c 3 t) : S512x1024.Idx → EReal) y = Y colA (V m c main_arg0) (V m c main_arg1) (V m c main_arg2) (ix2 (row t (y 0)) (y 1)) := by
  rw [pay7_apply, blk0, blk1, blk3]
  rfl

/-- What a point writes back is its block of the whole function. -/
theorem flushed_eq7 (c : Dev nD) (t : Fin cfg0.N) :
    (dats m 0 c).flushed 7 t = ((cfg0.win 7).blk t).view.read (Elt Ideal) (Y colA (V m c main_arg0) (V m c main_arg1) (V m c main_arg2)) := by
  have ht : t.val < 8 := lt_of_lt_of_eq t.isLt N_0
  have e : (dats m 0 c).flushed 7 t = (cfg0.win 7).cut (grid0.coords t) (k0_pay7 (iblk m c 0 t) (iblk m c 1 t) (iblk m c 3 t)) := by
    by_cases h : t.val % 8 = 0
    · rw [Value.flushed7_A m c t h (by omega) h (by omega), out_A_7]
    · rw [Value.flushed7_B m c t h (by omega) h (by omega), out_B_7]
  rw [e]
  funext y
  refine (val7 m c t y).trans ?_
  show _ = Y colA (V m c main_arg0) (V m c main_arg1) (V m c main_arg2) (((cfg0.win 7).blk t).view.emb y)
  rw [emb7]

/-- An entry whose row lies in the block is in the block. -/
theorem mem7 (t : Fin cfg0.N) (i : S4096x1024.Idx) (h : t.val * 512 ≤ (i 0 : Nat) ∧ (i 0 : Nat) < t.val * 512 + 512) :
    i ∈ ((cfg0.win 7).blk t).view.set := by
  have h6 := idx7 t
  show i ∈ ((View.whole main_v0_0).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512
              rw [h6.1]; exact h
  | ⟨1, _⟩ => show win0_7.index t 1 * 1024 ≤ (i 1 : Nat) ∧ (i 1 : Nat) < win0_7.index t 1 * 1024 + 1024
              rw [h6.2, Nat.zero_mul, Nat.zero_add]; exact ⟨Nat.zero_le _, (i 1).isLt⟩

/-- What the body computes of the blocks of point `t`, as entries of the whole function. -/
theorem val8 (c : Dev nD) (t : Fin cfg0.N) (y : S512x1024.Idx) :
    (k0_pay8 (iblk m c 0 t) (iblk m c 2 t) (iblk m c 4 t) : S512x1024.Idx → EReal) y = Y colR (V m c main_arg0) (V m c main_arg1) (V m c main_arg3) (ix2 (row t (y 0)) (y 1)) := by
  rw [pay8_apply, blk0, blk2, blk4]
  rfl

/-- What a point writes back is its block of the whole function. -/
theorem flushed_eq8 (c : Dev nD) (t : Fin cfg0.N) :
    (dats m 0 c).flushed 8 t = ((cfg0.win 8).blk t).view.read (Elt Ideal) (Y colR (V m c main_arg0) (V m c main_arg1) (V m c main_arg3)) := by
  have ht : t.val < 8 := lt_of_lt_of_eq t.isLt N_0
  have e : (dats m 0 c).flushed 8 t = (cfg0.win 8).cut (grid0.coords t) (k0_pay8 (iblk m c 0 t) (iblk m c 2 t) (iblk m c 4 t)) := by
    by_cases h : t.val % 8 = 0
    · rw [Value.flushed8_A m c t h (by omega) h (by omega), out_A_8]
    · rw [Value.flushed8_B m c t h (by omega) h (by omega), out_B_8]
  rw [e]
  funext y
  refine (val8 m c t y).trans ?_
  show _ = Y colR (V m c main_arg0) (V m c main_arg1) (V m c main_arg3) (((cfg0.win 8).blk t).view.emb y)
  rw [emb8]

/-- An entry whose row lies in the block is in the block. -/
theorem mem8 (t : Fin cfg0.N) (i : S4096x1024.Idx) (h : t.val * 512 ≤ (i 0 : Nat) ∧ (i 0 : Nat) < t.val * 512 + 512) :
    i ∈ ((cfg0.win 8).blk t).view.set := by
  have h6 := idx8 t
  show i ∈ ((View.whole main_v0_1).slice (win0_8.rect t)).set
  rw [View.set_slice_whole, Rect.mem_set_unit]
  intro a
  match a with
  | ⟨0, _⟩ => show win0_8.index t 0 * 512 ≤ (i 0 : Nat) ∧ (i 0 : Nat) < win0_8.index t 0 * 512 + 512
              rw [h6.1]; exact h
  | ⟨1, _⟩ => show win0_8.index t 1 * 1024 ≤ (i 1 : Nat) ∧ (i 1 : Nat) < win0_8.index t 1 * 1024 + 1024
              rw [h6.2, Nat.zero_mul, Nat.zero_add]; exact ⟨Nat.zero_le _, (i 1).isLt⟩

/-- What the body computes of the blocks of point `t`, as entries of the whole function. -/
theorem val9 (c : Dev nD) (t : Fin cfg0.N) (y : S512x1024.Idx) :
    (k0_pay11 (iblk m c 0 t) (iblk m c 1 t) (iblk m c 3 t) (iblk m c 5 t) : S512x1024.Idx → EReal) y = Z colA (V m c main_arg0) (V m c main_arg1) (V m c main_arg2) (V m c main_arg4) (ix2 (row t (y 0)) (y 1)) := by
  rw [pay11_apply, pay9_apply, blk0, blk1, blk3, blk5]
  rfl

/-- What a point writes back is its block of the whole function. -/
theorem flushed_eq9 (c : Dev nD) (t : Fin cfg0.N) :
    (dats m 0 c).flushed 9 t = ((cfg0.win 9).blk t).view.read (Elt Ideal) (Z colA (V m c main_arg0) (V m c main_arg1) (V m c main_arg2) (V m c main_arg4)) := by
  have ht : t.val < 8 := lt_of_lt_of_eq t.isLt N_0
  have e : (dats m 0 c).flushed 9 t = (cfg0.win 9).cut (grid0.coords t) (k0_pay11 (iblk m c 0 t) (iblk m c 1 t) (iblk m c 3 t) (iblk m c 5 t)) := by
    by_cases h : t.val % 8 = 0
    · rw [Value.flushed9_A m c t h (by omega) h (by omega), out_A_9]
    · rw [Value.flushed9_B m c t h (by omega) h (by omega), out_B_9]
  rw [e]
  funext y
  refine (val9 m c t y).trans ?_
  show _ = Z colA (V m c main_arg0) (V m c main_arg1) (V m c main_arg2) (V m c main_arg4) (((cfg0.win 9).blk t).view.emb y)
  rw [emb9]

/-- An entry whose row lies in the block is in the block. -/
theorem mem9 (t : Fin cfg0.N) (i : S4096x1024.Idx) (h : t.val * 512 ≤ (i 0 : Nat) ∧ (i 0 : Nat) < t.val * 512 + 512) :
    i ∈ ((cfg0.win 9).blk t).view.set := by
  have h6 := idx9 t
  show i ∈ ((View.whole main_v0_2).slice (win0_9.rect t)).set
  rw [View.set_slice_whole, Rect.mem_set_unit]
  intro a
  match a with
  | ⟨0, _⟩ => show win0_9.index t 0 * 512 ≤ (i 0 : Nat) ∧ (i 0 : Nat) < win0_9.index t 0 * 512 + 512
              rw [h6.1]; exact h
  | ⟨1, _⟩ => show win0_9.index t 1 * 1024 ≤ (i 1 : Nat) ∧ (i 1 : Nat) < win0_9.index t 1 * 1024 + 1024
              rw [h6.2, Nat.zero_mul, Nat.zero_add]; exact ⟨Nat.zero_le _, (i 1).isLt⟩

/-- What the body computes of the blocks of point `t`, as entries of the whole function. -/
theorem val10 (c : Dev nD) (t : Fin cfg0.N) (y : S512x1024.Idx) :
    (k0_pay12 (iblk m c 0 t) (iblk m c 2 t) (iblk m c 4 t) (iblk m c 6 t) : S512x1024.Idx → EReal) y = Z colR (V m c main_arg0) (V m c main_arg1) (V m c main_arg3) (V m c main_arg5) (ix2 (row t (y 0)) (y 1)) := by
  rw [pay12_apply, pay10_apply, blk0, blk2, blk4, blk6]
  rfl

/-- What a point writes back is its block of the whole function. -/
theorem flushed_eq10 (c : Dev nD) (t : Fin cfg0.N) :
    (dats m 0 c).flushed 10 t = ((cfg0.win 10).blk t).view.read (Elt Ideal) (Z colR (V m c main_arg0) (V m c main_arg1) (V m c main_arg3) (V m c main_arg5)) := by
  have ht : t.val < 8 := lt_of_lt_of_eq t.isLt N_0
  have e : (dats m 0 c).flushed 10 t = (cfg0.win 10).cut (grid0.coords t) (k0_pay12 (iblk m c 0 t) (iblk m c 2 t) (iblk m c 4 t) (iblk m c 6 t)) := by
    by_cases h : t.val % 8 = 0
    · rw [Value.flushed10_A m c t h (by omega) h (by omega), out_A_10]
    · rw [Value.flushed10_B m c t h (by omega) h (by omega), out_B_10]
  rw [e]
  funext y
  refine (val10 m c t y).trans ?_
  show _ = Z colR (V m c main_arg0) (V m c main_arg1) (V m c main_arg3) (V m c main_arg5) (((cfg0.win 10).blk t).view.emb y)
  rw [emb10]

/-- An entry whose row lies in the block is in the block. -/
theorem mem10 (t : Fin cfg0.N) (i : S4096x1024.Idx) (h : t.val * 512 ≤ (i 0 : Nat) ∧ (i 0 : Nat) < t.val * 512 + 512) :
    i ∈ ((cfg0.win 10).blk t).view.set := by
  have h6 := idx10 t
  show i ∈ ((View.whole main_v0_3).slice (win0_10.rect t)).set
  rw [View.set_slice_whole, Rect.mem_set_unit]
  intro a
  match a with
  | ⟨0, _⟩ => show win0_10.index t 0 * 512 ≤ (i 0 : Nat) ∧ (i 0 : Nat) < win0_10.index t 0 * 512 + 512
              rw [h6.1]; exact h
  | ⟨1, _⟩ => show win0_10.index t 1 * 1024 ≤ (i 1 : Nat) ∧ (i 1 : Nat) < win0_10.index t 1 * 1024 + 1024
              rw [h6.2, Nat.zero_mul, Nat.zero_add]; exact ⟨Nat.zero_le _, (i 1).isLt⟩

/-- The block of a row is one of the grid. -/
theorem row_lt (i : S4096x1024.Idx) : (i 0).val / 512 < cfg0.N :=
  lt_of_lt_of_eq (Nat.div_lt_of_lt_mul (i 0).isLt) N_0.symm

/-- A row lies in its block. -/
theorem row_in (n : ℕ) : n / 512 * 512 ≤ n ∧ n < n / 512 * 512 + 512 := by omega

/-- The result array is the whole function of the arguments. -/
theorem final7 (c : Dev nD) : (dats m 0 c).arrAt 7 cfg0.N = Y colA (V m c main_arg0) (V m c main_arg1) (V m c main_arg2) :=
  (dats m 0 c).arrAt_eq_of_cover 7 _ (fun t _ => flushed_eq7 m c t) (fun i => ⟨⟨_, row_lt i⟩, flush0_7 _, mem7 _ i (row_in _)⟩)

/-- The result array is the whole function of the arguments. -/
theorem final8 (c : Dev nD) : (dats m 0 c).arrAt 8 cfg0.N = Y colR (V m c main_arg0) (V m c main_arg1) (V m c main_arg3) :=
  (dats m 0 c).arrAt_eq_of_cover 8 _ (fun t _ => flushed_eq8 m c t) (fun i => ⟨⟨_, row_lt i⟩, flush0_8 _, mem8 _ i (row_in _)⟩)

/-- The result array is the whole function of the arguments. -/
theorem final9 (c : Dev nD) : (dats m 0 c).arrAt 9 cfg0.N = Z colA (V m c main_arg0) (V m c main_arg1) (V m c main_arg2) (V m c main_arg4) :=
  (dats m 0 c).arrAt_eq_of_cover 9 _ (fun t _ => flushed_eq9 m c t) (fun i => ⟨⟨_, row_lt i⟩, flush0_9 _, mem9 _ i (row_in _)⟩)

/-- The result array is the whole function of the arguments. -/
theorem final10 (c : Dev nD) : (dats m 0 c).arrAt 10 cfg0.N = Z colR (V m c main_arg0) (V m c main_arg1) (V m c main_arg3) (V m c main_arg5) :=
  (dats m 0 c).arrAt_eq_of_cover 10 _ (fun t _ => flushed_eq10 m c t) (fun i => ⟨⟨_, row_lt i⟩, flush0_10 _, mem10 _ i (row_in _)⟩)

/-! ## The two sums carried from point to point -/

/-- Row `x` of `T` at column `j` (nothing outside the array). -/
def term (T : S4096x1024.Idx → EReal) (j : Fin 1024) (x : ℕ) : EReal := if h : x < 4096 then T (ix2 ⟨x, h⟩ j) else 0

/-- The sum over the rows, block by block. -/
theorem S_eq (T : S4096x1024.Idx → EReal) (i : S1x1024.Idx) : S T i = ∑ x ∈ Finset.range ((7 + 1) * 512), term T (i 1) x := by
  show _ = ∑ x ∈ Finset.range 4096, term T (i 1) x
  rw [Finset.sum_range]
  refine Finset.sum_congr rfl fun k _ => ?_
  unfold term
  rw [dif_pos k.isLt]

/-- The rows of block `t`. -/
theorem block_sum (T : S4096x1024.Idx → EReal) (t : Fin cfg0.N) (j : Fin 1024) :
    ∑ k : Fin 512, T (ix2 (row t k) j) = ∑ x ∈ Finset.range 512, term T j (t.val * 512 + x) := by
  rw [Finset.sum_range]
  refine Finset.sum_congr rfl fun k _ => ?_
  unfold term
  rw [dif_pos (row_ok t k)]
  rfl

/-- The part one block of rows adds. -/
theorem share11 (c : Dev nD) (t : Fin cfg0.N) (y : S1x1024.Idx) :
    (k0_pay1 (k0_pay9 (iblk m c 0 t) (iblk m c 1 t) (iblk m c 3 t) (iblk m c 5 t)) : S1x1024.Idx → EReal) y
      = ∑ x ∈ Finset.range 512, term (Z colA (V m c main_arg0) (V m c main_arg1) (V m c main_arg2) (V m c main_arg4)) (y 1) (t.val * 512 + x) := by
  exact (pay1_apply _ y).trans ((Finset.sum_congr rfl fun k _ => val9 m c t (ix2 k (y 1))).trans (block_sum _ t (y 1)))

/-- After point `t` the carried row is the sum over the blocks so far. -/
theorem carried11 (c : Dev nD) : ∀ (n : ℕ) (h : n < cfg0.N), ∀ y : S1x1024.Idx,
    ((outsAt0 m c n h).2.2.2.2.1 : S1x1024.Idx → EReal) y
      = ∑ x ∈ Finset.range ((n + 1) * 512), term (Z colA (V m c main_arg0) (V m c main_arg1) (V m c main_arg2) (V m c main_arg4)) (y 1) x := by
  intro n
  induction n with
  | zero =>
    intro h y
    rw [outsAt0_A m c ⟨0, h⟩ (Nat.zero_mod _) (by simp) (Nat.zero_mod _) (by simp)]
    dsimp only
    rw [out_A_11, share11 m c ⟨0, h⟩]
    simp
  | succ n ih =>
    intro h y
    have hn : n + 1 < 8 := lt_of_lt_of_eq h N_0
    have h0 : ¬(n + 1) % 8 = 0 := by omega
    rw [outsAt0_B m c ⟨n + 1, h⟩ h0 (by dsimp only; omega) h0 (by dsimp only; omega)]
    dsimp only
    rw [out_B_11, pay2_apply, share11 m c ⟨n + 1, h⟩]
    refine (congrArg (· + _) (ih (Nat.lt_of_succ_lt h) y)).trans ?_
    dsimp only
    rw [Nat.add_mul (n + 1) 1 512, Nat.one_mul, Finset.sum_range_add]

/-- What a point writes back is its block of the whole function. -/
theorem flushed_eq11 (c : Dev nD) (t : Fin cfg0.N) (hf : (cfg0.win 11).flush t = true) :
    (dats m 0 c).flushed 11 t = ((cfg0.win 11).blk t).view.read (Elt Ideal) (S (Z colA (V m c main_arg0) (V m c main_arg1) (V m c main_arg2) (V m c main_arg4))) := by
  have h7 : t.val % 8 = 7 := (flush0_11 t).mp hf
  have ht : t.val < 8 := lt_of_lt_of_eq t.isLt N_0
  have hc := carried11 m c t.val t.isLt
  rw [Value.flushed11]
  generalize (outsAt0 m c t.val t.isLt).2.2.2.2.1 = acc at hc ⊢
  funext y
  refine (hc y).trans ?_
  show _ = S (Z colA (V m c main_arg0) (V m c main_arg1) (V m c main_arg2) (V m c main_arg4)) (((cfg0.win 11).blk t).view.emb y)
  rw [emb11, S_eq, show t.val = 7 by omega]

/-- An entry whose row lies in the block is in the block. -/
theorem mem11 (t : Fin cfg0.N) (i : S1x1024.Idx) : i ∈ ((cfg0.win 11).blk t).view.set := by
  have h6 := idx11 t
  show i ∈ ((View.whole main_v0_4).slice (win0_11.rect t)).set
  rw [View.set_slice_whole, Rect.mem_set_unit]
  intro a
  match a with
  | ⟨0, _⟩ => show win0_11.index t 0 * 1 ≤ (i 0 : Nat) ∧ (i 0 : Nat) < win0_11.index t 0 * 1 + 1
              rw [h6.1, Nat.zero_mul, Nat.zero_add]; exact ⟨Nat.zero_le _, (i 0).isLt⟩
  | ⟨1, _⟩ => show win0_11.index t 1 * 1024 ≤ (i 1 : Nat) ∧ (i 1 : Nat) < win0_11.index t 1 * 1024 + 1024
              rw [h6.2, Nat.zero_mul, Nat.zero_add]; exact ⟨Nat.zero_le _, (i 1).isLt⟩

/-- The result array is the whole function of the arguments. -/
theorem final11 (c : Dev nD) : (dats m 0 c).arrAt 11 cfg0.N = S (Z colA (V m c main_arg0) (V m c main_arg1) (V m c main_arg2) (V m c main_arg4)) :=
  (dats m 0 c).arrAt_eq_of_cover 11 _ (fun t hf => flushed_eq11 m c t hf)
    (fun i => ⟨⟨7, lt_of_lt_of_eq (by decide) N_0.symm⟩, (flush0_11 _).mpr rfl, mem11 _ i⟩)

/-- The part one block of rows adds. -/
theorem share12 (c : Dev nD) (t : Fin cfg0.N) (y : S1x1024.Idx) :
    (k0_pay3 (k0_pay10 (iblk m c 0 t) (iblk m c 2 t) (iblk m c 4 t) (iblk m c 6 t)) : S1x1024.Idx → EReal) y
      = ∑ x ∈ Finset.range 512, term (Z colR (V m c main_arg0) (V m c main_arg1) (V m c main_arg3) (V m c main_arg5)) (y 1) (t.val * 512 + x) := by
  exact (pay3_apply _ y).trans ((Finset.sum_congr rfl fun k _ => val10 m c t (ix2 k (y 1))).trans (block_sum _ t (y 1)))

/-- After point `t` the carried row is the sum over the blocks so far. -/
theorem carried12 (c : Dev nD) : ∀ (n : ℕ) (h : n < cfg0.N), ∀ y : S1x1024.Idx,
    ((outsAt0 m c n h).2.2.2.2.2 : S1x1024.Idx → EReal) y
      = ∑ x ∈ Finset.range ((n + 1) * 512), term (Z colR (V m c main_arg0) (V m c main_arg1) (V m c main_arg3) (V m c main_arg5)) (y 1) x := by
  intro n
  induction n with
  | zero =>
    intro h y
    rw [outsAt0_A m c ⟨0, h⟩ (Nat.zero_mod _) (by simp) (Nat.zero_mod _) (by simp)]
    dsimp only
    rw [out_A_12, share12 m c ⟨0, h⟩]
    simp
  | succ n ih =>
    intro h y
    have hn : n + 1 < 8 := lt_of_lt_of_eq h N_0
    have h0 : ¬(n + 1) % 8 = 0 := by omega
    rw [outsAt0_B m c ⟨n + 1, h⟩ h0 (by dsimp only; omega) h0 (by dsimp only; omega)]
    dsimp only
    rw [out_B_12, pay4_apply, share12 m c ⟨n + 1, h⟩]
    refine (congrArg (· + _) (ih (Nat.lt_of_succ_lt h) y)).trans ?_
    dsimp only
    rw [Nat.add_mul (n + 1) 1 512, Nat.one_mul, Finset.sum_range_add]

/-- What a point writes back is its block of the whole function. -/
theorem flushed_eq12 (c : Dev nD) (t : Fin cfg0.N) (hf : (cfg0.win 12).flush t = true) :
    (dats m 0 c).flushed 12 t = ((cfg0.win 12).blk t).view.read (Elt Ideal) (S (Z colR (V m c main_arg0) (V m c main_arg1) (V m c main_arg3) (V m c main_arg5))) := by
  have h7 : t.val % 8 = 7 := (flush0_12 t).mp hf
  have ht : t.val < 8 := lt_of_lt_of_eq t.isLt N_0
  have hc := carried12 m c t.val t.isLt
  rw [Value.flushed12]
  generalize (outsAt0 m c t.val t.isLt).2.2.2.2.2 = acc at hc ⊢
  funext y
  refine (hc y).trans ?_
  show _ = S (Z colR (V m c main_arg0) (V m c main_arg1) (V m c main_arg3) (V m c main_arg5)) (((cfg0.win 12).blk t).view.emb y)
  rw [emb12, S_eq, show t.val = 7 by omega]

/-- An entry whose row lies in the block is in the block. -/
theorem mem12 (t : Fin cfg0.N) (i : S1x1024.Idx) : i ∈ ((cfg0.win 12).blk t).view.set := by
  have h6 := idx12 t
  show i ∈ ((View.whole main_v0_5).slice (win0_12.rect t)).set
  rw [View.set_slice_whole, Rect.mem_set_unit]
  intro a
  match a with
  | ⟨0, _⟩ => show win0_12.index t 0 * 1 ≤ (i 0 : Nat) ∧ (i 0 : Nat) < win0_12.index t 0 * 1 + 1
              rw [h6.1, Nat.zero_mul, Nat.zero_add]; exact ⟨Nat.zero_le _, (i 0).isLt⟩
  | ⟨1, _⟩ => show win0_12.index t 1 * 1024 ≤ (i 1 : Nat) ∧ (i 1 : Nat) < win0_12.index t 1 * 1024 + 1024
              rw [h6.2, Nat.zero_mul, Nat.zero_add]; exact ⟨Nat.zero_le _, (i 1).isLt⟩

/-- The result array is the whole function of the arguments. -/
theorem final12 (c : Dev nD) : (dats m 0 c).arrAt 12 cfg0.N = S (Z colR (V m c main_arg0) (V m c main_arg1) (V m c main_arg3) (V m c main_arg5)) :=
  (dats m 0 c).arrAt_eq_of_cover 12 _ (fun t hf => flushed_eq12 m c t hf)
    (fun i => ⟨⟨7, lt_of_lt_of_eq (by decide) N_0.symm⟩, (flush0_12 _).mpr rfl, mem12 _ i⟩)

end Cert.GateDxIdeal.Entry

namespace Cert.GateDxRefIdeal.Entry

open Cert.GateDxRefIdeal Cert.GateDxRefIdeal.Gen Idealize.ShloMosaic Idealize.ShloMosaic.TcCoe Idealize.SL.Sem

variable (dm : Vec Ideal S4096x1024 .f32) (P : Vec Ideal S4096x10240 .f32) (ba br : Vec Ideal S1x1024 .f32) (ya yr : Vec Ideal S4096x1024 .f32)

/-- The reference result is the same function. -/
theorem ref0 :
    (truncf .bf16 (mulf (Host.divf (broadcastInDim S4096x1024 ![] bcast_S_S4096x1024 (constant (F := Ideal) S_ .f32 0x3F800000#32)) (addf (broadcastInDim S4096x1024 ![] bcast_S_S4096x1024 (constant S_ .f32 0x3F800000#32)) (Host.exp (Host.negf (addf (extractStridedSlice S4096x1024 ![0, 3072] P slices_S4096x10240_S4096x1024_0_3072) (broadcastInDim S4096x1024 ![0, 1] bcast_S1x1024_S4096x1024_0_1 ba)))))) (shapeCast S4096x1024 dm shapeCasts_S4096x1024_S4096x1024)) bitsLt_bf16_f32 : FVec Ideal S4096x1024 .bf16)
      = Cert.GateDxIdeal.Entry.Y Cert.GateDxIdeal.Entry.colA dm P ba := by
  funext i
  unfold Cert.GateDxIdeal.Entry.Y
  rw [shapeCast_self]
  pointwise
  exact mul_comm (G := EReal) _ _

/-- The reference result is the same function. -/
theorem ref1 :
    (truncf .bf16 (mulf (Host.divf (broadcastInDim S4096x1024 ![] bcast_S_S4096x1024 (constant (F := Ideal) S_ .f32 0x3F800000#32)) (addf (broadcastInDim S4096x1024 ![] bcast_S_S4096x1024 (constant S_ .f32 0x3F800000#32)) (Host.exp (Host.negf (addf (extractStridedSlice S4096x1024 ![0, 4096] P slices_S4096x10240_S4096x1024_0_4096) (broadcastInDim S4096x1024 ![0, 1] bcast_S1x1024_S4096x1024_0_1 br)))))) (shapeCast S4096x1024 dm shapeCasts_S4096x1024_S4096x1024)) bitsLt_bf16_f32 : FVec Ideal S4096x1024 .bf16)
      = Cert.GateDxIdeal.Entry.Y Cert.GateDxIdeal.Entry.colR dm P br := by
  funext i
  unfold Cert.GateDxIdeal.Entry.Y
  rw [shapeCast_self]
  pointwise
  exact mul_comm (G := EReal) _ _

/-- The reference result is the same function. -/
theorem ref2 :
    (truncf .bf16 (mulf (mulf (shapeCast S4096x1024 dm shapeCasts_S4096x1024_S4096x1024) ya) (mulf (Host.divf (broadcastInDim S4096x1024 ![] bcast_S_S4096x1024 (constant (F := Ideal) S_ .f32 0x3F800000#32)) (addf (broadcastInDim S4096x1024 ![] bcast_S_S4096x1024 (constant S_ .f32 0x3F800000#32)) (Host.exp (Host.negf (addf (extractStridedSlice S4096x1024 ![0, 3072] P slices_S4096x10240_S4096x1024_0_3072) (broadcastInDim S4096x1024 ![0, 1] bcast_S1x1024_S4096x1024_0_1 ba)))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (extractStridedSlice S4096x1024 ![0, 3072] P slices_S4096x10240_S4096x1024_0_3072) (broadcastInDim S4096x1024 ![0, 1] bcast_S1x1024_S4096x1024_0_1 ba))))))))) bitsLt_bf16_f32 : FVec Ideal S4096x1024 .bf16)
      = Cert.GateDxIdeal.Entry.Z Cert.GateDxIdeal.Entry.colA dm P ba ya := by
  funext i
  unfold Cert.GateDxIdeal.Entry.Z
  rw [shapeCast_self]
  pointwise
  exact (mul_assoc (G := EReal) _ _ _).symm

/-- The reference result is the same function. -/
theorem ref3 :
    (truncf .bf16 (mulf (mulf (shapeCast S4096x1024 dm shapeCasts_S4096x1024_S4096x1024) yr) (mulf (Host.divf (broadcastInDim S4096x1024 ![] bcast_S_S4096x1024 (constant (F := Ideal) S_ .f32 0x3F800000#32)) (addf (broadcastInDim S4096x1024 ![] bcast_S_S4096x1024 (constant S_ .f32 0x3F800000#32)) (Host.exp (Host.negf (addf (extractStridedSlice S4096x1024 ![0, 4096] P slices_S4096x10240_S4096x1024_0_4096) (broadcastInDim S4096x1024 ![0, 1] bcast_S1x1024_S4096x1024_0_1 br)))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (extractStridedSlice S4096x1024 ![0, 4096] P slices_S4096x10240_S4096x1024_0_4096) (broadcastInDim S4096x1024 ![0, 1] bcast_S1x1024_S4096x1024_0_1 br))))))))) bitsLt_bf16_f32 : FVec Ideal S4096x1024 .bf16)
      = Cert.GateDxIdeal.Entry.Z Cert.GateDxIdeal.Entry.colR dm P br yr := by
  funext i
  unfold Cert.GateDxIdeal.Entry.Z
  rw [shapeCast_self]
  pointwise
  exact (mul_assoc (G := EReal) _ _ _).symm

/-- The reference result is the same function. -/
theorem ref4 :
    (shapeCast S1x1024 (Host.reduceAdd (mulf (mulf (shapeCast S4096x1024 dm shapeCasts_S4096x1024_S4096x1024) ya) (mulf (Host.divf (broadcastInDim S4096x1024 ![] bcast_S_S4096x1024 (constant (F := Ideal) S_ .f32 0x3F800000#32)) (addf (broadcastInDim S4096x1024 ![] bcast_S_S4096x1024 (constant S_ .f32 0x3F800000#32)) (Host.exp (Host.negf (addf (extractStridedSlice S4096x1024 ![0, 3072] P slices_S4096x10240_S4096x1024_0_3072) (broadcastInDim S4096x1024 ![0, 1] bcast_S1x1024_S4096x1024_0_1 ba)))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (extractStridedSlice S4096x1024 ![0, 3072] P slices_S4096x10240_S4096x1024_0_3072) (broadcastInDim S4096x1024 ![0, 1] bcast_S1x1024_S4096x1024_0_1 ba))))))))) (constant S_ .f32 0x00000000#32) reducesTo_S4096x1024_S1024_d0 h_S_) shapeCasts_S1024_S1x1024 : FVec Ideal S1x1024 .f32)
      = Cert.GateDxIdeal.Entry.S (Cert.GateDxIdeal.Entry.Z Cert.GateDxIdeal.Entry.colA dm P ba ya) := by
  funext i
  unfold Cert.GateDxIdeal.Entry.S Cert.GateDxIdeal.Entry.Z
  rw [shapeCast_self, Cert.GateDxIdeal.Entry.row_cast]
  pointwise
  refine Finset.sum_congr rfl fun k _ => ?_
  exact (mul_assoc (G := EReal) _ _ _).symm

/-- The reference result is the same function. -/
theorem ref5 :
    (shapeCast S1x1024 (Host.reduceAdd (mulf (mulf (shapeCast S4096x1024 dm shapeCasts_S4096x1024_S4096x1024) yr) (mulf (Host.divf (broadcastInDim S4096x1024 ![] bcast_S_S4096x1024 (constant (F := Ideal) S_ .f32 0x3F800000#32)) (addf (broadcastInDim S4096x1024 ![] bcast_S_S4096x1024 (constant S_ .f32 0x3F800000#32)) (Host.exp (Host.negf (addf (extractStridedSlice S4096x1024 ![0, 4096] P slices_S4096x10240_S4096x1024_0_4096) (broadcastInDim S4096x1024 ![0, 1] bcast_S1x1024_S4096x1024_0_1 br)))))) (subf (broadcastInDim S4096x1024 ![] bcast_S_S4096x1024 (constant S_ .f32 0x3F800000#32)) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (addf (extractStridedSlice S4096x1024 ![0, 4096] P slices_S4096x10240_S4096x1024_0_4096) (broadcastInDim S4096x1024 ![0, 1] bcast_S1x1024_S4096x1024_0_1 br))))))))) (constant S_ .f32 0x00000000#32) reducesTo_S4096x1024_S1024_d0 h_S_) shapeCasts_S1024_S1x1024 : FVec Ideal S1x1024 .f32)
      = Cert.GateDxIdeal.Entry.S (Cert.GateDxIdeal.Entry.Z Cert.GateDxIdeal.Entry.colR dm P br yr) := by
  funext i
  unfold Cert.GateDxIdeal.Entry.S Cert.GateDxIdeal.Entry.Z
  rw [shapeCast_self, Cert.GateDxIdeal.Entry.row_cast]
  pointwise
  refine Finset.sum_congr rfl fun k _ => ?_
  exact (mul_assoc (G := EReal) _ _ _).symm

end Cert.GateDxRefIdeal.Entry

namespace Cert.Proof

open Idealize.ShloMosaic Idealize.ShloMosaic.TcCoe Idealize.SL.Sem

/-- The gradient of the gates: kernel and reference end with equal results. -/
theorem algebraic_gate_dx : Cert.algebraic_GateDxIdeal_GateDxRefIdeal := by
  intro m ρ m' ρ' _ hag
  refine ⟨fun c => Cert.GateDxIdeal.Entry.Y Cert.GateDxIdeal.Entry.colA (m ((c.tc : Thread Cert.GateDxIdeal.nD Cert.GateDxIdeal.τ).loc Cert.GateDxIdeal.main_arg0)) (m ((c.tc : Thread Cert.GateDxIdeal.nD Cert.GateDxIdeal.τ).loc Cert.GateDxIdeal.main_arg1)) (m ((c.tc : Thread Cert.GateDxIdeal.nD Cert.GateDxIdeal.τ).loc Cert.GateDxIdeal.main_arg2)),
    fun c => Cert.GateDxIdeal.Entry.Y Cert.GateDxIdeal.Entry.colR (m ((c.tc : Thread Cert.GateDxIdeal.nD Cert.GateDxIdeal.τ).loc Cert.GateDxIdeal.main_arg0)) (m ((c.tc : Thread Cert.GateDxIdeal.nD Cert.GateDxIdeal.τ).loc Cert.GateDxIdeal.main_arg1)) (m ((c.tc : Thread Cert.GateDxIdeal.nD Cert.GateDxIdeal.τ).loc Cert.GateDxIdeal.main_arg3)),
    fun c => Cert.GateDxIdeal.Entry.Z Cert.GateDxIdeal.Entry.colA (m ((c.tc : Thread Cert.GateDxIdeal.nD Cert.GateDxIdeal.τ).loc Cert.GateDxIdeal.main_arg0)) (m ((c.tc : Thread Cert.GateDxIdeal.nD Cert.GateDxIdeal.τ).loc Cert.GateDxIdeal.main_arg1)) (m ((c.tc : Thread Cert.GateDxIdeal.nD Cert.GateDxIdeal.τ).loc Cert.GateDxIdeal.main_arg2)) (m ((c.tc : Thread Cert.GateDxIdeal.nD Cert.GateDxIdeal.τ).loc Cert.GateDxIdeal.main_arg4)),
    fun c => Cert.GateDxIdeal.Entry.Z Cert.GateDxIdeal.Entry.colR (m ((c.tc : Thread Cert.GateDxIdeal.nD Cert.GateDxIdeal.τ).loc Cert.GateDxIdeal.main_arg0)) (m ((c.tc : Thread Cert.GateDxIdeal.nD Cert.GateDxIdeal.τ).loc Cert.GateDxIdeal.main_arg1)) (m ((c.tc : Thread Cert.GateDxIdeal.nD Cert.GateDxIdeal.τ).loc Cert.GateDxIdeal.main_arg3)) (m ((c.tc : Thread Cert.GateDxIdeal.nD Cert.GateDxIdeal.τ).loc Cert.GateDxIdeal.main_arg5)),
    fun c => Cert.GateDxIdeal.Entry.S (Cert.GateDxIdeal.Entry.Z Cert.GateDxIdeal.Entry.colA (m ((c.tc : Thread Cert.GateDxIdeal.nD Cert.GateDxIdeal.τ).loc Cert.GateDxIdeal.main_arg0)) (m ((c.tc : Thread Cert.GateDxIdeal.nD Cert.GateDxIdeal.τ).loc Cert.GateDxIdeal.main_arg1)) (m ((c.tc : Thread Cert.GateDxIdeal.nD Cert.GateDxIdeal.τ).loc Cert.GateDxIdeal.main_arg2)) (m ((c.tc : Thread Cert.GateDxIdeal.nD Cert.GateDxIdeal.τ).loc Cert.GateDxIdeal.main_arg4))),
    fun c => Cert.GateDxIdeal.Entry.S (Cert.GateDxIdeal.Entry.Z Cert.GateDxIdeal.Entry.colR (m ((c.tc : Thread Cert.GateDxIdeal.nD Cert.GateDxIdeal.τ).loc Cert.GateDxIdeal.main_arg0)) (m ((c.tc : Thread Cert.GateDxIdeal.nD Cert.GateDxIdeal.τ).loc Cert.GateDxIdeal.main_arg1)) (m ((c.tc : Thread Cert.GateDxIdeal.nD Cert.GateDxIdeal.τ).loc Cert.GateDxIdeal.main_arg3)) (m ((c.tc : Thread Cert.GateDxIdeal.nD Cert.GateDxIdeal.τ).loc Cert.GateDxIdeal.main_arg5))),
    (θ_run Cert.GateDxIdeal.defs _ _).mono (fun _ h c => ⟨(h c).1.trans (Cert.GateDxIdeal.Entry.final7 m c), (h c).2.1.trans (Cert.GateDxIdeal.Entry.final8 m c), (h c).2.2.1.trans (Cert.GateDxIdeal.Entry.final9 m c), (h c).2.2.2.1.trans (Cert.GateDxIdeal.Entry.final10 m c), (h c).2.2.2.2.1.trans (Cert.GateDxIdeal.Entry.final11 m c), (h c).2.2.2.2.2.1.trans (Cert.GateDxIdeal.Entry.final12 m c), (h c).2.2.2.2.2.2⟩) (Cert.GateDxIdeal.Value.run_blocks (F := Ideal) m ρ),
    (θ_run Cert.GateDxRefIdeal.defs _ _).mono (fun _ h c => ⟨?_, ?_, ?_, ?_, ?_, ?_, (h c).2.2.2.2.2.2⟩) (Cert.GateDxRefIdeal.Value.run (F := Ideal) m' ρ')⟩
  · refine (h c).1.trans ((Cert.GateDxRefIdeal.Entry.ref0 _ _ _).trans ?_)
    rw [(hag c).1, (hag c).2.1, (hag c).2.2.1]
  · refine (h c).2.1.trans ((Cert.GateDxRefIdeal.Entry.ref1 _ _ _).trans ?_)
    rw [(hag c).1, (hag c).2.1, (hag c).2.2.2.1]
  · refine (h c).2.2.1.trans ((Cert.GateDxRefIdeal.Entry.ref2 _ _ _ _).trans ?_)
    rw [(hag c).1, (hag c).2.1, (hag c).2.2.1, (hag c).2.2.2.2.1]
  · refine (h c).2.2.2.1.trans ((Cert.GateDxRefIdeal.Entry.ref3 _ _ _ _).trans ?_)
    rw [(hag c).1, (hag c).2.1, (hag c).2.2.2.1, (hag c).2.2.2.2.2]
  · refine (h c).2.2.2.2.1.trans ((Cert.GateDxRefIdeal.Entry.ref4 _ _ _ _).trans ?_)
    rw [(hag c).1, (hag c).2.1, (hag c).2.2.1, (hag c).2.2.2.2.1]
  · refine (h c).2.2.2.2.2.1.trans ((Cert.GateDxRefIdeal.Entry.ref5 _ _ _ _).trans ?_)
    rw [(hag c).1, (hag c).2.1, (hag c).2.2.2.1, (hag c).2.2.2.2.2]

/-- The reference leaves its arguments as they were. -/
theorem frame_gate_dx_ref : Cert.quiescent_GateDxRefIdeal := by
  intro m ρ _
  exact (θ_run Cert.GateDxRefIdeal.defs _ _).mono (fun r h => ⟨fun c => (h c).2.2.2.2.2.2,
      Idealize.ShloMosaic.sem_eq_zero_of_no_sems (by decide) r.2⟩)
    (Cert.GateDxRefIdeal.Value.run (F := Ideal) m ρ)

end Cert.Proof

end
-- ==== Proof.Norm.lean ====
/-
  The first normalisation with its scale and shift: the kernel `norm1_fwd` takes the rows in 8 blocks of 512, the reference in
  one piece. Both hold the same entry everywhere: the row divided by the root of its mean square, times the weight and one plus
  the scale, plus the shift.
-/
module

public import proofs.«01_k».proof.Defs
public import proofs.«01_k».proof.Proof.Gen.NormIdeal.Value
public import proofs.«01_k».proof.Proof.Gen.NormRefIdeal
public import proofs.«01_k».proof.Proof.Gen.NormRefIdeal.Run
public import Idealize.ShloMosaic.Lib.Pipeline.Value
public import Idealize.ShloMosaic.Lib.Pointwise
public import Idealize.ShloMosaic.Lib.Tactic

@[expose] public section

noncomputable section

namespace Cert.NormIdeal.Entry

open Cert.NormIdeal Cert.NormIdeal.Gen Idealize.ShloMosaic Idealize.ShloMosaic.TcCoe Idealize.SL.Sem
open Idealize.ShloMosaic.Pipeline (Dat)

variable (m : (ℓ : Loc nD τ sig) → Buf (Elt Ideal) ℓ)

/-- The zero corner. -/
theorem hz : (![0, 0] : Fin 2 → Nat) = fun _ => 0 := funext fun a => by fin_cases a <;> rfl

/-- One over the root of the mean square of a row whose squares sum to `s`. -/
def R (s : EReal) : EReal := Ideal.rsqrt (Ideal.div s (Ideal.ofBits .f32 0x44800000#32) + Ideal.ofBits .f32 0x358637BD#32)

/-- The normalised, scaled and shifted rows, entry by entry. -/
def G (X : S4096x1024.Idx → EReal) (w sc sh : S1x1024.Idx → EReal) : S4096x1024.Idx → EReal :=
  fun i => X i * R (∑ k : Fin 1024, X (ix2 (i 0) k) * X (ix2 (i 0) k)) * w (ix2 0 (i 1)) * (1 + sc (ix2 0 (i 1))) + sh (ix2 0 (i 1))

/-- A vector seen as one column. -/
theorem col_cast {α : Type} (v : S512.Idx → α) (h : S512.ShapeCasts S512x1) (i : S512x1.Idx) :
    shapeCast S512x1 v h i = v (ix1 (i 0)) :=
  congrArg v (Shape.reshapeEquiv_eq_of_vals h i (ix1 (i 0)) (i 0).val ((i 0).val * 1 + (i 1).val) (rowMajor_val1 _)
    (rowMajor_val2 _ 1 rfl) (by have h0 : (i 1).val < 1 := (i 1).isLt; omega))

/-- The sum along a row. -/
theorem sum_apply (v : FVec Ideal S512x1024 .f32) (r : Fin 512) :
    (multiReduction (F := Ideal) .add [1] S512 v 0x00000000#32 reduces_S512x1024_S512 (.inl rfl) rfl : S512.Idx → EReal) (ix1 r)
      = ∑ k : Fin 1024, v (ix2 r k) := by
  pointwise

/-- What the body computes, at one entry. -/
theorem pay1_apply (x0 : Vec Ideal S512x1024 .f32) (y : S512x1.Idx) :
    (k0_pay1 x0 : S512x1.Idx → EReal) y = R (∑ k : Fin 1024, x0 (ix2 (y 0) k) * x0 (ix2 (y 0) k)) := by
  have e : (shapeCast S512x1 (multiReduction (F := Ideal) .add [1] S512 (mulf x0 x0) 0x00000000#32 reduces_S512x1024_S512 (.inl rfl) rfl) shapeCasts_S512_S512x1 : S512x1.Idx → EReal) y
      = ∑ k : Fin 1024, x0 (ix2 (y 0) k) * x0 (ix2 (y 0) k) := by
    rw [col_cast]
    exact sum_apply _ _
  unfold R
  rw [← e]
  rfl

/-- What the body computes, at one entry. -/
theorem pay2_apply (x0 : Vec Ideal S512x1024 .f32) (x1 x2 x3 : Vec Ideal S1x1024 .f32) (y : S512x1024.Idx) :
    (k0_pay2 x0 x1 x2 x3 : S512x1024.Idx → EReal) y = x0 y * R (∑ k : Fin 1024, x0 (ix2 (y 0) k) * x0 (ix2 (y 0) k))
      * x1 (ix2 0 (y 1)) * (1 + x2 (ix2 0 (y 1))) + x3 (ix2 0 (y 1)) := by
  have e := pay1_apply x0 (ix2 (y 0) 0)
  unfold k0_pay2
  generalize k0_pay1 x0 = p at e ⊢
  refine Eq.trans ?_ (congrArg (fun r => x0 y * r * x1 (ix2 0 (y 1)) * (1 + x2 (ix2 0 (y 1))) + x3 (ix2 0 (y 1))) e)
  pointwise

/-- One block of the result is what the body computes of the blocks. -/
theorem out_eq (x0 : Vec Ideal S512x1024 .f32) (x1 x2 x3 : Vec Ideal S1x1024 .f32) :
    out0_4 x0 x1 x2 x3 = k0_pay2 x0 x1 x2 x3 := by
  unfold out0_4
  rw [View.canon_unit_zero hz]
  simp only [View.ld_unit_zero (S := S512x1024) hz, View.ld_unit_zero (S := S1x1024) hz]

/-- Where the block of point `t` lies. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Where the block of point `t` lies. -/
theorem idx1 : ∀ t : Fin cfg0.N, win0_1.index t 0 = 0 ∧ win0_1.index t 1 = 0 :=
  (by decide +kernel : ∀ t : Fin grid0.N, win0_1.index t 0 = 0 ∧ win0_1.index t 1 = 0)

/-- Where the block of point `t` lies. -/
theorem idx2 : ∀ t : Fin cfg0.N, win0_2.index t 0 = 0 ∧ win0_2.index t 1 = 0 :=
  (by decide +kernel : ∀ t : Fin grid0.N, win0_2.index t 0 = 0 ∧ win0_2.index t 1 = 0)

/-- Where the block of point `t` lies. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Where the block of point `t` lies. -/
theorem idx4 : ∀ t : Fin cfg0.N, win0_4.index t 0 = t.val ∧ win0_4.index t 1 = 0 :=
  (by decide +kernel : ∀ t : Fin grid0.N, win0_4.index t 0 = t.val ∧ win0_4.index t 1 = 0)

/-- The row is in the array. -/
theorem row_ok (t : Fin cfg0.N) (k : Fin 512) : t.val * 512 + k.val < 4096 := by
  have ht : t.val < 8 := lt_of_lt_of_eq t.isLt N_0
  omega

/-- Row `k` of block `t`. -/
def row (t : Fin cfg0.N) (k : Fin 512) : Fin 4096 := ⟨t.val * 512 + k.val, row_ok t k⟩

/-- An entry of the block of point `t`, in the whole array. -/
theorem blk0 (c : Dev nD) (t : Fin cfg0.N) (y : S512x1024.Idx) : iblk m c 0 t y = V m c main_arg0 (ix2 (row t (y 0)) (y 1)) := by
  obtain ⟨h0, h1⟩ := idx0 t
  show V m c main_arg0 (((cfg0.win 0).blk t).view.emb y) = _
  congr 1; funext a; apply Fin.ext
  match a with
  | ⟨0, _⟩ => show win0_0.index t 0 * 512 + 1 * (y 0).val = t.val * 512 + (y 0).val; omega
  | ⟨1, _⟩ => show win0_0.index t 1 * 1024 + 1 * (y 1).val = (y 1).val; omega

/-- An entry of the block of point `t`, in the whole array. -/
theorem blk1 (c : Dev nD) (t : Fin cfg0.N) (y : S512x1024.Idx) : iblk m c 1 t (ix2 0 (y 1)) = V m c main_arg1 (ix2 0 (y 1)) := by
  obtain ⟨h0, h1⟩ := idx1 t
  show V m c main_arg1 (((cfg0.win 1).blk t).view.emb (ix2 0 (y 1))) = _
  congr 1; funext a; apply Fin.ext
  match a with
  | ⟨0, _⟩ => show win0_1.index t 0 * 1 + 1 * 0 = 0; omega
  | ⟨1, _⟩ => show win0_1.index t 1 * 1024 + 1 * (y 1).val = (y 1).val; omega

/-- An entry of the block of point `t`, in the whole array. -/
theorem blk2 (c : Dev nD) (t : Fin cfg0.N) (y : S512x1024.Idx) : iblk m c 2 t (ix2 0 (y 1)) = V m c main_arg2 (ix2 0 (y 1)) := by
  obtain ⟨h0, h1⟩ := idx2 t
  show V m c main_arg2 (((cfg0.win 2).blk t).view.emb (ix2 0 (y 1))) = _
  congr 1; funext a; apply Fin.ext
  match a with
  | ⟨0, _⟩ => show win0_2.index t 0 * 1 + 1 * 0 = 0; omega
  | ⟨1, _⟩ => show win0_2.index t 1 * 1024 + 1 * (y 1).val = (y 1).val; omega

/-- An entry of the block of point `t`, in the whole array. -/
theorem blk3 (c : Dev nD) (t : Fin cfg0.N) (y : S512x1024.Idx) : iblk m c 3 t (ix2 0 (y 1)) = V m c main_arg3 (ix2 0 (y 1)) := by
  obtain ⟨h0, h1⟩ := idx3 t
  show V m c main_arg3 (((cfg0.win 3).blk t).view.emb (ix2 0 (y 1))) = _
  congr 1; funext a; apply Fin.ext
  match a with
  | ⟨0, _⟩ => show win0_3.index t 0 * 1 + 1 * 0 = 0; omega
  | ⟨1, _⟩ => show win0_3.index t 1 * 1024 + 1 * (y 1).val = (y 1).val; omega

/-- An entry of the result block, in the whole array. -/
theorem emb4 (t : Fin cfg0.N) (y : S512x1024.Idx) : ((cfg0.win 4).blk t).view.emb y = (ix2 (row t (y 0)) (y 1) : S4096x1024.Idx) := by
  obtain ⟨h0, h1⟩ := idx4 t
  funext a; apply Fin.ext
  match a with
  | ⟨0, _⟩ => show win0_4.index t 0 * 512 + 1 * (y 0).val = t.val * 512 + (y 0).val; omega
  | ⟨1, _⟩ => show win0_4.index t 1 * 1024 + 1 * (y 1).val = (y 1).val; omega

/-- Equal rows give equal entries. -/
theorem val_of (x : S512x1024.Idx → EReal) (X : S4096x1024.Idx → EReal) (p : Fin 512) (q : Fin 4096) (j : Fin 1024) (w sc sh : EReal)
    (y : S512x1024.Idx) (hp : y 0 = p) (hj : y 1 = j) (h : ∀ k : Fin 1024, x (ix2 p k) = X (ix2 q k)) :
    x y * R (∑ k : Fin 1024, x (ix2 p k) * x (ix2 p k)) * w * (1 + sc) + sh
      = X (ix2 q j) * R (∑ k : Fin 1024, X (ix2 q k) * X (ix2 q k)) * w * (1 + sc) + sh := by
  have hy : y = ix2 p j := by
    funext a
    match a with
    | ⟨0, _⟩ => exact hp
    | ⟨1, _⟩ => exact hj
  simp only [hy, h]

/-- What the body computes of the blocks of point `t`, as entries of the whole function. -/
theorem val4 (c : Dev nD) (t : Fin cfg0.N) (y : S512x1024.Idx) :
    (k0_pay2 (iblk m c 0 t) (iblk m c 1 t) (iblk m c 2 t) (iblk m c 3 t) : S512x1024.Idx → EReal) y
      = G (V m c main_arg0) (V m c main_arg1) (V m c main_arg2) (V m c main_arg3) (ix2 (row t (y 0)) (y 1)) := by
  rw [pay2_apply, blk1, blk2, blk3]
  exact val_of (iblk m c 0 t) (V m c main_arg0) (y 0) (row t (y 0)) (y 1) _ _ _ y rfl rfl (fun k => blk0 m c t (ix2 (y 0) k))

/-- What a point writes back is its block of `G`. -/
theorem flushed_eq (c : Dev nD) (t : Fin cfg0.N) :
    (dats m 0 c).flushed 4 t = ((cfg0.win 4).blk t).view.read (Elt Ideal)
      (G (V m c main_arg0) (V m c main_arg1) (V m c main_arg2) (V m c main_arg3)) := by
  rw [Value.flushed4, out_eq]
  funext y
  refine (val4 m c t y).trans ?_
  show _ = G (V m c main_arg0) (V m c main_arg1) (V m c main_arg2) (V m c main_arg3) (((cfg0.win 4).blk t).view.emb y)
  rw [emb4]

/-- An entry whose row lies in the block is in the block. -/
theorem mem_blk (t : Fin cfg0.N) (i : S4096x1024.Idx)
    (h : t.val * 512 ≤ (i 0 : Nat) ∧ (i 0 : Nat) < t.val * 512 + 512) :
    i ∈ ((cfg0.win 4).blk t).view.set := by
  have h6 := idx4 t
  show i ∈ ((View.whole main_v0_0).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512
              rw [h6.1]; exact h
  | ⟨1, _⟩ => show win0_4.index t 1 * 1024 ≤ (i 1 : Nat) ∧ (i 1 : Nat) < win0_4.index t 1 * 1024 + 1024
              rw [h6.2, Nat.zero_mul, Nat.zero_add]; exact ⟨Nat.zero_le _, (i 1).isLt⟩

/-- The block of a row is one of the grid. -/
theorem row_lt (i : S4096x1024.Idx) : (i 0).val / 512 < cfg0.N :=
  lt_of_lt_of_eq (Nat.div_lt_of_lt_mul (i 0).isLt) N_0.symm

/-- A row lies in its block. -/
theorem row_in (n : ℕ) : n / 512 * 512 ≤ n ∧ n < n / 512 * 512 + 512 := by omega

/-- The result array is `G` of the arguments. -/
theorem final (c : Dev nD) : (dats m 0 c).arrAt 4 cfg0.N
    = G (V m c main_arg0) (V m c main_arg1) (V m c main_arg2) (V m c main_arg3) :=
  (dats m 0 c).arrAt_eq_of_cover 4 _ (fun t _ => flushed_eq m c t) (fun i => ⟨⟨_, row_lt i⟩, flush0_4 _, mem_blk _ i (row_in _)⟩)

end Cert.NormIdeal.Entry

namespace Cert.NormRefIdeal.Entry

open Cert.NormRefIdeal Cert.NormRefIdeal.Gen Idealize.ShloMosaic Idealize.ShloMosaic.TcCoe Idealize.SL.Sem

/-- The reference's result is the same function of its arguments. -/
theorem ref_eq (X : Vec Ideal S4096x1024 .f32) (w sc sh : Vec Ideal S1x1024 .f32) :
    (truncf .bf16 (addf (mulf (mulf (mulf X (broadcastInDim S4096x1024 ![0, 1] bcast_S4096x1_S4096x1024_0_1 (Host.rsqrt (addf (Host.divf (broadcastInDim S4096x1 ![0] bcast_S4096_S4096x1_0 (Host.reduceAdd (mulf X X) (constant (F := Ideal) S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 w)) (broadcastInDim S4096x1024 ![0, 1] bcast_S1x1024_S4096x1024_0_1 (addf (broadcastInDim S1x1024 ![] bcast_S_S1x1024 (constant S_ .f32 0x3F800000#32)) sc))) (broadcastInDim S4096x1024 ![0, 1] bcast_S1x1024_S4096x1024_0_1 sh)) bitsLt_bf16_f32 : FVec Ideal S4096x1024 .bf16)
      = Cert.NormIdeal.Entry.G X w sc sh := by
  funext i
  unfold Cert.NormIdeal.Entry.G Cert.NormIdeal.Entry.R
  pointwise

end Cert.NormRefIdeal.Entry

namespace Cert.Proof

open Idealize.ShloMosaic Idealize.ShloMosaic.TcCoe Idealize.SL.Sem

/-- The first normalisation: kernel and reference end with equal results. -/
theorem algebraic_norm : Cert.algebraic_NormIdeal_NormRefIdeal := by
  intro m ρ m' ρ' _ hag
  refine ⟨fun c => Cert.NormIdeal.Entry.G (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)),
    (θ_run Cert.NormIdeal.defs _ _).mono (fun _ h c => ⟨(h c).1.trans (Cert.NormIdeal.Entry.final m c), (h c).2.2⟩) (Cert.NormIdeal.Value.run_blocks (F := Ideal) m ρ),
    (θ_run Cert.NormRefIdeal.defs _ _).mono (fun _ h c => ⟨?_, (h c).2⟩) (Cert.NormRefIdeal.Value.run (F := Ideal) m' ρ')⟩
  refine (h c).1.trans ((Cert.NormRefIdeal.Entry.ref_eq _ _ _ _).trans ?_)
  rw [(hag c).1, (hag c).2.1, (hag c).2.2.1, (hag c).2.2.2]

/-- The reference leaves its arguments as they were. -/
theorem frame_norm_ref : Cert.quiescent_NormRefIdeal := by
  intro m ρ _
  exact (θ_run Cert.NormRefIdeal.defs _ _).mono (fun r h => ⟨fun c => (h c).2,
      Idealize.ShloMosaic.sem_eq_zero_of_no_sems (by decide) r.2⟩)
    (Cert.NormRefIdeal.Value.run (F := Ideal) m ρ)

end Cert.Proof

end
-- ==== Proof.AdaDw.lean ====
/-
  The gradient of the modulation weight: the kernel `ada_wgrad` adds eight outer products, one per conditioning row, in its order;
  the reference multiplies the transposed matrices. Both hold the same sum of eight products at every entry.
-/
module

public import proofs.«01_k».proof.Defs
public import proofs.«01_k».proof.Proof.Gen.AdaDwIdeal.Value
public import proofs.«01_k».proof.Proof.Gen.AdaDwRefIdeal
public import proofs.«01_k».proof.Proof.Gen.AdaDwRefIdeal.Run
public import proofs.«01_k».proof.Proof.Product
public import Idealize.ShloMosaic.Lib.Pipeline.Value
public import Idealize.ShloMosaic.Lib.Tactic

@[expose] public section

noncomputable section

namespace Cert.AdaDwIdeal.Sum

open Cert.AdaDwIdeal Cert.AdaDwIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The zero corner. -/
theorem hz : (![0, 0] : Fin 2 → Nat) = fun _ => 0 := funext fun a => by fin_cases a <;> rfl

/-- Entry `(i, j)` of the result: the eight rows' products. -/
def G (A : S8x1024.Idx → EReal) (B : S8x768.Idx → EReal) : S1024x768.Idx → EReal :=
  fun i => ∑ k : Fin 8, A (ix2 k (i 0)) * B (ix2 k (i 1))

/-- The array the call reads first: the conditioning rows with rows and columns exchanged. -/
theorem V_cond (c : Dev nD) : V m c main_v0 = transpose S1024x8 [1, 0] (m ((c : Thread nD τ).loc main_arg0)) transposes_S8x1024_S1024x8_1_0 := by
  show StableHlo.after hostOps0 (fun b => m (c, b)) (Proc.devRef .tc main_v0) = _
  unfold hostOps0
  after_results

/-- The transposed conditioning, read back from the host operation, at one entry. -/
theorem cond_apply (A : Vec Ideal S8x1024 .f32) (i : Fin 1024) (k : Fin 8) :
    (transpose S1024x8 [1, 0] A transposes_S8x1024_S1024x8_1_0 : S1024x8.Idx → EReal) (ix2 i k) = A (ix2 k i) := by
  show A _ = A _
  congr 1; funext a; apply Fin.ext
  match a with
  | ⟨0, _⟩ => simp [Shape.Transposes.src]; rfl
  | ⟨1, _⟩ => simp [Shape.Transposes.src]; rfl

/-- The column 0 of the conditioning, as the body loads it. -/
theorem ldA0 (x : Vec Ideal S1024x8 .f32) (y : S1024x768.Idx) : (View.ld x r0_0 : S1024x1.Idx → EReal) (Value.ix2_0 y) = x (ix2 (y 0) 0) := by
  show x _ = x _
  congr 1; funext a; apply Fin.ext
  match a with
  | ⟨0, _⟩ => show 0 + 1 * (y 0).val = (y 0).val; omega
  | ⟨1, _⟩ => rfl

/-- The row 0 of the gradient, as the body loads it. -/
theorem ldB0 (x : Vec Ideal S8x768 .f32) (y : S1024x768.Idx) : (View.ld x r0_1 : S1x768.Idx → EReal) (Value.ix2_1 y) = x (ix2 0 (y 1)) := by
  show x _ = x _
  congr 1; funext a; apply Fin.ext
  match a with
  | ⟨0, _⟩ => rfl
  | ⟨1, _⟩ => show 0 + 1 * (y 1).val = (y 1).val; omega

/-- The column 1 of the conditioning, as the body loads it. -/
theorem ldA1 (x : Vec Ideal S1024x8 .f32) (y : S1024x768.Idx) : (View.ld x r0_2 : S1024x1.Idx → EReal) (Value.ix2_2 y) = x (ix2 (y 0) 1) := by
  show x _ = x _
  congr 1; funext a; apply Fin.ext
  match a with
  | ⟨0, _⟩ => show 0 + 1 * (y 0).val = (y 0).val; omega
  | ⟨1, _⟩ => rfl

/-- The row 1 of the gradient, as the body loads it. -/
theorem ldB1 (x : Vec Ideal S8x768 .f32) (y : S1024x768.Idx) : (View.ld x r0_3 : S1x768.Idx → EReal) (Value.ix2_3 y) = x (ix2 1 (y 1)) := by
  show x _ = x _
  congr 1; funext a; apply Fin.ext
  match a with
  | ⟨0, _⟩ => rfl
  | ⟨1, _⟩ => show 0 + 1 * (y 1).val = (y 1).val; omega

/-- The column 2 of the conditioning, as the body loads it. -/
theorem ldA2 (x : Vec Ideal S1024x8 .f32) (y : S1024x768.Idx) : (View.ld x r0_4 : S1024x1.Idx → EReal) (Value.ix2_4 y) = x (ix2 (y 0) 2) := by
  show x _ = x _
  congr 1; funext a; apply Fin.ext
  match a with
  | ⟨0, _⟩ => show 0 + 1 * (y 0).val = (y 0).val; omega
  | ⟨1, _⟩ => rfl

/-- The row 2 of the gradient, as the body loads it. -/
theorem ldB2 (x : Vec Ideal S8x768 .f32) (y : S1024x768.Idx) : (View.ld x r0_5 : S1x768.Idx → EReal) (Value.ix2_5 y) = x (ix2 2 (y 1)) := by
  show x _ = x _
  congr 1; funext a; apply Fin.ext
  match a with
  | ⟨0, _⟩ => rfl
  | ⟨1, _⟩ => show 0 + 1 * (y 1).val = (y 1).val; omega

/-- The column 3 of the conditioning, as the body loads it. -/
theorem ldA3 (x : Vec Ideal S1024x8 .f32) (y : S1024x768.Idx) : (View.ld x r0_6 : S1024x1.Idx → EReal) (Value.ix2_6 y) = x (ix2 (y 0) 3) := by
  show x _ = x _
  congr 1; funext a; apply Fin.ext
  match a with
  | ⟨0, _⟩ => show 0 + 1 * (y 0).val = (y 0).val; omega
  | ⟨1, _⟩ => rfl

/-- The row 3 of the gradient, as the body loads it. -/
theorem ldB3 (x : Vec Ideal S8x768 .f32) (y : S1024x768.Idx) : (View.ld x r0_7 : S1x768.Idx → EReal) (Value.ix2_7 y) = x (ix2 3 (y 1)) := by
  show x _ = x _
  congr 1; funext a; apply Fin.ext
  match a with
  | ⟨0, _⟩ => rfl
  | ⟨1, _⟩ => show 0 + 1 * (y 1).val = (y 1).val; omega

/-- The column 4 of the conditioning, as the body loads it. -/
theorem ldA4 (x : Vec Ideal S1024x8 .f32) (y : S1024x768.Idx) : (View.ld x r0_8 : S1024x1.Idx → EReal) (Value.ix2_8 y) = x (ix2 (y 0) 4) := by
  show x _ = x _
  congr 1; funext a; apply Fin.ext
  match a with
  | ⟨0, _⟩ => show 0 + 1 * (y 0).val = (y 0).val; omega
  | ⟨1, _⟩ => rfl

/-- The row 4 of the gradient, as the body loads it. -/
theorem ldB4 (x : Vec Ideal S8x768 .f32) (y : S1024x768.Idx) : (View.ld x r0_9 : S1x768.Idx → EReal) (Value.ix2_9 y) = x (ix2 4 (y 1)) := by
  show x _ = x _
  congr 1; funext a; apply Fin.ext
  match a with
  | ⟨0, _⟩ => rfl
  | ⟨1, _⟩ => show 0 + 1 * (y 1).val = (y 1).val; omega

/-- The column 5 of the conditioning, as the body loads it. -/
theorem ldA5 (x : Vec Ideal S1024x8 .f32) (y : S1024x768.Idx) : (View.ld x r0_10 : S1024x1.Idx → EReal) (Value.ix2_10 y) = x (ix2 (y 0) 5) := by
  show x _ = x _
  congr 1; funext a; apply Fin.ext
  match a with
  | ⟨0, _⟩ => show 0 + 1 * (y 0).val = (y 0).val; omega
  | ⟨1, _⟩ => rfl

/-- The row 5 of the gradient, as the body loads it. -/
theorem ldB5 (x : Vec Ideal S8x768 .f32) (y : S1024x768.Idx) : (View.ld x r0_11 : S1x768.Idx → EReal) (Value.ix2_11 y) = x (ix2 5 (y 1)) := by
  show x _ = x _
  congr 1; funext a; apply Fin.ext
  match a with
  | ⟨0, _⟩ => rfl
  | ⟨1, _⟩ => show 0 + 1 * (y 1).val = (y 1).val; omega

/-- The column 6 of the conditioning, as the body loads it. -/
theorem ldA6 (x : Vec Ideal S1024x8 .f32) (y : S1024x768.Idx) : (View.ld x r0_12 : S1024x1.Idx → EReal) (Value.ix2_12 y) = x (ix2 (y 0) 6) := by
  show x _ = x _
  congr 1; funext a; apply Fin.ext
  match a with
  | ⟨0, _⟩ => show 0 + 1 * (y 0).val = (y 0).val; omega
  | ⟨1, _⟩ => rfl

/-- The row 6 of the gradient, as the body loads it. -/
theorem ldB6 (x : Vec Ideal S8x768 .f32) (y : S1024x768.Idx) : (View.ld x r0_13 : S1x768.Idx → EReal) (Value.ix2_13 y) = x (ix2 6 (y 1)) := by
  show x _ = x _
  congr 1; funext a; apply Fin.ext
  match a with
  | ⟨0, _⟩ => rfl
  | ⟨1, _⟩ => show 0 + 1 * (y 1).val = (y 1).val; omega

/-- The column 7 of the conditioning, as the body loads it. -/
theorem ldA7 (x : Vec Ideal S1024x8 .f32) (y : S1024x768.Idx) : (View.ld x r0_14 : S1024x1.Idx → EReal) (Value.ix2_14 y) = x (ix2 (y 0) 7) := by
  show x _ = x _
  congr 1; funext a; apply Fin.ext
  match a with
  | ⟨0, _⟩ => show 0 + 1 * (y 0).val = (y 0).val; omega
  | ⟨1, _⟩ => rfl

/-- The row 7 of the gradient, as the body loads it. -/
theorem ldB7 (x : Vec Ideal S8x768 .f32) (y : S1024x768.Idx) : (View.ld x r0_15 : S1x768.Idx → EReal) (Value.ix2_15 y) = x (ix2 7 (y 1)) := by
  show x _ = x _
  congr 1; funext a; apply Fin.ext
  match a with
  | ⟨0, _⟩ => rfl
  | ⟨1, _⟩ => show 0 + 1 * (y 1).val = (y 1).val; omega

/-- Equal factors give equal sums of eight products. -/
theorem eight (a0 b0 a0' b0' : EReal) (ha0 : a0 = a0') (hb0 : b0 = b0') (a1 b1 a1' b1' : EReal) (ha1 : a1 = a1') (hb1 : b1 = b1') (a2 b2 a2' b2' : EReal) (ha2 : a2 = a2') (hb2 : b2 = b2') (a3 b3 a3' b3' : EReal) (ha3 : a3 = a3') (hb3 : b3 = b3') (a4 b4 a4' b4' : EReal) (ha4 : a4 = a4') (hb4 : b4 = b4') (a5 b5 a5' b5' : EReal) (ha5 : a5 = a5') (hb5 : b5 = b5') (a6 b6 a6' b6' : EReal) (ha6 : a6 = a6') (hb6 : b6 = b6') (a7 b7 a7' b7' : EReal) (ha7 : a7 = a7') (hb7 : b7 = b7') :
    a0 * b0 + a1 * b1 + a2 * b2 + a3 * b3 + a4 * b4 + a5 * b5 + a6 * b6 + a7 * b7 = a0' * b0' + a1' * b1' + a2' * b2' + a3' * b3' + a4' * b4' + a5' * b5' + a6' * b6' + a7' * b7' := by
  rw [ha0, hb0, ha1, hb1, ha2, hb2, ha3, hb3, ha4, hb4, ha5, hb5, ha6, hb6, ha7, hb7]

/-- What the body leaves at one entry. -/
theorem out_apply (x0 : Vec Ideal S1024x8 .f32) (x1 : Vec Ideal S8x768 .f32) (y : S1024x768.Idx) :
    (out0_2 x0 x1 : S1024x768.Idx → EReal) y = ∑ k : Fin 8, x0 (ix2 (y 0) k) * x1 (ix2 k (y 1)) := by
  rw [Fin.sum_univ_eight]
  unfold out0_2
  refine (Value.canon2_eq (F := Ideal) _ _ _ _ _ _ _ _ _ _ _ _ _ _ _ _ y).trans ?_
  exact eight _ _ _ _ (ldA0 x0 y) (ldB0 x1 y) _ _ _ _ (ldA1 x0 y) (ldB1 x1 y) _ _ _ _ (ldA2 x0 y) (ldB2 x1 y) _ _ _ _ (ldA3 x0 y) (ldB3 x1 y) _ _ _ _ (ldA4 x0 y) (ldB4 x1 y) _ _ _ _ (ldA5 x0 y) (ldB5 x1 y) _ _ _ _ (ldA6 x0 y) (ldB6 x1 y) _ _ _ _ (ldA7 x0 y) (ldB7 x1 y)

/-- Where the block of point `t` lies. -/
theorem idx0 : ∀ t : Fin cfg0.N, win0_0.index t 0 = 0 ∧ win0_0.index t 1 = 0 :=
  (by decide +kernel : ∀ t : Fin grid0.N, win0_0.index t 0 = 0 ∧ win0_0.index t 1 = 0)

/-- The one block of window 0 is its whole array. -/
theorem emb0 (t : Fin cfg0.N) (j : S1024x8.Idx) : ((cfg0.win 0).blk t).view.emb j = j := by
  obtain ⟨e0, e1⟩ := idx0 t
  funext a; apply Fin.ext
  match a with
  | ⟨0, _⟩ => show win0_0.index t 0 * 1024 + 1 * (j 0).val = (j 0).val; omega
  | ⟨1, _⟩ => show win0_0.index t 1 * 8 + 1 * (j 1).val = (j 1).val; omega

/-- Where the block of point `t` lies. -/
theorem idx1 : ∀ t : Fin cfg0.N, win0_1.index t 0 = 0 ∧ win0_1.index t 1 = 0 :=
  (by decide +kernel : ∀ t : Fin grid0.N, win0_1.index t 0 = 0 ∧ win0_1.index t 1 = 0)

/-- The one block of window 1 is its whole array. -/
theorem emb1 (t : Fin cfg0.N) (j : S8x768.Idx) : ((cfg0.win 1).blk t).view.emb j = j := by
  obtain ⟨e0, e1⟩ := idx1 t
  funext a; apply Fin.ext
  match a with
  | ⟨0, _⟩ => show win0_1.index t 0 * 8 + 1 * (j 0).val = (j 0).val; omega
  | ⟨1, _⟩ => show win0_1.index t 1 * 768 + 1 * (j 1).val = (j 1).val; omega

/-- Where the block of point `t` lies. -/
theorem idx2 : ∀ t : Fin cfg0.N, win0_2.index t 0 = 0 ∧ win0_2.index t 1 = 0 :=
  (by decide +kernel : ∀ t : Fin grid0.N, win0_2.index t 0 = 0 ∧ win0_2.index t 1 = 0)

/-- The one block of window 2 is its whole array. -/
theorem emb2 (t : Fin cfg0.N) (j : S1024x768.Idx) : ((cfg0.win 2).blk t).view.emb j = j := by
  obtain ⟨e0, e1⟩ := idx2 t
  funext a; apply Fin.ext
  match a with
  | ⟨0, _⟩ => show win0_2.index t 0 * 1024 + 1 * (j 0).val = (j 0).val; omega
  | ⟨1, _⟩ => show win0_2.index t 1 * 768 + 1 * (j 1).val = (j 1).val; omega

/-- An entry of the block of point `t`, in the whole array. -/
theorem blk0 (c : Dev nD) (t : Fin cfg0.N) : iblk m c 0 t = V m c main_v0 := by
  funext j; show V m c main_v0 (((cfg0.win 0).blk t).view.emb j) = V m c main_v0 j; rw [emb0]

/-- An entry of the block of point `t`, in the whole array. -/
theorem blk1 (c : Dev nD) (t : Fin cfg0.N) : iblk m c 1 t = V m c main_arg1 := by
  funext j; show V m c main_arg1 (((cfg0.win 1).blk t).view.emb j) = V m c main_arg1 j; rw [emb1]

/-- What the one point writes back. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [Value.flushed2, blk0, blk1, V_main_arg1, V_cond]
  funext y
  show _ = G (m ((c : Thread nD τ).loc main_arg0)) (m ((c : Thread nD τ).loc main_arg1)) (((cfg0.win 2).blk t).view.emb y)
  rw [emb2]
  refine (out_apply _ _ y).trans ?_
  refine Finset.sum_congr rfl fun k _ => ?_
  exact congrArg (· * _) (cond_apply _ (y 0) k)

/-- Every entry of the result lies in the one block. -/
theorem covered (i : S1024x768.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- The result array after the run. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) covered

end Cert.AdaDwIdeal.Sum

namespace Cert.AdaDwRefIdeal.Sum

open Cert.AdaDwRefIdeal Cert.AdaDwRefIdeal.Gen Idealize.ShloMosaic Idealize.ShloMosaic.TcCoe Idealize.SL.Sem
open Idealize.ShloMosaic.ValueIdx

/-- The reference's transposed product is the same sum, the two factors exchanged. -/
theorem ref_eq (A : Vec Ideal S8x1024 .f32) (B : Vec Ideal S8x768 .f32) :
    (transpose S1024x768 [1, 0] (Host.dotGeneral (F := Ideal) (φ₁ := .f32) (φ₂ := .f32) dot_S8x768_S8x1024_S768x1024_0_0_1_1_n_n none B A) transposes_S768x1024_S1024x768_1_0 : FVec Ideal S1024x768 .f32) = Cert.AdaDwIdeal.Sum.G A B := by
  funext i
  refine Eq.trans (b := Ideal.matmul dot_S8x768_S8x1024_S768x1024_0_0_1_1_n_n B A (fun _ => 0) (ix2 (i 1) (i 0))) ?_ ?_
  · show Ideal.matmul dot_S8x768_S8x1024_S768x1024_0_0_1_1_n_n B A (fun _ => 0) _ = _
    congr 1; funext a; apply Fin.ext
    match a with
    | ⟨0, _⟩ => simp [Shape.Transposes.src]; rfl
    | ⟨1, _⟩ => simp [Shape.Transposes.src]; rfl
  · refine (Cert.Product.tn_apply (K := 8) (M := 768) (N := 1024) _ rfl rfl rfl rfl rfl rfl B A _ (ix2 (i 1) (i 0))).trans ?_
    rw [zero_add]
    exact Finset.sum_congr rfl fun k _ => mul_comm _ _

end Cert.AdaDwRefIdeal.Sum

namespace Cert.Proof

open Idealize.ShloMosaic Idealize.ShloMosaic.TcCoe Idealize.SL.Sem

/-- The gradient of the modulation weight: kernel and reference end with equal results. -/
theorem algebraic_ada_dw : Cert.algebraic_AdaDwIdeal_AdaDwRefIdeal := by
  intro m ρ m' ρ' _ hag
  refine ⟨fun c => Cert.AdaDwIdeal.Sum.G (m ((c.tc : Thread Cert.AdaDwIdeal.nD Cert.AdaDwIdeal.τ).loc Cert.AdaDwIdeal.main_arg0)) (m ((c.tc : Thread Cert.AdaDwIdeal.nD Cert.AdaDwIdeal.τ).loc Cert.AdaDwIdeal.main_arg1)),
    (θ_run Cert.AdaDwIdeal.defs _ _).mono (fun _ h c => ⟨(h c).1.trans (Cert.AdaDwIdeal.Sum.final m c), (h c).2⟩) (Cert.AdaDwIdeal.Value.run_blocks (F := Ideal) m ρ),
    (θ_run Cert.AdaDwRefIdeal.defs _ _).mono (fun _ h c => ⟨?_, (h c).2⟩) (Cert.AdaDwRefIdeal.Value.run (F := Ideal) m' ρ')⟩
  refine (h c).1.trans ((Cert.AdaDwRefIdeal.Sum.ref_eq _ _).trans ?_)
  rw [(hag c).1, (hag c).2]

/-- The reference leaves its arguments as they were. -/
theorem frame_ada_dw_ref : Cert.quiescent_AdaDwRefIdeal := by
  intro m ρ _
  exact (θ_run Cert.AdaDwRefIdeal.defs _ _).mono (fun r h => ⟨fun c => (h c).2,
      Idealize.ShloMosaic.sem_eq_zero_of_no_sems (by decide) r.2⟩)
    (Cert.AdaDwRefIdeal.Value.run (F := Ideal) m ρ)

end Cert.Proof

end
-- ==== Proof.Ada.lean ====
/-
  The modulation vector of one device: the kernel `ada_partial` multiplies the 8 conditioning rows by this device's columns of the
  weight, and so does the reference. Both hold the same sum at every entry.
-/
module

public import proofs.«01_k».proof.Defs
public import proofs.«01_k».proof.Proof.Gen.AdaIdeal.Value
public import proofs.«01_k».proof.Proof.Gen.AdaRefIdeal
public import proofs.«01_k».proof.Proof.Gen.AdaRefIdeal.Run
public import proofs.«01_k».proof.Proof.Product
public import Idealize.ShloMosaic.Lib.Pipeline.Value
public import Idealize.ShloMosaic.Lib.Tactic

@[expose] public section

noncomputable section

namespace Cert.AdaIdeal.Sum

open Cert.AdaIdeal Cert.AdaIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- Entry `(i, j)` of the result. -/
def G (A : S8x1024.Idx → EReal) (B : S1024x768.Idx → EReal) : S8x768.Idx → EReal :=
  fun i => ∑ k : Fin 1024, A (ix2 (i 0) k) * B (ix2 k (i 1))

/-- What the body leaves is the sum of products at every entry. -/
theorem pay_eq (x0 : Vec Ideal S8x1024 .f32) (x1 : Vec Ideal S1024x768 .f32) : k0_pay1 x0 x1 = G x0 x1 := by
  funext y
  show Ideal.matmul dot_S8x1024_S1024x768_S8x768_1_0_0_1_n_n x0 x1 (constant (F := Ideal) S8x768 .f32 0x00000000#32) y = _
  refine (Cert.Product.nn_apply (K := 1024) (M := 8) (N := 768) _ rfl rfl rfl rfl rfl rfl x0 x1 _ y).trans ?_
  rw [show (constant (F := Ideal) S8x768 .f32 0x00000000#32 : S8x768.Idx → EReal) y = 0 by
    simp [constant, Ideal.ofBits, Ideal.ieee], zero_add]
  rfl

end Cert.AdaIdeal.Sum

namespace Cert.AdaRefIdeal.Sum

open Cert.AdaRefIdeal Cert.AdaRefIdeal.Gen Idealize.ShloMosaic Idealize.ShloMosaic.TcCoe Idealize.SL.Sem
open Idealize.ShloMosaic.ValueIdx

/-- The reference's product is the same sum of its arguments. -/
theorem ref_eq (A : Vec Ideal S8x1024 .f32) (B : Vec Ideal S1024x768 .f32) :
    (Host.dotGeneral (F := Ideal) (φ₁ := .f32) (φ₂ := .f32) dot_S8x1024_S1024x768_S8x768_1_0_0_1_n_n none A B : FVec Ideal S8x768 .f32) = Cert.AdaIdeal.Sum.G A B := by
  funext i
  refine (Cert.Product.nn_apply (K := 1024) (M := 8) (N := 768) dot_S8x1024_S1024x768_S8x768_1_0_0_1_n_n rfl rfl rfl rfl rfl rfl A B (fun _ => 0) i).trans ?_
  rw [zero_add]
  rfl

end Cert.AdaRefIdeal.Sum

namespace Cert.Proof

open Idealize.ShloMosaic Idealize.ShloMosaic.TcCoe Idealize.SL.Sem

/-- The modulation vector: kernel and reference end with equal results. -/
theorem algebraic_ada : Cert.algebraic_AdaIdeal_AdaRefIdeal := by
  intro m ρ m' ρ' _ hag
  refine ⟨fun c => Cert.AdaIdeal.Sum.G (m ((c.tc : Thread Cert.AdaIdeal.nD Cert.AdaIdeal.τ).loc Cert.AdaIdeal.main_arg0)) (m ((c.tc : Thread Cert.AdaIdeal.nD Cert.AdaIdeal.τ).loc Cert.AdaIdeal.main_arg1)),
    (θ_run Cert.AdaIdeal.defs _ _).mono (fun _ h c => ⟨(h c).1.trans (Cert.AdaIdeal.Sum.pay_eq _ _), (h c).2⟩) (Cert.AdaIdeal.Value.run (F := Ideal) m ρ),
    (θ_run Cert.AdaRefIdeal.defs _ _).mono (fun _ h c => ⟨?_, (h c).2⟩) (Cert.AdaRefIdeal.Value.run (F := Ideal) m' ρ')⟩
  refine (h c).1.trans ((Cert.AdaRefIdeal.Sum.ref_eq _ _).trans ?_)
  rw [(hag c).1, (hag c).2]

/-- The reference leaves its arguments as they were. -/
theorem frame_ada_ref : Cert.quiescent_AdaRefIdeal := by
  intro m ρ _
  exact (θ_run Cert.AdaRefIdeal.defs _ _).mono (fun r h => ⟨fun c => (h c).2,
      Idealize.ShloMosaic.sem_eq_zero_of_no_sems (by decide) r.2⟩)
    (Cert.AdaRefIdeal.Value.run (F := Ideal) m ρ)

end Cert.Proof

end
-- ==== Proof.NormDx.lean ====
/-
  The gradients of the first normalisation's scale, shift and weight: the kernel `norm1_bwd` takes the rows in 8 blocks of 512
  and adds up each gradient from block to block, the reference takes everything in one piece. The three sums agree at every entry.
-/
module

public import proofs.«01_k».proof.Defs
public import proofs.«01_k».proof.Proof.Gen.NormDxIdeal.Value
public import proofs.«01_k».proof.Proof.Gen.NormDxRefIdeal
public import proofs.«01_k».proof.Proof.Gen.NormDxRefIdeal.Run
public import Idealize.ShloMosaic.Lib.Pipeline.Value
public import Idealize.ShloMosaic.Lib.Pointwise
public import Idealize.ShloMosaic.Lib.Tactic

@[expose] public section

noncomputable section

namespace Cert.NormDxIdeal.Entry

open Cert.NormDxIdeal Cert.NormDxIdeal.Gen Idealize.ShloMosaic Idealize.ShloMosaic.TcCoe Idealize.SL.Sem
open Idealize.ShloMosaic.Pipeline (Dat)

variable (m : (ℓ : Loc nD τ sig) → Buf (Elt Ideal) ℓ)

/-- The zero corner. -/
theorem hz : (![0, 0] : Fin 2 → Nat) = fun _ => 0 := funext fun a => by fin_cases a <;> rfl

/-! ## What one point leaves -/

/-- Result block at the first point: a plain store. -/
theorem out_A_7 (c : Dev nD) (i : grid0.Coords) a1 h1 a2 h2 a3 h3 a4 h4 a5 h5 a6 h6 a7 h7 a8 h8 a9 h9 a10 h10 q0 q1 q2 q3 q4 q5
    (x0 x1 : Vec Ideal S512x1024 .f32) (x2 : Vec Ideal S512x1 .f32) (x3 x4 : Vec Ideal S1x1024 .f32) (x5 : Vec Ideal S512x1024 .f32) :
    out0_A_7 c i a1 h1 a2 h2 a3 h3 a4 h4 a5 h5 a6 h6 a7 h7 a8 h8 a9 h9 a10 h10 q0 q1 q2 q3 q4 q5 x0 x1 x2 x3 x4 x5 = k0_pay5 x0 := by
  unfold out0_A_7
  rw [View.read_writes_eq_canon _ _ _ (cover0_A_7 c i a1 h1 a2 h2 a3 h3 a4 h4 a5 h5 a6 h6 a7 h7 a8 h8 a9 h9 a10 h10 q0 q1 q2 q3 q4 q5 x0 x1 x2 x3 x4 x5)]
  unfold kernelRun0_A
  dsimp only
  rw [View.canon_unit_zero hz]
  simp only [View.readAt_eq_ld, h1.read_unread, h2.read_unread, h3.read_unread, h4.read_unread, h5.read_unread, h6.read_unread, View.ld_unit_zero (S := S512x1024) hz, View.ld_unit_zero (S := S512x1) hz, View.ld_unit_zero (S := S1x1024) hz]

/-- Result block at a later point: what it held and the new part. -/
theorem out_B_7 (c : Dev nD) (i : grid0.Coords) a1 h1 a2 h2 a3 h3 a4 h4 a5 h5 a6 h6 a7 h7 a8 h8 a9 h9 a10 h10 q0 q1 q2 q3 q4 q5
    (x0 x1 : Vec Ideal S512x1024 .f32) (x2 : Vec Ideal S512x1 .f32) (x3 x4 : Vec Ideal S1x1024 .f32) (x5 : Vec Ideal S512x1024 .f32) (o7 o8 o9 : Vec Ideal S1x1024 .f32) :
    out0_B_7 c i a1 h1 a2 h2 a3 h3 a4 h4 a5 h5 a6 h6 a7 h7 a8 h8 a9 h9 a10 h10 q0 q1 q2 q3 q4 q5 x0 x1 x2 x3 x4 x5 o7 o8 o9 = k0_pay6 x0 o7 := by
  unfold out0_B_7
  rw [View.read_writes_eq_canon _ _ _ (cover0_B_7 c i a1 h1 a2 h2 a3 h3 a4 h4 a5 h5 a6 h6 a7 h7 a8 h8 a9 h9 a10 h10 q0 q1 q2 q3 q4 q5 x0 x1 x2 x3 x4 x5 o7 o8 o9)]
  unfold kernelRun0_B
  dsimp only
  rw [View.canon_unit_zero hz]
  simp only [View.readAt_eq_ld, h1.read_unread, h2.read_unread, h3.read_unread, h4.read_unread, h5.read_unread, h6.read_unread, h8.read_unread, h9.read_unread, h10.read_unread, View.ld_unit_zero (S := S512x1024) hz, View.ld_unit_zero (S := S512x1) hz, View.ld_unit_zero (S := S1x1024) hz]

/-- Result block at the first point: a plain store. -/
theorem out_A_8 (c : Dev nD) (i : grid0.Coords) a1 h1 a2 h2 a3 h3 a4 h4 a5 h5 a6 h6 a7 h7 a8 h8 a9 h9 a10 h10 q0 q1 q2 q3 q4 q5
    (x0 x1 : Vec Ideal S512x1024 .f32) (x2 : Vec Ideal S512x1 .f32) (x3 x4 : Vec Ideal S1x1024 .f32) (x5 : Vec Ideal S512x1024 .f32) :
    out0_A_8 c i a1 h1 a2 h2 a3 h3 a4 h4 a5 h5 a6 h6 a7 h7 a8 h8 a9 h9 a10 h10 q0 q1 q2 q3 q4 q5 x0 x1 x2 x3 x4 x5 = k0_pay7 x0 x2 x1 x3 := by
  unfold out0_A_8
  rw [View.read_writes_eq_canon _ _ _ (cover0_A_8 c i a1 h1 a2 h2 a3 h3 a4 h4 a5 h5 a6 h6 a7 h7 a8 h8 a9 h9 a10 h10 q0 q1 q2 q3 q4 q5 x0 x1 x2 x3 x4 x5)]
  unfold kernelRun0_A
  dsimp only
  rw [View.canon_unit_zero hz]
  simp only [View.readAt_eq_ld, h1.read_unread, h2.read_unread, h3.read_unread, h4.read_unread, h5.read_unread, h6.read_unread, View.ld_unit_zero (S := S512x1024) hz, View.ld_unit_zero (S := S512x1) hz, View.ld_unit_zero (S := S1x1024) hz]

/-- Result block at a later point: what it held and the new part. -/
theorem out_B_8 (c : Dev nD) (i : grid0.Coords) a1 h1 a2 h2 a3 h3 a4 h4 a5 h5 a6 h6 a7 h7 a8 h8 a9 h9 a10 h10 q0 q1 q2 q3 q4 q5
    (x0 x1 : Vec Ideal S512x1024 .f32) (x2 : Vec Ideal S512x1 .f32) (x3 x4 : Vec Ideal S1x1024 .f32) (x5 : Vec Ideal S512x1024 .f32) (o7 o8 o9 : Vec Ideal S1x1024 .f32) :
    out0_B_8 c i a1 h1 a2 h2 a3 h3 a4 h4 a5 h5 a6 h6 a7 h7 a8 h8 a9 h9 a10 h10 q0 q1 q2 q3 q4 q5 x0 x1 x2 x3 x4 x5 o7 o8 o9 = k0_pay8 x0 x2 x1 x3 o8 := by
  unfold out0_B_8
  rw [View.read_writes_eq_canon _ _ _ (cover0_B_8 c i a1 h1 a2 h2 a3 h3 a4 h4 a5 h5 a6 h6 a7 h7 a8 h8 a9 h9 a10 h10 q0 q1 q2 q3 q4 q5 x0 x1 x2 x3 x4 x5 o7 o8 o9)]
  unfold kernelRun0_B
  dsimp only
  rw [View.canon_unit_zero hz]
  simp only [View.readAt_eq_ld, h1.read_unread, h2.read_unread, h3.read_unread, h4.read_unread, h5.read_unread, h6.read_unread, h8.read_unread, h9.read_unread, h10.read_unread, View.ld_unit_zero (S := S512x1024) hz, View.ld_unit_zero (S := S512x1) hz, View.ld_unit_zero (S := S1x1024) hz]

/-- Result block at the first point: a plain store. -/
theorem out_A_9 (c : Dev nD) (i : grid0.Coords) a1 h1 a2 h2 a3 h3 a4 h4 a5 h5 a6 h6 a7 h7 a8 h8 a9 h9 a10 h10 q0 q1 q2 q3 q4 q5
    (x0 x1 : Vec Ideal S512x1024 .f32) (x2 : Vec Ideal S512x1 .f32) (x3 x4 : Vec Ideal S1x1024 .f32) (x5 : Vec Ideal S512x1024 .f32) :
    out0_A_9 c i a1 h1 a2 h2 a3 h3 a4 h4 a5 h5 a6 h6 a7 h7 a8 h8 a9 h9 a10 h10 q0 q1 q2 q3 q4 q5 x0 x1 x2 x3 x4 x5 = k0_pay10 x0 x2 x1 x4 := by
  unfold out0_A_9
  rw [View.read_writes_eq_canon _ _ _ (cover0_A_9 c i a1 h1 a2 h2 a3 h3 a4 h4 a5 h5 a6 h6 a7 h7 a8 h8 a9 h9 a10 h10 q0 q1 q2 q3 q4 q5 x0 x1 x2 x3 x4 x5)]
  unfold kernelRun0_A
  dsimp only
  rw [View.canon_unit_zero hz]
  simp only [kernelRun0_A.sl.r_4, View.readAt_eq_ld, h1.read_unread, h2.read_unread, h3.read_unread, h4.read_unread, h5.read_unread, h6.read_unread, View.ld_unit_zero (S := S512x1024) hz, View.ld_unit_zero (S := S512x1) hz, View.ld_unit_zero (S := S1x1024) hz]

/-- Result block at a later point: what it held and the new part. -/
theorem out_B_9 (c : Dev nD) (i : grid0.Coords) a1 h1 a2 h2 a3 h3 a4 h4 a5 h5 a6 h6 a7 h7 a8 h8 a9 h9 a10 h10 q0 q1 q2 q3 q4 q5
    (x0 x1 : Vec Ideal S512x1024 .f32) (x2 : Vec Ideal S512x1 .f32) (x3 x4 : Vec Ideal S1x1024 .f32) (x5 : Vec Ideal S512x1024 .f32) (o7 o8 o9 : Vec Ideal S1x1024 .f32) :
    out0_B_9 c i a1 h1 a2 h2 a3 h3 a4 h4 a5 h5 a6 h6 a7 h7 a8 h8 a9 h9 a10 h10 q0 q1 q2 q3 q4 q5 x0 x1 x2 x3 x4 x5 o7 o8 o9 = k0_pay1 (k0_pay10 x0 x2 x1 x4) o9 := by
  unfold out0_B_9
  rw [View.read_writes_eq_canon _ _ _ (cover0_B_9 c i a1 h1 a2 h2 a3 h3 a4 h4 a5 h5 a6 h6 a7 h7 a8 h8 a9 h9 a10 h10 q0 q1 q2 q3 q4 q5 x0 x1 x2 x3 x4 x5 o7 o8 o9)]
  unfold kernelRun0_B
  dsimp only
  rw [View.canon_unit_zero hz]
  simp only [kernelRun0_B.sl.r_4, View.readAt_eq_ld, h1.read_unread, h2.read_unread, h3.read_unread, h4.read_unread, h5.read_unread, h6.read_unread, h8.read_unread, h9.read_unread, h10.read_unread, View.ld_unit_zero (S := S512x1024) hz, View.ld_unit_zero (S := S512x1) hz, View.ld_unit_zero (S := S1x1024) hz]

/-! ## The three sums, entry by entry -/

/-- One over the root of the mean square of a row whose squares sum to `s`. -/
def R (s : EReal) : EReal := Ideal.rsqrt (Ideal.div s (Ideal.ofBits .f32 0x44800000#32) + Ideal.ofBits .f32 0x358637BD#32)

/-- The sum of a row's squares. -/
def Q (X : S4096x1024.Idx → EReal) (r : Fin 4096) : EReal := ∑ k : Fin 1024, X (ix2 r k) * X (ix2 r k)

/-- The normalised rows. -/
def N (X : S4096x1024.Idx → EReal) : S4096x1024.Idx → EReal :=
  fun i => X i * R (Q X (i 0))

/-- What a row adds to the scale's gradient. -/
def T8 (dh X : S4096x1024.Idx → EReal) (w : S1x1024.Idx → EReal) : S4096x1024.Idx → EReal :=
  fun i => dh i * (N X i * w (ix2 0 (i 1)))

/-- What a row adds to the weight's gradient. -/
def T9 (dh X : S4096x1024.Idx → EReal) (sc : S1x1024.Idx → EReal) : S4096x1024.Idx → EReal :=
  fun i => dh i * (1 + sc (ix2 0 (i 1))) * N X i

/-- A gradient: the sum over the rows. -/
def S (T : S4096x1024.Idx → EReal) : S1x1024.Idx → EReal := fun i => ∑ k : Fin 4096, T (ix2 k (i 1))

/-- A vector seen as one row. -/
theorem row_cast {α : Type} (v : S1024.Idx → α) (h : S1024.ShapeCasts S1x1024) (i : S1x1024.Idx) :
    shapeCast S1x1024 v h i = v (ix1 (i 1)) :=
  congrArg v (Shape.reshapeEquiv_eq_of_vals h i (ix1 (i 1)) (i 1).val ((i 0).val * 1024 + (i 1).val) (rowMajor_val1 _)
    (rowMajor_val2 _ 1024 rfl) (by have h0 : (i 0).val < 1 := (i 0).isLt; omega))

/-- A sum along a row, the entries named the same way on both sides. -/
theorem sum_cast (v : FVec Ideal S512x1024 .f32) (y : S1x1024.Idx) :
    (shapeCast S1x1024 (multiReduction (F := Ideal) .add [0] S1024 v 0x00000000#32 reduces_S512x1024_S1024 (.inl rfl) rfl) shapeCasts_S1024_S1x1024 : S1x1024.Idx → EReal) y
      = ∑ k : Fin 512, v (ix2 k (y 1)) := by
  rw [row_cast]
  pointwise

/-- The rows of a block, normalised with the factors the host has computed. -/
theorem pay4_apply (x2 : Vec Ideal S512x1 .f32) (x1 : Vec Ideal S512x1024 .f32) (y : S512x1024.Idx) :
    (k0_pay4 x2 x1 : S512x1024.Idx → EReal) y = x1 y * x2 (ix2 (y 0) 0) := by
  unfold k0_pay4 k0_pay3
  rw [shapeCast_self]
  pointwise

/-- What the body computes, at one entry. -/
theorem pay5_apply (x0 : Vec Ideal S512x1024 .f32) (y : S1x1024.Idx) :
    (k0_pay5 x0 : S1x1024.Idx → EReal) y = ∑ k : Fin 512, x0 (ix2 k (y 1)) := sum_cast x0 y

/-- What the body computes, at one entry. -/
theorem pay7_apply (x0 x1 : Vec Ideal S512x1024 .f32) (x2 : Vec Ideal S512x1 .f32) (x3 : Vec Ideal S1x1024 .f32) (y : S1x1024.Idx) :
    (k0_pay7 x0 x2 x1 x3 : S1x1024.Idx → EReal) y
      = ∑ k : Fin 512, x0 (ix2 k (y 1)) * (x1 (ix2 k (y 1)) * x2 (ix2 k 0) * x3 (ix2 0 (y 1))) := by
  refine (sum_cast _ y).trans ?_
  refine Finset.sum_congr rfl fun k _ => ?_
  have e := pay4_apply x2 x1 (ix2 k (y 1))
  generalize k0_pay4 x2 x1 = p at e ⊢
  refine Eq.trans ?_ (congrArg (fun r => x0 (ix2 k (y 1)) * (r * x3 (ix2 0 (y 1)))) e)
  pointwise

/-- What the body computes, at one entry. -/
theorem pay10_apply (x0 x1 : Vec Ideal S512x1024 .f32) (x2 : Vec Ideal S512x1 .f32) (x4 : Vec Ideal S1x1024 .f32) (y : S1x1024.Idx) :
    (k0_pay10 x0 x2 x1 x4 : S1x1024.Idx → EReal) y
      = ∑ k : Fin 512, x0 (ix2 k (y 1)) * (1 + x4 (ix2 0 (y 1))) * (x1 (ix2 k (y 1)) * x2 (ix2 k 0)) := by
  refine (sum_cast _ y).trans ?_
  refine Finset.sum_congr rfl fun k _ => ?_
  have e := pay4_apply x2 x1 (ix2 k (y 1))
  generalize k0_pay4 x2 x1 = p at e ⊢
  refine Eq.trans ?_ (congrArg (fun r => x0 (ix2 k (y 1)) * (1 + x4 (ix2 0 (y 1))) * r) e)
  unfold k0_pay9
  pointwise

/-- The sum of two rows, at one entry. -/
theorem add_apply (u v : FVec Ideal S1x1024 .f32) (y : S1x1024.Idx) :
    (addf (shapeCast S1x1024 u shapeCasts_S1x1024_S1x1024) v : S1x1024.Idx → EReal) y = u y + v y := by
  rw [shapeCast_self]
  rfl

/-- What the body computes, at one entry. -/
theorem pay6_apply (x0 : Vec Ideal S512x1024 .f32) (u : Vec Ideal S1x1024 .f32) (y : S1x1024.Idx) :
    (k0_pay6 x0 u : S1x1024.Idx → EReal) y = u y + (k0_pay5 x0 : S1x1024.Idx → EReal) y := add_apply u _ y

/-- What the body computes, at one entry. -/
theorem pay8_apply (x0 x1 : Vec Ideal S512x1024 .f32) (x2 : Vec Ideal S512x1 .f32) (x3 : Vec Ideal S1x1024 .f32) (u : Vec Ideal S1x1024 .f32) (y : S1x1024.Idx) :
    (k0_pay8 x0 x2 x1 x3 u : S1x1024.Idx → EReal) y = u y + (k0_pay7 x0 x2 x1 x3 : S1x1024.Idx → EReal) y := add_apply u _ y

/-- What the body computes, at one entry. -/
theorem pay1_apply (v : FVec Ideal S1x1024 .f32) (u : Vec Ideal S1x1024 .f32) (y : S1x1024.Idx) :
    (k0_pay1 v u : S1x1024.Idx → EReal) y = u y + v y := add_apply u v y

/-! ## The blocks of a point in the arrays -/

/-- The factors the host computes before the call, as it writes them. -/
def fac (X : Vec Ideal S4096x1024 .f32) : FVec Ideal S4096x1 .f32 := (Host.rsqrt (addf (Host.divf (broadcastInDim S4096x1 ![0] bcast_S4096_S4096x1_0 (Host.reduceAdd (mulf X X) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32))))

/-- The saved factor is the array the host lines leave. -/
theorem V_factor (c : Dev nD) : V m c main_v7 = fac (m ((c : Thread nD τ).loc main_arg1)) := by
  unfold fac
  show StableHlo.after hostOps0 (fun b => m (c, b)) (Proc.devRef .tc main_v7) = _
  unfold hostOps0
  after_results

/-- The saved factor, at one row. -/
theorem factor_apply (X : Vec Ideal S4096x1024 .f32) (i : S4096x1.Idx) :
    (fac X : S4096x1.Idx → EReal) i = R (Q X (i 0)) := by
  unfold fac R Q
  pointwise

/-- Where the block of point `t` lies. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Where the block of point `t` lies. -/
theorem idx1 : ∀ t : Fin cfg0.N, win0_1.index t 0 = t.val ∧ win0_1.index t 1 = 0 :=
  (by decide +kernel : ∀ t : Fin grid0.N, win0_1.index t 0 = t.val ∧ win0_1.index t 1 = 0)

/-- Where the block of point `t` lies. -/
theorem idx2 : ∀ t : Fin cfg0.N, win0_2.index t 0 = t.val ∧ win0_2.index t 1 = 0 :=
  (by decide +kernel : ∀ t : Fin grid0.N, win0_2.index t 0 = t.val ∧ win0_2.index t 1 = 0)

/-- Where the block of point `t` lies. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Where the block of point `t` lies. -/
theorem idx4 : ∀ t : Fin cfg0.N, win0_4.index t 0 = 0 ∧ win0_4.index t 1 = 0 :=
  (by decide +kernel : ∀ t : Fin grid0.N, win0_4.index t 0 = 0 ∧ win0_4.index t 1 = 0)

/-- Where the block of point `t` lies. -/
theorem idx7 : ∀ t : Fin cfg0.N, win0_7.index t 0 = 0 ∧ win0_7.index t 1 = 0 :=
  (by decide +kernel : ∀ t : Fin grid0.N, win0_7.index t 0 = 0 ∧ win0_7.index t 1 = 0)

/-- Where the block of point `t` lies. -/
theorem idx8 : ∀ t : Fin cfg0.N, win0_8.index t 0 = 0 ∧ win0_8.index t 1 = 0 :=
  (by decide +kernel : ∀ t : Fin grid0.N, win0_8.index t 0 = 0 ∧ win0_8.index t 1 = 0)

/-- Where the block of point `t` lies. -/
theorem idx9 : ∀ t : Fin cfg0.N, win0_9.index t 0 = 0 ∧ win0_9.index t 1 = 0 :=
  (by decide +kernel : ∀ t : Fin grid0.N, win0_9.index t 0 = 0 ∧ win0_9.index t 1 = 0)

/-- The row is in the array. -/
theorem row_ok (t : Fin cfg0.N) (k : Fin 512) : t.val * 512 + k.val < 4096 := by
  have ht : t.val < 8 := lt_of_lt_of_eq t.isLt N_0
  omega

/-- Row `k` of block `t`. -/
def row (t : Fin cfg0.N) (k : Fin 512) : Fin 4096 := ⟨t.val * 512 + k.val, row_ok t k⟩

/-- An entry of the block of point `t`, in the whole array. -/
theorem blk0 (c : Dev nD) (t : Fin cfg0.N) (k : Fin 512) (j : Fin 1024) : iblk m c 0 t (ix2 k j) = m ((c : Thread nD τ).loc main_arg0) (ix2 (row t k) j) := by
  obtain ⟨h0, h1⟩ := idx0 t
  rw [← V_main_arg0 m c]
  show V m c main_arg0 (((cfg0.win 0).blk t).view.emb (ix2 k j)) = _
  congr 1; funext a; apply Fin.ext
  match a with
  | ⟨0, _⟩ => show win0_0.index t 0 * 512 + 1 * k.val = t.val * 512 + k.val; omega
  | ⟨1, _⟩ => show win0_0.index t 1 * 1024 + 1 * j.val = j.val; omega

/-- An entry of the block of point `t`, in the whole array. -/
theorem blk1 (c : Dev nD) (t : Fin cfg0.N) (k : Fin 512) (j : Fin 1024) : iblk m c 1 t (ix2 k j) = m ((c : Thread nD τ).loc main_arg1) (ix2 (row t k) j) := by
  obtain ⟨h0, h1⟩ := idx1 t
  rw [← V_main_arg1 m c]
  show V m c main_arg1 (((cfg0.win 1).blk t).view.emb (ix2 k j)) = _
  congr 1; funext a; apply Fin.ext
  match a with
  | ⟨0, _⟩ => show win0_1.index t 0 * 512 + 1 * k.val = t.val * 512 + k.val; omega
  | ⟨1, _⟩ => show win0_1.index t 1 * 1024 + 1 * j.val = j.val; omega

/-- An entry of the block of point `t`, in the whole array. -/
theorem blk2 (c : Dev nD) (t : Fin cfg0.N) (k : Fin 512) : (iblk m c 2 t : S512x1.Idx → EReal) (ix2 k 0)
    = R (Q (m ((c : Thread nD τ).loc main_arg1)) (row t k)) := by
  obtain ⟨h0, h1⟩ := idx2 t
  refine Eq.trans ?_ (factor_apply (m ((c : Thread nD τ).loc main_arg1)) (ix2 (row t k) 0))
  rw [show fac (m ((c : Thread nD τ).loc main_arg1)) = V m c main_v7 from (V_factor m c).symm]
  show V m c main_v7 (((cfg0.win 2).blk t).view.emb (ix2 k 0)) = _
  congr 1; funext a; apply Fin.ext
  match a with
  | ⟨0, _⟩ => show win0_2.index t 0 * 512 + 1 * k.val = t.val * 512 + k.val; omega
  | ⟨1, _⟩ => show win0_2.index t 1 * 1 + 1 * 0 = 0; omega

/-- An entry of the block of point `t`, in the whole array. -/
theorem blk3 (c : Dev nD) (t : Fin cfg0.N) (j : Fin 1024) : iblk m c 3 t (ix2 0 j) = m ((c : Thread nD τ).loc main_arg2) (ix2 0 j) := by
  obtain ⟨h0, h1⟩ := idx3 t
  rw [← V_main_arg2 m c]
  show V m c main_arg2 (((cfg0.win 3).blk t).view.emb (ix2 0 j)) = _
  congr 1; funext a; apply Fin.ext
  match a with
  | ⟨0, _⟩ => show win0_3.index t 0 * 1 + 1 * 0 = 0; omega
  | ⟨1, _⟩ => show win0_3.index t 1 * 1024 + 1 * j.val = j.val; omega

/-- An entry of the block of point `t`, in the whole array. -/
theorem blk4 (c : Dev nD) (t : Fin cfg0.N) (j : Fin 1024) : iblk m c 4 t (ix2 0 j) = m ((c : Thread nD τ).loc main_arg3) (ix2 0 j) := by
  obtain ⟨h0, h1⟩ := idx4 t
  rw [← V_main_arg3 m c]
  show V m c main_arg3 (((cfg0.win 4).blk t).view.emb (ix2 0 j)) = _
  congr 1; funext a; apply Fin.ext
  match a with
  | ⟨0, _⟩ => show win0_4.index t 0 * 1 + 1 * 0 = 0; omega
  | ⟨1, _⟩ => show win0_4.index t 1 * 1024 + 1 * j.val = j.val; omega

/-- An entry of the result block, in the whole array. -/
theorem emb7 (t : Fin cfg0.N) (y : S1x1024.Idx) : ((cfg0.win 7).blk t).view.emb y = y := by
  obtain ⟨h0, h1⟩ := idx7 t
  funext a; apply Fin.ext
  match a with
  | ⟨0, _⟩ => show win0_7.index t 0 * 1 + 1 * (y 0).val = (y 0).val; omega
  | ⟨1, _⟩ => show win0_7.index t 1 * 1024 + 1 * (y 1).val = (y 1).val; omega

/-- An entry of the result block, in the whole array. -/
theorem emb8 (t : Fin cfg0.N) (y : S1x1024.Idx) : ((cfg0.win 8).blk t).view.emb y = y := by
  obtain ⟨h0, h1⟩ := idx8 t
  funext a; apply Fin.ext
  match a with
  | ⟨0, _⟩ => show win0_8.index t 0 * 1 + 1 * (y 0).val = (y 0).val; omega
  | ⟨1, _⟩ => show win0_8.index t 1 * 1024 + 1 * (y 1).val = (y 1).val; omega

/-- An entry of the result block, in the whole array. -/
theorem emb9 (t : Fin cfg0.N) (y : S1x1024.Idx) : ((cfg0.win 9).blk t).view.emb y = y := by
  obtain ⟨h0, h1⟩ := idx9 t
  funext a; apply Fin.ext
  match a with
  | ⟨0, _⟩ => show win0_9.index t 0 * 1 + 1 * (y 0).val = (y 0).val; omega
  | ⟨1, _⟩ => show win0_9.index t 1 * 1024 + 1 * (y 1).val = (y 1).val; omega

/-! ## The three sums carried from point to point -/

/-- Row `x` of `T` at column `j` (nothing outside the array). -/
def term (T : S4096x1024.Idx → EReal) (j : Fin 1024) (x : ℕ) : EReal := if h : x < 4096 then T (ix2 ⟨x, h⟩ j) else 0

/-- The sum over the rows, block by block. -/
theorem S_eq (T : S4096x1024.Idx → EReal) (i : S1x1024.Idx) : S T i = ∑ x ∈ Finset.range ((7 + 1) * 512), term T (i 1) x := by
  show _ = ∑ x ∈ Finset.range 4096, term T (i 1) x
  rw [Finset.sum_range]
  refine Finset.sum_congr rfl fun k _ => ?_
  unfold term
  rw [dif_pos k.isLt]

/-- The rows of block `t`. -/
theorem block_sum (T : S4096x1024.Idx → EReal) (t : Fin cfg0.N) (j : Fin 1024) :
    ∑ k : Fin 512, T (ix2 (row t k) j) = ∑ x ∈ Finset.range 512, term T j (t.val * 512 + x) := by
  rw [Finset.sum_range]
  refine Finset.sum_congr rfl fun k _ => ?_
  unfold term
  rw [dif_pos (row_ok t k)]
  rfl

/-- Equal factors give equal shares of the scale's gradient. -/
theorem share_of8 (d x r w d' x' r' w' : EReal) (hd : d = d') (hx : x = x') (hr : r = r') (hw : w = w') :
    d * (x * r * w) = d' * (x' * r' * w') := by rw [hd, hx, hr, hw]

/-- Equal factors give equal shares of the weight's gradient. -/
theorem share_of9 (d x r s d' x' r' s' : EReal) (hd : d = d') (hx : x = x') (hr : r = r') (hs : s = s') :
    d * (1 + s) * (x * r) = d' * (1 + s') * (x' * r') := by rw [hd, hx, hr, hs]

/-- The part one block of rows adds. -/
theorem share7 (c : Dev nD) (t : Fin cfg0.N) (y : S1x1024.Idx) :
    (k0_pay5 (iblk m c 0 t) : S1x1024.Idx → EReal) y
      = ∑ x ∈ Finset.range 512, term (m ((c : Thread nD τ).loc main_arg0)) (y 1) (t.val * 512 + x) := by
  refine (pay5_apply _ y).trans (Eq.trans ?_ (block_sum (m ((c : Thread nD τ).loc main_arg0)) t (y 1)))
  exact Finset.sum_congr rfl (fun k _ => blk0 m c t k (y 1))

/-- After point `t` the carried row is the sum over the blocks so far. -/
theorem carried7 (c : Dev nD) : ∀ (n : ℕ) (h : n < cfg0.N), ∀ y : S1x1024.Idx,
    ((outsAt0 m c n h).2.1 : S1x1024.Idx → EReal) y
      = ∑ x ∈ Finset.range ((n + 1) * 512), term (m ((c : Thread nD τ).loc main_arg0)) (y 1) x := by
  intro n
  induction n with
  | zero =>
    intro h y
    rw [outsAt0_A m c ⟨0, h⟩ (Nat.zero_mod _) (by simp) (Nat.zero_mod _) (by simp) (Nat.zero_mod _) (by simp)]
    dsimp only
    rw [out_A_7, share7 m c ⟨0, h⟩]
    simp
  | succ n ih =>
    intro h y
    have hn : n + 1 < 8 := lt_of_lt_of_eq h N_0
    have h0 : ¬(n + 1) % 8 = 0 := by omega
    rw [outsAt0_B m c ⟨n + 1, h⟩ h0 (by dsimp only; omega) h0 (by dsimp only; omega) h0 (by dsimp only; omega)]
    dsimp only
    rw [out_B_7, pay6_apply, share7 m c ⟨n + 1, h⟩]
    refine (congrArg (· + _) (ih (Nat.lt_of_succ_lt h) y)).trans ?_
    dsimp only
    rw [Nat.add_mul (n + 1) 1 512, Nat.one_mul, Finset.sum_range_add]

/-- What a point writes back is its block of the whole function. -/
theorem flushed_eq7 (c : Dev nD) (t : Fin cfg0.N) (hf : (cfg0.win 7).flush t = true) :
    (dats m 0 c).flushed 7 t = ((cfg0.win 7).blk t).view.read (Elt Ideal) (S (m ((c : Thread nD τ).loc main_arg0))) := by
  have h7 : t.val % 8 = 7 := (flush0_7 t).mp hf
  have ht : t.val < 8 := lt_of_lt_of_eq t.isLt N_0
  have hc := carried7 m c t.val t.isLt
  rw [Value.flushed7]
  generalize (outsAt0 m c t.val t.isLt).2.1 = acc at hc ⊢
  funext y
  refine (hc y).trans ?_
  show _ = S (m ((c : Thread nD τ).loc main_arg0)) (((cfg0.win 7).blk t).view.emb y)
  rw [emb7, S_eq, show t.val = 7 by omega]

/-- An entry whose row lies in the block is in the block. -/
theorem mem7 (t : Fin cfg0.N) (i : S1x1024.Idx) : i ∈ ((cfg0.win 7).blk t).view.set := by
  have h6 := idx7 t
  show i ∈ ((View.whole main_v8_1).slice (win0_7.rect t)).set
  rw [View.set_slice_whole, Rect.mem_set_unit]
  intro a
  match a with
  | ⟨0, _⟩ => show win0_7.index t 0 * 1 ≤ (i 0 : Nat) ∧ (i 0 : Nat) < win0_7.index t 0 * 1 + 1
              rw [h6.1, Nat.zero_mul, Nat.zero_add]; exact ⟨Nat.zero_le _, (i 0).isLt⟩
  | ⟨1, _⟩ => show win0_7.index t 1 * 1024 ≤ (i 1 : Nat) ∧ (i 1 : Nat) < win0_7.index t 1 * 1024 + 1024
              rw [h6.2, Nat.zero_mul, Nat.zero_add]; exact ⟨Nat.zero_le _, (i 1).isLt⟩

/-- The result array is the whole function of the arguments. -/
theorem final7 (c : Dev nD) : (dats m 0 c).arrAt 7 cfg0.N = S (m ((c : Thread nD τ).loc main_arg0)) :=
  (dats m 0 c).arrAt_eq_of_cover 7 _ (fun t hf => flushed_eq7 m c t hf)
    (fun i => ⟨⟨7, lt_of_lt_of_eq (by decide) N_0.symm⟩, (flush0_7 _).mpr rfl, mem7 _ i⟩)

/-- The part one block of rows adds. -/
theorem share8 (c : Dev nD) (t : Fin cfg0.N) (y : S1x1024.Idx) :
    (k0_pay7 (iblk m c 0 t) (iblk m c 2 t) (iblk m c 1 t) (iblk m c 3 t) : S1x1024.Idx → EReal) y
      = ∑ x ∈ Finset.range 512, term (T8 (m ((c : Thread nD τ).loc main_arg0)) (m ((c : Thread nD τ).loc main_arg1)) (m ((c : Thread nD τ).loc main_arg2))) (y 1) (t.val * 512 + x) := by
  refine (pay7_apply _ _ _ _ y).trans (Eq.trans ?_ (block_sum (T8 (m ((c : Thread nD τ).loc main_arg0)) (m ((c : Thread nD τ).loc main_arg1)) (m ((c : Thread nD τ).loc main_arg2))) t (y 1)))
  exact Finset.sum_congr rfl (fun k _ => share_of8 _ _ _ _ _ _ _ _ (blk0 m c t k (y 1)) (blk1 m c t k (y 1)) (blk2 m c t k) (blk3 m c t (y 1)))

/-- After point `t` the carried row is the sum over the blocks so far. -/
theorem carried8 (c : Dev nD) : ∀ (n : ℕ) (h : n < cfg0.N), ∀ y : S1x1024.Idx,
    ((outsAt0 m c n h).2.2.1 : S1x1024.Idx → EReal) y
      = ∑ x ∈ Finset.range ((n + 1) * 512), term (T8 (m ((c : Thread nD τ).loc main_arg0)) (m ((c : Thread nD τ).loc main_arg1)) (m ((c : Thread nD τ).loc main_arg2))) (y 1) x := by
  intro n
  induction n with
  | zero =>
    intro h y
    rw [outsAt0_A m c ⟨0, h⟩ (Nat.zero_mod _) (by simp) (Nat.zero_mod _) (by simp) (Nat.zero_mod _) (by simp)]
    dsimp only
    rw [out_A_8, share8 m c ⟨0, h⟩]
    simp
  | succ n ih =>
    intro h y
    have hn : n + 1 < 8 := lt_of_lt_of_eq h N_0
    have h0 : ¬(n + 1) % 8 = 0 := by omega
    rw [outsAt0_B m c ⟨n + 1, h⟩ h0 (by dsimp only; omega) h0 (by dsimp only; omega) h0 (by dsimp only; omega)]
    dsimp only
    rw [out_B_8, pay8_apply, share8 m c ⟨n + 1, h⟩]
    refine (congrArg (· + _) (ih (Nat.lt_of_succ_lt h) y)).trans ?_
    dsimp only
    rw [Nat.add_mul (n + 1) 1 512, Nat.one_mul, Finset.sum_range_add]

/-- What a point writes back is its block of the whole function. -/
theorem flushed_eq8 (c : Dev nD) (t : Fin cfg0.N) (hf : (cfg0.win 8).flush t = true) :
    (dats m 0 c).flushed 8 t = ((cfg0.win 8).blk t).view.read (Elt Ideal) (S (T8 (m ((c : Thread nD τ).loc main_arg0)) (m ((c : Thread nD τ).loc main_arg1)) (m ((c : Thread nD τ).loc main_arg2)))) := by
  have h7 : t.val % 8 = 7 := (flush0_8 t).mp hf
  have ht : t.val < 8 := lt_of_lt_of_eq t.isLt N_0
  have hc := carried8 m c t.val t.isLt
  rw [Value.flushed8]
  generalize (outsAt0 m c t.val t.isLt).2.2.1 = acc at hc ⊢
  funext y
  refine (hc y).trans ?_
  show _ = S (T8 (m ((c : Thread nD τ).loc main_arg0)) (m ((c : Thread nD τ).loc main_arg1)) (m ((c : Thread nD τ).loc main_arg2))) (((cfg0.win 8).blk t).view.emb y)
  rw [emb8, S_eq, show t.val = 7 by omega]

/-- An entry whose row lies in the block is in the block. -/
theorem mem8 (t : Fin cfg0.N) (i : S1x1024.Idx) : i ∈ ((cfg0.win 8).blk t).view.set := by
  have h6 := idx8 t
  show i ∈ ((View.whole main_v8_2).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + 1
              rw [h6.1, Nat.zero_mul, Nat.zero_add]; exact ⟨Nat.zero_le _, (i 0).isLt⟩
  | ⟨1, _⟩ => show win0_8.index t 1 * 1024 ≤ (i 1 : Nat) ∧ (i 1 : Nat) < win0_8.index t 1 * 1024 + 1024
              rw [h6.2, Nat.zero_mul, Nat.zero_add]; exact ⟨Nat.zero_le _, (i 1).isLt⟩

/-- The result array is the whole function of the arguments. -/
theorem final8 (c : Dev nD) : (dats m 0 c).arrAt 8 cfg0.N = S (T8 (m ((c : Thread nD τ).loc main_arg0)) (m ((c : Thread nD τ).loc main_arg1)) (m ((c : Thread nD τ).loc main_arg2))) :=
  (dats m 0 c).arrAt_eq_of_cover 8 _ (fun t hf => flushed_eq8 m c t hf)
    (fun i => ⟨⟨7, lt_of_lt_of_eq (by decide) N_0.symm⟩, (flush0_8 _).mpr rfl, mem8 _ i⟩)

/-- The part one block of rows adds. -/
theorem share9 (c : Dev nD) (t : Fin cfg0.N) (y : S1x1024.Idx) :
    (k0_pay10 (iblk m c 0 t) (iblk m c 2 t) (iblk m c 1 t) (iblk m c 4 t) : S1x1024.Idx → EReal) y
      = ∑ x ∈ Finset.range 512, term (T9 (m ((c : Thread nD τ).loc main_arg0)) (m ((c : Thread nD τ).loc main_arg1)) (m ((c : Thread nD τ).loc main_arg3))) (y 1) (t.val * 512 + x) := by
  refine (pay10_apply _ _ _ _ y).trans (Eq.trans ?_ (block_sum (T9 (m ((c : Thread nD τ).loc main_arg0)) (m ((c : Thread nD τ).loc main_arg1)) (m ((c : Thread nD τ).loc main_arg3))) t (y 1)))
  exact Finset.sum_congr rfl (fun k _ => share_of9 _ _ _ _ _ _ _ _ (blk0 m c t k (y 1)) (blk1 m c t k (y 1)) (blk2 m c t k) (blk4 m c t (y 1)))

/-- After point `t` the carried row is the sum over the blocks so far. -/
theorem carried9 (c : Dev nD) : ∀ (n : ℕ) (h : n < cfg0.N), ∀ y : S1x1024.Idx,
    ((outsAt0 m c n h).2.2.2 : S1x1024.Idx → EReal) y
      = ∑ x ∈ Finset.range ((n + 1) * 512), term (T9 (m ((c : Thread nD τ).loc main_arg0)) (m ((c : Thread nD τ).loc main_arg1)) (m ((c : Thread nD τ).loc main_arg3))) (y 1) x := by
  intro n
  induction n with
  | zero =>
    intro h y
    rw [outsAt0_A m c ⟨0, h⟩ (Nat.zero_mod _) (by simp) (Nat.zero_mod _) (by simp) (Nat.zero_mod _) (by simp)]
    dsimp only
    rw [out_A_9, share9 m c ⟨0, h⟩]
    simp
  | succ n ih =>
    intro h y
    have hn : n + 1 < 8 := lt_of_lt_of_eq h N_0
    have h0 : ¬(n + 1) % 8 = 0 := by omega
    rw [outsAt0_B m c ⟨n + 1, h⟩ h0 (by dsimp only; omega) h0 (by dsimp only; omega) h0 (by dsimp only; omega)]
    dsimp only
    rw [out_B_9, pay1_apply, share9 m c ⟨n + 1, h⟩]
    refine (congrArg (· + _) (ih (Nat.lt_of_succ_lt h) y)).trans ?_
    dsimp only
    rw [Nat.add_mul (n + 1) 1 512, Nat.one_mul, Finset.sum_range_add]

/-- What a point writes back is its block of the whole function. -/
theorem flushed_eq9 (c : Dev nD) (t : Fin cfg0.N) (hf : (cfg0.win 9).flush t = true) :
    (dats m 0 c).flushed 9 t = ((cfg0.win 9).blk t).view.read (Elt Ideal) (S (T9 (m ((c : Thread nD τ).loc main_arg0)) (m ((c : Thread nD τ).loc main_arg1)) (m ((c : Thread nD τ).loc main_arg3)))) := by
  have h7 : t.val % 8 = 7 := (flush0_9 t).mp hf
  have ht : t.val < 8 := lt_of_lt_of_eq t.isLt N_0
  have hc := carried9 m c t.val t.isLt
  rw [Value.flushed9]
  generalize (outsAt0 m c t.val t.isLt).2.2.2 = acc at hc ⊢
  funext y
  refine (hc y).trans ?_
  show _ = S (T9 (m ((c : Thread nD τ).loc main_arg0)) (m ((c : Thread nD τ).loc main_arg1)) (m ((c : Thread nD τ).loc main_arg3))) (((cfg0.win 9).blk t).view.emb y)
  rw [emb9, S_eq, show t.val = 7 by omega]

/-- An entry whose row lies in the block is in the block. -/
theorem mem9 (t : Fin cfg0.N) (i : S1x1024.Idx) : i ∈ ((cfg0.win 9).blk t).view.set := by
  have h6 := idx9 t
  show i ∈ ((View.whole main_v8_3).slice (win0_9.rect t)).set
  rw [View.set_slice_whole, Rect.mem_set_unit]
  intro a
  match a with
  | ⟨0, _⟩ => show win0_9.index t 0 * 1 ≤ (i 0 : Nat) ∧ (i 0 : Nat) < win0_9.index t 0 * 1 + 1
              rw [h6.1, Nat.zero_mul, Nat.zero_add]; exact ⟨Nat.zero_le _, (i 0).isLt⟩
  | ⟨1, _⟩ => show win0_9.index t 1 * 1024 ≤ (i 1 : Nat) ∧ (i 1 : Nat) < win0_9.index t 1 * 1024 + 1024
              rw [h6.2, Nat.zero_mul, Nat.zero_add]; exact ⟨Nat.zero_le _, (i 1).isLt⟩

/-- The result array is the whole function of the arguments. -/
theorem final9 (c : Dev nD) : (dats m 0 c).arrAt 9 cfg0.N = S (T9 (m ((c : Thread nD τ).loc main_arg0)) (m ((c : Thread nD τ).loc main_arg1)) (m ((c : Thread nD τ).loc main_arg3))) :=
  (dats m 0 c).arrAt_eq_of_cover 9 _ (fun t hf => flushed_eq9 m c t hf)
    (fun i => ⟨⟨7, lt_of_lt_of_eq (by decide) N_0.symm⟩, (flush0_9 _).mpr rfl, mem9 _ i⟩)

end Cert.NormDxIdeal.Entry

namespace Cert.NormDxRefIdeal.Entry

open Cert.NormDxRefIdeal Cert.NormDxRefIdeal.Gen Idealize.ShloMosaic Idealize.ShloMosaic.TcCoe Idealize.SL.Sem

/-- The reference result is the same function. -/
theorem ref0 (dh : Vec Ideal S4096x1024 .f32) :
    (shapeCast S1x1024 (Host.reduceAdd dh (constant (F := Ideal) S_ .f32 0x00000000#32) reducesTo_S4096x1024_S1024_d0 h_S_) shapeCasts_S1024_S1x1024 : FVec Ideal S1x1024 .f32)
      = Cert.NormDxIdeal.Entry.S dh := by
  funext i
  unfold Cert.NormDxIdeal.Entry.S
  rw [Cert.NormDxIdeal.Entry.row_cast]
  pointwise

/-- The reference result is the same function. -/
theorem ref1 (dh X : Vec Ideal S4096x1024 .f32) (w : Vec Ideal S1x1024 .f32) :
    (shapeCast S1x1024 (Host.reduceAdd (mulf (mulf (mulf X (broadcastInDim S4096x1024 ![0, 1] bcast_S4096x1_S4096x1024_0_1 (Host.rsqrt (addf (Host.divf (broadcastInDim S4096x1 ![0] bcast_S4096_S4096x1_0 (Host.reduceAdd (mulf X X) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1024 ![0, 1] bcast_S1x1024_S4096x1024_0_1 w)) (shapeCast S4096x1024 dh shapeCasts_S4096x1024_S4096x1024)) (constant (F := Ideal) S_ .f32 0x00000000#32) reducesTo_S4096x1024_S1024_d0 h_S_) shapeCasts_S1024_S1x1024 : FVec Ideal S1x1024 .f32)
      = Cert.NormDxIdeal.Entry.S (Cert.NormDxIdeal.Entry.T8 dh X w) := by
  funext i
  unfold Cert.NormDxIdeal.Entry.S Cert.NormDxIdeal.Entry.T8 Cert.NormDxIdeal.Entry.N Cert.NormDxIdeal.Entry.Q Cert.NormDxIdeal.Entry.R
  rw [shapeCast_self, Cert.NormDxIdeal.Entry.row_cast]
  pointwise
  exact Finset.sum_congr rfl fun k _ => mul_comm (G := EReal) _ _

/-- The reference result is the same function. -/
theorem ref2 (dh X : Vec Ideal S4096x1024 .f32) (sc : Vec Ideal S1x1024 .f32) :
    (shapeCast S1x1024 (Host.reduceAdd (mulf (mulf X (broadcastInDim S4096x1024 ![0, 1] bcast_S4096x1_S4096x1024_0_1 (Host.rsqrt (addf (Host.divf (broadcastInDim S4096x1 ![0] bcast_S4096_S4096x1_0 (Host.reduceAdd (mulf X X) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (mulf (shapeCast S4096x1024 dh shapeCasts_S4096x1024_S4096x1024) (broadcastInDim S4096x1024 ![0, 1] bcast_S1x1024_S4096x1024_0_1 (addf (broadcastInDim S1x1024 ![] bcast_S_S1x1024 (constant (F := Ideal) S_ .f32 0x3F800000#32)) sc)))) (constant (F := Ideal) S_ .f32 0x00000000#32) reducesTo_S4096x1024_S1024_d0 h_S_) shapeCasts_S1024_S1x1024 : FVec Ideal S1x1024 .f32)
      = Cert.NormDxIdeal.Entry.S (Cert.NormDxIdeal.Entry.T9 dh X sc) := by
  funext i
  unfold Cert.NormDxIdeal.Entry.S Cert.NormDxIdeal.Entry.T9 Cert.NormDxIdeal.Entry.N Cert.NormDxIdeal.Entry.Q Cert.NormDxIdeal.Entry.R
  rw [shapeCast_self, Cert.NormDxIdeal.Entry.row_cast]
  pointwise
  exact Finset.sum_congr rfl fun k _ => mul_comm (G := EReal) _ _

end Cert.NormDxRefIdeal.Entry

namespace Cert.Proof

open Idealize.ShloMosaic Idealize.ShloMosaic.TcCoe Idealize.SL.Sem

/-- The gradients of the first normalisation's scale, shift and weight: kernel and reference end with equal results. -/
theorem algebraic_norm_dx : Cert.algebraic_NormDxIdeal_NormDxRefIdeal := by
  intro m ρ m' ρ' _ hag
  refine ⟨fun c => Cert.NormDxIdeal.Entry.S (m ((c.tc : Thread Cert.NormDxIdeal.nD Cert.NormDxIdeal.τ).loc Cert.NormDxIdeal.main_arg0)),
    fun c => Cert.NormDxIdeal.Entry.S (Cert.NormDxIdeal.Entry.T8 (m ((c.tc : Thread Cert.NormDxIdeal.nD Cert.NormDxIdeal.τ).loc Cert.NormDxIdeal.main_arg0)) (m ((c.tc : Thread Cert.NormDxIdeal.nD Cert.NormDxIdeal.τ).loc Cert.NormDxIdeal.main_arg1)) (m ((c.tc : Thread Cert.NormDxIdeal.nD Cert.NormDxIdeal.τ).loc Cert.NormDxIdeal.main_arg2))),
    fun c => Cert.NormDxIdeal.Entry.S (Cert.NormDxIdeal.Entry.T9 (m ((c.tc : Thread Cert.NormDxIdeal.nD Cert.NormDxIdeal.τ).loc Cert.NormDxIdeal.main_arg0)) (m ((c.tc : Thread Cert.NormDxIdeal.nD Cert.NormDxIdeal.τ).loc Cert.NormDxIdeal.main_arg1)) (m ((c.tc : Thread Cert.NormDxIdeal.nD Cert.NormDxIdeal.τ).loc Cert.NormDxIdeal.main_arg3))),
    (θ_run Cert.NormDxIdeal.defs _ _).mono (fun _ h c => ⟨(h c).2.1.trans (Cert.NormDxIdeal.Entry.final7 m c), (h c).2.2.1.trans (Cert.NormDxIdeal.Entry.final8 m c), (h c).2.2.2.1.trans (Cert.NormDxIdeal.Entry.final9 m c), (h c).2.2.2.2⟩) (Cert.NormDxIdeal.Value.run_blocks (F := Ideal) m ρ),
    (θ_run Cert.NormDxRefIdeal.defs _ _).mono (fun _ h c => ⟨?_, ?_, ?_, (h c).2.2.2⟩) (Cert.NormDxRefIdeal.Value.run (F := Ideal) m' ρ')⟩
  · refine (h c).1.trans ((Cert.NormDxRefIdeal.Entry.ref0 _).trans ?_)
    rw [(hag c).1]
  · refine (h c).2.1.trans ((Cert.NormDxRefIdeal.Entry.ref1 _ _ _).trans ?_)
    rw [(hag c).1, (hag c).2.1, (hag c).2.2.1]
  · refine (h c).2.2.1.trans ((Cert.NormDxRefIdeal.Entry.ref2 _ _ _).trans ?_)
    rw [(hag c).1, (hag c).2.1, (hag c).2.2.2.1]

/-- The reference leaves its arguments as they were. -/
theorem frame_norm_dx_ref : Cert.quiescent_NormDxRefIdeal := by
  intro m ρ _
  exact (θ_run Cert.NormDxRefIdeal.defs _ _).mono (fun r h => ⟨fun c => (h c).2.2.2,
      Idealize.ShloMosaic.sem_eq_zero_of_no_sems (by decide) r.2⟩)
    (Cert.NormDxRefIdeal.Value.run (F := Ideal) m ρ)

end Cert.Proof

end
-- ==== Proof.Norm2.lean ====
/-
  The second normalisation: the kernel `norm2_fwd` adds the gated mixture to the rows, 8 blocks of 512 at a time, and normalises
  them with the scale and the shift; the reference does it in one piece. Both hold the same entries: the sum, and the sum divided
  by the root of its row's mean square, times the weight and one plus the scale, plus the shift.
-/
module

public import proofs.«01_k».proof.Defs
public import proofs.«01_k».proof.Proof.Gen.Norm2Ideal.Value
public import proofs.«01_k».proof.Proof.Gen.Norm2RefIdeal
public import proofs.«01_k».proof.Proof.Gen.Norm2RefIdeal.Run
public import Idealize.ShloMosaic.Lib.Pipeline.Value
public import Idealize.ShloMosaic.Lib.Pointwise
public import Idealize.ShloMosaic.Lib.Tactic

@[expose] public section

noncomputable section

namespace Cert.Norm2Ideal.Entry

open Cert.Norm2Ideal Cert.Norm2Ideal.Gen Idealize.ShloMosaic Idealize.ShloMosaic.TcCoe Idealize.SL.Sem
open Idealize.ShloMosaic.Pipeline (Dat)

variable (m : (ℓ : Loc nD τ sig) → Buf (Elt Ideal) ℓ)

/-- The zero corner. -/
theorem hz : (![0, 0] : Fin 2 → Nat) = fun _ => 0 := funext fun a => by fin_cases a <;> rfl

/-- One over the root of the mean square of a row whose squares sum to `s`. -/
def R (s : EReal) : EReal := Ideal.rsqrt (Ideal.div s (Ideal.ofBits .f32 0x44800000#32) + Ideal.ofBits .f32 0x358637BD#32)

/-- The normalised, scaled and shifted rows, entry by entry. -/
def G (X : S4096x1024.Idx → EReal) (w sc sh : S1x1024.Idx → EReal) : S4096x1024.Idx → EReal :=
  fun i => X i * R (∑ k : Fin 1024, X (ix2 (i 0) k) * X (ix2 (i 0) k)) * w (ix2 0 (i 1)) * (1 + sc (ix2 0 (i 1))) + sh (ix2 0 (i 1))

/-- A vector seen as one column. -/
theorem col_cast {α : Type} (v : S512.Idx → α) (h : S512.ShapeCasts S512x1) (i : S512x1.Idx) :
    shapeCast S512x1 v h i = v (ix1 (i 0)) :=
  congrArg v (Shape.reshapeEquiv_eq_of_vals h i (ix1 (i 0)) (i 0).val ((i 0).val * 1 + (i 1).val) (rowMajor_val1 _)
    (rowMajor_val2 _ 1 rfl) (by have h0 : (i 1).val < 1 := (i 1).isLt; omega))

/-- The sum along a row. -/
theorem sum_apply (v : FVec Ideal S512x1024 .f32) (r : Fin 512) :
    (multiReduction (F := Ideal) .add [1] S512 v 0x00000000#32 reduces_S512x1024_S512 (.inl rfl) rfl : S512.Idx → EReal) (ix1 r)
      = ∑ k : Fin 1024, v (ix2 r k) := by
  pointwise

/-- The rows after the gated addition, entry by entry. -/
def Y (X mo : S4096x1024.Idx → EReal) (gt : S1x1024.Idx → EReal) : S4096x1024.Idx → EReal :=
  fun i => X i + gt (ix2 0 (i 1)) * mo i

/-- What the body computes, at one entry. -/
theorem pay1_apply (x0 : Vec Ideal S512x1024 .f32) (x1 : Vec Ideal S1x1024 .f32) (x2 : Vec Ideal S512x1024 .f32) (y : S512x1024.Idx) :
    (k0_pay1 x0 x1 x2 : S512x1024.Idx → EReal) y = x0 y + x1 (ix2 0 (y 1)) * x2 y := by
  unfold k0_pay1
  pointwise

/-- What the body computes, at one entry. -/
theorem pay2_apply (x0 : Vec Ideal S512x1024 .f32) (x1 : Vec Ideal S1x1024 .f32) (x2 : Vec Ideal S512x1024 .f32) (y : S512x1.Idx) :
    (k0_pay2 x0 x1 x2 : S512x1.Idx → EReal) y
      = R (∑ k : Fin 1024, k0_pay1 x0 x1 x2 (ix2 (y 0) k) * k0_pay1 x0 x1 x2 (ix2 (y 0) k)) := by
  unfold k0_pay2
  generalize k0_pay1 x0 x1 x2 = p
  have e : (shapeCast S512x1 (multiReduction (F := Ideal) .add [1] S512 (mulf p p) 0x00000000#32 reduces_S512x1024_S512 (.inl rfl) rfl) shapeCasts_S512_S512x1 : S512x1.Idx → EReal) y
      = ∑ k : Fin 1024, p (ix2 (y 0) k) * p (ix2 (y 0) k) := by
    rw [col_cast]
    exact sum_apply _ _
  unfold R
  rw [← e]
  rfl

/-- What the body computes, at one entry. -/
theorem pay3_apply (x0 : Vec Ideal S512x1024 .f32) (x1 : Vec Ideal S1x1024 .f32) (x2 : Vec Ideal S512x1024 .f32) (x3 x4 x5 : Vec Ideal S1x1024 .f32) (y : S512x1024.Idx) :
    (k0_pay3 x0 x1 x2 x3 x4 x5 : S512x1024.Idx → EReal) y = k0_pay1 x0 x1 x2 y
      * R (∑ k : Fin 1024, k0_pay1 x0 x1 x2 (ix2 (y 0) k) * k0_pay1 x0 x1 x2 (ix2 (y 0) k))
      * x3 (ix2 0 (y 1)) * (1 + x4 (ix2 0 (y 1))) + x5 (ix2 0 (y 1)) := by
  have e := pay2_apply x0 x1 x2 (ix2 (y 0) 0)
  unfold k0_pay3
  generalize k0_pay2 x0 x1 x2 = p at e ⊢
  generalize k0_pay1 x0 x1 x2 = q at e ⊢
  refine Eq.trans ?_ (congrArg (fun r => q y * r * x3 (ix2 0 (y 1)) * (1 + x4 (ix2 0 (y 1))) + x5 (ix2 0 (y 1))) e)
  pointwise

/-- The block of the first result is what the body computes of the blocks. -/
theorem out6_eq (x0 x1 : Vec Ideal S512x1024 .f32) (x2 x3 x4 x5 : Vec Ideal S1x1024 .f32) :
    out0_6 x0 x1 x2 x3 x4 x5 = k0_pay1 x0 x2 x1 := by
  unfold out0_6
  rw [View.canon_unit_zero hz]
  simp only [View.ld_unit_zero (S := S512x1024) hz, View.ld_unit_zero (S := S1x1024) hz]

/-- The block of the second result is what the body computes of the blocks. -/
theorem out7_eq (x0 x1 : Vec Ideal S512x1024 .f32) (x2 x3 x4 x5 : Vec Ideal S1x1024 .f32) :
    out0_7 x0 x1 x2 x3 x4 x5 = k0_pay3 x0 x2 x1 x3 x4 x5 := by
  unfold out0_7
  rw [View.canon_unit_zero hz]
  simp only [View.ld_unit_zero (S := S512x1024) hz, View.ld_unit_zero (S := S1x1024) hz]

/-- Where the block of point `t` lies. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Where the block of point `t` lies. -/
theorem idx1 : ∀ t : Fin cfg0.N, win0_1.index t 0 = t.val ∧ win0_1.index t 1 = 0 :=
  (by decide +kernel : ∀ t : Fin grid0.N, win0_1.index t 0 = t.val ∧ win0_1.index t 1 = 0)

/-- Where the block of point `t` lies. -/
theorem idx2 : ∀ t : Fin cfg0.N, win0_2.index t 0 = 0 ∧ win0_2.index t 1 = 0 :=
  (by decide +kernel : ∀ t : Fin grid0.N, win0_2.index t 0 = 0 ∧ win0_2.index t 1 = 0)

/-- Where the block of point `t` lies. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Where the block of point `t` lies. -/
theorem idx4 : ∀ t : Fin cfg0.N, win0_4.index t 0 = 0 ∧ win0_4.index t 1 = 0 :=
  (by decide +kernel : ∀ t : Fin grid0.N, win0_4.index t 0 = 0 ∧ win0_4.index t 1 = 0)

/-- Where the block of point `t` lies. -/
theorem idx5 : ∀ t : Fin cfg0.N, win0_5.index t 0 = 0 ∧ win0_5.index t 1 = 0 :=
  (by decide +kernel : ∀ t : Fin grid0.N, win0_5.index t 0 = 0 ∧ win0_5.index t 1 = 0)

/-- Where the block of point `t` lies. -/
theorem idx6 : ∀ t : Fin cfg0.N, win0_6.index t 0 = t.val ∧ win0_6.index t 1 = 0 :=
  (by decide +kernel : ∀ t : Fin grid0.N, win0_6.index t 0 = t.val ∧ win0_6.index t 1 = 0)

/-- Where the block of point `t` lies. -/
theorem idx7 : ∀ t : Fin cfg0.N, win0_7.index t 0 = t.val ∧ win0_7.index t 1 = 0 :=
  (by decide +kernel : ∀ t : Fin grid0.N, win0_7.index t 0 = t.val ∧ win0_7.index t 1 = 0)

/-- The row is in the array. -/
theorem row_ok (t : Fin cfg0.N) (k : Fin 512) : t.val * 512 + k.val < 4096 := by
  have ht : t.val < 8 := lt_of_lt_of_eq t.isLt N_0
  omega

/-- Row `k` of block `t`. -/
def row (t : Fin cfg0.N) (k : Fin 512) : Fin 4096 := ⟨t.val * 512 + k.val, row_ok t k⟩

/-- An entry of the block of point `t`, in the whole array. -/
theorem blk0 (c : Dev nD) (t : Fin cfg0.N) (y : S512x1024.Idx) : iblk m c 0 t y = V m c main_arg0 (ix2 (row t (y 0)) (y 1)) := by
  obtain ⟨h0, h1⟩ := idx0 t
  show V m c main_arg0 (((cfg0.win 0).blk t).view.emb y) = _
  congr 1; funext a; apply Fin.ext
  match a with
  | ⟨0, _⟩ => show win0_0.index t 0 * 512 + 1 * (y 0).val = t.val * 512 + (y 0).val; omega
  | ⟨1, _⟩ => show win0_0.index t 1 * 1024 + 1 * (y 1).val = (y 1).val; omega

/-- An entry of the block of point `t`, in the whole array. -/
theorem blk1 (c : Dev nD) (t : Fin cfg0.N) (y : S512x1024.Idx) : iblk m c 1 t y = V m c main_arg1 (ix2 (row t (y 0)) (y 1)) := by
  obtain ⟨h0, h1⟩ := idx1 t
  show V m c main_arg1 (((cfg0.win 1).blk t).view.emb y) = _
  congr 1; funext a; apply Fin.ext
  match a with
  | ⟨0, _⟩ => show win0_1.index t 0 * 512 + 1 * (y 0).val = t.val * 512 + (y 0).val; omega
  | ⟨1, _⟩ => show win0_1.index t 1 * 1024 + 1 * (y 1).val = (y 1).val; omega

/-- An entry of the block of point `t`, in the whole array. -/
theorem blk2 (c : Dev nD) (t : Fin cfg0.N) (j : Fin 1024) : iblk m c 2 t (ix2 0 j) = V m c main_arg2 (ix2 0 j) := by
  obtain ⟨h0, h1⟩ := idx2 t
  show V m c main_arg2 (((cfg0.win 2).blk t).view.emb (ix2 0 j)) = _
  congr 1; funext a; apply Fin.ext
  match a with
  | ⟨0, _⟩ => show win0_2.index t 0 * 1 + 1 * 0 = 0; omega
  | ⟨1, _⟩ => show win0_2.index t 1 * 1024 + 1 * j.val = j.val; omega

/-- An entry of the block of point `t`, in the whole array. -/
theorem blk3 (c : Dev nD) (t : Fin cfg0.N) (j : Fin 1024) : iblk m c 3 t (ix2 0 j) = V m c main_arg3 (ix2 0 j) := by
  obtain ⟨h0, h1⟩ := idx3 t
  show V m c main_arg3 (((cfg0.win 3).blk t).view.emb (ix2 0 j)) = _
  congr 1; funext a; apply Fin.ext
  match a with
  | ⟨0, _⟩ => show win0_3.index t 0 * 1 + 1 * 0 = 0; omega
  | ⟨1, _⟩ => show win0_3.index t 1 * 1024 + 1 * j.val = j.val; omega

/-- An entry of the block of point `t`, in the whole array. -/
theorem blk4 (c : Dev nD) (t : Fin cfg0.N) (j : Fin 1024) : iblk m c 4 t (ix2 0 j) = V m c main_arg4 (ix2 0 j) := by
  obtain ⟨h0, h1⟩ := idx4 t
  show V m c main_arg4 (((cfg0.win 4).blk t).view.emb (ix2 0 j)) = _
  congr 1; funext a; apply Fin.ext
  match a with
  | ⟨0, _⟩ => show win0_4.index t 0 * 1 + 1 * 0 = 0; omega
  | ⟨1, _⟩ => show win0_4.index t 1 * 1024 + 1 * j.val = j.val; omega

/-- An entry of the block of point `t`, in the whole array. -/
theorem blk5 (c : Dev nD) (t : Fin cfg0.N) (j : Fin 1024) : iblk m c 5 t (ix2 0 j) = V m c main_arg5 (ix2 0 j) := by
  obtain ⟨h0, h1⟩ := idx5 t
  show V m c main_arg5 (((cfg0.win 5).blk t).view.emb (ix2 0 j)) = _
  congr 1; funext a; apply Fin.ext
  match a with
  | ⟨0, _⟩ => show win0_5.index t 0 * 1 + 1 * 0 = 0; omega
  | ⟨1, _⟩ => show win0_5.index t 1 * 1024 + 1 * j.val = j.val; omega

/-- An entry of the result block, in the whole array. -/
theorem emb6 (t : Fin cfg0.N) (y : S512x1024.Idx) : ((cfg0.win 6).blk t).view.emb y = (ix2 (row t (y 0)) (y 1) : S4096x1024.Idx) := by
  obtain ⟨h0, h1⟩ := idx6 t
  funext a; apply Fin.ext
  match a with
  | ⟨0, _⟩ => show win0_6.index t 0 * 512 + 1 * (y 0).val = t.val * 512 + (y 0).val; omega
  | ⟨1, _⟩ => show win0_6.index t 1 * 1024 + 1 * (y 1).val = (y 1).val; omega

/-- An entry of the result block, in the whole array. -/
theorem emb7 (t : Fin cfg0.N) (y : S512x1024.Idx) : ((cfg0.win 7).blk t).view.emb y = (ix2 (row t (y 0)) (y 1) : S4096x1024.Idx) := by
  obtain ⟨h0, h1⟩ := idx7 t
  funext a; apply Fin.ext
  match a with
  | ⟨0, _⟩ => show win0_7.index t 0 * 512 + 1 * (y 0).val = t.val * 512 + (y 0).val; omega
  | ⟨1, _⟩ => show win0_7.index t 1 * 1024 + 1 * (y 1).val = (y 1).val; omega

/-- Equal rows give equal entries. -/
theorem val_of (x : S512x1024.Idx → EReal) (X : S4096x1024.Idx → EReal) (p : Fin 512) (q : Fin 4096) (j : Fin 1024) (w sc sh w' sc' sh' : EReal)
    (y : S512x1024.Idx) (hp : y 0 = p) (hj : y 1 = j) (h : ∀ k : Fin 1024, x (ix2 p k) = X (ix2 q k)) (hw : w = w') (hsc : sc = sc') (hsh : sh = sh') :
    x y * R (∑ k : Fin 1024, x (ix2 p k) * x (ix2 p k)) * w * (1 + sc) + sh
      = X (ix2 q j) * R (∑ k : Fin 1024, X (ix2 q k) * X (ix2 q k)) * w' * (1 + sc') + sh' := by
  have hy : y = ix2 p j := by
    funext a
    match a with
    | ⟨0, _⟩ => exact hp
    | ⟨1, _⟩ => exact hj
  simp only [hy, h, hw, hsc, hsh]

/-- Equal parts give equal sums. -/
theorem sum_of (a b g a' b' g' : EReal) (h1 : a = a') (h2 : b = b') (h3 : g = g') : a + g * b = a' + g' * b' := by
  rw [h1, h2, h3]

/-- What the body computes of the blocks of point `t`, as entries of the whole function. -/
theorem val6 (c : Dev nD) (t : Fin cfg0.N) (y : S512x1024.Idx) :
    (k0_pay1 (iblk m c 0 t) (iblk m c 2 t) (iblk m c 1 t) : S512x1024.Idx → EReal) y
      = (Y (V m c main_arg0) (V m c main_arg1) (V m c main_arg2)) (ix2 (row t (y 0)) (y 1)) := by
  rw [pay1_apply]
  exact sum_of _ _ _ _ _ _ (blk0 m c t y) (blk1 m c t y) (blk2 m c t (y 1))

/-- What the body computes of the blocks of point `t`, as entries of the whole function. -/
theorem val7 (c : Dev nD) (t : Fin cfg0.N) (y : S512x1024.Idx) :
    (k0_pay3 (iblk m c 0 t) (iblk m c 2 t) (iblk m c 1 t) (iblk m c 3 t) (iblk m c 4 t) (iblk m c 5 t) : S512x1024.Idx → EReal) y
      = (G (Y (V m c main_arg0) (V m c main_arg1) (V m c main_arg2)) (V m c main_arg3) (V m c main_arg4) (V m c main_arg5)) (ix2 (row t (y 0)) (y 1)) := by
  rw [pay3_apply]
  exact val_of (k0_pay1 (iblk m c 0 t) (iblk m c 2 t) (iblk m c 1 t)) (Y (V m c main_arg0) (V m c main_arg1) (V m c main_arg2)) (y 0) (row t (y 0)) (y 1) _ _ _ _ _ _ y rfl rfl
    (fun k => val6 m c t (ix2 (y 0) k)) (blk3 m c t (y 1)) (blk4 m c t (y 1)) (blk5 m c t (y 1))

/-- What a point writes back to result 0 is its block of it. -/
theorem flushed6_eq (c : Dev nD) (t : Fin cfg0.N) :
    (dats m 0 c).flushed 6 t = ((cfg0.win 6).blk t).view.read (Elt Ideal) (Y (V m c main_arg0) (V m c main_arg1) (V m c main_arg2)) := by
  rw [Value.flushed6, out6_eq]
  funext y
  refine (val6 m c t y).trans ?_
  show _ = (Y (V m c main_arg0) (V m c main_arg1) (V m c main_arg2)) (((cfg0.win 6).blk t).view.emb y)
  rw [emb6]

/-- An entry whose row lies in the block is in the block. -/
theorem mem_blk6 (t : Fin cfg0.N) (i : S4096x1024.Idx)
    (h : t.val * 512 ≤ (i 0 : Nat) ∧ (i 0 : Nat) < t.val * 512 + 512) :
    i ∈ ((cfg0.win 6).blk t).view.set := by
  have h6 := idx6 t
  show i ∈ ((View.whole main_v0_0).slice (win0_6.rect t)).set
  rw [View.set_slice_whole, Rect.mem_set_unit]
  intro a
  match a with
  | ⟨0, _⟩ => show win0_6.index t 0 * 512 ≤ (i 0 : Nat) ∧ (i 0 : Nat) < win0_6.index t 0 * 512 + 512
              rw [h6.1]; exact h
  | ⟨1, _⟩ => show win0_6.index t 1 * 1024 ≤ (i 1 : Nat) ∧ (i 1 : Nat) < win0_6.index t 1 * 1024 + 1024
              rw [h6.2, Nat.zero_mul, Nat.zero_add]; exact ⟨Nat.zero_le _, (i 1).isLt⟩

/-- What a point writes back to result 1 is its block of it. -/
theorem flushed7_eq (c : Dev nD) (t : Fin cfg0.N) :
    (dats m 0 c).flushed 7 t = ((cfg0.win 7).blk t).view.read (Elt Ideal) (G (Y (V m c main_arg0) (V m c main_arg1) (V m c main_arg2)) (V m c main_arg3) (V m c main_arg4) (V m c main_arg5)) := by
  rw [Value.flushed7, out7_eq]
  funext y
  refine (val7 m c t y).trans ?_
  show _ = (G (Y (V m c main_arg0) (V m c main_arg1) (V m c main_arg2)) (V m c main_arg3) (V m c main_arg4) (V m c main_arg5)) (((cfg0.win 7).blk t).view.emb y)
  rw [emb7]

/-- An entry whose row lies in the block is in the block. -/
theorem mem_blk7 (t : Fin cfg0.N) (i : S4096x1024.Idx)
    (h : t.val * 512 ≤ (i 0 : Nat) ∧ (i 0 : Nat) < t.val * 512 + 512) :
    i ∈ ((cfg0.win 7).blk t).view.set := by
  have h6 := idx7 t
  show i ∈ ((View.whole main_v0_1).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512
              rw [h6.1]; exact h
  | ⟨1, _⟩ => show win0_7.index t 1 * 1024 ≤ (i 1 : Nat) ∧ (i 1 : Nat) < win0_7.index t 1 * 1024 + 1024
              rw [h6.2, Nat.zero_mul, Nat.zero_add]; exact ⟨Nat.zero_le _, (i 1).isLt⟩

/-- The block of a row is one of the grid. -/
theorem row_lt (i : S4096x1024.Idx) : (i 0).val / 512 < cfg0.N :=
  lt_of_lt_of_eq (Nat.div_lt_of_lt_mul (i 0).isLt) N_0.symm

/-- A row lies in its block. -/
theorem row_in (n : ℕ) : n / 512 * 512 ≤ n ∧ n < n / 512 * 512 + 512 := by omega

/-- Result array 0 after the run. -/
theorem final6 (c : Dev nD) : (dats m 0 c).arrAt 6 cfg0.N = (Y (V m c main_arg0) (V m c main_arg1) (V m c main_arg2)) :=
  (dats m 0 c).arrAt_eq_of_cover 6 _ (fun t _ => flushed6_eq m c t) (fun i => ⟨⟨_, row_lt i⟩, flush0_6 _, mem_blk6 _ i (row_in _)⟩)

/-- Result array 1 after the run. -/
theorem final7 (c : Dev nD) : (dats m 0 c).arrAt 7 cfg0.N = (G (Y (V m c main_arg0) (V m c main_arg1) (V m c main_arg2)) (V m c main_arg3) (V m c main_arg4) (V m c main_arg5)) :=
  (dats m 0 c).arrAt_eq_of_cover 7 _ (fun t _ => flushed7_eq m c t) (fun i => ⟨⟨_, row_lt i⟩, flush0_7 _, mem_blk7 _ i (row_in _)⟩)

end Cert.Norm2Ideal.Entry

namespace Cert.Norm2RefIdeal.Entry

open Cert.Norm2RefIdeal Cert.Norm2RefIdeal.Gen Idealize.ShloMosaic Idealize.ShloMosaic.TcCoe Idealize.SL.Sem

/-- The reference's gated addition is the same function of its arguments. -/
theorem ref_add (X mo : Vec Ideal S4096x1024 .f32) (gt : Vec Ideal S1x1024 .f32) :
    (addf X (mulf (broadcastInDim S4096x1024 ![0, 1] bcast_S1x1024_S4096x1024_0_1 gt) mo) : FVec Ideal S4096x1024 .f32)
      = Cert.Norm2Ideal.Entry.Y X mo gt := by
  funext i
  unfold Cert.Norm2Ideal.Entry.Y
  pointwise

/-- The reference's second result is the same function of its arguments. -/
theorem ref_eq (X mo : Vec Ideal S4096x1024 .f32) (gt w sc sh : Vec Ideal S1x1024 .f32) :
    (truncf .bf16 (addf (mulf (mulf (mulf (addf X (mulf (broadcastInDim S4096x1024 ![0, 1] bcast_S1x1024_S4096x1024_0_1 gt) mo)) (broadcastInDim S4096x1024 ![0, 1] bcast_S4096x1_S4096x1024_0_1 (Host.rsqrt (addf (Host.divf (broadcastInDim S4096x1 ![0] bcast_S4096_S4096x1_0 (Host.reduceAdd (mulf (addf X (mulf (broadcastInDim S4096x1024 ![0, 1] bcast_S1x1024_S4096x1024_0_1 gt) mo)) (addf X (mulf (broadcastInDim S4096x1024 ![0, 1] bcast_S1x1024_S4096x1024_0_1 gt) mo))) (constant (F := Ideal) S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 w)) (broadcastInDim S4096x1024 ![0, 1] bcast_S1x1024_S4096x1024_0_1 (addf (broadcastInDim S1x1024 ![] bcast_S_S1x1024 (constant S_ .f32 0x3F800000#32)) sc))) (broadcastInDim S4096x1024 ![0, 1] bcast_S1x1024_S4096x1024_0_1 sh)) bitsLt_bf16_f32 : FVec Ideal S4096x1024 .bf16)
      = Cert.Norm2Ideal.Entry.G (Cert.Norm2Ideal.Entry.Y X mo gt) w sc sh := by
  funext i
  unfold Cert.Norm2Ideal.Entry.G Cert.Norm2Ideal.Entry.R Cert.Norm2Ideal.Entry.Y
  pointwise

end Cert.Norm2RefIdeal.Entry

namespace Cert.Proof

open Idealize.ShloMosaic Idealize.ShloMosaic.TcCoe Idealize.SL.Sem

/-- The second normalisation: kernel and reference end with equal results. -/
theorem algebraic_norm2 : Cert.algebraic_Norm2Ideal_Norm2RefIdeal := by
  intro m ρ m' ρ' _ hag
  refine ⟨fun c => Cert.Norm2Ideal.Entry.Y (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)),
    fun c => Cert.Norm2Ideal.Entry.G (Cert.Norm2Ideal.Entry.Y (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2))) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5)),
    (θ_run Cert.Norm2Ideal.defs _ _).mono (fun _ h c => ⟨(h c).1.trans (Cert.Norm2Ideal.Entry.final6 m c), (h c).2.1.trans (Cert.Norm2Ideal.Entry.final7 m c), (h c).2.2.2⟩) (Cert.Norm2Ideal.Value.run_blocks (F := Ideal) m ρ),
    (θ_run Cert.Norm2RefIdeal.defs _ _).mono (fun _ h c => ⟨?_, ?_, (h c).2.2⟩) (Cert.Norm2RefIdeal.Value.run (F := Ideal) m' ρ')⟩
  · refine (h c).1.trans ((Cert.Norm2RefIdeal.Entry.ref_add _ _ _).trans ?_)
    rw [(hag c).1, (hag c).2.1, (hag c).2.2.1]
  · refine (h c).2.1.trans ((Cert.Norm2RefIdeal.Entry.ref_eq _ _ _ _ _ _).trans ?_)
    rw [(hag c).1, (hag c).2.1, (hag c).2.2.1, (hag c).2.2.2.1, (hag c).2.2.2.2.1, (hag c).2.2.2.2.2]

/-- The reference leaves its arguments as they were. -/
theorem frame_norm2_ref : Cert.quiescent_Norm2RefIdeal := by
  intro m ρ _
  exact (θ_run Cert.Norm2RefIdeal.defs _ _).mono (fun r h => ⟨fun c => (h c).2.2,
      Idealize.ShloMosaic.sem_eq_zero_of_no_sems (by decide) r.2⟩)
    (Cert.Norm2RefIdeal.Value.run (F := Ideal) m ρ)

end Cert.Proof

end
-- ==== Proof.Norm2Dx.lean ====
/-
  The gradients of the second normalisation's scale, shift and weight: the kernel `norm2_bwd` takes the rows in 8 blocks of 512
  and adds up each gradient from block to block, the reference takes everything in one piece. The three sums agree at every entry.
-/
module

public import proofs.«01_k».proof.Defs
public import proofs.«01_k».proof.Proof.Gen.Norm2DxIdeal.Value
public import proofs.«01_k».proof.Proof.Gen.Norm2DxRefIdeal
public import proofs.«01_k».proof.Proof.Gen.Norm2DxRefIdeal.Run
public import Idealize.ShloMosaic.Lib.Pipeline.Value
public import Idealize.ShloMosaic.Lib.Pointwise
public import Idealize.ShloMosaic.Lib.Tactic

@[expose] public section

noncomputable section

namespace Cert.Norm2DxIdeal.Entry

open Cert.Norm2DxIdeal Cert.Norm2DxIdeal.Gen Idealize.ShloMosaic Idealize.ShloMosaic.TcCoe Idealize.SL.Sem
open Idealize.ShloMosaic.Pipeline (Dat)

variable (m : (ℓ : Loc nD τ sig) → Buf (Elt Ideal) ℓ)

/-- The zero corner. -/
theorem hz : (![0, 0] : Fin 2 → Nat) = fun _ => 0 := funext fun a => by fin_cases a <;> rfl

/-! ## What one point leaves -/

/-- Result block at the first point: a plain store. -/
theorem out_A_9 (c : Dev nD) (i : grid0.Coords) a1 h1 a2 h2 a3 h3 a4 h4 a5 h5 a6 h6 a7 h7 a8 h8 a9 h9 a10 h10 a11 h11 a12 h12 a13 h13 a14 h14 q0 q1 q2 q3 q4 q5 q6 q7
    (x0 x1 : Vec Ideal S512x1024 .f32) (x2 : Vec Ideal S512x1 .f32) (x3 x4 : Vec Ideal S1x1024 .f32) (x5 x6 : Vec Ideal S512x1024 .f32) (x7 : Vec Ideal S1x1024 .f32) :
    out0_A_9 c i a1 h1 a2 h2 a3 h3 a4 h4 a5 h5 a6 h6 a7 h7 a8 h8 a9 h9 a10 h10 a11 h11 a12 h12 a13 h13 a14 h14 q0 q1 q2 q3 q4 q5 q6 q7 x0 x1 x2 x3 x4 x5 x6 x7 = k0_pay8 x0 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 q0 q1 q2 q3 q4 q5 q6 q7 x0 x1 x2 x3 x4 x5 x6 x7)]
  unfold kernelRun0_A
  dsimp only
  rw [View.canon_unit_zero hz]
  simp only [View.readAt_eq_ld, h1.read_unread, h2.read_unread, h3.read_unread, h4.read_unread, h5.read_unread, h6.read_unread, h7.read_unread, h8.read_unread, View.ld_unit_zero (S := S512x1024) hz, View.ld_unit_zero (S := S512x1) hz, View.ld_unit_zero (S := S1x1024) hz]

/-- Result block at a later point: what it held and the new part. -/
theorem out_B_9 (c : Dev nD) (i : grid0.Coords) a1 h1 a2 h2 a3 h3 a4 h4 a5 h5 a6 h6 a7 h7 a8 h8 a9 h9 a10 h10 a11 h11 a12 h12 a13 h13 a14 h14 q0 q1 q2 q3 q4 q5 q6 q7
    (x0 x1 : Vec Ideal S512x1024 .f32) (x2 : Vec Ideal S512x1 .f32) (x3 x4 : Vec Ideal S1x1024 .f32) (x5 x6 : Vec Ideal S512x1024 .f32) (x7 : Vec Ideal S1x1024 .f32) (o9 o10 o11 o13 : Vec Ideal S1x1024 .f32) :
    out0_B_9 c i a1 h1 a2 h2 a3 h3 a4 h4 a5 h5 a6 h6 a7 h7 a8 h8 a9 h9 a10 h10 a11 h11 a12 h12 a13 h13 a14 h14 q0 q1 q2 q3 q4 q5 q6 q7 x0 x1 x2 x3 x4 x5 x6 x7 o9 o10 o11 o13 = k0_pay9 x0 o9 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 q0 q1 q2 q3 q4 q5 q6 q7 x0 x1 x2 x3 x4 x5 x6 x7 o9 o10 o11 o13)]
  unfold kernelRun0_B
  dsimp only
  rw [View.canon_unit_zero hz]
  simp only [View.readAt_eq_ld, h1.read_unread, h2.read_unread, h3.read_unread, h4.read_unread, h5.read_unread, h6.read_unread, h7.read_unread, h8.read_unread, h10.read_unread, h11.read_unread, h12.read_unread, h14.read_unread, View.ld_unit_zero (S := S512x1024) hz, View.ld_unit_zero (S := S512x1) hz, View.ld_unit_zero (S := S1x1024) hz]

/-- Result block at the first point: a plain store. -/
theorem out_A_10 (c : Dev nD) (i : grid0.Coords) a1 h1 a2 h2 a3 h3 a4 h4 a5 h5 a6 h6 a7 h7 a8 h8 a9 h9 a10 h10 a11 h11 a12 h12 a13 h13 a14 h14 q0 q1 q2 q3 q4 q5 q6 q7
    (x0 x1 : Vec Ideal S512x1024 .f32) (x2 : Vec Ideal S512x1 .f32) (x3 x4 : Vec Ideal S1x1024 .f32) (x5 x6 : Vec Ideal S512x1024 .f32) (x7 : Vec Ideal S1x1024 .f32) :
    out0_A_10 c i a1 h1 a2 h2 a3 h3 a4 h4 a5 h5 a6 h6 a7 h7 a8 h8 a9 h9 a10 h10 a11 h11 a12 h12 a13 h13 a14 h14 q0 q1 q2 q3 q4 q5 q6 q7 x0 x1 x2 x3 x4 x5 x6 x7 = k0_pay10 x0 x2 x1 x3 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 q0 q1 q2 q3 q4 q5 q6 q7 x0 x1 x2 x3 x4 x5 x6 x7)]
  unfold kernelRun0_A
  dsimp only
  rw [View.canon_unit_zero hz]
  simp only [View.readAt_eq_ld, h1.read_unread, h2.read_unread, h3.read_unread, h4.read_unread, h5.read_unread, h6.read_unread, h7.read_unread, h8.read_unread, View.ld_unit_zero (S := S512x1024) hz, View.ld_unit_zero (S := S512x1) hz, View.ld_unit_zero (S := S1x1024) hz]

/-- Result block at a later point: what it held and the new part. -/
theorem out_B_10 (c : Dev nD) (i : grid0.Coords) a1 h1 a2 h2 a3 h3 a4 h4 a5 h5 a6 h6 a7 h7 a8 h8 a9 h9 a10 h10 a11 h11 a12 h12 a13 h13 a14 h14 q0 q1 q2 q3 q4 q5 q6 q7
    (x0 x1 : Vec Ideal S512x1024 .f32) (x2 : Vec Ideal S512x1 .f32) (x3 x4 : Vec Ideal S1x1024 .f32) (x5 x6 : Vec Ideal S512x1024 .f32) (x7 : Vec Ideal S1x1024 .f32) (o9 o10 o11 o13 : Vec Ideal S1x1024 .f32) :
    out0_B_10 c i a1 h1 a2 h2 a3 h3 a4 h4 a5 h5 a6 h6 a7 h7 a8 h8 a9 h9 a10 h10 a11 h11 a12 h12 a13 h13 a14 h14 q0 q1 q2 q3 q4 q5 q6 q7 x0 x1 x2 x3 x4 x5 x6 x7 o9 o10 o11 o13 = k0_pay11 x0 x2 x1 x3 o10 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 q0 q1 q2 q3 q4 q5 q6 q7 x0 x1 x2 x3 x4 x5 x6 x7 o9 o10 o11 o13)]
  unfold kernelRun0_B
  dsimp only
  rw [View.canon_unit_zero hz]
  simp only [View.readAt_eq_ld, h1.read_unread, h2.read_unread, h3.read_unread, h4.read_unread, h5.read_unread, h6.read_unread, h7.read_unread, h8.read_unread, h10.read_unread, h11.read_unread, h12.read_unread, h14.read_unread, View.ld_unit_zero (S := S512x1024) hz, View.ld_unit_zero (S := S512x1) hz, View.ld_unit_zero (S := S1x1024) hz]

/-- Result block at the first point: a plain store. -/
theorem out_A_11 (c : Dev nD) (i : grid0.Coords) a1 h1 a2 h2 a3 h3 a4 h4 a5 h5 a6 h6 a7 h7 a8 h8 a9 h9 a10 h10 a11 h11 a12 h12 a13 h13 a14 h14 q0 q1 q2 q3 q4 q5 q6 q7
    (x0 x1 : Vec Ideal S512x1024 .f32) (x2 : Vec Ideal S512x1 .f32) (x3 x4 : Vec Ideal S1x1024 .f32) (x5 x6 : Vec Ideal S512x1024 .f32) (x7 : Vec Ideal S1x1024 .f32) :
    out0_A_11 c i a1 h1 a2 h2 a3 h3 a4 h4 a5 h5 a6 h6 a7 h7 a8 h8 a9 h9 a10 h10 a11 h11 a12 h12 a13 h13 a14 h14 q0 q1 q2 q3 q4 q5 q6 q7 x0 x1 x2 x3 x4 x5 x6 x7 = k0_pay13 x0 x2 x1 x4 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 q0 q1 q2 q3 q4 q5 q6 q7 x0 x1 x2 x3 x4 x5 x6 x7)]
  unfold kernelRun0_A
  dsimp only
  rw [View.canon_unit_zero hz]
  simp only [kernelRun0_A.sl.r_4, View.readAt_eq_ld, h1.read_unread, h2.read_unread, h3.read_unread, h4.read_unread, h5.read_unread, h6.read_unread, h7.read_unread, h8.read_unread, View.ld_unit_zero (S := S512x1024) hz, View.ld_unit_zero (S := S512x1) hz, View.ld_unit_zero (S := S1x1024) hz]

/-- Result block at a later point: what it held and the new part. -/
theorem out_B_11 (c : Dev nD) (i : grid0.Coords) a1 h1 a2 h2 a3 h3 a4 h4 a5 h5 a6 h6 a7 h7 a8 h8 a9 h9 a10 h10 a11 h11 a12 h12 a13 h13 a14 h14 q0 q1 q2 q3 q4 q5 q6 q7
    (x0 x1 : Vec Ideal S512x1024 .f32) (x2 : Vec Ideal S512x1 .f32) (x3 x4 : Vec Ideal S1x1024 .f32) (x5 x6 : Vec Ideal S512x1024 .f32) (x7 : Vec Ideal S1x1024 .f32) (o9 o10 o11 o13 : Vec Ideal S1x1024 .f32) :
    out0_B_11 c i a1 h1 a2 h2 a3 h3 a4 h4 a5 h5 a6 h6 a7 h7 a8 h8 a9 h9 a10 h10 a11 h11 a12 h12 a13 h13 a14 h14 q0 q1 q2 q3 q4 q5 q6 q7 x0 x1 x2 x3 x4 x5 x6 x7 o9 o10 o11 o13 = k0_pay1 (k0_pay13 x0 x2 x1 x4) o11 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 q0 q1 q2 q3 q4 q5 q6 q7 x0 x1 x2 x3 x4 x5 x6 x7 o9 o10 o11 o13)]
  unfold kernelRun0_B
  dsimp only
  rw [View.canon_unit_zero hz]
  simp only [kernelRun0_B.sl.r_4, View.readAt_eq_ld, h1.read_unread, h2.read_unread, h3.read_unread, h4.read_unread, h5.read_unread, h6.read_unread, h7.read_unread, h8.read_unread, h10.read_unread, h11.read_unread, h12.read_unread, h14.read_unread, View.ld_unit_zero (S := S512x1024) hz, View.ld_unit_zero (S := S512x1) hz, View.ld_unit_zero (S := S1x1024) hz]

/-! ## The three sums, entry by entry -/

/-- One over the root of the mean square of a row whose squares sum to `s`. -/
def R (s : EReal) : EReal := Ideal.rsqrt (Ideal.div s (Ideal.ofBits .f32 0x44800000#32) + Ideal.ofBits .f32 0x358637BD#32)

/-- The sum of a row's squares. -/
def Q (X : S4096x1024.Idx → EReal) (r : Fin 4096) : EReal := ∑ k : Fin 1024, X (ix2 r k) * X (ix2 r k)

/-- The normalised rows. -/
def N (X : S4096x1024.Idx → EReal) : S4096x1024.Idx → EReal :=
  fun i => X i * R (Q X (i 0))

/-- What a row adds to the scale's gradient. -/
def T8 (dh X : S4096x1024.Idx → EReal) (w : S1x1024.Idx → EReal) : S4096x1024.Idx → EReal :=
  fun i => dh i * (N X i * w (ix2 0 (i 1)))

/-- What a row adds to the weight's gradient. -/
def T9 (dh X : S4096x1024.Idx → EReal) (sc : S1x1024.Idx → EReal) : S4096x1024.Idx → EReal :=
  fun i => dh i * (1 + sc (ix2 0 (i 1))) * N X i

/-- A gradient: the sum over the rows. -/
def S (T : S4096x1024.Idx → EReal) : S1x1024.Idx → EReal := fun i => ∑ k : Fin 4096, T (ix2 k (i 1))

/-- A vector seen as one row. -/
theorem row_cast {α : Type} (v : S1024.Idx → α) (h : S1024.ShapeCasts S1x1024) (i : S1x1024.Idx) :
    shapeCast S1x1024 v h i = v (ix1 (i 1)) :=
  congrArg v (Shape.reshapeEquiv_eq_of_vals h i (ix1 (i 1)) (i 1).val ((i 0).val * 1024 + (i 1).val) (rowMajor_val1 _)
    (rowMajor_val2 _ 1024 rfl) (by have h0 : (i 0).val < 1 := (i 0).isLt; omega))

/-- A sum along a row, the entries named the same way on both sides. -/
theorem sum_cast (v : FVec Ideal S512x1024 .f32) (y : S1x1024.Idx) :
    (shapeCast S1x1024 (multiReduction (F := Ideal) .add [0] S1024 v 0x00000000#32 reduces_S512x1024_S1024 (.inl rfl) rfl) shapeCasts_S1024_S1x1024 : S1x1024.Idx → EReal) y
      = ∑ k : Fin 512, v (ix2 k (y 1)) := by
  rw [row_cast]
  pointwise

/-- The rows of a block, normalised with the factors the host has computed. -/
theorem pay4_apply (x2 : Vec Ideal S512x1 .f32) (x1 : Vec Ideal S512x1024 .f32) (y : S512x1024.Idx) :
    (k0_pay7 x2 x1 : S512x1024.Idx → EReal) y = x1 y * x2 (ix2 (y 0) 0) := by
  unfold k0_pay7 k0_pay6
  rw [shapeCast_self]
  pointwise

/-- What the body computes, at one entry. -/
theorem pay5_apply (x0 : Vec Ideal S512x1024 .f32) (y : S1x1024.Idx) :
    (k0_pay8 x0 : S1x1024.Idx → EReal) y = ∑ k : Fin 512, x0 (ix2 k (y 1)) := sum_cast x0 y

/-- What the body computes, at one entry. -/
theorem pay7_apply (x0 x1 : Vec Ideal S512x1024 .f32) (x2 : Vec Ideal S512x1 .f32) (x3 : Vec Ideal S1x1024 .f32) (y : S1x1024.Idx) :
    (k0_pay10 x0 x2 x1 x3 : S1x1024.Idx → EReal) y
      = ∑ k : Fin 512, x0 (ix2 k (y 1)) * (x1 (ix2 k (y 1)) * x2 (ix2 k 0) * x3 (ix2 0 (y 1))) := by
  refine (sum_cast _ y).trans ?_
  refine Finset.sum_congr rfl fun k _ => ?_
  have e := pay4_apply x2 x1 (ix2 k (y 1))
  generalize k0_pay7 x2 x1 = p at e ⊢
  refine Eq.trans ?_ (congrArg (fun r => x0 (ix2 k (y 1)) * (r * x3 (ix2 0 (y 1)))) e)
  pointwise

/-- What the body computes, at one entry. -/
theorem pay10_apply (x0 x1 : Vec Ideal S512x1024 .f32) (x2 : Vec Ideal S512x1 .f32) (x4 : Vec Ideal S1x1024 .f32) (y : S1x1024.Idx) :
    (k0_pay13 x0 x2 x1 x4 : S1x1024.Idx → EReal) y
      = ∑ k : Fin 512, x0 (ix2 k (y 1)) * (1 + x4 (ix2 0 (y 1))) * (x1 (ix2 k (y 1)) * x2 (ix2 k 0)) := by
  refine (sum_cast _ y).trans ?_
  refine Finset.sum_congr rfl fun k _ => ?_
  have e := pay4_apply x2 x1 (ix2 k (y 1))
  generalize k0_pay7 x2 x1 = p at e ⊢
  refine Eq.trans ?_ (congrArg (fun r => x0 (ix2 k (y 1)) * (1 + x4 (ix2 0 (y 1))) * r) e)
  unfold k0_pay12
  pointwise

/-- The sum of two rows, at one entry. -/
theorem add_apply (u v : FVec Ideal S1x1024 .f32) (y : S1x1024.Idx) :
    (addf (shapeCast S1x1024 u shapeCasts_S1x1024_S1x1024) v : S1x1024.Idx → EReal) y = u y + v y := by
  rw [shapeCast_self]
  rfl

/-- What the body computes, at one entry. -/
theorem pay6_apply (x0 : Vec Ideal S512x1024 .f32) (u : Vec Ideal S1x1024 .f32) (y : S1x1024.Idx) :
    (k0_pay9 x0 u : S1x1024.Idx → EReal) y = u y + (k0_pay8 x0 : S1x1024.Idx → EReal) y := add_apply u _ y

/-- What the body computes, at one entry. -/
theorem pay8_apply (x0 x1 : Vec Ideal S512x1024 .f32) (x2 : Vec Ideal S512x1 .f32) (x3 : Vec Ideal S1x1024 .f32) (u : Vec Ideal S1x1024 .f32) (y : S1x1024.Idx) :
    (k0_pay11 x0 x2 x1 x3 u : S1x1024.Idx → EReal) y = u y + (k0_pay10 x0 x2 x1 x3 : S1x1024.Idx → EReal) y := add_apply u _ y

/-- What the body computes, at one entry. -/
theorem pay1_apply (v : FVec Ideal S1x1024 .f32) (u : Vec Ideal S1x1024 .f32) (y : S1x1024.Idx) :
    (k0_pay1 v u : S1x1024.Idx → EReal) y = u y + v y := add_apply u v y

/-! ## The blocks of a point in the arrays -/

/-- The factors the host computes before the call, as it writes them. -/
def fac (X : Vec Ideal S4096x1024 .f32) : FVec Ideal S4096x1 .f32 := (Host.rsqrt (addf (Host.divf (broadcastInDim S4096x1 ![0] bcast_S4096_S4096x1_0 (Host.reduceAdd (mulf X X) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32))))

/-- The saved factor is the array the host lines leave. -/
theorem V_factor (c : Dev nD) : V m c main_v7 = fac (m ((c : Thread nD τ).loc main_arg1)) := by
  unfold fac
  show StableHlo.after hostOps0 (fun b => m (c, b)) (Proc.devRef .tc main_v7) = _
  unfold hostOps0
  after_results

/-- The saved factor, at one row. -/
theorem factor_apply (X : Vec Ideal S4096x1024 .f32) (i : S4096x1.Idx) :
    (fac X : S4096x1.Idx → EReal) i = R (Q X (i 0)) := by
  unfold fac R Q
  pointwise

/-- Where the block of point `t` lies. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Where the block of point `t` lies. -/
theorem idx1 : ∀ t : Fin cfg0.N, win0_1.index t 0 = t.val ∧ win0_1.index t 1 = 0 :=
  (by decide +kernel : ∀ t : Fin grid0.N, win0_1.index t 0 = t.val ∧ win0_1.index t 1 = 0)

/-- Where the block of point `t` lies. -/
theorem idx2 : ∀ t : Fin cfg0.N, win0_2.index t 0 = t.val ∧ win0_2.index t 1 = 0 :=
  (by decide +kernel : ∀ t : Fin grid0.N, win0_2.index t 0 = t.val ∧ win0_2.index t 1 = 0)

/-- Where the block of point `t` lies. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Where the block of point `t` lies. -/
theorem idx4 : ∀ t : Fin cfg0.N, win0_4.index t 0 = 0 ∧ win0_4.index t 1 = 0 :=
  (by decide +kernel : ∀ t : Fin grid0.N, win0_4.index t 0 = 0 ∧ win0_4.index t 1 = 0)

/-- Where the block of point `t` lies. -/
theorem idx9 : ∀ t : Fin cfg0.N, win0_9.index t 0 = 0 ∧ win0_9.index t 1 = 0 :=
  (by decide +kernel : ∀ t : Fin grid0.N, win0_9.index t 0 = 0 ∧ win0_9.index t 1 = 0)

/-- Where the block of point `t` lies. -/
theorem idx10 : ∀ t : Fin cfg0.N, win0_10.index t 0 = 0 ∧ win0_10.index t 1 = 0 :=
  (by decide +kernel : ∀ t : Fin grid0.N, win0_10.index t 0 = 0 ∧ win0_10.index t 1 = 0)

/-- Where the block of point `t` lies. -/
theorem idx11 : ∀ t : Fin cfg0.N, win0_11.index t 0 = 0 ∧ win0_11.index t 1 = 0 :=
  (by decide +kernel : ∀ t : Fin grid0.N, win0_11.index t 0 = 0 ∧ win0_11.index t 1 = 0)

/-- The row is in the array. -/
theorem row_ok (t : Fin cfg0.N) (k : Fin 512) : t.val * 512 + k.val < 4096 := by
  have ht : t.val < 8 := lt_of_lt_of_eq t.isLt N_0
  omega

/-- Row `k` of block `t`. -/
def row (t : Fin cfg0.N) (k : Fin 512) : Fin 4096 := ⟨t.val * 512 + k.val, row_ok t k⟩

/-- An entry of the block of point `t`, in the whole array. -/
theorem blk0 (c : Dev nD) (t : Fin cfg0.N) (k : Fin 512) (j : Fin 1024) : iblk m c 0 t (ix2 k j) = m ((c : Thread nD τ).loc main_arg0) (ix2 (row t k) j) := by
  obtain ⟨h0, h1⟩ := idx0 t
  rw [← V_main_arg0 m c]
  show V m c main_arg0 (((cfg0.win 0).blk t).view.emb (ix2 k j)) = _
  congr 1; funext a; apply Fin.ext
  match a with
  | ⟨0, _⟩ => show win0_0.index t 0 * 512 + 1 * k.val = t.val * 512 + k.val; omega
  | ⟨1, _⟩ => show win0_0.index t 1 * 1024 + 1 * j.val = j.val; omega

/-- An entry of the block of point `t`, in the whole array. -/
theorem blk1 (c : Dev nD) (t : Fin cfg0.N) (k : Fin 512) (j : Fin 1024) : iblk m c 1 t (ix2 k j) = m ((c : Thread nD τ).loc main_arg1) (ix2 (row t k) j) := by
  obtain ⟨h0, h1⟩ := idx1 t
  rw [← V_main_arg1 m c]
  show V m c main_arg1 (((cfg0.win 1).blk t).view.emb (ix2 k j)) = _
  congr 1; funext a; apply Fin.ext
  match a with
  | ⟨0, _⟩ => show win0_1.index t 0 * 512 + 1 * k.val = t.val * 512 + k.val; omega
  | ⟨1, _⟩ => show win0_1.index t 1 * 1024 + 1 * j.val = j.val; omega

/-- An entry of the block of point `t`, in the whole array. -/
theorem blk2 (c : Dev nD) (t : Fin cfg0.N) (k : Fin 512) : (iblk m c 2 t : S512x1.Idx → EReal) (ix2 k 0)
    = R (Q (m ((c : Thread nD τ).loc main_arg1)) (row t k)) := by
  obtain ⟨h0, h1⟩ := idx2 t
  refine Eq.trans ?_ (factor_apply (m ((c : Thread nD τ).loc main_arg1)) (ix2 (row t k) 0))
  rw [show fac (m ((c : Thread nD τ).loc main_arg1)) = V m c main_v7 from (V_factor m c).symm]
  show V m c main_v7 (((cfg0.win 2).blk t).view.emb (ix2 k 0)) = _
  congr 1; funext a; apply Fin.ext
  match a with
  | ⟨0, _⟩ => show win0_2.index t 0 * 512 + 1 * k.val = t.val * 512 + k.val; omega
  | ⟨1, _⟩ => show win0_2.index t 1 * 1 + 1 * 0 = 0; omega

/-- An entry of the block of point `t`, in the whole array. -/
theorem blk3 (c : Dev nD) (t : Fin cfg0.N) (j : Fin 1024) : iblk m c 3 t (ix2 0 j) = m ((c : Thread nD τ).loc main_arg2) (ix2 0 j) := by
  obtain ⟨h0, h1⟩ := idx3 t
  rw [← V_main_arg2 m c]
  show V m c main_arg2 (((cfg0.win 3).blk t).view.emb (ix2 0 j)) = _
  congr 1; funext a; apply Fin.ext
  match a with
  | ⟨0, _⟩ => show win0_3.index t 0 * 1 + 1 * 0 = 0; omega
  | ⟨1, _⟩ => show win0_3.index t 1 * 1024 + 1 * j.val = j.val; omega

/-- An entry of the block of point `t`, in the whole array. -/
theorem blk4 (c : Dev nD) (t : Fin cfg0.N) (j : Fin 1024) : iblk m c 4 t (ix2 0 j) = m ((c : Thread nD τ).loc main_arg3) (ix2 0 j) := by
  obtain ⟨h0, h1⟩ := idx4 t
  rw [← V_main_arg3 m c]
  show V m c main_arg3 (((cfg0.win 4).blk t).view.emb (ix2 0 j)) = _
  congr 1; funext a; apply Fin.ext
  match a with
  | ⟨0, _⟩ => show win0_4.index t 0 * 1 + 1 * 0 = 0; omega
  | ⟨1, _⟩ => show win0_4.index t 1 * 1024 + 1 * j.val = j.val; omega

/-- An entry of the result block, in the whole array. -/
theorem emb9 (t : Fin cfg0.N) (y : S1x1024.Idx) : ((cfg0.win 9).blk t).view.emb y = y := by
  obtain ⟨h0, h1⟩ := idx9 t
  funext a; apply Fin.ext
  match a with
  | ⟨0, _⟩ => show win0_9.index t 0 * 1 + 1 * (y 0).val = (y 0).val; omega
  | ⟨1, _⟩ => show win0_9.index t 1 * 1024 + 1 * (y 1).val = (y 1).val; omega

/-- An entry of the result block, in the whole array. -/
theorem emb10 (t : Fin cfg0.N) (y : S1x1024.Idx) : ((cfg0.win 10).blk t).view.emb y = y := by
  obtain ⟨h0, h1⟩ := idx10 t
  funext a; apply Fin.ext
  match a with
  | ⟨0, _⟩ => show win0_10.index t 0 * 1 + 1 * (y 0).val = (y 0).val; omega
  | ⟨1, _⟩ => show win0_10.index t 1 * 1024 + 1 * (y 1).val = (y 1).val; omega

/-- An entry of the result block, in the whole array. -/
theorem emb11 (t : Fin cfg0.N) (y : S1x1024.Idx) : ((cfg0.win 11).blk t).view.emb y = y := by
  obtain ⟨h0, h1⟩ := idx11 t
  funext a; apply Fin.ext
  match a with
  | ⟨0, _⟩ => show win0_11.index t 0 * 1 + 1 * (y 0).val = (y 0).val; omega
  | ⟨1, _⟩ => show win0_11.index t 1 * 1024 + 1 * (y 1).val = (y 1).val; omega

/-! ## The three sums carried from point to point -/

/-- Row `x` of `T` at column `j` (nothing outside the array). -/
def term (T : S4096x1024.Idx → EReal) (j : Fin 1024) (x : ℕ) : EReal := if h : x < 4096 then T (ix2 ⟨x, h⟩ j) else 0

/-- The sum over the rows, block by block. -/
theorem S_eq (T : S4096x1024.Idx → EReal) (i : S1x1024.Idx) : S T i = ∑ x ∈ Finset.range ((7 + 1) * 512), term T (i 1) x := by
  show _ = ∑ x ∈ Finset.range 4096, term T (i 1) x
  rw [Finset.sum_range]
  refine Finset.sum_congr rfl fun k _ => ?_
  unfold term
  rw [dif_pos k.isLt]

/-- The rows of block `t`. -/
theorem block_sum (T : S4096x1024.Idx → EReal) (t : Fin cfg0.N) (j : Fin 1024) :
    ∑ k : Fin 512, T (ix2 (row t k) j) = ∑ x ∈ Finset.range 512, term T j (t.val * 512 + x) := by
  rw [Finset.sum_range]
  refine Finset.sum_congr rfl fun k _ => ?_
  unfold term
  rw [dif_pos (row_ok t k)]
  rfl

/-- Equal factors give equal shares of the scale's gradient. -/
theorem share_of8 (d x r w d' x' r' w' : EReal) (hd : d = d') (hx : x = x') (hr : r = r') (hw : w = w') :
    d * (x * r * w) = d' * (x' * r' * w') := by rw [hd, hx, hr, hw]

/-- Equal factors give equal shares of the weight's gradient. -/
theorem share_of9 (d x r s d' x' r' s' : EReal) (hd : d = d') (hx : x = x') (hr : r = r') (hs : s = s') :
    d * (1 + s) * (x * r) = d' * (1 + s') * (x' * r') := by rw [hd, hx, hr, hs]

/-- The part one block of rows adds. -/
theorem share9 (c : Dev nD) (t : Fin cfg0.N) (y : S1x1024.Idx) :
    (k0_pay8 (iblk m c 0 t) : S1x1024.Idx → EReal) y
      = ∑ x ∈ Finset.range 512, term (m ((c : Thread nD τ).loc main_arg0)) (y 1) (t.val * 512 + x) := by
  refine (pay5_apply _ y).trans (Eq.trans ?_ (block_sum (m ((c : Thread nD τ).loc main_arg0)) t (y 1)))
  exact Finset.sum_congr rfl (fun k _ => blk0 m c t k (y 1))

/-- After point `t` the carried row is the sum over the blocks so far. -/
theorem carried9 (c : Dev nD) : ∀ (n : ℕ) (h : n < cfg0.N), ∀ y : S1x1024.Idx,
    ((outsAt0 m c n h).2.1 : S1x1024.Idx → EReal) y
      = ∑ x ∈ Finset.range ((n + 1) * 512), term (m ((c : Thread nD τ).loc main_arg0)) (y 1) x := by
  intro n
  induction n with
  | zero =>
    intro h y
    rw [outsAt0_A m c ⟨0, h⟩ (Nat.zero_mod _) (by simp) (Nat.zero_mod _) (by simp) (Nat.zero_mod _) (by simp) (Nat.zero_mod _) (by simp)]
    dsimp only
    rw [out_A_9, share9 m c ⟨0, h⟩]
    simp
  | succ n ih =>
    intro h y
    have hn : n + 1 < 8 := lt_of_lt_of_eq h N_0
    have h0 : ¬(n + 1) % 8 = 0 := by omega
    rw [outsAt0_B m c ⟨n + 1, h⟩ h0 (by dsimp only; omega) h0 (by dsimp only; omega) h0 (by dsimp only; omega) h0 (by dsimp only; omega)]
    dsimp only
    rw [out_B_9, pay6_apply, share9 m c ⟨n + 1, h⟩]
    refine (congrArg (· + _) (ih (Nat.lt_of_succ_lt h) y)).trans ?_
    dsimp only
    rw [Nat.add_mul (n + 1) 1 512, Nat.one_mul, Finset.sum_range_add]

/-- What a point writes back is its block of the whole function. -/
theorem flushed_eq9 (c : Dev nD) (t : Fin cfg0.N) (hf : (cfg0.win 9).flush t = true) :
    (dats m 0 c).flushed 9 t = ((cfg0.win 9).blk t).view.read (Elt Ideal) (S (m ((c : Thread nD τ).loc main_arg0))) := by
  have h7 : t.val % 8 = 7 := (flush0_9 t).mp hf
  have ht : t.val < 8 := lt_of_lt_of_eq t.isLt N_0
  have hc := carried9 m c t.val t.isLt
  rw [Value.flushed9]
  generalize (outsAt0 m c t.val t.isLt).2.1 = acc at hc ⊢
  funext y
  refine (hc y).trans ?_
  show _ = S (m ((c : Thread nD τ).loc main_arg0)) (((cfg0.win 9).blk t).view.emb y)
  rw [emb9, S_eq, show t.val = 7 by omega]

/-- An entry whose row lies in the block is in the block. -/
theorem mem9 (t : Fin cfg0.N) (i : S1x1024.Idx) : i ∈ ((cfg0.win 9).blk t).view.set := by
  have h6 := idx9 t
  show i ∈ ((View.whole main_v8_1).slice (win0_9.rect t)).set
  rw [View.set_slice_whole, Rect.mem_set_unit]
  intro a
  match a with
  | ⟨0, _⟩ => show win0_9.index t 0 * 1 ≤ (i 0 : Nat) ∧ (i 0 : Nat) < win0_9.index t 0 * 1 + 1
              rw [h6.1, Nat.zero_mul, Nat.zero_add]; exact ⟨Nat.zero_le _, (i 0).isLt⟩
  | ⟨1, _⟩ => show win0_9.index t 1 * 1024 ≤ (i 1 : Nat) ∧ (i 1 : Nat) < win0_9.index t 1 * 1024 + 1024
              rw [h6.2, Nat.zero_mul, Nat.zero_add]; exact ⟨Nat.zero_le _, (i 1).isLt⟩

/-- The result array is the whole function of the arguments. -/
theorem final9 (c : Dev nD) : (dats m 0 c).arrAt 9 cfg0.N = S (m ((c : Thread nD τ).loc main_arg0)) :=
  (dats m 0 c).arrAt_eq_of_cover 9 _ (fun t hf => flushed_eq9 m c t hf)
    (fun i => ⟨⟨7, lt_of_lt_of_eq (by decide) N_0.symm⟩, (flush0_9 _).mpr rfl, mem9 _ i⟩)

/-- The part one block of rows adds. -/
theorem share10 (c : Dev nD) (t : Fin cfg0.N) (y : S1x1024.Idx) :
    (k0_pay10 (iblk m c 0 t) (iblk m c 2 t) (iblk m c 1 t) (iblk m c 3 t) : S1x1024.Idx → EReal) y
      = ∑ x ∈ Finset.range 512, term (T8 (m ((c : Thread nD τ).loc main_arg0)) (m ((c : Thread nD τ).loc main_arg1)) (m ((c : Thread nD τ).loc main_arg2))) (y 1) (t.val * 512 + x) := by
  refine (pay7_apply _ _ _ _ y).trans (Eq.trans ?_ (block_sum (T8 (m ((c : Thread nD τ).loc main_arg0)) (m ((c : Thread nD τ).loc main_arg1)) (m ((c : Thread nD τ).loc main_arg2))) t (y 1)))
  exact Finset.sum_congr rfl (fun k _ => share_of8 _ _ _ _ _ _ _ _ (blk0 m c t k (y 1)) (blk1 m c t k (y 1)) (blk2 m c t k) (blk3 m c t (y 1)))

/-- After point `t` the carried row is the sum over the blocks so far. -/
theorem carried10 (c : Dev nD) : ∀ (n : ℕ) (h : n < cfg0.N), ∀ y : S1x1024.Idx,
    ((outsAt0 m c n h).2.2.1 : S1x1024.Idx → EReal) y
      = ∑ x ∈ Finset.range ((n + 1) * 512), term (T8 (m ((c : Thread nD τ).loc main_arg0)) (m ((c : Thread nD τ).loc main_arg1)) (m ((c : Thread nD τ).loc main_arg2))) (y 1) x := by
  intro n
  induction n with
  | zero =>
    intro h y
    rw [outsAt0_A m c ⟨0, h⟩ (Nat.zero_mod _) (by simp) (Nat.zero_mod _) (by simp) (Nat.zero_mod _) (by simp) (Nat.zero_mod _) (by simp)]
    dsimp only
    rw [out_A_10, share10 m c ⟨0, h⟩]
    simp
  | succ n ih =>
    intro h y
    have hn : n + 1 < 8 := lt_of_lt_of_eq h N_0
    have h0 : ¬(n + 1) % 8 = 0 := by omega
    rw [outsAt0_B m c ⟨n + 1, h⟩ h0 (by dsimp only; omega) h0 (by dsimp only; omega) h0 (by dsimp only; omega) h0 (by dsimp only; omega)]
    dsimp only
    rw [out_B_10, pay8_apply, share10 m c ⟨n + 1, h⟩]
    refine (congrArg (· + _) (ih (Nat.lt_of_succ_lt h) y)).trans ?_
    dsimp only
    rw [Nat.add_mul (n + 1) 1 512, Nat.one_mul, Finset.sum_range_add]

/-- What a point writes back is its block of the whole function. -/
theorem flushed_eq10 (c : Dev nD) (t : Fin cfg0.N) (hf : (cfg0.win 10).flush t = true) :
    (dats m 0 c).flushed 10 t = ((cfg0.win 10).blk t).view.read (Elt Ideal) (S (T8 (m ((c : Thread nD τ).loc main_arg0)) (m ((c : Thread nD τ).loc main_arg1)) (m ((c : Thread nD τ).loc main_arg2)))) := by
  have h7 : t.val % 8 = 7 := (flush0_10 t).mp hf
  have ht : t.val < 8 := lt_of_lt_of_eq t.isLt N_0
  have hc := carried10 m c t.val t.isLt
  rw [Value.flushed10]
  generalize (outsAt0 m c t.val t.isLt).2.2.1 = acc at hc ⊢
  funext y
  refine (hc y).trans ?_
  show _ = S (T8 (m ((c : Thread nD τ).loc main_arg0)) (m ((c : Thread nD τ).loc main_arg1)) (m ((c : Thread nD τ).loc main_arg2))) (((cfg0.win 10).blk t).view.emb y)
  rw [emb10, S_eq, show t.val = 7 by omega]

/-- An entry whose row lies in the block is in the block. -/
theorem mem10 (t : Fin cfg0.N) (i : S1x1024.Idx) : i ∈ ((cfg0.win 10).blk t).view.set := by
  have h6 := idx10 t
  show i ∈ ((View.whole main_v8_2).slice (win0_10.rect t)).set
  rw [View.set_slice_whole, Rect.mem_set_unit]
  intro a
  match a with
  | ⟨0, _⟩ => show win0_10.index t 0 * 1 ≤ (i 0 : Nat) ∧ (i 0 : Nat) < win0_10.index t 0 * 1 + 1
              rw [h6.1, Nat.zero_mul, Nat.zero_add]; exact ⟨Nat.zero_le _, (i 0).isLt⟩
  | ⟨1, _⟩ => show win0_10.index t 1 * 1024 ≤ (i 1 : Nat) ∧ (i 1 : Nat) < win0_10.index t 1 * 1024 + 1024
              rw [h6.2, Nat.zero_mul, Nat.zero_add]; exact ⟨Nat.zero_le _, (i 1).isLt⟩

/-- The result array is the whole function of the arguments. -/
theorem final10 (c : Dev nD) : (dats m 0 c).arrAt 10 cfg0.N = S (T8 (m ((c : Thread nD τ).loc main_arg0)) (m ((c : Thread nD τ).loc main_arg1)) (m ((c : Thread nD τ).loc main_arg2))) :=
  (dats m 0 c).arrAt_eq_of_cover 10 _ (fun t hf => flushed_eq10 m c t hf)
    (fun i => ⟨⟨7, lt_of_lt_of_eq (by decide) N_0.symm⟩, (flush0_10 _).mpr rfl, mem10 _ i⟩)

/-- The part one block of rows adds. -/
theorem share11 (c : Dev nD) (t : Fin cfg0.N) (y : S1x1024.Idx) :
    (k0_pay13 (iblk m c 0 t) (iblk m c 2 t) (iblk m c 1 t) (iblk m c 4 t) : S1x1024.Idx → EReal) y
      = ∑ x ∈ Finset.range 512, term (T9 (m ((c : Thread nD τ).loc main_arg0)) (m ((c : Thread nD τ).loc main_arg1)) (m ((c : Thread nD τ).loc main_arg3))) (y 1) (t.val * 512 + x) := by
  refine (pay10_apply _ _ _ _ y).trans (Eq.trans ?_ (block_sum (T9 (m ((c : Thread nD τ).loc main_arg0)) (m ((c : Thread nD τ).loc main_arg1)) (m ((c : Thread nD τ).loc main_arg3))) t (y 1)))
  exact Finset.sum_congr rfl (fun k _ => share_of9 _ _ _ _ _ _ _ _ (blk0 m c t k (y 1)) (blk1 m c t k (y 1)) (blk2 m c t k) (blk4 m c t (y 1)))

/-- After point `t` the carried row is the sum over the blocks so far. -/
theorem carried11 (c : Dev nD) : ∀ (n : ℕ) (h : n < cfg0.N), ∀ y : S1x1024.Idx,
    ((outsAt0 m c n h).2.2.2.1 : S1x1024.Idx → EReal) y
      = ∑ x ∈ Finset.range ((n + 1) * 512), term (T9 (m ((c : Thread nD τ).loc main_arg0)) (m ((c : Thread nD τ).loc main_arg1)) (m ((c : Thread nD τ).loc main_arg3))) (y 1) x := by
  intro n
  induction n with
  | zero =>
    intro h y
    rw [outsAt0_A m c ⟨0, h⟩ (Nat.zero_mod _) (by simp) (Nat.zero_mod _) (by simp) (Nat.zero_mod _) (by simp) (Nat.zero_mod _) (by simp)]
    dsimp only
    rw [out_A_11, share11 m c ⟨0, h⟩]
    simp
  | succ n ih =>
    intro h y
    have hn : n + 1 < 8 := lt_of_lt_of_eq h N_0
    have h0 : ¬(n + 1) % 8 = 0 := by omega
    rw [outsAt0_B m c ⟨n + 1, h⟩ h0 (by dsimp only; omega) h0 (by dsimp only; omega) h0 (by dsimp only; omega) h0 (by dsimp only; omega)]
    dsimp only
    rw [out_B_11, pay1_apply, share11 m c ⟨n + 1, h⟩]
    refine (congrArg (· + _) (ih (Nat.lt_of_succ_lt h) y)).trans ?_
    dsimp only
    rw [Nat.add_mul (n + 1) 1 512, Nat.one_mul, Finset.sum_range_add]

/-- What a point writes back is its block of the whole function. -/
theorem flushed_eq11 (c : Dev nD) (t : Fin cfg0.N) (hf : (cfg0.win 11).flush t = true) :
    (dats m 0 c).flushed 11 t = ((cfg0.win 11).blk t).view.read (Elt Ideal) (S (T9 (m ((c : Thread nD τ).loc main_arg0)) (m ((c : Thread nD τ).loc main_arg1)) (m ((c : Thread nD τ).loc main_arg3)))) := by
  have h7 : t.val % 8 = 7 := (flush0_11 t).mp hf
  have ht : t.val < 8 := lt_of_lt_of_eq t.isLt N_0
  have hc := carried11 m c t.val t.isLt
  rw [Value.flushed11]
  generalize (outsAt0 m c t.val t.isLt).2.2.2.1 = acc at hc ⊢
  funext y
  refine (hc y).trans ?_
  show _ = S (T9 (m ((c : Thread nD τ).loc main_arg0)) (m ((c : Thread nD τ).loc main_arg1)) (m ((c : Thread nD τ).loc main_arg3))) (((cfg0.win 11).blk t).view.emb y)
  rw [emb11, S_eq, show t.val = 7 by omega]

/-- An entry whose row lies in the block is in the block. -/
theorem mem11 (t : Fin cfg0.N) (i : S1x1024.Idx) : i ∈ ((cfg0.win 11).blk t).view.set := by
  have h6 := idx11 t
  show i ∈ ((View.whole main_v8_3).slice (win0_11.rect t)).set
  rw [View.set_slice_whole, Rect.mem_set_unit]
  intro a
  match a with
  | ⟨0, _⟩ => show win0_11.index t 0 * 1 ≤ (i 0 : Nat) ∧ (i 0 : Nat) < win0_11.index t 0 * 1 + 1
              rw [h6.1, Nat.zero_mul, Nat.zero_add]; exact ⟨Nat.zero_le _, (i 0).isLt⟩
  | ⟨1, _⟩ => show win0_11.index t 1 * 1024 ≤ (i 1 : Nat) ∧ (i 1 : Nat) < win0_11.index t 1 * 1024 + 1024
              rw [h6.2, Nat.zero_mul, Nat.zero_add]; exact ⟨Nat.zero_le _, (i 1).isLt⟩

/-- The result array is the whole function of the arguments. -/
theorem final11 (c : Dev nD) : (dats m 0 c).arrAt 11 cfg0.N = S (T9 (m ((c : Thread nD τ).loc main_arg0)) (m ((c : Thread nD τ).loc main_arg1)) (m ((c : Thread nD τ).loc main_arg3))) :=
  (dats m 0 c).arrAt_eq_of_cover 11 _ (fun t hf => flushed_eq11 m c t hf)
    (fun i => ⟨⟨7, lt_of_lt_of_eq (by decide) N_0.symm⟩, (flush0_11 _).mpr rfl, mem11 _ i⟩)

end Cert.Norm2DxIdeal.Entry

namespace Cert.Norm2DxRefIdeal.Entry

open Cert.Norm2DxRefIdeal Cert.Norm2DxRefIdeal.Gen Idealize.ShloMosaic Idealize.ShloMosaic.TcCoe Idealize.SL.Sem

/-- The reference result is the same function. -/
theorem ref0 (dh : Vec Ideal S4096x1024 .f32) :
    (shapeCast S1x1024 (Host.reduceAdd dh (constant (F := Ideal) S_ .f32 0x00000000#32) reducesTo_S4096x1024_S1024_d0 h_S_) shapeCasts_S1024_S1x1024 : FVec Ideal S1x1024 .f32)
      = Cert.Norm2DxIdeal.Entry.S dh := by
  funext i
  unfold Cert.Norm2DxIdeal.Entry.S
  rw [Cert.Norm2DxIdeal.Entry.row_cast]
  pointwise

/-- The reference result is the same function. -/
theorem ref1 (dh X : Vec Ideal S4096x1024 .f32) (w : Vec Ideal S1x1024 .f32) :
    (shapeCast S1x1024 (Host.reduceAdd (mulf (mulf (mulf X (broadcastInDim S4096x1024 ![0, 1] bcast_S4096x1_S4096x1024_0_1 (Host.rsqrt (addf (Host.divf (broadcastInDim S4096x1 ![0] bcast_S4096_S4096x1_0 (Host.reduceAdd (mulf X X) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1024 ![0, 1] bcast_S1x1024_S4096x1024_0_1 w)) (shapeCast S4096x1024 dh shapeCasts_S4096x1024_S4096x1024)) (constant (F := Ideal) S_ .f32 0x00000000#32) reducesTo_S4096x1024_S1024_d0 h_S_) shapeCasts_S1024_S1x1024 : FVec Ideal S1x1024 .f32)
      = Cert.Norm2DxIdeal.Entry.S (Cert.Norm2DxIdeal.Entry.T8 dh X w) := by
  funext i
  unfold Cert.Norm2DxIdeal.Entry.S Cert.Norm2DxIdeal.Entry.T8 Cert.Norm2DxIdeal.Entry.N Cert.Norm2DxIdeal.Entry.Q Cert.Norm2DxIdeal.Entry.R
  rw [shapeCast_self, Cert.Norm2DxIdeal.Entry.row_cast]
  pointwise
  exact Finset.sum_congr rfl fun k _ => mul_comm (G := EReal) _ _

/-- The reference result is the same function. -/
theorem ref2 (dh X : Vec Ideal S4096x1024 .f32) (sc : Vec Ideal S1x1024 .f32) :
    (shapeCast S1x1024 (Host.reduceAdd (mulf (mulf X (broadcastInDim S4096x1024 ![0, 1] bcast_S4096x1_S4096x1024_0_1 (Host.rsqrt (addf (Host.divf (broadcastInDim S4096x1 ![0] bcast_S4096_S4096x1_0 (Host.reduceAdd (mulf X X) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (mulf (shapeCast S4096x1024 dh shapeCasts_S4096x1024_S4096x1024) (broadcastInDim S4096x1024 ![0, 1] bcast_S1x1024_S4096x1024_0_1 (addf (broadcastInDim S1x1024 ![] bcast_S_S1x1024 (constant (F := Ideal) S_ .f32 0x3F800000#32)) sc)))) (constant (F := Ideal) S_ .f32 0x00000000#32) reducesTo_S4096x1024_S1024_d0 h_S_) shapeCasts_S1024_S1x1024 : FVec Ideal S1x1024 .f32)
      = Cert.Norm2DxIdeal.Entry.S (Cert.Norm2DxIdeal.Entry.T9 dh X sc) := by
  funext i
  unfold Cert.Norm2DxIdeal.Entry.S Cert.Norm2DxIdeal.Entry.T9 Cert.Norm2DxIdeal.Entry.N Cert.Norm2DxIdeal.Entry.Q Cert.Norm2DxIdeal.Entry.R
  rw [shapeCast_self, Cert.Norm2DxIdeal.Entry.row_cast]
  pointwise
  exact Finset.sum_congr rfl fun k _ => mul_comm (G := EReal) _ _

end Cert.Norm2DxRefIdeal.Entry

namespace Cert.Proof

open Idealize.ShloMosaic Idealize.ShloMosaic.TcCoe Idealize.SL.Sem

/-- The gradients of the second normalisation's scale, shift and weight: kernel and reference end with equal results. -/
theorem algebraic_norm2_dx : Cert.algebraic_Norm2DxIdeal_Norm2DxRefIdeal := by
  intro m ρ m' ρ' _ hag
  refine ⟨fun c => Cert.Norm2DxIdeal.Entry.S (m ((c.tc : Thread Cert.Norm2DxIdeal.nD Cert.Norm2DxIdeal.τ).loc Cert.Norm2DxIdeal.main_arg0)),
    fun c => Cert.Norm2DxIdeal.Entry.S (Cert.Norm2DxIdeal.Entry.T8 (m ((c.tc : Thread Cert.Norm2DxIdeal.nD Cert.Norm2DxIdeal.τ).loc Cert.Norm2DxIdeal.main_arg0)) (m ((c.tc : Thread Cert.Norm2DxIdeal.nD Cert.Norm2DxIdeal.τ).loc Cert.Norm2DxIdeal.main_arg1)) (m ((c.tc : Thread Cert.Norm2DxIdeal.nD Cert.Norm2DxIdeal.τ).loc Cert.Norm2DxIdeal.main_arg2))),
    fun c => Cert.Norm2DxIdeal.Entry.S (Cert.Norm2DxIdeal.Entry.T9 (m ((c.tc : Thread Cert.Norm2DxIdeal.nD Cert.Norm2DxIdeal.τ).loc Cert.Norm2DxIdeal.main_arg0)) (m ((c.tc : Thread Cert.Norm2DxIdeal.nD Cert.Norm2DxIdeal.τ).loc Cert.Norm2DxIdeal.main_arg1)) (m ((c.tc : Thread Cert.Norm2DxIdeal.nD Cert.Norm2DxIdeal.τ).loc Cert.Norm2DxIdeal.main_arg3))),
    (θ_run Cert.Norm2DxIdeal.defs _ _).mono (fun _ h c => ⟨(h c).2.1.trans (Cert.Norm2DxIdeal.Entry.final9 m c), (h c).2.2.1.trans (Cert.Norm2DxIdeal.Entry.final10 m c), (h c).2.2.2.1.trans (Cert.Norm2DxIdeal.Entry.final11 m c), (h c).2.2.2.2.2.2⟩) (Cert.Norm2DxIdeal.Value.run_blocks (F := Ideal) m ρ),
    (θ_run Cert.Norm2DxRefIdeal.defs _ _).mono (fun _ h c => ⟨?_, ?_, ?_, (h c).2.2.2⟩) (Cert.Norm2DxRefIdeal.Value.run (F := Ideal) m' ρ')⟩
  · refine (h c).1.trans ((Cert.Norm2DxRefIdeal.Entry.ref0 _).trans ?_)
    rw [(hag c).1]
  · refine (h c).2.1.trans ((Cert.Norm2DxRefIdeal.Entry.ref1 _ _ _).trans ?_)
    rw [(hag c).1, (hag c).2.1, (hag c).2.2.1]
  · refine (h c).2.2.1.trans ((Cert.Norm2DxRefIdeal.Entry.ref2 _ _ _).trans ?_)
    rw [(hag c).1, (hag c).2.1, (hag c).2.2.2.1]

/-- The reference leaves its arguments as they were. -/
theorem frame_norm2_dx_ref : Cert.quiescent_Norm2DxRefIdeal := by
  intro m ρ _
  exact (θ_run Cert.Norm2DxRefIdeal.defs _ _).mono (fun r h => ⟨fun c => (h c).2.2.2,
      Idealize.ShloMosaic.sem_eq_zero_of_no_sems (by decide) r.2⟩)
    (Cert.Norm2DxRefIdeal.Value.run (F := Ideal) m ρ)

end Cert.Proof

end
-- ==== Proof.AdamUp.lean ====
/-
  The gradient of `w_up` summed over the devices and its two moments after one step: the kernel `adam_w_up` adds the eight parts
  one after the other, 176 rows at a time, the reference sums them in one piece. The sums and both moments agree at every entry.
-/
module

public import proofs.«01_k».proof.Defs
public import proofs.«01_k».proof.Proof.Gen.AdamUpIdeal.Value
public import proofs.«01_k».proof.Proof.Gen.AdamUpRefIdeal
public import proofs.«01_k».proof.Proof.Gen.AdamUpRefIdeal.Run
public import Idealize.ShloMosaic.Lib.Pipeline.Value
public import Idealize.ShloMosaic.Lib.Pointwise
public import Idealize.ShloMosaic.Lib.Tactic

@[expose] public section

noncomputable section

namespace Cert.AdamUpIdeal.Entry

open Cert.AdamUpIdeal Cert.AdamUpIdeal.Gen Idealize.ShloMosaic Idealize.ShloMosaic.TcCoe Idealize.SL.Sem
open Idealize.ShloMosaic.Pipeline (Dat)

variable (m : (ℓ : Loc nD τ sig) → Buf (Elt Ideal) ℓ)

/-- The zero corner. -/
theorem hz : (![0, 0] : Fin 2 → Nat) = fun _ => 0 := funext fun a => by fin_cases a <;> rfl

/-- The gradient: the sum of the eight parts. -/
def G (P : S8x704x1024.Idx → EReal) : S704x1024.Idx → EReal := fun i => ∑ k : Fin 8, P (ix3 k (i 0) (i 1))

/-- The first moment of one entry. -/
def m1 (g a : EReal) : EReal := Ideal.ofBits .f32 0x3F666666#32 * a + Ideal.ofBits .f32 0x3DCCCCCD#32 * g

/-- The second moment of one entry. -/
def m2 (g a : EReal) : EReal := Ideal.ofBits .f32 0x3F7FBE77#32 * a + Ideal.ofBits .f32 0x3A83126F#32 * (g * g)

/-- The first moment after the step. -/
def M1 (P : S8x704x1024.Idx → EReal) (A : S704x1024.Idx → EReal) : S704x1024.Idx → EReal := fun i => m1 (G P i) (A i)

/-- The second moment after the step. -/
def M2 (P : S8x704x1024.Idx → EReal) (A : S704x1024.Idx → EReal) : S704x1024.Idx → EReal := fun i => m2 (G P i) (A i)

/-! ## What the body computes -/

/-- Part 0, as the body loads it. -/
theorem ld0 (x : Vec Ideal S8x176x1024 .bf16) (a : Fin 176) (b : Fin 1024) :
    (View.ld x r0_0 : S1x176x1024.Idx → EReal) (ix3 0 a b) = x (ix3 0 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 1, as the body loads it. -/
theorem ld1 (x : Vec Ideal S8x176x1024 .bf16) (a : Fin 176) (b : Fin 1024) :
    (View.ld x r0_1 : S1x176x1024.Idx → EReal) (ix3 0 a b) = x (ix3 1 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 2, as the body loads it. -/
theorem ld2 (x : Vec Ideal S8x176x1024 .bf16) (a : Fin 176) (b : Fin 1024) :
    (View.ld x r0_2 : S1x176x1024.Idx → EReal) (ix3 0 a b) = x (ix3 2 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 3, as the body loads it. -/
theorem ld3 (x : Vec Ideal S8x176x1024 .bf16) (a : Fin 176) (b : Fin 1024) :
    (View.ld x r0_3 : S1x176x1024.Idx → EReal) (ix3 0 a b) = x (ix3 3 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 4, as the body loads it. -/
theorem ld4 (x : Vec Ideal S8x176x1024 .bf16) (a : Fin 176) (b : Fin 1024) :
    (View.ld x r0_4 : S1x176x1024.Idx → EReal) (ix3 0 a b) = x (ix3 4 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 5, as the body loads it. -/
theorem ld5 (x : Vec Ideal S8x176x1024 .bf16) (a : Fin 176) (b : Fin 1024) :
    (View.ld x r0_5 : S1x176x1024.Idx → EReal) (ix3 0 a b) = x (ix3 5 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 6, as the body loads it. -/
theorem ld6 (x : Vec Ideal S8x176x1024 .bf16) (a : Fin 176) (b : Fin 1024) :
    (View.ld x r0_6 : S1x176x1024.Idx → EReal) (ix3 0 a b) = x (ix3 6 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 7, as the body loads it. -/
theorem ld7 (x : Vec Ideal S8x176x1024 .bf16) (a : Fin 176) (b : Fin 1024) :
    (View.ld x r0_7 : S1x176x1024.Idx → EReal) (ix3 0 a b) = x (ix3 7 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- The eight loaded parts added up, at one entry. -/
theorem pay4_apply (v0 v1 v2 v3 v4 v5 v6 v7 : Vec Ideal S1x176x1024 .bf16) (y : S176x1024.Idx) :
    (k0_pay4 v0 v1 v2 v3 v4 v5 v6 v7 : S176x1024.Idx → EReal) y = v0 (ix3 0 (y 0) (y 1)) + v1 (ix3 0 (y 0) (y 1)) + v2 (ix3 0 (y 0) (y 1)) + v3 (ix3 0 (y 0) (y 1)) + v4 (ix3 0 (y 0) (y 1)) + v5 (ix3 0 (y 0) (y 1)) + v6 (ix3 0 (y 0) (y 1)) + v7 (ix3 0 (y 0) (y 1)) := by
  unfold k0_pay4
  pointwise

/-- Equal parts give equal sums. -/
theorem add8 (a0 a1 a2 a3 a4 a5 a6 a7 b0 b1 b2 b3 b4 b5 b6 b7 : EReal) (h0 : a0 = b0) (h1 : a1 = b1) (h2 : a2 = b2) (h3 : a3 = b3) (h4 : a4 = b4) (h5 : a5 = b5) (h6 : a6 = b6) (h7 : a7 = b7) :
    a0 + a1 + a2 + a3 + a4 + a5 + a6 + a7 = b0 + b1 + b2 + b3 + b4 + b5 + b6 + b7 := by
  rw [h0, h1, h2, h3, h4, h5, h6, h7]

/-- The gradient of a block is the sum of the parts' blocks. -/
theorem pay5_apply (x0 : Vec Ideal S8x176x1024 .bf16) (x1 x2 x3 : Vec Ideal S176x1024 .f32) (y : S176x1024.Idx) :
    (k0_pay5 x0 x1 x2 x3 : S176x1024.Idx → EReal) y = ∑ k : Fin 8, x0 (ix3 k (y 0) (y 1)) := by
  unfold k0_pay5
  refine (pay4_apply _ _ _ _ _ _ _ _ y).trans ?_
  refine Eq.trans ?_ (Fin.sum_univ_eight (fun k : Fin 8 => (x0 (ix3 k (y 0) (y 1)) : EReal))).symm
  exact add8 _ _ _ _ _ _ _ _ _ _ _ _ _ _ _ _ (ld0 x0 (y 0) (y 1)) (ld1 x0 (y 0) (y 1)) (ld2 x0 (y 0) (y 1)) (ld3 x0 (y 0) (y 1)) (ld4 x0 (y 0) (y 1)) (ld5 x0 (y 0) (y 1)) (ld6 x0 (y 0) (y 1)) (ld7 x0 (y 0) (y 1))

/-- The first moment of a block, at one entry. -/
theorem pay1_apply (g : FVec Ideal S176x1024 .f32) (a : Vec Ideal S176x1024 .f32) (y : S176x1024.Idx) :
    (k0_pay1 g a : S176x1024.Idx → EReal) y = m1 (g y) (a y) := by
  unfold k0_pay1 m1
  pointwise

/-- The second moment of a block, at one entry. -/
theorem pay2_apply (g : FVec Ideal S176x1024 .f32) (a : Vec Ideal S176x1024 .f32) (y : S176x1024.Idx) :
    (k0_pay2 g a : S176x1024.Idx → EReal) y = m2 (g y) (a y) := by
  unfold k0_pay2 m2
  pointwise

/-- Output block 4 is what the body computes of the blocks. -/
theorem out4_eq (x0 : Vec Ideal S8x176x1024 .bf16) (x1 x2 x3 : Vec Ideal S176x1024 .f32) :
    out0_4 x0 x1 x2 x3 = k0_pay5 x0 x1 x2 x3 := by
  unfold out0_4
  rw [View.canon_unit_zero hz]

/-- Output block 6 is what the body computes of the blocks. -/
theorem out6_eq (x0 : Vec Ideal S8x176x1024 .bf16) (x1 x2 x3 : Vec Ideal S176x1024 .f32) :
    out0_6 x0 x1 x2 x3 = k0_pay1 (k0_pay5 x0 x1 x2 x3) x2 := by
  unfold out0_6
  rw [View.canon_unit_zero hz]
  simp only [View.ld_unit_zero (S := S176x1024) hz]

/-- Output block 7 is what the body computes of the blocks. -/
theorem out7_eq (x0 : Vec Ideal S8x176x1024 .bf16) (x1 x2 x3 : Vec Ideal S176x1024 .f32) :
    out0_7 x0 x1 x2 x3 = k0_pay2 (k0_pay5 x0 x1 x2 x3) x3 := by
  unfold out0_7
  rw [View.canon_unit_zero hz]
  simp only [View.ld_unit_zero (S := S176x1024) hz]

/-! ## The blocks of a point in the arrays -/

/-- Where the parts' block of point `t` lies. -/
theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

/-- Where the block of point `t` lies. -/
theorem idx2 : ∀ t : Fin cfg0.N, win0_2.index t 0 = t.val ∧ win0_2.index t 1 = 0 :=
  (by decide +kernel : ∀ t : Fin grid0.N, win0_2.index t 0 = t.val ∧ win0_2.index t 1 = 0)

/-- Where the block of point `t` lies. -/
theorem idx3 : ∀ t : Fin cfg0.N, win0_3.index t 0 = t.val ∧ win0_3.index t 1 = 0 :=
  (by decide +kernel : ∀ t : Fin grid0.N, win0_3.index t 0 = t.val ∧ win0_3.index t 1 = 0)

/-- Where the block of point `t` lies. -/
theorem idx4 : ∀ t : Fin cfg0.N, win0_4.index t 0 = t.val ∧ win0_4.index t 1 = 0 :=
  (by decide +kernel : ∀ t : Fin grid0.N, win0_4.index t 0 = t.val ∧ win0_4.index t 1 = 0)

/-- Where the block of point `t` lies. -/
theorem idx6 : ∀ t : Fin cfg0.N, win0_6.index t 0 = t.val ∧ win0_6.index t 1 = 0 :=
  (by decide +kernel : ∀ t : Fin grid0.N, win0_6.index t 0 = t.val ∧ win0_6.index t 1 = 0)

/-- Where the block of point `t` lies. -/
theorem idx7 : ∀ t : Fin cfg0.N, win0_7.index t 0 = t.val ∧ win0_7.index t 1 = 0 :=
  (by decide +kernel : ∀ t : Fin grid0.N, win0_7.index t 0 = t.val ∧ win0_7.index t 1 = 0)

/-- The row is in the array. -/
theorem row_ok (t : Fin cfg0.N) (k : Fin 176) : t.val * 176 + k.val < 704 := by
  have ht : t.val < 4 := lt_of_lt_of_eq t.isLt N_0
  omega

/-- Row `k` of block `t`. -/
def row (t : Fin cfg0.N) (k : Fin 176) : Fin 704 := ⟨t.val * 176 + k.val, row_ok t k⟩

/-- An entry of the parts' block of point `t`, in the whole array. -/
theorem blk0 (c : Dev nD) (t : Fin cfg0.N) (k : Fin 8) (a : Fin 176) (b : Fin 1024) :
    (iblk m c 0 t : S8x176x1024.Idx → EReal) (ix3 k a b) = V m c main_arg0 (ix3 k (row t a) b) := by
  obtain ⟨h0, h1, h2⟩ := idx0 t
  show V m c main_arg0 (((cfg0.win 0).blk t).view.emb (ix3 k a b)) = _
  congr 1; funext d; apply Fin.ext
  match d with
  | ⟨0, _⟩ => show win0_0.index t 0 * 8 + 1 * k.val = k.val; omega
  | ⟨1, _⟩ => show win0_0.index t 1 * 176 + 1 * a.val = t.val * 176 + a.val; omega
  | ⟨2, _⟩ => show win0_0.index t 2 * 1024 + 1 * b.val = b.val; omega

/-- An entry of the block of point `t`, in the whole array. -/
theorem blk2 (c : Dev nD) (t : Fin cfg0.N) (y : S176x1024.Idx) :
    (iblk m c 2 t : S176x1024.Idx → EReal) y = V m c main_arg2 (ix2 (row t (y 0)) (y 1)) := by
  obtain ⟨h0, h1⟩ := idx2 t
  show V m c main_arg2 (((cfg0.win 2).blk t).view.emb y) = _
  congr 1; funext d; apply Fin.ext
  match d with
  | ⟨0, _⟩ => show win0_2.index t 0 * 176 + 1 * (y 0).val = t.val * 176 + (y 0).val; omega
  | ⟨1, _⟩ => show win0_2.index t 1 * 1024 + 1 * (y 1).val = (y 1).val; omega

/-- An entry of the block of point `t`, in the whole array. -/
theorem blk3 (c : Dev nD) (t : Fin cfg0.N) (y : S176x1024.Idx) :
    (iblk m c 3 t : S176x1024.Idx → EReal) y = V m c main_arg3 (ix2 (row t (y 0)) (y 1)) := by
  obtain ⟨h0, h1⟩ := idx3 t
  show V m c main_arg3 (((cfg0.win 3).blk t).view.emb y) = _
  congr 1; funext d; apply Fin.ext
  match d with
  | ⟨0, _⟩ => show win0_3.index t 0 * 176 + 1 * (y 0).val = t.val * 176 + (y 0).val; omega
  | ⟨1, _⟩ => show win0_3.index t 1 * 1024 + 1 * (y 1).val = (y 1).val; omega

/-- An entry of the result block, in the whole array. -/
theorem emb4 (t : Fin cfg0.N) (y : S176x1024.Idx) : ((cfg0.win 4).blk t).view.emb y = ix2 (row t (y 0)) (y 1) := by
  obtain ⟨h0, h1⟩ := idx4 t
  funext d; apply Fin.ext
  match d with
  | ⟨0, _⟩ => show win0_4.index t 0 * 176 + 1 * (y 0).val = t.val * 176 + (y 0).val; omega
  | ⟨1, _⟩ => show win0_4.index t 1 * 1024 + 1 * (y 1).val = (y 1).val; omega

/-- An entry of the result block, in the whole array. -/
theorem emb6 (t : Fin cfg0.N) (y : S176x1024.Idx) : ((cfg0.win 6).blk t).view.emb y = ix2 (row t (y 0)) (y 1) := by
  obtain ⟨h0, h1⟩ := idx6 t
  funext d; apply Fin.ext
  match d with
  | ⟨0, _⟩ => show win0_6.index t 0 * 176 + 1 * (y 0).val = t.val * 176 + (y 0).val; omega
  | ⟨1, _⟩ => show win0_6.index t 1 * 1024 + 1 * (y 1).val = (y 1).val; omega

/-- An entry of the result block, in the whole array. -/
theorem emb7 (t : Fin cfg0.N) (y : S176x1024.Idx) : ((cfg0.win 7).blk t).view.emb y = ix2 (row t (y 0)) (y 1) := by
  obtain ⟨h0, h1⟩ := idx7 t
  funext d; apply Fin.ext
  match d with
  | ⟨0, _⟩ => show win0_7.index t 0 * 176 + 1 * (y 0).val = t.val * 176 + (y 0).val; omega
  | ⟨1, _⟩ => show win0_7.index t 1 * 1024 + 1 * (y 1).val = (y 1).val; omega

/-- The gradient's block, as entries of the whole sum. -/
theorem val4 (c : Dev nD) (t : Fin cfg0.N) (y : S176x1024.Idx) :
    (k0_pay5 (iblk m c 0 t) (iblk m c 1 t) (iblk m c 2 t) (iblk m c 3 t) : S176x1024.Idx → EReal) y = (G (V m c main_arg0)) (ix2 (row t (y 0)) (y 1)) :=
  (pay5_apply _ _ _ _ y).trans (Finset.sum_congr rfl fun k _ => blk0 m c t k (y 0) (y 1))

/-- The first moment's block, as entries of the whole array. -/
theorem val6 (c : Dev nD) (t : Fin cfg0.N) (y : S176x1024.Idx) :
    (k0_pay1 (k0_pay5 (iblk m c 0 t) (iblk m c 1 t) (iblk m c 2 t) (iblk m c 3 t)) (iblk m c 2 t) : S176x1024.Idx → EReal) y = (M1 (V m c main_arg0) (V m c main_arg2)) (ix2 (row t (y 0)) (y 1)) :=
  (pay1_apply _ _ y).trans (congrArg₂ m1 (val4 m c t y) (blk2 m c t y))

/-- The second moment's block, as entries of the whole array. -/
theorem val7 (c : Dev nD) (t : Fin cfg0.N) (y : S176x1024.Idx) :
    (k0_pay2 (k0_pay5 (iblk m c 0 t) (iblk m c 1 t) (iblk m c 2 t) (iblk m c 3 t)) (iblk m c 3 t) : S176x1024.Idx → EReal) y = (M2 (V m c main_arg0) (V m c main_arg3)) (ix2 (row t (y 0)) (y 1)) :=
  (pay2_apply _ _ y).trans (congrArg₂ m2 (val4 m c t y) (blk3 m c t y))

/-- The block of a row is one of the grid. -/
theorem row_lt (i : S704x1024.Idx) : (i 0).val / 176 < cfg0.N := by
  have h : (i 0).val < 704 := (i 0).isLt
  exact lt_of_lt_of_eq (show (i 0).val / 176 < 4 by omega) N_0.symm

/-- A row lies in its block. -/
theorem row_in (n : ℕ) : n / 176 * 176 ≤ n ∧ n < n / 176 * 176 + 176 := by omega

/-- What a point writes back to result 0 is its block of it. -/
theorem flushed4_eq (c : Dev nD) (t : Fin cfg0.N) :
    (dats m 0 c).flushed 4 t = ((cfg0.win 4).blk t).view.read (Elt Ideal) (G (V m c main_arg0)) := by
  rw [Value.flushed4, out4_eq]
  funext y
  exact (val4 m c t y).trans (congrArg (G (V m c main_arg0)) (emb4 t y)).symm

/-- An entry whose row lies in the block is in the block. -/
theorem mem_blk4 (t : Fin cfg0.N) (i : S704x1024.Idx)
    (h : t.val * 176 ≤ (i 0 : Nat) ∧ (i 0 : Nat) < t.val * 176 + 176) :
    i ∈ ((cfg0.win 4).blk t).view.set := by
  have h6 := idx4 t
  show i ∈ ((View.whole main_v0_0).slice (win0_4.rect t)).set
  rw [View.set_slice_whole, Rect.mem_set_unit]
  intro a
  match a with
  | ⟨0, _⟩ => show win0_4.index t 0 * 176 ≤ (i 0 : Nat) ∧ (i 0 : Nat) < win0_4.index t 0 * 176 + 176
              rw [h6.1]; exact h
  | ⟨1, _⟩ => show win0_4.index t 1 * 1024 ≤ (i 1 : Nat) ∧ (i 1 : Nat) < win0_4.index t 1 * 1024 + 1024
              rw [h6.2, Nat.zero_mul, Nat.zero_add]; exact ⟨Nat.zero_le _, (i 1).isLt⟩

/-- Every entry is in some block. -/
theorem cover4 (i : S704x1024.Idx) : ∃ t : Fin cfg0.N, (cfg0.win 4).flush t = true ∧ i ∈ ((cfg0.win 4).blk t).view.set := by
  have h := row_in (i 0).val
  have hl := row_lt i
  generalize (i 0).val / 176 = q at h hl
  exact ⟨⟨q, hl⟩, flush0_4 _, mem_blk4 ⟨q, hl⟩ i h⟩

/-- Result array 0 after the run. -/
theorem final4 (c : Dev nD) : (dats m 0 c).arrAt 4 cfg0.N = (G (V m c main_arg0)) :=
  (dats m 0 c).arrAt_eq_of_cover 4 _ (fun t _ => flushed4_eq m c t) (cover4)

/-- What a point writes back to result 2 is its block of it. -/
theorem flushed6_eq (c : Dev nD) (t : Fin cfg0.N) :
    (dats m 0 c).flushed 6 t = ((cfg0.win 6).blk t).view.read (Elt Ideal) (M1 (V m c main_arg0) (V m c main_arg2)) := by
  rw [Value.flushed6, out6_eq]
  funext y
  exact (val6 m c t y).trans (congrArg (M1 (V m c main_arg0) (V m c main_arg2)) (emb6 t y)).symm

/-- An entry whose row lies in the block is in the block. -/
theorem mem_blk6 (t : Fin cfg0.N) (i : S704x1024.Idx)
    (h : t.val * 176 ≤ (i 0 : Nat) ∧ (i 0 : Nat) < t.val * 176 + 176) :
    i ∈ ((cfg0.win 6).blk t).view.set := by
  have h6 := idx6 t
  show i ∈ ((View.whole main_v0_2).slice (win0_6.rect t)).set
  rw [View.set_slice_whole, Rect.mem_set_unit]
  intro a
  match a with
  | ⟨0, _⟩ => show win0_6.index t 0 * 176 ≤ (i 0 : Nat) ∧ (i 0 : Nat) < win0_6.index t 0 * 176 + 176
              rw [h6.1]; exact h
  | ⟨1, _⟩ => show win0_6.index t 1 * 1024 ≤ (i 1 : Nat) ∧ (i 1 : Nat) < win0_6.index t 1 * 1024 + 1024
              rw [h6.2, Nat.zero_mul, Nat.zero_add]; exact ⟨Nat.zero_le _, (i 1).isLt⟩

/-- Every entry is in some block. -/
theorem cover6 (i : S704x1024.Idx) : ∃ t : Fin cfg0.N, (cfg0.win 6).flush t = true ∧ i ∈ ((cfg0.win 6).blk t).view.set := by
  have h := row_in (i 0).val
  have hl := row_lt i
  generalize (i 0).val / 176 = q at h hl
  exact ⟨⟨q, hl⟩, flush0_6 _, mem_blk6 ⟨q, hl⟩ i h⟩

/-- Result array 2 after the run. -/
theorem final6 (c : Dev nD) : (dats m 0 c).arrAt 6 cfg0.N = (M1 (V m c main_arg0) (V m c main_arg2)) :=
  (dats m 0 c).arrAt_eq_of_cover 6 _ (fun t _ => flushed6_eq m c t) (cover6)

/-- What a point writes back to result 3 is its block of it. -/
theorem flushed7_eq (c : Dev nD) (t : Fin cfg0.N) :
    (dats m 0 c).flushed 7 t = ((cfg0.win 7).blk t).view.read (Elt Ideal) (M2 (V m c main_arg0) (V m c main_arg3)) := by
  rw [Value.flushed7, out7_eq]
  funext y
  exact (val7 m c t y).trans (congrArg (M2 (V m c main_arg0) (V m c main_arg3)) (emb7 t y)).symm

/-- An entry whose row lies in the block is in the block. -/
theorem mem_blk7 (t : Fin cfg0.N) (i : S704x1024.Idx)
    (h : t.val * 176 ≤ (i 0 : Nat) ∧ (i 0 : Nat) < t.val * 176 + 176) :
    i ∈ ((cfg0.win 7).blk t).view.set := by
  have h6 := idx7 t
  show i ∈ ((View.whole main_v0_3).slice (win0_7.rect t)).set
  rw [View.set_slice_whole, Rect.mem_set_unit]
  intro a
  match a with
  | ⟨0, _⟩ => show win0_7.index t 0 * 176 ≤ (i 0 : Nat) ∧ (i 0 : Nat) < win0_7.index t 0 * 176 + 176
              rw [h6.1]; exact h
  | ⟨1, _⟩ => show win0_7.index t 1 * 1024 ≤ (i 1 : Nat) ∧ (i 1 : Nat) < win0_7.index t 1 * 1024 + 1024
              rw [h6.2, Nat.zero_mul, Nat.zero_add]; exact ⟨Nat.zero_le _, (i 1).isLt⟩

/-- Every entry is in some block. -/
theorem cover7 (i : S704x1024.Idx) : ∃ t : Fin cfg0.N, (cfg0.win 7).flush t = true ∧ i ∈ ((cfg0.win 7).blk t).view.set := by
  have h := row_in (i 0).val
  have hl := row_lt i
  generalize (i 0).val / 176 = q at h hl
  exact ⟨⟨q, hl⟩, flush0_7 _, mem_blk7 ⟨q, hl⟩ i h⟩

/-- Result array 3 after the run. -/
theorem final7 (c : Dev nD) : (dats m 0 c).arrAt 7 cfg0.N = (M2 (V m c main_arg0) (V m c main_arg3)) :=
  (dats m 0 c).arrAt_eq_of_cover 7 _ (fun t _ => flushed7_eq m c t) (cover7)

end Cert.AdamUpIdeal.Entry

namespace Cert.AdamUpRefIdeal.Entry

open Cert.AdamUpRefIdeal Cert.AdamUpRefIdeal.Gen Idealize.ShloMosaic Idealize.ShloMosaic.TcCoe Idealize.SL.Sem

/-- The reference's sum of the parts is the same function. -/
theorem ref_g (P : Vec Ideal S8x704x1024 .bf16) :
    (Host.reduceAdd (extf (F := Ideal) .f32 P bitsLt_bf16_f32) (constant (F := Ideal) S_ .f32 0x00000000#32) reducesTo_S8x704x1024_S704x1024_d0 h_S_ : FVec Ideal S704x1024 .f32) = Cert.AdamUpIdeal.Entry.G P := by
  funext i
  unfold Cert.AdamUpIdeal.Entry.G
  pointwise

/-- The reference's first moment is the same function. -/
theorem ref_m (P : Vec Ideal S8x704x1024 .bf16) (M : Vec Ideal S704x1024 .f32) :
    (addf (mulf (broadcastInDim S704x1024 ![] bcast_S_S704x1024 (constant (F := Ideal) S_ .f32 0x3F666666#32)) M) (mulf (broadcastInDim S704x1024 ![] bcast_S_S704x1024 (constant (F := Ideal) S_ .f32 0x3DCCCCCD#32)) (Host.reduceAdd (extf (F := Ideal) .f32 P bitsLt_bf16_f32) (constant (F := Ideal) S_ .f32 0x00000000#32) reducesTo_S8x704x1024_S704x1024_d0 h_S_)) : FVec Ideal S704x1024 .f32) = Cert.AdamUpIdeal.Entry.M1 P M := by
  rw [ref_g]
  funext i
  unfold Cert.AdamUpIdeal.Entry.M1 Cert.AdamUpIdeal.Entry.m1
  generalize Cert.AdamUpIdeal.Entry.G P = g
  pointwise

/-- The reference's second moment is the same function. -/
theorem ref_v (P : Vec Ideal S8x704x1024 .bf16) (Q : Vec Ideal S704x1024 .f32) :
    (addf (mulf (broadcastInDim S704x1024 ![] bcast_S_S704x1024 (constant (F := Ideal) S_ .f32 0x3F7FBE77#32)) Q) (mulf (broadcastInDim S704x1024 ![] bcast_S_S704x1024 (constant (F := Ideal) S_ .f32 0x3A83126F#32)) (mulf (Host.reduceAdd (extf (F := Ideal) .f32 P bitsLt_bf16_f32) (constant (F := Ideal) S_ .f32 0x00000000#32) reducesTo_S8x704x1024_S704x1024_d0 h_S_) (Host.reduceAdd (extf (F := Ideal) .f32 P bitsLt_bf16_f32) (constant (F := Ideal) S_ .f32 0x00000000#32) reducesTo_S8x704x1024_S704x1024_d0 h_S_))) : FVec Ideal S704x1024 .f32) = Cert.AdamUpIdeal.Entry.M2 P Q := by
  rw [ref_g]
  funext i
  unfold Cert.AdamUpIdeal.Entry.M2 Cert.AdamUpIdeal.Entry.m2
  generalize Cert.AdamUpIdeal.Entry.G P = g
  pointwise

end Cert.AdamUpRefIdeal.Entry

namespace Cert.Proof

open Idealize.ShloMosaic Idealize.ShloMosaic.TcCoe Idealize.SL.Sem

/-- The summed gradient of `w_up` and its two moments: kernel and reference end with equal results. -/
theorem algebraic_adam_up : Cert.algebraic_AdamUpIdeal_AdamUpRefIdeal := by
  intro m ρ m' ρ' _ hag
  refine ⟨fun c => Cert.AdamUpIdeal.Entry.G (m ((c.tc : Thread Cert.AdamUpIdeal.nD Cert.AdamUpIdeal.τ).loc Cert.AdamUpIdeal.main_arg0)),
    fun c => Cert.AdamUpIdeal.Entry.M1 (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg2)),
    fun c => Cert.AdamUpIdeal.Entry.M2 (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg3)),
    (θ_run Cert.AdamUpIdeal.defs _ _).mono (fun _ h c => ⟨(h c).1.trans (Cert.AdamUpIdeal.Entry.final4 m c), (h c).2.2.1.trans (Cert.AdamUpIdeal.Entry.final6 m c), (h c).2.2.2.1.trans (Cert.AdamUpIdeal.Entry.final7 m c), (h c).2.2.2.2⟩) (Cert.AdamUpIdeal.Value.run_blocks (F := Ideal) m ρ),
    (θ_run Cert.AdamUpRefIdeal.defs _ _).mono (fun _ h c => ⟨?_, ?_, ?_, (h c).2.2.2⟩) (Cert.AdamUpRefIdeal.Value.run (F := Ideal) m' ρ')⟩
  · refine (h c).1.trans ((Cert.AdamUpRefIdeal.Entry.ref_g _).trans ?_)
    rw [(hag c).1]
  · refine (h c).2.1.trans ((Cert.AdamUpRefIdeal.Entry.ref_m _ _).trans ?_)
    rw [(hag c).1, (hag c).2.2.1]
  · refine (h c).2.2.1.trans ((Cert.AdamUpRefIdeal.Entry.ref_v _ _).trans ?_)
    rw [(hag c).1, (hag c).2.2.2]

/-- The reference leaves its arguments as they were. -/
theorem frame_adam_up_ref : Cert.quiescent_AdamUpRefIdeal := by
  intro m ρ _
  exact (θ_run Cert.AdamUpRefIdeal.defs _ _).mono (fun r h => ⟨fun c => (h c).2.2.2,
      Idealize.ShloMosaic.sem_eq_zero_of_no_sems (by decide) r.2⟩)
    (Cert.AdamUpRefIdeal.Value.run (F := Ideal) m ρ)

end Cert.Proof

end
-- ==== Proof.AdamDown.lean ====
/-
  The gradient of `w_down` summed over the devices and its two moments after one step: the kernel `adam_w_down` adds the eight parts
  one after the other, 176 rows at a time, the reference sums them in one piece. The sums and both moments agree at every entry.
-/
module

public import proofs.«01_k».proof.Defs
public import proofs.«01_k».proof.Proof.Gen.AdamDownIdeal.Value
public import proofs.«01_k».proof.Proof.Gen.AdamDownRefIdeal
public import proofs.«01_k».proof.Proof.Gen.AdamDownRefIdeal.Run
public import Idealize.ShloMosaic.Lib.Pipeline.Value
public import Idealize.ShloMosaic.Lib.Pointwise
public import Idealize.ShloMosaic.Lib.Tactic

@[expose] public section

noncomputable section

namespace Cert.AdamDownIdeal.Entry

open Cert.AdamDownIdeal Cert.AdamDownIdeal.Gen Idealize.ShloMosaic Idealize.ShloMosaic.TcCoe Idealize.SL.Sem
open Idealize.ShloMosaic.Pipeline (Dat)

variable (m : (ℓ : Loc nD τ sig) → Buf (Elt Ideal) ℓ)

/-- The zero corner. -/
theorem hz : (![0, 0] : Fin 2 → Nat) = fun _ => 0 := funext fun a => by fin_cases a <;> rfl

/-- The gradient: the sum of the eight parts. -/
def G (P : S8x352x1024.Idx → EReal) : S352x1024.Idx → EReal := fun i => ∑ k : Fin 8, P (ix3 k (i 0) (i 1))

/-- The first moment of one entry. -/
def m1 (g a : EReal) : EReal := Ideal.ofBits .f32 0x3F666666#32 * a + Ideal.ofBits .f32 0x3DCCCCCD#32 * g

/-- The second moment of one entry. -/
def m2 (g a : EReal) : EReal := Ideal.ofBits .f32 0x3F7FBE77#32 * a + Ideal.ofBits .f32 0x3A83126F#32 * (g * g)

/-- The first moment after the step. -/
def M1 (P : S8x352x1024.Idx → EReal) (A : S352x1024.Idx → EReal) : S352x1024.Idx → EReal := fun i => m1 (G P i) (A i)

/-- The second moment after the step. -/
def M2 (P : S8x352x1024.Idx → EReal) (A : S352x1024.Idx → EReal) : S352x1024.Idx → EReal := fun i => m2 (G P i) (A i)

/-! ## What the body computes -/

/-- Part 0, as the body loads it. -/
theorem ld0 (x : Vec Ideal S8x176x1024 .bf16) (a : Fin 176) (b : Fin 1024) :
    (View.ld x r0_0 : S1x176x1024.Idx → EReal) (ix3 0 a b) = x (ix3 0 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 1, as the body loads it. -/
theorem ld1 (x : Vec Ideal S8x176x1024 .bf16) (a : Fin 176) (b : Fin 1024) :
    (View.ld x r0_1 : S1x176x1024.Idx → EReal) (ix3 0 a b) = x (ix3 1 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 2, as the body loads it. -/
theorem ld2 (x : Vec Ideal S8x176x1024 .bf16) (a : Fin 176) (b : Fin 1024) :
    (View.ld x r0_2 : S1x176x1024.Idx → EReal) (ix3 0 a b) = x (ix3 2 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 3, as the body loads it. -/
theorem ld3 (x : Vec Ideal S8x176x1024 .bf16) (a : Fin 176) (b : Fin 1024) :
    (View.ld x r0_3 : S1x176x1024.Idx → EReal) (ix3 0 a b) = x (ix3 3 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 4, as the body loads it. -/
theorem ld4 (x : Vec Ideal S8x176x1024 .bf16) (a : Fin 176) (b : Fin 1024) :
    (View.ld x r0_4 : S1x176x1024.Idx → EReal) (ix3 0 a b) = x (ix3 4 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 5, as the body loads it. -/
theorem ld5 (x : Vec Ideal S8x176x1024 .bf16) (a : Fin 176) (b : Fin 1024) :
    (View.ld x r0_5 : S1x176x1024.Idx → EReal) (ix3 0 a b) = x (ix3 5 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 6, as the body loads it. -/
theorem ld6 (x : Vec Ideal S8x176x1024 .bf16) (a : Fin 176) (b : Fin 1024) :
    (View.ld x r0_6 : S1x176x1024.Idx → EReal) (ix3 0 a b) = x (ix3 6 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 7, as the body loads it. -/
theorem ld7 (x : Vec Ideal S8x176x1024 .bf16) (a : Fin 176) (b : Fin 1024) :
    (View.ld x r0_7 : S1x176x1024.Idx → EReal) (ix3 0 a b) = x (ix3 7 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- The eight loaded parts added up, at one entry. -/
theorem pay4_apply (v0 v1 v2 v3 v4 v5 v6 v7 : Vec Ideal S1x176x1024 .bf16) (y : S176x1024.Idx) :
    (k0_pay4 v0 v1 v2 v3 v4 v5 v6 v7 : S176x1024.Idx → EReal) y = v0 (ix3 0 (y 0) (y 1)) + v1 (ix3 0 (y 0) (y 1)) + v2 (ix3 0 (y 0) (y 1)) + v3 (ix3 0 (y 0) (y 1)) + v4 (ix3 0 (y 0) (y 1)) + v5 (ix3 0 (y 0) (y 1)) + v6 (ix3 0 (y 0) (y 1)) + v7 (ix3 0 (y 0) (y 1)) := by
  unfold k0_pay4
  pointwise

/-- Equal parts give equal sums. -/
theorem add8 (a0 a1 a2 a3 a4 a5 a6 a7 b0 b1 b2 b3 b4 b5 b6 b7 : EReal) (h0 : a0 = b0) (h1 : a1 = b1) (h2 : a2 = b2) (h3 : a3 = b3) (h4 : a4 = b4) (h5 : a5 = b5) (h6 : a6 = b6) (h7 : a7 = b7) :
    a0 + a1 + a2 + a3 + a4 + a5 + a6 + a7 = b0 + b1 + b2 + b3 + b4 + b5 + b6 + b7 := by
  rw [h0, h1, h2, h3, h4, h5, h6, h7]

/-- The gradient of a block is the sum of the parts' blocks. -/
theorem pay5_apply (x0 : Vec Ideal S8x176x1024 .bf16) (x1 x2 x3 : Vec Ideal S176x1024 .f32) (y : S176x1024.Idx) :
    (k0_pay5 x0 x1 x2 x3 : S176x1024.Idx → EReal) y = ∑ k : Fin 8, x0 (ix3 k (y 0) (y 1)) := by
  unfold k0_pay5
  refine (pay4_apply _ _ _ _ _ _ _ _ y).trans ?_
  refine Eq.trans ?_ (Fin.sum_univ_eight (fun k : Fin 8 => (x0 (ix3 k (y 0) (y 1)) : EReal))).symm
  exact add8 _ _ _ _ _ _ _ _ _ _ _ _ _ _ _ _ (ld0 x0 (y 0) (y 1)) (ld1 x0 (y 0) (y 1)) (ld2 x0 (y 0) (y 1)) (ld3 x0 (y 0) (y 1)) (ld4 x0 (y 0) (y 1)) (ld5 x0 (y 0) (y 1)) (ld6 x0 (y 0) (y 1)) (ld7 x0 (y 0) (y 1))

/-- The first moment of a block, at one entry. -/
theorem pay1_apply (g : FVec Ideal S176x1024 .f32) (a : Vec Ideal S176x1024 .f32) (y : S176x1024.Idx) :
    (k0_pay1 g a : S176x1024.Idx → EReal) y = m1 (g y) (a y) := by
  unfold k0_pay1 m1
  pointwise

/-- The second moment of a block, at one entry. -/
theorem pay2_apply (g : FVec Ideal S176x1024 .f32) (a : Vec Ideal S176x1024 .f32) (y : S176x1024.Idx) :
    (k0_pay2 g a : S176x1024.Idx → EReal) y = m2 (g y) (a y) := by
  unfold k0_pay2 m2
  pointwise

/-- Output block 4 is what the body computes of the blocks. -/
theorem out4_eq (x0 : Vec Ideal S8x176x1024 .bf16) (x1 x2 x3 : Vec Ideal S176x1024 .f32) :
    out0_4 x0 x1 x2 x3 = k0_pay5 x0 x1 x2 x3 := by
  unfold out0_4
  rw [View.canon_unit_zero hz]

/-- Output block 6 is what the body computes of the blocks. -/
theorem out6_eq (x0 : Vec Ideal S8x176x1024 .bf16) (x1 x2 x3 : Vec Ideal S176x1024 .f32) :
    out0_6 x0 x1 x2 x3 = k0_pay1 (k0_pay5 x0 x1 x2 x3) x2 := by
  unfold out0_6
  rw [View.canon_unit_zero hz]
  simp only [View.ld_unit_zero (S := S176x1024) hz]

/-- Output block 7 is what the body computes of the blocks. -/
theorem out7_eq (x0 : Vec Ideal S8x176x1024 .bf16) (x1 x2 x3 : Vec Ideal S176x1024 .f32) :
    out0_7 x0 x1 x2 x3 = k0_pay2 (k0_pay5 x0 x1 x2 x3) x3 := by
  unfold out0_7
  rw [View.canon_unit_zero hz]
  simp only [View.ld_unit_zero (S := S176x1024) hz]

/-! ## The blocks of a point in the arrays -/

/-- Where the parts' block of point `t` lies. -/
theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

/-- Where the block of point `t` lies. -/
theorem idx2 : ∀ t : Fin cfg0.N, win0_2.index t 0 = t.val ∧ win0_2.index t 1 = 0 :=
  (by decide +kernel : ∀ t : Fin grid0.N, win0_2.index t 0 = t.val ∧ win0_2.index t 1 = 0)

/-- Where the block of point `t` lies. -/
theorem idx3 : ∀ t : Fin cfg0.N, win0_3.index t 0 = t.val ∧ win0_3.index t 1 = 0 :=
  (by decide +kernel : ∀ t : Fin grid0.N, win0_3.index t 0 = t.val ∧ win0_3.index t 1 = 0)

/-- Where the block of point `t` lies. -/
theorem idx4 : ∀ t : Fin cfg0.N, win0_4.index t 0 = t.val ∧ win0_4.index t 1 = 0 :=
  (by decide +kernel : ∀ t : Fin grid0.N, win0_4.index t 0 = t.val ∧ win0_4.index t 1 = 0)

/-- Where the block of point `t` lies. -/
theorem idx6 : ∀ t : Fin cfg0.N, win0_6.index t 0 = t.val ∧ win0_6.index t 1 = 0 :=
  (by decide +kernel : ∀ t : Fin grid0.N, win0_6.index t 0 = t.val ∧ win0_6.index t 1 = 0)

/-- Where the block of point `t` lies. -/
theorem idx7 : ∀ t : Fin cfg0.N, win0_7.index t 0 = t.val ∧ win0_7.index t 1 = 0 :=
  (by decide +kernel : ∀ t : Fin grid0.N, win0_7.index t 0 = t.val ∧ win0_7.index t 1 = 0)

/-- The row is in the array. -/
theorem row_ok (t : Fin cfg0.N) (k : Fin 176) : t.val * 176 + k.val < 352 := by
  have ht : t.val < 2 := lt_of_lt_of_eq t.isLt N_0
  omega

/-- Row `k` of block `t`. -/
def row (t : Fin cfg0.N) (k : Fin 176) : Fin 352 := ⟨t.val * 176 + k.val, row_ok t k⟩

/-- An entry of the parts' block of point `t`, in the whole array. -/
theorem blk0 (c : Dev nD) (t : Fin cfg0.N) (k : Fin 8) (a : Fin 176) (b : Fin 1024) :
    (iblk m c 0 t : S8x176x1024.Idx → EReal) (ix3 k a b) = V m c main_arg0 (ix3 k (row t a) b) := by
  obtain ⟨h0, h1, h2⟩ := idx0 t
  show V m c main_arg0 (((cfg0.win 0).blk t).view.emb (ix3 k a b)) = _
  congr 1; funext d; apply Fin.ext
  match d with
  | ⟨0, _⟩ => show win0_0.index t 0 * 8 + 1 * k.val = k.val; omega
  | ⟨1, _⟩ => show win0_0.index t 1 * 176 + 1 * a.val = t.val * 176 + a.val; omega
  | ⟨2, _⟩ => show win0_0.index t 2 * 1024 + 1 * b.val = b.val; omega

/-- An entry of the block of point `t`, in the whole array. -/
theorem blk2 (c : Dev nD) (t : Fin cfg0.N) (y : S176x1024.Idx) :
    (iblk m c 2 t : S176x1024.Idx → EReal) y = V m c main_arg2 (ix2 (row t (y 0)) (y 1)) := by
  obtain ⟨h0, h1⟩ := idx2 t
  show V m c main_arg2 (((cfg0.win 2).blk t).view.emb y) = _
  congr 1; funext d; apply Fin.ext
  match d with
  | ⟨0, _⟩ => show win0_2.index t 0 * 176 + 1 * (y 0).val = t.val * 176 + (y 0).val; omega
  | ⟨1, _⟩ => show win0_2.index t 1 * 1024 + 1 * (y 1).val = (y 1).val; omega

/-- An entry of the block of point `t`, in the whole array. -/
theorem blk3 (c : Dev nD) (t : Fin cfg0.N) (y : S176x1024.Idx) :
    (iblk m c 3 t : S176x1024.Idx → EReal) y = V m c main_arg3 (ix2 (row t (y 0)) (y 1)) := by
  obtain ⟨h0, h1⟩ := idx3 t
  show V m c main_arg3 (((cfg0.win 3).blk t).view.emb y) = _
  congr 1; funext d; apply Fin.ext
  match d with
  | ⟨0, _⟩ => show win0_3.index t 0 * 176 + 1 * (y 0).val = t.val * 176 + (y 0).val; omega
  | ⟨1, _⟩ => show win0_3.index t 1 * 1024 + 1 * (y 1).val = (y 1).val; omega

/-- An entry of the result block, in the whole array. -/
theorem emb4 (t : Fin cfg0.N) (y : S176x1024.Idx) : ((cfg0.win 4).blk t).view.emb y = ix2 (row t (y 0)) (y 1) := by
  obtain ⟨h0, h1⟩ := idx4 t
  funext d; apply Fin.ext
  match d with
  | ⟨0, _⟩ => show win0_4.index t 0 * 176 + 1 * (y 0).val = t.val * 176 + (y 0).val; omega
  | ⟨1, _⟩ => show win0_4.index t 1 * 1024 + 1 * (y 1).val = (y 1).val; omega

/-- An entry of the result block, in the whole array. -/
theorem emb6 (t : Fin cfg0.N) (y : S176x1024.Idx) : ((cfg0.win 6).blk t).view.emb y = ix2 (row t (y 0)) (y 1) := by
  obtain ⟨h0, h1⟩ := idx6 t
  funext d; apply Fin.ext
  match d with
  | ⟨0, _⟩ => show win0_6.index t 0 * 176 + 1 * (y 0).val = t.val * 176 + (y 0).val; omega
  | ⟨1, _⟩ => show win0_6.index t 1 * 1024 + 1 * (y 1).val = (y 1).val; omega

/-- An entry of the result block, in the whole array. -/
theorem emb7 (t : Fin cfg0.N) (y : S176x1024.Idx) : ((cfg0.win 7).blk t).view.emb y = ix2 (row t (y 0)) (y 1) := by
  obtain ⟨h0, h1⟩ := idx7 t
  funext d; apply Fin.ext
  match d with
  | ⟨0, _⟩ => show win0_7.index t 0 * 176 + 1 * (y 0).val = t.val * 176 + (y 0).val; omega
  | ⟨1, _⟩ => show win0_7.index t 1 * 1024 + 1 * (y 1).val = (y 1).val; omega

/-- The gradient's block, as entries of the whole sum. -/
theorem val4 (c : Dev nD) (t : Fin cfg0.N) (y : S176x1024.Idx) :
    (k0_pay5 (iblk m c 0 t) (iblk m c 1 t) (iblk m c 2 t) (iblk m c 3 t) : S176x1024.Idx → EReal) y = (G (V m c main_arg0)) (ix2 (row t (y 0)) (y 1)) :=
  (pay5_apply _ _ _ _ y).trans (Finset.sum_congr rfl fun k _ => blk0 m c t k (y 0) (y 1))

/-- The first moment's block, as entries of the whole array. -/
theorem val6 (c : Dev nD) (t : Fin cfg0.N) (y : S176x1024.Idx) :
    (k0_pay1 (k0_pay5 (iblk m c 0 t) (iblk m c 1 t) (iblk m c 2 t) (iblk m c 3 t)) (iblk m c 2 t) : S176x1024.Idx → EReal) y = (M1 (V m c main_arg0) (V m c main_arg2)) (ix2 (row t (y 0)) (y 1)) :=
  (pay1_apply _ _ y).trans (congrArg₂ m1 (val4 m c t y) (blk2 m c t y))

/-- The second moment's block, as entries of the whole array. -/
theorem val7 (c : Dev nD) (t : Fin cfg0.N) (y : S176x1024.Idx) :
    (k0_pay2 (k0_pay5 (iblk m c 0 t) (iblk m c 1 t) (iblk m c 2 t) (iblk m c 3 t)) (iblk m c 3 t) : S176x1024.Idx → EReal) y = (M2 (V m c main_arg0) (V m c main_arg3)) (ix2 (row t (y 0)) (y 1)) :=
  (pay2_apply _ _ y).trans (congrArg₂ m2 (val4 m c t y) (blk3 m c t y))

/-- The block of a row is one of the grid. -/
theorem row_lt (i : S352x1024.Idx) : (i 0).val / 176 < cfg0.N := by
  have h : (i 0).val < 352 := (i 0).isLt
  exact lt_of_lt_of_eq (show (i 0).val / 176 < 2 by omega) N_0.symm

/-- A row lies in its block. -/
theorem row_in (n : ℕ) : n / 176 * 176 ≤ n ∧ n < n / 176 * 176 + 176 := by omega

/-- What a point writes back to result 0 is its block of it. -/
theorem flushed4_eq (c : Dev nD) (t : Fin cfg0.N) :
    (dats m 0 c).flushed 4 t = ((cfg0.win 4).blk t).view.read (Elt Ideal) (G (V m c main_arg0)) := by
  rw [Value.flushed4, out4_eq]
  funext y
  exact (val4 m c t y).trans (congrArg (G (V m c main_arg0)) (emb4 t y)).symm

/-- An entry whose row lies in the block is in the block. -/
theorem mem_blk4 (t : Fin cfg0.N) (i : S352x1024.Idx)
    (h : t.val * 176 ≤ (i 0 : Nat) ∧ (i 0 : Nat) < t.val * 176 + 176) :
    i ∈ ((cfg0.win 4).blk t).view.set := by
  have h6 := idx4 t
  show i ∈ ((View.whole main_v0_0).slice (win0_4.rect t)).set
  rw [View.set_slice_whole, Rect.mem_set_unit]
  intro a
  match a with
  | ⟨0, _⟩ => show win0_4.index t 0 * 176 ≤ (i 0 : Nat) ∧ (i 0 : Nat) < win0_4.index t 0 * 176 + 176
              rw [h6.1]; exact h
  | ⟨1, _⟩ => show win0_4.index t 1 * 1024 ≤ (i 1 : Nat) ∧ (i 1 : Nat) < win0_4.index t 1 * 1024 + 1024
              rw [h6.2, Nat.zero_mul, Nat.zero_add]; exact ⟨Nat.zero_le _, (i 1).isLt⟩

/-- Every entry is in some block. -/
theorem cover4 (i : S352x1024.Idx) : ∃ t : Fin cfg0.N, (cfg0.win 4).flush t = true ∧ i ∈ ((cfg0.win 4).blk t).view.set := by
  have h := row_in (i 0).val
  have hl := row_lt i
  generalize (i 0).val / 176 = q at h hl
  exact ⟨⟨q, hl⟩, flush0_4 _, mem_blk4 ⟨q, hl⟩ i h⟩

/-- Result array 0 after the run. -/
theorem final4 (c : Dev nD) : (dats m 0 c).arrAt 4 cfg0.N = (G (V m c main_arg0)) :=
  (dats m 0 c).arrAt_eq_of_cover 4 _ (fun t _ => flushed4_eq m c t) (cover4)

/-- What a point writes back to result 2 is its block of it. -/
theorem flushed6_eq (c : Dev nD) (t : Fin cfg0.N) :
    (dats m 0 c).flushed 6 t = ((cfg0.win 6).blk t).view.read (Elt Ideal) (M1 (V m c main_arg0) (V m c main_arg2)) := by
  rw [Value.flushed6, out6_eq]
  funext y
  exact (val6 m c t y).trans (congrArg (M1 (V m c main_arg0) (V m c main_arg2)) (emb6 t y)).symm

/-- An entry whose row lies in the block is in the block. -/
theorem mem_blk6 (t : Fin cfg0.N) (i : S352x1024.Idx)
    (h : t.val * 176 ≤ (i 0 : Nat) ∧ (i 0 : Nat) < t.val * 176 + 176) :
    i ∈ ((cfg0.win 6).blk t).view.set := by
  have h6 := idx6 t
  show i ∈ ((View.whole main_v0_2).slice (win0_6.rect t)).set
  rw [View.set_slice_whole, Rect.mem_set_unit]
  intro a
  match a with
  | ⟨0, _⟩ => show win0_6.index t 0 * 176 ≤ (i 0 : Nat) ∧ (i 0 : Nat) < win0_6.index t 0 * 176 + 176
              rw [h6.1]; exact h
  | ⟨1, _⟩ => show win0_6.index t 1 * 1024 ≤ (i 1 : Nat) ∧ (i 1 : Nat) < win0_6.index t 1 * 1024 + 1024
              rw [h6.2, Nat.zero_mul, Nat.zero_add]; exact ⟨Nat.zero_le _, (i 1).isLt⟩

/-- Every entry is in some block. -/
theorem cover6 (i : S352x1024.Idx) : ∃ t : Fin cfg0.N, (cfg0.win 6).flush t = true ∧ i ∈ ((cfg0.win 6).blk t).view.set := by
  have h := row_in (i 0).val
  have hl := row_lt i
  generalize (i 0).val / 176 = q at h hl
  exact ⟨⟨q, hl⟩, flush0_6 _, mem_blk6 ⟨q, hl⟩ i h⟩

/-- Result array 2 after the run. -/
theorem final6 (c : Dev nD) : (dats m 0 c).arrAt 6 cfg0.N = (M1 (V m c main_arg0) (V m c main_arg2)) :=
  (dats m 0 c).arrAt_eq_of_cover 6 _ (fun t _ => flushed6_eq m c t) (cover6)

/-- What a point writes back to result 3 is its block of it. -/
theorem flushed7_eq (c : Dev nD) (t : Fin cfg0.N) :
    (dats m 0 c).flushed 7 t = ((cfg0.win 7).blk t).view.read (Elt Ideal) (M2 (V m c main_arg0) (V m c main_arg3)) := by
  rw [Value.flushed7, out7_eq]
  funext y
  exact (val7 m c t y).trans (congrArg (M2 (V m c main_arg0) (V m c main_arg3)) (emb7 t y)).symm

/-- An entry whose row lies in the block is in the block. -/
theorem mem_blk7 (t : Fin cfg0.N) (i : S352x1024.Idx)
    (h : t.val * 176 ≤ (i 0 : Nat) ∧ (i 0 : Nat) < t.val * 176 + 176) :
    i ∈ ((cfg0.win 7).blk t).view.set := by
  have h6 := idx7 t
  show i ∈ ((View.whole main_v0_3).slice (win0_7.rect t)).set
  rw [View.set_slice_whole, Rect.mem_set_unit]
  intro a
  match a with
  | ⟨0, _⟩ => show win0_7.index t 0 * 176 ≤ (i 0 : Nat) ∧ (i 0 : Nat) < win0_7.index t 0 * 176 + 176
              rw [h6.1]; exact h
  | ⟨1, _⟩ => show win0_7.index t 1 * 1024 ≤ (i 1 : Nat) ∧ (i 1 : Nat) < win0_7.index t 1 * 1024 + 1024
              rw [h6.2, Nat.zero_mul, Nat.zero_add]; exact ⟨Nat.zero_le _, (i 1).isLt⟩

/-- Every entry is in some block. -/
theorem cover7 (i : S352x1024.Idx) : ∃ t : Fin cfg0.N, (cfg0.win 7).flush t = true ∧ i ∈ ((cfg0.win 7).blk t).view.set := by
  have h := row_in (i 0).val
  have hl := row_lt i
  generalize (i 0).val / 176 = q at h hl
  exact ⟨⟨q, hl⟩, flush0_7 _, mem_blk7 ⟨q, hl⟩ i h⟩

/-- Result array 3 after the run. -/
theorem final7 (c : Dev nD) : (dats m 0 c).arrAt 7 cfg0.N = (M2 (V m c main_arg0) (V m c main_arg3)) :=
  (dats m 0 c).arrAt_eq_of_cover 7 _ (fun t _ => flushed7_eq m c t) (cover7)

end Cert.AdamDownIdeal.Entry

namespace Cert.AdamDownRefIdeal.Entry

open Cert.AdamDownRefIdeal Cert.AdamDownRefIdeal.Gen Idealize.ShloMosaic Idealize.ShloMosaic.TcCoe Idealize.SL.Sem

/-- The reference's sum of the parts is the same function. -/
theorem ref_g (P : Vec Ideal S8x352x1024 .bf16) :
    (Host.reduceAdd (extf (F := Ideal) .f32 P bitsLt_bf16_f32) (constant (F := Ideal) S_ .f32 0x00000000#32) reducesTo_S8x352x1024_S352x1024_d0 h_S_ : FVec Ideal S352x1024 .f32) = Cert.AdamDownIdeal.Entry.G P := by
  funext i
  unfold Cert.AdamDownIdeal.Entry.G
  pointwise

/-- The reference's first moment is the same function. -/
theorem ref_m (P : Vec Ideal S8x352x1024 .bf16) (M : Vec Ideal S352x1024 .f32) :
    (addf (mulf (broadcastInDim S352x1024 ![] bcast_S_S352x1024 (constant (F := Ideal) S_ .f32 0x3F666666#32)) M) (mulf (broadcastInDim S352x1024 ![] bcast_S_S352x1024 (constant (F := Ideal) S_ .f32 0x3DCCCCCD#32)) (Host.reduceAdd (extf (F := Ideal) .f32 P bitsLt_bf16_f32) (constant (F := Ideal) S_ .f32 0x00000000#32) reducesTo_S8x352x1024_S352x1024_d0 h_S_)) : FVec Ideal S352x1024 .f32) = Cert.AdamDownIdeal.Entry.M1 P M := by
  rw [ref_g]
  funext i
  unfold Cert.AdamDownIdeal.Entry.M1 Cert.AdamDownIdeal.Entry.m1
  generalize Cert.AdamDownIdeal.Entry.G P = g
  pointwise

/-- The reference's second moment is the same function. -/
theorem ref_v (P : Vec Ideal S8x352x1024 .bf16) (Q : Vec Ideal S352x1024 .f32) :
    (addf (mulf (broadcastInDim S352x1024 ![] bcast_S_S352x1024 (constant (F := Ideal) S_ .f32 0x3F7FBE77#32)) Q) (mulf (broadcastInDim S352x1024 ![] bcast_S_S352x1024 (constant (F := Ideal) S_ .f32 0x3A83126F#32)) (mulf (Host.reduceAdd (extf (F := Ideal) .f32 P bitsLt_bf16_f32) (constant (F := Ideal) S_ .f32 0x00000000#32) reducesTo_S8x352x1024_S352x1024_d0 h_S_) (Host.reduceAdd (extf (F := Ideal) .f32 P bitsLt_bf16_f32) (constant (F := Ideal) S_ .f32 0x00000000#32) reducesTo_S8x352x1024_S352x1024_d0 h_S_))) : FVec Ideal S352x1024 .f32) = Cert.AdamDownIdeal.Entry.M2 P Q := by
  rw [ref_g]
  funext i
  unfold Cert.AdamDownIdeal.Entry.M2 Cert.AdamDownIdeal.Entry.m2
  generalize Cert.AdamDownIdeal.Entry.G P = g
  pointwise

end Cert.AdamDownRefIdeal.Entry

namespace Cert.Proof

open Idealize.ShloMosaic Idealize.ShloMosaic.TcCoe Idealize.SL.Sem

/-- The summed gradient of `w_down` and its two moments: kernel and reference end with equal results. -/
theorem algebraic_adam_down : Cert.algebraic_AdamDownIdeal_AdamDownRefIdeal := by
  intro m ρ m' ρ' _ hag
  refine ⟨fun c => Cert.AdamDownIdeal.Entry.G (m ((c.tc : Thread Cert.AdamDownIdeal.nD Cert.AdamDownIdeal.τ).loc Cert.AdamDownIdeal.main_arg0)),
    fun c => Cert.AdamDownIdeal.Entry.M1 (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg2)),
    fun c => Cert.AdamDownIdeal.Entry.M2 (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg3)),
    (θ_run Cert.AdamDownIdeal.defs _ _).mono (fun _ h c => ⟨(h c).1.trans (Cert.AdamDownIdeal.Entry.final4 m c), (h c).2.2.1.trans (Cert.AdamDownIdeal.Entry.final6 m c), (h c).2.2.2.1.trans (Cert.AdamDownIdeal.Entry.final7 m c), (h c).2.2.2.2⟩) (Cert.AdamDownIdeal.Value.run_blocks (F := Ideal) m ρ),
    (θ_run Cert.AdamDownRefIdeal.defs _ _).mono (fun _ h c => ⟨?_, ?_, ?_, (h c).2.2.2⟩) (Cert.AdamDownRefIdeal.Value.run (F := Ideal) m' ρ')⟩
  · refine (h c).1.trans ((Cert.AdamDownRefIdeal.Entry.ref_g _).trans ?_)
    rw [(hag c).1]
  · refine (h c).2.1.trans ((Cert.AdamDownRefIdeal.Entry.ref_m _ _).trans ?_)
    rw [(hag c).1, (hag c).2.2.1]
  · refine (h c).2.2.1.trans ((Cert.AdamDownRefIdeal.Entry.ref_v _ _).trans ?_)
    rw [(hag c).1, (hag c).2.2.2]

/-- The reference leaves its arguments as they were. -/
theorem frame_adam_down_ref : Cert.quiescent_AdamDownRefIdeal := by
  intro m ρ _
  exact (θ_run Cert.AdamDownRefIdeal.defs _ _).mono (fun r h => ⟨fun c => (h c).2.2.2,
      Idealize.ShloMosaic.sem_eq_zero_of_no_sems (by decide) r.2⟩)
    (Cert.AdamDownRefIdeal.Value.run (F := Ideal) m ρ)

end Cert.Proof

end
-- ==== Proof.AdamAtt.lean ====
/-
  The gradient of `w_att_out` summed over the devices and its two moments after one step: the kernel `adam_w_att_out` adds the eight parts
  one after the other, 512 rows at a time, the reference sums them in one piece. The sums and both moments agree at every entry.
-/
module

public import proofs.«01_k».proof.Defs
public import proofs.«01_k».proof.Proof.Gen.AdamAttIdeal.Value
public import proofs.«01_k».proof.Proof.Gen.AdamAttRefIdeal
public import proofs.«01_k».proof.Proof.Gen.AdamAttRefIdeal.Run
public import Idealize.ShloMosaic.Lib.Pipeline.Value
public import Idealize.ShloMosaic.Lib.Pointwise
public import Idealize.ShloMosaic.Lib.Tactic

@[expose] public section

noncomputable section

namespace Cert.AdamAttIdeal.Entry

open Cert.AdamAttIdeal Cert.AdamAttIdeal.Gen Idealize.ShloMosaic Idealize.ShloMosaic.TcCoe Idealize.SL.Sem
open Idealize.ShloMosaic.Pipeline (Dat)

variable (m : (ℓ : Loc nD τ sig) → Buf (Elt Ideal) ℓ)

/-- The zero corner. -/
theorem hz : (![0, 0] : Fin 2 → Nat) = fun _ => 0 := funext fun a => by fin_cases a <;> rfl

/-- The gradient: the sum of the eight parts. -/
def G (P : S8x512x128.Idx → EReal) : S512x128.Idx → EReal := fun i => ∑ k : Fin 8, P (ix3 k (i 0) (i 1))

/-- The first moment of one entry. -/
def m1 (g a : EReal) : EReal := Ideal.ofBits .f32 0x3F666666#32 * a + Ideal.ofBits .f32 0x3DCCCCCD#32 * g

/-- The second moment of one entry. -/
def m2 (g a : EReal) : EReal := Ideal.ofBits .f32 0x3F7FBE77#32 * a + Ideal.ofBits .f32 0x3A83126F#32 * (g * g)

/-- The first moment after the step. -/
def M1 (P : S8x512x128.Idx → EReal) (A : S512x128.Idx → EReal) : S512x128.Idx → EReal := fun i => m1 (G P i) (A i)

/-- The second moment after the step. -/
def M2 (P : S8x512x128.Idx → EReal) (A : S512x128.Idx → EReal) : S512x128.Idx → EReal := fun i => m2 (G P i) (A i)

/-! ## What the body computes -/

/-- Part 0, as the body loads it. -/
theorem ld0 (x : Vec Ideal S8x512x128 .bf16) (a : Fin 512) (b : Fin 128) :
    (View.ld x r0_0 : S1x512x128.Idx → EReal) (ix3 0 a b) = x (ix3 0 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 1, as the body loads it. -/
theorem ld1 (x : Vec Ideal S8x512x128 .bf16) (a : Fin 512) (b : Fin 128) :
    (View.ld x r0_1 : S1x512x128.Idx → EReal) (ix3 0 a b) = x (ix3 1 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 2, as the body loads it. -/
theorem ld2 (x : Vec Ideal S8x512x128 .bf16) (a : Fin 512) (b : Fin 128) :
    (View.ld x r0_2 : S1x512x128.Idx → EReal) (ix3 0 a b) = x (ix3 2 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 3, as the body loads it. -/
theorem ld3 (x : Vec Ideal S8x512x128 .bf16) (a : Fin 512) (b : Fin 128) :
    (View.ld x r0_3 : S1x512x128.Idx → EReal) (ix3 0 a b) = x (ix3 3 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 4, as the body loads it. -/
theorem ld4 (x : Vec Ideal S8x512x128 .bf16) (a : Fin 512) (b : Fin 128) :
    (View.ld x r0_4 : S1x512x128.Idx → EReal) (ix3 0 a b) = x (ix3 4 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 5, as the body loads it. -/
theorem ld5 (x : Vec Ideal S8x512x128 .bf16) (a : Fin 512) (b : Fin 128) :
    (View.ld x r0_5 : S1x512x128.Idx → EReal) (ix3 0 a b) = x (ix3 5 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 6, as the body loads it. -/
theorem ld6 (x : Vec Ideal S8x512x128 .bf16) (a : Fin 512) (b : Fin 128) :
    (View.ld x r0_6 : S1x512x128.Idx → EReal) (ix3 0 a b) = x (ix3 6 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 7, as the body loads it. -/
theorem ld7 (x : Vec Ideal S8x512x128 .bf16) (a : Fin 512) (b : Fin 128) :
    (View.ld x r0_7 : S1x512x128.Idx → EReal) (ix3 0 a b) = x (ix3 7 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- The eight loaded parts added up, at one entry. -/
theorem pay4_apply (v0 v1 v2 v3 v4 v5 v6 v7 : Vec Ideal S1x512x128 .bf16) (y : S512x128.Idx) :
    (k0_pay4 v0 v1 v2 v3 v4 v5 v6 v7 : S512x128.Idx → EReal) y = v0 (ix3 0 (y 0) (y 1)) + v1 (ix3 0 (y 0) (y 1)) + v2 (ix3 0 (y 0) (y 1)) + v3 (ix3 0 (y 0) (y 1)) + v4 (ix3 0 (y 0) (y 1)) + v5 (ix3 0 (y 0) (y 1)) + v6 (ix3 0 (y 0) (y 1)) + v7 (ix3 0 (y 0) (y 1)) := by
  unfold k0_pay4
  pointwise

/-- Equal parts give equal sums. -/
theorem add8 (a0 a1 a2 a3 a4 a5 a6 a7 b0 b1 b2 b3 b4 b5 b6 b7 : EReal) (h0 : a0 = b0) (h1 : a1 = b1) (h2 : a2 = b2) (h3 : a3 = b3) (h4 : a4 = b4) (h5 : a5 = b5) (h6 : a6 = b6) (h7 : a7 = b7) :
    a0 + a1 + a2 + a3 + a4 + a5 + a6 + a7 = b0 + b1 + b2 + b3 + b4 + b5 + b6 + b7 := by
  rw [h0, h1, h2, h3, h4, h5, h6, h7]

/-- The gradient of a block is the sum of the parts' blocks. -/
theorem pay5_apply (x0 : Vec Ideal S8x512x128 .bf16) (x1 x2 x3 : Vec Ideal S512x128 .f32) (y : S512x128.Idx) :
    (k0_pay5 x0 x1 x2 x3 : S512x128.Idx → EReal) y = ∑ k : Fin 8, x0 (ix3 k (y 0) (y 1)) := by
  unfold k0_pay5
  refine (pay4_apply _ _ _ _ _ _ _ _ y).trans ?_
  refine Eq.trans ?_ (Fin.sum_univ_eight (fun k : Fin 8 => (x0 (ix3 k (y 0) (y 1)) : EReal))).symm
  exact add8 _ _ _ _ _ _ _ _ _ _ _ _ _ _ _ _ (ld0 x0 (y 0) (y 1)) (ld1 x0 (y 0) (y 1)) (ld2 x0 (y 0) (y 1)) (ld3 x0 (y 0) (y 1)) (ld4 x0 (y 0) (y 1)) (ld5 x0 (y 0) (y 1)) (ld6 x0 (y 0) (y 1)) (ld7 x0 (y 0) (y 1))

/-- The first moment of a block, at one entry. -/
theorem pay1_apply (g : FVec Ideal S512x128 .f32) (a : Vec Ideal S512x128 .f32) (y : S512x128.Idx) :
    (k0_pay1 g a : S512x128.Idx → EReal) y = m1 (g y) (a y) := by
  unfold k0_pay1 m1
  pointwise

/-- The second moment of a block, at one entry. -/
theorem pay2_apply (g : FVec Ideal S512x128 .f32) (a : Vec Ideal S512x128 .f32) (y : S512x128.Idx) :
    (k0_pay2 g a : S512x128.Idx → EReal) y = m2 (g y) (a y) := by
  unfold k0_pay2 m2
  pointwise

/-- Output block 4 is what the body computes of the blocks. -/
theorem out4_eq (x0 : Vec Ideal S8x512x128 .bf16) (x1 x2 x3 : Vec Ideal S512x128 .f32) :
    out0_4 x0 x1 x2 x3 = k0_pay5 x0 x1 x2 x3 := by
  unfold out0_4
  rw [View.canon_unit_zero hz]

/-- Output block 6 is what the body computes of the blocks. -/
theorem out6_eq (x0 : Vec Ideal S8x512x128 .bf16) (x1 x2 x3 : Vec Ideal S512x128 .f32) :
    out0_6 x0 x1 x2 x3 = k0_pay1 (k0_pay5 x0 x1 x2 x3) x2 := by
  unfold out0_6
  rw [View.canon_unit_zero hz]
  simp only [View.ld_unit_zero (S := S512x128) hz]

/-- Output block 7 is what the body computes of the blocks. -/
theorem out7_eq (x0 : Vec Ideal S8x512x128 .bf16) (x1 x2 x3 : Vec Ideal S512x128 .f32) :
    out0_7 x0 x1 x2 x3 = k0_pay2 (k0_pay5 x0 x1 x2 x3) x3 := by
  unfold out0_7
  rw [View.canon_unit_zero hz]
  simp only [View.ld_unit_zero (S := S512x128) hz]

/-! ## The blocks of a point in the arrays -/

/-- Where the parts' block of point `t` lies. -/
theorem idx0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)

/-- Where the block of point `t` lies. -/
theorem idx2 : ∀ t : Fin cfg0.N, win0_2.index t 0 = 0 ∧ win0_2.index t 1 = 0 :=
  (by decide +kernel : ∀ t : Fin grid0.N, win0_2.index t 0 = 0 ∧ win0_2.index t 1 = 0)

/-- Where the block of point `t` lies. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Where the block of point `t` lies. -/
theorem idx4 : ∀ t : Fin cfg0.N, win0_4.index t 0 = 0 ∧ win0_4.index t 1 = 0 :=
  (by decide +kernel : ∀ t : Fin grid0.N, win0_4.index t 0 = 0 ∧ win0_4.index t 1 = 0)

/-- Where the block of point `t` lies. -/
theorem idx6 : ∀ t : Fin cfg0.N, win0_6.index t 0 = 0 ∧ win0_6.index t 1 = 0 :=
  (by decide +kernel : ∀ t : Fin grid0.N, win0_6.index t 0 = 0 ∧ win0_6.index t 1 = 0)

/-- Where the block of point `t` lies. -/
theorem idx7 : ∀ t : Fin cfg0.N, win0_7.index t 0 = 0 ∧ win0_7.index t 1 = 0 :=
  (by decide +kernel : ∀ t : Fin grid0.N, win0_7.index t 0 = 0 ∧ win0_7.index t 1 = 0)

/-- The row is in the array. -/
theorem row_ok (t : Fin cfg0.N) (k : Fin 512) : t.val * 512 + k.val < 512 := by
  have ht : t.val < 1 := lt_of_lt_of_eq t.isLt N_0
  omega

/-- Row `k` of block `t`. -/
def row (t : Fin cfg0.N) (k : Fin 512) : Fin 512 := ⟨t.val * 512 + k.val, row_ok t k⟩

/-- An entry of the parts' block of point `t`, in the whole array. -/
theorem blk0 (c : Dev nD) (t : Fin cfg0.N) (k : Fin 8) (a : Fin 512) (b : Fin 128) :
    (iblk m c 0 t : S8x512x128.Idx → EReal) (ix3 k a b) = V m c main_arg0 (ix3 k (row t a) b) := by
  obtain ⟨h0, h1, h2⟩ := idx0 t
  have ht : t.val < 1 := lt_of_lt_of_eq t.isLt N_0
  show V m c main_arg0 (((cfg0.win 0).blk t).view.emb (ix3 k a b)) = _
  congr 1; funext d; apply Fin.ext
  match d with
  | ⟨0, _⟩ => show win0_0.index t 0 * 8 + 1 * k.val = k.val; omega
  | ⟨1, _⟩ => show win0_0.index t 1 * 512 + 1 * a.val = t.val * 512 + a.val; omega
  | ⟨2, _⟩ => show win0_0.index t 2 * 128 + 1 * b.val = b.val; omega

/-- An entry of the block of point `t`, in the whole array. -/
theorem blk2 (c : Dev nD) (t : Fin cfg0.N) (y : S512x128.Idx) :
    (iblk m c 2 t : S512x128.Idx → EReal) y = V m c main_arg2 (ix2 (row t (y 0)) (y 1)) := by
  obtain ⟨h0, h1⟩ := idx2 t
  have ht : t.val < 1 := lt_of_lt_of_eq t.isLt N_0
  show V m c main_arg2 (((cfg0.win 2).blk t).view.emb y) = _
  congr 1; funext d; apply Fin.ext
  match d with
  | ⟨0, _⟩ => show win0_2.index t 0 * 512 + 1 * (y 0).val = t.val * 512 + (y 0).val; omega
  | ⟨1, _⟩ => show win0_2.index t 1 * 128 + 1 * (y 1).val = (y 1).val; omega

/-- An entry of the block of point `t`, in the whole array. -/
theorem blk3 (c : Dev nD) (t : Fin cfg0.N) (y : S512x128.Idx) :
    (iblk m c 3 t : S512x128.Idx → EReal) y = V m c main_arg3 (ix2 (row t (y 0)) (y 1)) := by
  obtain ⟨h0, h1⟩ := idx3 t
  have ht : t.val < 1 := lt_of_lt_of_eq t.isLt N_0
  show V m c main_arg3 (((cfg0.win 3).blk t).view.emb y) = _
  congr 1; funext d; apply Fin.ext
  match d with
  | ⟨0, _⟩ => show win0_3.index t 0 * 512 + 1 * (y 0).val = t.val * 512 + (y 0).val; omega
  | ⟨1, _⟩ => show win0_3.index t 1 * 128 + 1 * (y 1).val = (y 1).val; omega

/-- An entry of the result block, in the whole array. -/
theorem emb4 (t : Fin cfg0.N) (y : S512x128.Idx) : ((cfg0.win 4).blk t).view.emb y = ix2 (row t (y 0)) (y 1) := by
  obtain ⟨h0, h1⟩ := idx4 t
  have ht : t.val < 1 := lt_of_lt_of_eq t.isLt N_0
  funext d; apply Fin.ext
  match d with
  | ⟨0, _⟩ => show win0_4.index t 0 * 512 + 1 * (y 0).val = t.val * 512 + (y 0).val; omega
  | ⟨1, _⟩ => show win0_4.index t 1 * 128 + 1 * (y 1).val = (y 1).val; omega

/-- An entry of the result block, in the whole array. -/
theorem emb6 (t : Fin cfg0.N) (y : S512x128.Idx) : ((cfg0.win 6).blk t).view.emb y = ix2 (row t (y 0)) (y 1) := by
  obtain ⟨h0, h1⟩ := idx6 t
  have ht : t.val < 1 := lt_of_lt_of_eq t.isLt N_0
  funext d; apply Fin.ext
  match d with
  | ⟨0, _⟩ => show win0_6.index t 0 * 512 + 1 * (y 0).val = t.val * 512 + (y 0).val; omega
  | ⟨1, _⟩ => show win0_6.index t 1 * 128 + 1 * (y 1).val = (y 1).val; omega

/-- An entry of the result block, in the whole array. -/
theorem emb7 (t : Fin cfg0.N) (y : S512x128.Idx) : ((cfg0.win 7).blk t).view.emb y = ix2 (row t (y 0)) (y 1) := by
  obtain ⟨h0, h1⟩ := idx7 t
  have ht : t.val < 1 := lt_of_lt_of_eq t.isLt N_0
  funext d; apply Fin.ext
  match d with
  | ⟨0, _⟩ => show win0_7.index t 0 * 512 + 1 * (y 0).val = t.val * 512 + (y 0).val; omega
  | ⟨1, _⟩ => show win0_7.index t 1 * 128 + 1 * (y 1).val = (y 1).val; omega

/-- The gradient's block, as entries of the whole sum. -/
theorem val4 (c : Dev nD) (t : Fin cfg0.N) (y : S512x128.Idx) :
    (k0_pay5 (iblk m c 0 t) (iblk m c 1 t) (iblk m c 2 t) (iblk m c 3 t) : S512x128.Idx → EReal) y = (G (V m c main_arg0)) (ix2 (row t (y 0)) (y 1)) :=
  (pay5_apply _ _ _ _ y).trans (Finset.sum_congr rfl fun k _ => blk0 m c t k (y 0) (y 1))

/-- The first moment's block, as entries of the whole array. -/
theorem val6 (c : Dev nD) (t : Fin cfg0.N) (y : S512x128.Idx) :
    (k0_pay1 (k0_pay5 (iblk m c 0 t) (iblk m c 1 t) (iblk m c 2 t) (iblk m c 3 t)) (iblk m c 2 t) : S512x128.Idx → EReal) y = (M1 (V m c main_arg0) (V m c main_arg2)) (ix2 (row t (y 0)) (y 1)) :=
  (pay1_apply _ _ y).trans (congrArg₂ m1 (val4 m c t y) (blk2 m c t y))

/-- The second moment's block, as entries of the whole array. -/
theorem val7 (c : Dev nD) (t : Fin cfg0.N) (y : S512x128.Idx) :
    (k0_pay2 (k0_pay5 (iblk m c 0 t) (iblk m c 1 t) (iblk m c 2 t) (iblk m c 3 t)) (iblk m c 3 t) : S512x128.Idx → EReal) y = (M2 (V m c main_arg0) (V m c main_arg3)) (ix2 (row t (y 0)) (y 1)) :=
  (pay2_apply _ _ y).trans (congrArg₂ m2 (val4 m c t y) (blk3 m c t y))

/-- The block of a row is one of the grid. -/
theorem row_lt (i : S512x128.Idx) : (i 0).val / 512 < cfg0.N := by
  have h : (i 0).val < 512 := (i 0).isLt
  exact lt_of_lt_of_eq (show (i 0).val / 512 < 1 by omega) N_0.symm

/-- A row lies in its block. -/
theorem row_in (n : ℕ) : n / 512 * 512 ≤ n ∧ n < n / 512 * 512 + 512 := by omega

/-- What a point writes back to result 0 is its block of it. -/
theorem flushed4_eq (c : Dev nD) (t : Fin cfg0.N) :
    (dats m 0 c).flushed 4 t = ((cfg0.win 4).blk t).view.read (Elt Ideal) (G (V m c main_arg0)) := by
  rw [Value.flushed4, out4_eq]
  funext y
  exact (val4 m c t y).trans (congrArg (G (V m c main_arg0)) (emb4 t y)).symm

/-- An entry whose row lies in the block is in the block. -/
theorem mem_blk4 (t : Fin cfg0.N) (i : S512x128.Idx)
    (h : t.val * 512 ≤ (i 0 : Nat) ∧ (i 0 : Nat) < t.val * 512 + 512) :
    i ∈ ((cfg0.win 4).blk t).view.set := by
  have h6 := idx4 t
  show i ∈ ((View.whole main_v0_0).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512
              rw [h6.1, Nat.zero_mul, Nat.zero_add]; exact ⟨Nat.zero_le _, (i 0).isLt⟩
  | ⟨1, _⟩ => show win0_4.index t 1 * 128 ≤ (i 1 : Nat) ∧ (i 1 : Nat) < win0_4.index t 1 * 128 + 128
              rw [h6.2, Nat.zero_mul, Nat.zero_add]; exact ⟨Nat.zero_le _, (i 1).isLt⟩

/-- Every entry is in some block. -/
theorem cover4 (i : S512x128.Idx) : ∃ t : Fin cfg0.N, (cfg0.win 4).flush t = true ∧ i ∈ ((cfg0.win 4).blk t).view.set := by
  have h := row_in (i 0).val
  have hl := row_lt i
  generalize (i 0).val / 512 = q at h hl
  exact ⟨⟨q, hl⟩, flush0_4 _, mem_blk4 ⟨q, hl⟩ i h⟩

/-- Result array 0 after the run. -/
theorem final4 (c : Dev nD) : (dats m 0 c).arrAt 4 cfg0.N = (G (V m c main_arg0)) :=
  (dats m 0 c).arrAt_eq_of_cover 4 _ (fun t _ => flushed4_eq m c t) (cover4)

/-- What a point writes back to result 2 is its block of it. -/
theorem flushed6_eq (c : Dev nD) (t : Fin cfg0.N) :
    (dats m 0 c).flushed 6 t = ((cfg0.win 6).blk t).view.read (Elt Ideal) (M1 (V m c main_arg0) (V m c main_arg2)) := by
  rw [Value.flushed6, out6_eq]
  funext y
  exact (val6 m c t y).trans (congrArg (M1 (V m c main_arg0) (V m c main_arg2)) (emb6 t y)).symm

/-- An entry whose row lies in the block is in the block. -/
theorem mem_blk6 (t : Fin cfg0.N) (i : S512x128.Idx)
    (h : t.val * 512 ≤ (i 0 : Nat) ∧ (i 0 : Nat) < t.val * 512 + 512) :
    i ∈ ((cfg0.win 6).blk t).view.set := by
  have h6 := idx6 t
  show i ∈ ((View.whole main_v0_2).slice (win0_6.rect t)).set
  rw [View.set_slice_whole, Rect.mem_set_unit]
  intro a
  match a with
  | ⟨0, _⟩ => show win0_6.index t 0 * 512 ≤ (i 0 : Nat) ∧ (i 0 : Nat) < win0_6.index t 0 * 512 + 512
              rw [h6.1, Nat.zero_mul, Nat.zero_add]; exact ⟨Nat.zero_le _, (i 0).isLt⟩
  | ⟨1, _⟩ => show win0_6.index t 1 * 128 ≤ (i 1 : Nat) ∧ (i 1 : Nat) < win0_6.index t 1 * 128 + 128
              rw [h6.2, Nat.zero_mul, Nat.zero_add]; exact ⟨Nat.zero_le _, (i 1).isLt⟩

/-- Every entry is in some block. -/
theorem cover6 (i : S512x128.Idx) : ∃ t : Fin cfg0.N, (cfg0.win 6).flush t = true ∧ i ∈ ((cfg0.win 6).blk t).view.set := by
  have h := row_in (i 0).val
  have hl := row_lt i
  generalize (i 0).val / 512 = q at h hl
  exact ⟨⟨q, hl⟩, flush0_6 _, mem_blk6 ⟨q, hl⟩ i h⟩

/-- Result array 2 after the run. -/
theorem final6 (c : Dev nD) : (dats m 0 c).arrAt 6 cfg0.N = (M1 (V m c main_arg0) (V m c main_arg2)) :=
  (dats m 0 c).arrAt_eq_of_cover 6 _ (fun t _ => flushed6_eq m c t) (cover6)

/-- What a point writes back to result 3 is its block of it. -/
theorem flushed7_eq (c : Dev nD) (t : Fin cfg0.N) :
    (dats m 0 c).flushed 7 t = ((cfg0.win 7).blk t).view.read (Elt Ideal) (M2 (V m c main_arg0) (V m c main_arg3)) := by
  rw [Value.flushed7, out7_eq]
  funext y
  exact (val7 m c t y).trans (congrArg (M2 (V m c main_arg0) (V m c main_arg3)) (emb7 t y)).symm

/-- An entry whose row lies in the block is in the block. -/
theorem mem_blk7 (t : Fin cfg0.N) (i : S512x128.Idx)
    (h : t.val * 512 ≤ (i 0 : Nat) ∧ (i 0 : Nat) < t.val * 512 + 512) :
    i ∈ ((cfg0.win 7).blk t).view.set := by
  have h6 := idx7 t
  show i ∈ ((View.whole main_v0_3).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512
              rw [h6.1, Nat.zero_mul, Nat.zero_add]; exact ⟨Nat.zero_le _, (i 0).isLt⟩
  | ⟨1, _⟩ => show win0_7.index t 1 * 128 ≤ (i 1 : Nat) ∧ (i 1 : Nat) < win0_7.index t 1 * 128 + 128
              rw [h6.2, Nat.zero_mul, Nat.zero_add]; exact ⟨Nat.zero_le _, (i 1).isLt⟩

/-- Every entry is in some block. -/
theorem cover7 (i : S512x128.Idx) : ∃ t : Fin cfg0.N, (cfg0.win 7).flush t = true ∧ i ∈ ((cfg0.win 7).blk t).view.set := by
  have h := row_in (i 0).val
  have hl := row_lt i
  generalize (i 0).val / 512 = q at h hl
  exact ⟨⟨q, hl⟩, flush0_7 _, mem_blk7 ⟨q, hl⟩ i h⟩

/-- Result array 3 after the run. -/
theorem final7 (c : Dev nD) : (dats m 0 c).arrAt 7 cfg0.N = (M2 (V m c main_arg0) (V m c main_arg3)) :=
  (dats m 0 c).arrAt_eq_of_cover 7 _ (fun t _ => flushed7_eq m c t) (cover7)

end Cert.AdamAttIdeal.Entry

namespace Cert.AdamAttRefIdeal.Entry

open Cert.AdamAttRefIdeal Cert.AdamAttRefIdeal.Gen Idealize.ShloMosaic Idealize.ShloMosaic.TcCoe Idealize.SL.Sem

/-- The reference's sum of the parts is the same function. -/
theorem ref_g (P : Vec Ideal S8x512x128 .bf16) :
    (Host.reduceAdd (extf (F := Ideal) .f32 P bitsLt_bf16_f32) (constant (F := Ideal) S_ .f32 0x00000000#32) reducesTo_S8x512x128_S512x128_d0 h_S_ : FVec Ideal S512x128 .f32) = Cert.AdamAttIdeal.Entry.G P := by
  funext i
  unfold Cert.AdamAttIdeal.Entry.G
  pointwise

/-- The reference's first moment is the same function. -/
theorem ref_m (P : Vec Ideal S8x512x128 .bf16) (M : Vec Ideal S512x128 .f32) :
    (addf (mulf (broadcastInDim S512x128 ![] bcast_S_S512x128 (constant (F := Ideal) S_ .f32 0x3F666666#32)) M) (mulf (broadcastInDim S512x128 ![] bcast_S_S512x128 (constant (F := Ideal) S_ .f32 0x3DCCCCCD#32)) (Host.reduceAdd (extf (F := Ideal) .f32 P bitsLt_bf16_f32) (constant (F := Ideal) S_ .f32 0x00000000#32) reducesTo_S8x512x128_S512x128_d0 h_S_)) : FVec Ideal S512x128 .f32) = Cert.AdamAttIdeal.Entry.M1 P M := by
  rw [ref_g]
  funext i
  unfold Cert.AdamAttIdeal.Entry.M1 Cert.AdamAttIdeal.Entry.m1
  generalize Cert.AdamAttIdeal.Entry.G P = g
  pointwise

/-- The reference's second moment is the same function. -/
theorem ref_v (P : Vec Ideal S8x512x128 .bf16) (Q : Vec Ideal S512x128 .f32) :
    (addf (mulf (broadcastInDim S512x128 ![] bcast_S_S512x128 (constant (F := Ideal) S_ .f32 0x3F7FBE77#32)) Q) (mulf (broadcastInDim S512x128 ![] bcast_S_S512x128 (constant (F := Ideal) S_ .f32 0x3A83126F#32)) (mulf (Host.reduceAdd (extf (F := Ideal) .f32 P bitsLt_bf16_f32) (constant (F := Ideal) S_ .f32 0x00000000#32) reducesTo_S8x512x128_S512x128_d0 h_S_) (Host.reduceAdd (extf (F := Ideal) .f32 P bitsLt_bf16_f32) (constant (F := Ideal) S_ .f32 0x00000000#32) reducesTo_S8x512x128_S512x128_d0 h_S_))) : FVec Ideal S512x128 .f32) = Cert.AdamAttIdeal.Entry.M2 P Q := by
  rw [ref_g]
  funext i
  unfold Cert.AdamAttIdeal.Entry.M2 Cert.AdamAttIdeal.Entry.m2
  generalize Cert.AdamAttIdeal.Entry.G P = g
  pointwise

end Cert.AdamAttRefIdeal.Entry

namespace Cert.Proof

open Idealize.ShloMosaic Idealize.ShloMosaic.TcCoe Idealize.SL.Sem

/-- The summed gradient of `w_att_out` and its two moments: kernel and reference end with equal results. -/
theorem algebraic_adam_att : Cert.algebraic_AdamAttIdeal_AdamAttRefIdeal := by
  intro m ρ m' ρ' _ hag
  refine ⟨fun c => Cert.AdamAttIdeal.Entry.G (m ((c.tc : Thread Cert.AdamAttIdeal.nD Cert.AdamAttIdeal.τ).loc Cert.AdamAttIdeal.main_arg0)),
    fun c => Cert.AdamAttIdeal.Entry.M1 (m ((c.tc : Thread Cert.AdamAttIdeal.nD Cert.AdamAttIdeal.τ).loc Cert.AdamAttIdeal.main_arg0)) (m ((c.tc : Thread Cert.AdamAttIdeal.nD Cert.AdamAttIdeal.τ).loc Cert.AdamAttIdeal.main_arg2)),
    fun c => Cert.AdamAttIdeal.Entry.M2 (m ((c.tc : Thread Cert.AdamAttIdeal.nD Cert.AdamAttIdeal.τ).loc Cert.AdamAttIdeal.main_arg0)) (m ((c.tc : Thread Cert.AdamAttIdeal.nD Cert.AdamAttIdeal.τ).loc Cert.AdamAttIdeal.main_arg3)),
    (θ_run Cert.AdamAttIdeal.defs _ _).mono (fun _ h c => ⟨(h c).1.trans (Cert.AdamAttIdeal.Entry.final4 m c), (h c).2.2.1.trans (Cert.AdamAttIdeal.Entry.final6 m c), (h c).2.2.2.1.trans (Cert.AdamAttIdeal.Entry.final7 m c), (h c).2.2.2.2⟩) (Cert.AdamAttIdeal.Value.run_blocks (F := Ideal) m ρ),
    (θ_run Cert.AdamAttRefIdeal.defs _ _).mono (fun _ h c => ⟨?_, ?_, ?_, (h c).2.2.2⟩) (Cert.AdamAttRefIdeal.Value.run (F := Ideal) m' ρ')⟩
  · refine (h c).1.trans ((Cert.AdamAttRefIdeal.Entry.ref_g _).trans ?_)
    rw [(hag c).1]
  · refine (h c).2.1.trans ((Cert.AdamAttRefIdeal.Entry.ref_m _ _).trans ?_)
    rw [(hag c).1, (hag c).2.2.1]
  · refine (h c).2.2.1.trans ((Cert.AdamAttRefIdeal.Entry.ref_v _ _).trans ?_)
    rw [(hag c).1, (hag c).2.2.2]

/-- The reference leaves its arguments as they were. -/
theorem frame_adam_att_ref : Cert.quiescent_AdamAttRefIdeal := by
  intro m ρ _
  exact (θ_run Cert.AdamAttRefIdeal.defs _ _).mono (fun r h => ⟨fun c => (h c).2.2.2,
      Idealize.ShloMosaic.sem_eq_zero_of_no_sems (by decide) r.2⟩)
    (Cert.AdamAttRefIdeal.Value.run (F := Ideal) m ρ)

end Cert.Proof

end
-- ==== Proof.AdamIn.lean ====
/-
  The gradient of `w_in` summed over the devices and its two moments after one step: the kernel `adam_w_in` adds the eight parts
  one after the other, 256 columns at a time, the reference sums them in one piece. The sums and both moments agree at every entry.
-/
module

public import proofs.«01_k».proof.Defs
public import proofs.«01_k».proof.Proof.Gen.AdamInIdeal.Value
public import proofs.«01_k».proof.Proof.Gen.AdamInRefIdeal
public import proofs.«01_k».proof.Proof.Gen.AdamInRefIdeal.Run
public import Idealize.ShloMosaic.Lib.Pipeline.Value
public import Idealize.ShloMosaic.Lib.Pointwise
public import Idealize.ShloMosaic.Lib.Tactic

@[expose] public section

noncomputable section

namespace Cert.AdamInIdeal.Entry

open Cert.AdamInIdeal Cert.AdamInIdeal.Gen Idealize.ShloMosaic Idealize.ShloMosaic.TcCoe Idealize.SL.Sem
open Idealize.ShloMosaic.Pipeline (Dat)

variable (m : (ℓ : Loc nD τ sig) → Buf (Elt Ideal) ℓ)

/-- The zero corner. -/
theorem hz : (![0, 0] : Fin 2 → Nat) = fun _ => 0 := funext fun a => by fin_cases a <;> rfl

/-- The gradient: the sum of the eight parts. -/
def G (P : S8x1252x1024.Idx → EReal) : S1252x1024.Idx → EReal := fun i => ∑ k : Fin 8, P (ix3 k (i 0) (i 1))

/-- The first moment of one entry. -/
def m1 (g a : EReal) : EReal := Ideal.ofBits .f32 0x3F666666#32 * a + Ideal.ofBits .f32 0x3DCCCCCD#32 * g

/-- The second moment of one entry. -/
def m2 (g a : EReal) : EReal := Ideal.ofBits .f32 0x3F7FBE77#32 * a + Ideal.ofBits .f32 0x3A83126F#32 * (g * g)

/-- The first moment after the step. -/
def M1 (P : S8x1252x1024.Idx → EReal) (A : S1252x1024.Idx → EReal) : S1252x1024.Idx → EReal := fun i => m1 (G P i) (A i)

/-- The second moment after the step. -/
def M2 (P : S8x1252x1024.Idx → EReal) (A : S1252x1024.Idx → EReal) : S1252x1024.Idx → EReal := fun i => m2 (G P i) (A i)

/-! ## What the body computes -/

/-- Part 0, as the body loads it. -/
theorem ld0 (x : Vec Ideal S8x1252x256 .bf16) (a : Fin 1252) (b : Fin 256) :
    (View.ld x r0_0 : S1x1252x256.Idx → EReal) (ix3 0 a b) = x (ix3 0 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 1, as the body loads it. -/
theorem ld1 (x : Vec Ideal S8x1252x256 .bf16) (a : Fin 1252) (b : Fin 256) :
    (View.ld x r0_1 : S1x1252x256.Idx → EReal) (ix3 0 a b) = x (ix3 1 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 2, as the body loads it. -/
theorem ld2 (x : Vec Ideal S8x1252x256 .bf16) (a : Fin 1252) (b : Fin 256) :
    (View.ld x r0_2 : S1x1252x256.Idx → EReal) (ix3 0 a b) = x (ix3 2 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 3, as the body loads it. -/
theorem ld3 (x : Vec Ideal S8x1252x256 .bf16) (a : Fin 1252) (b : Fin 256) :
    (View.ld x r0_3 : S1x1252x256.Idx → EReal) (ix3 0 a b) = x (ix3 3 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 4, as the body loads it. -/
theorem ld4 (x : Vec Ideal S8x1252x256 .bf16) (a : Fin 1252) (b : Fin 256) :
    (View.ld x r0_4 : S1x1252x256.Idx → EReal) (ix3 0 a b) = x (ix3 4 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 5, as the body loads it. -/
theorem ld5 (x : Vec Ideal S8x1252x256 .bf16) (a : Fin 1252) (b : Fin 256) :
    (View.ld x r0_5 : S1x1252x256.Idx → EReal) (ix3 0 a b) = x (ix3 5 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 6, as the body loads it. -/
theorem ld6 (x : Vec Ideal S8x1252x256 .bf16) (a : Fin 1252) (b : Fin 256) :
    (View.ld x r0_6 : S1x1252x256.Idx → EReal) (ix3 0 a b) = x (ix3 6 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- Part 7, as the body loads it. -/
theorem ld7 (x : Vec Ideal S8x1252x256 .bf16) (a : Fin 1252) (b : Fin 256) :
    (View.ld x r0_7 : S1x1252x256.Idx → EReal) (ix3 0 a b) = x (ix3 7 a b) := by
  show x _ = x _
  congr 1; funext d; apply Fin.ext
  match d with
  | ⟨0, _⟩ => rfl
  | ⟨1, _⟩ => show 0 + 1 * a.val = a.val; omega
  | ⟨2, _⟩ => show 0 + 1 * b.val = b.val; omega

/-- The eight loaded parts added up, at one entry. -/
theorem pay4_apply (v0 v1 v2 v3 v4 v5 v6 v7 : Vec Ideal S1x1252x256 .bf16) (y : S1252x256.Idx) :
    (k0_pay4 v0 v1 v2 v3 v4 v5 v6 v7 : S1252x256.Idx → EReal) y = v0 (ix3 0 (y 0) (y 1)) + v1 (ix3 0 (y 0) (y 1)) + v2 (ix3 0 (y 0) (y 1)) + v3 (ix3 0 (y 0) (y 1)) + v4 (ix3 0 (y 0) (y 1)) + v5 (ix3 0 (y 0) (y 1)) + v6 (ix3 0 (y 0) (y 1)) + v7 (ix3 0 (y 0) (y 1)) := by
  unfold k0_pay4
  pointwise

/-- Equal parts give equal sums. -/
theorem add8 (a0 a1 a2 a3 a4 a5 a6 a7 b0 b1 b2 b3 b4 b5 b6 b7 : EReal) (h0 : a0 = b0) (h1 : a1 = b1) (h2 : a2 = b2) (h3 : a3 = b3) (h4 : a4 = b4) (h5 : a5 = b5) (h6 : a6 = b6) (h7 : a7 = b7) :
    a0 + a1 + a2 + a3 + a4 + a5 + a6 + a7 = b0 + b1 + b2 + b3 + b4 + b5 + b6 + b7 := by
  rw [h0, h1, h2, h3, h4, h5, h6, h7]

/-- The gradient of a block is the sum of the parts' blocks. -/
theorem pay5_apply (x0 : Vec Ideal S8x1252x256 .bf16) (x1 x2 x3 : Vec Ideal S1252x256 .f32) (y : S1252x256.Idx) :
    (k0_pay5 x0 x1 x2 x3 : S1252x256.Idx → EReal) y = ∑ k : Fin 8, x0 (ix3 k (y 0) (y 1)) := by
  unfold k0_pay5
  refine (pay4_apply _ _ _ _ _ _ _ _ y).trans ?_
  refine Eq.trans ?_ (Fin.sum_univ_eight (fun k : Fin 8 => (x0 (ix3 k (y 0) (y 1)) : EReal))).symm
  exact add8 _ _ _ _ _ _ _ _ _ _ _ _ _ _ _ _ (ld0 x0 (y 0) (y 1)) (ld1 x0 (y 0) (y 1)) (ld2 x0 (y 0) (y 1)) (ld3 x0 (y 0) (y 1)) (ld4 x0 (y 0) (y 1)) (ld5 x0 (y 0) (y 1)) (ld6 x0 (y 0) (y 1)) (ld7 x0 (y 0) (y 1))

/-- The first moment of a block, at one entry. -/
theorem pay1_apply (g : FVec Ideal S1252x256 .f32) (a : Vec Ideal S1252x256 .f32) (y : S1252x256.Idx) :
    (k0_pay1 g a : S1252x256.Idx → EReal) y = m1 (g y) (a y) := by
  unfold k0_pay1 m1
  pointwise

/-- The second moment of a block, at one entry. -/
theorem pay2_apply (g : FVec Ideal S1252x256 .f32) (a : Vec Ideal S1252x256 .f32) (y : S1252x256.Idx) :
    (k0_pay2 g a : S1252x256.Idx → EReal) y = m2 (g y) (a y) := by
  unfold k0_pay2 m2
  pointwise

/-- Output block 4 is what the body computes of the blocks. -/
theorem out4_eq (x0 : Vec Ideal S8x1252x256 .bf16) (x1 x2 x3 : Vec Ideal S1252x256 .f32) :
    out0_4 x0 x1 x2 x3 = k0_pay5 x0 x1 x2 x3 := by
  unfold out0_4
  rw [View.canon_unit_zero hz]

/-- Output block 6 is what the body computes of the blocks. -/
theorem out6_eq (x0 : Vec Ideal S8x1252x256 .bf16) (x1 x2 x3 : Vec Ideal S1252x256 .f32) :
    out0_6 x0 x1 x2 x3 = k0_pay1 (k0_pay5 x0 x1 x2 x3) x2 := by
  unfold out0_6
  rw [View.canon_unit_zero hz]
  simp only [View.ld_unit_zero (S := S1252x256) hz]

/-- Output block 7 is what the body computes of the blocks. -/
theorem out7_eq (x0 : Vec Ideal S8x1252x256 .bf16) (x1 x2 x3 : Vec Ideal S1252x256 .f32) :
    out0_7 x0 x1 x2 x3 = k0_pay2 (k0_pay5 x0 x1 x2 x3) x3 := by
  unfold out0_7
  rw [View.canon_unit_zero hz]
  simp only [View.ld_unit_zero (S := S1252x256) hz]

/-! ## The blocks of a point in the arrays -/

/-- Where the parts' block of point `t` lies. -/
theorem idx0 : ∀ t : Fin cfg0.N, win0_0.index t 0 = 0 ∧ win0_0.index t 1 = 0 ∧ win0_0.index t 2 = t.val :=
  (by decide +kernel : ∀ t : Fin grid0.N, win0_0.index t 0 = 0 ∧ win0_0.index t 1 = 0 ∧ win0_0.index t 2 = t.val)

/-- Where the block of point `t` lies. -/
theorem idx2 : ∀ t : Fin cfg0.N, win0_2.index t 0 = 0 ∧ win0_2.index t 1 = t.val :=
  (by decide +kernel : ∀ t : Fin grid0.N, win0_2.index t 0 = 0 ∧ win0_2.index t 1 = t.val)

/-- Where the block of point `t` lies. -/
theorem idx3 : ∀ t : Fin cfg0.N, win0_3.index t 0 = 0 ∧ win0_3.index t 1 = t.val :=
  (by decide +kernel : ∀ t : Fin grid0.N, win0_3.index t 0 = 0 ∧ win0_3.index t 1 = t.val)

/-- Where the block of point `t` lies. -/
theorem idx4 : ∀ t : Fin cfg0.N, win0_4.index t 0 = 0 ∧ win0_4.index t 1 = t.val :=
  (by decide +kernel : ∀ t : Fin grid0.N, win0_4.index t 0 = 0 ∧ win0_4.index t 1 = t.val)

/-- Where the block of point `t` lies. -/
theorem idx6 : ∀ t : Fin cfg0.N, win0_6.index t 0 = 0 ∧ win0_6.index t 1 = t.val :=
  (by decide +kernel : ∀ t : Fin grid0.N, win0_6.index t 0 = 0 ∧ win0_6.index t 1 = t.val)

/-- Where the block of point `t` lies. -/
theorem idx7 : ∀ t : Fin cfg0.N, win0_7.index t 0 = 0 ∧ win0_7.index t 1 = t.val :=
  (by decide +kernel : ∀ t : Fin grid0.N, win0_7.index t 0 = 0 ∧ win0_7.index t 1 = t.val)

/-- The column is in the array. -/
theorem col_ok (t : Fin cfg0.N) (k : Fin 256) : t.val * 256 + k.val < 1024 := by
  have ht : t.val < 4 := lt_of_lt_of_eq t.isLt N_0
  omega

/-- Column `k` of block `t`. -/
def col (t : Fin cfg0.N) (k : Fin 256) : Fin 1024 := ⟨t.val * 256 + k.val, col_ok t k⟩

/-- An entry of the parts' block of point `t`, in the whole array. -/
theorem blk0 (c : Dev nD) (t : Fin cfg0.N) (k : Fin 8) (a : Fin 1252) (b : Fin 256) :
    (iblk m c 0 t : S8x1252x256.Idx → EReal) (ix3 k a b) = V m c main_arg0 (ix3 k a (col t b)) := by
  obtain ⟨h0, h1, h2⟩ := idx0 t
  show V m c main_arg0 (((cfg0.win 0).blk t).view.emb (ix3 k a b)) = _
  congr 1; funext d; apply Fin.ext
  match d with
  | ⟨0, _⟩ => show win0_0.index t 0 * 8 + 1 * k.val = k.val; omega
  | ⟨1, _⟩ => show win0_0.index t 1 * 1252 + 1 * a.val = a.val; omega
  | ⟨2, _⟩ => show win0_0.index t 2 * 256 + 1 * b.val = t.val * 256 + b.val; omega

/-- An entry of the block of point `t`, in the whole array. -/
theorem blk2 (c : Dev nD) (t : Fin cfg0.N) (y : S1252x256.Idx) :
    (iblk m c 2 t : S1252x256.Idx → EReal) y = V m c main_arg2 (ix2 (y 0) (col t (y 1))) := by
  obtain ⟨h0, h1⟩ := idx2 t
  show V m c main_arg2 (((cfg0.win 2).blk t).view.emb y) = _
  congr 1; funext d; apply Fin.ext
  match d with
  | ⟨0, _⟩ => show win0_2.index t 0 * 1252 + 1 * (y 0).val = (y 0).val; omega
  | ⟨1, _⟩ => show win0_2.index t 1 * 256 + 1 * (y 1).val = t.val * 256 + (y 1).val; omega

/-- An entry of the block of point `t`, in the whole array. -/
theorem blk3 (c : Dev nD) (t : Fin cfg0.N) (y : S1252x256.Idx) :
    (iblk m c 3 t : S1252x256.Idx → EReal) y = V m c main_arg3 (ix2 (y 0) (col t (y 1))) := by
  obtain ⟨h0, h1⟩ := idx3 t
  show V m c main_arg3 (((cfg0.win 3).blk t).view.emb y) = _
  congr 1; funext d; apply Fin.ext
  match d with
  | ⟨0, _⟩ => show win0_3.index t 0 * 1252 + 1 * (y 0).val = (y 0).val; omega
  | ⟨1, _⟩ => show win0_3.index t 1 * 256 + 1 * (y 1).val = t.val * 256 + (y 1).val; omega

/-- An entry of the result block, in the whole array. -/
theorem emb4 (t : Fin cfg0.N) (y : S1252x256.Idx) : ((cfg0.win 4).blk t).view.emb y = ix2 (y 0) (col t (y 1)) := by
  obtain ⟨h0, h1⟩ := idx4 t
  funext d; apply Fin.ext
  match d with
  | ⟨0, _⟩ => show win0_4.index t 0 * 1252 + 1 * (y 0).val = (y 0).val; omega
  | ⟨1, _⟩ => show win0_4.index t 1 * 256 + 1 * (y 1).val = t.val * 256 + (y 1).val; omega

/-- An entry of the result block, in the whole array. -/
theorem emb6 (t : Fin cfg0.N) (y : S1252x256.Idx) : ((cfg0.win 6).blk t).view.emb y = ix2 (y 0) (col t (y 1)) := by
  obtain ⟨h0, h1⟩ := idx6 t
  funext d; apply Fin.ext
  match d with
  | ⟨0, _⟩ => show win0_6.index t 0 * 1252 + 1 * (y 0).val = (y 0).val; omega
  | ⟨1, _⟩ => show win0_6.index t 1 * 256 + 1 * (y 1).val = t.val * 256 + (y 1).val; omega

/-- An entry of the result block, in the whole array. -/
theorem emb7 (t : Fin cfg0.N) (y : S1252x256.Idx) : ((cfg0.win 7).blk t).view.emb y = ix2 (y 0) (col t (y 1)) := by
  obtain ⟨h0, h1⟩ := idx7 t
  funext d; apply Fin.ext
  match d with
  | ⟨0, _⟩ => show win0_7.index t 0 * 1252 + 1 * (y 0).val = (y 0).val; omega
  | ⟨1, _⟩ => show win0_7.index t 1 * 256 + 1 * (y 1).val = t.val * 256 + (y 1).val; omega

/-- The gradient's block, as entries of the whole sum. -/
theorem val4 (c : Dev nD) (t : Fin cfg0.N) (y : S1252x256.Idx) :
    (k0_pay5 (iblk m c 0 t) (iblk m c 1 t) (iblk m c 2 t) (iblk m c 3 t) : S1252x256.Idx → EReal) y = (G (V m c main_arg0)) (ix2 (y 0) (col t (y 1))) :=
  (pay5_apply _ _ _ _ y).trans (Finset.sum_congr rfl fun k _ => blk0 m c t k (y 0) (y 1))

/-- The first moment's block, as entries of the whole array. -/
theorem val6 (c : Dev nD) (t : Fin cfg0.N) (y : S1252x256.Idx) :
    (k0_pay1 (k0_pay5 (iblk m c 0 t) (iblk m c 1 t) (iblk m c 2 t) (iblk m c 3 t)) (iblk m c 2 t) : S1252x256.Idx → EReal) y = (M1 (V m c main_arg0) (V m c main_arg2)) (ix2 (y 0) (col t (y 1))) :=
  (pay1_apply _ _ y).trans (congrArg₂ m1 (val4 m c t y) (blk2 m c t y))

/-- The second moment's block, as entries of the whole array. -/
theorem val7 (c : Dev nD) (t : Fin cfg0.N) (y : S1252x256.Idx) :
    (k0_pay2 (k0_pay5 (iblk m c 0 t) (iblk m c 1 t) (iblk m c 2 t) (iblk m c 3 t)) (iblk m c 3 t) : S1252x256.Idx → EReal) y = (M2 (V m c main_arg0) (V m c main_arg3)) (ix2 (y 0) (col t (y 1))) :=
  (pay2_apply _ _ y).trans (congrArg₂ m2 (val4 m c t y) (blk3 m c t y))

/-- The block of a column is one of the grid. -/
theorem col_lt (i : S1252x1024.Idx) : (i 1).val / 256 < cfg0.N := by
  have h : (i 1).val < 1024 := (i 1).isLt
  exact lt_of_lt_of_eq (show (i 1).val / 256 < 4 by omega) N_0.symm

/-- A column lies in its block. -/
theorem col_in (n : ℕ) : n / 256 * 256 ≤ n ∧ n < n / 256 * 256 + 256 := by omega

/-- What a point writes back to result 0 is its block of it. -/
theorem flushed4_eq (c : Dev nD) (t : Fin cfg0.N) :
    (dats m 0 c).flushed 4 t = ((cfg0.win 4).blk t).view.read (Elt Ideal) (G (V m c main_arg0)) := by
  rw [Value.flushed4, out4_eq]
  funext y
  exact (val4 m c t y).trans (congrArg (G (V m c main_arg0)) (emb4 t y)).symm

/-- An entry whose column lies in the block is in the block. -/
theorem mem_blk4 (t : Fin cfg0.N) (i : S1252x1024.Idx)
    (h : t.val * 256 ≤ (i 1 : Nat) ∧ (i 1 : Nat) < t.val * 256 + 256) :
    i ∈ ((cfg0.win 4).blk t).view.set := by
  have h6 := idx4 t
  show i ∈ ((View.whole main_v0_0).slice (win0_4.rect t)).set
  rw [View.set_slice_whole, Rect.mem_set_unit]
  intro a
  match a with
  | ⟨0, _⟩ => show win0_4.index t 0 * 1252 ≤ (i 0 : Nat) ∧ (i 0 : Nat) < win0_4.index t 0 * 1252 + 1252
              rw [h6.1, Nat.zero_mul, Nat.zero_add]; exact ⟨Nat.zero_le _, (i 0).isLt⟩
  | ⟨1, _⟩ => show win0_4.index t 1 * 256 ≤ (i 1 : Nat) ∧ (i 1 : Nat) < win0_4.index t 1 * 256 + 256
              rw [h6.2]; exact h

/-- Every entry is in some block. -/
theorem cover4 (i : S1252x1024.Idx) : ∃ t : Fin cfg0.N, (cfg0.win 4).flush t = true ∧ i ∈ ((cfg0.win 4).blk t).view.set := by
  have h := col_in (i 1).val
  have hl := col_lt i
  generalize (i 1).val / 256 = q at h hl
  exact ⟨⟨q, hl⟩, flush0_4 _, mem_blk4 ⟨q, hl⟩ i h⟩

/-- Result array 0 after the run. -/
theorem final4 (c : Dev nD) : (dats m 0 c).arrAt 4 cfg0.N = (G (V m c main_arg0)) :=
  (dats m 0 c).arrAt_eq_of_cover 4 _ (fun t _ => flushed4_eq m c t) (cover4)

/-- What a point writes back to result 2 is its block of it. -/
theorem flushed6_eq (c : Dev nD) (t : Fin cfg0.N) :
    (dats m 0 c).flushed 6 t = ((cfg0.win 6).blk t).view.read (Elt Ideal) (M1 (V m c main_arg0) (V m c main_arg2)) := by
  rw [Value.flushed6, out6_eq]
  funext y
  exact (val6 m c t y).trans (congrArg (M1 (V m c main_arg0) (V m c main_arg2)) (emb6 t y)).symm

/-- An entry whose column lies in the block is in the block. -/
theorem mem_blk6 (t : Fin cfg0.N) (i : S1252x1024.Idx)
    (h : t.val * 256 ≤ (i 1 : Nat) ∧ (i 1 : Nat) < t.val * 256 + 256) :
    i ∈ ((cfg0.win 6).blk t).view.set := by
  have h6 := idx6 t
  show i ∈ ((View.whole main_v0_2).slice (win0_6.rect t)).set
  rw [View.set_slice_whole, Rect.mem_set_unit]
  intro a
  match a with
  | ⟨0, _⟩ => show win0_6.index t 0 * 1252 ≤ (i 0 : Nat) ∧ (i 0 : Nat) < win0_6.index t 0 * 1252 + 1252
              rw [h6.1, Nat.zero_mul, Nat.zero_add]; exact ⟨Nat.zero_le _, (i 0).isLt⟩
  | ⟨1, _⟩ => show win0_6.index t 1 * 256 ≤ (i 1 : Nat) ∧ (i 1 : Nat) < win0_6.index t 1 * 256 + 256
              rw [h6.2]; exact h

/-- Every entry is in some block. -/
theorem cover6 (i : S1252x1024.Idx) : ∃ t : Fin cfg0.N, (cfg0.win 6).flush t = true ∧ i ∈ ((cfg0.win 6).blk t).view.set := by
  have h := col_in (i 1).val
  have hl := col_lt i
  generalize (i 1).val / 256 = q at h hl
  exact ⟨⟨q, hl⟩, flush0_6 _, mem_blk6 ⟨q, hl⟩ i h⟩

/-- Result array 2 after the run. -/
theorem final6 (c : Dev nD) : (dats m 0 c).arrAt 6 cfg0.N = (M1 (V m c main_arg0) (V m c main_arg2)) :=
  (dats m 0 c).arrAt_eq_of_cover 6 _ (fun t _ => flushed6_eq m c t) (cover6)

/-- What a point writes back to result 3 is its block of it. -/
theorem flushed7_eq (c : Dev nD) (t : Fin cfg0.N) :
    (dats m 0 c).flushed 7 t = ((cfg0.win 7).blk t).view.read (Elt Ideal) (M2 (V m c main_arg0) (V m c main_arg3)) := by
  rw [Value.flushed7, out7_eq]
  funext y
  exact (val7 m c t y).trans (congrArg (M2 (V m c main_arg0) (V m c main_arg3)) (emb7 t y)).symm

/-- An entry whose column lies in the block is in the block. -/
theorem mem_blk7 (t : Fin cfg0.N) (i : S1252x1024.Idx)
    (h : t.val * 256 ≤ (i 1 : Nat) ∧ (i 1 : Nat) < t.val * 256 + 256) :
    i ∈ ((cfg0.win 7).blk t).view.set := by
  have h6 := idx7 t
  show i ∈ ((View.whole main_v0_3).slice (win0_7.rect t)).set
  rw [View.set_slice_whole, Rect.mem_set_unit]
  intro a
  match a with
  | ⟨0, _⟩ => show win0_7.index t 0 * 1252 ≤ (i 0 : Nat) ∧ (i 0 : Nat) < win0_7.index t 0 * 1252 + 1252
              rw [h6.1, Nat.zero_mul, Nat.zero_add]; exact ⟨Nat.zero_le _, (i 0).isLt⟩
  | ⟨1, _⟩ => show win0_7.index t 1 * 256 ≤ (i 1 : Nat) ∧ (i 1 : Nat) < win0_7.index t 1 * 256 + 256
              rw [h6.2]; exact h

/-- Every entry is in some block. -/
theorem cover7 (i : S1252x1024.Idx) : ∃ t : Fin cfg0.N, (cfg0.win 7).flush t = true ∧ i ∈ ((cfg0.win 7).blk t).view.set := by
  have h := col_in (i 1).val
  have hl := col_lt i
  generalize (i 1).val / 256 = q at h hl
  exact ⟨⟨q, hl⟩, flush0_7 _, mem_blk7 ⟨q, hl⟩ i h⟩

/-- Result array 3 after the run. -/
theorem final7 (c : Dev nD) : (dats m 0 c).arrAt 7 cfg0.N = (M2 (V m c main_arg0) (V m c main_arg3)) :=
  (dats m 0 c).arrAt_eq_of_cover 7 _ (fun t _ => flushed7_eq m c t) (cover7)

end Cert.AdamInIdeal.Entry

namespace Cert.AdamInRefIdeal.Entry

open Cert.AdamInRefIdeal Cert.AdamInRefIdeal.Gen Idealize.ShloMosaic Idealize.ShloMosaic.TcCoe Idealize.SL.Sem

/-- The reference's sum of the parts is the same function. -/
theorem ref_g (P : Vec Ideal S8x1252x1024 .bf16) :
    (Host.reduceAdd (extf (F := Ideal) .f32 P bitsLt_bf16_f32) (constant (F := Ideal) S_ .f32 0x00000000#32) reducesTo_S8x1252x1024_S1252x1024_d0 h_S_ : FVec Ideal S1252x1024 .f32) = Cert.AdamInIdeal.Entry.G P := by
  funext i
  unfold Cert.AdamInIdeal.Entry.G
  pointwise

/-- The reference's first moment is the same function. -/
theorem ref_m (P : Vec Ideal S8x1252x1024 .bf16) (M : Vec Ideal S1252x1024 .f32) :
    (addf (mulf (broadcastInDim S1252x1024 ![] bcast_S_S1252x1024 (constant (F := Ideal) S_ .f32 0x3F666666#32)) M) (mulf (broadcastInDim S1252x1024 ![] bcast_S_S1252x1024 (constant (F := Ideal) S_ .f32 0x3DCCCCCD#32)) (Host.reduceAdd (extf (F := Ideal) .f32 P bitsLt_bf16_f32) (constant (F := Ideal) S_ .f32 0x00000000#32) reducesTo_S8x1252x1024_S1252x1024_d0 h_S_)) : FVec Ideal S1252x1024 .f32) = Cert.AdamInIdeal.Entry.M1 P M := by
  rw [ref_g]
  funext i
  unfold Cert.AdamInIdeal.Entry.M1 Cert.AdamInIdeal.Entry.m1
  generalize Cert.AdamInIdeal.Entry.G P = g
  pointwise

/-- The reference's second moment is the same function. -/
theorem ref_v (P : Vec Ideal S8x1252x1024 .bf16) (Q : Vec Ideal S1252x1024 .f32) :
    (addf (mulf (broadcastInDim S1252x1024 ![] bcast_S_S1252x1024 (constant (F := Ideal) S_ .f32 0x3F7FBE77#32)) Q) (mulf (broadcastInDim S1252x1024 ![] bcast_S_S1252x1024 (constant (F := Ideal) S_ .f32 0x3A83126F#32)) (mulf (Host.reduceAdd (extf (F := Ideal) .f32 P bitsLt_bf16_f32) (constant (F := Ideal) S_ .f32 0x00000000#32) reducesTo_S8x1252x1024_S1252x1024_d0 h_S_) (Host.reduceAdd (extf (F := Ideal) .f32 P bitsLt_bf16_f32) (constant (F := Ideal) S_ .f32 0x00000000#32) reducesTo_S8x1252x1024_S1252x1024_d0 h_S_))) : FVec Ideal S1252x1024 .f32) = Cert.AdamInIdeal.Entry.M2 P Q := by
  rw [ref_g]
  funext i
  unfold Cert.AdamInIdeal.Entry.M2 Cert.AdamInIdeal.Entry.m2
  generalize Cert.AdamInIdeal.Entry.G P = g
  pointwise

end Cert.AdamInRefIdeal.Entry

namespace Cert.Proof

open Idealize.ShloMosaic Idealize.ShloMosaic.TcCoe Idealize.SL.Sem

/-- The summed gradient of `w_in` and its two moments: kernel and reference end with equal results. -/
theorem algebraic_adam_in : Cert.algebraic_AdamInIdeal_AdamInRefIdeal := by
  intro m ρ m' ρ' _ hag
  refine ⟨fun c => Cert.AdamInIdeal.Entry.G (m ((c.tc : Thread Cert.AdamInIdeal.nD Cert.AdamInIdeal.τ).loc Cert.AdamInIdeal.main_arg0)),
    fun c => Cert.AdamInIdeal.Entry.M1 (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg2)),
    fun c => Cert.AdamInIdeal.Entry.M2 (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg3)),
    (θ_run Cert.AdamInIdeal.defs _ _).mono (fun _ h c => ⟨(h c).1.trans (Cert.AdamInIdeal.Entry.final4 m c), (h c).2.2.1.trans (Cert.AdamInIdeal.Entry.final6 m c), (h c).2.2.2.1.trans (Cert.AdamInIdeal.Entry.final7 m c), (h c).2.2.2.2⟩) (Cert.AdamInIdeal.Value.run_blocks (F := Ideal) m ρ),
    (θ_run Cert.AdamInRefIdeal.defs _ _).mono (fun _ h c => ⟨?_, ?_, ?_, (h c).2.2.2⟩) (Cert.AdamInRefIdeal.Value.run (F := Ideal) m' ρ')⟩
  · refine (h c).1.trans ((Cert.AdamInRefIdeal.Entry.ref_g _).trans ?_)
    rw [(hag c).1]
  · refine (h c).2.1.trans ((Cert.AdamInRefIdeal.Entry.ref_m _ _).trans ?_)
    rw [(hag c).1, (hag c).2.2.1]
  · refine (h c).2.2.1.trans ((Cert.AdamInRefIdeal.Entry.ref_v _ _).trans ?_)
    rw [(hag c).1, (hag c).2.2.2]

/-- The reference leaves its arguments as they were. -/
theorem frame_adam_in_ref : Cert.quiescent_AdamInRefIdeal := by
  intro m ρ _
  exact (θ_run Cert.AdamInRefIdeal.defs _ _).mono (fun r h => ⟨fun c => (h c).2.2.2,
      Idealize.ShloMosaic.sem_eq_zero_of_no_sems (by decide) r.2⟩)
    (Cert.AdamInRefIdeal.Value.run (F := Ideal) m ρ)

end Cert.Proof

end
-- ==== Proof.Trip.lean ====
module

public import proofs.«01_k».proof.Proof.Gen.KernelIdeal.Loops
public import proofs.«01_k».proof.Proof.Gen.KernelIdeal.Frame

@[expose] public section

set_option maxRecDepth 8192
set_option maxHeartbeats 4000000

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- Core `c` holds the whole buffer of `m` at contents `f`. -/
abbrev held (c : Dev nD) {e : EltTy} (m : Memref sig .tc .vmem S4096x128 e) (f : BufTy.Contents (Elt F) m.view.ty) : sProp 𝕄 :=
  m.view.loc (c : Thread nD τ) ↦{fullShare} f

/-- The contents of `m` after `w` is stored through the rectangle `r` of a buffer holding `f`. -/
def put {s : Shape} {e : EltTy} (m : Memref sig .tc .vmem s e) (r : Rect s) (w : r.shape.Idx → Elt F e) (f : BufTy.Contents (Elt F) m.view.ty) :
    BufTy.Contents (Elt F) m.view.ty := (m.access r).write (Elt F) f w Finset.univ

/-- The contents of `m` after the rectangle `r` is read, passed through `g`, and stored back. -/
def rmw {s : Shape} {e : EltTy} (m : Memref sig .tc .vmem s e) (r : Rect s) (g : (r.shape.Idx → Elt F e) → (r.shape.Idx → Elt F e))
    (f : BufTy.Contents (Elt F) m.view.ty) : BufTy.Contents (Elt F) m.view.ty := put m r (g (m.view.readAt (Elt F) r.toLoadRect f)) f

/-- The rows of block `r` of trip `k` (its queries' and its own keys' rows). -/
def cur (k : Fin k0_t1_loop.trips) (r : Fin 4) : Rect S4096x128 := ⟨⟨k0_off1 k (BitVec.ofNat 32 r.val), S128x128.size, ![4, 1], k0_off1_inb k r⟩, spos_4_1⟩

/-- The rows of the block before block `r` of trip `k` in its sequence, or its own where it is the first. -/
def prv (k : Fin k0_t1_loop.trips) (r : Fin 4) : Rect S4096x128 := ⟨⟨k0_off2 k (BitVec.ofNat 32 r.val), S128x128.size, ![4, 1], k0_off2_inb k r⟩, spos_4_1⟩

section rules
variable (c : Dev nD) {s : Shape} {e : EltTy} {m : Memref sig .tc .vmem s e} {r : Rect s} {E : Set ℕ} {α : Type} {f : BufTy.Contents (Elt F) m.view.ty}

/-- A load whose value is dropped, then a store, through one rectangle. -/
theorem wp_put {Q : α → sProp 𝕄} {w : r.shape.Idx → Elt F e} {k : PUnit → Prog (TpuEff nD τ sig (Elt F) Λ₀ .tc) α} {hl : m.view.LoadsAt r.toLoadRect} {hx : (m.access r).Stores Finset.univ} {hm : Finset.univ = Finset.univ ∨ ∀ a, r.stride a = 1} :
    (m.view.loc (c : Thread nD τ) ↦{fullShare} f) ⊢ iprop(((m.view.loc (c : Thread nD τ) ↦{fullShare} put m r w f) -∗ wp frame (wpE (defs₀ (F := F)) Variants.none (c : Thread nD τ) none) E (k ⟨⟩) Q)
      -∗ wp frame (wpE (defs₀ (F := F)) Variants.none (c : Thread nD τ) none) E (.op (.load m r.toLoadRect hl) fun _ => .op (.store m r w Finset.univ hx hm) k) Q) := by
  iintro H Hk
  sl_step
  iapply (wp_store Variants.none (c : Thread nD τ) none E (m := m) (r := r) (Finset.subset_univ _)) $$ H
  iintro H
  iapply Hk
  iexact H

/-- Two loads, the second dropped, then a store of what the first read passed through `g`, all through one rectangle. -/
theorem wp_rmw {Q : α → sProp 𝕄} {g : (r.shape.Idx → Elt F e) → (r.shape.Idx → Elt F e)} {k : PUnit → Prog (TpuEff nD τ sig (Elt F) Λ₀ .tc) α} {hl : m.view.LoadsAt r.toLoadRect} {hl' : m.view.LoadsAt r.toLoadRect} {hx : (m.access r).Stores Finset.univ} {hm : Finset.univ = Finset.univ ∨ ∀ a, r.stride a = 1} :
    (m.view.loc (c : Thread nD τ) ↦{fullShare} f) ⊢ iprop(((m.view.loc (c : Thread nD τ) ↦{fullShare} rmw m r g f) -∗ wp frame (wpE (defs₀ (F := F)) Variants.none (c : Thread nD τ) none) E (k ⟨⟩) Q)
      -∗ wp frame (wpE (defs₀ (F := F)) Variants.none (c : Thread nD τ) none) E
          (.op (.load m r.toLoadRect hl) fun v => .op (.load m r.toLoadRect hl') fun _ => .op (.store m r (g v) Finset.univ hx hm) k) Q) := by
  iintro H Hk
  sl_step
  iapply (wp_put c) $$ H
  iexact Hk

end rules

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole)

/-- What one trip of the loop holds: the seven input blocks at their contents, the three accumulators. -/
abbrev Trip (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty) (f11 : BufTy.Contents (Elt F) arg11.view.ty) (f12 : BufTy.Contents (Elt F) arg12.view.ty)
    (f13 : BufTy.Contents (Elt F) arg13.view.ty) : sProp 𝕄 :=
  iprop(held c arg1 X1 ∗ held c arg2 X2 ∗ held c arg3 X3 ∗ held c arg4 X4 ∗ held c arg5 X5 ∗ held c arg6 X6 ∗ held c arg7 X7
    ∗ held c arg11 f11 ∗ held c arg12 f12 ∗ held c arg13 f13)

def trip (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty) (k : Fin k0_t1_loop.trips) :
    { G : (BufTy.Contents (Elt F) arg11.view.ty → BufTy.Contents (Elt F) arg11.view.ty) × (BufTy.Contents (Elt F) arg12.view.ty → BufTy.Contents (Elt F) arg12.view.ty)
          × (BufTy.Contents (Elt F) arg13.view.ty → BufTy.Contents (Elt F) arg13.view.ty) //
      ∀ (E : Set ℕ) f11 f12 f13,
      Trip (F := F) c arg1 arg2 arg3 arg4 arg5 arg6 arg7 arg11 arg12 arg13 X1 X2 X3 X4 X5 X6 X7 f11 f12 f13
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 k ())
          (fun _ => Trip (F := F) c arg1 arg2 arg3 arg4 arg5 arg6 arg7 arg11 arg12 arg13 X1 X2 X3 X4 X5 X6 X7 (G.1 f11) (G.2.1 f12) (G.2.2 f13)) } := by
  refine ⟨⟨?_, ?_, ?_⟩, fun E f11 f12 f13 => ?run⟩
  case run =>
    unfold k0_t1_body
    iintro ⟨H1, H2, H3, H4, H5, H6, H7, HA, HB, HC⟩
    set_option sl_exec.stopBefore "k0_part17" in sl_exec
    simp only [k0_part17_eq_skeleton, k0_part18_eq_skeleton, k0_part19_eq_skeleton, k0_part20_eq_skeleton]
    sl_unfold [k0_part17_skel, k0_part18_skel, k0_part19_skel, k0_part20_skel]
    simp only [← Idealize.SL.Sem.wp_bind]
    simp only [Prog.lift, Prog.bind_op, Prog.bind_ret, pure_bind]
    iapply (wp_put c (m := arg11) (r := cur k 0)) $$ HA; iintro HA
    iapply (wp_rmw c (m := arg12) (r := cur k 0)) $$ HB; iintro HB
    iapply (wp_rmw c (m := arg13) (r := cur k 0)) $$ HC; iintro HC
    iapply (wp_rmw c (m := arg12) (r := prv k 0)) $$ HB; iintro HB
    iapply (wp_rmw c (m := arg13) (r := prv k 0)) $$ HC; iintro HC
    iapply (wp_put c (m := arg11) (r := cur k 1)) $$ HA; iintro HA
    iapply (wp_rmw c (m := arg12) (r := cur k 1)) $$ HB; iintro HB
    iapply (wp_rmw c (m := arg13) (r := cur k 1)) $$ HC; iintro HC
    iapply (wp_rmw c (m := arg12) (r := prv k 1)) $$ HB; iintro HB
    iapply (wp_rmw c (m := arg13) (r := prv k 1)) $$ HC; iintro HC
    iapply (wp_put c (m := arg11) (r := cur k 2)) $$ HA; iintro HA
    iapply (wp_rmw c (m := arg12) (r := cur k 2)) $$ HB; iintro HB
    iapply (wp_rmw c (m := arg13) (r := cur k 2)) $$ HC; iintro HC
    iapply (wp_rmw c (m := arg12) (r := prv k 2)) $$ HB; iintro HB
    iapply (wp_rmw c (m := arg13) (r := prv k 2)) $$ HC; iintro HC
    iapply (wp_put c (m := arg11) (r := cur k 3)) $$ HA; iintro HA
    iapply (wp_rmw c (m := arg12) (r := cur k 3)) $$ HB; iintro HB
    iapply (wp_rmw c (m := arg13) (r := cur k 3)) $$ HC; iintro HC
    iapply (wp_rmw c (m := arg12) (r := prv k 3)) $$ HB; iintro HB
    iapply (wp_rmw c (m := arg13) (r := prv k 3)) $$ HC; iintro HC
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]; · iexact HA
    isplitl [HB]; · iexact HB
    iexact HC

end Cert.KernelIdeal.Att

end
-- ==== Proof.Cells.lean ====
module

public import proofs.«01_k».proof.Proof.Trip

@[expose] public section

set_option maxRecDepth 8192

noncomputable section

namespace Cert.KernelIdeal.Att

open Idealize.ShloMosaic Idealize.ShloMosaic.TcCoe
open Cert.KernelIdeal Cert.KernelIdeal.Gen

variable {F : FTy → Type} [FloatOps F] [Named F]

section cells
variable {s : Shape} {e : EltTy} {m : Memref sig .tc .vmem s e} {r : Rect s}

/-- Inside the stored rectangle the new contents are what was stored. -/
theorem put_emb (w : r.shape.Idx → Elt F e) (f : BufTy.Contents (Elt F) m.view.ty) (x : r.shape.Idx) :
    m.view.read (Elt F) (put m r w f) (r.emb x) = w x := View.read_slice_write_emb r f w (Finset.mem_univ x)

/-- Outside the stored rectangle the contents are the old ones. -/
theorem put_off (w : r.shape.Idx → Elt F e) (f : BufTy.Contents (Elt F) m.view.ty) {y : s.Idx} (h : ∀ x, r.emb x ≠ y) :
    m.view.read (Elt F) (put m r w f) y = m.view.read (Elt F) f y :=
  View.read_slice_write_of_not_mem r f w Finset.univ (by simpa using h)

/-- The same store keeps two buffers equal where they were equal. -/
theorem put_agree (w : r.shape.Idx → Elt F e) {f g : BufTy.Contents (Elt F) m.view.ty} {y : s.Idx}
    (h : m.view.read (Elt F) f y = m.view.read (Elt F) g y) :
    m.view.read (Elt F) (put m r w f) y = m.view.read (Elt F) (put m r w g) y := by
  by_cases hx : ∃ x, r.emb x = y
  · obtain ⟨x, rfl⟩ := hx; rw [put_emb, put_emb]
  · push Not at hx; rw [put_off w f hx, put_off w g hx, h]

/-- The same store makes two buffers equal inside its rectangle. -/
theorem put_agree_in (w : r.shape.Idx → Elt F e) (f g : BufTy.Contents (Elt F) m.view.ty) {y : s.Idx} (hx : ∃ x, r.emb x = y) :
    m.view.read (Elt F) (put m r w f) y = m.view.read (Elt F) (put m r w g) y := by
  obtain ⟨x, rfl⟩ := hx; rw [put_emb, put_emb]

end cells

/-- The loop makes eight trips. -/
theorem trips_eq : k0_t1_loop.trips = 8 := by decide

/-- Where the rows of block `r` of trip `k` begin: trip `k` works on residue `k / 2`, blocks `4 (k mod 2) + r`. -/
theorem off1_eq : ∀ (k : Fin k0_t1_loop.trips) (r : Fin 4), k0_off1 k (BitVec.ofNat 32 r.val) = ![(4 * (k.val % 2) + r.val) * 512 + k.val / 2, 0] := by
  decide

/-- Where the rows of the block before begin: the first block has itself. -/
theorem off2_eq : ∀ (k : Fin k0_t1_loop.trips) (r : Fin 4), k0_off2 k (BitVec.ofNat 32 r.val) = ![(4 * (k.val % 2) + r.val - 1) * 512 + k.val / 2, 0] := by
  decide

theorem cur_emb0 (k : Fin k0_t1_loop.trips) (r : Fin 4) (x : S128x128.Idx) :
    (((cur k r).emb x 0).val) = (4 * (k.val % 2) + r.val) * 512 + k.val / 2 + 4 * (x 0).val := by
  show k0_off1 k (BitVec.ofNat 32 r.val) 0 + 4 * (x 0).val = _
  rw [off1_eq]; rfl
theorem cur_emb1 (k : Fin k0_t1_loop.trips) (r : Fin 4) (x : S128x128.Idx) : (((cur k r).emb x 1).val) = (x 1).val := by
  show k0_off1 k (BitVec.ofNat 32 r.val) 1 + 1 * (x 1).val = _
  rw [off1_eq]; simp
theorem prv_emb0 (k : Fin k0_t1_loop.trips) (r : Fin 4) (x : S128x128.Idx) :
    (((prv k r).emb x 0).val) = (4 * (k.val % 2) + r.val - 1) * 512 + k.val / 2 + 4 * (x 0).val := by
  show k0_off2 k (BitVec.ofNat 32 r.val) 0 + 4 * (x 0).val = _
  rw [off2_eq]; rfl
theorem prv_emb1 (k : Fin k0_t1_loop.trips) (r : Fin 4) (x : S128x128.Idx) : (((prv k r).emb x 1).val) = (x 1).val := by
  show k0_off2 k (BitVec.ofNat 32 r.val) 1 + 1 * (x 1).val = _
  rw [off2_eq]; simp

/-- A row number by residue, block and position in the block. -/
theorem row_split {y : ℕ} (h : y < 4096) : (4 * ((2 * (y % 4) + y / 2048) % 2) + y / 512 % 4) * 512 + (2 * (y % 4) + y / 2048) / 2 + 4 * (y % 512 / 4) = y := by
  have a : (2 * (y % 4) + y / 2048) % 2 = y / 2048 := by omega
  have b : (2 * (y % 4) + y / 2048) / 2 = y % 4 := by omega
  rw [a, b]; omega

/-- Every row is in the rows of one block. -/
theorem cur_cover (y : S4096x128.Idx) : ∃ (k : Fin k0_t1_loop.trips) (r : Fin 4) (x : S128x128.Idx), (cur k r).emb x = y := by
  have h0 : (y 0).val < 4096 := (y 0).isLt
  have h1 : (y 1).val < 128 := (y 1).isLt
  have hk : 2 * ((y 0).val % 4) + (y 0).val / 2048 < k0_t1_loop.trips := by rw [trips_eq]; omega
  refine ⟨⟨2 * ((y 0).val % 4) + (y 0).val / 2048, hk⟩, ⟨(y 0).val / 512 % 4, by omega⟩,
    fun a => match a with | ⟨0, _⟩ => ⟨(y 0).val % 512 / 4, by show _ < 128; omega⟩ | ⟨1, _⟩ => ⟨(y 1).val, h1⟩, ?_⟩
  funext a
  match a with
  | ⟨0, _⟩ => apply Fin.ext; erw [cur_emb0]; show (4 * ((2 * ((y 0).val % 4) + (y 0).val / 2048) % 2) + (y 0).val / 512 % 4) * 512 + (2 * ((y 0).val % 4) + (y 0).val / 2048) / 2 + 4 * ((y 0).val % 512 / 4) = (y 0).val; exact row_split h0
  | ⟨1, _⟩ => apply Fin.ext; erw [cur_emb1]; rfl

end Cert.KernelIdeal.Att

end
-- ==== Proof.Run.lean ====
module

public import proofs.«01_k».proof.Proof.Cells

@[expose] public section

set_option maxRecDepth 8192
set_option maxHeartbeats 4000000

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section body

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole)

variable (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty)

/-- The three accumulators' contents. -/
abbrev Accs : Type := BufTy.Contents (Elt F) arg11.view.ty × BufTy.Contents (Elt F) arg12.view.ty × BufTy.Contents (Elt F) arg13.view.ty

/-- The accumulators after the first `n` trips. -/
def accs (f : Accs (F := F) arg11 arg12 arg13) : ℕ → Accs (F := F) arg11 arg12 arg13
  | 0 => f
  | n + 1 => if h : n < k0_t1_loop.trips then
      let G := (trip (F := F) c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 ⟨n, h⟩).1
      let p := accs f n
      (G.1 p.1, G.2.1 p.2.1, G.2.2 p.2.2)
    else accs f n

theorem accs_succ (f : Accs (F := F) arg11 arg12 arg13) (k : Fin k0_t1_loop.trips) :
    accs c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f (k.val + 1)
      = ((trip (F := F) c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 k).1.1 (accs c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f k.val).1,
         (trip (F := F) c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 k).1.2.1 (accs c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f k.val).2.1,
         (trip (F := F) c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 k).1.2.2 (accs c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f k.val).2.2) := by
  rw [accs, dif_pos k.isLt]

/-- The loop's invariant: before trip `n` the accumulators hold what the first `n` trips left. -/
@[sl_loop] def loopInv (f : Accs (F := F) arg11 arg12 arg13) :
    Gen.LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 where
  inv := fun n _ => Trip (F := F) c arg1 arg2 arg3 arg4 arg5 arg6 arg7 arg11 arg12 arg13 X1 X2 X3 X4 X5 X6 X7
    (accs c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f n).1 (accs c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f n).2.1 (accs c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f n).2.2
  step := fun k _ => by
    have h := (trip (F := F) c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 k).2 Set.univ (accs c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f k.val).1
      (accs c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f k.val).2.1 (accs c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f k.val).2.2
    rw [accs_succ]
    exact h

/-- The whole block as a rectangle. -/
abbrev full : Rect S4096x128 := Rect.unit (s := S4096x128) ![0, 0] S4096x128.size inb_S4096x128_S4096x128_0_0

/-- The accumulators after the loop, from zeroed second and third. -/
abbrev fin (f : Accs (F := F) arg11 arg12 arg13) : Accs (F := F) arg11 arg12 arg13 :=
  accs c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 (f.1, put arg12 full (k0_pay1 (F := F)) f.2.1, put arg13 full (k0_pay2 (F := F)) f.2.2) k0_t1_loop.trips

/-- The body: the seven inputs stay, the three outputs hold the rounded accumulators. -/
theorem body_run (f : Accs (F := F) arg11 arg12 arg13) (g8 : BufTy.Contents (Elt F) arg8.view.ty) (g9 : BufTy.Contents (Elt F) arg9.view.ty)
    (g10 : BufTy.Contents (Elt F) arg10.view.ty) :
    iprop(Trip (F := F) c arg1 arg2 arg3 arg4 arg5 arg6 arg7 arg11 arg12 arg13 X1 X2 X3 X4 X5 X6 X7 f.1 f.2.1 f.2.2
        ∗ held c arg8 g8 ∗ held c arg9 g9 ∗ held c arg10 g10)
      ⊢ wp frame (wpE (defs₀ (F := F)) Variants.none (c : Thread nD τ) none) Set.univ (cc0_att_bwd_g1 (F := F) i arg1 harg1 arg2 harg2 arg3 harg3 arg4 harg4 arg5 harg5 arg6 harg6 arg7 harg7 arg8 harg8 arg9 harg9 arg10 harg10 arg11 harg11 arg12 harg12 arg13 harg13)
          (fun _ => iprop(Trip (F := F) c arg1 arg2 arg3 arg4 arg5 arg6 arg7 arg11 arg12 arg13 X1 X2 X3 X4 X5 X6 X7
              (fin c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f).1 (fin c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f).2.1 (fin c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f).2.2
            ∗ held c arg8 (put arg8 full (k0_pay4 (arg11.view.readAt (Elt F) full.toLoadRect (fin c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f).1)) g8)
            ∗ held c arg9 (put arg9 full (k0_pay5 (arg12.view.readAt (Elt F) full.toLoadRect (fin c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f).2.1)) g9)
            ∗ held c arg10 (put arg10 full (k0_pay6 (arg13.view.readAt (Elt F) full.toLoadRect (fin c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f).2.2)) g10))) := by
  rw [cc0_att_bwd_g1_eq_skeleton]
  unfold cc0_att_bwd_g1_skel
  simp only [Prog.lift, Prog.bind_op, Prog.bind_ret, pure_bind]
  iintro ⟨⟨H1, H2, H3, H4, H5, H6, H7, HA, HB, HC⟩, H8, H9, H10⟩
  iapply (wp_put c (m := arg12) (r := full)) $$ HB; iintro HB
  iapply (wp_put c (m := arg13) (r := full)) $$ HC; iintro HC
  iapply (Scf.wp_for_bind _ _ _ _ _ _ _ _ _ (loopInv c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7
    (f.1, put arg12 full (k0_pay1 (F := F)) f.2.1, put arg13 full (k0_pay2 (F := F)) f.2.2)).inv (loopInv c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7
    (f.1, put arg12 full (k0_pay1 (F := F)) f.2.1, put arg13 full (k0_pay2 (F := F)) f.2.2)).step) $$ [H1 H2 H3 H4 H5 H6 H7 HA HB HC]
  · unfold loopInv
    dsimp only
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]; · iexact HA
    isplitl [HB]; · iexact HB
    iexact HC
  iintro %u
  unfold loopInv
  dsimp only
  iintro ⟨H1, H2, H3, H4, H5, H6, H7, HA, HB, HC⟩
  sl_step
  iapply (wp_put c (m := arg8) (r := full)) $$ H8; iintro H8
  sl_step
  iapply (wp_put c (m := arg9) (r := full)) $$ H9; iintro H9
  sl_step
  iapply (wp_put c (m := arg10) (r := full)) $$ H10; iintro H10
  sl_step
  isplitl [H1 H2 H3 H4 H5 H6 H7 HA HB HC]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]; · iexact HA
    isplitl [HB]; · iexact HB
    iexact HC
  isplitl [H8]; · iexact H8
  isplitl [H9]; · iexact H9
  iexact H10

end body

end Cert.KernelIdeal.Att

end
-- ==== Proof.Eqns.lean ====
module

public import proofs.«01_k».proof.Proof.Run

@[expose] public section

set_option maxRecDepth 16384
set_option maxHeartbeats 4000000

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section equations

variable {c : Dev nD} {i : grid0.Coords} {arg1 : Memref sig .tc .vmem S4096x128 .f32} {harg1 : arg1.IsWhole} {arg2 : Memref sig .tc .vmem S4096x128 .f32} {harg2 : arg2.IsWhole} {arg3 : Memref sig .tc .vmem S4096x128 .f32} {harg3 : arg3.IsWhole} {arg4 : Memref sig .tc .vmem S4096x128 .f32} {harg4 : arg4.IsWhole} {arg5 : Memref sig .tc .vmem S4096x128 .f32} {harg5 : arg5.IsWhole} {arg6 : Memref sig .tc .vmem S4096x128 .f32} {harg6 : arg6.IsWhole} {arg7 : Memref sig .tc .vmem S4096x128 .f32} {harg7 : arg7.IsWhole} {arg8 : Memref sig .tc .vmem S4096x128 .bf16} {harg8 : arg8.IsWhole} {arg9 : Memref sig .tc .vmem S4096x128 .bf16} {harg9 : arg9.IsWhole} {arg10 : Memref sig .tc .vmem S4096x128 .bf16} {harg10 : arg10.IsWhole} {arg11 : Memref sig .tc .vmem S4096x128 .f32} {harg11 : arg11.IsWhole} {arg12 : Memref sig .tc .vmem S4096x128 .f32} {harg12 : arg12.IsWhole} {arg13 : Memref sig .tc .vmem S4096x128 .f32} {harg13 : arg13.IsWhole}

variable {X1 : BufTy.Contents (Elt F) arg1.view.ty}
variable {X2 : BufTy.Contents (Elt F) arg2.view.ty}
variable {X3 : BufTy.Contents (Elt F) arg3.view.ty}
variable {X4 : BufTy.Contents (Elt F) arg4.view.ty}
variable {X5 : BufTy.Contents (Elt F) arg5.view.ty}
variable {X6 : BufTy.Contents (Elt F) arg6.view.ty}
variable {X7 : BufTy.Contents (Elt F) arg7.view.ty}

/-- What one trip does to the first accumulator. -/
theorem trip_A (k : Fin k0_t1_loop.trips) (f : BufTy.Contents (Elt F) arg11.view.ty) :
    (trip (F := F) c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 k).1.1 f = (put arg11 (cur k 3) (k0_pay187 (trip.sl.v780 arg1 arg2 arg3 arg4 arg5 arg6 arg7 X1 X2 X3 X4 X5 X6 X7 k)) (put arg11 (cur k 2) (k0_pay182 (trip.sl.v780 arg1 arg2 arg3 arg4 arg5 arg6 arg7 X1 X2 X3 X4 X5 X6 X7 k)) (put arg11 (cur k 1) (k0_pay176 (trip.sl.v780 arg1 arg2 arg3 arg4 arg5 arg6 arg7 X1 X2 X3 X4 X5 X6 X7 k)) (put arg11 (cur k 0) (k0_pay169 (trip.sl.v780 arg1 arg2 arg3 arg4 arg5 arg6 arg7 X1 X2 X3 X4 X5 X6 X7 k) (trip.sl.v790 arg1 arg2 arg3 arg4 arg5 arg6 arg7 X1 X2 X3 X4 X5 X6 X7 k)) f)))) := rfl

/-- What one trip does to the second accumulator. -/
theorem trip_B (k : Fin k0_t1_loop.trips) (f : BufTy.Contents (Elt F) arg12.view.ty) :
    (trip (F := F) c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 k).1.2.1 f = (rmw arg12 (prv k 3) (k0_pay190 (trip.sl.v784 arg1 arg2 arg3 arg4 arg5 arg6 arg7 X1 X2 X3 X4 X5 X6 X7 k)) (rmw arg12 (cur k 3) (k0_pay188 (trip.sl.v782 arg1 arg2 arg3 arg4 arg5 arg6 arg7 X1 X2 X3 X4 X5 X6 X7 k)) (rmw arg12 (prv k 2) (k0_pay185 (trip.sl.v784 arg1 arg2 arg3 arg4 arg5 arg6 arg7 X1 X2 X3 X4 X5 X6 X7 k)) (rmw arg12 (cur k 2) (k0_pay183 (trip.sl.v782 arg1 arg2 arg3 arg4 arg5 arg6 arg7 X1 X2 X3 X4 X5 X6 X7 k)) (rmw arg12 (prv k 1) (fun v => k0_pay180 (k0_pay179 (trip.sl.v784 arg1 arg2 arg3 arg4 arg5 arg6 arg7 X1 X2 X3 X4 X5 X6 X7 k) v)) (rmw arg12 (cur k 1) (k0_pay177 (trip.sl.v782 arg1 arg2 arg3 arg4 arg5 arg6 arg7 X1 X2 X3 X4 X5 X6 X7 k)) (rmw arg12 (prv k 0) (k0_pay172 (trip.sl.v784 arg1 arg2 arg3 arg4 arg5 arg6 arg7 X1 X2 X3 X4 X5 X6 X7 k)) (rmw arg12 (cur k 0) (k0_pay170 (trip.sl.v782 arg1 arg2 arg3 arg4 arg5 arg6 arg7 X1 X2 X3 X4 X5 X6 X7 k)) f)))))))) := rfl

/-- What one trip does to the third accumulator. -/
theorem trip_C (k : Fin k0_t1_loop.trips) (f : BufTy.Contents (Elt F) arg13.view.ty) :
    (trip (F := F) c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 k).1.2.2 f = (rmw arg13 (prv k 3) (fun v => k0_pay3 (k0_pay191 (trip.sl.v788 arg1 arg2 arg5 arg6 X1 X2 X5 X6 k) v)) (rmw arg13 (cur k 3) (k0_pay189 (trip.sl.v786 arg1 arg2 arg5 arg6 X1 X2 X5 X6 k)) (rmw arg13 (prv k 2) (k0_pay186 (trip.sl.v788 arg1 arg2 arg5 arg6 X1 X2 X5 X6 k)) (rmw arg13 (cur k 2) (k0_pay184 (trip.sl.v786 arg1 arg2 arg5 arg6 X1 X2 X5 X6 k)) (rmw arg13 (prv k 1) (k0_pay181 (trip.sl.v788 arg1 arg2 arg5 arg6 X1 X2 X5 X6 k)) (rmw arg13 (cur k 1) (k0_pay178 (trip.sl.v786 arg1 arg2 arg5 arg6 X1 X2 X5 X6 k)) (rmw arg13 (prv k 0) (fun v => k0_pay175 v (k0_pay173 (trip.sl.v788 arg1 arg2 arg5 arg6 X1 X2 X5 X6 k)) (k0_pay174 (trip.sl.v788 arg1 arg2 arg5 arg6 X1 X2 X5 X6 k))) (rmw arg13 (cur k 0) (k0_pay171 (trip.sl.v786 arg1 arg2 arg5 arg6 X1 X2 X5 X6 k)) f)))))))) := rfl

end equations

end Cert.KernelIdeal.Att

end
-- ==== Proof.Fold.lean ====
module

public import proofs.«01_k».proof.Proof.Eqns

@[expose] public section

set_option maxRecDepth 16384
set_option maxHeartbeats 4000000

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section equations

variable {c : Dev nD} {i : grid0.Coords} {arg1 : Memref sig .tc .vmem S4096x128 .f32} {harg1 : arg1.IsWhole} {arg2 : Memref sig .tc .vmem S4096x128 .f32} {harg2 : arg2.IsWhole} {arg3 : Memref sig .tc .vmem S4096x128 .f32} {harg3 : arg3.IsWhole} {arg4 : Memref sig .tc .vmem S4096x128 .f32} {harg4 : arg4.IsWhole} {arg5 : Memref sig .tc .vmem S4096x128 .f32} {harg5 : arg5.IsWhole} {arg6 : Memref sig .tc .vmem S4096x128 .f32} {harg6 : arg6.IsWhole} {arg7 : Memref sig .tc .vmem S4096x128 .f32} {harg7 : arg7.IsWhole} {arg8 : Memref sig .tc .vmem S4096x128 .bf16} {harg8 : arg8.IsWhole} {arg9 : Memref sig .tc .vmem S4096x128 .bf16} {harg9 : arg9.IsWhole} {arg10 : Memref sig .tc .vmem S4096x128 .bf16} {harg10 : arg10.IsWhole} {arg11 : Memref sig .tc .vmem S4096x128 .f32} {harg11 : arg11.IsWhole} {arg12 : Memref sig .tc .vmem S4096x128 .f32} {harg12 : arg12.IsWhole} {arg13 : Memref sig .tc .vmem S4096x128 .f32} {harg13 : arg13.IsWhole}

variable {X1 : BufTy.Contents (Elt F) arg1.view.ty}
variable {X2 : BufTy.Contents (Elt F) arg2.view.ty}
variable {X3 : BufTy.Contents (Elt F) arg3.view.ty}
variable {X4 : BufTy.Contents (Elt F) arg4.view.ty}
variable {X5 : BufTy.Contents (Elt F) arg5.view.ty}
variable {X6 : BufTy.Contents (Elt F) arg6.view.ty}
variable {X7 : BufTy.Contents (Elt F) arg7.view.ty}

attribute [local irreducible] trip trip.sl.v780 trip.sl.v782 trip.sl.v784 trip.sl.v786 trip.sl.v788 trip.sl.v790

/-- The second and third accumulators do not depend on the first. -/
theorem accs_snd {f g : Accs (F := F) arg11 arg12 arg13} (h : f.2 = g.2) (n : ℕ) :
    (accs c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f n).2 = (accs c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 g n).2 := by
  induction n with
  | zero => exact h
  | succ n ih =>
    by_cases hn : n < k0_t1_loop.trips
    · rw [accs_succ c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f ⟨n, hn⟩, accs_succ c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 g ⟨n, hn⟩]
      show ((trip (F := F) c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 ⟨n, hn⟩).1.2.1 (accs c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f n).2.1, (trip (F := F) c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 ⟨n, hn⟩).1.2.2 (accs c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f n).2.2) = _
      rw [ih]
    · rw [accs, dif_neg hn, accs, dif_neg hn, ih]

/-- One trip's four stores make two buffers equal where they were equal and in the four rectangles. -/
theorem nest_agree {m : Memref sig .tc .vmem S4096x128 .f32} (r0 r1 r2 r3 : Rect S4096x128) (w0 : r0.shape.Idx → Elt F .f32)
    (w1 : r1.shape.Idx → Elt F .f32) (w2 : r2.shape.Idx → Elt F .f32) (w3 : r3.shape.Idx → Elt F .f32) (f g : BufTy.Contents (Elt F) m.view.ty)
    (y : S4096x128.Idx) (h : m.view.read (Elt F) f y = m.view.read (Elt F) g y ∨ (∃ x, r0.emb x = y) ∨ (∃ x, r1.emb x = y) ∨ (∃ x, r2.emb x = y) ∨ (∃ x, r3.emb x = y)) :
    m.view.read (Elt F) (put m r3 w3 (put m r2 w2 (put m r1 w1 (put m r0 w0 f)))) y
      = m.view.read (Elt F) (put m r3 w3 (put m r2 w2 (put m r1 w1 (put m r0 w0 g)))) y := by
  rcases h with h | h | h | h | h
  · exact put_agree w3 (put_agree w2 (put_agree w1 (put_agree w0 h)))
  · exact put_agree w3 (put_agree w2 (put_agree w1 (put_agree_in w0 f g h)))
  · exact put_agree w3 (put_agree w2 (put_agree_in w1 _ _ h))
  · exact put_agree w3 (put_agree_in w2 _ _ h)
  · exact put_agree_in w3 _ _ h

/-- One trip makes two buffers equal where they were equal and in its blocks' rows. -/
theorem trip_agree (k : Fin k0_t1_loop.trips) (f g : BufTy.Contents (Elt F) arg11.view.ty) (y : S4096x128.Idx)
    (h : arg11.view.read (Elt F) f y = arg11.view.read (Elt F) g y ∨ ∃ (r : Fin 4) (x : _), (cur k r).emb x = y) :
    arg11.view.read (Elt F) ((trip (F := F) c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 k).1.1 f) y = arg11.view.read (Elt F) ((trip (F := F) c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 k).1.1 g) y := by
  rw [trip_A, trip_A]
  refine nest_agree (cur k 0) (cur k 1) (cur k 2) (cur k 3) _ _ _ _ f g y ?_
  rcases h with h | ⟨r, x, h⟩
  · exact Or.inl h
  · have hr : r = 0 ∨ r = 1 ∨ r = 2 ∨ r = 3 := by have := r.isLt; omega
    rcases hr with rfl | rfl | rfl | rfl
    · exact Or.inr (Or.inl (Exists.intro x h))
    · exact Or.inr (Or.inr (Or.inl (Exists.intro x h)))
    · exact Or.inr (Or.inr (Or.inr (Or.inl (Exists.intro x h))))
    · exact Or.inr (Or.inr (Or.inr (Or.inr (Exists.intro x h))))

/-- After `n` trips the first accumulator no longer depends on what it held in the rows of their blocks. -/
theorem accs_agree (f g : Accs (F := F) arg11 arg12 arg13) (y : S4096x128.Idx) (n : ℕ)
    (h : ∃ (k : Fin k0_t1_loop.trips) (r : Fin 4), k.val < n ∧ ∃ x, (cur k r).emb x = y) :
    arg11.view.read (Elt F) (accs c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f n).1 y = arg11.view.read (Elt F) (accs c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 g n).1 y := by
  induction n with
  | zero => obtain ⟨k, r, h, _⟩ := h; exact absurd h (Nat.not_lt_zero _)
  | succ n ih =>
    obtain ⟨k, r, hk, x, hx⟩ := h
    by_cases hn : n < k0_t1_loop.trips
    · rw [accs_succ c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f ⟨n, hn⟩, accs_succ c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 g ⟨n, hn⟩]
      refine trip_agree ⟨n, hn⟩ _ _ y ?_
      by_cases hlt : k.val < n
      · exact Or.inl (ih ⟨k, r, hlt, x, hx⟩)
      · obtain rfl : k = ⟨n, hn⟩ := Fin.ext (by show k.val = n; omega)
        exact Or.inr ⟨r, x, hx⟩
    · rw [accs, dif_neg hn, accs, dif_neg hn]
      exact ih ⟨k, r, lt_of_lt_of_le k.isLt (not_lt.mp hn), x, hx⟩

/-- The full rectangle is read whole. -/
theorem readAt_full' {e : EltTy} (m : Memref sig .tc .vmem S4096x128 e) (f : BufTy.Contents (Elt F) m.view.ty) :
    m.view.readAt (Elt F) full.toLoadRect f = m.view.read (Elt F) f := by
  funext x
  rw [View.readAt_apply]
  congr 1
  funext a
  match a with
  | ⟨0, _⟩ => apply Fin.ext; show 0 + 1 * (x 0).val = (x 0).val; omega
  | ⟨1, _⟩ => apply Fin.ext; show 0 + 1 * (x 1).val = (x 1).val; omega

/-- A whole store leaves what it stored. -/
theorem read_put_full {e : EltTy} (m : Memref sig .tc .vmem S4096x128 e) (w : full.shape.Idx → Elt F e) (f : BufTy.Contents (Elt F) m.view.ty) :
    m.view.read (Elt F) (put m full w f) = w := by
  funext x
  have h : full.emb x = x := by
    funext a
    match a with
    | ⟨0, _⟩ => apply Fin.ext; show 0 + 1 * (x 0).val = (x 0).val; omega
    | ⟨1, _⟩ => apply Fin.ext; show 0 + 1 * (x 1).val = (x 1).val; omega
  have := put_emb (m := m) (r := full) w f x
  rwa [h] at this

/-- What the loop leaves does not depend on what the accumulators held at entry. -/
theorem fin_indep (f g : Accs (F := F) arg11 arg12 arg13) :
    arg11.view.read (Elt F) (fin c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f).1 = arg11.view.read (Elt F) (fin c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 g).1
      ∧ (fin c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 f).2 = (fin c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 g).2 := by
  constructor
  · funext y
    obtain ⟨k, r, x, hx⟩ := cur_cover y
    exact accs_agree _ _ y _ ⟨k, r, k.isLt, x, hx⟩
  · refine accs_snd ?_ _
    have h12 := (harg12.eq_unread (read_put_full arg12 (k0_pay1 (F := F)) f.2.1)).trans (harg12.eq_unread (read_put_full arg12 (k0_pay1 (F := F)) g.2.1)).symm
    have h13 := (harg13.eq_unread (read_put_full arg13 (k0_pay2 (F := F)) f.2.2)).trans (harg13.eq_unread (read_put_full arg13 (k0_pay2 (F := F)) g.2.2)).symm
    show (put arg12 full (k0_pay1 (F := F)) f.2.1, put arg13 full (k0_pay2 (F := F)) f.2.2) = (put arg12 full (k0_pay1 (F := F)) g.2.1, put arg13 full (k0_pay2 (F := F)) g.2.2)
    rw [h12, h13]

end equations

end Cert.KernelIdeal.Att

end
-- ==== Proof.Frame.lean ====
module

public import proofs.«01_k».proof.Proof.Fold

@[expose] public section

set_option maxRecDepth 16384
set_option maxHeartbeats 4000000

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The region -/

variable (m : (ℓ : Loc nD τ sig) → Buf (Elt F) ℓ) (ρ : Dev nD → PrngReg)

/-- The accumulators after the loop at point `t`, the blocks at their contents. -/
abbrev finAt (c : Dev nD) (t : Fin cfg0.N) (f : Accs (F := F) (Memref.whole cc0_scratch0) (Memref.whole cc0_scratch1) (Memref.whole cc0_scratch2)) :
    Accs (F := F) (Memref.whole cc0_scratch0) (Memref.whole cc0_scratch1) (Memref.whole cc0_scratch2) :=
  fin (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _)
    ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) f

/-- Zeroed accumulators. -/
def acc0 : Accs (F := F) (Memref.whole cc0_scratch0) (Memref.whole cc0_scratch1) (Memref.whole cc0_scratch2) :=
  ((Memref.isWhole_whole cc0_scratch0).unread (k0_pay1 (F := F)), (Memref.isWhole_whole cc0_scratch1).unread (k0_pay1 (F := F)), (Memref.isWhole_whole cc0_scratch2).unread (k0_pay1 (F := F)))

/-- The query gradient's block after point `t`. -/
def dqAt (c : Dev nD) (t : Fin cfg0.N) : S4096x128.Idx → Elt F .bf16 := k0_pay4 ((Memref.whole cc0_scratch0).view.read (Elt F) (finAt m c t acc0).1)
/-- The key gradient's block after point `t`. -/
def dkAt (c : Dev nD) (t : Fin cfg0.N) : S4096x128.Idx → Elt F .bf16 := k0_pay5 ((Memref.whole cc0_scratch1).view.read (Elt F) (finAt m c t acc0).2.1)
/-- The value gradient's block after point `t`. -/
def dvAt (c : Dev nD) (t : Fin cfg0.N) : S4096x128.Idx → Elt F .bf16 := k0_pay6 ((Memref.whole cc0_scratch2).view.read (Elt F) (finAt m c t acc0).2.2)

/-- The proof data: the arrays as the region finds them, the inputs' blocks kept, the outputs' at the gradients. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAt m c t
    | ⟨8, _⟩ => dkAt m c t
    | ⟨9, _⟩ => dvAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dqAt m c t := by dsimp only [dats]
theorem after0_8 (c : Dev nD) (t : Fin cfg0.N) : (dats m 0 c).after 8 t = dkAt m c t := by dsimp only [dats]
theorem after0_9 (c : Dev nD) (t : Fin cfg0.N) : (dats m 0 c).after 9 t = dvAt m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-- A whole memref owned is its buffer held. -/
theorem owns_held (c : Dev nD) {e : EltTy} (M : Memref sig .tc .vmem S4096x128 e) (h : M.IsWhole) (x : S4096x128.Idx → Elt F e) :
    (owns (c : Thread nD τ) M fullShare x : sProp 𝕄) ⊢ held c M (h.unread x) := by
  unfold owns
  iintro ⟨%f, %hf, H⟩
  obtain rfl := h.eq_unread hf
  rw [h.set_eq_univ]
  iexact H

/-- A buffer held whole is owned at what it reads. -/
theorem held_owns (c : Dev nD) {e : EltTy} (M : Memref sig .tc .vmem S4096x128 e) (h : M.IsWhole) (f : BufTy.Contents (Elt F) M.view.ty)
    (x : S4096x128.Idx → Elt F e) (hx : M.view.read (Elt F) f = x) :
    held c M f ⊢ (owns (c : Thread nD τ) M fullShare x : sProp 𝕄) := by
  unfold owns
  iintro H
  iexists _; isplitr; · ipureintro; exact hx
  rw [h.set_eq_univ]
  iexact H

/-- The first accumulator after the loop, whatever the accumulators held at entry. -/
theorem finAt_fst (c : Dev nD) (t : Fin cfg0.N) (f : Accs (F := F) (Memref.whole cc0_scratch0) (Memref.whole cc0_scratch1) (Memref.whole cc0_scratch2)) :
    (Memref.whole cc0_scratch0).view.read (Elt F) (finAt m c t f).1 = (Memref.whole cc0_scratch0).view.read (Elt F) (finAt m c t acc0).1 :=
  (fin_indep (F := F) f acc0).1

/-- The other two likewise. -/
theorem finAt_snd (c : Dev nD) (t : Fin cfg0.N) (f : Accs (F := F) (Memref.whole cc0_scratch0) (Memref.whole cc0_scratch1) (Memref.whole cc0_scratch2)) :
    (finAt m c t f).2 = (finAt m c t acc0).2 := (fin_indep (F := F) f acc0).2

/-- What the body stores as the dq block is the block the proof data name, whatever the accumulators held at entry. -/
theorem out_dq (c : Dev nD) (t : Fin cfg0.N) (f : Accs (F := F) (Memref.whole cc0_scratch0) (Memref.whole cc0_scratch1) (Memref.whole cc0_scratch2))
    (g : BufTy.Contents (Elt F) (win0_7.stage (cfg0.slots t 7)).view.ty) :
    (win0_7.stage (cfg0.slots t 7)).view.read (Elt F) (put (win0_7.stage (cfg0.slots t 7)) full
      (k0_pay4 ((Memref.whole cc0_scratch0).view.readAt (Elt F) full.toLoadRect (finAt m c t f).1)) g) = dqAt m c t := by
  rw [read_put_full, readAt_full' (Memref.whole cc0_scratch0)]
  unfold dqAt
  rw [finAt_fst m c t f]

/-- What the body stores as the dk block is the block the proof data name, whatever the accumulators held at entry. -/
theorem out_dk (c : Dev nD) (t : Fin cfg0.N) (f : Accs (F := F) (Memref.whole cc0_scratch0) (Memref.whole cc0_scratch1) (Memref.whole cc0_scratch2))
    (g : BufTy.Contents (Elt F) (win0_8.stage (cfg0.slots t 8)).view.ty) :
    (win0_8.stage (cfg0.slots t 8)).view.read (Elt F) (put (win0_8.stage (cfg0.slots t 8)) full
      (k0_pay5 ((Memref.whole cc0_scratch1).view.readAt (Elt F) full.toLoadRect (finAt m c t f).2.1)) g) = dkAt m c t := by
  rw [read_put_full, readAt_full' (Memref.whole cc0_scratch1)]
  unfold dkAt
  rw [finAt_snd m c t f]

/-- What the body stores as the dv block is the block the proof data name, whatever the accumulators held at entry. -/
theorem out_dv (c : Dev nD) (t : Fin cfg0.N) (f : Accs (F := F) (Memref.whole cc0_scratch0) (Memref.whole cc0_scratch1) (Memref.whole cc0_scratch2))
    (g : BufTy.Contents (Elt F) (win0_9.stage (cfg0.slots t 9)).view.ty) :
    (win0_9.stage (cfg0.slots t 9)).view.read (Elt F) (put (win0_9.stage (cfg0.slots t 9)) full
      (k0_pay6 ((Memref.whole cc0_scratch2).view.readAt (Elt F) full.toLoadRect (finAt m c t f).2.2)) g) = dvAt m c t := by
  rw [read_put_full, readAt_full' (Memref.whole cc0_scratch2)]
  unfold dvAt
  rw [finAt_snd m c t f]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t))

/-- The body at point `t` from the pipeline's hands to the pipeline's hands. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4, after0_5, after0_6, after0_7, after0_8, after0_9]
  simp only [before0_0, before0_1, before0_2, before0_3, before0_4, before0_5, before0_6]
  rw [show (dats m 0 c).Φ t.castSucc = Pipeline.ΦA spec0 c from rfl]
  unfold Pipeline.ΦA
  rw [scopedRest0_eq]
  rw [show (dats m 0 c).owesAt () t.succ = (dats m 0 c).owesAt () t.castSucc from rfl]
  iintro ⟨⟨⟨⟨%fa, HA⟩, ⟨%fb, HB⟩, ⟨%fc, HC⟩⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H0 := (owns_held c (win0_0.stage (cfg0.slots t 0)) (hstage0_0 ((cfg0.slots t 0).cast nbuf0_0)) _) $$ H0
  ihave H1 := (owns_held c (win0_1.stage (cfg0.slots t 1)) (hstage0_1 ((cfg0.slots t 1).cast nbuf0_1)) _) $$ H1
  ihave H2 := (owns_held c (win0_2.stage (cfg0.slots t 2)) (hstage0_2 ((cfg0.slots t 2).cast nbuf0_2)) _) $$ H2
  ihave H3 := (owns_held c (win0_3.stage (cfg0.slots t 3)) (hstage0_3 ((cfg0.slots t 3).cast nbuf0_3)) _) $$ H3
  ihave H4 := (owns_held c (win0_4.stage (cfg0.slots t 4)) (hstage0_4 ((cfg0.slots t 4).cast nbuf0_4)) _) $$ H4
  ihave H5 := (owns_held c (win0_5.stage (cfg0.slots t 5)) (hstage0_5 ((cfg0.slots t 5).cast nbuf0_5)) _) $$ H5
  ihave H6 := (owns_held c (win0_6.stage (cfg0.slots t 6)) (hstage0_6 ((cfg0.slots t 6).cast nbuf0_6)) _) $$ H6
  ihave H7 := (owns_held c (win0_7.stage (cfg0.slots t 7)) (hstage0_7 ((cfg0.slots t 7).cast nbuf0_7)) _) $$ H7
  ihave H8 := (owns_held c (win0_8.stage (cfg0.slots t 8)) (hstage0_8 ((cfg0.slots t 8).cast nbuf0_8)) _) $$ H8
  ihave H9 := (owns_held c (win0_9.stage (cfg0.slots t 9)) (hstage0_9 ((cfg0.slots t 9).cast nbuf0_9)) _) $$ H9
  iapply (Idealize.SL.Sem.wp_wand_r _ _ _)
  isplitl [H0 H1 H2 H3 H4 H5 H6 H7 H8 H9 HA HB HC]
  · iapply (body_run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread (iblk m c 6 t)) (fa, fb, fc) _ _ _)
    isplitl [H0 H1 H2 H3 H4 H5 H6 HA HB HC]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HA]; · iexact HA
      isplitl [HB]; · iexact HB
      iexact HC
    isplitl [H7]; · iexact H7
    isplitl [H8]; · iexact H8
    iexact H9
  iintro %u ⟨⟨H0, H1, H2, H3, H4, H5, H6, HA, HB, HC⟩, H7, H8, H9⟩
  isplitl [HA HB HC Hg]
  · isplitl [HA HB HC]
    · isplitl [HA]; · iexists _; iexact HA
      isplitl [HB]; · iexists _; iexact HB
      iexists _; iexact HC
    iexact Hg
  isplitl [HW]; · iexact HW
  isplitl [H0]
  · iapply (held_owns c (win0_0.stage (cfg0.slots t 0)) (hstage0_0 ((cfg0.slots t 0).cast nbuf0_0)) _ _ (Memref.IsWhole.read_unread _ _)) $$ H0
  isplitl [H1]
  · iapply (held_owns c (win0_1.stage (cfg0.slots t 1)) (hstage0_1 ((cfg0.slots t 1).cast nbuf0_1)) _ _ (Memref.IsWhole.read_unread _ _)) $$ H1
  isplitl [H2]
  · iapply (held_owns c (win0_2.stage (cfg0.slots t 2)) (hstage0_2 ((cfg0.slots t 2).cast nbuf0_2)) _ _ (Memref.IsWhole.read_unread _ _)) $$ H2
  isplitl [H3]
  · iapply (held_owns c (win0_3.stage (cfg0.slots t 3)) (hstage0_3 ((cfg0.slots t 3).cast nbuf0_3)) _ _ (Memref.IsWhole.read_unread _ _)) $$ H3
  isplitl [H4]
  · iapply (held_owns c (win0_4.stage (cfg0.slots t 4)) (hstage0_4 ((cfg0.slots t 4).cast nbuf0_4)) _ _ (Memref.IsWhole.read_unread _ _)) $$ H4
  isplitl [H5]
  · iapply (held_owns c (win0_5.stage (cfg0.slots t 5)) (hstage0_5 ((cfg0.slots t 5).cast nbuf0_5)) _ _ (Memref.IsWhole.read_unread _ _)) $$ H5
  isplitl [H6]
  · iapply (held_owns c (win0_6.stage (cfg0.slots t 6)) (hstage0_6 ((cfg0.slots t 6).cast nbuf0_6)) _ _ (Memref.IsWhole.read_unread _ _)) $$ H6
  isplitl [H7]
  · iapply (held_owns c (win0_7.stage (cfg0.slots t 7)) (hstage0_7 ((cfg0.slots t 7).cast nbuf0_7)) _ _ (out_dq m c t (fa, fb, fc) _)) $$ H7
  isplitl [H8]
  · iapply (held_owns c (win0_8.stage (cfg0.slots t 8)) (hstage0_8 ((cfg0.slots t 8).cast nbuf0_8)) _ _ (out_dk m c t (fa, fb, fc) _)) $$ H8
  iapply (held_owns c (win0_9.stage (cfg0.slots t 9)) (hstage0_9 ((cfg0.slots t 9).cast nbuf0_9)) _ _ (out_dv m c t (fa, fb, fc) _)) $$ H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends with the windows' arrays at the proof data's, the other arrays as the region found them, the semaphores at zero. -/
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end as they began, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 2).trans (((dats m 0 c).arrAt_in 2 rfl _).trans ((A_eq m c 2).trans (V_main_arg0 m c))),
      ((h.1 c).1 5).trans (((dats m 0 c).arrAt_in 5 rfl _).trans ((A_eq m c 5).trans (V_main_arg1 m c))),
      ((h.1 c).1 6).trans (((dats m 0 c).arrAt_in 6 rfl _).trans ((A_eq m c 6).trans (V_main_arg2 m c)))⟩, h.2⟩) (run_main m ρ)

end Cert.KernelIdeal.Att

end
-- ==== Proof.Word.Eqns.lean ====
module

public import proofs.«01_k».proof.Proof.Word.Run

@[expose] public section

set_option maxRecDepth 16384
set_option maxHeartbeats 4000000

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section equations

variable {c : Dev nD} {i : grid0.Coords} {arg1 : Memref sig .tc .vmem S4096x128 .f32} {harg1 : arg1.IsWhole} {arg2 : Memref sig .tc .vmem S4096x128 .f32} {harg2 : arg2.IsWhole} {arg3 : Memref sig .tc .vmem S4096x128 .f32} {harg3 : arg3.IsWhole} {arg4 : Memref sig .tc .vmem S4096x128 .f32} {harg4 : arg4.IsWhole} {arg5 : Memref sig .tc .vmem S4096x128 .f32} {harg5 : arg5.IsWhole} {arg6 : Memref sig .tc .vmem S4096x128 .f32} {harg6 : arg6.IsWhole} {arg7 : Memref sig .tc .vmem S4096x128 .f32} {harg7 : arg7.IsWhole} {arg8 : Memref sig .tc .vmem S4096x128 .bf16} {harg8 : arg8.IsWhole} {arg9 : Memref sig .tc .vmem S4096x128 .bf16} {harg9 : arg9.IsWhole} {arg10 : Memref sig .tc .vmem S4096x128 .bf16} {harg10 : arg10.IsWhole} {arg11 : Memref sig .tc .vmem S4096x128 .f32} {harg11 : arg11.IsWhole} {arg12 : Memref sig .tc .vmem S4096x128 .f32} {harg12 : arg12.IsWhole} {arg13 : Memref sig .tc .vmem S4096x128 .f32} {harg13 : arg13.IsWhole}

variable {X1 : BufTy.Contents (Elt F) arg1.view.ty}
variable {X2 : BufTy.Contents (Elt F) arg2.view.ty}
variable {X3 : BufTy.Contents (Elt F) arg3.view.ty}
variable {X4 : BufTy.Contents (Elt F) arg4.view.ty}
variable {X5 : BufTy.Contents (Elt F) arg5.view.ty}
variable {X6 : BufTy.Contents (Elt F) arg6.view.ty}
variable {X7 : BufTy.Contents (Elt F) arg7.view.ty}

/-- What one trip does to the first accumulator. -/
theorem trip_A (k : Fin k0_t1_loop.trips) (f : BufTy.Contents (Elt F) arg11.view.ty) :
    (trip (F := F) c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 k).1.1 f = (put arg11 (cur k 3) (k0_pay187 (trip.sl.r_116 arg1 arg2 arg3 arg4 arg5 arg6 arg7 X1 X2 X3 X4 X5 X6 X7 k)) (put arg11 (cur k 2) (k0_pay182 (trip.sl.r_116 arg1 arg2 arg3 arg4 arg5 arg6 arg7 X1 X2 X3 X4 X5 X6 X7 k)) (put arg11 (cur k 1) (k0_pay176 (trip.sl.r_116 arg1 arg2 arg3 arg4 arg5 arg6 arg7 X1 X2 X3 X4 X5 X6 X7 k)) (put arg11 (cur k 0) (k0_pay169 (trip.sl.r_116 arg1 arg2 arg3 arg4 arg5 arg6 arg7 X1 X2 X3 X4 X5 X6 X7 k) (trip.sl.r_121 arg1 arg2 arg3 arg4 arg5 arg6 arg7 X1 X2 X3 X4 X5 X6 X7 k)) f)))) := rfl

/-- What one trip does to the second accumulator. -/
theorem trip_B (k : Fin k0_t1_loop.trips) (f : BufTy.Contents (Elt F) arg12.view.ty) :
    (trip (F := F) c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 k).1.2.1 f = (rmw arg12 (prv k 3) (k0_pay190 (trip.sl.r_118 arg1 arg2 arg3 arg4 arg5 arg6 arg7 X1 X2 X3 X4 X5 X6 X7 k)) (rmw arg12 (cur k 3) (k0_pay188 (trip.sl.r_117 arg1 arg2 arg3 arg4 arg5 arg6 arg7 X1 X2 X3 X4 X5 X6 X7 k)) (rmw arg12 (prv k 2) (k0_pay185 (trip.sl.r_118 arg1 arg2 arg3 arg4 arg5 arg6 arg7 X1 X2 X3 X4 X5 X6 X7 k)) (rmw arg12 (cur k 2) (k0_pay183 (trip.sl.r_117 arg1 arg2 arg3 arg4 arg5 arg6 arg7 X1 X2 X3 X4 X5 X6 X7 k)) (rmw arg12 (prv k 1) (fun v => k0_pay180 (k0_pay179 (trip.sl.r_118 arg1 arg2 arg3 arg4 arg5 arg6 arg7 X1 X2 X3 X4 X5 X6 X7 k) v)) (rmw arg12 (cur k 1) (k0_pay177 (trip.sl.r_117 arg1 arg2 arg3 arg4 arg5 arg6 arg7 X1 X2 X3 X4 X5 X6 X7 k)) (rmw arg12 (prv k 0) (k0_pay172 (trip.sl.r_118 arg1 arg2 arg3 arg4 arg5 arg6 arg7 X1 X2 X3 X4 X5 X6 X7 k)) (rmw arg12 (cur k 0) (k0_pay170 (trip.sl.r_117 arg1 arg2 arg3 arg4 arg5 arg6 arg7 X1 X2 X3 X4 X5 X6 X7 k)) f)))))))) := rfl

/-- What one trip does to the third accumulator. -/
theorem trip_C (k : Fin k0_t1_loop.trips) (f : BufTy.Contents (Elt F) arg13.view.ty) :
    (trip (F := F) c i arg1 harg1 arg2 harg2 arg3 harg3 arg4 harg4 arg5 harg5 arg6 harg6 arg7 harg7 arg8 harg8 arg9 harg9 arg10 harg10 arg11 harg11 arg12 harg12 arg13 harg13 X1 X2 X3 X4 X5 X6 X7 k).1.2.2 f = (rmw arg13 (prv k 3) (fun v => k0_pay3 (k0_pay191 (trip.sl.r_120 arg1 arg2 arg5 arg6 X1 X2 X5 X6 k) v)) (rmw arg13 (cur k 3) (k0_pay189 (trip.sl.r_119 arg1 arg2 arg5 arg6 X1 X2 X5 X6 k)) (rmw arg13 (prv k 2) (k0_pay186 (trip.sl.r_120 arg1 arg2 arg5 arg6 X1 X2 X5 X6 k)) (rmw arg13 (cur k 2) (k0_pay184 (trip.sl.r_119 arg1 arg2 arg5 arg6 X1 X2 X5 X6 k)) (rmw arg13 (prv k 1) (k0_pay181 (trip.sl.r_120 arg1 arg2 arg5 arg6 X1 X2 X5 X6 k)) (rmw arg13 (cur k 1) (k0_pay178 (trip.sl.r_119 arg1 arg2 arg5 arg6 X1 X2 X5 X6 k)) (rmw arg13 (prv k 0) (fun v => k0_pay175 v (k0_pay173 (trip.sl.r_120 arg1 arg2 arg5 arg6 X1 X2 X5 X6 k)) (k0_pay174 (trip.sl.r_120 arg1 arg2 arg5 arg6 X1 X2 X5 X6 k))) (rmw arg13 (cur k 0) (k0_pay171 (trip.sl.r_119 arg1 arg2 arg5 arg6 X1 X2 X5 X6 k)) f)))))))) := rfl

end equations

end Cert.Kernel.Att

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Proj.Frame
public import proofs.«01_k».proof.Proof.Gen.ProjIdeal.Value
public import proofs.«01_k».proof.Proof.Gen.ProjRefIdeal.Run
public import proofs.«01_k».proof.Proof.Gen.ProjDx.Frame
public import proofs.«01_k».proof.Proof.Gen.ProjDxIdeal.Value
public import proofs.«01_k».proof.Proof.Gen.ProjDxRefIdeal.Run
public import proofs.«01_k».proof.Proof.Gen.ProjDw.Frame
public import proofs.«01_k».proof.Proof.Gen.ProjDwIdeal.Value
public import proofs.«01_k».proof.Proof.Gen.ProjDwRefIdeal.Run
public import proofs.«01_k».proof.Proof.Gen.Up.Frame
public import proofs.«01_k».proof.Proof.Gen.UpIdeal.Value
public import proofs.«01_k».proof.Proof.Gen.UpRefIdeal.Run
public import proofs.«01_k».proof.Proof.Gen.UpDx.Frame
public import proofs.«01_k».proof.Proof.Gen.UpDxIdeal.Value
public import proofs.«01_k».proof.Proof.Gen.UpDxRefIdeal.Run
public import proofs.«01_k».proof.Proof.Gen.UpDw.Frame
public import proofs.«01_k».proof.Proof.Gen.UpDwIdeal.Value
public import proofs.«01_k».proof.Proof.Gen.UpDwRefIdeal.Run
public import proofs.«01_k».proof.Proof.Gen.Down.Frame
public import proofs.«01_k».proof.Proof.Gen.DownIdeal.Value
public import proofs.«01_k».proof.Proof.Gen.DownRefIdeal.Run
public import proofs.«01_k».proof.Proof.Gen.DownDx.Frame
public import proofs.«01_k».proof.Proof.Gen.DownDxIdeal.Value
public import proofs.«01_k».proof.Proof.Gen.DownDxRefIdeal.Run
public import proofs.«01_k».proof.Proof.Gen.DownDw.Frame
public import proofs.«01_k».proof.Proof.Gen.DownDwIdeal.Value
public import proofs.«01_k».proof.Proof.Gen.DownDwRefIdeal.Run
public import proofs.«01_k».proof.Proof.Gen.Mix.Frame
public import proofs.«01_k».proof.Proof.Gen.MixIdeal.Value
public import proofs.«01_k».proof.Proof.Gen.MixRefIdeal.Run
public import proofs.«01_k».proof.Proof.Gen.MixDx.Frame
public import proofs.«01_k».proof.Proof.Gen.MixDxIdeal.Value
public import proofs.«01_k».proof.Proof.Gen.MixDxRefIdeal.Run
public import proofs.«01_k».proof.Proof.Gen.MixDw.Frame
public import proofs.«01_k».proof.Proof.Gen.MixDwIdeal.Value
public import proofs.«01_k».proof.Proof.Gen.MixDwRefIdeal.Run
public import proofs.«01_k».proof.Proof.Gen.Rw.Frame
public import proofs.«01_k».proof.Proof.Gen.RwIdeal.Value
public import proofs.«01_k».proof.Proof.Gen.RwRefIdeal.Run
public import proofs.«01_k».proof.Proof.Gen.RwDx.Frame
public import proofs.«01_k».proof.Proof.Gen.RwDxIdeal.Value
public import proofs.«01_k».proof.Proof.Gen.RwDxRefIdeal.Run
public import proofs.«01_k».proof.Proof.Gen.RwDw.Frame
public import proofs.«01_k».proof.Proof.Gen.RwDwIdeal.Value
public import proofs.«01_k».proof.Proof.Gen.RwDwRefIdeal.Run
public import proofs.«01_k».proof.Proof.Gen.AttOut.Frame
public import proofs.«01_k».proof.Proof.Gen.AttOutIdeal.Value
public import proofs.«01_k».proof.Proof.Gen.AttOutRefIdeal.Run
public import proofs.«01_k».proof.Proof.Gen.AttOutDx.Frame
public import proofs.«01_k».proof.Proof.Gen.AttOutDxIdeal.Value
public import proofs.«01_k».proof.Proof.Gen.AttOutDxRefIdeal.Run
public import proofs.«01_k».proof.Proof.Gen.AttOutDw.Frame
public import proofs.«01_k».proof.Proof.Gen.AttOutDwIdeal.Value
public import proofs.«01_k».proof.Proof.Gen.AttOutDwRefIdeal.Run
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.GateDx.Frame
public import proofs.«01_k».proof.Proof.Gen.GateDxIdeal.Frame
public import proofs.«01_k».proof.Proof.Gen.GateDxIdeal.Value
public import proofs.«01_k».proof.Proof.Gen.GateDxRefIdeal.Run
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.AdaDw.Frame
public import proofs.«01_k».proof.Proof.Gen.AdaDwIdeal.Frame
public import proofs.«01_k».proof.Proof.Gen.AdaDwIdeal.Value
public import proofs.«01_k».proof.Proof.Gen.AdaDwRefIdeal.Run
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.NormDx.Frame
public import proofs.«01_k».proof.Proof.Gen.NormDxIdeal.Frame
public import proofs.«01_k».proof.Proof.Gen.NormDxIdeal.Value
public import proofs.«01_k».proof.Proof.Gen.NormDxRefIdeal.Run
public import proofs.«01_k».proof.Proof.Gen.Norm2.Frame
public import proofs.«01_k».proof.Proof.Gen.Norm2Ideal.Frame
public import proofs.«01_k».proof.Proof.Gen.Norm2Ideal.Value
public import proofs.«01_k».proof.Proof.Gen.Norm2RefIdeal.Run
public import proofs.«01_k».proof.Proof.Gen.Norm2Dx.Frame
public import proofs.«01_k».proof.Proof.Gen.Norm2DxIdeal.Frame
public import proofs.«01_k».proof.Proof.Gen.Norm2DxIdeal.Value
public import proofs.«01_k».proof.Proof.Gen.Norm2DxRefIdeal.Run
public import proofs.«01_k».proof.Proof.Gen.AdamUp.Frame
public import proofs.«01_k».proof.Proof.Gen.AdamUpIdeal.Frame
public import proofs.«01_k».proof.Proof.Gen.AdamUpIdeal.Value
public import proofs.«01_k».proof.Proof.Gen.AdamUpRefIdeal.Run
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownRefIdeal.Run
public import proofs.«01_k».proof.Proof.Gen.AdamAtt.Frame
public import proofs.«01_k».proof.Proof.Gen.AdamAttIdeal.Frame
public import proofs.«01_k».proof.Proof.Gen.AdamAttIdeal.Value
public import proofs.«01_k».proof.Proof.Gen.AdamAttRefIdeal.Run
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal.Run
public import proofs.«01_k».proof.Proof.Proj
public import proofs.«01_k».proof.Proof.ProjDx
public import proofs.«01_k».proof.Proof.ProjDw
public import proofs.«01_k».proof.Proof.Up
public import proofs.«01_k».proof.Proof.UpDx
public import proofs.«01_k».proof.Proof.UpDw
public import proofs.«01_k».proof.Proof.Down
public import proofs.«01_k».proof.Proof.DownDx
public import proofs.«01_k».proof.Proof.DownDw
public import proofs.«01_k».proof.Proof.Mix
public import proofs.«01_k».proof.Proof.MixDx
public import proofs.«01_k».proof.Proof.MixDw
public import proofs.«01_k».proof.Proof.Rw
public import proofs.«01_k».proof.Proof.RwDx
public import proofs.«01_k».proof.Proof.RwDw
public import proofs.«01_k».proof.Proof.AttOut
public import proofs.«01_k».proof.Proof.AttOutDx
public import proofs.«01_k».proof.Proof.AttOutDw
public import proofs.«01_k».proof.Proof.Gate
public import proofs.«01_k».proof.Proof.GateDx
public import proofs.«01_k».proof.Proof.Norm
public import proofs.«01_k».proof.Proof.AdaDw
public import proofs.«01_k».proof.Proof.Ada
public import proofs.«01_k».proof.Proof.NormDx
public import proofs.«01_k».proof.Proof.Norm2
public import proofs.«01_k».proof.Proof.Norm2Dx
public import proofs.«01_k».proof.Proof.AdamUp
public import proofs.«01_k».proof.Proof.AdamDown
public import proofs.«01_k».proof.Proof.AdamAtt
public import proofs.«01_k».proof.Proof.AdamIn
public import proofs.«01_k».proof.Proof.Frame
public import proofs.«01_k».proof.Proof.Word.Frame
public import Idealize.ShloMosaic.Adequacy
public import Idealize.ShloMosaic.Init

@[expose] public section

noncomputable section

namespace Cert.Proof

open Idealize.ShloMosaic Idealize.ShloMosaic.TcCoe Idealize.SL.Sem

/-- The kernel as printed runs to the end, leaves its arguments as they were and every counter at zero. -/
theorem frame_k : Cert.quiescent_Kernel := fun m ρ _ => Cert.Kernel.Att.frame m ρ

/-- The same of the kernel over the reals. -/
theorem frame_ki : Cert.quiescent_KernelIdeal := fun m ρ _ => Cert.KernelIdeal.Att.frame m ρ

/-- The reference is a sequence of host operations, none of which writes an argument; it declares no semaphore. -/
theorem frame_ri : Cert.quiescent_ReferenceIdeal := by
  intro m ρ _
  exact (θ_run Cert.ReferenceIdeal.defs _ _).mono (fun r h => ⟨fun c => ⟨(h c).2.2.2.1, (h c).2.2.2.2.1, (h c).2.2.2.2.2⟩,
      Idealize.ShloMosaic.sem_eq_zero_of_no_sems (by decide) r.2⟩)
    (Cert.ReferenceIdeal.Value.run (F := Ideal) m ρ)

/-- The mask constant is the one the table names. -/
theorem preserves : Cert.preserves_Kernel_KernelIdeal :=
  IdealRules.named_const.statement Cert.KernelIdeal.κ "mask" .f32 0xF149F2CA#32 ⊥ rfl

/-- All the claims, in the order the statement lists them. -/
theorem claim : Cert.Claim :=
  ⟨Cert.Kernel.Gen.facts,
    Cert.KernelIdeal.Gen.facts,
    Cert.ReferenceIdeal.Gen.facts,
    Cert.Proj.Gen.facts,
    Cert.ProjIdeal.Gen.facts,
    Cert.ProjRefIdeal.Gen.facts,
    Cert.ProjDx.Gen.facts,
    Cert.ProjDxIdeal.Gen.facts,
    Cert.ProjDxRefIdeal.Gen.facts,
    Cert.ProjDw.Gen.facts,
    Cert.ProjDwIdeal.Gen.facts,
    Cert.ProjDwRefIdeal.Gen.facts,
    Cert.Up.Gen.facts,
    Cert.UpIdeal.Gen.facts,
    Cert.UpRefIdeal.Gen.facts,
    Cert.UpDx.Gen.facts,
    Cert.UpDxIdeal.Gen.facts,
    Cert.UpDxRefIdeal.Gen.facts,
    Cert.UpDw.Gen.facts,
    Cert.UpDwIdeal.Gen.facts,
    Cert.UpDwRefIdeal.Gen.facts,
    Cert.Down.Gen.facts,
    Cert.DownIdeal.Gen.facts,
    Cert.DownRefIdeal.Gen.facts,
    Cert.DownDx.Gen.facts,
    Cert.DownDxIdeal.Gen.facts,
    Cert.DownDxRefIdeal.Gen.facts,
    Cert.DownDw.Gen.facts,
    Cert.DownDwIdeal.Gen.facts,
    Cert.DownDwRefIdeal.Gen.facts,
    Cert.Mix.Gen.facts,
    Cert.MixIdeal.Gen.facts,
    Cert.MixRefIdeal.Gen.facts,
    Cert.MixDx.Gen.facts,
    Cert.MixDxIdeal.Gen.facts,
    Cert.MixDxRefIdeal.Gen.facts,
    Cert.MixDw.Gen.facts,
    Cert.MixDwIdeal.Gen.facts,
    Cert.MixDwRefIdeal.Gen.facts,
    Cert.Rw.Gen.facts,
    Cert.RwIdeal.Gen.facts,
    Cert.RwRefIdeal.Gen.facts,
    Cert.RwDx.Gen.facts,
    Cert.RwDxIdeal.Gen.facts,
    Cert.RwDxRefIdeal.Gen.facts,
    Cert.RwDw.Gen.facts,
    Cert.RwDwIdeal.Gen.facts,
    Cert.RwDwRefIdeal.Gen.facts,
    Cert.AttOut.Gen.facts,
    Cert.AttOutIdeal.Gen.facts,
    Cert.AttOutRefIdeal.Gen.facts,
    Cert.AttOutDx.Gen.facts,
    Cert.AttOutDxIdeal.Gen.facts,
    Cert.AttOutDxRefIdeal.Gen.facts,
    Cert.AttOutDw.Gen.facts,
    Cert.AttOutDwIdeal.Gen.facts,
    Cert.AttOutDwRefIdeal.Gen.facts,
    Cert.Gate.Gen.facts,
    Cert.GateIdeal.Gen.facts,
    Cert.GateRefIdeal.Gen.facts,
    Cert.GateDx.Gen.facts,
    Cert.GateDxIdeal.Gen.facts,
    Cert.GateDxRefIdeal.Gen.facts,
    Cert.Norm.Gen.facts,
    Cert.NormIdeal.Gen.facts,
    Cert.NormRefIdeal.Gen.facts,
    Cert.AdaDw.Gen.facts,
    Cert.AdaDwIdeal.Gen.facts,
    Cert.AdaDwRefIdeal.Gen.facts,
    Cert.Ada.Gen.facts,
    Cert.AdaIdeal.Gen.facts,
    Cert.AdaRefIdeal.Gen.facts,
    Cert.NormDx.Gen.facts,
    Cert.NormDxIdeal.Gen.facts,
    Cert.NormDxRefIdeal.Gen.facts,
    Cert.Norm2.Gen.facts,
    Cert.Norm2Ideal.Gen.facts,
    Cert.Norm2RefIdeal.Gen.facts,
    Cert.Norm2Dx.Gen.facts,
    Cert.Norm2DxIdeal.Gen.facts,
    Cert.Norm2DxRefIdeal.Gen.facts,
    Cert.AdamUp.Gen.facts,
    Cert.AdamUpIdeal.Gen.facts,
    Cert.AdamUpRefIdeal.Gen.facts,
    Cert.AdamDown.Gen.facts,
    Cert.AdamDownIdeal.Gen.facts,
    Cert.AdamDownRefIdeal.Gen.facts,
    Cert.AdamAtt.Gen.facts,
    Cert.AdamAttIdeal.Gen.facts,
    Cert.AdamAttRefIdeal.Gen.facts,
    Cert.AdamIn.Gen.facts,
    Cert.AdamInIdeal.Gen.facts,
    Cert.AdamInRefIdeal.Gen.facts,
    frame_k,
    frame_ki,
    frame_ri,
    fun m ρ _ => Cert.Proj.Gen.frame m ρ,
    fun m ρ _ => Cert.ProjIdeal.Gen.frame m ρ,
    frame_proj_in_ref,
    fun m ρ _ => Cert.ProjDx.Gen.frame m ρ,
    fun m ρ _ => Cert.ProjDxIdeal.Gen.frame m ρ,
    frame_proj_in_dx_ref,
    fun m ρ _ => Cert.ProjDw.Gen.frame m ρ,
    fun m ρ _ => Cert.ProjDwIdeal.Gen.frame m ρ,
    frame_proj_in_dw_ref,
    fun m ρ _ => Cert.Up.Gen.frame m ρ,
    fun m ρ _ => Cert.UpIdeal.Gen.frame m ρ,
    frame_ffn_up_ref,
    fun m ρ _ => Cert.UpDx.Gen.frame m ρ,
    fun m ρ _ => Cert.UpDxIdeal.Gen.frame m ρ,
    frame_ffn_up_dx_ref,
    fun m ρ _ => Cert.UpDw.Gen.frame m ρ,
    fun m ρ _ => Cert.UpDwIdeal.Gen.frame m ρ,
    frame_ffn_up_dw_ref,
    fun m ρ _ => Cert.Down.Gen.frame m ρ,
    fun m ρ _ => Cert.DownIdeal.Gen.frame m ρ,
    frame_ffn_down_ref,
    fun m ρ _ => Cert.DownDx.Gen.frame m ρ,
    fun m ρ _ => Cert.DownDxIdeal.Gen.frame m ρ,
    frame_ffn_down_dx_ref,
    fun m ρ _ => Cert.DownDw.Gen.frame m ρ,
    fun m ρ _ => Cert.DownDwIdeal.Gen.frame m ρ,
    frame_ffn_down_dw_ref,
    fun m ρ _ => Cert.Mix.Gen.frame m ρ,
    fun m ρ _ => Cert.MixIdeal.Gen.frame m ρ,
    frame_mix_out_ref,
    fun m ρ _ => Cert.MixDx.Gen.frame m ρ,
    fun m ρ _ => Cert.MixDxIdeal.Gen.frame m ρ,
    frame_mix_out_dx_ref,
    fun m ρ _ => Cert.MixDw.Gen.frame m ρ,
    fun m ρ _ => Cert.MixDwIdeal.Gen.frame m ρ,
    frame_mix_out_dw_ref,
    fun m ρ _ => Cert.Rw.Gen.frame m ρ,
    fun m ρ _ => Cert.RwIdeal.Gen.frame m ρ,
    frame_rwkv_out_ref,
    fun m ρ _ => Cert.RwDx.Gen.frame m ρ,
    fun m ρ _ => Cert.RwDxIdeal.Gen.frame m ρ,
    frame_rwkv_out_dx_ref,
    fun m ρ _ => Cert.RwDw.Gen.frame m ρ,
    fun m ρ _ => Cert.RwDwIdeal.Gen.frame m ρ,
    frame_rwkv_out_dw_ref,
    fun m ρ _ => Cert.AttOut.Gen.frame m ρ,
    fun m ρ _ => Cert.AttOutIdeal.Gen.frame m ρ,
    frame_att_out_ref,
    fun m ρ _ => Cert.AttOutDx.Gen.frame m ρ,
    fun m ρ _ => Cert.AttOutDxIdeal.Gen.frame m ρ,
    frame_att_out_dx_ref,
    fun m ρ _ => Cert.AttOutDw.Gen.frame m ρ,
    fun m ρ _ => Cert.AttOutDwIdeal.Gen.frame m ρ,
    frame_att_out_dw_ref,
    fun m ρ _ => Cert.Gate.Gen.frame m ρ,
    fun m ρ _ => Cert.GateIdeal.Gen.frame m ρ,
    frame_gate_ref,
    fun m ρ _ => Cert.GateDx.Gen.frame m ρ,
    fun m ρ _ => Cert.GateDxIdeal.Gen.frame m ρ,
    frame_gate_dx_ref,
    fun m ρ _ => Cert.Norm.Gen.frame m ρ,
    fun m ρ _ => Cert.NormIdeal.Gen.frame m ρ,
    frame_norm_ref,
    fun m ρ _ => Cert.AdaDw.Gen.frame m ρ,
    fun m ρ _ => Cert.AdaDwIdeal.Gen.frame m ρ,
    frame_ada_dw_ref,
    fun m ρ _ => Cert.Ada.Gen.frame m ρ,
    fun m ρ _ => Cert.AdaIdeal.Gen.frame m ρ,
    frame_ada_ref,
    fun m ρ _ => Cert.NormDx.Gen.frame m ρ,
    fun m ρ _ => Cert.NormDxIdeal.Gen.frame m ρ,
    frame_norm_dx_ref,
    fun m ρ _ => Cert.Norm2.Gen.frame m ρ,
    fun m ρ _ => Cert.Norm2Ideal.Gen.frame m ρ,
    frame_norm2_ref,
    fun m ρ _ => Cert.Norm2Dx.Gen.frame m ρ,
    fun m ρ _ => Cert.Norm2DxIdeal.Gen.frame m ρ,
    frame_norm2_dx_ref,
    fun m ρ _ => Cert.AdamUp.Gen.frame m ρ,
    fun m ρ _ => Cert.AdamUpIdeal.Gen.frame m ρ,
    frame_adam_up_ref,
    fun m ρ _ => Cert.AdamDown.Gen.frame m ρ,
    fun m ρ _ => Cert.AdamDownIdeal.Gen.frame m ρ,
    frame_adam_down_ref,
    fun m ρ _ => Cert.AdamAtt.Gen.frame m ρ,
    fun m ρ _ => Cert.AdamAttIdeal.Gen.frame m ρ,
    frame_adam_att_ref,
    fun m ρ _ => Cert.AdamIn.Gen.frame m ρ,
    fun m ρ _ => Cert.AdamInIdeal.Gen.frame m ρ,
    frame_adam_in_ref,
    preserves,
    trivial,
    algebraic_proj_in,
    trivial,
    algebraic_proj_in_dx,
    trivial,
    algebraic_proj_in_dw,
    trivial,
    algebraic_ffn_up,
    trivial,
    algebraic_ffn_up_dx,
    trivial,
    algebraic_ffn_up_dw,
    trivial,
    algebraic_ffn_down,
    trivial,
    algebraic_ffn_down_dx,
    trivial,
    algebraic_ffn_down_dw,
    trivial,
    algebraic_mix_out,
    trivial,
    algebraic_mix_out_dx,
    trivial,
    algebraic_mix_out_dw,
    trivial,
    algebraic_rwkv_out,
    trivial,
    algebraic_rwkv_out_dx,
    trivial,
    algebraic_rwkv_out_dw,
    trivial,
    algebraic_att_out,
    trivial,
    algebraic_att_out_dx,
    trivial,
    algebraic_att_out_dw,
    trivial,
    algebraic_gate,
    trivial,
    algebraic_gate_dx,
    trivial,
    algebraic_norm,
    trivial,
    algebraic_ada_dw,
    trivial,
    algebraic_ada,
    trivial,
    algebraic_norm_dx,
    trivial,
    algebraic_norm2,
    trivial,
    algebraic_norm2_dx,
    trivial,
    algebraic_adam_up,
    trivial,
    algebraic_adam_down,
    trivial,
    algebraic_adam_att,
    trivial,
    algebraic_adam_in⟩

end Cert.Proof

end
